-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments [hPre_segments : Cert.Pre_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_counts [hPre_counts : Cert.Pre_counts.Facts] (m : (ℓ : Loc Cert.PoolIdeal.nD Cert.PoolIdeal.τ Cert.PoolIdeal.sig) → Buf (Elt Ideal) ℓ) : Prop :=
  ∀ c : Dev Cert.PoolIdeal.nD,
    (Cert.Pre_counts.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_counts [hPre_counts : Cert.Pre_counts.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_counts.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4)) (m ((c.tc : Thread Cert.PoolReferenceIdeal.nD Cert.PoolReferenceIdeal.τ).loc Cert.PoolReferenceIdeal.main_arg5)) (m ((c.tc : Thread Cert.PoolReferenceIdeal.nD Cert.PoolReferenceIdeal.τ).loc Cert.PoolReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_segments [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_segments [hReferenceIdeal : Cert.ReferenceIdeal.Facts] [hPre_segments : Cert.Pre_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolIdeal_pre_counts [hPoolIdeal : Cert.PoolIdeal.Facts] [hPre_counts : Cert.Pre_counts.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_counts m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def quiescent_PoolReferenceIdeal_pre_counts [hPoolReferenceIdeal : Cert.PoolReferenceIdeal.Facts] [hPre_counts : Cert.Pre_counts.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_counts m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def preserves_Kernel_KernelIdeal : Prop :=
  True

def algebraic_KernelIdeal_ReferenceIdeal_pre_segments [hKernelIdeal : Cert.KernelIdeal.Facts] [hReferenceIdeal : Cert.ReferenceIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Pool_PoolIdeal : Prop :=
  IdealRules.named_const.Statement Cert.PoolIdeal.κ "low" .f32 0xFF61B1E6#32 ⊥

def algebraic_PoolIdeal_PoolReferenceIdeal_pre_counts [hPoolIdeal : Cert.PoolIdeal.Facts] [hPoolReferenceIdeal : Cert.PoolReferenceIdeal.Facts] [hPre_counts : Cert.Pre_counts.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_counts m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)
      ∧ m' ((c.tc : Thread Cert.PoolReferenceIdeal.nD Cert.PoolReferenceIdeal.τ).loc Cert.PoolReferenceIdeal.main_arg5) = m ((c.tc : Thread Cert.PoolIdeal.nD Cert.PoolIdeal.τ).loc Cert.PoolIdeal.main_arg5)
      ∧ m' ((c.tc : Thread Cert.PoolReferenceIdeal.nD Cert.PoolReferenceIdeal.τ).loc Cert.PoolReferenceIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v31) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4)
          ∧ r.2.mem ((c.tc : Thread Cert.PoolReferenceIdeal.nD Cert.PoolReferenceIdeal.τ).loc Cert.PoolReferenceIdeal.main_arg5) = m' ((c.tc : Thread Cert.PoolReferenceIdeal.nD Cert.PoolReferenceIdeal.τ).loc Cert.PoolReferenceIdeal.main_arg5)
          ∧ r.2.mem ((c.tc : Thread Cert.PoolReferenceIdeal.nD Cert.PoolReferenceIdeal.τ).loc Cert.PoolReferenceIdeal.main_arg6) = m' ((c.tc : Thread Cert.PoolReferenceIdeal.nD Cert.PoolReferenceIdeal.τ).loc Cert.PoolReferenceIdeal.main_arg6))

def Claim : Prop :=
  ∃ (hKernel : Cert.Kernel.Facts) (hKernelIdeal : Cert.KernelIdeal.Facts) (hReferenceIdeal : Cert.ReferenceIdeal.Facts) (hPool : Cert.Pool.Facts) (hPoolIdeal : Cert.PoolIdeal.Facts) (hPoolReferenceIdeal : Cert.PoolReferenceIdeal.Facts) (hPre_segments : Cert.Pre_segments.Facts) (hPre_counts : Cert.Pre_counts.Facts),
    quiescent_Kernel (hKernel := hKernel)
    ∧ quiescent_KernelIdeal (hKernelIdeal := hKernelIdeal)
    ∧ quiescent_KernelIdeal_pre_segments (hKernelIdeal := hKernelIdeal) (hPre_segments := hPre_segments)
    ∧ quiescent_ReferenceIdeal (hReferenceIdeal := hReferenceIdeal)
    ∧ quiescent_ReferenceIdeal_pre_segments (hReferenceIdeal := hReferenceIdeal) (hPre_segments := hPre_segments)
    ∧ quiescent_Pool (hPool := hPool)
    ∧ quiescent_PoolIdeal (hPoolIdeal := hPoolIdeal)
    ∧ quiescent_PoolIdeal_pre_counts (hPoolIdeal := hPoolIdeal) (hPre_counts := hPre_counts)
    ∧ quiescent_PoolReferenceIdeal (hPoolReferenceIdeal := hPoolReferenceIdeal)
    ∧ quiescent_PoolReferenceIdeal_pre_counts (hPoolReferenceIdeal := hPoolReferenceIdeal) (hPre_counts := hPre_counts)
    ∧ preserves_Kernel_KernelIdeal
    ∧ algebraic_KernelIdeal_ReferenceIdeal_pre_segments (hKernelIdeal := hKernelIdeal) (hReferenceIdeal := hReferenceIdeal) (hPre_segments := hPre_segments)
    ∧ preserves_Pool_PoolIdeal
    ∧ algebraic_PoolIdeal_PoolReferenceIdeal_pre_counts (hPoolIdeal := hPoolIdeal) (hPoolReferenceIdeal := hPoolReferenceIdeal) (hPre_counts := hPre_counts)
-- ==== Pre_counts.lean ====
abbrev S32768x128 : Shape := ⟨2, ![32768, 128]⟩
abbrev S32768 : Shape := ⟨1, ![32768]⟩
abbrev S17 : Shape := ⟨1, ![17]⟩
abbrev S128x128 : Shape := ⟨2, ![128, 128]⟩
abbrev S128 : Shape := ⟨1, ![128]⟩
abbrev S128x256 : Shape := ⟨2, ![128, 256]⟩
abbrev S16 : Shape := ⟨1, ![16]⟩
abbrev S1x32768 : Shape := ⟨2, ![1, 32768]⟩
abbrev S16x1 : Shape := ⟨2, ![16, 1]⟩
abbrev S16x32768 : Shape := ⟨2, ![16, 32768]⟩
abbrev S_ : Shape := ⟨0, ![]⟩

class Facts : Prop where
  slices_S17_S16_1 : S17.Slices ![1] S16
  slices_S17_S16_0 : S17.Slices ![0] S16
  bcast_S32768_S1x32768_1 : S32768.BroadcastsInDim S1x32768 (![1] : Fin 1 → Fin S1x32768.rank)
  bcast_S16_S16x1_0 : S16.BroadcastsInDim S16x1 (![0] : Fin 1 → Fin S16x1.rank)
  bcast_S1x32768_S16x32768_0_1 : S1x32768.BroadcastsInDim S16x32768 (![0, 1] : Fin 2 → Fin S16x32768.rank)
  bcast_S16x1_S16x32768_0_1 : S16x1.BroadcastsInDim S16x32768 (![0, 1] : Fin 2 → Fin S16x32768.rank)
  natLt_1_32 : 1 < 32
  reducesTo_S16x32768_S16_d1 : S16x32768.ReducesTo [1] S16
  h_S_ : 0 < S_.numel
  reducesTo_S16_S_d0 : S16.ReducesTo [0] S_

variable [Facts]

def fn {F : FTy → Type} [FloatOps F] (main_arg0 : FVec F S32768x128 .f32) (main_arg1 : IVec S32768 32) (main_arg2 : IVec S17 32) (main_arg3 : FVec F S128x128 .f32) (main_arg4 : FVec F S128 .f32) (main_arg5 : FVec F S128x256 .f32) (main_arg6 : FVec F S128 .f32) : IVec S_ 1 :=
  let main_v0 : IVec S16 32 := iotaInDim S16 32 0
  let main_v1 : IVec S16 32 := (extractStridedSlice S16 ![1] · slices_S17_S16_1) main_arg2
  let main_v2 : IVec S16 32 := (extractStridedSlice S16 ![0] · slices_S17_S16_0) main_arg2
  let main_v3 : IVec S16 32 := subi main_v1 main_v2
  let main_v4 : IVec S1x32768 32 := broadcastInDim S1x32768 ![1] bcast_S32768_S1x32768_1 main_arg1
  let main_v5 : IVec S16x1 32 := broadcastInDim S16x1 ![0] bcast_S16_S16x1_0 main_v0
  let main_v6 : IVec S16x32768 32 := broadcastInDim S16x32768 ![0, 1] bcast_S1x32768_S16x32768_0_1 main_v4
  let main_v7 : IVec S16x32768 32 := broadcastInDim S16x32768 ![0, 1] bcast_S16x1_S16x32768_0_1 main_v5
  let main_v8 : IVec S16x32768 1 := cmpi .eq main_v6 main_v7
  let main_v9 : IVec S16x32768 32 := (extui 32 · natLt_1_32) main_v8
  let main_c : IVec S_ 32 := constantI S_ 32 0#32
  let main_v10 : IVec S16 32 := (fun x v => Host.reduce IntOp.addi x v reducesTo_S16x32768_S16_d1 h_S_) main_v9 main_c
  let main_v11 : IVec S16 1 := cmpi .eq main_v3 main_v10
  let main_c_0 : IVec S_ 1 := constantI S_ 1 1#1
  let main_v12 : IVec S_ 1 := (fun x v => Host.reduce IntOp.andi x v reducesTo_S16_S_d0 h_S_) main_v11 main_c_0
  main_v12
-- ==== Pre_segments.lean ====
abbrev S16x128 : Shape := ⟨2, ![16, 128]⟩
abbrev S32768 : Shape := ⟨1, ![32768]⟩
abbrev S17 : Shape := ⟨1, ![17]⟩
abbrev S_ : Shape := ⟨0, ![]⟩
abbrev S32767 : Shape := ⟨1, ![32767]⟩
abbrev S1x32768 : Shape := ⟨2, ![1, 32768]⟩
abbrev S17x1 : Shape := ⟨2, ![17, 1]⟩
abbrev S17x32768 : Shape := ⟨2, ![17, 32768]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_0 : S32768.Slices ![0] S32767
  slices_S32768_S32767_1 : S32768.Slices ![1] S32767
  reducesTo_S32767_S_d0 : S32767.ReducesTo [0] S_
  bcast_S32768_S1x32768_1 : S32768.BroadcastsInDim S1x32768 (![1] : Fin 1 → Fin S1x32768.rank)
  bcast_S17_S17x1_0 : S17.BroadcastsInDim S17x1 (![0] : Fin 1 → Fin S17x1.rank)
  bcast_S1x32768_S17x32768_0_1 : S1x32768.BroadcastsInDim S17x32768 (![0, 1] : Fin 2 → Fin S17x32768.rank)
  bcast_S17x1_S17x32768_0_1 : S17x1.BroadcastsInDim S17x32768 (![0, 1] : Fin 2 → Fin S17x32768.rank)
  natLt_1_32 : 1 < 32
  reducesTo_S17x32768_S17_d1 : S17x32768.ReducesTo [1] S17
  reducesTo_S17_S_d0 : S17.ReducesTo [0] S_

variable [Facts]

def fn_part1 {F : FTy → Type} [FloatOps F] (main_arg2 : IVec S17 32) (main_v11 : IVec S_ 1) (main_v18 : IVec S17 32) : IVec S_ 1 :=
  let main_v19 : IVec S17 1 := cmpi .eq main_arg2 main_v18
  let main_c_4 : IVec S_ 1 := constantI S_ 1 1#1
  let main_v20 : IVec S_ 1 := (fun x v => Host.reduce IntOp.andi x v reducesTo_S17_S_d0 h_S_) main_v19 main_c_4
  let main_v21 : IVec S_ 1 := andi main_v11 main_v20
  main_v21

def fn {F : FTy → Type} [FloatOps F] (main_arg0 : FVec F S16x128 .f32) (main_arg1 : IVec S32768 32) (main_arg2 : IVec S17 32) : IVec S_ 1 :=
  let main_v0 : IVec S17 32 := iotaInDim S17 32 0
  let main_c : IVec S_ 32 := constantI S_ 32 0#32
  let main_v1 : IVec S32768 32 := broadcastInDim S32768 ![] bcast_S_S32768 main_c
  let main_v2 : IVec S32768 1 := cmpi .sge main_arg1 main_v1
  let main_c_0 : IVec S_ 32 := constantI S_ 32 16#32
  let main_v3 : IVec S32768 32 := broadcastInDim S32768 ![] bcast_S_S32768 main_c_0
  let main_v4 : IVec S32768 1 := cmpi .slt main_arg1 main_v3
  let main_v5 : IVec S32768 1 := andi main_v2 main_v4
  let main_c_1 : IVec S_ 1 := constantI S_ 1 1#1
  let main_v6 : IVec S_ 1 := (fun x v => Host.reduce IntOp.andi x v reducesTo_S32768_S_d0 h_S_) main_v5 main_c_1
  let main_v7 : IVec S32767 32 := (extractStridedSlice S32767 ![0] · slices_S32768_S32767_0) main_arg1
  let main_v8 : IVec S32767 32 := (extractStridedSlice S32767 ![1] · slices_S32768_S32767_1) main_arg1
  let main_v9 : IVec S32767 1 := cmpi .sle main_v7 main_v8
  let main_c_2 : IVec S_ 1 := constantI S_ 1 1#1
  let main_v10 : IVec S_ 1 := (fun x v => Host.reduce IntOp.andi x v reducesTo_S32767_S_d0 h_S_) main_v9 main_c_2
  let main_v11 : IVec S_ 1 := andi main_v6 main_v10
  let main_v12 : IVec S1x32768 32 := broadcastInDim S1x32768 ![1] bcast_S32768_S1x32768_1 main_arg1
  let main_v13 : IVec S17x1 32 := broadcastInDim S17x1 ![0] bcast_S17_S17x1_0 main_v0
  let main_v14 : IVec S17x32768 32 := broadcastInDim S17x32768 ![0, 1] bcast_S1x32768_S17x32768_0_1 main_v12
  let main_v15 : IVec S17x32768 32 := broadcastInDim S17x32768 ![0, 1] bcast_S17x1_S17x32768_0_1 main_v13
  let main_v16 : IVec S17x32768 1 := cmpi .slt main_v14 main_v15
  let main_v17 : IVec S17x32768 32 := (extui 32 · natLt_1_32) main_v16
  let main_c_3 : IVec S_ 32 := constantI S_ 32 0#32
  let main_v18 : IVec S17 32 := (fun x v => Host.reduce IntOp.addi x v reducesTo_S17x32768_S17_d1 h_S_) main_v17 main_c_3
  fn_part1 (F := F) main_arg2 main_v11 main_v18
-- ==== Kernel.lean ====
abbrev S16x128 : Shape := ⟨2, ![16, 128]⟩
abbrev S32768 : Shape := ⟨1, ![32768]⟩
abbrev S17 : Shape := ⟨1, ![17]⟩
abbrev S_ : Shape := ⟨0, ![]⟩
abbrev S15 : Shape := ⟨1, ![15]⟩
abbrev S32 : Shape := ⟨1, ![32]⟩
abbrev S2048 : Shape := ⟨1, ![2048]⟩
abbrev S4194304 : Shape := ⟨1, ![4194304]⟩
abbrev S16 : Shape := ⟨1, ![16]⟩
abbrev S1 : Shape := ⟨1, ![1]⟩
abbrev S16384 : Shape := ⟨1, ![16384]⟩
abbrev S8192 : Shape := ⟨1, ![8192]⟩
abbrev S4096 : Shape := ⟨1, ![4096]⟩
abbrev S1024 : Shape := ⟨1, ![1024]⟩
abbrev S512 : Shape := ⟨1, ![512]⟩
abbrev S256 : Shape := ⟨1, ![256]⟩
abbrev S128 : Shape := ⟨1, ![128]⟩
abbrev S32768x128 : Shape := ⟨2, ![32768, 128]⟩

abbrev nBuf : Table → Nat
  | .hbm => 9
  | .local .scVector .vmem => 3
  | _ => 0

abbrev bufTy : (tb : Table) → Fin (nBuf tb) → BufTy
  | .hbm, ⟨0, _⟩ => ⟨S16x128, .f32⟩
  | .hbm, ⟨1, _⟩ => ⟨S32768, .i32⟩
  | .hbm, ⟨2, _⟩ => ⟨S17, .i32⟩
  | .hbm, ⟨3, _⟩ => ⟨S_, .i32⟩
  | .hbm, ⟨4, _⟩ => ⟨S15, .i32⟩
  | .hbm, ⟨5, _⟩ => ⟨S32, .i32⟩
  | .hbm, ⟨6, _⟩ => ⟨S2048, .f32⟩
  | .hbm, ⟨7, _⟩ => ⟨S4194304, .f32⟩
  | .hbm, ⟨8, _⟩ => ⟨S32768x128, .f32⟩
  | .local .scVector .vmem, ⟨0, _⟩ => ⟨S2048, .f32⟩
  | .local .scVector .vmem, ⟨1, _⟩ => ⟨S32, .i32⟩
  | .local .scVector .vmem, ⟨2, _⟩ => ⟨S32768, .f32⟩
  | _, _ => ⟨S16x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) (v9 : BitVec 32) (v11 : BitVec 32) : Scf.Loop 32 :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c1_i32 : BitVec 32 := 1#32
  let v139 : BitVec 32 := Scalar.addi v138 c1_i32
  let c0_i32_19 : BitVec 32 := 0#32
  let v141 : BitVec 1 := Scalar.cmpi .sgt v139 c0_i32_19
  let v142 : BitVec 32 := Scalar.extui v141
  let c0_i32_20 : BitVec 32 := 0#32
  let v143 : BitVec 1 := Scalar.cmpi .slt v139 c0_i32_20
  let v144 : BitVec 32 := Scalar.extui v143
  let v145 : BitVec 32 := Scalar.subi v142 v144
  let c2_i32_18 : BitVec 32 := 2#32
  let c0_i32_21 : BitVec 32 := 0#32
  let v146 : BitVec 1 := Scalar.cmpi .sgt c2_i32_18 c0_i32_21
  let v147 : BitVec 32 := Scalar.extui v146
  let c0_i32_22 : BitVec 32 := 0#32
  let v148 : BitVec 1 := Scalar.cmpi .slt c2_i32_18 c0_i32_22
  let v149 : BitVec 32 := Scalar.extui v148
  let v150 : BitVec 32 := Scalar.subi v147 v149
  let v151 : BitVec 1 := Scalar.cmpi .ne v145 v150
  let v152 : BitVec 32 := Scalar.remsi v139 c2_i32_18
  let c0_i32_23 : BitVec 32 := 0#32
  let v153 : BitVec 1 := Scalar.cmpi .ne v152 c0_i32_23
  let v154 : BitVec 1 := Scalar.andi v151 v153
  let v140 : BitVec 32 := Scalar.divsi v139 c2_i32_18
  let c1_i32_24 : BitVec 32 := 1#32
  let v155 : BitVec 32 := Scalar.subi v140 c1_i32_24
  let v156 : BitVec 32 := Scalar.select v154 v155 v140
  let c128_i32 : BitVec 32 := 128#32
  let v157 : BitVec 32 := Scalar.minsi v156 c128_i32
  let v158 : BitVec 32 := Scalar.subi v157 c0_i32_26
  let c1_i32_27 : BitVec 32 := 1#32
  let v160 : BitVec 32 := Scalar.divsi v158 c1_i32_27
  let v161 : BitVec 32 := Scalar.muli v160 c1_i32_27
  let v162 : BitVec 32 := Scalar.addi c0_i32_26 v161
  let c1_i32_28 : BitVec 32 := 1#32
  ⟨c0_i32_26, v162, c1_i32_28⟩
def k0_cond1 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v14 : BitVec 1 := Scalar.cmpi .sgt v13 v12
  let v15 : BitVec 32 := Scalar.extui v14
  let c0_i32 : BitVec 32 := 0#32
  let v16 : BitVec 1 := Scalar.cmpi .ne v15 c0_i32
  v16

def k0_off1 (i : grid0.Coords) (v9 : BitVec 32) (v11 : BitVec 32) (k0_t1 : Fin (k0_t1_loop i v9 v11).trips) (c0_i32_99 : BitVec 32) : Fin 1 → Nat :=
  let c0_i32_26 : BitVec 32 := 0#32
  let c1_i32_28 : BitVec 32 := 1#32
  let arg17 : BitVec 32 := Scf.iv c0_i32_26 c1_i32_28 k0_t1
  let c2_i32_97 : BitVec 32 := 2#32
  let v286 : BitVec 32 := Scalar.muli arg17 c2_i32_97
  let c128_i32_98 : BitVec 32 := 128#32
  let v287 : BitVec 32 := Scalar.muli v286 c128_i32_98
  let v288 : BitVec 32 := Scalar.addi v287 c0_i32_99
  let v289 : Index := Scalar.indexCast v288
  ![v289.toNat]
@[reducible] def k0_t2_loop (i : grid0.Coords) (v9 : BitVec 32) (v11 : BitVec 32) : Scf.Loop 32 :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c1_i32 : BitVec 32 := 1#32
  let v139 : BitVec 32 := Scalar.addi v138 c1_i32
  let c0_i32_19 : BitVec 32 := 0#32
  let v141 : BitVec 1 := Scalar.cmpi .sgt v139 c0_i32_19
  let v142 : BitVec 32 := Scalar.extui v141
  let c0_i32_20 : BitVec 32 := 0#32
  let v143 : BitVec 1 := Scalar.cmpi .slt v139 c0_i32_20
  let v144 : BitVec 32 := Scalar.extui v143
  let v145 : BitVec 32 := Scalar.subi v142 v144
  let c2_i32_18 : BitVec 32 := 2#32
  let c0_i32_21 : BitVec 32 := 0#32
  let v146 : BitVec 1 := Scalar.cmpi .sgt c2_i32_18 c0_i32_21
  let v147 : BitVec 32 := Scalar.extui v146
  let c0_i32_22 : BitVec 32 := 0#32
  let v148 : BitVec 1 := Scalar.cmpi .slt c2_i32_18 c0_i32_22
  let v149 : BitVec 32 := Scalar.extui v148
  let v150 : BitVec 32 := Scalar.subi v147 v149
  let v151 : BitVec 1 := Scalar.cmpi .ne v145 v150
  let v152 : BitVec 32 := Scalar.remsi v139 c2_i32_18
  let c0_i32_23 : BitVec 32 := 0#32
  let v153 : BitVec 1 := Scalar.cmpi .ne v152 c0_i32_23
  let v154 : BitVec 1 := Scalar.andi v151 v153
  let v140 : BitVec 32 := Scalar.divsi v139 c2_i32_18
  let c1_i32_24 : BitVec 32 := 1#32
  let v155 : BitVec 32 := Scalar.subi v140 c1_i32_24
  let v156 : BitVec 32 := Scalar.select v154 v155 v140
  let c128_i32 : BitVec 32 := 128#32
  let v157 : BitVec 32 := Scalar.minsi v156 c128_i32
  let v158 : BitVec 32 := Scalar.subi v157 c0_i32_26
  let c1_i32_27 : BitVec 32 := 1#32
  let v160 : BitVec 32 := Scalar.divsi v158 c1_i32_27
  let v161 : BitVec 32 := Scalar.muli v160 c1_i32_27
  let v162 : BitVec 32 := Scalar.addi c0_i32_26 v161
  let v159 : BitVec 32 := Scalar.addi c0_i32_26 v158
  let c1_i32_29 : BitVec 32 := 1#32
  ⟨v162, v159, c1_i32_29⟩
def k0_off2 (i : grid0.Coords) (v9 : BitVec 32) (v11 : BitVec 32) (k0_t2 : Fin (k0_t2_loop i v9 v11).trips) (c0_i32_99 : BitVec 32) : Fin 1 → Nat :=
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c1_i32 : BitVec 32 := 1#32
  let v139 : BitVec 32 := Scalar.addi v138 c1_i32
  let c0_i32_19 : BitVec 32 := 0#32
  let v141 : BitVec 1 := Scalar.cmpi .sgt v139 c0_i32_19
  let v142 : BitVec 32 := Scalar.extui v141
  let c0_i32_20 : BitVec 32 := 0#32
  let v143 : BitVec 1 := Scalar.cmpi .slt v139 c0_i32_20
  let v144 : BitVec 32 := Scalar.extui v143
  let v145 : BitVec 32 := Scalar.subi v142 v144
  let c2_i32_18 : BitVec 32 := 2#32
  let c0_i32_21 : BitVec 32 := 0#32
  let v146 : BitVec 1 := Scalar.cmpi .sgt c2_i32_18 c0_i32_21
  let v147 : BitVec 32 := Scalar.extui v146
  let c0_i32_22 : BitVec 32 := 0#32
  let v148 : BitVec 1 := Scalar.cmpi .slt c2_i32_18 c0_i32_22
  let v149 : BitVec 32 := Scalar.extui v148
  let v150 : BitVec 32 := Scalar.subi v147 v149
  let v151 : BitVec 1 := Scalar.cmpi .ne v145 v150
  let v152 : BitVec 32 := Scalar.remsi v139 c2_i32_18
  let c0_i32_23 : BitVec 32 := 0#32
  let v153 : BitVec 1 := Scalar.cmpi .ne v152 c0_i32_23
  let v154 : BitVec 1 := Scalar.andi v151 v153
  let v140 : BitVec 32 := Scalar.divsi v139 c2_i32_18
  let c1_i32_24 : BitVec 32 := 1#32
  let v155 : BitVec 32 := Scalar.subi v140 c1_i32_24
  let v156 : BitVec 32 := Scalar.select v154 v155 v140
  let c128_i32 : BitVec 32 := 128#32
  let v157 : BitVec 32 := Scalar.minsi v156 c128_i32
  let v158 : BitVec 32 := Scalar.subi v157 c0_i32_26
  let c1_i32_27 : BitVec 32 := 1#32
  let v160 : BitVec 32 := Scalar.divsi v158 c1_i32_27
  let v161 : BitVec 32 := Scalar.muli v160 c1_i32_27
  let v162 : BitVec 32 := Scalar.addi c0_i32_26 v161
  let c1_i32_29 : BitVec 32 := 1#32
  let arg17 : BitVec 32 := Scf.iv v162 c1_i32_29 k0_t2
  let c2_i32_97 : BitVec 32 := 2#32
  let v286 : BitVec 32 := Scalar.muli arg17 c2_i32_97
  let c128_i32_98 : BitVec 32 := 128#32
  let v287 : BitVec 32 := Scalar.muli v286 c128_i32_98
  let v288 : BitVec 32 := Scalar.addi v287 c0_i32_99
  let v289 : Index := Scalar.indexCast v288
  ![v289.toNat]
@[reducible] def k0_t3_loop (i : grid0.Coords) (v9 : BitVec 32) (v11 : BitVec 32) : Scf.Loop 32 :=
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c0_i32_30 : BitVec 32 := 0#32
  let v164 : BitVec 1 := Scalar.cmpi .sgt v138 c0_i32_30
  let v165 : BitVec 32 := Scalar.extui v164
  let c0_i32_31 : BitVec 32 := 0#32
  let v166 : BitVec 1 := Scalar.cmpi .slt v138 c0_i32_31
  let v167 : BitVec 32 := Scalar.extui v166
  let v168 : BitVec 32 := Scalar.subi v165 v167
  let c256_i32 : BitVec 32 := 256#32
  let c0_i32_32 : BitVec 32 := 0#32
  let v169 : BitVec 1 := Scalar.cmpi .sgt c256_i32 c0_i32_32
  let v170 : BitVec 32 := Scalar.extui v169
  let c0_i32_33 : BitVec 32 := 0#32
  let v171 : BitVec 1 := Scalar.cmpi .slt c256_i32 c0_i32_33
  let v172 : BitVec 32 := Scalar.extui v171
  let v173 : BitVec 32 := Scalar.subi v170 v172
  let v174 : BitVec 1 := Scalar.cmpi .ne v168 v173
  let v175 : BitVec 32 := Scalar.remsi v138 c256_i32
  let c0_i32_34 : BitVec 32 := 0#32
  let v176 : BitVec 1 := Scalar.cmpi .ne v175 c0_i32_34
  let v177 : BitVec 1 := Scalar.andi v174 v176
  let v163 : BitVec 32 := Scalar.divsi v138 c256_i32
  let c1_i32_35 : BitVec 32 := 1#32
  let v178 : BitVec 32 := Scalar.subi v163 c1_i32_35
  let v179 : BitVec 32 := Scalar.select v177 v178 v163
  let v180 : BitVec 32 := Scalar.subi v179 c0_i32_37
  let c1_i32_38 : BitVec 32 := 1#32
  let v182 : BitVec 32 := Scalar.divsi v180 c1_i32_38
  let v183 : BitVec 32 := Scalar.muli v182 c1_i32_38
  let v184 : BitVec 32 := Scalar.addi c0_i32_37 v183
  let c1_i32_39 : BitVec 32 := 1#32
  ⟨c0_i32_37, v184, c1_i32_39⟩
def k0_off3 (i : grid0.Coords) (v9 : BitVec 32) (v11 : BitVec 32) (k0_t3 : Fin (k0_t3_loop i v9 v11).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c0_i32_37 : BitVec 32 := 0#32
  let c1_i32_39 : BitVec 32 := 1#32
  let arg17 : BitVec 32 := Scf.iv c0_i32_37 c1_i32_39 k0_t3
  let c256_i32_97 : BitVec 32 := 256#32
  let v286 : BitVec 32 := Scalar.muli arg17 c256_i32_97
  let v287 : BitVec 32 := Scalar.addi v12 v286
  let c128_i32_98 : BitVec 32 := 128#32
  let v288 : BitVec 32 := Scalar.muli v287 c128_i32_98
  ![v288.toNat]
@[reducible] def k0_t4_loop (i : grid0.Coords) (v9 : BitVec 32) (v11 : BitVec 32) : Scf.Loop 32 :=
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c0_i32_30 : BitVec 32 := 0#32
  let v164 : BitVec 1 := Scalar.cmpi .sgt v138 c0_i32_30
  let v165 : BitVec 32 := Scalar.extui v164
  let c0_i32_31 : BitVec 32 := 0#32
  let v166 : BitVec 1 := Scalar.cmpi .slt v138 c0_i32_31
  let v167 : BitVec 32 := Scalar.extui v166
  let v168 : BitVec 32 := Scalar.subi v165 v167
  let c256_i32 : BitVec 32 := 256#32
  let c0_i32_32 : BitVec 32 := 0#32
  let v169 : BitVec 1 := Scalar.cmpi .sgt c256_i32 c0_i32_32
  let v170 : BitVec 32 := Scalar.extui v169
  let c0_i32_33 : BitVec 32 := 0#32
  let v171 : BitVec 1 := Scalar.cmpi .slt c256_i32 c0_i32_33
  let v172 : BitVec 32 := Scalar.extui v171
  let v173 : BitVec 32 := Scalar.subi v170 v172
  let v174 : BitVec 1 := Scalar.cmpi .ne v168 v173
  let v175 : BitVec 32 := Scalar.remsi v138 c256_i32
  let c0_i32_34 : BitVec 32 := 0#32
  let v176 : BitVec 1 := Scalar.cmpi .ne v175 c0_i32_34
  let v177 : BitVec 1 := Scalar.andi v174 v176
  let v163 : BitVec 32 := Scalar.divsi v138 c256_i32
  let c1_i32_35 : BitVec 32 := 1#32
  let v178 : BitVec 32 := Scalar.subi v163 c1_i32_35
  let v179 : BitVec 32 := Scalar.select v177 v178 v163
  let v180 : BitVec 32 := Scalar.subi v179 c0_i32_37
  let c1_i32_38 : BitVec 32 := 1#32
  let v182 : BitVec 32 := Scalar.divsi v180 c1_i32_38
  let v183 : BitVec 32 := Scalar.muli v182 c1_i32_38
  let v184 : BitVec 32 := Scalar.addi c0_i32_37 v183
  let v181 : BitVec 32 := Scalar.addi c0_i32_37 v180
  let c1_i32_40 : BitVec 32 := 1#32
  ⟨v184, v181, c1_i32_40⟩
def k0_off4 (i : grid0.Coords) (v9 : BitVec 32) (v11 : BitVec 32) (k0_t4 : Fin (k0_t4_loop i v9 v11).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c0_i32_37 : BitVec 32 := 0#32
  let c1024_i32_0 : BitVec 32 := 1024#32
  let v3 : BitVec 32 := Scalar.addi v2 c1024_i32_0
  let v13 : BitVec 32 := Scalar.minsi v11 v3
  let v138 : BitVec 32 := Scalar.subi v13 v12
  let c0_i32_30 : BitVec 32 := 0#32
  let v164 : BitVec 1 := Scalar.cmpi .sgt v138 c0_i32_30
  let v165 : BitVec 32 := Scalar.extui v164
  let c0_i32_31 : BitVec 32 := 0#32
  let v166 : BitVec 1 := Scalar.cmpi .slt v138 c0_i32_31
  let v167 : BitVec 32 := Scalar.extui v166
  let v168 : BitVec 32 := Scalar.subi v165 v167
  let c256_i32 : BitVec 32 := 256#32
  let c0_i32_32 : BitVec 32 := 0#32
  let v169 : BitVec 1 := Scalar.cmpi .sgt c256_i32 c0_i32_32
  let v170 : BitVec 32 := Scalar.extui v169
  let c0_i32_33 : BitVec 32 := 0#32
  let v171 : BitVec 1 := Scalar.cmpi .slt c256_i32 c0_i32_33
  let v172 : BitVec 32 := Scalar.extui v171
  let v173 : BitVec 32 := Scalar.subi v170 v172
  let v174 : BitVec 1 := Scalar.cmpi .ne v168 v173
  let v175 : BitVec 32 := Scalar.remsi v138 c256_i32
  let c0_i32_34 : BitVec 32 := 0#32
  let v176 : BitVec 1 := Scalar.cmpi .ne v175 c0_i32_34
  let v177 : BitVec 1 := Scalar.andi v174 v176
  let v163 : BitVec 32 := Scalar.divsi v138 c256_i32
  let c1_i32_35 : BitVec 32 := 1#32
  let v178 : BitVec 32 := Scalar.subi v163 c1_i32_35
  let v179 : BitVec 32 := Scalar.select v177 v178 v163
  let v180 : BitVec 32 := Scalar.subi v179 c0_i32_37
  let c1_i32_38 : BitVec 32 := 1#32
  let v182 : BitVec 32 := Scalar.divsi v180 c1_i32_38
  let v183 : BitVec 32 := Scalar.muli v182 c1_i32_38
  let v184 : BitVec 32 := Scalar.addi c0_i32_37 v183
  let c1_i32_40 : BitVec 32 := 1#32
  let arg17 : BitVec 32 := Scf.iv v184 c1_i32_40 k0_t4
  let c256_i32_97 : BitVec 32 := 256#32
  let v286 : BitVec 32 := Scalar.muli arg17 c256_i32_97
  let v287 : BitVec 32 := Scalar.addi v12 v286
  let c128_i32_98 : BitVec 32 := 128#32
  let v288 : BitVec 32 := Scalar.muli v287 c128_i32_98
  ![v288.toNat]
def k0_off5 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m256_i32 : BitVec 32 := 4294967040#32
  let v185 : BitVec 32 := Scalar.andi v138 c_m256_i32
  let v186 : BitVec 32 := Scalar.addi v12 v185
  let c128_i32_97 : BitVec 32 := 128#32
  let v286 : BitVec 32 := Scalar.muli v186 c128_i32_97
  ![v286.toNat]
def k0_cond2 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c128_i32_41 : BitVec 32 := 128#32
  let v187 : BitVec 32 := Scalar.andi v138 c128_i32_41
  let c0_i32_42 : BitVec 32 := 0#32
  let v188 : BitVec 1 := Scalar.cmpi .ne v187 c0_i32_42
  let v189 : BitVec 32 := Scalar.extui v188
  let c0_i32_43 : BitVec 32 := 0#32
  let v190 : BitVec 1 := Scalar.cmpi .ne v189 c0_i32_43
  v190

def k0_off6 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m128_i32 : BitVec 32 := 4294967168#32
  let v191 : BitVec 32 := Scalar.andi v138 c_m128_i32
  let v192 : BitVec 32 := Scalar.addi v12 v191
  let c128_i32_97 : BitVec 32 := 128#32
  let v286 : BitVec 32 := Scalar.muli v192 c128_i32_97
  ![v286.toNat]
def k0_cond3 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c64_i32 : BitVec 32 := 64#32
  let v193 : BitVec 32 := Scalar.andi v138 c64_i32
  let c0_i32_44 : BitVec 32 := 0#32
  let v194 : BitVec 1 := Scalar.cmpi .ne v193 c0_i32_44
  let v195 : BitVec 32 := Scalar.extui v194
  let c0_i32_45 : BitVec 32 := 0#32
  let v196 : BitVec 1 := Scalar.cmpi .ne v195 c0_i32_45
  v196

def k0_off7 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m64_i32 : BitVec 32 := 4294967232#32
  let v197 : BitVec 32 := Scalar.andi v138 c_m64_i32
  let v198 : BitVec 32 := Scalar.addi v12 v197
  let c128_i32_97 : BitVec 32 := 128#32
  let v286 : BitVec 32 := Scalar.muli v198 c128_i32_97
  ![v286.toNat]
def k0_cond4 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c32_i32 : BitVec 32 := 32#32
  let v199 : BitVec 32 := Scalar.andi v138 c32_i32
  let c0_i32_46 : BitVec 32 := 0#32
  let v200 : BitVec 1 := Scalar.cmpi .ne v199 c0_i32_46
  let v201 : BitVec 32 := Scalar.extui v200
  let c0_i32_47 : BitVec 32 := 0#32
  let v202 : BitVec 1 := Scalar.cmpi .ne v201 c0_i32_47
  v202

def k0_off8 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m32_i32 : BitVec 32 := 4294967264#32
  let v203 : BitVec 32 := Scalar.andi v138 c_m32_i32
  let v204 : BitVec 32 := Scalar.addi v12 v203
  let c128_i32_97 : BitVec 32 := 128#32
  let v286 : BitVec 32 := Scalar.muli v204 c128_i32_97
  ![v286.toNat]
def k0_cond5 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c16_i32 : BitVec 32 := 16#32
  let v205 : BitVec 32 := Scalar.andi v138 c16_i32
  let c0_i32_48 : BitVec 32 := 0#32
  let v206 : BitVec 1 := Scalar.cmpi .ne v205 c0_i32_48
  let v207 : BitVec 32 := Scalar.extui v206
  let c0_i32_49 : BitVec 32 := 0#32
  let v208 : BitVec 1 := Scalar.cmpi .ne v207 c0_i32_49
  v208

def k0_off9 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m16_i32 : BitVec 32 := 4294967280#32
  let v209 : BitVec 32 := Scalar.andi v138 c_m16_i32
  let v210 : BitVec 32 := Scalar.addi v12 v209
  let c128_i32_97 : BitVec 32 := 128#32
  let v286 : BitVec 32 := Scalar.muli v210 c128_i32_97
  ![v286.toNat]
def k0_cond6 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c8_i32 : BitVec 32 := 8#32
  let v211 : BitVec 32 := Scalar.andi v138 c8_i32
  let c0_i32_50 : BitVec 32 := 0#32
  let v212 : BitVec 1 := Scalar.cmpi .ne v211 c0_i32_50
  let v213 : BitVec 32 := Scalar.extui v212
  let c0_i32_51 : BitVec 32 := 0#32
  let v214 : BitVec 1 := Scalar.cmpi .ne v213 c0_i32_51
  v214

def k0_off10 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m8_i32 : BitVec 32 := 4294967288#32
  let v215 : BitVec 32 := Scalar.andi v138 c_m8_i32
  let v216 : BitVec 32 := Scalar.addi v12 v215
  let c128_i32_97 : BitVec 32 := 128#32
  let v286 : BitVec 32 := Scalar.muli v216 c128_i32_97
  ![v286.toNat]
def k0_cond7 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c4_i32 : BitVec 32 := 4#32
  let v217 : BitVec 32 := Scalar.andi v138 c4_i32
  let c0_i32_52 : BitVec 32 := 0#32
  let v218 : BitVec 1 := Scalar.cmpi .ne v217 c0_i32_52
  let v219 : BitVec 32 := Scalar.extui v218
  let c0_i32_53 : BitVec 32 := 0#32
  let v220 : BitVec 1 := Scalar.cmpi .ne v219 c0_i32_53
  v220

def k0_off11 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m4_i32 : BitVec 32 := 4294967292#32
  let v221 : BitVec 32 := Scalar.andi v138 c_m4_i32
  let v222 : BitVec 32 := Scalar.addi v12 v221
  let c128_i32_97 : BitVec 32 := 128#32
  let v286 : BitVec 32 := Scalar.muli v222 c128_i32_97
  ![v286.toNat]
def k0_cond8 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c2_i32_54 : BitVec 32 := 2#32
  let v223 : BitVec 32 := Scalar.andi v138 c2_i32_54
  let c0_i32_55 : BitVec 32 := 0#32
  let v224 : BitVec 1 := Scalar.cmpi .ne v223 c0_i32_55
  let v225 : BitVec 32 := Scalar.extui v224
  let c0_i32_56 : BitVec 32 := 0#32
  let v226 : BitVec 1 := Scalar.cmpi .ne v225 c0_i32_56
  v226

def k0_off12 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m2_i32 : BitVec 32 := 4294967294#32
  let v227 : BitVec 32 := Scalar.andi v138 c_m2_i32
  let v228 : BitVec 32 := Scalar.addi v12 v227
  let c128_i32_97 : BitVec 32 := 128#32
  let v286 : BitVec 32 := Scalar.muli v228 c128_i32_97
  ![v286.toNat]
def k0_cond9 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c1_i32_57 : BitVec 32 := 1#32
  let v229 : BitVec 32 := Scalar.andi v138 c1_i32_57
  let c0_i32_58 : BitVec 32 := 0#32
  let v230 : BitVec 1 := Scalar.cmpi .ne v229 c0_i32_58
  let v231 : BitVec 32 := Scalar.extui v230
  let c0_i32_59 : BitVec 32 := 0#32
  let v232 : BitVec 1 := Scalar.cmpi .ne v231 c0_i32_59
  v232

@[reducible] def k0_t5_loop (i : grid0.Coords) (v9 : BitVec 32) (v11 : BitVec 32) : Scf.Loop 32 :=
  let c0_i32_61 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c0_i32_30 : BitVec 32 := 0#32
  let v164 : BitVec 1 := Scalar.cmpi .sgt v138 c0_i32_30
  let v165 : BitVec 32 := Scalar.extui v164
  let c0_i32_31 : BitVec 32 := 0#32
  let v166 : BitVec 1 := Scalar.cmpi .slt v138 c0_i32_31
  let v167 : BitVec 32 := Scalar.extui v166
  let v168 : BitVec 32 := Scalar.subi v165 v167
  let c256_i32 : BitVec 32 := 256#32
  let c0_i32_32 : BitVec 32 := 0#32
  let v169 : BitVec 1 := Scalar.cmpi .sgt c256_i32 c0_i32_32
  let v170 : BitVec 32 := Scalar.extui v169
  let c0_i32_33 : BitVec 32 := 0#32
  let v171 : BitVec 1 := Scalar.cmpi .slt c256_i32 c0_i32_33
  let v172 : BitVec 32 := Scalar.extui v171
  let v173 : BitVec 32 := Scalar.subi v170 v172
  let v174 : BitVec 1 := Scalar.cmpi .ne v168 v173
  let v175 : BitVec 32 := Scalar.remsi v138 c256_i32
  let c0_i32_34 : BitVec 32 := 0#32
  let v176 : BitVec 1 := Scalar.cmpi .ne v175 c0_i32_34
  let v177 : BitVec 1 := Scalar.andi v174 v176
  let v163 : BitVec 32 := Scalar.divsi v138 c256_i32
  let c1_i32_35 : BitVec 32 := 1#32
  let v178 : BitVec 32 := Scalar.subi v163 c1_i32_35
  let v179 : BitVec 32 := Scalar.select v177 v178 v163
  let v233 : BitVec 32 := Scalar.subi v179 c0_i32_61
  let c1_i32_62 : BitVec 32 := 1#32
  let v235 : BitVec 32 := Scalar.divsi v233 c1_i32_62
  let v236 : BitVec 32 := Scalar.muli v235 c1_i32_62
  let v237 : BitVec 32 := Scalar.addi c0_i32_61 v236
  let c1_i32_63 : BitVec 32 := 1#32
  ⟨c0_i32_61, v237, c1_i32_63⟩
def k0_off13 (i : grid0.Coords) (v9 : BitVec 32) (v11 : BitVec 32) (k0_t5 : Fin (k0_t5_loop i v9 v11).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c0_i32_61 : BitVec 32 := 0#32
  let c1_i32_63 : BitVec 32 := 1#32
  let arg17 : BitVec 32 := Scf.iv c0_i32_61 c1_i32_63 k0_t5
  let c256_i32_97 : BitVec 32 := 256#32
  let v286 : BitVec 32 := Scalar.muli arg17 c256_i32_97
  let v287 : BitVec 32 := Scalar.addi v12 v286
  let c128_i32_98 : BitVec 32 := 128#32
  let v288 : BitVec 32 := Scalar.muli v287 c128_i32_98
  ![v288.toNat]
@[reducible] def k0_t6_loop (i : grid0.Coords) (v9 : BitVec 32) (v11 : BitVec 32) : Scf.Loop 32 :=
  let c0_i32_61 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c0_i32_30 : BitVec 32 := 0#32
  let v164 : BitVec 1 := Scalar.cmpi .sgt v138 c0_i32_30
  let v165 : BitVec 32 := Scalar.extui v164
  let c0_i32_31 : BitVec 32 := 0#32
  let v166 : BitVec 1 := Scalar.cmpi .slt v138 c0_i32_31
  let v167 : BitVec 32 := Scalar.extui v166
  let v168 : BitVec 32 := Scalar.subi v165 v167
  let c256_i32 : BitVec 32 := 256#32
  let c0_i32_32 : BitVec 32 := 0#32
  let v169 : BitVec 1 := Scalar.cmpi .sgt c256_i32 c0_i32_32
  let v170 : BitVec 32 := Scalar.extui v169
  let c0_i32_33 : BitVec 32 := 0#32
  let v171 : BitVec 1 := Scalar.cmpi .slt c256_i32 c0_i32_33
  let v172 : BitVec 32 := Scalar.extui v171
  let v173 : BitVec 32 := Scalar.subi v170 v172
  let v174 : BitVec 1 := Scalar.cmpi .ne v168 v173
  let v175 : BitVec 32 := Scalar.remsi v138 c256_i32
  let c0_i32_34 : BitVec 32 := 0#32
  let v176 : BitVec 1 := Scalar.cmpi .ne v175 c0_i32_34
  let v177 : BitVec 1 := Scalar.andi v174 v176
  let v163 : BitVec 32 := Scalar.divsi v138 c256_i32
  let c1_i32_35 : BitVec 32 := 1#32
  let v178 : BitVec 32 := Scalar.subi v163 c1_i32_35
  let v179 : BitVec 32 := Scalar.select v177 v178 v163
  let v233 : BitVec 32 := Scalar.subi v179 c0_i32_61
  let c1_i32_62 : BitVec 32 := 1#32
  let v235 : BitVec 32 := Scalar.divsi v233 c1_i32_62
  let v236 : BitVec 32 := Scalar.muli v235 c1_i32_62
  let v237 : BitVec 32 := Scalar.addi c0_i32_61 v236
  let v234 : BitVec 32 := Scalar.addi c0_i32_61 v233
  let c1_i32_64 : BitVec 32 := 1#32
  ⟨v237, v234, c1_i32_64⟩
def k0_off14 (i : grid0.Coords) (v9 : BitVec 32) (v11 : BitVec 32) (k0_t6 : Fin (k0_t6_loop i v9 v11).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c0_i32_61 : BitVec 32 := 0#32
  let c1024_i32_0 : BitVec 32 := 1024#32
  let v3 : BitVec 32 := Scalar.addi v2 c1024_i32_0
  let v13 : BitVec 32 := Scalar.minsi v11 v3
  let v138 : BitVec 32 := Scalar.subi v13 v12
  let c0_i32_30 : BitVec 32 := 0#32
  let v164 : BitVec 1 := Scalar.cmpi .sgt v138 c0_i32_30
  let v165 : BitVec 32 := Scalar.extui v164
  let c0_i32_31 : BitVec 32 := 0#32
  let v166 : BitVec 1 := Scalar.cmpi .slt v138 c0_i32_31
  let v167 : BitVec 32 := Scalar.extui v166
  let v168 : BitVec 32 := Scalar.subi v165 v167
  let c256_i32 : BitVec 32 := 256#32
  let c0_i32_32 : BitVec 32 := 0#32
  let v169 : BitVec 1 := Scalar.cmpi .sgt c256_i32 c0_i32_32
  let v170 : BitVec 32 := Scalar.extui v169
  let c0_i32_33 : BitVec 32 := 0#32
  let v171 : BitVec 1 := Scalar.cmpi .slt c256_i32 c0_i32_33
  let v172 : BitVec 32 := Scalar.extui v171
  let v173 : BitVec 32 := Scalar.subi v170 v172
  let v174 : BitVec 1 := Scalar.cmpi .ne v168 v173
  let v175 : BitVec 32 := Scalar.remsi v138 c256_i32
  let c0_i32_34 : BitVec 32 := 0#32
  let v176 : BitVec 1 := Scalar.cmpi .ne v175 c0_i32_34
  let v177 : BitVec 1 := Scalar.andi v174 v176
  let v163 : BitVec 32 := Scalar.divsi v138 c256_i32
  let c1_i32_35 : BitVec 32 := 1#32
  let v178 : BitVec 32 := Scalar.subi v163 c1_i32_35
  let v179 : BitVec 32 := Scalar.select v177 v178 v163
  let v233 : BitVec 32 := Scalar.subi v179 c0_i32_61
  let c1_i32_62 : BitVec 32 := 1#32
  let v235 : BitVec 32 := Scalar.divsi v233 c1_i32_62
  let v236 : BitVec 32 := Scalar.muli v235 c1_i32_62
  let v237 : BitVec 32 := Scalar.addi c0_i32_61 v236
  let c1_i32_64 : BitVec 32 := 1#32
  let arg17 : BitVec 32 := Scf.iv v237 c1_i32_64 k0_t6
  let c256_i32_97 : BitVec 32 := 256#32
  let v286 : BitVec 32 := Scalar.muli arg17 c256_i32_97
  let v287 : BitVec 32 := Scalar.addi v12 v286
  let c128_i32_98 : BitVec 32 := 128#32
  let v288 : BitVec 32 := Scalar.muli v287 c128_i32_98
  ![v288.toNat]
def k0_off15 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m256_i32_65 : BitVec 32 := 4294967040#32
  let v238 : BitVec 32 := Scalar.andi v138 c_m256_i32_65
  let v239 : BitVec 32 := Scalar.addi v12 v238
  let c128_i32_97 : BitVec 32 := 128#32
  let v286 : BitVec 32 := Scalar.muli v239 c128_i32_97
  ![v286.toNat]
def k0_cond10 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c128_i32_66 : BitVec 32 := 128#32
  let v240 : BitVec 32 := Scalar.andi v138 c128_i32_66
  let c0_i32_67 : BitVec 32 := 0#32
  let v241 : BitVec 1 := Scalar.cmpi .ne v240 c0_i32_67
  let v242 : BitVec 32 := Scalar.extui v241
  let c0_i32_68 : BitVec 32 := 0#32
  let v243 : BitVec 1 := Scalar.cmpi .ne v242 c0_i32_68
  v243

def k0_off16 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m128_i32_69 : BitVec 32 := 4294967168#32
  let v244 : BitVec 32 := Scalar.andi v138 c_m128_i32_69
  let v245 : BitVec 32 := Scalar.addi v12 v244
  let c128_i32_97 : BitVec 32 := 128#32
  let v286 : BitVec 32 := Scalar.muli v245 c128_i32_97
  ![v286.toNat]
def k0_cond11 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c64_i32_70 : BitVec 32 := 64#32
  let v246 : BitVec 32 := Scalar.andi v138 c64_i32_70
  let c0_i32_71 : BitVec 32 := 0#32
  let v247 : BitVec 1 := Scalar.cmpi .ne v246 c0_i32_71
  let v248 : BitVec 32 := Scalar.extui v247
  let c0_i32_72 : BitVec 32 := 0#32
  let v249 : BitVec 1 := Scalar.cmpi .ne v248 c0_i32_72
  v249

def k0_off17 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m64_i32_73 : BitVec 32 := 4294967232#32
  let v250 : BitVec 32 := Scalar.andi v138 c_m64_i32_73
  let v251 : BitVec 32 := Scalar.addi v12 v250
  let c128_i32_97 : BitVec 32 := 128#32
  let v286 : BitVec 32 := Scalar.muli v251 c128_i32_97
  ![v286.toNat]
def k0_cond12 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c32_i32_74 : BitVec 32 := 32#32
  let v252 : BitVec 32 := Scalar.andi v138 c32_i32_74
  let c0_i32_75 : BitVec 32 := 0#32
  let v253 : BitVec 1 := Scalar.cmpi .ne v252 c0_i32_75
  let v254 : BitVec 32 := Scalar.extui v253
  let c0_i32_76 : BitVec 32 := 0#32
  let v255 : BitVec 1 := Scalar.cmpi .ne v254 c0_i32_76
  v255

def k0_off18 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m32_i32_77 : BitVec 32 := 4294967264#32
  let v256 : BitVec 32 := Scalar.andi v138 c_m32_i32_77
  let v257 : BitVec 32 := Scalar.addi v12 v256
  let c128_i32_97 : BitVec 32 := 128#32
  let v286 : BitVec 32 := Scalar.muli v257 c128_i32_97
  ![v286.toNat]
def k0_cond13 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c16_i32_78 : BitVec 32 := 16#32
  let v258 : BitVec 32 := Scalar.andi v138 c16_i32_78
  let c0_i32_79 : BitVec 32 := 0#32
  let v259 : BitVec 1 := Scalar.cmpi .ne v258 c0_i32_79
  let v260 : BitVec 32 := Scalar.extui v259
  let c0_i32_80 : BitVec 32 := 0#32
  let v261 : BitVec 1 := Scalar.cmpi .ne v260 c0_i32_80
  v261

def k0_off19 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m16_i32_81 : BitVec 32 := 4294967280#32
  let v262 : BitVec 32 := Scalar.andi v138 c_m16_i32_81
  let v263 : BitVec 32 := Scalar.addi v12 v262
  let c128_i32_97 : BitVec 32 := 128#32
  let v286 : BitVec 32 := Scalar.muli v263 c128_i32_97
  ![v286.toNat]
def k0_cond14 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c8_i32_82 : BitVec 32 := 8#32
  let v264 : BitVec 32 := Scalar.andi v138 c8_i32_82
  let c0_i32_83 : BitVec 32 := 0#32
  let v265 : BitVec 1 := Scalar.cmpi .ne v264 c0_i32_83
  let v266 : BitVec 32 := Scalar.extui v265
  let c0_i32_84 : BitVec 32 := 0#32
  let v267 : BitVec 1 := Scalar.cmpi .ne v266 c0_i32_84
  v267

def k0_off20 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m8_i32_85 : BitVec 32 := 4294967288#32
  let v268 : BitVec 32 := Scalar.andi v138 c_m8_i32_85
  let v269 : BitVec 32 := Scalar.addi v12 v268
  let c128_i32_97 : BitVec 32 := 128#32
  let v286 : BitVec 32 := Scalar.muli v269 c128_i32_97
  ![v286.toNat]
def k0_cond15 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c4_i32_86 : BitVec 32 := 4#32
  let v270 : BitVec 32 := Scalar.andi v138 c4_i32_86
  let c0_i32_87 : BitVec 32 := 0#32
  let v271 : BitVec 1 := Scalar.cmpi .ne v270 c0_i32_87
  let v272 : BitVec 32 := Scalar.extui v271
  let c0_i32_88 : BitVec 32 := 0#32
  let v273 : BitVec 1 := Scalar.cmpi .ne v272 c0_i32_88
  v273

def k0_off21 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m4_i32_89 : BitVec 32 := 4294967292#32
  let v274 : BitVec 32 := Scalar.andi v138 c_m4_i32_89
  let v275 : BitVec 32 := Scalar.addi v12 v274
  let c128_i32_97 : BitVec 32 := 128#32
  let v286 : BitVec 32 := Scalar.muli v275 c128_i32_97
  ![v286.toNat]
def k0_cond16 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c2_i32_90 : BitVec 32 := 2#32
  let v276 : BitVec 32 := Scalar.andi v138 c2_i32_90
  let c0_i32_91 : BitVec 32 := 0#32
  let v277 : BitVec 1 := Scalar.cmpi .ne v276 c0_i32_91
  let v278 : BitVec 32 := Scalar.extui v277
  let c0_i32_92 : BitVec 32 := 0#32
  let v279 : BitVec 1 := Scalar.cmpi .ne v278 c0_i32_92
  v279

def k0_off22 (i : grid0.Coords) (v9 : BitVec 32) (v11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.maxsi v9 v2
  let c1024_i32_0 : BitVec 32 := 1024#32
  let v3 : BitVec 32 := Scalar.addi v2 c1024_i32_0
  let v13 : BitVec 32 := Scalar.minsi v11 v3
  let v138 : BitVec 32 := Scalar.subi v13 v12
  let c_m2_i32_93 : BitVec 32 := 4294967294#32
  let v280 : BitVec 32 := Scalar.andi v138 c_m2_i32_93
  let v281 : BitVec 32 := Scalar.addi v12 v280
  let c128_i32_97 : BitVec 32 := 128#32
  let v286 : BitVec 32 := Scalar.muli v281 c128_i32_97
  ![v286.toNat]
def k0_cond17 (i : grid0.Coords) (v9 : BitVec 32) (v11 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v13 : BitVec 32 := Scalar.minsi v11 v3
  let v12 : BitVec 32 := Scalar.maxsi v9 v2
  let v138 : BitVec 32 := Scalar.subi v13 v12
  let c1_i32_94 : BitVec 32 := 1#32
  let v282 : BitVec 32 := Scalar.andi v138 c1_i32_94
  let c0_i32_95 : BitVec 32 := 0#32
  let v283 : BitVec 1 := Scalar.cmpi .ne v282 c0_i32_95
  let v284 : BitVec 32 := Scalar.extui v283
  let c0_i32_96 : BitVec 32 := 0#32
  let v285 : BitVec 1 := Scalar.cmpi .ne v284 c0_i32_96
  v285

def k0_chk1 (i : grid0.Coords) (v9 : BitVec 32) (v11 : BitVec 32) : Prop :=
  (∀ (k0_h1 : k0_cond1 i v9 v11 = 1#1), (k0_t1_loop i v9 v11).OK) ∧
  (∀ k0_t1 : Fin (k0_t1_loop i v9 v11).trips, ∀ (k0_h1 : k0_cond1 i v9 v11 = 1#1), ∀ (r : Fin 16), ∀ a, (k0_off1 i v9 v11 k0_t1 (BitVec.ofNat 32 (16 * r.val))) a + S16.size a ≤ S32768.size a) ∧
  (∀ (k0_h1 : k0_cond1 i v9 v11 = 1#1), (k0_t2_loop i v9 v11).OK) ∧
  (∀ k0_t2 : Fin (k0_t2_loop i v9 v11).trips, ∀ (k0_h1 : k0_cond1 i v9 v11 = 1#1), ∀ (r : Fin 16), ∀ a, (k0_off2 i v9 v11 k0_t2 (BitVec.ofNat 32 (16 * r.val))) a + S16.size a ≤ S32768.size a) ∧
  (∀ (k0_h1 : k0_cond1 i v9 v11 = 1#1), (k0_t3_loop i v9 v11).OK) ∧
  (∀ k0_t3 : Fin (k0_t3_loop i v9 v11).trips, ∀ (k0_h1 : k0_cond1 i v9 v11 = 1#1), ∀ a, (k0_off3 i v9 v11 k0_t3) a + S32768.size a ≤ S4194304.size a) ∧
  (∀ (k0_h1 : k0_cond1 i v9 v11 = 1#1), (k0_t4_loop i v9 v11).OK) ∧
  (∀ k0_t4 : Fin (k0_t4_loop i v9 v11).trips, ∀ (k0_h1 : k0_cond1 i v9 v11 = 1#1), ∀ a, (k0_off4 i v9 v11 k0_t4) a + S32768.size a ≤ S4194304.size a) ∧
  (∀ (k0_h1 : k0_cond1 i v9 v11 = 1#1), ∀ (k0_h2 : k0_cond2 i v9 v11 = 1#1), ∀ a, (k0_off5 i v9 v11) a + S16384.size a ≤ S4194304.size a) ∧
  (∀ (k0_h1 : k0_cond1 i v9 v11 = 1#1), ∀ (k0_h3 : k0_cond3 i v9 v11 = 1#1), ∀ a, (k0_off6 i v9 v11) a + S8192.size a ≤ S4194304.size a) ∧
  (∀ (k0_h1 : k0_cond1 i v9 v11 = 1#1), ∀ (k0_h4 : k0_cond4 i v9 v11 = 1#1), ∀ a, (k0_off7 i v9 v11) a + S4096.size a ≤ S4194304.size a) ∧
  (∀ (k0_h1 : k0_cond1 i v9 v11 = 1#1), ∀ (k0_h5 : k0_cond5 i v9 v11 = 1#1), ∀ a, (k0_off8 i v9 v11) a + S2048.size a ≤ S4194304.size a) ∧
  (∀ (k0_h1 : k0_cond1 i v9 v11 = 1#1), ∀ (k0_h6 : k0_cond6 i v9 v11 = 1#1), ∀ a, (k0_off9 i v9 v11) a + S1024.size a ≤ S4194304.size a) ∧
  (∀ (k0_h1 : k0_cond1 i v9 v11 = 1#1), ∀ (k0_h7 : k0_cond7 i v9 v11 = 1#1), ∀ a, (k0_off10 i v9 v11) a + S512.size a ≤ S4194304.size a) ∧
  (∀ (k0_h1 : k0_cond1 i v9 v11 = 1#1), ∀ (k0_h8 : k0_cond8 i v9 v11 = 1#1), ∀ a, (k0_off11 i v9 v11) a + S256.size a ≤ S4194304.size a) ∧
  (∀ (k0_h1 : k0_cond1 i v9 v11 = 1#1), ∀ (k0_h9 : k0_cond9 i v9 v11 = 1#1), ∀ a, (k0_off12 i v9 v11) a + S128.size a ≤ S4194304.size a) ∧
  (∀ (k0_h1 : k0_cond1 i v9 v11 = 1#1), (k0_t5_loop i v9 v11).OK) ∧
  (∀ k0_t5 : Fin (k0_t5_loop i v9 v11).trips, ∀ (k0_h1 : k0_cond1 i v9 v11 = 1#1), ∀ a, (k0_off13 i v9 v11 k0_t5) a + S32768.size a ≤ S4194304.size a) ∧
  (∀ (k0_h1 : k0_cond1 i v9 v11 = 1#1), (k0_t6_loop i v9 v11).OK) ∧
  (∀ k0_t6 : Fin (k0_t6_loop i v9 v11).trips, ∀ (k0_h1 : k0_cond1 i v9 v11 = 1#1), ∀ a, (k0_off14 i v9 v11 k0_t6) a + S32768.size a ≤ S4194304.size a) ∧
  (∀ (k0_h1 : k0_cond1 i v9 v11 = 1#1), ∀ (k0_h10 : k0_cond10 i v9 v11 = 1#1), ∀ a, (k0_off15 i v9 v11) a + S16384.size a ≤ S4194304.size a) ∧
  (∀ (k0_h1 : k0_cond1 i v9 v11 = 1#1), ∀ (k0_h11 : k0_cond11 i v9 v11 = 1#1), ∀ a, (k0_off16 i v9 v11) a + S8192.size a ≤ S4194304.size a) ∧
  (∀ (k0_h1 : k0_cond1 i v9 v11 = 1#1), ∀ (k0_h12 : k0_cond12 i v9 v11 = 1#1), ∀ a, (k0_off17 i v9 v11) a + S4096.size a ≤ S4194304.size a) ∧
  (∀ (k0_h1 : k0_cond1 i v9 v11 = 1#1), ∀ (k0_h13 : k0_cond13 i v9 v11 = 1#1), ∀ a, (k0_off18 i v9 v11) a + S2048.size a ≤ S4194304.size a) ∧
  (∀ (k0_h1 : k0_cond1 i v9 v11 = 1#1), ∀ (k0_h14 : k0_cond14 i v9 v11 = 1#1), ∀ a, (k0_off19 i v9 v11) a + S1024.size a ≤ S4194304.size a) ∧
  (∀ (k0_h1 : k0_cond1 i v9 v11 = 1#1), ∀ (k0_h15 : k0_cond15 i v9 v11 = 1#1), ∀ a, (k0_off20 i v9 v11) a + S512.size a ≤ S4194304.size a) ∧
  (∀ (k0_h1 : k0_cond1 i v9 v11 = 1#1), ∀ (k0_h16 : k0_cond16 i v9 v11 = 1#1), ∀ a, (k0_off21 i v9 v11) a + S256.size a ≤ S4194304.size a) ∧
  (∀ (k0_h1 : k0_cond1 i v9 v11 = 1#1), ∀ (k0_h17 : k0_cond17 i v9 v11 = 1#1), ∀ a, (k0_off22 i v9 v11) a + S128.size a ≤ S4194304.size a)
theorem k0_t1_ok : ∀ (i : grid0.Coords) (v9 : BitVec 32) (v11 : BitVec 32) (k0_hw1 : k0_chk1 i v9 v11), ∀ (k0_h1 : k0_cond1 i v9 v11 = 1#1), (k0_t1_loop i v9 v11).OK := fun i v9 v11 k0_hw1 k0_h1 => k0_hw1.1 k0_h1
theorem k0_off1_inb : ∀ (i : grid0.Coords) (v9 : BitVec 32) (v11 : BitVec 32) (k0_hw1 : k0_chk1 i v9 v11) (k0_t1 : Fin (k0_t1_loop i v9 v11).trips), ∀ (k0_h1 : k0_cond1 i v9 v11 = 1#1), ∀ (r : Fin 16), ∀ a, (k0_off1 i v9 v11 k0_t1 (BitVec.ofNat 32 (16 * r.val))) a + S16.size a ≤ S32768.size a := fun i v9 v11 k0_hw1 k0_t1 k0_h1 r => k0_hw1.2.1 k0_t1 k0_h1 r
theorem k0_t2_ok : ∀ (i : grid0.Coords) (v9 : BitVec 32) (v11 : BitVec 32) (k0_hw1 : k0_chk1 i v9 v11), ∀ (k0_h1 : k0_cond1 i v9 v11 = 1#1), (k0_t2_loop i v9 v11).OK := fun i v9 v11 k0_hw1 k0_h1 => k0_hw1.2.2.1 k0_h1
theorem k0_off2_inb : ∀ (i : grid0.Coords) (v9 : BitVec 32) (v11 : BitVec 32) (k0_hw1 : k0_chk1 i v9 v11) (k0_t2 : Fin (k0_t2_loop i v9 v11).trips), ∀ (k0_h1 : k0_cond1 i v9 v11 = 1#1), ∀ (r : Fin 16), ∀ a, (k0_off2 i v9 v11 k0_t2 (BitVec.ofNat 32 (16 * r.val))) a + S16.size a ≤ S32768.size a := fun i v9 v11 k0_hw1 k0_t2 k0_h1 r => k0_hw1.2.2.2.1 k0_t2 k0_h1 r
theorem k0_t3_ok : ∀ (i : grid0.Coords) (v9 : BitVec 32) (v11 : BitVec 32) (k0_hw1 : k0_chk1 i v9 v11), ∀ (k0_h1 : k0_cond1 i v9 v11 = 1#1), (k0_t3_loop i v9 v11).OK := fun i v9 v11 k0_hw1 k0_h1 => k0_hw1.2.2.2.2.1 k0_h1
theorem k0_off3_inb : ∀ (i : grid0.Coords) (v9 : BitVec 32) (v11 : BitVec 32) (k0_hw1 : k0_chk1 i v9 v11) (k0_t3 : Fin (k0_t3_loop i v9 v11).trips), ∀ (k0_h1 : k0_cond1 i v9 v11 = 1#1), ∀ a, (k0_off3 i v9 v11 k0_t3) a + S32768.size a ≤ S4194304.size a := fun i v9 v11 k0_hw1 k0_t3 k0_h1 => k0_hw1.2.2.2.2.2.1 k0_t3 k0_h1
theorem k0_t4_ok : ∀ (i : grid0.Coords) (v9 : BitVec 32) (v11 : BitVec 32) (k0_hw1 : k0_chk1 i v9 v11), ∀ (k0_h1 : k0_cond1 i v9 v11 = 1#1), (k0_t4_loop i v9 v11).OK := fun i v9 v11 k0_hw1 k0_h1 => k0_hw1.2.2.2.2.2.2.1 k0_h1
theorem k0_off4_inb : ∀ (i : grid0.Coords) (v9 : BitVec 32) (v11 : BitVec 32) (k0_hw1 : k0_chk1 i v9 v11) (k0_t4 : Fin (k0_t4_loop i v9 v11).trips), ∀ (k0_h1 : k0_cond1 i v9 v11 = 1#1), ∀ a, (k0_off4 i v9 v11 k0_t4) a + S32768.size a ≤ S4194304.size a := fun i v9 v11 k0_hw1 k0_t4 k0_h1 => k0_hw1.2.2.2.2.2.2.2.1 k0_t4 k0_h1
theorem k0_off5_inb : ∀ (i : grid0.Coords) (v9 : BitVec 32) (v11 : BitVec 32) (k0_hw1 : k0_chk1 i v9 v11), ∀ (k0_h1 : k0_cond1 i v9 v11 = 1#1), ∀ (k0_h2 : k0_cond2 i v9 v11 = 1#1), ∀ a, (k0_off5 i v9 v11) a + S16384.size a ≤ S4194304.size a := fun i v9 v11 k0_hw1 k0_h1 k0_h2 => k0_hw1.2.2.2.2.2.2.2.2.1 k0_h1 k0_h2
theorem k0_off6_inb : ∀ (i : grid0.Coords) (v9 : BitVec 32) (v11 : BitVec 32) (k0_hw1 : k0_chk1 i v9 v11), ∀ (k0_h1 : k0_cond1 i v9 v11 = 1#1), ∀ (k0_h3 : k0_cond3 i v9 v11 = 1#1), ∀ a, (k0_off6 i v9 v11) a + S8192.size a ≤ S4194304.size a := fun i v9 v11 k0_hw1 k0_h1 k0_h3 => k0_hw1.2.2.2.2.2.2.2.2.2.1 k0_h1 k0_h3
theorem k0_off7_inb : ∀ (i : grid0.Coords) (v9 : BitVec 32) (v11 : BitVec 32) (k0_hw1 : k0_chk1 i v9 v11), ∀ (k0_h1 : k0_cond1 i v9 v11 = 1#1), ∀ (k0_h4 : k0_cond4 i v9 v11 = 1#1), ∀ a, (k0_off7 i v9 v11) a + S4096.size a ≤ S4194304.size a := fun i v9 v11 k0_hw1 k0_h1 k0_h4 => k0_hw1.2.2.2.2.2.2.2.2.2.2.1 k0_h1 k0_h4
theorem k0_off8_inb : ∀ (i : grid0.Coords) (v9 : BitVec 32) (v11 : BitVec 32) (k0_hw1 : k0_chk1 i v9 v11), ∀ (k0_h1 : k0_cond1 i v9 v11 = 1#1), ∀ (k0_h5 : k0_cond5 i v9 v11 = 1#1), ∀ a, (k0_off8 i v9 v11) a + S2048.size a ≤ S4194304.size a := fun i v9 v11 k0_hw1 k0_h1 k0_h5 => k0_hw1.2.2.2.2.2.2.2.2.2.2.2.1 k0_h1 k0_h5
theorem k0_off9_inb : ∀ (i : grid0.Coords) (v9 : BitVec 32) (v11 : BitVec 32) (k0_hw1 : k0_chk1 i v9 v11), ∀ (k0_h1 : k0_cond1 i v9 v11 = 1#1), ∀ (k0_h6 : k0_cond6 i v9 v11 = 1#1), ∀ a, (k0_off9 i v9 v11) a + S1024.size a ≤ S4194304.size a := fun i v9 v11 k0_hw1 k0_h1 k0_h6 => k0_hw1.2.2.2.2.2.2.2.2.2.2.2.2.1 k0_h1 k0_h6
theorem k0_off10_inb : ∀ (i : grid0.Coords) (v9 : BitVec 32) (v11 : BitVec 32) (k0_hw1 : k0_chk1 i v9 v11), ∀ (k0_h1 : k0_cond1 i v9 v11 = 1#1), ∀ (k0_h7 : k0_cond7 i v9 v11 = 1#1), ∀ a, (k0_off10 i v9 v11) a + S512.size a ≤ S4194304.size a := fun i v9 v11 k0_hw1 k0_h1 k0_h7 => k0_hw1.2.2.2.2.2.2.2.2.2.2.2.2.2.1 k0_h1 k0_h7
theorem k0_off11_inb : ∀ (i : grid0.Coords) (v9 : BitVec 32) (v11 : BitVec 32) (k0_hw1 : k0_chk1 i v9 v11), ∀ (k0_h1 : k0_cond1 i v9 v11 = 1#1), ∀ (k0_h8 : k0_cond8 i v9 v11 = 1#1), ∀ a, (k0_off11 i v9 v11) a + S256.size a ≤ S4194304.size a := fun i v9 v11 k0_hw1 k0_h1 k0_h8 => k0_hw1.2.2.2.2.2.2.2.2.2.2.2.2.2.2.1 k0_h1 k0_h8
theorem k0_off12_inb : ∀ (i : grid0.Coords) (v9 : BitVec 32) (v11 : BitVec 32) (k0_hw1 : k0_chk1 i v9 v11), ∀ (k0_h1 : k0_cond1 i v9 v11 = 1#1), ∀ (k0_h9 : k0_cond9 i v9 v11 = 1#1), ∀ a, (k0_off12 i v9 v11) a + S128.size a ≤ S4194304.size a := fun i v9 v11 k0_hw1 k0_h1 k0_h9 => k0_hw1.2.2.2.2.2.2.2.2.2.2.2.2.2.2.2.1 k0_h1 k0_h9
theorem k0_t5_ok : ∀ (i : grid0.Coords) (v9 : BitVec 32) (v11 : BitVec 32) (k0_hw1 : k0_chk1 i v9 v11), ∀ (k0_h1 : k0_cond1 i v9 v11 = 1#1), (k0_t5_loop i v9 v11).OK := fun i v9 v11 k0_hw1 k0_h1 => k0_hw1.2.2.2.2.2.2.2.2.2.2.2.2.2.2.2.2.1 k0_h1
theorem k0_off13_inb : ∀ (i : grid0.Coords) (v9 : BitVec 32) (v11 : BitVec 32) (k0_hw1 : k0_chk1 i v9 v11) (k0_t5 : Fin (k0_t5_loop i v9 v11).trips), ∀ (k0_h1 : k0_cond1 i v9 v11 = 1#1), ∀ a, (k0_off13 i v9 v11 k0_t5) a + S32768.size a ≤ S4194304.size a := fun i v9 v11 k0_hw1 k0_t5 k0_h1 => k0_hw1.2.2.2.2.2.2.2.2.2.2.2.2.2.2.2.2.2.1 k0_t5 k0_h1
theorem k0_t6_ok : ∀ (i : grid0.Coords) (v9 : BitVec 32) (v11 : BitVec 32) (k0_hw1 : k0_chk1 i v9 v11), ∀ (k0_h1 : k0_cond1 i v9 v11 = 1#1), (k0_t6_loop i v9 v11).OK := fun i v9 v11 k0_hw1 k0_h1 => k0_hw1.2.2.2.2.2.2.2.2.2.2.2.2.2.2.2.2.2.2.1 k0_h1
theorem k0_off14_inb : ∀ (i : grid0.Coords) (v9 : BitVec 32) (v11 : BitVec 32) (k0_hw1 : k0_chk1 i v9 v11) (k0_t6 : Fin (k0_t6_loop i v9 v11).trips), ∀ (k0_h1 : k0_cond1 i v9 v11 = 1#1), ∀ a, (k0_off14 i v9 v11 k0_t6) a + S32768.size a ≤ S4194304.size a := fun i v9 v11 k0_hw1 k0_t6 k0_h1 => k0_hw1.2.2.2.2.2.2.2.2.2.2.2.2.2.2.2.2.2.2.2.1 k0_t6 k0_h1
theorem k0_off15_inb : ∀ (i : grid0.Coords) (v9 : BitVec 32) (v11 : BitVec 32) (k0_hw1 : k0_chk1 i v9 v11), ∀ (k0_h1 : k0_cond1 i v9 v11 = 1#1), ∀ (k0_h10 : k0_cond10 i v9 v11 = 1#1), ∀ a, (k0_off15 i v9 v11) a + S16384.size a ≤ S4194304.size a := fun i v9 v11 k0_hw1 k0_h1 k0_h10 => k0_hw1.2.2.2.2.2.2.2.2.2.2.2.2.2.2.2.2.2.2.2.2.1 k0_h1 k0_h10
theorem k0_off16_inb : ∀ (i : grid0.Coords) (v9 : BitVec 32) (v11 : BitVec 32) (k0_hw1 : k0_chk1 i v9 v11), ∀ (k0_h1 : k0_cond1 i v9 v11 = 1#1), ∀ (k0_h11 : k0_cond11 i v9 v11 = 1#1), ∀ a, (k0_off16 i v9 v11) a + S8192.size a ≤ S4194304.size a := fun i v9 v11 k0_hw1 k0_h1 k0_h11 => k0_hw1.2.2.2.2.2.2.2.2.2.2.2.2.2.2.2.2.2.2.2.2.2.1 k0_h1 k0_h11
theorem k0_off17_inb : ∀ (i : grid0.Coords) (v9 : BitVec 32) (v11 : BitVec 32) (k0_hw1 : k0_chk1 i v9 v11), ∀ (k0_h1 : k0_cond1 i v9 v11 = 1#1), ∀ (k0_h12 : k0_cond12 i v9 v11 = 1#1), ∀ a, (k0_off17 i v9 v11) a + S4096.size a ≤ S4194304.size a := fun i v9 v11 k0_hw1 k0_h1 k0_h12 => k0_hw1.2.2.2.2.2.2.2.2.2.2.2.2.2.2.2.2.2.2.2.2.2.2.1 k0_h1 k0_h12
theorem k0_off18_inb : ∀ (i : grid0.Coords) (v9 : BitVec 32) (v11 : BitVec 32) (k0_hw1 : k0_chk1 i v9 v11), ∀ (k0_h1 : k0_cond1 i v9 v11 = 1#1), ∀ (k0_h13 : k0_cond13 i v9 v11 = 1#1), ∀ a, (k0_off18 i v9 v11) a + S2048.size a ≤ S4194304.size a := fun i v9 v11 k0_hw1 k0_h1 k0_h13 => k0_hw1.2.2.2.2.2.2.2.2.2.2.2.2.2.2.2.2.2.2.2.2.2.2.2.1 k0_h1 k0_h13
theorem k0_off19_inb : ∀ (i : grid0.Coords) (v9 : BitVec 32) (v11 : BitVec 32) (k0_hw1 : k0_chk1 i v9 v11), ∀ (k0_h1 : k0_cond1 i v9 v11 = 1#1), ∀ (k0_h14 : k0_cond14 i v9 v11 = 1#1), ∀ a, (k0_off19 i v9 v11) a + S1024.size a ≤ S4194304.size a := fun i v9 v11 k0_hw1 k0_h1 k0_h14 => k0_hw1.2.2.2.2.2.2.2.2.2.2.2.2.2.2.2.2.2.2.2.2.2.2.2.2.1 k0_h1 k0_h14
theorem k0_off20_inb : ∀ (i : grid0.Coords) (v9 : BitVec 32) (v11 : BitVec 32) (k0_hw1 : k0_chk1 i v9 v11), ∀ (k0_h1 : k0_cond1 i v9 v11 = 1#1), ∀ (k0_h15 : k0_cond15 i v9 v11 = 1#1), ∀ a, (k0_off20 i v9 v11) a + S512.size a ≤ S4194304.size a := fun i v9 v11 k0_hw1 k0_h1 k0_h15 => k0_hw1.2.2.2.2.2.2.2.2.2.2.2.2.2.2.2.2.2.2.2.2.2.2.2.2.2.1 k0_h1 k0_h15
theorem k0_off21_inb : ∀ (i : grid0.Coords) (v9 : BitVec 32) (v11 : BitVec 32) (k0_hw1 : k0_chk1 i v9 v11), ∀ (k0_h1 : k0_cond1 i v9 v11 = 1#1), ∀ (k0_h16 : k0_cond16 i v9 v11 = 1#1), ∀ a, (k0_off21 i v9 v11) a + S256.size a ≤ S4194304.size a := fun i v9 v11 k0_hw1 k0_h1 k0_h16 => k0_hw1.2.2.2.2.2.2.2.2.2.2.2.2.2.2.2.2.2.2.2.2.2.2.2.2.2.2.1 k0_h1 k0_h16
theorem k0_off22_inb : ∀ (i : grid0.Coords) (v9 : BitVec 32) (v11 : BitVec 32) (k0_hw1 : k0_chk1 i v9 v11), ∀ (k0_h1 : k0_cond1 i v9 v11 = 1#1), ∀ (k0_h17 : k0_cond17 i v9 v11 = 1#1), ∀ a, (k0_off22 i v9 v11) a + S128.size a ≤ S4194304.size a := fun i v9 v11 k0_hw1 k0_h1 k0_h17 => k0_hw1.2.2.2.2.2.2.2.2.2.2.2.2.2.2.2.2.2.2.2.2.2.2.2.2.2.2.2 k0_h1 k0_h17

@[reducible] def k0_t7_loop (i : grid0.Coords) (v11 : BitVec 32) (v18 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond18 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v21 : BitVec 1 := Scalar.cmpi .sgt v20 v19
  let v22 : BitVec 32 := Scalar.extui v21
  let c0_i32_1 : BitVec 32 := 0#32
  let v23 : BitVec 1 := Scalar.cmpi .ne v22 c0_i32_1
  v23

def k0_off23 (i : grid0.Coords) (v11 : BitVec 32) (v18 : BitVec 32) (k0_t7 : Fin (k0_t7_loop i v11 v18).trips) (c0_i32_97 : BitVec 32) : Fin 1 → Nat :=
  let c0_i32_24 : BitVec 32 := 0#32
  let c1_i32_26 : BitVec 32 := 1#32
  let arg17 : BitVec 32 := Scf.iv c0_i32_24 c1_i32_26 k0_t7
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t8_loop (i : grid0.Coords) (v11 : BitVec 32) (v18 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off24 (i : grid0.Coords) (v11 : BitVec 32) (v18 : BitVec 32) (k0_t8 : Fin (k0_t8_loop i v11 v18).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t8
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t9_loop (i : grid0.Coords) (v11 : BitVec 32) (v18 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off25 (i : grid0.Coords) (v11 : BitVec 32) (v18 : BitVec 32) (k0_t9 : Fin (k0_t9_loop i v11 v18).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c0_i32_35 : BitVec 32 := 0#32
  let c1_i32_37 : BitVec 32 := 1#32
  let arg17 : BitVec 32 := Scf.iv c0_i32_35 c1_i32_37 k0_t9
  let c256_i32_95 : BitVec 32 := 256#32
  let v286 : BitVec 32 := Scalar.muli arg17 c256_i32_95
  let v287 : BitVec 32 := Scalar.addi v19 v286
  let c128_i32_96 : BitVec 32 := 128#32
  let v288 : BitVec 32 := Scalar.muli v287 c128_i32_96
  ![v288.toNat]
@[reducible] def k0_t10_loop (i : grid0.Coords) (v11 : BitVec 32) (v18 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off26 (i : grid0.Coords) (v11 : BitVec 32) (v18 : BitVec 32) (k0_t10 : Fin (k0_t10_loop i v11 v18).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c0_i32_35 : BitVec 32 := 0#32
  let c1024_i32_0 : BitVec 32 := 1024#32
  let v3 : BitVec 32 := Scalar.addi v2 c1024_i32_0
  let v20 : BitVec 32 := Scalar.minsi v18 v3
  let v138 : BitVec 32 := Scalar.subi v20 v19
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t10
  let c256_i32_95 : BitVec 32 := 256#32
  let v286 : BitVec 32 := Scalar.muli arg17 c256_i32_95
  let v287 : BitVec 32 := Scalar.addi v19 v286
  let c128_i32_96 : BitVec 32 := 128#32
  let v288 : BitVec 32 := Scalar.muli v287 c128_i32_96
  ![v288.toNat]
def k0_off27 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m256_i32 : BitVec 32 := 4294967040#32
  let v185 : BitVec 32 := Scalar.andi v138 c_m256_i32
  let v186 : BitVec 32 := Scalar.addi v19 v185
  let c128_i32_95 : BitVec 32 := 128#32
  let v286 : BitVec 32 := Scalar.muli v186 c128_i32_95
  ![v286.toNat]
def k0_cond19 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off28 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m128_i32 : BitVec 32 := 4294967168#32
  let v191 : BitVec 32 := Scalar.andi v138 c_m128_i32
  let v192 : BitVec 32 := Scalar.addi v19 v191
  let c128_i32_95 : BitVec 32 := 128#32
  let v286 : BitVec 32 := Scalar.muli v192 c128_i32_95
  ![v286.toNat]
def k0_cond20 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off29 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m64_i32 : BitVec 32 := 4294967232#32
  let v197 : BitVec 32 := Scalar.andi v138 c_m64_i32
  let v198 : BitVec 32 := Scalar.addi v19 v197
  let c128_i32_95 : BitVec 32 := 128#32
  let v286 : BitVec 32 := Scalar.muli v198 c128_i32_95
  ![v286.toNat]
def k0_cond21 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off30 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m32_i32 : BitVec 32 := 4294967264#32
  let v203 : BitVec 32 := Scalar.andi v138 c_m32_i32
  let v204 : BitVec 32 := Scalar.addi v19 v203
  let c128_i32_95 : BitVec 32 := 128#32
  let v286 : BitVec 32 := Scalar.muli v204 c128_i32_95
  ![v286.toNat]
def k0_cond22 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off31 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m16_i32 : BitVec 32 := 4294967280#32
  let v209 : BitVec 32 := Scalar.andi v138 c_m16_i32
  let v210 : BitVec 32 := Scalar.addi v19 v209
  let c128_i32_95 : BitVec 32 := 128#32
  let v286 : BitVec 32 := Scalar.muli v210 c128_i32_95
  ![v286.toNat]
def k0_cond23 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off32 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m8_i32 : BitVec 32 := 4294967288#32
  let v215 : BitVec 32 := Scalar.andi v138 c_m8_i32
  let v216 : BitVec 32 := Scalar.addi v19 v215
  let c128_i32_95 : BitVec 32 := 128#32
  let v286 : BitVec 32 := Scalar.muli v216 c128_i32_95
  ![v286.toNat]
def k0_cond24 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off33 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m4_i32 : BitVec 32 := 4294967292#32
  let v221 : BitVec 32 := Scalar.andi v138 c_m4_i32
  let v222 : BitVec 32 := Scalar.addi v19 v221
  let c128_i32_95 : BitVec 32 := 128#32
  let v286 : BitVec 32 := Scalar.muli v222 c128_i32_95
  ![v286.toNat]
def k0_cond25 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off34 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m2_i32 : BitVec 32 := 4294967294#32
  let v227 : BitVec 32 := Scalar.andi v138 c_m2_i32
  let v228 : BitVec 32 := Scalar.addi v19 v227
  let c128_i32_95 : BitVec 32 := 128#32
  let v286 : BitVec 32 := Scalar.muli v228 c128_i32_95
  ![v286.toNat]
def k0_cond26 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t11_loop (i : grid0.Coords) (v11 : BitVec 32) (v18 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off35 (i : grid0.Coords) (v11 : BitVec 32) (v18 : BitVec 32) (k0_t11 : Fin (k0_t11_loop i v11 v18).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c0_i32_59 : BitVec 32 := 0#32
  let c1_i32_61 : BitVec 32 := 1#32
  let arg17 : BitVec 32 := Scf.iv c0_i32_59 c1_i32_61 k0_t11
  let c256_i32_95 : BitVec 32 := 256#32
  let v286 : BitVec 32 := Scalar.muli arg17 c256_i32_95
  let v287 : BitVec 32 := Scalar.addi v19 v286
  let c128_i32_96 : BitVec 32 := 128#32
  let v288 : BitVec 32 := Scalar.muli v287 c128_i32_96
  ![v288.toNat]
@[reducible] def k0_t12_loop (i : grid0.Coords) (v11 : BitVec 32) (v18 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off36 (i : grid0.Coords) (v11 : BitVec 32) (v18 : BitVec 32) (k0_t12 : Fin (k0_t12_loop i v11 v18).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c0_i32_59 : BitVec 32 := 0#32
  let c1024_i32_0 : BitVec 32 := 1024#32
  let v3 : BitVec 32 := Scalar.addi v2 c1024_i32_0
  let v20 : BitVec 32 := Scalar.minsi v18 v3
  let v138 : BitVec 32 := Scalar.subi v20 v19
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t12
  let c256_i32_95 : BitVec 32 := 256#32
  let v286 : BitVec 32 := Scalar.muli arg17 c256_i32_95
  let v287 : BitVec 32 := Scalar.addi v19 v286
  let c128_i32_96 : BitVec 32 := 128#32
  let v288 : BitVec 32 := Scalar.muli v287 c128_i32_96
  ![v288.toNat]
def k0_off37 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m256_i32_63 : BitVec 32 := 4294967040#32
  let v238 : BitVec 32 := Scalar.andi v138 c_m256_i32_63
  let v239 : BitVec 32 := Scalar.addi v19 v238
  let c128_i32_95 : BitVec 32 := 128#32
  let v286 : BitVec 32 := Scalar.muli v239 c128_i32_95
  ![v286.toNat]
def k0_cond27 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off38 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m128_i32_67 : BitVec 32 := 4294967168#32
  let v244 : BitVec 32 := Scalar.andi v138 c_m128_i32_67
  let v245 : BitVec 32 := Scalar.addi v19 v244
  let c128_i32_95 : BitVec 32 := 128#32
  let v286 : BitVec 32 := Scalar.muli v245 c128_i32_95
  ![v286.toNat]
def k0_cond28 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off39 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m64_i32_71 : BitVec 32 := 4294967232#32
  let v250 : BitVec 32 := Scalar.andi v138 c_m64_i32_71
  let v251 : BitVec 32 := Scalar.addi v19 v250
  let c128_i32_95 : BitVec 32 := 128#32
  let v286 : BitVec 32 := Scalar.muli v251 c128_i32_95
  ![v286.toNat]
def k0_cond29 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off40 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m32_i32_75 : BitVec 32 := 4294967264#32
  let v256 : BitVec 32 := Scalar.andi v138 c_m32_i32_75
  let v257 : BitVec 32 := Scalar.addi v19 v256
  let c128_i32_95 : BitVec 32 := 128#32
  let v286 : BitVec 32 := Scalar.muli v257 c128_i32_95
  ![v286.toNat]
def k0_cond30 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off41 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m16_i32_79 : BitVec 32 := 4294967280#32
  let v262 : BitVec 32 := Scalar.andi v138 c_m16_i32_79
  let v263 : BitVec 32 := Scalar.addi v19 v262
  let c128_i32_95 : BitVec 32 := 128#32
  let v286 : BitVec 32 := Scalar.muli v263 c128_i32_95
  ![v286.toNat]
def k0_cond31 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off42 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m8_i32_83 : BitVec 32 := 4294967288#32
  let v268 : BitVec 32 := Scalar.andi v138 c_m8_i32_83
  let v269 : BitVec 32 := Scalar.addi v19 v268
  let c128_i32_95 : BitVec 32 := 128#32
  let v286 : BitVec 32 := Scalar.muli v269 c128_i32_95
  ![v286.toNat]
def k0_cond32 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off43 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m4_i32_87 : BitVec 32 := 4294967292#32
  let v274 : BitVec 32 := Scalar.andi v138 c_m4_i32_87
  let v275 : BitVec 32 := Scalar.addi v19 v274
  let c128_i32_95 : BitVec 32 := 128#32
  let v286 : BitVec 32 := Scalar.muli v275 c128_i32_95
  ![v286.toNat]
def k0_cond33 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off44 (i : grid0.Coords) (v11 : BitVec 32) (v18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v19 : BitVec 32 := Scalar.maxsi v11 v2
  let c1024_i32_0 : BitVec 32 := 1024#32
  let v3 : BitVec 32 := Scalar.addi v2 c1024_i32_0
  let v20 : BitVec 32 := Scalar.minsi v18 v3
  let v138 : BitVec 32 := Scalar.subi v20 v19
  let c_m2_i32_91 : BitVec 32 := 4294967294#32
  let v280 : BitVec 32 := Scalar.andi v138 c_m2_i32_91
  let v281 : BitVec 32 := Scalar.addi v19 v280
  let c128_i32_95 : BitVec 32 := 128#32
  let v286 : BitVec 32 := Scalar.muli v281 c128_i32_95
  ![v286.toNat]
def k0_cond34 (i : grid0.Coords) (v11 : BitVec 32) (v18 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v20 : BitVec 32 := Scalar.minsi v18 v3
  let v19 : BitVec 32 := Scalar.maxsi v11 v2
  let v138 : BitVec 32 := Scalar.subi v20 v19
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk2 (i : grid0.Coords) (v11 : BitVec 32) (v18 : BitVec 32) : Prop :=
  (∀ (k0_h18 : k0_cond18 i v11 v18 = 1#1), (k0_t7_loop i v11 v18).OK) ∧
  (∀ k0_t7 : Fin (k0_t7_loop i v11 v18).trips, ∀ (k0_h18 : k0_cond18 i v11 v18 = 1#1), ∀ (r : Fin 16), ∀ a, (k0_off23 i v11 v18 k0_t7 (BitVec.ofNat 32 (16 * r.val))) a + S16.size a ≤ S32768.size a) ∧
  (∀ (k0_h18 : k0_cond18 i v11 v18 = 1#1), (k0_t8_loop i v11 v18).OK) ∧
  (∀ k0_t8 : Fin (k0_t8_loop i v11 v18).trips, ∀ (k0_h18 : k0_cond18 i v11 v18 = 1#1), ∀ (r : Fin 16), ∀ a, (k0_off24 i v11 v18 k0_t8 (BitVec.ofNat 32 (16 * r.val))) a + S16.size a ≤ S32768.size a) ∧
  (∀ (k0_h18 : k0_cond18 i v11 v18 = 1#1), (k0_t9_loop i v11 v18).OK) ∧
  (∀ k0_t9 : Fin (k0_t9_loop i v11 v18).trips, ∀ (k0_h18 : k0_cond18 i v11 v18 = 1#1), ∀ a, (k0_off25 i v11 v18 k0_t9) a + S32768.size a ≤ S4194304.size a) ∧
  (∀ (k0_h18 : k0_cond18 i v11 v18 = 1#1), (k0_t10_loop i v11 v18).OK) ∧
  (∀ k0_t10 : Fin (k0_t10_loop i v11 v18).trips, ∀ (k0_h18 : k0_cond18 i v11 v18 = 1#1), ∀ a, (k0_off26 i v11 v18 k0_t10) a + S32768.size a ≤ S4194304.size a) ∧
  (∀ (k0_h18 : k0_cond18 i v11 v18 = 1#1), ∀ (k0_h19 : k0_cond19 i v11 v18 = 1#1), ∀ a, (k0_off27 i v11 v18) a + S16384.size a ≤ S4194304.size a) ∧
  (∀ (k0_h18 : k0_cond18 i v11 v18 = 1#1), ∀ (k0_h20 : k0_cond20 i v11 v18 = 1#1), ∀ a, (k0_off28 i v11 v18) a + S8192.size a ≤ S4194304.size a) ∧
  (∀ (k0_h18 : k0_cond18 i v11 v18 = 1#1), ∀ (k0_h21 : k0_cond21 i v11 v18 = 1#1), ∀ a, (k0_off29 i v11 v18) a + S4096.size a ≤ S4194304.size a) ∧
  (∀ (k0_h18 : k0_cond18 i v11 v18 = 1#1), ∀ (k0_h22 : k0_cond22 i v11 v18 = 1#1), ∀ a, (k0_off30 i v11 v18) a + S2048.size a ≤ S4194304.size a) ∧
  (∀ (k0_h18 : k0_cond18 i v11 v18 = 1#1), ∀ (k0_h23 : k0_cond23 i v11 v18 = 1#1), ∀ a, (k0_off31 i v11 v18) a + S1024.size a ≤ S4194304.size a) ∧
  (∀ (k0_h18 : k0_cond18 i v11 v18 = 1#1), ∀ (k0_h24 : k0_cond24 i v11 v18 = 1#1), ∀ a, (k0_off32 i v11 v18) a + S512.size a ≤ S4194304.size a) ∧
  (∀ (k0_h18 : k0_cond18 i v11 v18 = 1#1), ∀ (k0_h25 : k0_cond25 i v11 v18 = 1#1), ∀ a, (k0_off33 i v11 v18) a + S256.size a ≤ S4194304.size a) ∧
  (∀ (k0_h18 : k0_cond18 i v11 v18 = 1#1), ∀ (k0_h26 : k0_cond26 i v11 v18 = 1#1), ∀ a, (k0_off34 i v11 v18) a + S128.size a ≤ S4194304.size a) ∧
  (∀ (k0_h18 : k0_cond18 i v11 v18 = 1#1), (k0_t11_loop i v11 v18).OK) ∧
  (∀ k0_t11 : Fin (k0_t11_loop i v11 v18).trips, ∀ (k0_h18 : k0_cond18 i v11 v18 = 1#1), ∀ a, (k0_off35 i v11 v18 k0_t11) a + S32768.size a ≤ S4194304.size a) ∧
  (∀ (k0_h18 : k0_cond18 i v11 v18 = 1#1), (k0_t12_loop i v11 v18).OK) ∧
  (∀ k0_t12 : Fin (k0_t12_loop i v11 v18).trips, ∀ (k0_h18 : k0_cond18 i v11 v18 = 1#1), ∀ a, (k0_off36 i v11 v18 k0_t12) a + S32768.size a ≤ S4194304.size a) ∧
  (∀ (k0_h18 : k0_cond18 i v11 v18 = 1#1), ∀ (k0_h27 : k0_cond27 i v11 v18 = 1#1), ∀ a, (k0_off37 i v11 v18) a + S16384.size a ≤ S4194304.size a) ∧
  (∀ (k0_h18 : k0_cond18 i v11 v18 = 1#1), ∀ (k0_h28 : k0_cond28 i v11 v18 = 1#1), ∀ a, (k0_off38 i v11 v18) a + S8192.size a ≤ S4194304.size a) ∧
  (∀ (k0_h18 : k0_cond18 i v11 v18 = 1#1), ∀ (k0_h29 : k0_cond29 i v11 v18 = 1#1), ∀ a, (k0_off39 i v11 v18) a + S4096.size a ≤ S4194304.size a) ∧
  (∀ (k0_h18 : k0_cond18 i v11 v18 = 1#1), ∀ (k0_h30 : k0_cond30 i v11 v18 = 1#1), ∀ a, (k0_off40 i v11 v18) a + S2048.size a ≤ S4194304.size a) ∧
  (∀ (k0_h18 : k0_cond18 i v11 v18 = 1#1), ∀ (k0_h31 : k0_cond31 i v11 v18 = 1#1), ∀ a, (k0_off41 i v11 v18) a + S1024.size a ≤ S4194304.size a) ∧
  (∀ (k0_h18 : k0_cond18 i v11 v18 = 1#1), ∀ (k0_h32 : k0_cond32 i v11 v18 = 1#1), ∀ a, (k0_off42 i v11 v18) a + S512.size a ≤ S4194304.size a) ∧
  (∀ (k0_h18 : k0_cond18 i v11 v18 = 1#1), ∀ (k0_h33 : k0_cond33 i v11 v18 = 1#1), ∀ a, (k0_off43 i v11 v18) a + S256.size a ≤ S4194304.size a) ∧
  (∀ (k0_h18 : k0_cond18 i v11 v18 = 1#1), ∀ (k0_h34 : k0_cond34 i v11 v18 = 1#1), ∀ a, (k0_off44 i v11 v18) a + S128.size a ≤ S4194304.size a)
theorem k0_t7_ok : ∀ (i : grid0.Coords) (v11 : BitVec 32) (v18 : BitVec 32) (k0_hw2 : k0_chk2 i v11 v18), ∀ (k0_h18 : k0_cond18 i v11 v18 = 1#1), (k0_t7_loop i v11 v18).OK := fun i v11 v18 k0_hw2 k0_h18 => k0_hw2.1 k0_h18
theorem k0_off23_inb : ∀ (i : grid0.Coords) (v11 : BitVec 32) (v18 : BitVec 32) (k0_hw2 : k0_chk2 i v11 v18) (k0_t7 : Fin (k0_t7_loop i v11 v18).trips), ∀ (k0_h18 : k0_cond18 i v11 v18 = 1#1), ∀ (r : Fin 16), ∀ a, (k0_off23 i v11 v18 k0_t7 (BitVec.ofNat 32 (16 * r.val))) a + S16.size a ≤ S32768.size a := fun i v11 v18 k0_hw2 k0_t7 k0_h18 r => k0_hw2.2.1 k0_t7 k0_h18 r
theorem k0_t8_ok : ∀ (i : grid0.Coords) (v11 : BitVec 32) (v18 : BitVec 32) (k0_hw2 : k0_chk2 i v11 v18), ∀ (k0_h18 : k0_cond18 i v11 v18 = 1#1), (k0_t8_loop i v11 v18).OK := fun i v11 v18 k0_hw2 k0_h18 => k0_hw2.2.2.1 k0_h18
theorem k0_off24_inb : ∀ (i : grid0.Coords) (v11 : BitVec 32) (v18 : BitVec 32) (k0_hw2 : k0_chk2 i v11 v18) (k0_t8 : Fin (k0_t8_loop i v11 v18).trips), ∀ (k0_h18 : k0_cond18 i v11 v18 = 1#1), ∀ (r : Fin 16), ∀ a, (k0_off24 i v11 v18 k0_t8 (BitVec.ofNat 32 (16 * r.val))) a + S16.size a ≤ S32768.size a := fun i v11 v18 k0_hw2 k0_t8 k0_h18 r => k0_hw2.2.2.2.1 k0_t8 k0_h18 r
theorem k0_t9_ok : ∀ (i : grid0.Coords) (v11 : BitVec 32) (v18 : BitVec 32) (k0_hw2 : k0_chk2 i v11 v18), ∀ (k0_h18 : k0_cond18 i v11 v18 = 1#1), (k0_t9_loop i v11 v18).OK := fun i v11 v18 k0_hw2 k0_h18 => k0_hw2.2.2.2.2.1 k0_h18
theorem k0_off25_inb : ∀ (i : grid0.Coords) (v11 : BitVec 32) (v18 : BitVec 32) (k0_hw2 : k0_chk2 i v11 v18) (k0_t9 : Fin (k0_t9_loop i v11 v18).trips), ∀ (k0_h18 : k0_cond18 i v11 v18 = 1#1), ∀ a, (k0_off25 i v11 v18 k0_t9) a + S32768.size a ≤ S4194304.size a := fun i v11 v18 k0_hw2 k0_t9 k0_h18 => k0_hw2.2.2.2.2.2.1 k0_t9 k0_h18
theorem k0_t10_ok : ∀ (i : grid0.Coords) (v11 : BitVec 32) (v18 : BitVec 32) (k0_hw2 : k0_chk2 i v11 v18), ∀ (k0_h18 : k0_cond18 i v11 v18 = 1#1), (k0_t10_loop i v11 v18).OK := fun i v11 v18 k0_hw2 k0_h18 => k0_hw2.2.2.2.2.2.2.1 k0_h18
theorem k0_off26_inb : ∀ (i : grid0.Coords) (v11 : BitVec 32) (v18 : BitVec 32) (k0_hw2 : k0_chk2 i v11 v18) (k0_t10 : Fin (k0_t10_loop i v11 v18).trips), ∀ (k0_h18 : k0_cond18 i v11 v18 = 1#1), ∀ a, (k0_off26 i v11 v18 k0_t10) a + S32768.size a ≤ S4194304.size a := fun i v11 v18 k0_hw2 k0_t10 k0_h18 => k0_hw2.2.2.2.2.2.2.2.1 k0_t10 k0_h18
theorem k0_off27_inb : ∀ (i : grid0.Coords) (v11 : BitVec 32) (v18 : BitVec 32) (k0_hw2 : k0_chk2 i v11 v18), ∀ (k0_h18 : k0_cond18 i v11 v18 = 1#1), ∀ (k0_h19 : k0_cond19 i v11 v18 = 1#1), ∀ a, (k0_off27 i v11 v18) a + S16384.size a ≤ S4194304.size a := fun i v11 v18 k0_hw2 k0_h18 k0_h19 => k0_hw2.2.2.2.2.2.2.2.2.1 k0_h18 k0_h19
theorem k0_off28_inb : ∀ (i : grid0.Coords) (v11 : BitVec 32) (v18 : BitVec 32) (k0_hw2 : k0_chk2 i v11 v18), ∀ (k0_h18 : k0_cond18 i v11 v18 = 1#1), ∀ (k0_h20 : k0_cond20 i v11 v18 = 1#1), ∀ a, (k0_off28 i v11 v18) a + S8192.size a ≤ S4194304.size a := fun i v11 v18 k0_hw2 k0_h18 k0_h20 => k0_hw2.2.2.2.2.2.2.2.2.2.1 k0_h18 k0_h20
theorem k0_off29_inb : ∀ (i : grid0.Coords) (v11 : BitVec 32) (v18 : BitVec 32) (k0_hw2 : k0_chk2 i v11 v18), ∀ (k0_h18 : k0_cond18 i v11 v18 = 1#1), ∀ (k0_h21 : k0_cond21 i v11 v18 = 1#1), ∀ a, (k0_off29 i v11 v18) a + S4096.size a ≤ S4194304.size a := fun i v11 v18 k0_hw2 k0_h18 k0_h21 => k0_hw2.2.2.2.2.2.2.2.2.2.2.1 k0_h18 k0_h21
theorem k0_off30_inb : ∀ (i : grid0.Coords) (v11 : BitVec 32) (v18 : BitVec 32) (k0_hw2 : k0_chk2 i v11 v18), ∀ (k0_h18 : k0_cond18 i v11 v18 = 1#1), ∀ (k0_h22 : k0_cond22 i v11 v18 = 1#1), ∀ a, (k0_off30 i v11 v18) a + S2048.size a ≤ S4194304.size a := fun i v11 v18 k0_hw2 k0_h18 k0_h22 => k0_hw2.2.2.2.2.2.2.2.2.2.2.2.1 k0_h18 k0_h22
theorem k0_off31_inb : ∀ (i : grid0.Coords) (v11 : BitVec 32) (v18 : BitVec 32) (k0_hw2 : k0_chk2 i v11 v18), ∀ (k0_h18 : k0_cond18 i v11 v18 = 1#1), ∀ (k0_h23 : k0_cond23 i v11 v18 = 1#1), ∀ a, (k0_off31 i v11 v18) a + S1024.size a ≤ S4194304.size a := fun i v11 v18 k0_hw2 k0_h18 k0_h23 => k0_hw2.2.2.2.2.2.2.2.2.2.2.2.2.1 k0_h18 k0_h23
theorem k0_off32_inb : ∀ (i : grid0.Coords) (v11 : BitVec 32) (v18 : BitVec 32) (k0_hw2 : k0_chk2 i v11 v18), ∀ (k0_h18 : k0_cond18 i v11 v18 = 1#1), ∀ (k0_h24 : k0_cond24 i v11 v18 = 1#1), ∀ a, (k0_off32 i v11 v18) a + S512.size a ≤ S4194304.size a := fun i v11 v18 k0_hw2 k0_h18 k0_h24 => k0_hw2.2.2.2.2.2.2.2.2.2.2.2.2.2.1 k0_h18 k0_h24
theorem k0_off33_inb : ∀ (i : grid0.Coords) (v11 : BitVec 32) (v18 : BitVec 32) (k0_hw2 : k0_chk2 i v11 v18), ∀ (k0_h18 : k0_cond18 i v11 v18 = 1#1), ∀ (k0_h25 : k0_cond25 i v11 v18 = 1#1), ∀ a, (k0_off33 i v11 v18) a + S256.size a ≤ S4194304.size a := fun i v11 v18 k0_hw2 k0_h18 k0_h25 => k0_hw2.2.2.2.2.2.2.2.2.2.2.2.2.2.2.1 k0_h18 k0_h25
theorem k0_off34_inb : ∀ (i : grid0.Coords) (v11 : BitVec 32) (v18 : BitVec 32) (k0_hw2 : k0_chk2 i v11 v18), ∀ (k0_h18 : k0_cond18 i v11 v18 = 1#1), ∀ (k0_h26 : k0_cond26 i v11 v18 = 1#1), ∀ a, (k0_off34 i v11 v18) a + S128.size a ≤ S4194304.size a := fun i v11 v18 k0_hw2 k0_h18 k0_h26 => k0_hw2.2.2.2.2.2.2.2.2.2.2.2.2.2.2.2.1 k0_h18 k0_h26
theorem k0_t11_ok : ∀ (i : grid0.Coords) (v11 : BitVec 32) (v18 : BitVec 32) (k0_hw2 : k0_chk2 i v11 v18), ∀ (k0_h18 : k0_cond18 i v11 v18 = 1#1), (k0_t11_loop i v11 v18).OK := fun i v11 v18 k0_hw2 k0_h18 => k0_hw2.2.2.2.2.2.2.2.2.2.2.2.2.2.2.2.2.1 k0_h18
theorem k0_off35_inb : ∀ (i : grid0.Coords) (v11 : BitVec 32) (v18 : BitVec 32) (k0_hw2 : k0_chk2 i v11 v18) (k0_t11 : Fin (k0_t11_loop i v11 v18).trips), ∀ (k0_h18 : k0_cond18 i v11 v18 = 1#1), ∀ a, (k0_off35 i v11 v18 k0_t11) a + S32768.size a ≤ S4194304.size a := fun i v11 v18 k0_hw2 k0_t11 k0_h18 => k0_hw2.2.2.2.2.2.2.2.2.2.2.2.2.2.2.2.2.2.1 k0_t11 k0_h18
theorem k0_t12_ok : ∀ (i : grid0.Coords) (v11 : BitVec 32) (v18 : BitVec 32) (k0_hw2 : k0_chk2 i v11 v18), ∀ (k0_h18 : k0_cond18 i v11 v18 = 1#1), (k0_t12_loop i v11 v18).OK := fun i v11 v18 k0_hw2 k0_h18 => k0_hw2.2.2.2.2.2.2.2.2.2.2.2.2.2.2.2.2.2.2.1 k0_h18
theorem k0_off36_inb : ∀ (i : grid0.Coords) (v11 : BitVec 32) (v18 : BitVec 32) (k0_hw2 : k0_chk2 i v11 v18) (k0_t12 : Fin (k0_t12_loop i v11 v18).trips), ∀ (k0_h18 : k0_cond18 i v11 v18 = 1#1), ∀ a, (k0_off36 i v11 v18 k0_t12) a + S32768.size a ≤ S4194304.size a := fun i v11 v18 k0_hw2 k0_t12 k0_h18 => k0_hw2.2.2.2.2.2.2.2.2.2.2.2.2.2.2.2.2.2.2.2.1 k0_t12 k0_h18
theorem k0_off37_inb : ∀ (i : grid0.Coords) (v11 : BitVec 32) (v18 : BitVec 32) (k0_hw2 : k0_chk2 i v11 v18), ∀ (k0_h18 : k0_cond18 i v11 v18 = 1#1), ∀ (k0_h27 : k0_cond27 i v11 v18 = 1#1), ∀ a, (k0_off37 i v11 v18) a + S16384.size a ≤ S4194304.size a := fun i v11 v18 k0_hw2 k0_h18 k0_h27 => k0_hw2.2.2.2.2.2.2.2.2.2.2.2.2.2.2.2.2.2.2.2.2.1 k0_h18 k0_h27
theorem k0_off38_inb : ∀ (i : grid0.Coords) (v11 : BitVec 32) (v18 : BitVec 32) (k0_hw2 : k0_chk2 i v11 v18), ∀ (k0_h18 : k0_cond18 i v11 v18 = 1#1), ∀ (k0_h28 : k0_cond28 i v11 v18 = 1#1), ∀ a, (k0_off38 i v11 v18) a + S8192.size a ≤ S4194304.size a := fun i v11 v18 k0_hw2 k0_h18 k0_h28 => k0_hw2.2.2.2.2.2.2.2.2.2.2.2.2.2.2.2.2.2.2.2.2.2.1 k0_h18 k0_h28
theorem k0_off39_inb : ∀ (i : grid0.Coords) (v11 : BitVec 32) (v18 : BitVec 32) (k0_hw2 : k0_chk2 i v11 v18), ∀ (k0_h18 : k0_cond18 i v11 v18 = 1#1), ∀ (k0_h29 : k0_cond29 i v11 v18 = 1#1), ∀ a, (k0_off39 i v11 v18) a + S4096.size a ≤ S4194304.size a := fun i v11 v18 k0_hw2 k0_h18 k0_h29 => k0_hw2.2.2.2.2.2.2.2.2.2.2.2.2.2.2.2.2.2.2.2.2.2.2.1 k0_h18 k0_h29
theorem k0_off40_inb : ∀ (i : grid0.Coords) (v11 : BitVec 32) (v18 : BitVec 32) (k0_hw2 : k0_chk2 i v11 v18), ∀ (k0_h18 : k0_cond18 i v11 v18 = 1#1), ∀ (k0_h30 : k0_cond30 i v11 v18 = 1#1), ∀ a, (k0_off40 i v11 v18) a + S2048.size a ≤ S4194304.size a := fun i v11 v18 k0_hw2 k0_h18 k0_h30 => k0_hw2.2.2.2.2.2.2.2.2.2.2.2.2.2.2.2.2.2.2.2.2.2.2.2.1 k0_h18 k0_h30
theorem k0_off41_inb : ∀ (i : grid0.Coords) (v11 : BitVec 32) (v18 : BitVec 32) (k0_hw2 : k0_chk2 i v11 v18), ∀ (k0_h18 : k0_cond18 i v11 v18 = 1#1), ∀ (k0_h31 : k0_cond31 i v11 v18 = 1#1), ∀ a, (k0_off41 i v11 v18) a + S1024.size a ≤ S4194304.size a := fun i v11 v18 k0_hw2 k0_h18 k0_h31 => k0_hw2.2.2.2.2.2.2.2.2.2.2.2.2.2.2.2.2.2.2.2.2.2.2.2.2.1 k0_h18 k0_h31
theorem k0_off42_inb : ∀ (i : grid0.Coords) (v11 : BitVec 32) (v18 : BitVec 32) (k0_hw2 : k0_chk2 i v11 v18), ∀ (k0_h18 : k0_cond18 i v11 v18 = 1#1), ∀ (k0_h32 : k0_cond32 i v11 v18 = 1#1), ∀ a, (k0_off42 i v11 v18) a + S512.size a ≤ S4194304.size a := fun i v11 v18 k0_hw2 k0_h18 k0_h32 => k0_hw2.2.2.2.2.2.2.2.2.2.2.2.2.2.2.2.2.2.2.2.2.2.2.2.2.2.1 k0_h18 k0_h32
theorem k0_off43_inb : ∀ (i : grid0.Coords) (v11 : BitVec 32) (v18 : BitVec 32) (k0_hw2 : k0_chk2 i v11 v18), ∀ (k0_h18 : k0_cond18 i v11 v18 = 1#1), ∀ (k0_h33 : k0_cond33 i v11 v18 = 1#1), ∀ a, (k0_off43 i v11 v18) a + S256.size a ≤ S4194304.size a := fun i v11 v18 k0_hw2 k0_h18 k0_h33 => k0_hw2.2.2.2.2.2.2.2.2.2.2.2.2.2.2.2.2.2.2.2.2.2.2.2.2.2.2.1 k0_h18 k0_h33
theorem k0_off44_inb : ∀ (i : grid0.Coords) (v11 : BitVec 32) (v18 : BitVec 32) (k0_hw2 : k0_chk2 i v11 v18), ∀ (k0_h18 : k0_cond18 i v11 v18 = 1#1), ∀ (k0_h34 : k0_cond34 i v11 v18 = 1#1), ∀ a, (k0_off44 i v11 v18) a + S128.size a ≤ S4194304.size a := fun i v11 v18 k0_hw2 k0_h18 k0_h34 => k0_hw2.2.2.2.2.2.2.2.2.2.2.2.2.2.2.2.2.2.2.2.2.2.2.2.2.2.2.2 k0_h18 k0_h34

@[reducible] def k0_t13_loop (i : grid0.Coords) (v18 : BitVec 32) (v25 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond35 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v28 : BitVec 1 := Scalar.cmpi .sgt v27 v26
  let v29 : BitVec 32 := Scalar.extui v28
  let c0_i32_2 : BitVec 32 := 0#32
  let v30 : BitVec 1 := Scalar.cmpi .ne v29 c0_i32_2
  v30

def k0_off45 (i : grid0.Coords) (v18 : BitVec 32) (v25 : BitVec 32) (k0_t13 : Fin (k0_t13_loop i v18 v25).trips) (c0_i32_97 : BitVec 32) : Fin 1 → Nat :=
  let c0_i32_24 : BitVec 32 := 0#32
  let c1_i32_26 : BitVec 32 := 1#32
  let arg17 : BitVec 32 := Scf.iv c0_i32_24 c1_i32_26 k0_t13
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t14_loop (i : grid0.Coords) (v18 : BitVec 32) (v25 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off46 (i : grid0.Coords) (v18 : BitVec 32) (v25 : BitVec 32) (k0_t14 : Fin (k0_t14_loop i v18 v25).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t14
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t15_loop (i : grid0.Coords) (v18 : BitVec 32) (v25 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off47 (i : grid0.Coords) (v18 : BitVec 32) (v25 : BitVec 32) (k0_t15 : Fin (k0_t15_loop i v18 v25).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c0_i32_35 : BitVec 32 := 0#32
  let c1_i32_37 : BitVec 32 := 1#32
  let arg17 : BitVec 32 := Scf.iv c0_i32_35 c1_i32_37 k0_t15
  let c256_i32_95 : BitVec 32 := 256#32
  let v286 : BitVec 32 := Scalar.muli arg17 c256_i32_95
  let v287 : BitVec 32 := Scalar.addi v26 v286
  let c128_i32_96 : BitVec 32 := 128#32
  let v288 : BitVec 32 := Scalar.muli v287 c128_i32_96
  ![v288.toNat]
@[reducible] def k0_t16_loop (i : grid0.Coords) (v18 : BitVec 32) (v25 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off48 (i : grid0.Coords) (v18 : BitVec 32) (v25 : BitVec 32) (k0_t16 : Fin (k0_t16_loop i v18 v25).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c0_i32_35 : BitVec 32 := 0#32
  let c1024_i32_0 : BitVec 32 := 1024#32
  let v3 : BitVec 32 := Scalar.addi v2 c1024_i32_0
  let v27 : BitVec 32 := Scalar.minsi v25 v3
  let v138 : BitVec 32 := Scalar.subi v27 v26
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t16
  let c256_i32_95 : BitVec 32 := 256#32
  let v286 : BitVec 32 := Scalar.muli arg17 c256_i32_95
  let v287 : BitVec 32 := Scalar.addi v26 v286
  let c128_i32_96 : BitVec 32 := 128#32
  let v288 : BitVec 32 := Scalar.muli v287 c128_i32_96
  ![v288.toNat]
def k0_off49 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m256_i32 : BitVec 32 := 4294967040#32
  let v185 : BitVec 32 := Scalar.andi v138 c_m256_i32
  let v186 : BitVec 32 := Scalar.addi v26 v185
  let c128_i32_95 : BitVec 32 := 128#32
  let v286 : BitVec 32 := Scalar.muli v186 c128_i32_95
  ![v286.toNat]
def k0_cond36 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off50 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m128_i32 : BitVec 32 := 4294967168#32
  let v191 : BitVec 32 := Scalar.andi v138 c_m128_i32
  let v192 : BitVec 32 := Scalar.addi v26 v191
  let c128_i32_95 : BitVec 32 := 128#32
  let v286 : BitVec 32 := Scalar.muli v192 c128_i32_95
  ![v286.toNat]
def k0_cond37 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off51 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m64_i32 : BitVec 32 := 4294967232#32
  let v197 : BitVec 32 := Scalar.andi v138 c_m64_i32
  let v198 : BitVec 32 := Scalar.addi v26 v197
  let c128_i32_95 : BitVec 32 := 128#32
  let v286 : BitVec 32 := Scalar.muli v198 c128_i32_95
  ![v286.toNat]
def k0_cond38 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off52 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m32_i32 : BitVec 32 := 4294967264#32
  let v203 : BitVec 32 := Scalar.andi v138 c_m32_i32
  let v204 : BitVec 32 := Scalar.addi v26 v203
  let c128_i32_95 : BitVec 32 := 128#32
  let v286 : BitVec 32 := Scalar.muli v204 c128_i32_95
  ![v286.toNat]
def k0_cond39 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off53 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m16_i32 : BitVec 32 := 4294967280#32
  let v209 : BitVec 32 := Scalar.andi v138 c_m16_i32
  let v210 : BitVec 32 := Scalar.addi v26 v209
  let c128_i32_95 : BitVec 32 := 128#32
  let v286 : BitVec 32 := Scalar.muli v210 c128_i32_95
  ![v286.toNat]
def k0_cond40 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off54 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m8_i32 : BitVec 32 := 4294967288#32
  let v215 : BitVec 32 := Scalar.andi v138 c_m8_i32
  let v216 : BitVec 32 := Scalar.addi v26 v215
  let c128_i32_95 : BitVec 32 := 128#32
  let v286 : BitVec 32 := Scalar.muli v216 c128_i32_95
  ![v286.toNat]
def k0_cond41 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off55 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m4_i32 : BitVec 32 := 4294967292#32
  let v221 : BitVec 32 := Scalar.andi v138 c_m4_i32
  let v222 : BitVec 32 := Scalar.addi v26 v221
  let c128_i32_95 : BitVec 32 := 128#32
  let v286 : BitVec 32 := Scalar.muli v222 c128_i32_95
  ![v286.toNat]
def k0_cond42 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off56 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m2_i32 : BitVec 32 := 4294967294#32
  let v227 : BitVec 32 := Scalar.andi v138 c_m2_i32
  let v228 : BitVec 32 := Scalar.addi v26 v227
  let c128_i32_95 : BitVec 32 := 128#32
  let v286 : BitVec 32 := Scalar.muli v228 c128_i32_95
  ![v286.toNat]
def k0_cond43 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t17_loop (i : grid0.Coords) (v18 : BitVec 32) (v25 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off57 (i : grid0.Coords) (v18 : BitVec 32) (v25 : BitVec 32) (k0_t17 : Fin (k0_t17_loop i v18 v25).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c0_i32_59 : BitVec 32 := 0#32
  let c1_i32_61 : BitVec 32 := 1#32
  let arg17 : BitVec 32 := Scf.iv c0_i32_59 c1_i32_61 k0_t17
  let c256_i32_95 : BitVec 32 := 256#32
  let v286 : BitVec 32 := Scalar.muli arg17 c256_i32_95
  let v287 : BitVec 32 := Scalar.addi v26 v286
  let c128_i32_96 : BitVec 32 := 128#32
  let v288 : BitVec 32 := Scalar.muli v287 c128_i32_96
  ![v288.toNat]
@[reducible] def k0_t18_loop (i : grid0.Coords) (v18 : BitVec 32) (v25 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off58 (i : grid0.Coords) (v18 : BitVec 32) (v25 : BitVec 32) (k0_t18 : Fin (k0_t18_loop i v18 v25).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c0_i32_59 : BitVec 32 := 0#32
  let c1024_i32_0 : BitVec 32 := 1024#32
  let v3 : BitVec 32 := Scalar.addi v2 c1024_i32_0
  let v27 : BitVec 32 := Scalar.minsi v25 v3
  let v138 : BitVec 32 := Scalar.subi v27 v26
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t18
  let c256_i32_95 : BitVec 32 := 256#32
  let v286 : BitVec 32 := Scalar.muli arg17 c256_i32_95
  let v287 : BitVec 32 := Scalar.addi v26 v286
  let c128_i32_96 : BitVec 32 := 128#32
  let v288 : BitVec 32 := Scalar.muli v287 c128_i32_96
  ![v288.toNat]
def k0_off59 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m256_i32_63 : BitVec 32 := 4294967040#32
  let v238 : BitVec 32 := Scalar.andi v138 c_m256_i32_63
  let v239 : BitVec 32 := Scalar.addi v26 v238
  let c128_i32_95 : BitVec 32 := 128#32
  let v286 : BitVec 32 := Scalar.muli v239 c128_i32_95
  ![v286.toNat]
def k0_cond44 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off60 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m128_i32_67 : BitVec 32 := 4294967168#32
  let v244 : BitVec 32 := Scalar.andi v138 c_m128_i32_67
  let v245 : BitVec 32 := Scalar.addi v26 v244
  let c128_i32_95 : BitVec 32 := 128#32
  let v286 : BitVec 32 := Scalar.muli v245 c128_i32_95
  ![v286.toNat]
def k0_cond45 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off61 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m64_i32_71 : BitVec 32 := 4294967232#32
  let v250 : BitVec 32 := Scalar.andi v138 c_m64_i32_71
  let v251 : BitVec 32 := Scalar.addi v26 v250
  let c128_i32_95 : BitVec 32 := 128#32
  let v286 : BitVec 32 := Scalar.muli v251 c128_i32_95
  ![v286.toNat]
def k0_cond46 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off62 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m32_i32_75 : BitVec 32 := 4294967264#32
  let v256 : BitVec 32 := Scalar.andi v138 c_m32_i32_75
  let v257 : BitVec 32 := Scalar.addi v26 v256
  let c128_i32_95 : BitVec 32 := 128#32
  let v286 : BitVec 32 := Scalar.muli v257 c128_i32_95
  ![v286.toNat]
def k0_cond47 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off63 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m16_i32_79 : BitVec 32 := 4294967280#32
  let v262 : BitVec 32 := Scalar.andi v138 c_m16_i32_79
  let v263 : BitVec 32 := Scalar.addi v26 v262
  let c128_i32_95 : BitVec 32 := 128#32
  let v286 : BitVec 32 := Scalar.muli v263 c128_i32_95
  ![v286.toNat]
def k0_cond48 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off64 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m8_i32_83 : BitVec 32 := 4294967288#32
  let v268 : BitVec 32 := Scalar.andi v138 c_m8_i32_83
  let v269 : BitVec 32 := Scalar.addi v26 v268
  let c128_i32_95 : BitVec 32 := 128#32
  let v286 : BitVec 32 := Scalar.muli v269 c128_i32_95
  ![v286.toNat]
def k0_cond49 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off65 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m4_i32_87 : BitVec 32 := 4294967292#32
  let v274 : BitVec 32 := Scalar.andi v138 c_m4_i32_87
  let v275 : BitVec 32 := Scalar.addi v26 v274
  let c128_i32_95 : BitVec 32 := 128#32
  let v286 : BitVec 32 := Scalar.muli v275 c128_i32_95
  ![v286.toNat]
def k0_cond50 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off66 (i : grid0.Coords) (v18 : BitVec 32) (v25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v26 : BitVec 32 := Scalar.maxsi v18 v2
  let c1024_i32_0 : BitVec 32 := 1024#32
  let v3 : BitVec 32 := Scalar.addi v2 c1024_i32_0
  let v27 : BitVec 32 := Scalar.minsi v25 v3
  let v138 : BitVec 32 := Scalar.subi v27 v26
  let c_m2_i32_91 : BitVec 32 := 4294967294#32
  let v280 : BitVec 32 := Scalar.andi v138 c_m2_i32_91
  let v281 : BitVec 32 := Scalar.addi v26 v280
  let c128_i32_95 : BitVec 32 := 128#32
  let v286 : BitVec 32 := Scalar.muli v281 c128_i32_95
  ![v286.toNat]
def k0_cond51 (i : grid0.Coords) (v18 : BitVec 32) (v25 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v27 : BitVec 32 := Scalar.minsi v25 v3
  let v26 : BitVec 32 := Scalar.maxsi v18 v2
  let v138 : BitVec 32 := Scalar.subi v27 v26
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk3 (i : grid0.Coords) (v18 : BitVec 32) (v25 : BitVec 32) : Prop :=
  (∀ (k0_h35 : k0_cond35 i v18 v25 = 1#1), (k0_t13_loop i v18 v25).OK) ∧
  (∀ k0_t13 : Fin (k0_t13_loop i v18 v25).trips, ∀ (k0_h35 : k0_cond35 i v18 v25 = 1#1), ∀ (r : Fin 16), ∀ a, (k0_off45 i v18 v25 k0_t13 (BitVec.ofNat 32 (16 * r.val))) a + S16.size a ≤ S32768.size a) ∧
  (∀ (k0_h35 : k0_cond35 i v18 v25 = 1#1), (k0_t14_loop i v18 v25).OK) ∧
  (∀ k0_t14 : Fin (k0_t14_loop i v18 v25).trips, ∀ (k0_h35 : k0_cond35 i v18 v25 = 1#1), ∀ (r : Fin 16), ∀ a, (k0_off46 i v18 v25 k0_t14 (BitVec.ofNat 32 (16 * r.val))) a + S16.size a ≤ S32768.size a) ∧
  (∀ (k0_h35 : k0_cond35 i v18 v25 = 1#1), (k0_t15_loop i v18 v25).OK) ∧
  (∀ k0_t15 : Fin (k0_t15_loop i v18 v25).trips, ∀ (k0_h35 : k0_cond35 i v18 v25 = 1#1), ∀ a, (k0_off47 i v18 v25 k0_t15) a + S32768.size a ≤ S4194304.size a) ∧
  (∀ (k0_h35 : k0_cond35 i v18 v25 = 1#1), (k0_t16_loop i v18 v25).OK) ∧
  (∀ k0_t16 : Fin (k0_t16_loop i v18 v25).trips, ∀ (k0_h35 : k0_cond35 i v18 v25 = 1#1), ∀ a, (k0_off48 i v18 v25 k0_t16) a + S32768.size a ≤ S4194304.size a) ∧
  (∀ (k0_h35 : k0_cond35 i v18 v25 = 1#1), ∀ (k0_h36 : k0_cond36 i v18 v25 = 1#1), ∀ a, (k0_off49 i v18 v25) a + S16384.size a ≤ S4194304.size a) ∧
  (∀ (k0_h35 : k0_cond35 i v18 v25 = 1#1), ∀ (k0_h37 : k0_cond37 i v18 v25 = 1#1), ∀ a, (k0_off50 i v18 v25) a + S8192.size a ≤ S4194304.size a) ∧
  (∀ (k0_h35 : k0_cond35 i v18 v25 = 1#1), ∀ (k0_h38 : k0_cond38 i v18 v25 = 1#1), ∀ a, (k0_off51 i v18 v25) a + S4096.size a ≤ S4194304.size a) ∧
  (∀ (k0_h35 : k0_cond35 i v18 v25 = 1#1), ∀ (k0_h39 : k0_cond39 i v18 v25 = 1#1), ∀ a, (k0_off52 i v18 v25) a + S2048.size a ≤ S4194304.size a) ∧
  (∀ (k0_h35 : k0_cond35 i v18 v25 = 1#1), ∀ (k0_h40 : k0_cond40 i v18 v25 = 1#1), ∀ a, (k0_off53 i v18 v25) a + S1024.size a ≤ S4194304.size a) ∧
  (∀ (k0_h35 : k0_cond35 i v18 v25 = 1#1), ∀ (k0_h41 : k0_cond41 i v18 v25 = 1#1), ∀ a, (k0_off54 i v18 v25) a + S512.size a ≤ S4194304.size a) ∧
  (∀ (k0_h35 : k0_cond35 i v18 v25 = 1#1), ∀ (k0_h42 : k0_cond42 i v18 v25 = 1#1), ∀ a, (k0_off55 i v18 v25) a + S256.size a ≤ S4194304.size a) ∧
  (∀ (k0_h35 : k0_cond35 i v18 v25 = 1#1), ∀ (k0_h43 : k0_cond43 i v18 v25 = 1#1), ∀ a, (k0_off56 i v18 v25) a + S128.size a ≤ S4194304.size a) ∧
  (∀ (k0_h35 : k0_cond35 i v18 v25 = 1#1), (k0_t17_loop i v18 v25).OK) ∧
  (∀ k0_t17 : Fin (k0_t17_loop i v18 v25).trips, ∀ (k0_h35 : k0_cond35 i v18 v25 = 1#1), ∀ a, (k0_off57 i v18 v25 k0_t17) a + S32768.size a ≤ S4194304.size a) ∧
  (∀ (k0_h35 : k0_cond35 i v18 v25 = 1#1), (k0_t18_loop i v18 v25).OK) ∧
  (∀ k0_t18 : Fin (k0_t18_loop i v18 v25).trips, ∀ (k0_h35 : k0_cond35 i v18 v25 = 1#1), ∀ a, (k0_off58 i v18 v25 k0_t18) a + S32768.size a ≤ S4194304.size a) ∧
  (∀ (k0_h35 : k0_cond35 i v18 v25 = 1#1), ∀ (k0_h44 : k0_cond44 i v18 v25 = 1#1), ∀ a, (k0_off59 i v18 v25) a + S16384.size a ≤ S4194304.size a) ∧
  (∀ (k0_h35 : k0_cond35 i v18 v25 = 1#1), ∀ (k0_h45 : k0_cond45 i v18 v25 = 1#1), ∀ a, (k0_off60 i v18 v25) a + S8192.size a ≤ S4194304.size a) ∧
  (∀ (k0_h35 : k0_cond35 i v18 v25 = 1#1), ∀ (k0_h46 : k0_cond46 i v18 v25 = 1#1), ∀ a, (k0_off61 i v18 v25) a + S4096.size a ≤ S4194304.size a) ∧
  (∀ (k0_h35 : k0_cond35 i v18 v25 = 1#1), ∀ (k0_h47 : k0_cond47 i v18 v25 = 1#1), ∀ a, (k0_off62 i v18 v25) a + S2048.size a ≤ S4194304.size a) ∧
  (∀ (k0_h35 : k0_cond35 i v18 v25 = 1#1), ∀ (k0_h48 : k0_cond48 i v18 v25 = 1#1), ∀ a, (k0_off63 i v18 v25) a + S1024.size a ≤ S4194304.size a) ∧
  (∀ (k0_h35 : k0_cond35 i v18 v25 = 1#1), ∀ (k0_h49 : k0_cond49 i v18 v25 = 1#1), ∀ a, (k0_off64 i v18 v25) a + S512.size a ≤ S4194304.size a) ∧
  (∀ (k0_h35 : k0_cond35 i v18 v25 = 1#1), ∀ (k0_h50 : k0_cond50 i v18 v25 = 1#1), ∀ a, (k0_off65 i v18 v25) a + S256.size a ≤ S4194304.size a) ∧
  (∀ (k0_h35 : k0_cond35 i v18 v25 = 1#1), ∀ (k0_h51 : k0_cond51 i v18 v25 = 1#1), ∀ a, (k0_off66 i v18 v25) a + S128.size a ≤ S4194304.size a)
theorem k0_t13_ok : ∀ (i : grid0.Coords) (v18 : BitVec 32) (v25 : BitVec 32) (k0_hw3 : k0_chk3 i v18 v25), ∀ (k0_h35 : k0_cond35 i v18 v25 = 1#1), (k0_t13_loop i v18 v25).OK := fun i v18 v25 k0_hw3 k0_h35 => k0_hw3.1 k0_h35
theorem k0_off45_inb : ∀ (i : grid0.Coords) (v18 : BitVec 32) (v25 : BitVec 32) (k0_hw3 : k0_chk3 i v18 v25) (k0_t13 : Fin (k0_t13_loop i v18 v25).trips), ∀ (k0_h35 : k0_cond35 i v18 v25 = 1#1), ∀ (r : Fin 16), ∀ a, (k0_off45 i v18 v25 k0_t13 (BitVec.ofNat 32 (16 * r.val))) a + S16.size a ≤ S32768.size a := fun i v18 v25 k0_hw3 k0_t13 k0_h35 r => k0_hw3.2.1 k0_t13 k0_h35 r
theorem k0_t14_ok : ∀ (i : grid0.Coords) (v18 : BitVec 32) (v25 : BitVec 32) (k0_hw3 : k0_chk3 i v18 v25), ∀ (k0_h35 : k0_cond35 i v18 v25 = 1#1), (k0_t14_loop i v18 v25).OK := fun i v18 v25 k0_hw3 k0_h35 => k0_hw3.2.2.1 k0_h35
theorem k0_off46_inb : ∀ (i : grid0.Coords) (v18 : BitVec 32) (v25 : BitVec 32) (k0_hw3 : k0_chk3 i v18 v25) (k0_t14 : Fin (k0_t14_loop i v18 v25).trips), ∀ (k0_h35 : k0_cond35 i v18 v25 = 1#1), ∀ (r : Fin 16), ∀ a, (k0_off46 i v18 v25 k0_t14 (BitVec.ofNat 32 (16 * r.val))) a + S16.size a ≤ S32768.size a := fun i v18 v25 k0_hw3 k0_t14 k0_h35 r => k0_hw3.2.2.2.1 k0_t14 k0_h35 r
theorem k0_t15_ok : ∀ (i : grid0.Coords) (v18 : BitVec 32) (v25 : BitVec 32) (k0_hw3 : k0_chk3 i v18 v25), ∀ (k0_h35 : k0_cond35 i v18 v25 = 1#1), (k0_t15_loop i v18 v25).OK := fun i v18 v25 k0_hw3 k0_h35 => k0_hw3.2.2.2.2.1 k0_h35
theorem k0_off47_inb : ∀ (i : grid0.Coords) (v18 : BitVec 32) (v25 : BitVec 32) (k0_hw3 : k0_chk3 i v18 v25) (k0_t15 : Fin (k0_t15_loop i v18 v25).trips), ∀ (k0_h35 : k0_cond35 i v18 v25 = 1#1), ∀ a, (k0_off47 i v18 v25 k0_t15) a + S32768.size a ≤ S4194304.size a := fun i v18 v25 k0_hw3 k0_t15 k0_h35 => k0_hw3.2.2.2.2.2.1 k0_t15 k0_h35
theorem k0_t16_ok : ∀ (i : grid0.Coords) (v18 : BitVec 32) (v25 : BitVec 32) (k0_hw3 : k0_chk3 i v18 v25), ∀ (k0_h35 : k0_cond35 i v18 v25 = 1#1), (k0_t16_loop i v18 v25).OK := fun i v18 v25 k0_hw3 k0_h35 => k0_hw3.2.2.2.2.2.2.1 k0_h35
theorem k0_off48_inb : ∀ (i : grid0.Coords) (v18 : BitVec 32) (v25 : BitVec 32) (k0_hw3 : k0_chk3 i v18 v25) (k0_t16 : Fin (k0_t16_loop i v18 v25).trips), ∀ (k0_h35 : k0_cond35 i v18 v25 = 1#1), ∀ a, (k0_off48 i v18 v25 k0_t16) a + S32768.size a ≤ S4194304.size a := fun i v18 v25 k0_hw3 k0_t16 k0_h35 => k0_hw3.2.2.2.2.2.2.2.1 k0_t16 k0_h35
theorem k0_off49_inb : ∀ (i : grid0.Coords) (v18 : BitVec 32) (v25 : BitVec 32) (k0_hw3 : k0_chk3 i v18 v25), ∀ (k0_h35 : k0_cond35 i v18 v25 = 1#1), ∀ (k0_h36 : k0_cond36 i v18 v25 = 1#1), ∀ a, (k0_off49 i v18 v25) a + S16384.size a ≤ S4194304.size a := fun i v18 v25 k0_hw3 k0_h35 k0_h36 => k0_hw3.2.2.2.2.2.2.2.2.1 k0_h35 k0_h36
theorem k0_off50_inb : ∀ (i : grid0.Coords) (v18 : BitVec 32) (v25 : BitVec 32) (k0_hw3 : k0_chk3 i v18 v25), ∀ (k0_h35 : k0_cond35 i v18 v25 = 1#1), ∀ (k0_h37 : k0_cond37 i v18 v25 = 1#1), ∀ a, (k0_off50 i v18 v25) a + S8192.size a ≤ S4194304.size a := fun i v18 v25 k0_hw3 k0_h35 k0_h37 => k0_hw3.2.2.2.2.2.2.2.2.2.1 k0_h35 k0_h37
theorem k0_off51_inb : ∀ (i : grid0.Coords) (v18 : BitVec 32) (v25 : BitVec 32) (k0_hw3 : k0_chk3 i v18 v25), ∀ (k0_h35 : k0_cond35 i v18 v25 = 1#1), ∀ (k0_h38 : k0_cond38 i v18 v25 = 1#1), ∀ a, (k0_off51 i v18 v25) a + S4096.size a ≤ S4194304.size a := fun i v18 v25 k0_hw3 k0_h35 k0_h38 => k0_hw3.2.2.2.2.2.2.2.2.2.2.1 k0_h35 k0_h38
theorem k0_off52_inb : ∀ (i : grid0.Coords) (v18 : BitVec 32) (v25 : BitVec 32) (k0_hw3 : k0_chk3 i v18 v25), ∀ (k0_h35 : k0_cond35 i v18 v25 = 1#1), ∀ (k0_h39 : k0_cond39 i v18 v25 = 1#1), ∀ a, (k0_off52 i v18 v25) a + S2048.size a ≤ S4194304.size a := fun i v18 v25 k0_hw3 k0_h35 k0_h39 => k0_hw3.2.2.2.2.2.2.2.2.2.2.2.1 k0_h35 k0_h39
theorem k0_off53_inb : ∀ (i : grid0.Coords) (v18 : BitVec 32) (v25 : BitVec 32) (k0_hw3 : k0_chk3 i v18 v25), ∀ (k0_h35 : k0_cond35 i v18 v25 = 1#1), ∀ (k0_h40 : k0_cond40 i v18 v25 = 1#1), ∀ a, (k0_off53 i v18 v25) a + S1024.size a ≤ S4194304.size a := fun i v18 v25 k0_hw3 k0_h35 k0_h40 => k0_hw3.2.2.2.2.2.2.2.2.2.2.2.2.1 k0_h35 k0_h40
theorem k0_off54_inb : ∀ (i : grid0.Coords) (v18 : BitVec 32) (v25 : BitVec 32) (k0_hw3 : k0_chk3 i v18 v25), ∀ (k0_h35 : k0_cond35 i v18 v25 = 1#1), ∀ (k0_h41 : k0_cond41 i v18 v25 = 1#1), ∀ a, (k0_off54 i v18 v25) a + S512.size a ≤ S4194304.size a := fun i v18 v25 k0_hw3 k0_h35 k0_h41 => k0_hw3.2.2.2.2.2.2.2.2.2.2.2.2.2.1 k0_h35 k0_h41
theorem k0_off55_inb : ∀ (i : grid0.Coords) (v18 : BitVec 32) (v25 : BitVec 32) (k0_hw3 : k0_chk3 i v18 v25), ∀ (k0_h35 : k0_cond35 i v18 v25 = 1#1), ∀ (k0_h42 : k0_cond42 i v18 v25 = 1#1), ∀ a, (k0_off55 i v18 v25) a + S256.size a ≤ S4194304.size a := fun i v18 v25 k0_hw3 k0_h35 k0_h42 => k0_hw3.2.2.2.2.2.2.2.2.2.2.2.2.2.2.1 k0_h35 k0_h42
theorem k0_off56_inb : ∀ (i : grid0.Coords) (v18 : BitVec 32) (v25 : BitVec 32) (k0_hw3 : k0_chk3 i v18 v25), ∀ (k0_h35 : k0_cond35 i v18 v25 = 1#1), ∀ (k0_h43 : k0_cond43 i v18 v25 = 1#1), ∀ a, (k0_off56 i v18 v25) a + S128.size a ≤ S4194304.size a := fun i v18 v25 k0_hw3 k0_h35 k0_h43 => k0_hw3.2.2.2.2.2.2.2.2.2.2.2.2.2.2.2.1 k0_h35 k0_h43
theorem k0_t17_ok : ∀ (i : grid0.Coords) (v18 : BitVec 32) (v25 : BitVec 32) (k0_hw3 : k0_chk3 i v18 v25), ∀ (k0_h35 : k0_cond35 i v18 v25 = 1#1), (k0_t17_loop i v18 v25).OK := fun i v18 v25 k0_hw3 k0_h35 => k0_hw3.2.2.2.2.2.2.2.2.2.2.2.2.2.2.2.2.1 k0_h35
theorem k0_off57_inb : ∀ (i : grid0.Coords) (v18 : BitVec 32) (v25 : BitVec 32) (k0_hw3 : k0_chk3 i v18 v25) (k0_t17 : Fin (k0_t17_loop i v18 v25).trips), ∀ (k0_h35 : k0_cond35 i v18 v25 = 1#1), ∀ a, (k0_off57 i v18 v25 k0_t17) a + S32768.size a ≤ S4194304.size a := fun i v18 v25 k0_hw3 k0_t17 k0_h35 => k0_hw3.2.2.2.2.2.2.2.2.2.2.2.2.2.2.2.2.2.1 k0_t17 k0_h35
theorem k0_t18_ok : ∀ (i : grid0.Coords) (v18 : BitVec 32) (v25 : BitVec 32) (k0_hw3 : k0_chk3 i v18 v25), ∀ (k0_h35 : k0_cond35 i v18 v25 = 1#1), (k0_t18_loop i v18 v25).OK := fun i v18 v25 k0_hw3 k0_h35 => k0_hw3.2.2.2.2.2.2.2.2.2.2.2.2.2.2.2.2.2.2.1 k0_h35
theorem k0_off58_inb : ∀ (i : grid0.Coords) (v18 : BitVec 32) (v25 : BitVec 32) (k0_hw3 : k0_chk3 i v18 v25) (k0_t18 : Fin (k0_t18_loop i v18 v25).trips), ∀ (k0_h35 : k0_cond35 i v18 v25 = 1#1), ∀ a, (k0_off58 i v18 v25 k0_t18) a + S32768.size a ≤ S4194304.size a := fun i v18 v25 k0_hw3 k0_t18 k0_h35 => k0_hw3.2.2.2.2.2.2.2.2.2.2.2.2.2.2.2.2.2.2.2.1 k0_t18 k0_h35
theorem k0_off59_inb : ∀ (i : grid0.Coords) (v18 : BitVec 32) (v25 : BitVec 32) (k0_hw3 : k0_chk3 i v18 v25), ∀ (k0_h35 : k0_cond35 i v18 v25 = 1#1), ∀ (k0_h44 : k0_cond44 i v18 v25 = 1#1), ∀ a, (k0_off59 i v18 v25) a + S16384.size a ≤ S4194304.size a := fun i v18 v25 k0_hw3 k0_h35 k0_h44 => k0_hw3.2.2.2.2.2.2.2.2.2.2.2.2.2.2.2.2.2.2.2.2.1 k0_h35 k0_h44
theorem k0_off60_inb : ∀ (i : grid0.Coords) (v18 : BitVec 32) (v25 : BitVec 32) (k0_hw3 : k0_chk3 i v18 v25), ∀ (k0_h35 : k0_cond35 i v18 v25 = 1#1), ∀ (k0_h45 : k0_cond45 i v18 v25 = 1#1), ∀ a, (k0_off60 i v18 v25) a + S8192.size a ≤ S4194304.size a := fun i v18 v25 k0_hw3 k0_h35 k0_h45 => k0_hw3.2.2.2.2.2.2.2.2.2.2.2.2.2.2.2.2.2.2.2.2.2.1 k0_h35 k0_h45
theorem k0_off61_inb : ∀ (i : grid0.Coords) (v18 : BitVec 32) (v25 : BitVec 32) (k0_hw3 : k0_chk3 i v18 v25), ∀ (k0_h35 : k0_cond35 i v18 v25 = 1#1), ∀ (k0_h46 : k0_cond46 i v18 v25 = 1#1), ∀ a, (k0_off61 i v18 v25) a + S4096.size a ≤ S4194304.size a := fun i v18 v25 k0_hw3 k0_h35 k0_h46 => k0_hw3.2.2.2.2.2.2.2.2.2.2.2.2.2.2.2.2.2.2.2.2.2.2.1 k0_h35 k0_h46
theorem k0_off62_inb : ∀ (i : grid0.Coords) (v18 : BitVec 32) (v25 : BitVec 32) (k0_hw3 : k0_chk3 i v18 v25), ∀ (k0_h35 : k0_cond35 i v18 v25 = 1#1), ∀ (k0_h47 : k0_cond47 i v18 v25 = 1#1), ∀ a, (k0_off62 i v18 v25) a + S2048.size a ≤ S4194304.size a := fun i v18 v25 k0_hw3 k0_h35 k0_h47 => k0_hw3.2.2.2.2.2.2.2.2.2.2.2.2.2.2.2.2.2.2.2.2.2.2.2.1 k0_h35 k0_h47
theorem k0_off63_inb : ∀ (i : grid0.Coords) (v18 : BitVec 32) (v25 : BitVec 32) (k0_hw3 : k0_chk3 i v18 v25), ∀ (k0_h35 : k0_cond35 i v18 v25 = 1#1), ∀ (k0_h48 : k0_cond48 i v18 v25 = 1#1), ∀ a, (k0_off63 i v18 v25) a + S1024.size a ≤ S4194304.size a := fun i v18 v25 k0_hw3 k0_h35 k0_h48 => k0_hw3.2.2.2.2.2.2.2.2.2.2.2.2.2.2.2.2.2.2.2.2.2.2.2.2.1 k0_h35 k0_h48
theorem k0_off64_inb : ∀ (i : grid0.Coords) (v18 : BitVec 32) (v25 : BitVec 32) (k0_hw3 : k0_chk3 i v18 v25), ∀ (k0_h35 : k0_cond35 i v18 v25 = 1#1), ∀ (k0_h49 : k0_cond49 i v18 v25 = 1#1), ∀ a, (k0_off64 i v18 v25) a + S512.size a ≤ S4194304.size a := fun i v18 v25 k0_hw3 k0_h35 k0_h49 => k0_hw3.2.2.2.2.2.2.2.2.2.2.2.2.2.2.2.2.2.2.2.2.2.2.2.2.2.1 k0_h35 k0_h49
theorem k0_off65_inb : ∀ (i : grid0.Coords) (v18 : BitVec 32) (v25 : BitVec 32) (k0_hw3 : k0_chk3 i v18 v25), ∀ (k0_h35 : k0_cond35 i v18 v25 = 1#1), ∀ (k0_h50 : k0_cond50 i v18 v25 = 1#1), ∀ a, (k0_off65 i v18 v25) a + S256.size a ≤ S4194304.size a := fun i v18 v25 k0_hw3 k0_h35 k0_h50 => k0_hw3.2.2.2.2.2.2.2.2.2.2.2.2.2.2.2.2.2.2.2.2.2.2.2.2.2.2.1 k0_h35 k0_h50
theorem k0_off66_inb : ∀ (i : grid0.Coords) (v18 : BitVec 32) (v25 : BitVec 32) (k0_hw3 : k0_chk3 i v18 v25), ∀ (k0_h35 : k0_cond35 i v18 v25 = 1#1), ∀ (k0_h51 : k0_cond51 i v18 v25 = 1#1), ∀ a, (k0_off66 i v18 v25) a + S128.size a ≤ S4194304.size a := fun i v18 v25 k0_hw3 k0_h35 k0_h51 => k0_hw3.2.2.2.2.2.2.2.2.2.2.2.2.2.2.2.2.2.2.2.2.2.2.2.2.2.2.2 k0_h35 k0_h51

@[reducible] def k0_t19_loop (i : grid0.Coords) (v25 : BitVec 32) (v32 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond52 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v35 : BitVec 1 := Scalar.cmpi .sgt v34 v33
  let v36 : BitVec 32 := Scalar.extui v35
  let c0_i32_3 : BitVec 32 := 0#32
  let v37 : BitVec 1 := Scalar.cmpi .ne v36 c0_i32_3
  v37

def k0_off67 (i : grid0.Coords) (v25 : BitVec 32) (v32 : BitVec 32) (k0_t19 : Fin (k0_t19_loop i v25 v32).trips) (c0_i32_97 : BitVec 32) : Fin 1 → Nat :=
  let c0_i32_24 : BitVec 32 := 0#32
  let c1_i32_26 : BitVec 32 := 1#32
  let arg17 : BitVec 32 := Scf.iv c0_i32_24 c1_i32_26 k0_t19
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t20_loop (i : grid0.Coords) (v25 : BitVec 32) (v32 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off68 (i : grid0.Coords) (v25 : BitVec 32) (v32 : BitVec 32) (k0_t20 : Fin (k0_t20_loop i v25 v32).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t20
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t21_loop (i : grid0.Coords) (v25 : BitVec 32) (v32 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off69 (i : grid0.Coords) (v25 : BitVec 32) (v32 : BitVec 32) (k0_t21 : Fin (k0_t21_loop i v25 v32).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c0_i32_35 : BitVec 32 := 0#32
  let c1_i32_37 : BitVec 32 := 1#32
  let arg17 : BitVec 32 := Scf.iv c0_i32_35 c1_i32_37 k0_t21
  let c256_i32_95 : BitVec 32 := 256#32
  let v286 : BitVec 32 := Scalar.muli arg17 c256_i32_95
  let v287 : BitVec 32 := Scalar.addi v33 v286
  let c128_i32_96 : BitVec 32 := 128#32
  let v288 : BitVec 32 := Scalar.muli v287 c128_i32_96
  ![v288.toNat]
@[reducible] def k0_t22_loop (i : grid0.Coords) (v25 : BitVec 32) (v32 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off70 (i : grid0.Coords) (v25 : BitVec 32) (v32 : BitVec 32) (k0_t22 : Fin (k0_t22_loop i v25 v32).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c0_i32_35 : BitVec 32 := 0#32
  let c1024_i32_0 : BitVec 32 := 1024#32
  let v3 : BitVec 32 := Scalar.addi v2 c1024_i32_0
  let v34 : BitVec 32 := Scalar.minsi v32 v3
  let v138 : BitVec 32 := Scalar.subi v34 v33
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t22
  let c256_i32_95 : BitVec 32 := 256#32
  let v286 : BitVec 32 := Scalar.muli arg17 c256_i32_95
  let v287 : BitVec 32 := Scalar.addi v33 v286
  let c128_i32_96 : BitVec 32 := 128#32
  let v288 : BitVec 32 := Scalar.muli v287 c128_i32_96
  ![v288.toNat]
def k0_off71 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m256_i32 : BitVec 32 := 4294967040#32
  let v185 : BitVec 32 := Scalar.andi v138 c_m256_i32
  let v186 : BitVec 32 := Scalar.addi v33 v185
  let c128_i32_95 : BitVec 32 := 128#32
  let v286 : BitVec 32 := Scalar.muli v186 c128_i32_95
  ![v286.toNat]
def k0_cond53 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off72 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m128_i32 : BitVec 32 := 4294967168#32
  let v191 : BitVec 32 := Scalar.andi v138 c_m128_i32
  let v192 : BitVec 32 := Scalar.addi v33 v191
  let c128_i32_95 : BitVec 32 := 128#32
  let v286 : BitVec 32 := Scalar.muli v192 c128_i32_95
  ![v286.toNat]
def k0_cond54 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off73 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m64_i32 : BitVec 32 := 4294967232#32
  let v197 : BitVec 32 := Scalar.andi v138 c_m64_i32
  let v198 : BitVec 32 := Scalar.addi v33 v197
  let c128_i32_95 : BitVec 32 := 128#32
  let v286 : BitVec 32 := Scalar.muli v198 c128_i32_95
  ![v286.toNat]
def k0_cond55 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off74 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m32_i32 : BitVec 32 := 4294967264#32
  let v203 : BitVec 32 := Scalar.andi v138 c_m32_i32
  let v204 : BitVec 32 := Scalar.addi v33 v203
  let c128_i32_95 : BitVec 32 := 128#32
  let v286 : BitVec 32 := Scalar.muli v204 c128_i32_95
  ![v286.toNat]
def k0_cond56 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off75 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m16_i32 : BitVec 32 := 4294967280#32
  let v209 : BitVec 32 := Scalar.andi v138 c_m16_i32
  let v210 : BitVec 32 := Scalar.addi v33 v209
  let c128_i32_95 : BitVec 32 := 128#32
  let v286 : BitVec 32 := Scalar.muli v210 c128_i32_95
  ![v286.toNat]
def k0_cond57 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off76 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m8_i32 : BitVec 32 := 4294967288#32
  let v215 : BitVec 32 := Scalar.andi v138 c_m8_i32
  let v216 : BitVec 32 := Scalar.addi v33 v215
  let c128_i32_95 : BitVec 32 := 128#32
  let v286 : BitVec 32 := Scalar.muli v216 c128_i32_95
  ![v286.toNat]
def k0_cond58 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off77 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m4_i32 : BitVec 32 := 4294967292#32
  let v221 : BitVec 32 := Scalar.andi v138 c_m4_i32
  let v222 : BitVec 32 := Scalar.addi v33 v221
  let c128_i32_95 : BitVec 32 := 128#32
  let v286 : BitVec 32 := Scalar.muli v222 c128_i32_95
  ![v286.toNat]
def k0_cond59 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off78 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m2_i32 : BitVec 32 := 4294967294#32
  let v227 : BitVec 32 := Scalar.andi v138 c_m2_i32
  let v228 : BitVec 32 := Scalar.addi v33 v227
  let c128_i32_95 : BitVec 32 := 128#32
  let v286 : BitVec 32 := Scalar.muli v228 c128_i32_95
  ![v286.toNat]
def k0_cond60 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t23_loop (i : grid0.Coords) (v25 : BitVec 32) (v32 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off79 (i : grid0.Coords) (v25 : BitVec 32) (v32 : BitVec 32) (k0_t23 : Fin (k0_t23_loop i v25 v32).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c0_i32_59 : BitVec 32 := 0#32
  let c1_i32_61 : BitVec 32 := 1#32
  let arg17 : BitVec 32 := Scf.iv c0_i32_59 c1_i32_61 k0_t23
  let c256_i32_95 : BitVec 32 := 256#32
  let v286 : BitVec 32 := Scalar.muli arg17 c256_i32_95
  let v287 : BitVec 32 := Scalar.addi v33 v286
  let c128_i32_96 : BitVec 32 := 128#32
  let v288 : BitVec 32 := Scalar.muli v287 c128_i32_96
  ![v288.toNat]
@[reducible] def k0_t24_loop (i : grid0.Coords) (v25 : BitVec 32) (v32 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off80 (i : grid0.Coords) (v25 : BitVec 32) (v32 : BitVec 32) (k0_t24 : Fin (k0_t24_loop i v25 v32).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c0_i32_59 : BitVec 32 := 0#32
  let c1024_i32_0 : BitVec 32 := 1024#32
  let v3 : BitVec 32 := Scalar.addi v2 c1024_i32_0
  let v34 : BitVec 32 := Scalar.minsi v32 v3
  let v138 : BitVec 32 := Scalar.subi v34 v33
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t24
  let c256_i32_95 : BitVec 32 := 256#32
  let v286 : BitVec 32 := Scalar.muli arg17 c256_i32_95
  let v287 : BitVec 32 := Scalar.addi v33 v286
  let c128_i32_96 : BitVec 32 := 128#32
  let v288 : BitVec 32 := Scalar.muli v287 c128_i32_96
  ![v288.toNat]
def k0_off81 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m256_i32_63 : BitVec 32 := 4294967040#32
  let v238 : BitVec 32 := Scalar.andi v138 c_m256_i32_63
  let v239 : BitVec 32 := Scalar.addi v33 v238
  let c128_i32_95 : BitVec 32 := 128#32
  let v286 : BitVec 32 := Scalar.muli v239 c128_i32_95
  ![v286.toNat]
def k0_cond61 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off82 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m128_i32_67 : BitVec 32 := 4294967168#32
  let v244 : BitVec 32 := Scalar.andi v138 c_m128_i32_67
  let v245 : BitVec 32 := Scalar.addi v33 v244
  let c128_i32_95 : BitVec 32 := 128#32
  let v286 : BitVec 32 := Scalar.muli v245 c128_i32_95
  ![v286.toNat]
def k0_cond62 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off83 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m64_i32_71 : BitVec 32 := 4294967232#32
  let v250 : BitVec 32 := Scalar.andi v138 c_m64_i32_71
  let v251 : BitVec 32 := Scalar.addi v33 v250
  let c128_i32_95 : BitVec 32 := 128#32
  let v286 : BitVec 32 := Scalar.muli v251 c128_i32_95
  ![v286.toNat]
def k0_cond63 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off84 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m32_i32_75 : BitVec 32 := 4294967264#32
  let v256 : BitVec 32 := Scalar.andi v138 c_m32_i32_75
  let v257 : BitVec 32 := Scalar.addi v33 v256
  let c128_i32_95 : BitVec 32 := 128#32
  let v286 : BitVec 32 := Scalar.muli v257 c128_i32_95
  ![v286.toNat]
def k0_cond64 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off85 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m16_i32_79 : BitVec 32 := 4294967280#32
  let v262 : BitVec 32 := Scalar.andi v138 c_m16_i32_79
  let v263 : BitVec 32 := Scalar.addi v33 v262
  let c128_i32_95 : BitVec 32 := 128#32
  let v286 : BitVec 32 := Scalar.muli v263 c128_i32_95
  ![v286.toNat]
def k0_cond65 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off86 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m8_i32_83 : BitVec 32 := 4294967288#32
  let v268 : BitVec 32 := Scalar.andi v138 c_m8_i32_83
  let v269 : BitVec 32 := Scalar.addi v33 v268
  let c128_i32_95 : BitVec 32 := 128#32
  let v286 : BitVec 32 := Scalar.muli v269 c128_i32_95
  ![v286.toNat]
def k0_cond66 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off87 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m4_i32_87 : BitVec 32 := 4294967292#32
  let v274 : BitVec 32 := Scalar.andi v138 c_m4_i32_87
  let v275 : BitVec 32 := Scalar.addi v33 v274
  let c128_i32_95 : BitVec 32 := 128#32
  let v286 : BitVec 32 := Scalar.muli v275 c128_i32_95
  ![v286.toNat]
def k0_cond67 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off88 (i : grid0.Coords) (v25 : BitVec 32) (v32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.maxsi v25 v2
  let c1024_i32_0 : BitVec 32 := 1024#32
  let v3 : BitVec 32 := Scalar.addi v2 c1024_i32_0
  let v34 : BitVec 32 := Scalar.minsi v32 v3
  let v138 : BitVec 32 := Scalar.subi v34 v33
  let c_m2_i32_91 : BitVec 32 := 4294967294#32
  let v280 : BitVec 32 := Scalar.andi v138 c_m2_i32_91
  let v281 : BitVec 32 := Scalar.addi v33 v280
  let c128_i32_95 : BitVec 32 := 128#32
  let v286 : BitVec 32 := Scalar.muli v281 c128_i32_95
  ![v286.toNat]
def k0_cond68 (i : grid0.Coords) (v25 : BitVec 32) (v32 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v34 : BitVec 32 := Scalar.minsi v32 v3
  let v33 : BitVec 32 := Scalar.maxsi v25 v2
  let v138 : BitVec 32 := Scalar.subi v34 v33
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk4 (i : grid0.Coords) (v25 : BitVec 32) (v32 : BitVec 32) : Prop :=
  (∀ (k0_h52 : k0_cond52 i v25 v32 = 1#1), (k0_t19_loop i v25 v32).OK) ∧
  (∀ k0_t19 : Fin (k0_t19_loop i v25 v32).trips, ∀ (k0_h52 : k0_cond52 i v25 v32 = 1#1), ∀ (r : Fin 16), ∀ a, (k0_off67 i v25 v32 k0_t19 (BitVec.ofNat 32 (16 * r.val))) a + S16.size a ≤ S32768.size a) ∧
  (∀ (k0_h52 : k0_cond52 i v25 v32 = 1#1), (k0_t20_loop i v25 v32).OK) ∧
  (∀ k0_t20 : Fin (k0_t20_loop i v25 v32).trips, ∀ (k0_h52 : k0_cond52 i v25 v32 = 1#1), ∀ (r : Fin 16), ∀ a, (k0_off68 i v25 v32 k0_t20 (BitVec.ofNat 32 (16 * r.val))) a + S16.size a ≤ S32768.size a) ∧
  (∀ (k0_h52 : k0_cond52 i v25 v32 = 1#1), (k0_t21_loop i v25 v32).OK) ∧
  (∀ k0_t21 : Fin (k0_t21_loop i v25 v32).trips, ∀ (k0_h52 : k0_cond52 i v25 v32 = 1#1), ∀ a, (k0_off69 i v25 v32 k0_t21) a + S32768.size a ≤ S4194304.size a) ∧
  (∀ (k0_h52 : k0_cond52 i v25 v32 = 1#1), (k0_t22_loop i v25 v32).OK) ∧
  (∀ k0_t22 : Fin (k0_t22_loop i v25 v32).trips, ∀ (k0_h52 : k0_cond52 i v25 v32 = 1#1), ∀ a, (k0_off70 i v25 v32 k0_t22) a + S32768.size a ≤ S4194304.size a) ∧
  (∀ (k0_h52 : k0_cond52 i v25 v32 = 1#1), ∀ (k0_h53 : k0_cond53 i v25 v32 = 1#1), ∀ a, (k0_off71 i v25 v32) a + S16384.size a ≤ S4194304.size a) ∧
  (∀ (k0_h52 : k0_cond52 i v25 v32 = 1#1), ∀ (k0_h54 : k0_cond54 i v25 v32 = 1#1), ∀ a, (k0_off72 i v25 v32) a + S8192.size a ≤ S4194304.size a) ∧
  (∀ (k0_h52 : k0_cond52 i v25 v32 = 1#1), ∀ (k0_h55 : k0_cond55 i v25 v32 = 1#1), ∀ a, (k0_off73 i v25 v32) a + S4096.size a ≤ S4194304.size a) ∧
  (∀ (k0_h52 : k0_cond52 i v25 v32 = 1#1), ∀ (k0_h56 : k0_cond56 i v25 v32 = 1#1), ∀ a, (k0_off74 i v25 v32) a + S2048.size a ≤ S4194304.size a) ∧
  (∀ (k0_h52 : k0_cond52 i v25 v32 = 1#1), ∀ (k0_h57 : k0_cond57 i v25 v32 = 1#1), ∀ a, (k0_off75 i v25 v32) a + S1024.size a ≤ S4194304.size a) ∧
  (∀ (k0_h52 : k0_cond52 i v25 v32 = 1#1), ∀ (k0_h58 : k0_cond58 i v25 v32 = 1#1), ∀ a, (k0_off76 i v25 v32) a + S512.size a ≤ S4194304.size a) ∧
  (∀ (k0_h52 : k0_cond52 i v25 v32 = 1#1), ∀ (k0_h59 : k0_cond59 i v25 v32 = 1#1), ∀ a, (k0_off77 i v25 v32) a + S256.size a ≤ S4194304.size a) ∧
  (∀ (k0_h52 : k0_cond52 i v25 v32 = 1#1), ∀ (k0_h60 : k0_cond60 i v25 v32 = 1#1), ∀ a, (k0_off78 i v25 v32) a + S128.size a ≤ S4194304.size a) ∧
  (∀ (k0_h52 : k0_cond52 i v25 v32 = 1#1), (k0_t23_loop i v25 v32).OK) ∧
  (∀ k0_t23 : Fin (k0_t23_loop i v25 v32).trips, ∀ (k0_h52 : k0_cond52 i v25 v32 = 1#1), ∀ a, (k0_off79 i v25 v32 k0_t23) a + S32768.size a ≤ S4194304.size a) ∧
  (∀ (k0_h52 : k0_cond52 i v25 v32 = 1#1), (k0_t24_loop i v25 v32).OK) ∧
  (∀ k0_t24 : Fin (k0_t24_loop i v25 v32).trips, ∀ (k0_h52 : k0_cond52 i v25 v32 = 1#1), ∀ a, (k0_off80 i v25 v32 k0_t24) a + S32768.size a ≤ S4194304.size a) ∧
  (∀ (k0_h52 : k0_cond52 i v25 v32 = 1#1), ∀ (k0_h61 : k0_cond61 i v25 v32 = 1#1), ∀ a, (k0_off81 i v25 v32) a + S16384.size a ≤ S4194304.size a) ∧
  (∀ (k0_h52 : k0_cond52 i v25 v32 = 1#1), ∀ (k0_h62 : k0_cond62 i v25 v32 = 1#1), ∀ a, (k0_off82 i v25 v32) a + S8192.size a ≤ S4194304.size a) ∧
  (∀ (k0_h52 : k0_cond52 i v25 v32 = 1#1), ∀ (k0_h63 : k0_cond63 i v25 v32 = 1#1), ∀ a, (k0_off83 i v25 v32) a + S4096.size a ≤ S4194304.size a) ∧
  (∀ (k0_h52 : k0_cond52 i v25 v32 = 1#1), ∀ (k0_h64 : k0_cond64 i v25 v32 = 1#1), ∀ a, (k0_off84 i v25 v32) a + S2048.size a ≤ S4194304.size a) ∧
  (∀ (k0_h52 : k0_cond52 i v25 v32 = 1#1), ∀ (k0_h65 : k0_cond65 i v25 v32 = 1#1), ∀ a, (k0_off85 i v25 v32) a + S1024.size a ≤ S4194304.size a) ∧
  (∀ (k0_h52 : k0_cond52 i v25 v32 = 1#1), ∀ (k0_h66 : k0_cond66 i v25 v32 = 1#1), ∀ a, (k0_off86 i v25 v32) a + S512.size a ≤ S4194304.size a) ∧
  (∀ (k0_h52 : k0_cond52 i v25 v32 = 1#1), ∀ (k0_h67 : k0_cond67 i v25 v32 = 1#1), ∀ a, (k0_off87 i v25 v32) a + S256.size a ≤ S4194304.size a) ∧
  (∀ (k0_h52 : k0_cond52 i v25 v32 = 1#1), ∀ (k0_h68 : k0_cond68 i v25 v32 = 1#1), ∀ a, (k0_off88 i v25 v32) a + S128.size a ≤ S4194304.size a)
theorem k0_t19_ok : ∀ (i : grid0.Coords) (v25 : BitVec 32) (v32 : BitVec 32) (k0_hw4 : k0_chk4 i v25 v32), ∀ (k0_h52 : k0_cond52 i v25 v32 = 1#1), (k0_t19_loop i v25 v32).OK := fun i v25 v32 k0_hw4 k0_h52 => k0_hw4.1 k0_h52
theorem k0_off67_inb : ∀ (i : grid0.Coords) (v25 : BitVec 32) (v32 : BitVec 32) (k0_hw4 : k0_chk4 i v25 v32) (k0_t19 : Fin (k0_t19_loop i v25 v32).trips), ∀ (k0_h52 : k0_cond52 i v25 v32 = 1#1), ∀ (r : Fin 16), ∀ a, (k0_off67 i v25 v32 k0_t19 (BitVec.ofNat 32 (16 * r.val))) a + S16.size a ≤ S32768.size a := fun i v25 v32 k0_hw4 k0_t19 k0_h52 r => k0_hw4.2.1 k0_t19 k0_h52 r
theorem k0_t20_ok : ∀ (i : grid0.Coords) (v25 : BitVec 32) (v32 : BitVec 32) (k0_hw4 : k0_chk4 i v25 v32), ∀ (k0_h52 : k0_cond52 i v25 v32 = 1#1), (k0_t20_loop i v25 v32).OK := fun i v25 v32 k0_hw4 k0_h52 => k0_hw4.2.2.1 k0_h52
theorem k0_off68_inb : ∀ (i : grid0.Coords) (v25 : BitVec 32) (v32 : BitVec 32) (k0_hw4 : k0_chk4 i v25 v32) (k0_t20 : Fin (k0_t20_loop i v25 v32).trips), ∀ (k0_h52 : k0_cond52 i v25 v32 = 1#1), ∀ (r : Fin 16), ∀ a, (k0_off68 i v25 v32 k0_t20 (BitVec.ofNat 32 (16 * r.val))) a + S16.size a ≤ S32768.size a := fun i v25 v32 k0_hw4 k0_t20 k0_h52 r => k0_hw4.2.2.2.1 k0_t20 k0_h52 r
theorem k0_t21_ok : ∀ (i : grid0.Coords) (v25 : BitVec 32) (v32 : BitVec 32) (k0_hw4 : k0_chk4 i v25 v32), ∀ (k0_h52 : k0_cond52 i v25 v32 = 1#1), (k0_t21_loop i v25 v32).OK := fun i v25 v32 k0_hw4 k0_h52 => k0_hw4.2.2.2.2.1 k0_h52
theorem k0_off69_inb : ∀ (i : grid0.Coords) (v25 : BitVec 32) (v32 : BitVec 32) (k0_hw4 : k0_chk4 i v25 v32) (k0_t21 : Fin (k0_t21_loop i v25 v32).trips), ∀ (k0_h52 : k0_cond52 i v25 v32 = 1#1), ∀ a, (k0_off69 i v25 v32 k0_t21) a + S32768.size a ≤ S4194304.size a := fun i v25 v32 k0_hw4 k0_t21 k0_h52 => k0_hw4.2.2.2.2.2.1 k0_t21 k0_h52
theorem k0_t22_ok : ∀ (i : grid0.Coords) (v25 : BitVec 32) (v32 : BitVec 32) (k0_hw4 : k0_chk4 i v25 v32), ∀ (k0_h52 : k0_cond52 i v25 v32 = 1#1), (k0_t22_loop i v25 v32).OK := fun i v25 v32 k0_hw4 k0_h52 => k0_hw4.2.2.2.2.2.2.1 k0_h52
theorem k0_off70_inb : ∀ (i : grid0.Coords) (v25 : BitVec 32) (v32 : BitVec 32) (k0_hw4 : k0_chk4 i v25 v32) (k0_t22 : Fin (k0_t22_loop i v25 v32).trips), ∀ (k0_h52 : k0_cond52 i v25 v32 = 1#1), ∀ a, (k0_off70 i v25 v32 k0_t22) a + S32768.size a ≤ S4194304.size a := fun i v25 v32 k0_hw4 k0_t22 k0_h52 => k0_hw4.2.2.2.2.2.2.2.1 k0_t22 k0_h52
theorem k0_off71_inb : ∀ (i : grid0.Coords) (v25 : BitVec 32) (v32 : BitVec 32) (k0_hw4 : k0_chk4 i v25 v32), ∀ (k0_h52 : k0_cond52 i v25 v32 = 1#1), ∀ (k0_h53 : k0_cond53 i v25 v32 = 1#1), ∀ a, (k0_off71 i v25 v32) a + S16384.size a ≤ S4194304.size a := fun i v25 v32 k0_hw4 k0_h52 k0_h53 => k0_hw4.2.2.2.2.2.2.2.2.1 k0_h52 k0_h53
theorem k0_off72_inb : ∀ (i : grid0.Coords) (v25 : BitVec 32) (v32 : BitVec 32) (k0_hw4 : k0_chk4 i v25 v32), ∀ (k0_h52 : k0_cond52 i v25 v32 = 1#1), ∀ (k0_h54 : k0_cond54 i v25 v32 = 1#1), ∀ a, (k0_off72 i v25 v32) a + S8192.size a ≤ S4194304.size a := fun i v25 v32 k0_hw4 k0_h52 k0_h54 => k0_hw4.2.2.2.2.2.2.2.2.2.1 k0_h52 k0_h54
theorem k0_off73_inb : ∀ (i : grid0.Coords) (v25 : BitVec 32) (v32 : BitVec 32) (k0_hw4 : k0_chk4 i v25 v32), ∀ (k0_h52 : k0_cond52 i v25 v32 = 1#1), ∀ (k0_h55 : k0_cond55 i v25 v32 = 1#1), ∀ a, (k0_off73 i v25 v32) a + S4096.size a ≤ S4194304.size a := fun i v25 v32 k0_hw4 k0_h52 k0_h55 => k0_hw4.2.2.2.2.2.2.2.2.2.2.1 k0_h52 k0_h55
theorem k0_off74_inb : ∀ (i : grid0.Coords) (v25 : BitVec 32) (v32 : BitVec 32) (k0_hw4 : k0_chk4 i v25 v32), ∀ (k0_h52 : k0_cond52 i v25 v32 = 1#1), ∀ (k0_h56 : k0_cond56 i v25 v32 = 1#1), ∀ a, (k0_off74 i v25 v32) a + S2048.size a ≤ S4194304.size a := fun i v25 v32 k0_hw4 k0_h52 k0_h56 => k0_hw4.2.2.2.2.2.2.2.2.2.2.2.1 k0_h52 k0_h56
theorem k0_off75_inb : ∀ (i : grid0.Coords) (v25 : BitVec 32) (v32 : BitVec 32) (k0_hw4 : k0_chk4 i v25 v32), ∀ (k0_h52 : k0_cond52 i v25 v32 = 1#1), ∀ (k0_h57 : k0_cond57 i v25 v32 = 1#1), ∀ a, (k0_off75 i v25 v32) a + S1024.size a ≤ S4194304.size a := fun i v25 v32 k0_hw4 k0_h52 k0_h57 => k0_hw4.2.2.2.2.2.2.2.2.2.2.2.2.1 k0_h52 k0_h57
theorem k0_off76_inb : ∀ (i : grid0.Coords) (v25 : BitVec 32) (v32 : BitVec 32) (k0_hw4 : k0_chk4 i v25 v32), ∀ (k0_h52 : k0_cond52 i v25 v32 = 1#1), ∀ (k0_h58 : k0_cond58 i v25 v32 = 1#1), ∀ a, (k0_off76 i v25 v32) a + S512.size a ≤ S4194304.size a := fun i v25 v32 k0_hw4 k0_h52 k0_h58 => k0_hw4.2.2.2.2.2.2.2.2.2.2.2.2.2.1 k0_h52 k0_h58
theorem k0_off77_inb : ∀ (i : grid0.Coords) (v25 : BitVec 32) (v32 : BitVec 32) (k0_hw4 : k0_chk4 i v25 v32), ∀ (k0_h52 : k0_cond52 i v25 v32 = 1#1), ∀ (k0_h59 : k0_cond59 i v25 v32 = 1#1), ∀ a, (k0_off77 i v25 v32) a + S256.size a ≤ S4194304.size a := fun i v25 v32 k0_hw4 k0_h52 k0_h59 => k0_hw4.2.2.2.2.2.2.2.2.2.2.2.2.2.2.1 k0_h52 k0_h59
theorem k0_off78_inb : ∀ (i : grid0.Coords) (v25 : BitVec 32) (v32 : BitVec 32) (k0_hw4 : k0_chk4 i v25 v32), ∀ (k0_h52 : k0_cond52 i v25 v32 = 1#1), ∀ (k0_h60 : k0_cond60 i v25 v32 = 1#1), ∀ a, (k0_off78 i v25 v32) a + S128.size a ≤ S4194304.size a := fun i v25 v32 k0_hw4 k0_h52 k0_h60 => k0_hw4.2.2.2.2.2.2.2.2.2.2.2.2.2.2.2.1 k0_h52 k0_h60
theorem k0_t23_ok : ∀ (i : grid0.Coords) (v25 : BitVec 32) (v32 : BitVec 32) (k0_hw4 : k0_chk4 i v25 v32), ∀ (k0_h52 : k0_cond52 i v25 v32 = 1#1), (k0_t23_loop i v25 v32).OK := fun i v25 v32 k0_hw4 k0_h52 => k0_hw4.2.2.2.2.2.2.2.2.2.2.2.2.2.2.2.2.1 k0_h52
theorem k0_off79_inb : ∀ (i : grid0.Coords) (v25 : BitVec 32) (v32 : BitVec 32) (k0_hw4 : k0_chk4 i v25 v32) (k0_t23 : Fin (k0_t23_loop i v25 v32).trips), ∀ (k0_h52 : k0_cond52 i v25 v32 = 1#1), ∀ a, (k0_off79 i v25 v32 k0_t23) a + S32768.size a ≤ S4194304.size a := fun i v25 v32 k0_hw4 k0_t23 k0_h52 => k0_hw4.2.2.2.2.2.2.2.2.2.2.2.2.2.2.2.2.2.1 k0_t23 k0_h52
theorem k0_t24_ok : ∀ (i : grid0.Coords) (v25 : BitVec 32) (v32 : BitVec 32) (k0_hw4 : k0_chk4 i v25 v32), ∀ (k0_h52 : k0_cond52 i v25 v32 = 1#1), (k0_t24_loop i v25 v32).OK := fun i v25 v32 k0_hw4 k0_h52 => k0_hw4.2.2.2.2.2.2.2.2.2.2.2.2.2.2.2.2.2.2.1 k0_h52
theorem k0_off80_inb : ∀ (i : grid0.Coords) (v25 : BitVec 32) (v32 : BitVec 32) (k0_hw4 : k0_chk4 i v25 v32) (k0_t24 : Fin (k0_t24_loop i v25 v32).trips), ∀ (k0_h52 : k0_cond52 i v25 v32 = 1#1), ∀ a, (k0_off80 i v25 v32 k0_t24) a + S32768.size a ≤ S4194304.size a := fun i v25 v32 k0_hw4 k0_t24 k0_h52 => k0_hw4.2.2.2.2.2.2.2.2.2.2.2.2.2.2.2.2.2.2.2.1 k0_t24 k0_h52
theorem k0_off81_inb : ∀ (i : grid0.Coords) (v25 : BitVec 32) (v32 : BitVec 32) (k0_hw4 : k0_chk4 i v25 v32), ∀ (k0_h52 : k0_cond52 i v25 v32 = 1#1), ∀ (k0_h61 : k0_cond61 i v25 v32 = 1#1), ∀ a, (k0_off81 i v25 v32) a + S16384.size a ≤ S4194304.size a := fun i v25 v32 k0_hw4 k0_h52 k0_h61 => k0_hw4.2.2.2.2.2.2.2.2.2.2.2.2.2.2.2.2.2.2.2.2.1 k0_h52 k0_h61
theorem k0_off82_inb : ∀ (i : grid0.Coords) (v25 : BitVec 32) (v32 : BitVec 32) (k0_hw4 : k0_chk4 i v25 v32), ∀ (k0_h52 : k0_cond52 i v25 v32 = 1#1), ∀ (k0_h62 : k0_cond62 i v25 v32 = 1#1), ∀ a, (k0_off82 i v25 v32) a + S8192.size a ≤ S4194304.size a := fun i v25 v32 k0_hw4 k0_h52 k0_h62 => k0_hw4.2.2.2.2.2.2.2.2.2.2.2.2.2.2.2.2.2.2.2.2.2.1 k0_h52 k0_h62
theorem k0_off83_inb : ∀ (i : grid0.Coords) (v25 : BitVec 32) (v32 : BitVec 32) (k0_hw4 : k0_chk4 i v25 v32), ∀ (k0_h52 : k0_cond52 i v25 v32 = 1#1), ∀ (k0_h63 : k0_cond63 i v25 v32 = 1#1), ∀ a, (k0_off83 i v25 v32) a + S4096.size a ≤ S4194304.size a := fun i v25 v32 k0_hw4 k0_h52 k0_h63 => k0_hw4.2.2.2.2.2.2.2.2.2.2.2.2.2.2.2.2.2.2.2.2.2.2.1 k0_h52 k0_h63
theorem k0_off84_inb : ∀ (i : grid0.Coords) (v25 : BitVec 32) (v32 : BitVec 32) (k0_hw4 : k0_chk4 i v25 v32), ∀ (k0_h52 : k0_cond52 i v25 v32 = 1#1), ∀ (k0_h64 : k0_cond64 i v25 v32 = 1#1), ∀ a, (k0_off84 i v25 v32) a + S2048.size a ≤ S4194304.size a := fun i v25 v32 k0_hw4 k0_h52 k0_h64 => k0_hw4.2.2.2.2.2.2.2.2.2.2.2.2.2.2.2.2.2.2.2.2.2.2.2.1 k0_h52 k0_h64
theorem k0_off85_inb : ∀ (i : grid0.Coords) (v25 : BitVec 32) (v32 : BitVec 32) (k0_hw4 : k0_chk4 i v25 v32), ∀ (k0_h52 : k0_cond52 i v25 v32 = 1#1), ∀ (k0_h65 : k0_cond65 i v25 v32 = 1#1), ∀ a, (k0_off85 i v25 v32) a + S1024.size a ≤ S4194304.size a := fun i v25 v32 k0_hw4 k0_h52 k0_h65 => k0_hw4.2.2.2.2.2.2.2.2.2.2.2.2.2.2.2.2.2.2.2.2.2.2.2.2.1 k0_h52 k0_h65
theorem k0_off86_inb : ∀ (i : grid0.Coords) (v25 : BitVec 32) (v32 : BitVec 32) (k0_hw4 : k0_chk4 i v25 v32), ∀ (k0_h52 : k0_cond52 i v25 v32 = 1#1), ∀ (k0_h66 : k0_cond66 i v25 v32 = 1#1), ∀ a, (k0_off86 i v25 v32) a + S512.size a ≤ S4194304.size a := fun i v25 v32 k0_hw4 k0_h52 k0_h66 => k0_hw4.2.2.2.2.2.2.2.2.2.2.2.2.2.2.2.2.2.2.2.2.2.2.2.2.2.1 k0_h52 k0_h66
theorem k0_off87_inb : ∀ (i : grid0.Coords) (v25 : BitVec 32) (v32 : BitVec 32) (k0_hw4 : k0_chk4 i v25 v32), ∀ (k0_h52 : k0_cond52 i v25 v32 = 1#1), ∀ (k0_h67 : k0_cond67 i v25 v32 = 1#1), ∀ a, (k0_off87 i v25 v32) a + S256.size a ≤ S4194304.size a := fun i v25 v32 k0_hw4 k0_h52 k0_h67 => k0_hw4.2.2.2.2.2.2.2.2.2.2.2.2.2.2.2.2.2.2.2.2.2.2.2.2.2.2.1 k0_h52 k0_h67
theorem k0_off88_inb : ∀ (i : grid0.Coords) (v25 : BitVec 32) (v32 : BitVec 32) (k0_hw4 : k0_chk4 i v25 v32), ∀ (k0_h52 : k0_cond52 i v25 v32 = 1#1), ∀ (k0_h68 : k0_cond68 i v25 v32 = 1#1), ∀ a, (k0_off88 i v25 v32) a + S128.size a ≤ S4194304.size a := fun i v25 v32 k0_hw4 k0_h52 k0_h68 => k0_hw4.2.2.2.2.2.2.2.2.2.2.2.2.2.2.2.2.2.2.2.2.2.2.2.2.2.2.2 k0_h52 k0_h68

@[reducible] def k0_t25_loop (i : grid0.Coords) (v32 : BitVec 32) (v39 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond69 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v42 : BitVec 1 := Scalar.cmpi .sgt v41 v40
  let v43 : BitVec 32 := Scalar.extui v42
  let c0_i32_4 : BitVec 32 := 0#32
  let v44 : BitVec 1 := Scalar.cmpi .ne v43 c0_i32_4
  v44

def k0_off89 (i : grid0.Coords) (v32 : BitVec 32) (v39 : BitVec 32) (k0_t25 : Fin (k0_t25_loop i v32 v39).trips) (c0_i32_97 : BitVec 32) : Fin 1 → Nat :=
  let c0_i32_24 : BitVec 32 := 0#32
  let c1_i32_26 : BitVec 32 := 1#32
  let arg17 : BitVec 32 := Scf.iv c0_i32_24 c1_i32_26 k0_t25
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t26_loop (i : grid0.Coords) (v32 : BitVec 32) (v39 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off90 (i : grid0.Coords) (v32 : BitVec 32) (v39 : BitVec 32) (k0_t26 : Fin (k0_t26_loop i v32 v39).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t26
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t27_loop (i : grid0.Coords) (v32 : BitVec 32) (v39 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off91 (i : grid0.Coords) (v32 : BitVec 32) (v39 : BitVec 32) (k0_t27 : Fin (k0_t27_loop i v32 v39).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c0_i32_35 : BitVec 32 := 0#32
  let c1_i32_37 : BitVec 32 := 1#32
  let arg17 : BitVec 32 := Scf.iv c0_i32_35 c1_i32_37 k0_t27
  let c256_i32_95 : BitVec 32 := 256#32
  let v286 : BitVec 32 := Scalar.muli arg17 c256_i32_95
  let v287 : BitVec 32 := Scalar.addi v40 v286
  let c128_i32_96 : BitVec 32 := 128#32
  let v288 : BitVec 32 := Scalar.muli v287 c128_i32_96
  ![v288.toNat]
@[reducible] def k0_t28_loop (i : grid0.Coords) (v32 : BitVec 32) (v39 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off92 (i : grid0.Coords) (v32 : BitVec 32) (v39 : BitVec 32) (k0_t28 : Fin (k0_t28_loop i v32 v39).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c0_i32_35 : BitVec 32 := 0#32
  let c1024_i32_0 : BitVec 32 := 1024#32
  let v3 : BitVec 32 := Scalar.addi v2 c1024_i32_0
  let v41 : BitVec 32 := Scalar.minsi v39 v3
  let v138 : BitVec 32 := Scalar.subi v41 v40
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t28
  let c256_i32_95 : BitVec 32 := 256#32
  let v286 : BitVec 32 := Scalar.muli arg17 c256_i32_95
  let v287 : BitVec 32 := Scalar.addi v40 v286
  let c128_i32_96 : BitVec 32 := 128#32
  let v288 : BitVec 32 := Scalar.muli v287 c128_i32_96
  ![v288.toNat]
def k0_off93 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m256_i32 : BitVec 32 := 4294967040#32
  let v185 : BitVec 32 := Scalar.andi v138 c_m256_i32
  let v186 : BitVec 32 := Scalar.addi v40 v185
  let c128_i32_95 : BitVec 32 := 128#32
  let v286 : BitVec 32 := Scalar.muli v186 c128_i32_95
  ![v286.toNat]
def k0_cond70 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off94 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m128_i32 : BitVec 32 := 4294967168#32
  let v191 : BitVec 32 := Scalar.andi v138 c_m128_i32
  let v192 : BitVec 32 := Scalar.addi v40 v191
  let c128_i32_95 : BitVec 32 := 128#32
  let v286 : BitVec 32 := Scalar.muli v192 c128_i32_95
  ![v286.toNat]
def k0_cond71 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off95 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m64_i32 : BitVec 32 := 4294967232#32
  let v197 : BitVec 32 := Scalar.andi v138 c_m64_i32
  let v198 : BitVec 32 := Scalar.addi v40 v197
  let c128_i32_95 : BitVec 32 := 128#32
  let v286 : BitVec 32 := Scalar.muli v198 c128_i32_95
  ![v286.toNat]
def k0_cond72 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off96 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m32_i32 : BitVec 32 := 4294967264#32
  let v203 : BitVec 32 := Scalar.andi v138 c_m32_i32
  let v204 : BitVec 32 := Scalar.addi v40 v203
  let c128_i32_95 : BitVec 32 := 128#32
  let v286 : BitVec 32 := Scalar.muli v204 c128_i32_95
  ![v286.toNat]
def k0_cond73 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off97 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m16_i32 : BitVec 32 := 4294967280#32
  let v209 : BitVec 32 := Scalar.andi v138 c_m16_i32
  let v210 : BitVec 32 := Scalar.addi v40 v209
  let c128_i32_95 : BitVec 32 := 128#32
  let v286 : BitVec 32 := Scalar.muli v210 c128_i32_95
  ![v286.toNat]
def k0_cond74 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off98 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m8_i32 : BitVec 32 := 4294967288#32
  let v215 : BitVec 32 := Scalar.andi v138 c_m8_i32
  let v216 : BitVec 32 := Scalar.addi v40 v215
  let c128_i32_95 : BitVec 32 := 128#32
  let v286 : BitVec 32 := Scalar.muli v216 c128_i32_95
  ![v286.toNat]
def k0_cond75 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off99 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m4_i32 : BitVec 32 := 4294967292#32
  let v221 : BitVec 32 := Scalar.andi v138 c_m4_i32
  let v222 : BitVec 32 := Scalar.addi v40 v221
  let c128_i32_95 : BitVec 32 := 128#32
  let v286 : BitVec 32 := Scalar.muli v222 c128_i32_95
  ![v286.toNat]
def k0_cond76 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off100 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m2_i32 : BitVec 32 := 4294967294#32
  let v227 : BitVec 32 := Scalar.andi v138 c_m2_i32
  let v228 : BitVec 32 := Scalar.addi v40 v227
  let c128_i32_95 : BitVec 32 := 128#32
  let v286 : BitVec 32 := Scalar.muli v228 c128_i32_95
  ![v286.toNat]
def k0_cond77 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t29_loop (i : grid0.Coords) (v32 : BitVec 32) (v39 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off101 (i : grid0.Coords) (v32 : BitVec 32) (v39 : BitVec 32) (k0_t29 : Fin (k0_t29_loop i v32 v39).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c0_i32_59 : BitVec 32 := 0#32
  let c1_i32_61 : BitVec 32 := 1#32
  let arg17 : BitVec 32 := Scf.iv c0_i32_59 c1_i32_61 k0_t29
  let c256_i32_95 : BitVec 32 := 256#32
  let v286 : BitVec 32 := Scalar.muli arg17 c256_i32_95
  let v287 : BitVec 32 := Scalar.addi v40 v286
  let c128_i32_96 : BitVec 32 := 128#32
  let v288 : BitVec 32 := Scalar.muli v287 c128_i32_96
  ![v288.toNat]
@[reducible] def k0_t30_loop (i : grid0.Coords) (v32 : BitVec 32) (v39 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off102 (i : grid0.Coords) (v32 : BitVec 32) (v39 : BitVec 32) (k0_t30 : Fin (k0_t30_loop i v32 v39).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c0_i32_59 : BitVec 32 := 0#32
  let c1024_i32_0 : BitVec 32 := 1024#32
  let v3 : BitVec 32 := Scalar.addi v2 c1024_i32_0
  let v41 : BitVec 32 := Scalar.minsi v39 v3
  let v138 : BitVec 32 := Scalar.subi v41 v40
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t30
  let c256_i32_95 : BitVec 32 := 256#32
  let v286 : BitVec 32 := Scalar.muli arg17 c256_i32_95
  let v287 : BitVec 32 := Scalar.addi v40 v286
  let c128_i32_96 : BitVec 32 := 128#32
  let v288 : BitVec 32 := Scalar.muli v287 c128_i32_96
  ![v288.toNat]
def k0_off103 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m256_i32_63 : BitVec 32 := 4294967040#32
  let v238 : BitVec 32 := Scalar.andi v138 c_m256_i32_63
  let v239 : BitVec 32 := Scalar.addi v40 v238
  let c128_i32_95 : BitVec 32 := 128#32
  let v286 : BitVec 32 := Scalar.muli v239 c128_i32_95
  ![v286.toNat]
def k0_cond78 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off104 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m128_i32_67 : BitVec 32 := 4294967168#32
  let v244 : BitVec 32 := Scalar.andi v138 c_m128_i32_67
  let v245 : BitVec 32 := Scalar.addi v40 v244
  let c128_i32_95 : BitVec 32 := 128#32
  let v286 : BitVec 32 := Scalar.muli v245 c128_i32_95
  ![v286.toNat]
def k0_cond79 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off105 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m64_i32_71 : BitVec 32 := 4294967232#32
  let v250 : BitVec 32 := Scalar.andi v138 c_m64_i32_71
  let v251 : BitVec 32 := Scalar.addi v40 v250
  let c128_i32_95 : BitVec 32 := 128#32
  let v286 : BitVec 32 := Scalar.muli v251 c128_i32_95
  ![v286.toNat]
def k0_cond80 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off106 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m32_i32_75 : BitVec 32 := 4294967264#32
  let v256 : BitVec 32 := Scalar.andi v138 c_m32_i32_75
  let v257 : BitVec 32 := Scalar.addi v40 v256
  let c128_i32_95 : BitVec 32 := 128#32
  let v286 : BitVec 32 := Scalar.muli v257 c128_i32_95
  ![v286.toNat]
def k0_cond81 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off107 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m16_i32_79 : BitVec 32 := 4294967280#32
  let v262 : BitVec 32 := Scalar.andi v138 c_m16_i32_79
  let v263 : BitVec 32 := Scalar.addi v40 v262
  let c128_i32_95 : BitVec 32 := 128#32
  let v286 : BitVec 32 := Scalar.muli v263 c128_i32_95
  ![v286.toNat]
def k0_cond82 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off108 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m8_i32_83 : BitVec 32 := 4294967288#32
  let v268 : BitVec 32 := Scalar.andi v138 c_m8_i32_83
  let v269 : BitVec 32 := Scalar.addi v40 v268
  let c128_i32_95 : BitVec 32 := 128#32
  let v286 : BitVec 32 := Scalar.muli v269 c128_i32_95
  ![v286.toNat]
def k0_cond83 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off109 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m4_i32_87 : BitVec 32 := 4294967292#32
  let v274 : BitVec 32 := Scalar.andi v138 c_m4_i32_87
  let v275 : BitVec 32 := Scalar.addi v40 v274
  let c128_i32_95 : BitVec 32 := 128#32
  let v286 : BitVec 32 := Scalar.muli v275 c128_i32_95
  ![v286.toNat]
def k0_cond84 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off110 (i : grid0.Coords) (v32 : BitVec 32) (v39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v40 : BitVec 32 := Scalar.maxsi v32 v2
  let c1024_i32_0 : BitVec 32 := 1024#32
  let v3 : BitVec 32 := Scalar.addi v2 c1024_i32_0
  let v41 : BitVec 32 := Scalar.minsi v39 v3
  let v138 : BitVec 32 := Scalar.subi v41 v40
  let c_m2_i32_91 : BitVec 32 := 4294967294#32
  let v280 : BitVec 32 := Scalar.andi v138 c_m2_i32_91
  let v281 : BitVec 32 := Scalar.addi v40 v280
  let c128_i32_95 : BitVec 32 := 128#32
  let v286 : BitVec 32 := Scalar.muli v281 c128_i32_95
  ![v286.toNat]
def k0_cond85 (i : grid0.Coords) (v32 : BitVec 32) (v39 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v41 : BitVec 32 := Scalar.minsi v39 v3
  let v40 : BitVec 32 := Scalar.maxsi v32 v2
  let v138 : BitVec 32 := Scalar.subi v41 v40
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk5 (i : grid0.Coords) (v32 : BitVec 32) (v39 : BitVec 32) : Prop :=
  (∀ (k0_h69 : k0_cond69 i v32 v39 = 1#1), (k0_t25_loop i v32 v39).OK) ∧
  (∀ k0_t25 : Fin (k0_t25_loop i v32 v39).trips, ∀ (k0_h69 : k0_cond69 i v32 v39 = 1#1), ∀ (r : Fin 16), ∀ a, (k0_off89 i v32 v39 k0_t25 (BitVec.ofNat 32 (16 * r.val))) a + S16.size a ≤ S32768.size a) ∧
  (∀ (k0_h69 : k0_cond69 i v32 v39 = 1#1), (k0_t26_loop i v32 v39).OK) ∧
  (∀ k0_t26 : Fin (k0_t26_loop i v32 v39).trips, ∀ (k0_h69 : k0_cond69 i v32 v39 = 1#1), ∀ (r : Fin 16), ∀ a, (k0_off90 i v32 v39 k0_t26 (BitVec.ofNat 32 (16 * r.val))) a + S16.size a ≤ S32768.size a) ∧
  (∀ (k0_h69 : k0_cond69 i v32 v39 = 1#1), (k0_t27_loop i v32 v39).OK) ∧
  (∀ k0_t27 : Fin (k0_t27_loop i v32 v39).trips, ∀ (k0_h69 : k0_cond69 i v32 v39 = 1#1), ∀ a, (k0_off91 i v32 v39 k0_t27) a + S32768.size a ≤ S4194304.size a) ∧
  (∀ (k0_h69 : k0_cond69 i v32 v39 = 1#1), (k0_t28_loop i v32 v39).OK) ∧
  (∀ k0_t28 : Fin (k0_t28_loop i v32 v39).trips, ∀ (k0_h69 : k0_cond69 i v32 v39 = 1#1), ∀ a, (k0_off92 i v32 v39 k0_t28) a + S32768.size a ≤ S4194304.size a) ∧
  (∀ (k0_h69 : k0_cond69 i v32 v39 = 1#1), ∀ (k0_h70 : k0_cond70 i v32 v39 = 1#1), ∀ a, (k0_off93 i v32 v39) a + S16384.size a ≤ S4194304.size a) ∧
  (∀ (k0_h69 : k0_cond69 i v32 v39 = 1#1), ∀ (k0_h71 : k0_cond71 i v32 v39 = 1#1), ∀ a, (k0_off94 i v32 v39) a + S8192.size a ≤ S4194304.size a) ∧
  (∀ (k0_h69 : k0_cond69 i v32 v39 = 1#1), ∀ (k0_h72 : k0_cond72 i v32 v39 = 1#1), ∀ a, (k0_off95 i v32 v39) a + S4096.size a ≤ S4194304.size a) ∧
  (∀ (k0_h69 : k0_cond69 i v32 v39 = 1#1), ∀ (k0_h73 : k0_cond73 i v32 v39 = 1#1), ∀ a, (k0_off96 i v32 v39) a + S2048.size a ≤ S4194304.size a) ∧
  (∀ (k0_h69 : k0_cond69 i v32 v39 = 1#1), ∀ (k0_h74 : k0_cond74 i v32 v39 = 1#1), ∀ a, (k0_off97 i v32 v39) a + S1024.size a ≤ S4194304.size a) ∧
  (∀ (k0_h69 : k0_cond69 i v32 v39 = 1#1), ∀ (k0_h75 : k0_cond75 i v32 v39 = 1#1), ∀ a, (k0_off98 i v32 v39) a + S512.size a ≤ S4194304.size a) ∧
  (∀ (k0_h69 : k0_cond69 i v32 v39 = 1#1), ∀ (k0_h76 : k0_cond76 i v32 v39 = 1#1), ∀ a, (k0_off99 i v32 v39) a + S256.size a ≤ S4194304.size a) ∧
  (∀ (k0_h69 : k0_cond69 i v32 v39 = 1#1), ∀ (k0_h77 : k0_cond77 i v32 v39 = 1#1), ∀ a, (k0_off100 i v32 v39) a + S128.size a ≤ S4194304.size a) ∧
  (∀ (k0_h69 : k0_cond69 i v32 v39 = 1#1), (k0_t29_loop i v32 v39).OK) ∧
  (∀ k0_t29 : Fin (k0_t29_loop i v32 v39).trips, ∀ (k0_h69 : k0_cond69 i v32 v39 = 1#1), ∀ a, (k0_off101 i v32 v39 k0_t29) a + S32768.size a ≤ S4194304.size a) ∧
  (∀ (k0_h69 : k0_cond69 i v32 v39 = 1#1), (k0_t30_loop i v32 v39).OK) ∧
  (∀ k0_t30 : Fin (k0_t30_loop i v32 v39).trips, ∀ (k0_h69 : k0_cond69 i v32 v39 = 1#1), ∀ a, (k0_off102 i v32 v39 k0_t30) a + S32768.size a ≤ S4194304.size a) ∧
  (∀ (k0_h69 : k0_cond69 i v32 v39 = 1#1), ∀ (k0_h78 : k0_cond78 i v32 v39 = 1#1), ∀ a, (k0_off103 i v32 v39) a + S16384.size a ≤ S4194304.size a) ∧
  (∀ (k0_h69 : k0_cond69 i v32 v39 = 1#1), ∀ (k0_h79 : k0_cond79 i v32 v39 = 1#1), ∀ a, (k0_off104 i v32 v39) a + S8192.size a ≤ S4194304.size a) ∧
  (∀ (k0_h69 : k0_cond69 i v32 v39 = 1#1), ∀ (k0_h80 : k0_cond80 i v32 v39 = 1#1), ∀ a, (k0_off105 i v32 v39) a + S4096.size a ≤ S4194304.size a) ∧
  (∀ (k0_h69 : k0_cond69 i v32 v39 = 1#1), ∀ (k0_h81 : k0_cond81 i v32 v39 = 1#1), ∀ a, (k0_off106 i v32 v39) a + S2048.size a ≤ S4194304.size a) ∧
  (∀ (k0_h69 : k0_cond69 i v32 v39 = 1#1), ∀ (k0_h82 : k0_cond82 i v32 v39 = 1#1), ∀ a, (k0_off107 i v32 v39) a + S1024.size a ≤ S4194304.size a) ∧
  (∀ (k0_h69 : k0_cond69 i v32 v39 = 1#1), ∀ (k0_h83 : k0_cond83 i v32 v39 = 1#1), ∀ a, (k0_off108 i v32 v39) a + S512.size a ≤ S4194304.size a) ∧
  (∀ (k0_h69 : k0_cond69 i v32 v39 = 1#1), ∀ (k0_h84 : k0_cond84 i v32 v39 = 1#1), ∀ a, (k0_off109 i v32 v39) a + S256.size a ≤ S4194304.size a) ∧
  (∀ (k0_h69 : k0_cond69 i v32 v39 = 1#1), ∀ (k0_h85 : k0_cond85 i v32 v39 = 1#1), ∀ a, (k0_off110 i v32 v39) a + S128.size a ≤ S4194304.size a)
theorem k0_t25_ok : ∀ (i : grid0.Coords) (v32 : BitVec 32) (v39 : BitVec 32) (k0_hw5 : k0_chk5 i v32 v39), ∀ (k0_h69 : k0_cond69 i v32 v39 = 1#1), (k0_t25_loop i v32 v39).OK := fun i v32 v39 k0_hw5 k0_h69 => k0_hw5.1 k0_h69
theorem k0_off89_inb : ∀ (i : grid0.Coords) (v32 : BitVec 32) (v39 : BitVec 32) (k0_hw5 : k0_chk5 i v32 v39) (k0_t25 : Fin (k0_t25_loop i v32 v39).trips), ∀ (k0_h69 : k0_cond69 i v32 v39 = 1#1), ∀ (r : Fin 16), ∀ a, (k0_off89 i v32 v39 k0_t25 (BitVec.ofNat 32 (16 * r.val))) a + S16.size a ≤ S32768.size a := fun i v32 v39 k0_hw5 k0_t25 k0_h69 r => k0_hw5.2.1 k0_t25 k0_h69 r
theorem k0_t26_ok : ∀ (i : grid0.Coords) (v32 : BitVec 32) (v39 : BitVec 32) (k0_hw5 : k0_chk5 i v32 v39), ∀ (k0_h69 : k0_cond69 i v32 v39 = 1#1), (k0_t26_loop i v32 v39).OK := fun i v32 v39 k0_hw5 k0_h69 => k0_hw5.2.2.1 k0_h69
theorem k0_off90_inb : ∀ (i : grid0.Coords) (v32 : BitVec 32) (v39 : BitVec 32) (k0_hw5 : k0_chk5 i v32 v39) (k0_t26 : Fin (k0_t26_loop i v32 v39).trips), ∀ (k0_h69 : k0_cond69 i v32 v39 = 1#1), ∀ (r : Fin 16), ∀ a, (k0_off90 i v32 v39 k0_t26 (BitVec.ofNat 32 (16 * r.val))) a + S16.size a ≤ S32768.size a := fun i v32 v39 k0_hw5 k0_t26 k0_h69 r => k0_hw5.2.2.2.1 k0_t26 k0_h69 r
theorem k0_t27_ok : ∀ (i : grid0.Coords) (v32 : BitVec 32) (v39 : BitVec 32) (k0_hw5 : k0_chk5 i v32 v39), ∀ (k0_h69 : k0_cond69 i v32 v39 = 1#1), (k0_t27_loop i v32 v39).OK := fun i v32 v39 k0_hw5 k0_h69 => k0_hw5.2.2.2.2.1 k0_h69
theorem k0_off91_inb : ∀ (i : grid0.Coords) (v32 : BitVec 32) (v39 : BitVec 32) (k0_hw5 : k0_chk5 i v32 v39) (k0_t27 : Fin (k0_t27_loop i v32 v39).trips), ∀ (k0_h69 : k0_cond69 i v32 v39 = 1#1), ∀ a, (k0_off91 i v32 v39 k0_t27) a + S32768.size a ≤ S4194304.size a := fun i v32 v39 k0_hw5 k0_t27 k0_h69 => k0_hw5.2.2.2.2.2.1 k0_t27 k0_h69
theorem k0_t28_ok : ∀ (i : grid0.Coords) (v32 : BitVec 32) (v39 : BitVec 32) (k0_hw5 : k0_chk5 i v32 v39), ∀ (k0_h69 : k0_cond69 i v32 v39 = 1#1), (k0_t28_loop i v32 v39).OK := fun i v32 v39 k0_hw5 k0_h69 => k0_hw5.2.2.2.2.2.2.1 k0_h69
theorem k0_off92_inb : ∀ (i : grid0.Coords) (v32 : BitVec 32) (v39 : BitVec 32) (k0_hw5 : k0_chk5 i v32 v39) (k0_t28 : Fin (k0_t28_loop i v32 v39).trips), ∀ (k0_h69 : k0_cond69 i v32 v39 = 1#1), ∀ a, (k0_off92 i v32 v39 k0_t28) a + S32768.size a ≤ S4194304.size a := fun i v32 v39 k0_hw5 k0_t28 k0_h69 => k0_hw5.2.2.2.2.2.2.2.1 k0_t28 k0_h69
theorem k0_off93_inb : ∀ (i : grid0.Coords) (v32 : BitVec 32) (v39 : BitVec 32) (k0_hw5 : k0_chk5 i v32 v39), ∀ (k0_h69 : k0_cond69 i v32 v39 = 1#1), ∀ (k0_h70 : k0_cond70 i v32 v39 = 1#1), ∀ a, (k0_off93 i v32 v39) a + S16384.size a ≤ S4194304.size a := fun i v32 v39 k0_hw5 k0_h69 k0_h70 => k0_hw5.2.2.2.2.2.2.2.2.1 k0_h69 k0_h70
theorem k0_off94_inb : ∀ (i : grid0.Coords) (v32 : BitVec 32) (v39 : BitVec 32) (k0_hw5 : k0_chk5 i v32 v39), ∀ (k0_h69 : k0_cond69 i v32 v39 = 1#1), ∀ (k0_h71 : k0_cond71 i v32 v39 = 1#1), ∀ a, (k0_off94 i v32 v39) a + S8192.size a ≤ S4194304.size a := fun i v32 v39 k0_hw5 k0_h69 k0_h71 => k0_hw5.2.2.2.2.2.2.2.2.2.1 k0_h69 k0_h71
theorem k0_off95_inb : ∀ (i : grid0.Coords) (v32 : BitVec 32) (v39 : BitVec 32) (k0_hw5 : k0_chk5 i v32 v39), ∀ (k0_h69 : k0_cond69 i v32 v39 = 1#1), ∀ (k0_h72 : k0_cond72 i v32 v39 = 1#1), ∀ a, (k0_off95 i v32 v39) a + S4096.size a ≤ S4194304.size a := fun i v32 v39 k0_hw5 k0_h69 k0_h72 => k0_hw5.2.2.2.2.2.2.2.2.2.2.1 k0_h69 k0_h72
theorem k0_off96_inb : ∀ (i : grid0.Coords) (v32 : BitVec 32) (v39 : BitVec 32) (k0_hw5 : k0_chk5 i v32 v39), ∀ (k0_h69 : k0_cond69 i v32 v39 = 1#1), ∀ (k0_h73 : k0_cond73 i v32 v39 = 1#1), ∀ a, (k0_off96 i v32 v39) a + S2048.size a ≤ S4194304.size a := fun i v32 v39 k0_hw5 k0_h69 k0_h73 => k0_hw5.2.2.2.2.2.2.2.2.2.2.2.1 k0_h69 k0_h73
theorem k0_off97_inb : ∀ (i : grid0.Coords) (v32 : BitVec 32) (v39 : BitVec 32) (k0_hw5 : k0_chk5 i v32 v39), ∀ (k0_h69 : k0_cond69 i v32 v39 = 1#1), ∀ (k0_h74 : k0_cond74 i v32 v39 = 1#1), ∀ a, (k0_off97 i v32 v39) a + S1024.size a ≤ S4194304.size a := fun i v32 v39 k0_hw5 k0_h69 k0_h74 => k0_hw5.2.2.2.2.2.2.2.2.2.2.2.2.1 k0_h69 k0_h74
theorem k0_off98_inb : ∀ (i : grid0.Coords) (v32 : BitVec 32) (v39 : BitVec 32) (k0_hw5 : k0_chk5 i v32 v39), ∀ (k0_h69 : k0_cond69 i v32 v39 = 1#1), ∀ (k0_h75 : k0_cond75 i v32 v39 = 1#1), ∀ a, (k0_off98 i v32 v39) a + S512.size a ≤ S4194304.size a := fun i v32 v39 k0_hw5 k0_h69 k0_h75 => k0_hw5.2.2.2.2.2.2.2.2.2.2.2.2.2.1 k0_h69 k0_h75
theorem k0_off99_inb : ∀ (i : grid0.Coords) (v32 : BitVec 32) (v39 : BitVec 32) (k0_hw5 : k0_chk5 i v32 v39), ∀ (k0_h69 : k0_cond69 i v32 v39 = 1#1), ∀ (k0_h76 : k0_cond76 i v32 v39 = 1#1), ∀ a, (k0_off99 i v32 v39) a + S256.size a ≤ S4194304.size a := fun i v32 v39 k0_hw5 k0_h69 k0_h76 => k0_hw5.2.2.2.2.2.2.2.2.2.2.2.2.2.2.1 k0_h69 k0_h76
theorem k0_off100_inb : ∀ (i : grid0.Coords) (v32 : BitVec 32) (v39 : BitVec 32) (k0_hw5 : k0_chk5 i v32 v39), ∀ (k0_h69 : k0_cond69 i v32 v39 = 1#1), ∀ (k0_h77 : k0_cond77 i v32 v39 = 1#1), ∀ a, (k0_off100 i v32 v39) a + S128.size a ≤ S4194304.size a := fun i v32 v39 k0_hw5 k0_h69 k0_h77 => k0_hw5.2.2.2.2.2.2.2.2.2.2.2.2.2.2.2.1 k0_h69 k0_h77
theorem k0_t29_ok : ∀ (i : grid0.Coords) (v32 : BitVec 32) (v39 : BitVec 32) (k0_hw5 : k0_chk5 i v32 v39), ∀ (k0_h69 : k0_cond69 i v32 v39 = 1#1), (k0_t29_loop i v32 v39).OK := fun i v32 v39 k0_hw5 k0_h69 => k0_hw5.2.2.2.2.2.2.2.2.2.2.2.2.2.2.2.2.1 k0_h69
theorem k0_off101_inb : ∀ (i : grid0.Coords) (v32 : BitVec 32) (v39 : BitVec 32) (k0_hw5 : k0_chk5 i v32 v39) (k0_t29 : Fin (k0_t29_loop i v32 v39).trips), ∀ (k0_h69 : k0_cond69 i v32 v39 = 1#1), ∀ a, (k0_off101 i v32 v39 k0_t29) a + S32768.size a ≤ S4194304.size a := fun i v32 v39 k0_hw5 k0_t29 k0_h69 => k0_hw5.2.2.2.2.2.2.2.2.2.2.2.2.2.2.2.2.2.1 k0_t29 k0_h69
theorem k0_t30_ok : ∀ (i : grid0.Coords) (v32 : BitVec 32) (v39 : BitVec 32) (k0_hw5 : k0_chk5 i v32 v39), ∀ (k0_h69 : k0_cond69 i v32 v39 = 1#1), (k0_t30_loop i v32 v39).OK := fun i v32 v39 k0_hw5 k0_h69 => k0_hw5.2.2.2.2.2.2.2.2.2.2.2.2.2.2.2.2.2.2.1 k0_h69
theorem k0_off102_inb : ∀ (i : grid0.Coords) (v32 : BitVec 32) (v39 : BitVec 32) (k0_hw5 : k0_chk5 i v32 v39) (k0_t30 : Fin (k0_t30_loop i v32 v39).trips), ∀ (k0_h69 : k0_cond69 i v32 v39 = 1#1), ∀ a, (k0_off102 i v32 v39 k0_t30) a + S32768.size a ≤ S4194304.size a := fun i v32 v39 k0_hw5 k0_t30 k0_h69 => k0_hw5.2.2.2.2.2.2.2.2.2.2.2.2.2.2.2.2.2.2.2.1 k0_t30 k0_h69
theorem k0_off103_inb : ∀ (i : grid0.Coords) (v32 : BitVec 32) (v39 : BitVec 32) (k0_hw5 : k0_chk5 i v32 v39), ∀ (k0_h69 : k0_cond69 i v32 v39 = 1#1), ∀ (k0_h78 : k0_cond78 i v32 v39 = 1#1), ∀ a, (k0_off103 i v32 v39) a + S16384.size a ≤ S4194304.size a := fun i v32 v39 k0_hw5 k0_h69 k0_h78 => k0_hw5.2.2.2.2.2.2.2.2.2.2.2.2.2.2.2.2.2.2.2.2.1 k0_h69 k0_h78
theorem k0_off104_inb : ∀ (i : grid0.Coords) (v32 : BitVec 32) (v39 : BitVec 32) (k0_hw5 : k0_chk5 i v32 v39), ∀ (k0_h69 : k0_cond69 i v32 v39 = 1#1), ∀ (k0_h79 : k0_cond79 i v32 v39 = 1#1), ∀ a, (k0_off104 i v32 v39) a + S8192.size a ≤ S4194304.size a := fun i v32 v39 k0_hw5 k0_h69 k0_h79 => k0_hw5.2.2.2.2.2.2.2.2.2.2.2.2.2.2.2.2.2.2.2.2.2.1 k0_h69 k0_h79
theorem k0_off105_inb : ∀ (i : grid0.Coords) (v32 : BitVec 32) (v39 : BitVec 32) (k0_hw5 : k0_chk5 i v32 v39), ∀ (k0_h69 : k0_cond69 i v32 v39 = 1#1), ∀ (k0_h80 : k0_cond80 i v32 v39 = 1#1), ∀ a, (k0_off105 i v32 v39) a + S4096.size a ≤ S4194304.size a := fun i v32 v39 k0_hw5 k0_h69 k0_h80 => k0_hw5.2.2.2.2.2.2.2.2.2.2.2.2.2.2.2.2.2.2.2.2.2.2.1 k0_h69 k0_h80
theorem k0_off106_inb : ∀ (i : grid0.Coords) (v32 : BitVec 32) (v39 : BitVec 32) (k0_hw5 : k0_chk5 i v32 v39), ∀ (k0_h69 : k0_cond69 i v32 v39 = 1#1), ∀ (k0_h81 : k0_cond81 i v32 v39 = 1#1), ∀ a, (k0_off106 i v32 v39) a + S2048.size a ≤ S4194304.size a := fun i v32 v39 k0_hw5 k0_h69 k0_h81 => k0_hw5.2.2.2.2.2.2.2.2.2.2.2.2.2.2.2.2.2.2.2.2.2.2.2.1 k0_h69 k0_h81
theorem k0_off107_inb : ∀ (i : grid0.Coords) (v32 : BitVec 32) (v39 : BitVec 32) (k0_hw5 : k0_chk5 i v32 v39), ∀ (k0_h69 : k0_cond69 i v32 v39 = 1#1), ∀ (k0_h82 : k0_cond82 i v32 v39 = 1#1), ∀ a, (k0_off107 i v32 v39) a + S1024.size a ≤ S4194304.size a := fun i v32 v39 k0_hw5 k0_h69 k0_h82 => k0_hw5.2.2.2.2.2.2.2.2.2.2.2.2.2.2.2.2.2.2.2.2.2.2.2.2.1 k0_h69 k0_h82
theorem k0_off108_inb : ∀ (i : grid0.Coords) (v32 : BitVec 32) (v39 : BitVec 32) (k0_hw5 : k0_chk5 i v32 v39), ∀ (k0_h69 : k0_cond69 i v32 v39 = 1#1), ∀ (k0_h83 : k0_cond83 i v32 v39 = 1#1), ∀ a, (k0_off108 i v32 v39) a + S512.size a ≤ S4194304.size a := fun i v32 v39 k0_hw5 k0_h69 k0_h83 => k0_hw5.2.2.2.2.2.2.2.2.2.2.2.2.2.2.2.2.2.2.2.2.2.2.2.2.2.1 k0_h69 k0_h83
theorem k0_off109_inb : ∀ (i : grid0.Coords) (v32 : BitVec 32) (v39 : BitVec 32) (k0_hw5 : k0_chk5 i v32 v39), ∀ (k0_h69 : k0_cond69 i v32 v39 = 1#1), ∀ (k0_h84 : k0_cond84 i v32 v39 = 1#1), ∀ a, (k0_off109 i v32 v39) a + S256.size a ≤ S4194304.size a := fun i v32 v39 k0_hw5 k0_h69 k0_h84 => k0_hw5.2.2.2.2.2.2.2.2.2.2.2.2.2.2.2.2.2.2.2.2.2.2.2.2.2.2.1 k0_h69 k0_h84
theorem k0_off110_inb : ∀ (i : grid0.Coords) (v32 : BitVec 32) (v39 : BitVec 32) (k0_hw5 : k0_chk5 i v32 v39), ∀ (k0_h69 : k0_cond69 i v32 v39 = 1#1), ∀ (k0_h85 : k0_cond85 i v32 v39 = 1#1), ∀ a, (k0_off110 i v32 v39) a + S128.size a ≤ S4194304.size a := fun i v32 v39 k0_hw5 k0_h69 k0_h85 => k0_hw5.2.2.2.2.2.2.2.2.2.2.2.2.2.2.2.2.2.2.2.2.2.2.2.2.2.2.2 k0_h69 k0_h85

@[reducible] def k0_t31_loop (i : grid0.Coords) (v39 : BitVec 32) (v46 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond86 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v49 : BitVec 1 := Scalar.cmpi .sgt v48 v47
  let v50 : BitVec 32 := Scalar.extui v49
  let c0_i32_5 : BitVec 32 := 0#32
  let v51 : BitVec 1 := Scalar.cmpi .ne v50 c0_i32_5
  v51

def k0_off111 (i : grid0.Coords) (v39 : BitVec 32) (v46 : BitVec 32) (k0_t31 : Fin (k0_t31_loop i v39 v46).trips) (c0_i32_97 : BitVec 32) : Fin 1 → Nat :=
  let c0_i32_24 : BitVec 32 := 0#32
  let c1_i32_26 : BitVec 32 := 1#32
  let arg17 : BitVec 32 := Scf.iv c0_i32_24 c1_i32_26 k0_t31
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t32_loop (i : grid0.Coords) (v39 : BitVec 32) (v46 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off112 (i : grid0.Coords) (v39 : BitVec 32) (v46 : BitVec 32) (k0_t32 : Fin (k0_t32_loop i v39 v46).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t32
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t33_loop (i : grid0.Coords) (v39 : BitVec 32) (v46 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off113 (i : grid0.Coords) (v39 : BitVec 32) (v46 : BitVec 32) (k0_t33 : Fin (k0_t33_loop i v39 v46).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c0_i32_35 : BitVec 32 := 0#32
  let c1_i32_37 : BitVec 32 := 1#32
  let arg17 : BitVec 32 := Scf.iv c0_i32_35 c1_i32_37 k0_t33
  let c256_i32_95 : BitVec 32 := 256#32
  let v286 : BitVec 32 := Scalar.muli arg17 c256_i32_95
  let v287 : BitVec 32 := Scalar.addi v47 v286
  let c128_i32_96 : BitVec 32 := 128#32
  let v288 : BitVec 32 := Scalar.muli v287 c128_i32_96
  ![v288.toNat]
@[reducible] def k0_t34_loop (i : grid0.Coords) (v39 : BitVec 32) (v46 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off114 (i : grid0.Coords) (v39 : BitVec 32) (v46 : BitVec 32) (k0_t34 : Fin (k0_t34_loop i v39 v46).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c0_i32_35 : BitVec 32 := 0#32
  let c1024_i32_0 : BitVec 32 := 1024#32
  let v3 : BitVec 32 := Scalar.addi v2 c1024_i32_0
  let v48 : BitVec 32 := Scalar.minsi v46 v3
  let v138 : BitVec 32 := Scalar.subi v48 v47
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t34
  let c256_i32_95 : BitVec 32 := 256#32
  let v286 : BitVec 32 := Scalar.muli arg17 c256_i32_95
  let v287 : BitVec 32 := Scalar.addi v47 v286
  let c128_i32_96 : BitVec 32 := 128#32
  let v288 : BitVec 32 := Scalar.muli v287 c128_i32_96
  ![v288.toNat]
def k0_off115 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m256_i32 : BitVec 32 := 4294967040#32
  let v185 : BitVec 32 := Scalar.andi v138 c_m256_i32
  let v186 : BitVec 32 := Scalar.addi v47 v185
  let c128_i32_95 : BitVec 32 := 128#32
  let v286 : BitVec 32 := Scalar.muli v186 c128_i32_95
  ![v286.toNat]
def k0_cond87 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off116 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m128_i32 : BitVec 32 := 4294967168#32
  let v191 : BitVec 32 := Scalar.andi v138 c_m128_i32
  let v192 : BitVec 32 := Scalar.addi v47 v191
  let c128_i32_95 : BitVec 32 := 128#32
  let v286 : BitVec 32 := Scalar.muli v192 c128_i32_95
  ![v286.toNat]
def k0_cond88 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off117 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m64_i32 : BitVec 32 := 4294967232#32
  let v197 : BitVec 32 := Scalar.andi v138 c_m64_i32
  let v198 : BitVec 32 := Scalar.addi v47 v197
  let c128_i32_95 : BitVec 32 := 128#32
  let v286 : BitVec 32 := Scalar.muli v198 c128_i32_95
  ![v286.toNat]
def k0_cond89 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off118 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m32_i32 : BitVec 32 := 4294967264#32
  let v203 : BitVec 32 := Scalar.andi v138 c_m32_i32
  let v204 : BitVec 32 := Scalar.addi v47 v203
  let c128_i32_95 : BitVec 32 := 128#32
  let v286 : BitVec 32 := Scalar.muli v204 c128_i32_95
  ![v286.toNat]
def k0_cond90 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off119 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m16_i32 : BitVec 32 := 4294967280#32
  let v209 : BitVec 32 := Scalar.andi v138 c_m16_i32
  let v210 : BitVec 32 := Scalar.addi v47 v209
  let c128_i32_95 : BitVec 32 := 128#32
  let v286 : BitVec 32 := Scalar.muli v210 c128_i32_95
  ![v286.toNat]
def k0_cond91 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off120 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m8_i32 : BitVec 32 := 4294967288#32
  let v215 : BitVec 32 := Scalar.andi v138 c_m8_i32
  let v216 : BitVec 32 := Scalar.addi v47 v215
  let c128_i32_95 : BitVec 32 := 128#32
  let v286 : BitVec 32 := Scalar.muli v216 c128_i32_95
  ![v286.toNat]
def k0_cond92 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off121 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m4_i32 : BitVec 32 := 4294967292#32
  let v221 : BitVec 32 := Scalar.andi v138 c_m4_i32
  let v222 : BitVec 32 := Scalar.addi v47 v221
  let c128_i32_95 : BitVec 32 := 128#32
  let v286 : BitVec 32 := Scalar.muli v222 c128_i32_95
  ![v286.toNat]
def k0_cond93 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off122 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m2_i32 : BitVec 32 := 4294967294#32
  let v227 : BitVec 32 := Scalar.andi v138 c_m2_i32
  let v228 : BitVec 32 := Scalar.addi v47 v227
  let c128_i32_95 : BitVec 32 := 128#32
  let v286 : BitVec 32 := Scalar.muli v228 c128_i32_95
  ![v286.toNat]
def k0_cond94 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t35_loop (i : grid0.Coords) (v39 : BitVec 32) (v46 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off123 (i : grid0.Coords) (v39 : BitVec 32) (v46 : BitVec 32) (k0_t35 : Fin (k0_t35_loop i v39 v46).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c0_i32_59 : BitVec 32 := 0#32
  let c1_i32_61 : BitVec 32 := 1#32
  let arg17 : BitVec 32 := Scf.iv c0_i32_59 c1_i32_61 k0_t35
  let c256_i32_95 : BitVec 32 := 256#32
  let v286 : BitVec 32 := Scalar.muli arg17 c256_i32_95
  let v287 : BitVec 32 := Scalar.addi v47 v286
  let c128_i32_96 : BitVec 32 := 128#32
  let v288 : BitVec 32 := Scalar.muli v287 c128_i32_96
  ![v288.toNat]
@[reducible] def k0_t36_loop (i : grid0.Coords) (v39 : BitVec 32) (v46 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off124 (i : grid0.Coords) (v39 : BitVec 32) (v46 : BitVec 32) (k0_t36 : Fin (k0_t36_loop i v39 v46).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c0_i32_59 : BitVec 32 := 0#32
  let c1024_i32_0 : BitVec 32 := 1024#32
  let v3 : BitVec 32 := Scalar.addi v2 c1024_i32_0
  let v48 : BitVec 32 := Scalar.minsi v46 v3
  let v138 : BitVec 32 := Scalar.subi v48 v47
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t36
  let c256_i32_95 : BitVec 32 := 256#32
  let v286 : BitVec 32 := Scalar.muli arg17 c256_i32_95
  let v287 : BitVec 32 := Scalar.addi v47 v286
  let c128_i32_96 : BitVec 32 := 128#32
  let v288 : BitVec 32 := Scalar.muli v287 c128_i32_96
  ![v288.toNat]
def k0_off125 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m256_i32_63 : BitVec 32 := 4294967040#32
  let v238 : BitVec 32 := Scalar.andi v138 c_m256_i32_63
  let v239 : BitVec 32 := Scalar.addi v47 v238
  let c128_i32_95 : BitVec 32 := 128#32
  let v286 : BitVec 32 := Scalar.muli v239 c128_i32_95
  ![v286.toNat]
def k0_cond95 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off126 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m128_i32_67 : BitVec 32 := 4294967168#32
  let v244 : BitVec 32 := Scalar.andi v138 c_m128_i32_67
  let v245 : BitVec 32 := Scalar.addi v47 v244
  let c128_i32_95 : BitVec 32 := 128#32
  let v286 : BitVec 32 := Scalar.muli v245 c128_i32_95
  ![v286.toNat]
def k0_cond96 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off127 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m64_i32_71 : BitVec 32 := 4294967232#32
  let v250 : BitVec 32 := Scalar.andi v138 c_m64_i32_71
  let v251 : BitVec 32 := Scalar.addi v47 v250
  let c128_i32_95 : BitVec 32 := 128#32
  let v286 : BitVec 32 := Scalar.muli v251 c128_i32_95
  ![v286.toNat]
def k0_cond97 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off128 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m32_i32_75 : BitVec 32 := 4294967264#32
  let v256 : BitVec 32 := Scalar.andi v138 c_m32_i32_75
  let v257 : BitVec 32 := Scalar.addi v47 v256
  let c128_i32_95 : BitVec 32 := 128#32
  let v286 : BitVec 32 := Scalar.muli v257 c128_i32_95
  ![v286.toNat]
def k0_cond98 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off129 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m16_i32_79 : BitVec 32 := 4294967280#32
  let v262 : BitVec 32 := Scalar.andi v138 c_m16_i32_79
  let v263 : BitVec 32 := Scalar.addi v47 v262
  let c128_i32_95 : BitVec 32 := 128#32
  let v286 : BitVec 32 := Scalar.muli v263 c128_i32_95
  ![v286.toNat]
def k0_cond99 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off130 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m8_i32_83 : BitVec 32 := 4294967288#32
  let v268 : BitVec 32 := Scalar.andi v138 c_m8_i32_83
  let v269 : BitVec 32 := Scalar.addi v47 v268
  let c128_i32_95 : BitVec 32 := 128#32
  let v286 : BitVec 32 := Scalar.muli v269 c128_i32_95
  ![v286.toNat]
def k0_cond100 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off131 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m4_i32_87 : BitVec 32 := 4294967292#32
  let v274 : BitVec 32 := Scalar.andi v138 c_m4_i32_87
  let v275 : BitVec 32 := Scalar.addi v47 v274
  let c128_i32_95 : BitVec 32 := 128#32
  let v286 : BitVec 32 := Scalar.muli v275 c128_i32_95
  ![v286.toNat]
def k0_cond101 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off132 (i : grid0.Coords) (v39 : BitVec 32) (v46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v47 : BitVec 32 := Scalar.maxsi v39 v2
  let c1024_i32_0 : BitVec 32 := 1024#32
  let v3 : BitVec 32 := Scalar.addi v2 c1024_i32_0
  let v48 : BitVec 32 := Scalar.minsi v46 v3
  let v138 : BitVec 32 := Scalar.subi v48 v47
  let c_m2_i32_91 : BitVec 32 := 4294967294#32
  let v280 : BitVec 32 := Scalar.andi v138 c_m2_i32_91
  let v281 : BitVec 32 := Scalar.addi v47 v280
  let c128_i32_95 : BitVec 32 := 128#32
  let v286 : BitVec 32 := Scalar.muli v281 c128_i32_95
  ![v286.toNat]
def k0_cond102 (i : grid0.Coords) (v39 : BitVec 32) (v46 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v48 : BitVec 32 := Scalar.minsi v46 v3
  let v47 : BitVec 32 := Scalar.maxsi v39 v2
  let v138 : BitVec 32 := Scalar.subi v48 v47
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk6 (i : grid0.Coords) (v39 : BitVec 32) (v46 : BitVec 32) : Prop :=
  (∀ (k0_h86 : k0_cond86 i v39 v46 = 1#1), (k0_t31_loop i v39 v46).OK) ∧
  (∀ k0_t31 : Fin (k0_t31_loop i v39 v46).trips, ∀ (k0_h86 : k0_cond86 i v39 v46 = 1#1), ∀ (r : Fin 16), ∀ a, (k0_off111 i v39 v46 k0_t31 (BitVec.ofNat 32 (16 * r.val))) a + S16.size a ≤ S32768.size a) ∧
  (∀ (k0_h86 : k0_cond86 i v39 v46 = 1#1), (k0_t32_loop i v39 v46).OK) ∧
  (∀ k0_t32 : Fin (k0_t32_loop i v39 v46).trips, ∀ (k0_h86 : k0_cond86 i v39 v46 = 1#1), ∀ (r : Fin 16), ∀ a, (k0_off112 i v39 v46 k0_t32 (BitVec.ofNat 32 (16 * r.val))) a + S16.size a ≤ S32768.size a) ∧
  (∀ (k0_h86 : k0_cond86 i v39 v46 = 1#1), (k0_t33_loop i v39 v46).OK) ∧
  (∀ k0_t33 : Fin (k0_t33_loop i v39 v46).trips, ∀ (k0_h86 : k0_cond86 i v39 v46 = 1#1), ∀ a, (k0_off113 i v39 v46 k0_t33) a + S32768.size a ≤ S4194304.size a) ∧
  (∀ (k0_h86 : k0_cond86 i v39 v46 = 1#1), (k0_t34_loop i v39 v46).OK) ∧
  (∀ k0_t34 : Fin (k0_t34_loop i v39 v46).trips, ∀ (k0_h86 : k0_cond86 i v39 v46 = 1#1), ∀ a, (k0_off114 i v39 v46 k0_t34) a + S32768.size a ≤ S4194304.size a) ∧
  (∀ (k0_h86 : k0_cond86 i v39 v46 = 1#1), ∀ (k0_h87 : k0_cond87 i v39 v46 = 1#1), ∀ a, (k0_off115 i v39 v46) a + S16384.size a ≤ S4194304.size a) ∧
  (∀ (k0_h86 : k0_cond86 i v39 v46 = 1#1), ∀ (k0_h88 : k0_cond88 i v39 v46 = 1#1), ∀ a, (k0_off116 i v39 v46) a + S8192.size a ≤ S4194304.size a) ∧
  (∀ (k0_h86 : k0_cond86 i v39 v46 = 1#1), ∀ (k0_h89 : k0_cond89 i v39 v46 = 1#1), ∀ a, (k0_off117 i v39 v46) a + S4096.size a ≤ S4194304.size a) ∧
  (∀ (k0_h86 : k0_cond86 i v39 v46 = 1#1), ∀ (k0_h90 : k0_cond90 i v39 v46 = 1#1), ∀ a, (k0_off118 i v39 v46) a + S2048.size a ≤ S4194304.size a) ∧
  (∀ (k0_h86 : k0_cond86 i v39 v46 = 1#1), ∀ (k0_h91 : k0_cond91 i v39 v46 = 1#1), ∀ a, (k0_off119 i v39 v46) a + S1024.size a ≤ S4194304.size a) ∧
  (∀ (k0_h86 : k0_cond86 i v39 v46 = 1#1), ∀ (k0_h92 : k0_cond92 i v39 v46 = 1#1), ∀ a, (k0_off120 i v39 v46) a + S512.size a ≤ S4194304.size a) ∧
  (∀ (k0_h86 : k0_cond86 i v39 v46 = 1#1), ∀ (k0_h93 : k0_cond93 i v39 v46 = 1#1), ∀ a, (k0_off121 i v39 v46) a + S256.size a ≤ S4194304.size a) ∧
  (∀ (k0_h86 : k0_cond86 i v39 v46 = 1#1), ∀ (k0_h94 : k0_cond94 i v39 v46 = 1#1), ∀ a, (k0_off122 i v39 v46) a + S128.size a ≤ S4194304.size a) ∧
  (∀ (k0_h86 : k0_cond86 i v39 v46 = 1#1), (k0_t35_loop i v39 v46).OK) ∧
  (∀ k0_t35 : Fin (k0_t35_loop i v39 v46).trips, ∀ (k0_h86 : k0_cond86 i v39 v46 = 1#1), ∀ a, (k0_off123 i v39 v46 k0_t35) a + S32768.size a ≤ S4194304.size a) ∧
  (∀ (k0_h86 : k0_cond86 i v39 v46 = 1#1), (k0_t36_loop i v39 v46).OK) ∧
  (∀ k0_t36 : Fin (k0_t36_loop i v39 v46).trips, ∀ (k0_h86 : k0_cond86 i v39 v46 = 1#1), ∀ a, (k0_off124 i v39 v46 k0_t36) a + S32768.size a ≤ S4194304.size a) ∧
  (∀ (k0_h86 : k0_cond86 i v39 v46 = 1#1), ∀ (k0_h95 : k0_cond95 i v39 v46 = 1#1), ∀ a, (k0_off125 i v39 v46) a + S16384.size a ≤ S4194304.size a) ∧
  (∀ (k0_h86 : k0_cond86 i v39 v46 = 1#1), ∀ (k0_h96 : k0_cond96 i v39 v46 = 1#1), ∀ a, (k0_off126 i v39 v46) a + S8192.size a ≤ S4194304.size a) ∧
  (∀ (k0_h86 : k0_cond86 i v39 v46 = 1#1), ∀ (k0_h97 : k0_cond97 i v39 v46 = 1#1), ∀ a, (k0_off127 i v39 v46) a + S4096.size a ≤ S4194304.size a) ∧
  (∀ (k0_h86 : k0_cond86 i v39 v46 = 1#1), ∀ (k0_h98 : k0_cond98 i v39 v46 = 1#1), ∀ a, (k0_off128 i v39 v46) a + S2048.size a ≤ S4194304.size a) ∧
  (∀ (k0_h86 : k0_cond86 i v39 v46 = 1#1), ∀ (k0_h99 : k0_cond99 i v39 v46 = 1#1), ∀ a, (k0_off129 i v39 v46) a + S1024.size a ≤ S4194304.size a) ∧
  (∀ (k0_h86 : k0_cond86 i v39 v46 = 1#1), ∀ (k0_h100 : k0_cond100 i v39 v46 = 1#1), ∀ a, (k0_off130 i v39 v46) a + S512.size a ≤ S4194304.size a) ∧
  (∀ (k0_h86 : k0_cond86 i v39 v46 = 1#1), ∀ (k0_h101 : k0_cond101 i v39 v46 = 1#1), ∀ a, (k0_off131 i v39 v46) a + S256.size a ≤ S4194304.size a) ∧
  (∀ (k0_h86 : k0_cond86 i v39 v46 = 1#1), ∀ (k0_h102 : k0_cond102 i v39 v46 = 1#1), ∀ a, (k0_off132 i v39 v46) a + S128.size a ≤ S4194304.size a)
theorem k0_t31_ok : ∀ (i : grid0.Coords) (v39 : BitVec 32) (v46 : BitVec 32) (k0_hw6 : k0_chk6 i v39 v46), ∀ (k0_h86 : k0_cond86 i v39 v46 = 1#1), (k0_t31_loop i v39 v46).OK := fun i v39 v46 k0_hw6 k0_h86 => k0_hw6.1 k0_h86
theorem k0_off111_inb : ∀ (i : grid0.Coords) (v39 : BitVec 32) (v46 : BitVec 32) (k0_hw6 : k0_chk6 i v39 v46) (k0_t31 : Fin (k0_t31_loop i v39 v46).trips), ∀ (k0_h86 : k0_cond86 i v39 v46 = 1#1), ∀ (r : Fin 16), ∀ a, (k0_off111 i v39 v46 k0_t31 (BitVec.ofNat 32 (16 * r.val))) a + S16.size a ≤ S32768.size a := fun i v39 v46 k0_hw6 k0_t31 k0_h86 r => k0_hw6.2.1 k0_t31 k0_h86 r
theorem k0_t32_ok : ∀ (i : grid0.Coords) (v39 : BitVec 32) (v46 : BitVec 32) (k0_hw6 : k0_chk6 i v39 v46), ∀ (k0_h86 : k0_cond86 i v39 v46 = 1#1), (k0_t32_loop i v39 v46).OK := fun i v39 v46 k0_hw6 k0_h86 => k0_hw6.2.2.1 k0_h86
theorem k0_off112_inb : ∀ (i : grid0.Coords) (v39 : BitVec 32) (v46 : BitVec 32) (k0_hw6 : k0_chk6 i v39 v46) (k0_t32 : Fin (k0_t32_loop i v39 v46).trips), ∀ (k0_h86 : k0_cond86 i v39 v46 = 1#1), ∀ (r : Fin 16), ∀ a, (k0_off112 i v39 v46 k0_t32 (BitVec.ofNat 32 (16 * r.val))) a + S16.size a ≤ S32768.size a := fun i v39 v46 k0_hw6 k0_t32 k0_h86 r => k0_hw6.2.2.2.1 k0_t32 k0_h86 r
theorem k0_t33_ok : ∀ (i : grid0.Coords) (v39 : BitVec 32) (v46 : BitVec 32) (k0_hw6 : k0_chk6 i v39 v46), ∀ (k0_h86 : k0_cond86 i v39 v46 = 1#1), (k0_t33_loop i v39 v46).OK := fun i v39 v46 k0_hw6 k0_h86 => k0_hw6.2.2.2.2.1 k0_h86
theorem k0_off113_inb : ∀ (i : grid0.Coords) (v39 : BitVec 32) (v46 : BitVec 32) (k0_hw6 : k0_chk6 i v39 v46) (k0_t33 : Fin (k0_t33_loop i v39 v46).trips), ∀ (k0_h86 : k0_cond86 i v39 v46 = 1#1), ∀ a, (k0_off113 i v39 v46 k0_t33) a + S32768.size a ≤ S4194304.size a := fun i v39 v46 k0_hw6 k0_t33 k0_h86 => k0_hw6.2.2.2.2.2.1 k0_t33 k0_h86
theorem k0_t34_ok : ∀ (i : grid0.Coords) (v39 : BitVec 32) (v46 : BitVec 32) (k0_hw6 : k0_chk6 i v39 v46), ∀ (k0_h86 : k0_cond86 i v39 v46 = 1#1), (k0_t34_loop i v39 v46).OK := fun i v39 v46 k0_hw6 k0_h86 => k0_hw6.2.2.2.2.2.2.1 k0_h86
theorem k0_off114_inb : ∀ (i : grid0.Coords) (v39 : BitVec 32) (v46 : BitVec 32) (k0_hw6 : k0_chk6 i v39 v46) (k0_t34 : Fin (k0_t34_loop i v39 v46).trips), ∀ (k0_h86 : k0_cond86 i v39 v46 = 1#1), ∀ a, (k0_off114 i v39 v46 k0_t34) a + S32768.size a ≤ S4194304.size a := fun i v39 v46 k0_hw6 k0_t34 k0_h86 => k0_hw6.2.2.2.2.2.2.2.1 k0_t34 k0_h86
theorem k0_off115_inb : ∀ (i : grid0.Coords) (v39 : BitVec 32) (v46 : BitVec 32) (k0_hw6 : k0_chk6 i v39 v46), ∀ (k0_h86 : k0_cond86 i v39 v46 = 1#1), ∀ (k0_h87 : k0_cond87 i v39 v46 = 1#1), ∀ a, (k0_off115 i v39 v46) a + S16384.size a ≤ S4194304.size a := fun i v39 v46 k0_hw6 k0_h86 k0_h87 => k0_hw6.2.2.2.2.2.2.2.2.1 k0_h86 k0_h87
theorem k0_off116_inb : ∀ (i : grid0.Coords) (v39 : BitVec 32) (v46 : BitVec 32) (k0_hw6 : k0_chk6 i v39 v46), ∀ (k0_h86 : k0_cond86 i v39 v46 = 1#1), ∀ (k0_h88 : k0_cond88 i v39 v46 = 1#1), ∀ a, (k0_off116 i v39 v46) a + S8192.size a ≤ S4194304.size a := fun i v39 v46 k0_hw6 k0_h86 k0_h88 => k0_hw6.2.2.2.2.2.2.2.2.2.1 k0_h86 k0_h88
theorem k0_off117_inb : ∀ (i : grid0.Coords) (v39 : BitVec 32) (v46 : BitVec 32) (k0_hw6 : k0_chk6 i v39 v46), ∀ (k0_h86 : k0_cond86 i v39 v46 = 1#1), ∀ (k0_h89 : k0_cond89 i v39 v46 = 1#1), ∀ a, (k0_off117 i v39 v46) a + S4096.size a ≤ S4194304.size a := fun i v39 v46 k0_hw6 k0_h86 k0_h89 => k0_hw6.2.2.2.2.2.2.2.2.2.2.1 k0_h86 k0_h89
theorem k0_off118_inb : ∀ (i : grid0.Coords) (v39 : BitVec 32) (v46 : BitVec 32) (k0_hw6 : k0_chk6 i v39 v46), ∀ (k0_h86 : k0_cond86 i v39 v46 = 1#1), ∀ (k0_h90 : k0_cond90 i v39 v46 = 1#1), ∀ a, (k0_off118 i v39 v46) a + S2048.size a ≤ S4194304.size a := fun i v39 v46 k0_hw6 k0_h86 k0_h90 => k0_hw6.2.2.2.2.2.2.2.2.2.2.2.1 k0_h86 k0_h90
theorem k0_off119_inb : ∀ (i : grid0.Coords) (v39 : BitVec 32) (v46 : BitVec 32) (k0_hw6 : k0_chk6 i v39 v46), ∀ (k0_h86 : k0_cond86 i v39 v46 = 1#1), ∀ (k0_h91 : k0_cond91 i v39 v46 = 1#1), ∀ a, (k0_off119 i v39 v46) a + S1024.size a ≤ S4194304.size a := fun i v39 v46 k0_hw6 k0_h86 k0_h91 => k0_hw6.2.2.2.2.2.2.2.2.2.2.2.2.1 k0_h86 k0_h91
theorem k0_off120_inb : ∀ (i : grid0.Coords) (v39 : BitVec 32) (v46 : BitVec 32) (k0_hw6 : k0_chk6 i v39 v46), ∀ (k0_h86 : k0_cond86 i v39 v46 = 1#1), ∀ (k0_h92 : k0_cond92 i v39 v46 = 1#1), ∀ a, (k0_off120 i v39 v46) a + S512.size a ≤ S4194304.size a := fun i v39 v46 k0_hw6 k0_h86 k0_h92 => k0_hw6.2.2.2.2.2.2.2.2.2.2.2.2.2.1 k0_h86 k0_h92
theorem k0_off121_inb : ∀ (i : grid0.Coords) (v39 : BitVec 32) (v46 : BitVec 32) (k0_hw6 : k0_chk6 i v39 v46), ∀ (k0_h86 : k0_cond86 i v39 v46 = 1#1), ∀ (k0_h93 : k0_cond93 i v39 v46 = 1#1), ∀ a, (k0_off121 i v39 v46) a + S256.size a ≤ S4194304.size a := fun i v39 v46 k0_hw6 k0_h86 k0_h93 => k0_hw6.2.2.2.2.2.2.2.2.2.2.2.2.2.2.1 k0_h86 k0_h93
theorem k0_off122_inb : ∀ (i : grid0.Coords) (v39 : BitVec 32) (v46 : BitVec 32) (k0_hw6 : k0_chk6 i v39 v46), ∀ (k0_h86 : k0_cond86 i v39 v46 = 1#1), ∀ (k0_h94 : k0_cond94 i v39 v46 = 1#1), ∀ a, (k0_off122 i v39 v46) a + S128.size a ≤ S4194304.size a := fun i v39 v46 k0_hw6 k0_h86 k0_h94 => k0_hw6.2.2.2.2.2.2.2.2.2.2.2.2.2.2.2.1 k0_h86 k0_h94
theorem k0_t35_ok : ∀ (i : grid0.Coords) (v39 : BitVec 32) (v46 : BitVec 32) (k0_hw6 : k0_chk6 i v39 v46), ∀ (k0_h86 : k0_cond86 i v39 v46 = 1#1), (k0_t35_loop i v39 v46).OK := fun i v39 v46 k0_hw6 k0_h86 => k0_hw6.2.2.2.2.2.2.2.2.2.2.2.2.2.2.2.2.1 k0_h86
theorem k0_off123_inb : ∀ (i : grid0.Coords) (v39 : BitVec 32) (v46 : BitVec 32) (k0_hw6 : k0_chk6 i v39 v46) (k0_t35 : Fin (k0_t35_loop i v39 v46).trips), ∀ (k0_h86 : k0_cond86 i v39 v46 = 1#1), ∀ a, (k0_off123 i v39 v46 k0_t35) a + S32768.size a ≤ S4194304.size a := fun i v39 v46 k0_hw6 k0_t35 k0_h86 => k0_hw6.2.2.2.2.2.2.2.2.2.2.2.2.2.2.2.2.2.1 k0_t35 k0_h86
theorem k0_t36_ok : ∀ (i : grid0.Coords) (v39 : BitVec 32) (v46 : BitVec 32) (k0_hw6 : k0_chk6 i v39 v46), ∀ (k0_h86 : k0_cond86 i v39 v46 = 1#1), (k0_t36_loop i v39 v46).OK := fun i v39 v46 k0_hw6 k0_h86 => k0_hw6.2.2.2.2.2.2.2.2.2.2.2.2.2.2.2.2.2.2.1 k0_h86
theorem k0_off124_inb : ∀ (i : grid0.Coords) (v39 : BitVec 32) (v46 : BitVec 32) (k0_hw6 : k0_chk6 i v39 v46) (k0_t36 : Fin (k0_t36_loop i v39 v46).trips), ∀ (k0_h86 : k0_cond86 i v39 v46 = 1#1), ∀ a, (k0_off124 i v39 v46 k0_t36) a + S32768.size a ≤ S4194304.size a := fun i v39 v46 k0_hw6 k0_t36 k0_h86 => k0_hw6.2.2.2.2.2.2.2.2.2.2.2.2.2.2.2.2.2.2.2.1 k0_t36 k0_h86
theorem k0_off125_inb : ∀ (i : grid0.Coords) (v39 : BitVec 32) (v46 : BitVec 32) (k0_hw6 : k0_chk6 i v39 v46), ∀ (k0_h86 : k0_cond86 i v39 v46 = 1#1), ∀ (k0_h95 : k0_cond95 i v39 v46 = 1#1), ∀ a, (k0_off125 i v39 v46) a + S16384.size a ≤ S4194304.size a := fun i v39 v46 k0_hw6 k0_h86 k0_h95 => k0_hw6.2.2.2.2.2.2.2.2.2.2.2.2.2.2.2.2.2.2.2.2.1 k0_h86 k0_h95
theorem k0_off126_inb : ∀ (i : grid0.Coords) (v39 : BitVec 32) (v46 : BitVec 32) (k0_hw6 : k0_chk6 i v39 v46), ∀ (k0_h86 : k0_cond86 i v39 v46 = 1#1), ∀ (k0_h96 : k0_cond96 i v39 v46 = 1#1), ∀ a, (k0_off126 i v39 v46) a + S8192.size a ≤ S4194304.size a := fun i v39 v46 k0_hw6 k0_h86 k0_h96 => k0_hw6.2.2.2.2.2.2.2.2.2.2.2.2.2.2.2.2.2.2.2.2.2.1 k0_h86 k0_h96
theorem k0_off127_inb : ∀ (i : grid0.Coords) (v39 : BitVec 32) (v46 : BitVec 32) (k0_hw6 : k0_chk6 i v39 v46), ∀ (k0_h86 : k0_cond86 i v39 v46 = 1#1), ∀ (k0_h97 : k0_cond97 i v39 v46 = 1#1), ∀ a, (k0_off127 i v39 v46) a + S4096.size a ≤ S4194304.size a := fun i v39 v46 k0_hw6 k0_h86 k0_h97 => k0_hw6.2.2.2.2.2.2.2.2.2.2.2.2.2.2.2.2.2.2.2.2.2.2.1 k0_h86 k0_h97
theorem k0_off128_inb : ∀ (i : grid0.Coords) (v39 : BitVec 32) (v46 : BitVec 32) (k0_hw6 : k0_chk6 i v39 v46), ∀ (k0_h86 : k0_cond86 i v39 v46 = 1#1), ∀ (k0_h98 : k0_cond98 i v39 v46 = 1#1), ∀ a, (k0_off128 i v39 v46) a + S2048.size a ≤ S4194304.size a := fun i v39 v46 k0_hw6 k0_h86 k0_h98 => k0_hw6.2.2.2.2.2.2.2.2.2.2.2.2.2.2.2.2.2.2.2.2.2.2.2.1 k0_h86 k0_h98
theorem k0_off129_inb : ∀ (i : grid0.Coords) (v39 : BitVec 32) (v46 : BitVec 32) (k0_hw6 : k0_chk6 i v39 v46), ∀ (k0_h86 : k0_cond86 i v39 v46 = 1#1), ∀ (k0_h99 : k0_cond99 i v39 v46 = 1#1), ∀ a, (k0_off129 i v39 v46) a + S1024.size a ≤ S4194304.size a := fun i v39 v46 k0_hw6 k0_h86 k0_h99 => k0_hw6.2.2.2.2.2.2.2.2.2.2.2.2.2.2.2.2.2.2.2.2.2.2.2.2.1 k0_h86 k0_h99
theorem k0_off130_inb : ∀ (i : grid0.Coords) (v39 : BitVec 32) (v46 : BitVec 32) (k0_hw6 : k0_chk6 i v39 v46), ∀ (k0_h86 : k0_cond86 i v39 v46 = 1#1), ∀ (k0_h100 : k0_cond100 i v39 v46 = 1#1), ∀ a, (k0_off130 i v39 v46) a + S512.size a ≤ S4194304.size a := fun i v39 v46 k0_hw6 k0_h86 k0_h100 => k0_hw6.2.2.2.2.2.2.2.2.2.2.2.2.2.2.2.2.2.2.2.2.2.2.2.2.2.1 k0_h86 k0_h100
theorem k0_off131_inb : ∀ (i : grid0.Coords) (v39 : BitVec 32) (v46 : BitVec 32) (k0_hw6 : k0_chk6 i v39 v46), ∀ (k0_h86 : k0_cond86 i v39 v46 = 1#1), ∀ (k0_h101 : k0_cond101 i v39 v46 = 1#1), ∀ a, (k0_off131 i v39 v46) a + S256.size a ≤ S4194304.size a := fun i v39 v46 k0_hw6 k0_h86 k0_h101 => k0_hw6.2.2.2.2.2.2.2.2.2.2.2.2.2.2.2.2.2.2.2.2.2.2.2.2.2.2.1 k0_h86 k0_h101
theorem k0_off132_inb : ∀ (i : grid0.Coords) (v39 : BitVec 32) (v46 : BitVec 32) (k0_hw6 : k0_chk6 i v39 v46), ∀ (k0_h86 : k0_cond86 i v39 v46 = 1#1), ∀ (k0_h102 : k0_cond102 i v39 v46 = 1#1), ∀ a, (k0_off132 i v39 v46) a + S128.size a ≤ S4194304.size a := fun i v39 v46 k0_hw6 k0_h86 k0_h102 => k0_hw6.2.2.2.2.2.2.2.2.2.2.2.2.2.2.2.2.2.2.2.2.2.2.2.2.2.2.2 k0_h86 k0_h102

@[reducible] def k0_t37_loop (i : grid0.Coords) (v46 : BitVec 32) (v53 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond103 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v56 : BitVec 1 := Scalar.cmpi .sgt v55 v54
  let v57 : BitVec 32 := Scalar.extui v56
  let c0_i32_6 : BitVec 32 := 0#32
  let v58 : BitVec 1 := Scalar.cmpi .ne v57 c0_i32_6
  v58

def k0_off133 (i : grid0.Coords) (v46 : BitVec 32) (v53 : BitVec 32) (k0_t37 : Fin (k0_t37_loop i v46 v53).trips) (c0_i32_97 : BitVec 32) : Fin 1 → Nat :=
  let c0_i32_24 : BitVec 32 := 0#32
  let c1_i32_26 : BitVec 32 := 1#32
  let arg17 : BitVec 32 := Scf.iv c0_i32_24 c1_i32_26 k0_t37
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t38_loop (i : grid0.Coords) (v46 : BitVec 32) (v53 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off134 (i : grid0.Coords) (v46 : BitVec 32) (v53 : BitVec 32) (k0_t38 : Fin (k0_t38_loop i v46 v53).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t38
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t39_loop (i : grid0.Coords) (v46 : BitVec 32) (v53 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off135 (i : grid0.Coords) (v46 : BitVec 32) (v53 : BitVec 32) (k0_t39 : Fin (k0_t39_loop i v46 v53).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c0_i32_35 : BitVec 32 := 0#32
  let c1_i32_37 : BitVec 32 := 1#32
  let arg17 : BitVec 32 := Scf.iv c0_i32_35 c1_i32_37 k0_t39
  let c256_i32_95 : BitVec 32 := 256#32
  let v286 : BitVec 32 := Scalar.muli arg17 c256_i32_95
  let v287 : BitVec 32 := Scalar.addi v54 v286
  let c128_i32_96 : BitVec 32 := 128#32
  let v288 : BitVec 32 := Scalar.muli v287 c128_i32_96
  ![v288.toNat]
@[reducible] def k0_t40_loop (i : grid0.Coords) (v46 : BitVec 32) (v53 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off136 (i : grid0.Coords) (v46 : BitVec 32) (v53 : BitVec 32) (k0_t40 : Fin (k0_t40_loop i v46 v53).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c0_i32_35 : BitVec 32 := 0#32
  let c1024_i32_0 : BitVec 32 := 1024#32
  let v3 : BitVec 32 := Scalar.addi v2 c1024_i32_0
  let v55 : BitVec 32 := Scalar.minsi v53 v3
  let v138 : BitVec 32 := Scalar.subi v55 v54
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t40
  let c256_i32_95 : BitVec 32 := 256#32
  let v286 : BitVec 32 := Scalar.muli arg17 c256_i32_95
  let v287 : BitVec 32 := Scalar.addi v54 v286
  let c128_i32_96 : BitVec 32 := 128#32
  let v288 : BitVec 32 := Scalar.muli v287 c128_i32_96
  ![v288.toNat]
def k0_off137 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m256_i32 : BitVec 32 := 4294967040#32
  let v185 : BitVec 32 := Scalar.andi v138 c_m256_i32
  let v186 : BitVec 32 := Scalar.addi v54 v185
  let c128_i32_95 : BitVec 32 := 128#32
  let v286 : BitVec 32 := Scalar.muli v186 c128_i32_95
  ![v286.toNat]
def k0_cond104 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off138 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m128_i32 : BitVec 32 := 4294967168#32
  let v191 : BitVec 32 := Scalar.andi v138 c_m128_i32
  let v192 : BitVec 32 := Scalar.addi v54 v191
  let c128_i32_95 : BitVec 32 := 128#32
  let v286 : BitVec 32 := Scalar.muli v192 c128_i32_95
  ![v286.toNat]
def k0_cond105 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off139 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m64_i32 : BitVec 32 := 4294967232#32
  let v197 : BitVec 32 := Scalar.andi v138 c_m64_i32
  let v198 : BitVec 32 := Scalar.addi v54 v197
  let c128_i32_95 : BitVec 32 := 128#32
  let v286 : BitVec 32 := Scalar.muli v198 c128_i32_95
  ![v286.toNat]
def k0_cond106 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off140 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m32_i32 : BitVec 32 := 4294967264#32
  let v203 : BitVec 32 := Scalar.andi v138 c_m32_i32
  let v204 : BitVec 32 := Scalar.addi v54 v203
  let c128_i32_95 : BitVec 32 := 128#32
  let v286 : BitVec 32 := Scalar.muli v204 c128_i32_95
  ![v286.toNat]
def k0_cond107 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off141 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m16_i32 : BitVec 32 := 4294967280#32
  let v209 : BitVec 32 := Scalar.andi v138 c_m16_i32
  let v210 : BitVec 32 := Scalar.addi v54 v209
  let c128_i32_95 : BitVec 32 := 128#32
  let v286 : BitVec 32 := Scalar.muli v210 c128_i32_95
  ![v286.toNat]
def k0_cond108 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off142 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m8_i32 : BitVec 32 := 4294967288#32
  let v215 : BitVec 32 := Scalar.andi v138 c_m8_i32
  let v216 : BitVec 32 := Scalar.addi v54 v215
  let c128_i32_95 : BitVec 32 := 128#32
  let v286 : BitVec 32 := Scalar.muli v216 c128_i32_95
  ![v286.toNat]
def k0_cond109 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off143 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m4_i32 : BitVec 32 := 4294967292#32
  let v221 : BitVec 32 := Scalar.andi v138 c_m4_i32
  let v222 : BitVec 32 := Scalar.addi v54 v221
  let c128_i32_95 : BitVec 32 := 128#32
  let v286 : BitVec 32 := Scalar.muli v222 c128_i32_95
  ![v286.toNat]
def k0_cond110 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off144 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m2_i32 : BitVec 32 := 4294967294#32
  let v227 : BitVec 32 := Scalar.andi v138 c_m2_i32
  let v228 : BitVec 32 := Scalar.addi v54 v227
  let c128_i32_95 : BitVec 32 := 128#32
  let v286 : BitVec 32 := Scalar.muli v228 c128_i32_95
  ![v286.toNat]
def k0_cond111 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t41_loop (i : grid0.Coords) (v46 : BitVec 32) (v53 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off145 (i : grid0.Coords) (v46 : BitVec 32) (v53 : BitVec 32) (k0_t41 : Fin (k0_t41_loop i v46 v53).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c0_i32_59 : BitVec 32 := 0#32
  let c1_i32_61 : BitVec 32 := 1#32
  let arg17 : BitVec 32 := Scf.iv c0_i32_59 c1_i32_61 k0_t41
  let c256_i32_95 : BitVec 32 := 256#32
  let v286 : BitVec 32 := Scalar.muli arg17 c256_i32_95
  let v287 : BitVec 32 := Scalar.addi v54 v286
  let c128_i32_96 : BitVec 32 := 128#32
  let v288 : BitVec 32 := Scalar.muli v287 c128_i32_96
  ![v288.toNat]
@[reducible] def k0_t42_loop (i : grid0.Coords) (v46 : BitVec 32) (v53 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off146 (i : grid0.Coords) (v46 : BitVec 32) (v53 : BitVec 32) (k0_t42 : Fin (k0_t42_loop i v46 v53).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c0_i32_59 : BitVec 32 := 0#32
  let c1024_i32_0 : BitVec 32 := 1024#32
  let v3 : BitVec 32 := Scalar.addi v2 c1024_i32_0
  let v55 : BitVec 32 := Scalar.minsi v53 v3
  let v138 : BitVec 32 := Scalar.subi v55 v54
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t42
  let c256_i32_95 : BitVec 32 := 256#32
  let v286 : BitVec 32 := Scalar.muli arg17 c256_i32_95
  let v287 : BitVec 32 := Scalar.addi v54 v286
  let c128_i32_96 : BitVec 32 := 128#32
  let v288 : BitVec 32 := Scalar.muli v287 c128_i32_96
  ![v288.toNat]
def k0_off147 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m256_i32_63 : BitVec 32 := 4294967040#32
  let v238 : BitVec 32 := Scalar.andi v138 c_m256_i32_63
  let v239 : BitVec 32 := Scalar.addi v54 v238
  let c128_i32_95 : BitVec 32 := 128#32
  let v286 : BitVec 32 := Scalar.muli v239 c128_i32_95
  ![v286.toNat]
def k0_cond112 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off148 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m128_i32_67 : BitVec 32 := 4294967168#32
  let v244 : BitVec 32 := Scalar.andi v138 c_m128_i32_67
  let v245 : BitVec 32 := Scalar.addi v54 v244
  let c128_i32_95 : BitVec 32 := 128#32
  let v286 : BitVec 32 := Scalar.muli v245 c128_i32_95
  ![v286.toNat]
def k0_cond113 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off149 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m64_i32_71 : BitVec 32 := 4294967232#32
  let v250 : BitVec 32 := Scalar.andi v138 c_m64_i32_71
  let v251 : BitVec 32 := Scalar.addi v54 v250
  let c128_i32_95 : BitVec 32 := 128#32
  let v286 : BitVec 32 := Scalar.muli v251 c128_i32_95
  ![v286.toNat]
def k0_cond114 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off150 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m32_i32_75 : BitVec 32 := 4294967264#32
  let v256 : BitVec 32 := Scalar.andi v138 c_m32_i32_75
  let v257 : BitVec 32 := Scalar.addi v54 v256
  let c128_i32_95 : BitVec 32 := 128#32
  let v286 : BitVec 32 := Scalar.muli v257 c128_i32_95
  ![v286.toNat]
def k0_cond115 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off151 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m16_i32_79 : BitVec 32 := 4294967280#32
  let v262 : BitVec 32 := Scalar.andi v138 c_m16_i32_79
  let v263 : BitVec 32 := Scalar.addi v54 v262
  let c128_i32_95 : BitVec 32 := 128#32
  let v286 : BitVec 32 := Scalar.muli v263 c128_i32_95
  ![v286.toNat]
def k0_cond116 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off152 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m8_i32_83 : BitVec 32 := 4294967288#32
  let v268 : BitVec 32 := Scalar.andi v138 c_m8_i32_83
  let v269 : BitVec 32 := Scalar.addi v54 v268
  let c128_i32_95 : BitVec 32 := 128#32
  let v286 : BitVec 32 := Scalar.muli v269 c128_i32_95
  ![v286.toNat]
def k0_cond117 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off153 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m4_i32_87 : BitVec 32 := 4294967292#32
  let v274 : BitVec 32 := Scalar.andi v138 c_m4_i32_87
  let v275 : BitVec 32 := Scalar.addi v54 v274
  let c128_i32_95 : BitVec 32 := 128#32
  let v286 : BitVec 32 := Scalar.muli v275 c128_i32_95
  ![v286.toNat]
def k0_cond118 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off154 (i : grid0.Coords) (v46 : BitVec 32) (v53 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v54 : BitVec 32 := Scalar.maxsi v46 v2
  let c1024_i32_0 : BitVec 32 := 1024#32
  let v3 : BitVec 32 := Scalar.addi v2 c1024_i32_0
  let v55 : BitVec 32 := Scalar.minsi v53 v3
  let v138 : BitVec 32 := Scalar.subi v55 v54
  let c_m2_i32_91 : BitVec 32 := 4294967294#32
  let v280 : BitVec 32 := Scalar.andi v138 c_m2_i32_91
  let v281 : BitVec 32 := Scalar.addi v54 v280
  let c128_i32_95 : BitVec 32 := 128#32
  let v286 : BitVec 32 := Scalar.muli v281 c128_i32_95
  ![v286.toNat]
def k0_cond119 (i : grid0.Coords) (v46 : BitVec 32) (v53 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v55 : BitVec 32 := Scalar.minsi v53 v3
  let v54 : BitVec 32 := Scalar.maxsi v46 v2
  let v138 : BitVec 32 := Scalar.subi v55 v54
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk7 (i : grid0.Coords) (v46 : BitVec 32) (v53 : BitVec 32) : Prop :=
  (∀ (k0_h103 : k0_cond103 i v46 v53 = 1#1), (k0_t37_loop i v46 v53).OK) ∧
  (∀ k0_t37 : Fin (k0_t37_loop i v46 v53).trips, ∀ (k0_h103 : k0_cond103 i v46 v53 = 1#1), ∀ (r : Fin 16), ∀ a, (k0_off133 i v46 v53 k0_t37 (BitVec.ofNat 32 (16 * r.val))) a + S16.size a ≤ S32768.size a) ∧
  (∀ (k0_h103 : k0_cond103 i v46 v53 = 1#1), (k0_t38_loop i v46 v53).OK) ∧
  (∀ k0_t38 : Fin (k0_t38_loop i v46 v53).trips, ∀ (k0_h103 : k0_cond103 i v46 v53 = 1#1), ∀ (r : Fin 16), ∀ a, (k0_off134 i v46 v53 k0_t38 (BitVec.ofNat 32 (16 * r.val))) a + S16.size a ≤ S32768.size a) ∧
  (∀ (k0_h103 : k0_cond103 i v46 v53 = 1#1), (k0_t39_loop i v46 v53).OK) ∧
  (∀ k0_t39 : Fin (k0_t39_loop i v46 v53).trips, ∀ (k0_h103 : k0_cond103 i v46 v53 = 1#1), ∀ a, (k0_off135 i v46 v53 k0_t39) a + S32768.size a ≤ S4194304.size a) ∧
  (∀ (k0_h103 : k0_cond103 i v46 v53 = 1#1), (k0_t40_loop i v46 v53).OK) ∧
  (∀ k0_t40 : Fin (k0_t40_loop i v46 v53).trips, ∀ (k0_h103 : k0_cond103 i v46 v53 = 1#1), ∀ a, (k0_off136 i v46 v53 k0_t40) a + S32768.size a ≤ S4194304.size a) ∧
  (∀ (k0_h103 : k0_cond103 i v46 v53 = 1#1), ∀ (k0_h104 : k0_cond104 i v46 v53 = 1#1), ∀ a, (k0_off137 i v46 v53) a + S16384.size a ≤ S4194304.size a) ∧
  (∀ (k0_h103 : k0_cond103 i v46 v53 = 1#1), ∀ (k0_h105 : k0_cond105 i v46 v53 = 1#1), ∀ a, (k0_off138 i v46 v53) a + S8192.size a ≤ S4194304.size a) ∧
  (∀ (k0_h103 : k0_cond103 i v46 v53 = 1#1), ∀ (k0_h106 : k0_cond106 i v46 v53 = 1#1), ∀ a, (k0_off139 i v46 v53) a + S4096.size a ≤ S4194304.size a) ∧
  (∀ (k0_h103 : k0_cond103 i v46 v53 = 1#1), ∀ (k0_h107 : k0_cond107 i v46 v53 = 1#1), ∀ a, (k0_off140 i v46 v53) a + S2048.size a ≤ S4194304.size a) ∧
  (∀ (k0_h103 : k0_cond103 i v46 v53 = 1#1), ∀ (k0_h108 : k0_cond108 i v46 v53 = 1#1), ∀ a, (k0_off141 i v46 v53) a + S1024.size a ≤ S4194304.size a) ∧
  (∀ (k0_h103 : k0_cond103 i v46 v53 = 1#1), ∀ (k0_h109 : k0_cond109 i v46 v53 = 1#1), ∀ a, (k0_off142 i v46 v53) a + S512.size a ≤ S4194304.size a) ∧
  (∀ (k0_h103 : k0_cond103 i v46 v53 = 1#1), ∀ (k0_h110 : k0_cond110 i v46 v53 = 1#1), ∀ a, (k0_off143 i v46 v53) a + S256.size a ≤ S4194304.size a) ∧
  (∀ (k0_h103 : k0_cond103 i v46 v53 = 1#1), ∀ (k0_h111 : k0_cond111 i v46 v53 = 1#1), ∀ a, (k0_off144 i v46 v53) a + S128.size a ≤ S4194304.size a) ∧
  (∀ (k0_h103 : k0_cond103 i v46 v53 = 1#1), (k0_t41_loop i v46 v53).OK) ∧
  (∀ k0_t41 : Fin (k0_t41_loop i v46 v53).trips, ∀ (k0_h103 : k0_cond103 i v46 v53 = 1#1), ∀ a, (k0_off145 i v46 v53 k0_t41) a + S32768.size a ≤ S4194304.size a) ∧
  (∀ (k0_h103 : k0_cond103 i v46 v53 = 1#1), (k0_t42_loop i v46 v53).OK) ∧
  (∀ k0_t42 : Fin (k0_t42_loop i v46 v53).trips, ∀ (k0_h103 : k0_cond103 i v46 v53 = 1#1), ∀ a, (k0_off146 i v46 v53 k0_t42) a + S32768.size a ≤ S4194304.size a) ∧
  (∀ (k0_h103 : k0_cond103 i v46 v53 = 1#1), ∀ (k0_h112 : k0_cond112 i v46 v53 = 1#1), ∀ a, (k0_off147 i v46 v53) a + S16384.size a ≤ S4194304.size a) ∧
  (∀ (k0_h103 : k0_cond103 i v46 v53 = 1#1), ∀ (k0_h113 : k0_cond113 i v46 v53 = 1#1), ∀ a, (k0_off148 i v46 v53) a + S8192.size a ≤ S4194304.size a) ∧
  (∀ (k0_h103 : k0_cond103 i v46 v53 = 1#1), ∀ (k0_h114 : k0_cond114 i v46 v53 = 1#1), ∀ a, (k0_off149 i v46 v53) a + S4096.size a ≤ S4194304.size a) ∧
  (∀ (k0_h103 : k0_cond103 i v46 v53 = 1#1), ∀ (k0_h115 : k0_cond115 i v46 v53 = 1#1), ∀ a, (k0_off150 i v46 v53) a + S2048.size a ≤ S4194304.size a) ∧
  (∀ (k0_h103 : k0_cond103 i v46 v53 = 1#1), ∀ (k0_h116 : k0_cond116 i v46 v53 = 1#1), ∀ a, (k0_off151 i v46 v53) a + S1024.size a ≤ S4194304.size a) ∧
  (∀ (k0_h103 : k0_cond103 i v46 v53 = 1#1), ∀ (k0_h117 : k0_cond117 i v46 v53 = 1#1), ∀ a, (k0_off152 i v46 v53) a + S512.size a ≤ S4194304.size a) ∧
  (∀ (k0_h103 : k0_cond103 i v46 v53 = 1#1), ∀ (k0_h118 : k0_cond118 i v46 v53 = 1#1), ∀ a, (k0_off153 i v46 v53) a + S256.size a ≤ S4194304.size a) ∧
  (∀ (k0_h103 : k0_cond103 i v46 v53 = 1#1), ∀ (k0_h119 : k0_cond119 i v46 v53 = 1#1), ∀ a, (k0_off154 i v46 v53) a + S128.size a ≤ S4194304.size a)
theorem k0_t37_ok : ∀ (i : grid0.Coords) (v46 : BitVec 32) (v53 : BitVec 32) (k0_hw7 : k0_chk7 i v46 v53), ∀ (k0_h103 : k0_cond103 i v46 v53 = 1#1), (k0_t37_loop i v46 v53).OK := fun i v46 v53 k0_hw7 k0_h103 => k0_hw7.1 k0_h103
theorem k0_off133_inb : ∀ (i : grid0.Coords) (v46 : BitVec 32) (v53 : BitVec 32) (k0_hw7 : k0_chk7 i v46 v53) (k0_t37 : Fin (k0_t37_loop i v46 v53).trips), ∀ (k0_h103 : k0_cond103 i v46 v53 = 1#1), ∀ (r : Fin 16), ∀ a, (k0_off133 i v46 v53 k0_t37 (BitVec.ofNat 32 (16 * r.val))) a + S16.size a ≤ S32768.size a := fun i v46 v53 k0_hw7 k0_t37 k0_h103 r => k0_hw7.2.1 k0_t37 k0_h103 r
theorem k0_t38_ok : ∀ (i : grid0.Coords) (v46 : BitVec 32) (v53 : BitVec 32) (k0_hw7 : k0_chk7 i v46 v53), ∀ (k0_h103 : k0_cond103 i v46 v53 = 1#1), (k0_t38_loop i v46 v53).OK := fun i v46 v53 k0_hw7 k0_h103 => k0_hw7.2.2.1 k0_h103
theorem k0_off134_inb : ∀ (i : grid0.Coords) (v46 : BitVec 32) (v53 : BitVec 32) (k0_hw7 : k0_chk7 i v46 v53) (k0_t38 : Fin (k0_t38_loop i v46 v53).trips), ∀ (k0_h103 : k0_cond103 i v46 v53 = 1#1), ∀ (r : Fin 16), ∀ a, (k0_off134 i v46 v53 k0_t38 (BitVec.ofNat 32 (16 * r.val))) a + S16.size a ≤ S32768.size a := fun i v46 v53 k0_hw7 k0_t38 k0_h103 r => k0_hw7.2.2.2.1 k0_t38 k0_h103 r
theorem k0_t39_ok : ∀ (i : grid0.Coords) (v46 : BitVec 32) (v53 : BitVec 32) (k0_hw7 : k0_chk7 i v46 v53), ∀ (k0_h103 : k0_cond103 i v46 v53 = 1#1), (k0_t39_loop i v46 v53).OK := fun i v46 v53 k0_hw7 k0_h103 => k0_hw7.2.2.2.2.1 k0_h103
theorem k0_off135_inb : ∀ (i : grid0.Coords) (v46 : BitVec 32) (v53 : BitVec 32) (k0_hw7 : k0_chk7 i v46 v53) (k0_t39 : Fin (k0_t39_loop i v46 v53).trips), ∀ (k0_h103 : k0_cond103 i v46 v53 = 1#1), ∀ a, (k0_off135 i v46 v53 k0_t39) a + S32768.size a ≤ S4194304.size a := fun i v46 v53 k0_hw7 k0_t39 k0_h103 => k0_hw7.2.2.2.2.2.1 k0_t39 k0_h103
theorem k0_t40_ok : ∀ (i : grid0.Coords) (v46 : BitVec 32) (v53 : BitVec 32) (k0_hw7 : k0_chk7 i v46 v53), ∀ (k0_h103 : k0_cond103 i v46 v53 = 1#1), (k0_t40_loop i v46 v53).OK := fun i v46 v53 k0_hw7 k0_h103 => k0_hw7.2.2.2.2.2.2.1 k0_h103
theorem k0_off136_inb : ∀ (i : grid0.Coords) (v46 : BitVec 32) (v53 : BitVec 32) (k0_hw7 : k0_chk7 i v46 v53) (k0_t40 : Fin (k0_t40_loop i v46 v53).trips), ∀ (k0_h103 : k0_cond103 i v46 v53 = 1#1), ∀ a, (k0_off136 i v46 v53 k0_t40) a + S32768.size a ≤ S4194304.size a := fun i v46 v53 k0_hw7 k0_t40 k0_h103 => k0_hw7.2.2.2.2.2.2.2.1 k0_t40 k0_h103
theorem k0_off137_inb : ∀ (i : grid0.Coords) (v46 : BitVec 32) (v53 : BitVec 32) (k0_hw7 : k0_chk7 i v46 v53), ∀ (k0_h103 : k0_cond103 i v46 v53 = 1#1), ∀ (k0_h104 : k0_cond104 i v46 v53 = 1#1), ∀ a, (k0_off137 i v46 v53) a + S16384.size a ≤ S4194304.size a := fun i v46 v53 k0_hw7 k0_h103 k0_h104 => k0_hw7.2.2.2.2.2.2.2.2.1 k0_h103 k0_h104
theorem k0_off138_inb : ∀ (i : grid0.Coords) (v46 : BitVec 32) (v53 : BitVec 32) (k0_hw7 : k0_chk7 i v46 v53), ∀ (k0_h103 : k0_cond103 i v46 v53 = 1#1), ∀ (k0_h105 : k0_cond105 i v46 v53 = 1#1), ∀ a, (k0_off138 i v46 v53) a + S8192.size a ≤ S4194304.size a := fun i v46 v53 k0_hw7 k0_h103 k0_h105 => k0_hw7.2.2.2.2.2.2.2.2.2.1 k0_h103 k0_h105
theorem k0_off139_inb : ∀ (i : grid0.Coords) (v46 : BitVec 32) (v53 : BitVec 32) (k0_hw7 : k0_chk7 i v46 v53), ∀ (k0_h103 : k0_cond103 i v46 v53 = 1#1), ∀ (k0_h106 : k0_cond106 i v46 v53 = 1#1), ∀ a, (k0_off139 i v46 v53) a + S4096.size a ≤ S4194304.size a := fun i v46 v53 k0_hw7 k0_h103 k0_h106 => k0_hw7.2.2.2.2.2.2.2.2.2.2.1 k0_h103 k0_h106
theorem k0_off140_inb : ∀ (i : grid0.Coords) (v46 : BitVec 32) (v53 : BitVec 32) (k0_hw7 : k0_chk7 i v46 v53), ∀ (k0_h103 : k0_cond103 i v46 v53 = 1#1), ∀ (k0_h107 : k0_cond107 i v46 v53 = 1#1), ∀ a, (k0_off140 i v46 v53) a + S2048.size a ≤ S4194304.size a := fun i v46 v53 k0_hw7 k0_h103 k0_h107 => k0_hw7.2.2.2.2.2.2.2.2.2.2.2.1 k0_h103 k0_h107
theorem k0_off141_inb : ∀ (i : grid0.Coords) (v46 : BitVec 32) (v53 : BitVec 32) (k0_hw7 : k0_chk7 i v46 v53), ∀ (k0_h103 : k0_cond103 i v46 v53 = 1#1), ∀ (k0_h108 : k0_cond108 i v46 v53 = 1#1), ∀ a, (k0_off141 i v46 v53) a + S1024.size a ≤ S4194304.size a := fun i v46 v53 k0_hw7 k0_h103 k0_h108 => k0_hw7.2.2.2.2.2.2.2.2.2.2.2.2.1 k0_h103 k0_h108
theorem k0_off142_inb : ∀ (i : grid0.Coords) (v46 : BitVec 32) (v53 : BitVec 32) (k0_hw7 : k0_chk7 i v46 v53), ∀ (k0_h103 : k0_cond103 i v46 v53 = 1#1), ∀ (k0_h109 : k0_cond109 i v46 v53 = 1#1), ∀ a, (k0_off142 i v46 v53) a + S512.size a ≤ S4194304.size a := fun i v46 v53 k0_hw7 k0_h103 k0_h109 => k0_hw7.2.2.2.2.2.2.2.2.2.2.2.2.2.1 k0_h103 k0_h109
theorem k0_off143_inb : ∀ (i : grid0.Coords) (v46 : BitVec 32) (v53 : BitVec 32) (k0_hw7 : k0_chk7 i v46 v53), ∀ (k0_h103 : k0_cond103 i v46 v53 = 1#1), ∀ (k0_h110 : k0_cond110 i v46 v53 = 1#1), ∀ a, (k0_off143 i v46 v53) a + S256.size a ≤ S4194304.size a := fun i v46 v53 k0_hw7 k0_h103 k0_h110 => k0_hw7.2.2.2.2.2.2.2.2.2.2.2.2.2.2.1 k0_h103 k0_h110
theorem k0_off144_inb : ∀ (i : grid0.Coords) (v46 : BitVec 32) (v53 : BitVec 32) (k0_hw7 : k0_chk7 i v46 v53), ∀ (k0_h103 : k0_cond103 i v46 v53 = 1#1), ∀ (k0_h111 : k0_cond111 i v46 v53 = 1#1), ∀ a, (k0_off144 i v46 v53) a + S128.size a ≤ S4194304.size a := fun i v46 v53 k0_hw7 k0_h103 k0_h111 => k0_hw7.2.2.2.2.2.2.2.2.2.2.2.2.2.2.2.1 k0_h103 k0_h111
theorem k0_t41_ok : ∀ (i : grid0.Coords) (v46 : BitVec 32) (v53 : BitVec 32) (k0_hw7 : k0_chk7 i v46 v53), ∀ (k0_h103 : k0_cond103 i v46 v53 = 1#1), (k0_t41_loop i v46 v53).OK := fun i v46 v53 k0_hw7 k0_h103 => k0_hw7.2.2.2.2.2.2.2.2.2.2.2.2.2.2.2.2.1 k0_h103
theorem k0_off145_inb : ∀ (i : grid0.Coords) (v46 : BitVec 32) (v53 : BitVec 32) (k0_hw7 : k0_chk7 i v46 v53) (k0_t41 : Fin (k0_t41_loop i v46 v53).trips), ∀ (k0_h103 : k0_cond103 i v46 v53 = 1#1), ∀ a, (k0_off145 i v46 v53 k0_t41) a + S32768.size a ≤ S4194304.size a := fun i v46 v53 k0_hw7 k0_t41 k0_h103 => k0_hw7.2.2.2.2.2.2.2.2.2.2.2.2.2.2.2.2.2.1 k0_t41 k0_h103
theorem k0_t42_ok : ∀ (i : grid0.Coords) (v46 : BitVec 32) (v53 : BitVec 32) (k0_hw7 : k0_chk7 i v46 v53), ∀ (k0_h103 : k0_cond103 i v46 v53 = 1#1), (k0_t42_loop i v46 v53).OK := fun i v46 v53 k0_hw7 k0_h103 => k0_hw7.2.2.2.2.2.2.2.2.2.2.2.2.2.2.2.2.2.2.1 k0_h103
theorem k0_off146_inb : ∀ (i : grid0.Coords) (v46 : BitVec 32) (v53 : BitVec 32) (k0_hw7 : k0_chk7 i v46 v53) (k0_t42 : Fin (k0_t42_loop i v46 v53).trips), ∀ (k0_h103 : k0_cond103 i v46 v53 = 1#1), ∀ a, (k0_off146 i v46 v53 k0_t42) a + S32768.size a ≤ S4194304.size a := fun i v46 v53 k0_hw7 k0_t42 k0_h103 => k0_hw7.2.2.2.2.2.2.2.2.2.2.2.2.2.2.2.2.2.2.2.1 k0_t42 k0_h103
theorem k0_off147_inb : ∀ (i : grid0.Coords) (v46 : BitVec 32) (v53 : BitVec 32) (k0_hw7 : k0_chk7 i v46 v53), ∀ (k0_h103 : k0_cond103 i v46 v53 = 1#1), ∀ (k0_h112 : k0_cond112 i v46 v53 = 1#1), ∀ a, (k0_off147 i v46 v53) a + S16384.size a ≤ S4194304.size a := fun i v46 v53 k0_hw7 k0_h103 k0_h112 => k0_hw7.2.2.2.2.2.2.2.2.2.2.2.2.2.2.2.2.2.2.2.2.1 k0_h103 k0_h112
theorem k0_off148_inb : ∀ (i : grid0.Coords) (v46 : BitVec 32) (v53 : BitVec 32) (k0_hw7 : k0_chk7 i v46 v53), ∀ (k0_h103 : k0_cond103 i v46 v53 = 1#1), ∀ (k0_h113 : k0_cond113 i v46 v53 = 1#1), ∀ a, (k0_off148 i v46 v53) a + S8192.size a ≤ S4194304.size a := fun i v46 v53 k0_hw7 k0_h103 k0_h113 => k0_hw7.2.2.2.2.2.2.2.2.2.2.2.2.2.2.2.2.2.2.2.2.2.1 k0_h103 k0_h113
theorem k0_off149_inb : ∀ (i : grid0.Coords) (v46 : BitVec 32) (v53 : BitVec 32) (k0_hw7 : k0_chk7 i v46 v53), ∀ (k0_h103 : k0_cond103 i v46 v53 = 1#1), ∀ (k0_h114 : k0_cond114 i v46 v53 = 1#1), ∀ a, (k0_off149 i v46 v53) a + S4096.size a ≤ S4194304.size a := fun i v46 v53 k0_hw7 k0_h103 k0_h114 => k0_hw7.2.2.2.2.2.2.2.2.2.2.2.2.2.2.2.2.2.2.2.2.2.2.1 k0_h103 k0_h114
theorem k0_off150_inb : ∀ (i : grid0.Coords) (v46 : BitVec 32) (v53 : BitVec 32) (k0_hw7 : k0_chk7 i v46 v53), ∀ (k0_h103 : k0_cond103 i v46 v53 = 1#1), ∀ (k0_h115 : k0_cond115 i v46 v53 = 1#1), ∀ a, (k0_off150 i v46 v53) a + S2048.size a ≤ S4194304.size a := fun i v46 v53 k0_hw7 k0_h103 k0_h115 => k0_hw7.2.2.2.2.2.2.2.2.2.2.2.2.2.2.2.2.2.2.2.2.2.2.2.1 k0_h103 k0_h115
theorem k0_off151_inb : ∀ (i : grid0.Coords) (v46 : BitVec 32) (v53 : BitVec 32) (k0_hw7 : k0_chk7 i v46 v53), ∀ (k0_h103 : k0_cond103 i v46 v53 = 1#1), ∀ (k0_h116 : k0_cond116 i v46 v53 = 1#1), ∀ a, (k0_off151 i v46 v53) a + S1024.size a ≤ S4194304.size a := fun i v46 v53 k0_hw7 k0_h103 k0_h116 => k0_hw7.2.2.2.2.2.2.2.2.2.2.2.2.2.2.2.2.2.2.2.2.2.2.2.2.1 k0_h103 k0_h116
theorem k0_off152_inb : ∀ (i : grid0.Coords) (v46 : BitVec 32) (v53 : BitVec 32) (k0_hw7 : k0_chk7 i v46 v53), ∀ (k0_h103 : k0_cond103 i v46 v53 = 1#1), ∀ (k0_h117 : k0_cond117 i v46 v53 = 1#1), ∀ a, (k0_off152 i v46 v53) a + S512.size a ≤ S4194304.size a := fun i v46 v53 k0_hw7 k0_h103 k0_h117 => k0_hw7.2.2.2.2.2.2.2.2.2.2.2.2.2.2.2.2.2.2.2.2.2.2.2.2.2.1 k0_h103 k0_h117
theorem k0_off153_inb : ∀ (i : grid0.Coords) (v46 : BitVec 32) (v53 : BitVec 32) (k0_hw7 : k0_chk7 i v46 v53), ∀ (k0_h103 : k0_cond103 i v46 v53 = 1#1), ∀ (k0_h118 : k0_cond118 i v46 v53 = 1#1), ∀ a, (k0_off153 i v46 v53) a + S256.size a ≤ S4194304.size a := fun i v46 v53 k0_hw7 k0_h103 k0_h118 => k0_hw7.2.2.2.2.2.2.2.2.2.2.2.2.2.2.2.2.2.2.2.2.2.2.2.2.2.2.1 k0_h103 k0_h118
theorem k0_off154_inb : ∀ (i : grid0.Coords) (v46 : BitVec 32) (v53 : BitVec 32) (k0_hw7 : k0_chk7 i v46 v53), ∀ (k0_h103 : k0_cond103 i v46 v53 = 1#1), ∀ (k0_h119 : k0_cond119 i v46 v53 = 1#1), ∀ a, (k0_off154 i v46 v53) a + S128.size a ≤ S4194304.size a := fun i v46 v53 k0_hw7 k0_h103 k0_h119 => k0_hw7.2.2.2.2.2.2.2.2.2.2.2.2.2.2.2.2.2.2.2.2.2.2.2.2.2.2.2 k0_h103 k0_h119

@[reducible] def k0_t43_loop (i : grid0.Coords) (v53 : BitVec 32) (v60 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond120 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v63 : BitVec 1 := Scalar.cmpi .sgt v62 v61
  let v64 : BitVec 32 := Scalar.extui v63
  let c0_i32_7 : BitVec 32 := 0#32
  let v65 : BitVec 1 := Scalar.cmpi .ne v64 c0_i32_7
  v65

def k0_off155 (i : grid0.Coords) (v53 : BitVec 32) (v60 : BitVec 32) (k0_t43 : Fin (k0_t43_loop i v53 v60).trips) (c0_i32_97 : BitVec 32) : Fin 1 → Nat :=
  let c0_i32_24 : BitVec 32 := 0#32
  let c1_i32_26 : BitVec 32 := 1#32
  let arg17 : BitVec 32 := Scf.iv c0_i32_24 c1_i32_26 k0_t43
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t44_loop (i : grid0.Coords) (v53 : BitVec 32) (v60 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off156 (i : grid0.Coords) (v53 : BitVec 32) (v60 : BitVec 32) (k0_t44 : Fin (k0_t44_loop i v53 v60).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t44
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t45_loop (i : grid0.Coords) (v53 : BitVec 32) (v60 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off157 (i : grid0.Coords) (v53 : BitVec 32) (v60 : BitVec 32) (k0_t45 : Fin (k0_t45_loop i v53 v60).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c0_i32_35 : BitVec 32 := 0#32
  let c1_i32_37 : BitVec 32 := 1#32
  let arg17 : BitVec 32 := Scf.iv c0_i32_35 c1_i32_37 k0_t45
  let c256_i32_95 : BitVec 32 := 256#32
  let v286 : BitVec 32 := Scalar.muli arg17 c256_i32_95
  let v287 : BitVec 32 := Scalar.addi v61 v286
  let c128_i32_96 : BitVec 32 := 128#32
  let v288 : BitVec 32 := Scalar.muli v287 c128_i32_96
  ![v288.toNat]
@[reducible] def k0_t46_loop (i : grid0.Coords) (v53 : BitVec 32) (v60 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off158 (i : grid0.Coords) (v53 : BitVec 32) (v60 : BitVec 32) (k0_t46 : Fin (k0_t46_loop i v53 v60).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c0_i32_35 : BitVec 32 := 0#32
  let c1024_i32_0 : BitVec 32 := 1024#32
  let v3 : BitVec 32 := Scalar.addi v2 c1024_i32_0
  let v62 : BitVec 32 := Scalar.minsi v60 v3
  let v138 : BitVec 32 := Scalar.subi v62 v61
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t46
  let c256_i32_95 : BitVec 32 := 256#32
  let v286 : BitVec 32 := Scalar.muli arg17 c256_i32_95
  let v287 : BitVec 32 := Scalar.addi v61 v286
  let c128_i32_96 : BitVec 32 := 128#32
  let v288 : BitVec 32 := Scalar.muli v287 c128_i32_96
  ![v288.toNat]
def k0_off159 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m256_i32 : BitVec 32 := 4294967040#32
  let v185 : BitVec 32 := Scalar.andi v138 c_m256_i32
  let v186 : BitVec 32 := Scalar.addi v61 v185
  let c128_i32_95 : BitVec 32 := 128#32
  let v286 : BitVec 32 := Scalar.muli v186 c128_i32_95
  ![v286.toNat]
def k0_cond121 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off160 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m128_i32 : BitVec 32 := 4294967168#32
  let v191 : BitVec 32 := Scalar.andi v138 c_m128_i32
  let v192 : BitVec 32 := Scalar.addi v61 v191
  let c128_i32_95 : BitVec 32 := 128#32
  let v286 : BitVec 32 := Scalar.muli v192 c128_i32_95
  ![v286.toNat]
def k0_cond122 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off161 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m64_i32 : BitVec 32 := 4294967232#32
  let v197 : BitVec 32 := Scalar.andi v138 c_m64_i32
  let v198 : BitVec 32 := Scalar.addi v61 v197
  let c128_i32_95 : BitVec 32 := 128#32
  let v286 : BitVec 32 := Scalar.muli v198 c128_i32_95
  ![v286.toNat]
def k0_cond123 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off162 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m32_i32 : BitVec 32 := 4294967264#32
  let v203 : BitVec 32 := Scalar.andi v138 c_m32_i32
  let v204 : BitVec 32 := Scalar.addi v61 v203
  let c128_i32_95 : BitVec 32 := 128#32
  let v286 : BitVec 32 := Scalar.muli v204 c128_i32_95
  ![v286.toNat]
def k0_cond124 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off163 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m16_i32 : BitVec 32 := 4294967280#32
  let v209 : BitVec 32 := Scalar.andi v138 c_m16_i32
  let v210 : BitVec 32 := Scalar.addi v61 v209
  let c128_i32_95 : BitVec 32 := 128#32
  let v286 : BitVec 32 := Scalar.muli v210 c128_i32_95
  ![v286.toNat]
def k0_cond125 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off164 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m8_i32 : BitVec 32 := 4294967288#32
  let v215 : BitVec 32 := Scalar.andi v138 c_m8_i32
  let v216 : BitVec 32 := Scalar.addi v61 v215
  let c128_i32_95 : BitVec 32 := 128#32
  let v286 : BitVec 32 := Scalar.muli v216 c128_i32_95
  ![v286.toNat]
def k0_cond126 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off165 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m4_i32 : BitVec 32 := 4294967292#32
  let v221 : BitVec 32 := Scalar.andi v138 c_m4_i32
  let v222 : BitVec 32 := Scalar.addi v61 v221
  let c128_i32_95 : BitVec 32 := 128#32
  let v286 : BitVec 32 := Scalar.muli v222 c128_i32_95
  ![v286.toNat]
def k0_cond127 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off166 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m2_i32 : BitVec 32 := 4294967294#32
  let v227 : BitVec 32 := Scalar.andi v138 c_m2_i32
  let v228 : BitVec 32 := Scalar.addi v61 v227
  let c128_i32_95 : BitVec 32 := 128#32
  let v286 : BitVec 32 := Scalar.muli v228 c128_i32_95
  ![v286.toNat]
def k0_cond128 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t47_loop (i : grid0.Coords) (v53 : BitVec 32) (v60 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off167 (i : grid0.Coords) (v53 : BitVec 32) (v60 : BitVec 32) (k0_t47 : Fin (k0_t47_loop i v53 v60).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c0_i32_59 : BitVec 32 := 0#32
  let c1_i32_61 : BitVec 32 := 1#32
  let arg17 : BitVec 32 := Scf.iv c0_i32_59 c1_i32_61 k0_t47
  let c256_i32_95 : BitVec 32 := 256#32
  let v286 : BitVec 32 := Scalar.muli arg17 c256_i32_95
  let v287 : BitVec 32 := Scalar.addi v61 v286
  let c128_i32_96 : BitVec 32 := 128#32
  let v288 : BitVec 32 := Scalar.muli v287 c128_i32_96
  ![v288.toNat]
@[reducible] def k0_t48_loop (i : grid0.Coords) (v53 : BitVec 32) (v60 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off168 (i : grid0.Coords) (v53 : BitVec 32) (v60 : BitVec 32) (k0_t48 : Fin (k0_t48_loop i v53 v60).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c0_i32_59 : BitVec 32 := 0#32
  let c1024_i32_0 : BitVec 32 := 1024#32
  let v3 : BitVec 32 := Scalar.addi v2 c1024_i32_0
  let v62 : BitVec 32 := Scalar.minsi v60 v3
  let v138 : BitVec 32 := Scalar.subi v62 v61
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t48
  let c256_i32_95 : BitVec 32 := 256#32
  let v286 : BitVec 32 := Scalar.muli arg17 c256_i32_95
  let v287 : BitVec 32 := Scalar.addi v61 v286
  let c128_i32_96 : BitVec 32 := 128#32
  let v288 : BitVec 32 := Scalar.muli v287 c128_i32_96
  ![v288.toNat]
def k0_off169 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m256_i32_63 : BitVec 32 := 4294967040#32
  let v238 : BitVec 32 := Scalar.andi v138 c_m256_i32_63
  let v239 : BitVec 32 := Scalar.addi v61 v238
  let c128_i32_95 : BitVec 32 := 128#32
  let v286 : BitVec 32 := Scalar.muli v239 c128_i32_95
  ![v286.toNat]
def k0_cond129 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off170 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m128_i32_67 : BitVec 32 := 4294967168#32
  let v244 : BitVec 32 := Scalar.andi v138 c_m128_i32_67
  let v245 : BitVec 32 := Scalar.addi v61 v244
  let c128_i32_95 : BitVec 32 := 128#32
  let v286 : BitVec 32 := Scalar.muli v245 c128_i32_95
  ![v286.toNat]
def k0_cond130 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off171 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m64_i32_71 : BitVec 32 := 4294967232#32
  let v250 : BitVec 32 := Scalar.andi v138 c_m64_i32_71
  let v251 : BitVec 32 := Scalar.addi v61 v250
  let c128_i32_95 : BitVec 32 := 128#32
  let v286 : BitVec 32 := Scalar.muli v251 c128_i32_95
  ![v286.toNat]
def k0_cond131 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off172 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m32_i32_75 : BitVec 32 := 4294967264#32
  let v256 : BitVec 32 := Scalar.andi v138 c_m32_i32_75
  let v257 : BitVec 32 := Scalar.addi v61 v256
  let c128_i32_95 : BitVec 32 := 128#32
  let v286 : BitVec 32 := Scalar.muli v257 c128_i32_95
  ![v286.toNat]
def k0_cond132 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off173 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m16_i32_79 : BitVec 32 := 4294967280#32
  let v262 : BitVec 32 := Scalar.andi v138 c_m16_i32_79
  let v263 : BitVec 32 := Scalar.addi v61 v262
  let c128_i32_95 : BitVec 32 := 128#32
  let v286 : BitVec 32 := Scalar.muli v263 c128_i32_95
  ![v286.toNat]
def k0_cond133 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off174 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m8_i32_83 : BitVec 32 := 4294967288#32
  let v268 : BitVec 32 := Scalar.andi v138 c_m8_i32_83
  let v269 : BitVec 32 := Scalar.addi v61 v268
  let c128_i32_95 : BitVec 32 := 128#32
  let v286 : BitVec 32 := Scalar.muli v269 c128_i32_95
  ![v286.toNat]
def k0_cond134 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off175 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m4_i32_87 : BitVec 32 := 4294967292#32
  let v274 : BitVec 32 := Scalar.andi v138 c_m4_i32_87
  let v275 : BitVec 32 := Scalar.addi v61 v274
  let c128_i32_95 : BitVec 32 := 128#32
  let v286 : BitVec 32 := Scalar.muli v275 c128_i32_95
  ![v286.toNat]
def k0_cond135 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off176 (i : grid0.Coords) (v53 : BitVec 32) (v60 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v61 : BitVec 32 := Scalar.maxsi v53 v2
  let c1024_i32_0 : BitVec 32 := 1024#32
  let v3 : BitVec 32 := Scalar.addi v2 c1024_i32_0
  let v62 : BitVec 32 := Scalar.minsi v60 v3
  let v138 : BitVec 32 := Scalar.subi v62 v61
  let c_m2_i32_91 : BitVec 32 := 4294967294#32
  let v280 : BitVec 32 := Scalar.andi v138 c_m2_i32_91
  let v281 : BitVec 32 := Scalar.addi v61 v280
  let c128_i32_95 : BitVec 32 := 128#32
  let v286 : BitVec 32 := Scalar.muli v281 c128_i32_95
  ![v286.toNat]
def k0_cond136 (i : grid0.Coords) (v53 : BitVec 32) (v60 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v62 : BitVec 32 := Scalar.minsi v60 v3
  let v61 : BitVec 32 := Scalar.maxsi v53 v2
  let v138 : BitVec 32 := Scalar.subi v62 v61
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk8 (i : grid0.Coords) (v53 : BitVec 32) (v60 : BitVec 32) : Prop :=
  (∀ (k0_h120 : k0_cond120 i v53 v60 = 1#1), (k0_t43_loop i v53 v60).OK) ∧
  (∀ k0_t43 : Fin (k0_t43_loop i v53 v60).trips, ∀ (k0_h120 : k0_cond120 i v53 v60 = 1#1), ∀ (r : Fin 16), ∀ a, (k0_off155 i v53 v60 k0_t43 (BitVec.ofNat 32 (16 * r.val))) a + S16.size a ≤ S32768.size a) ∧
  (∀ (k0_h120 : k0_cond120 i v53 v60 = 1#1), (k0_t44_loop i v53 v60).OK) ∧
  (∀ k0_t44 : Fin (k0_t44_loop i v53 v60).trips, ∀ (k0_h120 : k0_cond120 i v53 v60 = 1#1), ∀ (r : Fin 16), ∀ a, (k0_off156 i v53 v60 k0_t44 (BitVec.ofNat 32 (16 * r.val))) a + S16.size a ≤ S32768.size a) ∧
  (∀ (k0_h120 : k0_cond120 i v53 v60 = 1#1), (k0_t45_loop i v53 v60).OK) ∧
  (∀ k0_t45 : Fin (k0_t45_loop i v53 v60).trips, ∀ (k0_h120 : k0_cond120 i v53 v60 = 1#1), ∀ a, (k0_off157 i v53 v60 k0_t45) a + S32768.size a ≤ S4194304.size a) ∧
  (∀ (k0_h120 : k0_cond120 i v53 v60 = 1#1), (k0_t46_loop i v53 v60).OK) ∧
  (∀ k0_t46 : Fin (k0_t46_loop i v53 v60).trips, ∀ (k0_h120 : k0_cond120 i v53 v60 = 1#1), ∀ a, (k0_off158 i v53 v60 k0_t46) a + S32768.size a ≤ S4194304.size a) ∧
  (∀ (k0_h120 : k0_cond120 i v53 v60 = 1#1), ∀ (k0_h121 : k0_cond121 i v53 v60 = 1#1), ∀ a, (k0_off159 i v53 v60) a + S16384.size a ≤ S4194304.size a) ∧
  (∀ (k0_h120 : k0_cond120 i v53 v60 = 1#1), ∀ (k0_h122 : k0_cond122 i v53 v60 = 1#1), ∀ a, (k0_off160 i v53 v60) a + S8192.size a ≤ S4194304.size a) ∧
  (∀ (k0_h120 : k0_cond120 i v53 v60 = 1#1), ∀ (k0_h123 : k0_cond123 i v53 v60 = 1#1), ∀ a, (k0_off161 i v53 v60) a + S4096.size a ≤ S4194304.size a) ∧
  (∀ (k0_h120 : k0_cond120 i v53 v60 = 1#1), ∀ (k0_h124 : k0_cond124 i v53 v60 = 1#1), ∀ a, (k0_off162 i v53 v60) a + S2048.size a ≤ S4194304.size a) ∧
  (∀ (k0_h120 : k0_cond120 i v53 v60 = 1#1), ∀ (k0_h125 : k0_cond125 i v53 v60 = 1#1), ∀ a, (k0_off163 i v53 v60) a + S1024.size a ≤ S4194304.size a) ∧
  (∀ (k0_h120 : k0_cond120 i v53 v60 = 1#1), ∀ (k0_h126 : k0_cond126 i v53 v60 = 1#1), ∀ a, (k0_off164 i v53 v60) a + S512.size a ≤ S4194304.size a) ∧
  (∀ (k0_h120 : k0_cond120 i v53 v60 = 1#1), ∀ (k0_h127 : k0_cond127 i v53 v60 = 1#1), ∀ a, (k0_off165 i v53 v60) a + S256.size a ≤ S4194304.size a) ∧
  (∀ (k0_h120 : k0_cond120 i v53 v60 = 1#1), ∀ (k0_h128 : k0_cond128 i v53 v60 = 1#1), ∀ a, (k0_off166 i v53 v60) a + S128.size a ≤ S4194304.size a) ∧
  (∀ (k0_h120 : k0_cond120 i v53 v60 = 1#1), (k0_t47_loop i v53 v60).OK) ∧
  (∀ k0_t47 : Fin (k0_t47_loop i v53 v60).trips, ∀ (k0_h120 : k0_cond120 i v53 v60 = 1#1), ∀ a, (k0_off167 i v53 v60 k0_t47) a + S32768.size a ≤ S4194304.size a) ∧
  (∀ (k0_h120 : k0_cond120 i v53 v60 = 1#1), (k0_t48_loop i v53 v60).OK) ∧
  (∀ k0_t48 : Fin (k0_t48_loop i v53 v60).trips, ∀ (k0_h120 : k0_cond120 i v53 v60 = 1#1), ∀ a, (k0_off168 i v53 v60 k0_t48) a + S32768.size a ≤ S4194304.size a) ∧
  (∀ (k0_h120 : k0_cond120 i v53 v60 = 1#1), ∀ (k0_h129 : k0_cond129 i v53 v60 = 1#1), ∀ a, (k0_off169 i v53 v60) a + S16384.size a ≤ S4194304.size a) ∧
  (∀ (k0_h120 : k0_cond120 i v53 v60 = 1#1), ∀ (k0_h130 : k0_cond130 i v53 v60 = 1#1), ∀ a, (k0_off170 i v53 v60) a + S8192.size a ≤ S4194304.size a) ∧
  (∀ (k0_h120 : k0_cond120 i v53 v60 = 1#1), ∀ (k0_h131 : k0_cond131 i v53 v60 = 1#1), ∀ a, (k0_off171 i v53 v60) a + S4096.size a ≤ S4194304.size a) ∧
  (∀ (k0_h120 : k0_cond120 i v53 v60 = 1#1), ∀ (k0_h132 : k0_cond132 i v53 v60 = 1#1), ∀ a, (k0_off172 i v53 v60) a + S2048.size a ≤ S4194304.size a) ∧
  (∀ (k0_h120 : k0_cond120 i v53 v60 = 1#1), ∀ (k0_h133 : k0_cond133 i v53 v60 = 1#1), ∀ a, (k0_off173 i v53 v60) a + S1024.size a ≤ S4194304.size a) ∧
  (∀ (k0_h120 : k0_cond120 i v53 v60 = 1#1), ∀ (k0_h134 : k0_cond134 i v53 v60 = 1#1), ∀ a, (k0_off174 i v53 v60) a + S512.size a ≤ S4194304.size a) ∧
  (∀ (k0_h120 : k0_cond120 i v53 v60 = 1#1), ∀ (k0_h135 : k0_cond135 i v53 v60 = 1#1), ∀ a, (k0_off175 i v53 v60) a + S256.size a ≤ S4194304.size a) ∧
  (∀ (k0_h120 : k0_cond120 i v53 v60 = 1#1), ∀ (k0_h136 : k0_cond136 i v53 v60 = 1#1), ∀ a, (k0_off176 i v53 v60) a + S128.size a ≤ S4194304.size a)
theorem k0_t43_ok : ∀ (i : grid0.Coords) (v53 : BitVec 32) (v60 : BitVec 32) (k0_hw8 : k0_chk8 i v53 v60), ∀ (k0_h120 : k0_cond120 i v53 v60 = 1#1), (k0_t43_loop i v53 v60).OK := fun i v53 v60 k0_hw8 k0_h120 => k0_hw8.1 k0_h120
theorem k0_off155_inb : ∀ (i : grid0.Coords) (v53 : BitVec 32) (v60 : BitVec 32) (k0_hw8 : k0_chk8 i v53 v60) (k0_t43 : Fin (k0_t43_loop i v53 v60).trips), ∀ (k0_h120 : k0_cond120 i v53 v60 = 1#1), ∀ (r : Fin 16), ∀ a, (k0_off155 i v53 v60 k0_t43 (BitVec.ofNat 32 (16 * r.val))) a + S16.size a ≤ S32768.size a := fun i v53 v60 k0_hw8 k0_t43 k0_h120 r => k0_hw8.2.1 k0_t43 k0_h120 r
theorem k0_t44_ok : ∀ (i : grid0.Coords) (v53 : BitVec 32) (v60 : BitVec 32) (k0_hw8 : k0_chk8 i v53 v60), ∀ (k0_h120 : k0_cond120 i v53 v60 = 1#1), (k0_t44_loop i v53 v60).OK := fun i v53 v60 k0_hw8 k0_h120 => k0_hw8.2.2.1 k0_h120
theorem k0_off156_inb : ∀ (i : grid0.Coords) (v53 : BitVec 32) (v60 : BitVec 32) (k0_hw8 : k0_chk8 i v53 v60) (k0_t44 : Fin (k0_t44_loop i v53 v60).trips), ∀ (k0_h120 : k0_cond120 i v53 v60 = 1#1), ∀ (r : Fin 16), ∀ a, (k0_off156 i v53 v60 k0_t44 (BitVec.ofNat 32 (16 * r.val))) a + S16.size a ≤ S32768.size a := fun i v53 v60 k0_hw8 k0_t44 k0_h120 r => k0_hw8.2.2.2.1 k0_t44 k0_h120 r
theorem k0_t45_ok : ∀ (i : grid0.Coords) (v53 : BitVec 32) (v60 : BitVec 32) (k0_hw8 : k0_chk8 i v53 v60), ∀ (k0_h120 : k0_cond120 i v53 v60 = 1#1), (k0_t45_loop i v53 v60).OK := fun i v53 v60 k0_hw8 k0_h120 => k0_hw8.2.2.2.2.1 k0_h120
theorem k0_off157_inb : ∀ (i : grid0.Coords) (v53 : BitVec 32) (v60 : BitVec 32) (k0_hw8 : k0_chk8 i v53 v60) (k0_t45 : Fin (k0_t45_loop i v53 v60).trips), ∀ (k0_h120 : k0_cond120 i v53 v60 = 1#1), ∀ a, (k0_off157 i v53 v60 k0_t45) a + S32768.size a ≤ S4194304.size a := fun i v53 v60 k0_hw8 k0_t45 k0_h120 => k0_hw8.2.2.2.2.2.1 k0_t45 k0_h120
theorem k0_t46_ok : ∀ (i : grid0.Coords) (v53 : BitVec 32) (v60 : BitVec 32) (k0_hw8 : k0_chk8 i v53 v60), ∀ (k0_h120 : k0_cond120 i v53 v60 = 1#1), (k0_t46_loop i v53 v60).OK := fun i v53 v60 k0_hw8 k0_h120 => k0_hw8.2.2.2.2.2.2.1 k0_h120
theorem k0_off158_inb : ∀ (i : grid0.Coords) (v53 : BitVec 32) (v60 : BitVec 32) (k0_hw8 : k0_chk8 i v53 v60) (k0_t46 : Fin (k0_t46_loop i v53 v60).trips), ∀ (k0_h120 : k0_cond120 i v53 v60 = 1#1), ∀ a, (k0_off158 i v53 v60 k0_t46) a + S32768.size a ≤ S4194304.size a := fun i v53 v60 k0_hw8 k0_t46 k0_h120 => k0_hw8.2.2.2.2.2.2.2.1 k0_t46 k0_h120
theorem k0_off159_inb : ∀ (i : grid0.Coords) (v53 : BitVec 32) (v60 : BitVec 32) (k0_hw8 : k0_chk8 i v53 v60), ∀ (k0_h120 : k0_cond120 i v53 v60 = 1#1), ∀ (k0_h121 : k0_cond121 i v53 v60 = 1#1), ∀ a, (k0_off159 i v53 v60) a + S16384.size a ≤ S4194304.size a := fun i v53 v60 k0_hw8 k0_h120 k0_h121 => k0_hw8.2.2.2.2.2.2.2.2.1 k0_h120 k0_h121
theorem k0_off160_inb : ∀ (i : grid0.Coords) (v53 : BitVec 32) (v60 : BitVec 32) (k0_hw8 : k0_chk8 i v53 v60), ∀ (k0_h120 : k0_cond120 i v53 v60 = 1#1), ∀ (k0_h122 : k0_cond122 i v53 v60 = 1#1), ∀ a, (k0_off160 i v53 v60) a + S8192.size a ≤ S4194304.size a := fun i v53 v60 k0_hw8 k0_h120 k0_h122 => k0_hw8.2.2.2.2.2.2.2.2.2.1 k0_h120 k0_h122
theorem k0_off161_inb : ∀ (i : grid0.Coords) (v53 : BitVec 32) (v60 : BitVec 32) (k0_hw8 : k0_chk8 i v53 v60), ∀ (k0_h120 : k0_cond120 i v53 v60 = 1#1), ∀ (k0_h123 : k0_cond123 i v53 v60 = 1#1), ∀ a, (k0_off161 i v53 v60) a + S4096.size a ≤ S4194304.size a := fun i v53 v60 k0_hw8 k0_h120 k0_h123 => k0_hw8.2.2.2.2.2.2.2.2.2.2.1 k0_h120 k0_h123
theorem k0_off162_inb : ∀ (i : grid0.Coords) (v53 : BitVec 32) (v60 : BitVec 32) (k0_hw8 : k0_chk8 i v53 v60), ∀ (k0_h120 : k0_cond120 i v53 v60 = 1#1), ∀ (k0_h124 : k0_cond124 i v53 v60 = 1#1), ∀ a, (k0_off162 i v53 v60) a + S2048.size a ≤ S4194304.size a := fun i v53 v60 k0_hw8 k0_h120 k0_h124 => k0_hw8.2.2.2.2.2.2.2.2.2.2.2.1 k0_h120 k0_h124
theorem k0_off163_inb : ∀ (i : grid0.Coords) (v53 : BitVec 32) (v60 : BitVec 32) (k0_hw8 : k0_chk8 i v53 v60), ∀ (k0_h120 : k0_cond120 i v53 v60 = 1#1), ∀ (k0_h125 : k0_cond125 i v53 v60 = 1#1), ∀ a, (k0_off163 i v53 v60) a + S1024.size a ≤ S4194304.size a := fun i v53 v60 k0_hw8 k0_h120 k0_h125 => k0_hw8.2.2.2.2.2.2.2.2.2.2.2.2.1 k0_h120 k0_h125
theorem k0_off164_inb : ∀ (i : grid0.Coords) (v53 : BitVec 32) (v60 : BitVec 32) (k0_hw8 : k0_chk8 i v53 v60), ∀ (k0_h120 : k0_cond120 i v53 v60 = 1#1), ∀ (k0_h126 : k0_cond126 i v53 v60 = 1#1), ∀ a, (k0_off164 i v53 v60) a + S512.size a ≤ S4194304.size a := fun i v53 v60 k0_hw8 k0_h120 k0_h126 => k0_hw8.2.2.2.2.2.2.2.2.2.2.2.2.2.1 k0_h120 k0_h126
theorem k0_off165_inb : ∀ (i : grid0.Coords) (v53 : BitVec 32) (v60 : BitVec 32) (k0_hw8 : k0_chk8 i v53 v60), ∀ (k0_h120 : k0_cond120 i v53 v60 = 1#1), ∀ (k0_h127 : k0_cond127 i v53 v60 = 1#1), ∀ a, (k0_off165 i v53 v60) a + S256.size a ≤ S4194304.size a := fun i v53 v60 k0_hw8 k0_h120 k0_h127 => k0_hw8.2.2.2.2.2.2.2.2.2.2.2.2.2.2.1 k0_h120 k0_h127
theorem k0_off166_inb : ∀ (i : grid0.Coords) (v53 : BitVec 32) (v60 : BitVec 32) (k0_hw8 : k0_chk8 i v53 v60), ∀ (k0_h120 : k0_cond120 i v53 v60 = 1#1), ∀ (k0_h128 : k0_cond128 i v53 v60 = 1#1), ∀ a, (k0_off166 i v53 v60) a + S128.size a ≤ S4194304.size a := fun i v53 v60 k0_hw8 k0_h120 k0_h128 => k0_hw8.2.2.2.2.2.2.2.2.2.2.2.2.2.2.2.1 k0_h120 k0_h128
theorem k0_t47_ok : ∀ (i : grid0.Coords) (v53 : BitVec 32) (v60 : BitVec 32) (k0_hw8 : k0_chk8 i v53 v60), ∀ (k0_h120 : k0_cond120 i v53 v60 = 1#1), (k0_t47_loop i v53 v60).OK := fun i v53 v60 k0_hw8 k0_h120 => k0_hw8.2.2.2.2.2.2.2.2.2.2.2.2.2.2.2.2.1 k0_h120
theorem k0_off167_inb : ∀ (i : grid0.Coords) (v53 : BitVec 32) (v60 : BitVec 32) (k0_hw8 : k0_chk8 i v53 v60) (k0_t47 : Fin (k0_t47_loop i v53 v60).trips), ∀ (k0_h120 : k0_cond120 i v53 v60 = 1#1), ∀ a, (k0_off167 i v53 v60 k0_t47) a + S32768.size a ≤ S4194304.size a := fun i v53 v60 k0_hw8 k0_t47 k0_h120 => k0_hw8.2.2.2.2.2.2.2.2.2.2.2.2.2.2.2.2.2.1 k0_t47 k0_h120
theorem k0_t48_ok : ∀ (i : grid0.Coords) (v53 : BitVec 32) (v60 : BitVec 32) (k0_hw8 : k0_chk8 i v53 v60), ∀ (k0_h120 : k0_cond120 i v53 v60 = 1#1), (k0_t48_loop i v53 v60).OK := fun i v53 v60 k0_hw8 k0_h120 => k0_hw8.2.2.2.2.2.2.2.2.2.2.2.2.2.2.2.2.2.2.1 k0_h120
theorem k0_off168_inb : ∀ (i : grid0.Coords) (v53 : BitVec 32) (v60 : BitVec 32) (k0_hw8 : k0_chk8 i v53 v60) (k0_t48 : Fin (k0_t48_loop i v53 v60).trips), ∀ (k0_h120 : k0_cond120 i v53 v60 = 1#1), ∀ a, (k0_off168 i v53 v60 k0_t48) a + S32768.size a ≤ S4194304.size a := fun i v53 v60 k0_hw8 k0_t48 k0_h120 => k0_hw8.2.2.2.2.2.2.2.2.2.2.2.2.2.2.2.2.2.2.2.1 k0_t48 k0_h120
theorem k0_off169_inb : ∀ (i : grid0.Coords) (v53 : BitVec 32) (v60 : BitVec 32) (k0_hw8 : k0_chk8 i v53 v60), ∀ (k0_h120 : k0_cond120 i v53 v60 = 1#1), ∀ (k0_h129 : k0_cond129 i v53 v60 = 1#1), ∀ a, (k0_off169 i v53 v60) a + S16384.size a ≤ S4194304.size a := fun i v53 v60 k0_hw8 k0_h120 k0_h129 => k0_hw8.2.2.2.2.2.2.2.2.2.2.2.2.2.2.2.2.2.2.2.2.1 k0_h120 k0_h129
theorem k0_off170_inb : ∀ (i : grid0.Coords) (v53 : BitVec 32) (v60 : BitVec 32) (k0_hw8 : k0_chk8 i v53 v60), ∀ (k0_h120 : k0_cond120 i v53 v60 = 1#1), ∀ (k0_h130 : k0_cond130 i v53 v60 = 1#1), ∀ a, (k0_off170 i v53 v60) a + S8192.size a ≤ S4194304.size a := fun i v53 v60 k0_hw8 k0_h120 k0_h130 => k0_hw8.2.2.2.2.2.2.2.2.2.2.2.2.2.2.2.2.2.2.2.2.2.1 k0_h120 k0_h130
theorem k0_off171_inb : ∀ (i : grid0.Coords) (v53 : BitVec 32) (v60 : BitVec 32) (k0_hw8 : k0_chk8 i v53 v60), ∀ (k0_h120 : k0_cond120 i v53 v60 = 1#1), ∀ (k0_h131 : k0_cond131 i v53 v60 = 1#1), ∀ a, (k0_off171 i v53 v60) a + S4096.size a ≤ S4194304.size a := fun i v53 v60 k0_hw8 k0_h120 k0_h131 => k0_hw8.2.2.2.2.2.2.2.2.2.2.2.2.2.2.2.2.2.2.2.2.2.2.1 k0_h120 k0_h131
theorem k0_off172_inb : ∀ (i : grid0.Coords) (v53 : BitVec 32) (v60 : BitVec 32) (k0_hw8 : k0_chk8 i v53 v60), ∀ (k0_h120 : k0_cond120 i v53 v60 = 1#1), ∀ (k0_h132 : k0_cond132 i v53 v60 = 1#1), ∀ a, (k0_off172 i v53 v60) a + S2048.size a ≤ S4194304.size a := fun i v53 v60 k0_hw8 k0_h120 k0_h132 => k0_hw8.2.2.2.2.2.2.2.2.2.2.2.2.2.2.2.2.2.2.2.2.2.2.2.1 k0_h120 k0_h132
theorem k0_off173_inb : ∀ (i : grid0.Coords) (v53 : BitVec 32) (v60 : BitVec 32) (k0_hw8 : k0_chk8 i v53 v60), ∀ (k0_h120 : k0_cond120 i v53 v60 = 1#1), ∀ (k0_h133 : k0_cond133 i v53 v60 = 1#1), ∀ a, (k0_off173 i v53 v60) a + S1024.size a ≤ S4194304.size a := fun i v53 v60 k0_hw8 k0_h120 k0_h133 => k0_hw8.2.2.2.2.2.2.2.2.2.2.2.2.2.2.2.2.2.2.2.2.2.2.2.2.1 k0_h120 k0_h133
theorem k0_off174_inb : ∀ (i : grid0.Coords) (v53 : BitVec 32) (v60 : BitVec 32) (k0_hw8 : k0_chk8 i v53 v60), ∀ (k0_h120 : k0_cond120 i v53 v60 = 1#1), ∀ (k0_h134 : k0_cond134 i v53 v60 = 1#1), ∀ a, (k0_off174 i v53 v60) a + S512.size a ≤ S4194304.size a := fun i v53 v60 k0_hw8 k0_h120 k0_h134 => k0_hw8.2.2.2.2.2.2.2.2.2.2.2.2.2.2.2.2.2.2.2.2.2.2.2.2.2.1 k0_h120 k0_h134
theorem k0_off175_inb : ∀ (i : grid0.Coords) (v53 : BitVec 32) (v60 : BitVec 32) (k0_hw8 : k0_chk8 i v53 v60), ∀ (k0_h120 : k0_cond120 i v53 v60 = 1#1), ∀ (k0_h135 : k0_cond135 i v53 v60 = 1#1), ∀ a, (k0_off175 i v53 v60) a + S256.size a ≤ S4194304.size a := fun i v53 v60 k0_hw8 k0_h120 k0_h135 => k0_hw8.2.2.2.2.2.2.2.2.2.2.2.2.2.2.2.2.2.2.2.2.2.2.2.2.2.2.1 k0_h120 k0_h135
theorem k0_off176_inb : ∀ (i : grid0.Coords) (v53 : BitVec 32) (v60 : BitVec 32) (k0_hw8 : k0_chk8 i v53 v60), ∀ (k0_h120 : k0_cond120 i v53 v60 = 1#1), ∀ (k0_h136 : k0_cond136 i v53 v60 = 1#1), ∀ a, (k0_off176 i v53 v60) a + S128.size a ≤ S4194304.size a := fun i v53 v60 k0_hw8 k0_h120 k0_h136 => k0_hw8.2.2.2.2.2.2.2.2.2.2.2.2.2.2.2.2.2.2.2.2.2.2.2.2.2.2.2 k0_h120 k0_h136

@[reducible] def k0_t49_loop (i : grid0.Coords) (v60 : BitVec 32) (v67 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond137 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v70 : BitVec 1 := Scalar.cmpi .sgt v69 v68
  let v71 : BitVec 32 := Scalar.extui v70
  let c0_i32_8 : BitVec 32 := 0#32
  let v72 : BitVec 1 := Scalar.cmpi .ne v71 c0_i32_8
  v72

def k0_off177 (i : grid0.Coords) (v60 : BitVec 32) (v67 : BitVec 32) (k0_t49 : Fin (k0_t49_loop i v60 v67).trips) (c0_i32_97 : BitVec 32) : Fin 1 → Nat :=
  let c0_i32_24 : BitVec 32 := 0#32
  let c1_i32_26 : BitVec 32 := 1#32
  let arg17 : BitVec 32 := Scf.iv c0_i32_24 c1_i32_26 k0_t49
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t50_loop (i : grid0.Coords) (v60 : BitVec 32) (v67 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off178 (i : grid0.Coords) (v60 : BitVec 32) (v67 : BitVec 32) (k0_t50 : Fin (k0_t50_loop i v60 v67).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t50
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t51_loop (i : grid0.Coords) (v60 : BitVec 32) (v67 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off179 (i : grid0.Coords) (v60 : BitVec 32) (v67 : BitVec 32) (k0_t51 : Fin (k0_t51_loop i v60 v67).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c0_i32_35 : BitVec 32 := 0#32
  let c1_i32_37 : BitVec 32 := 1#32
  let arg17 : BitVec 32 := Scf.iv c0_i32_35 c1_i32_37 k0_t51
  let c256_i32_95 : BitVec 32 := 256#32
  let v286 : BitVec 32 := Scalar.muli arg17 c256_i32_95
  let v287 : BitVec 32 := Scalar.addi v68 v286
  let c128_i32_96 : BitVec 32 := 128#32
  let v288 : BitVec 32 := Scalar.muli v287 c128_i32_96
  ![v288.toNat]
@[reducible] def k0_t52_loop (i : grid0.Coords) (v60 : BitVec 32) (v67 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off180 (i : grid0.Coords) (v60 : BitVec 32) (v67 : BitVec 32) (k0_t52 : Fin (k0_t52_loop i v60 v67).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c0_i32_35 : BitVec 32 := 0#32
  let c1024_i32_0 : BitVec 32 := 1024#32
  let v3 : BitVec 32 := Scalar.addi v2 c1024_i32_0
  let v69 : BitVec 32 := Scalar.minsi v67 v3
  let v138 : BitVec 32 := Scalar.subi v69 v68
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t52
  let c256_i32_95 : BitVec 32 := 256#32
  let v286 : BitVec 32 := Scalar.muli arg17 c256_i32_95
  let v287 : BitVec 32 := Scalar.addi v68 v286
  let c128_i32_96 : BitVec 32 := 128#32
  let v288 : BitVec 32 := Scalar.muli v287 c128_i32_96
  ![v288.toNat]
def k0_off181 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m256_i32 : BitVec 32 := 4294967040#32
  let v185 : BitVec 32 := Scalar.andi v138 c_m256_i32
  let v186 : BitVec 32 := Scalar.addi v68 v185
  let c128_i32_95 : BitVec 32 := 128#32
  let v286 : BitVec 32 := Scalar.muli v186 c128_i32_95
  ![v286.toNat]
def k0_cond138 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off182 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m128_i32 : BitVec 32 := 4294967168#32
  let v191 : BitVec 32 := Scalar.andi v138 c_m128_i32
  let v192 : BitVec 32 := Scalar.addi v68 v191
  let c128_i32_95 : BitVec 32 := 128#32
  let v286 : BitVec 32 := Scalar.muli v192 c128_i32_95
  ![v286.toNat]
def k0_cond139 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off183 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m64_i32 : BitVec 32 := 4294967232#32
  let v197 : BitVec 32 := Scalar.andi v138 c_m64_i32
  let v198 : BitVec 32 := Scalar.addi v68 v197
  let c128_i32_95 : BitVec 32 := 128#32
  let v286 : BitVec 32 := Scalar.muli v198 c128_i32_95
  ![v286.toNat]
def k0_cond140 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off184 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m32_i32 : BitVec 32 := 4294967264#32
  let v203 : BitVec 32 := Scalar.andi v138 c_m32_i32
  let v204 : BitVec 32 := Scalar.addi v68 v203
  let c128_i32_95 : BitVec 32 := 128#32
  let v286 : BitVec 32 := Scalar.muli v204 c128_i32_95
  ![v286.toNat]
def k0_cond141 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off185 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m16_i32 : BitVec 32 := 4294967280#32
  let v209 : BitVec 32 := Scalar.andi v138 c_m16_i32
  let v210 : BitVec 32 := Scalar.addi v68 v209
  let c128_i32_95 : BitVec 32 := 128#32
  let v286 : BitVec 32 := Scalar.muli v210 c128_i32_95
  ![v286.toNat]
def k0_cond142 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off186 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m8_i32 : BitVec 32 := 4294967288#32
  let v215 : BitVec 32 := Scalar.andi v138 c_m8_i32
  let v216 : BitVec 32 := Scalar.addi v68 v215
  let c128_i32_95 : BitVec 32 := 128#32
  let v286 : BitVec 32 := Scalar.muli v216 c128_i32_95
  ![v286.toNat]
def k0_cond143 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off187 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m4_i32 : BitVec 32 := 4294967292#32
  let v221 : BitVec 32 := Scalar.andi v138 c_m4_i32
  let v222 : BitVec 32 := Scalar.addi v68 v221
  let c128_i32_95 : BitVec 32 := 128#32
  let v286 : BitVec 32 := Scalar.muli v222 c128_i32_95
  ![v286.toNat]
def k0_cond144 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off188 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m2_i32 : BitVec 32 := 4294967294#32
  let v227 : BitVec 32 := Scalar.andi v138 c_m2_i32
  let v228 : BitVec 32 := Scalar.addi v68 v227
  let c128_i32_95 : BitVec 32 := 128#32
  let v286 : BitVec 32 := Scalar.muli v228 c128_i32_95
  ![v286.toNat]
def k0_cond145 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t53_loop (i : grid0.Coords) (v60 : BitVec 32) (v67 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off189 (i : grid0.Coords) (v60 : BitVec 32) (v67 : BitVec 32) (k0_t53 : Fin (k0_t53_loop i v60 v67).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c0_i32_59 : BitVec 32 := 0#32
  let c1_i32_61 : BitVec 32 := 1#32
  let arg17 : BitVec 32 := Scf.iv c0_i32_59 c1_i32_61 k0_t53
  let c256_i32_95 : BitVec 32 := 256#32
  let v286 : BitVec 32 := Scalar.muli arg17 c256_i32_95
  let v287 : BitVec 32 := Scalar.addi v68 v286
  let c128_i32_96 : BitVec 32 := 128#32
  let v288 : BitVec 32 := Scalar.muli v287 c128_i32_96
  ![v288.toNat]
@[reducible] def k0_t54_loop (i : grid0.Coords) (v60 : BitVec 32) (v67 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off190 (i : grid0.Coords) (v60 : BitVec 32) (v67 : BitVec 32) (k0_t54 : Fin (k0_t54_loop i v60 v67).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c0_i32_59 : BitVec 32 := 0#32
  let c1024_i32_0 : BitVec 32 := 1024#32
  let v3 : BitVec 32 := Scalar.addi v2 c1024_i32_0
  let v69 : BitVec 32 := Scalar.minsi v67 v3
  let v138 : BitVec 32 := Scalar.subi v69 v68
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t54
  let c256_i32_95 : BitVec 32 := 256#32
  let v286 : BitVec 32 := Scalar.muli arg17 c256_i32_95
  let v287 : BitVec 32 := Scalar.addi v68 v286
  let c128_i32_96 : BitVec 32 := 128#32
  let v288 : BitVec 32 := Scalar.muli v287 c128_i32_96
  ![v288.toNat]
def k0_off191 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m256_i32_63 : BitVec 32 := 4294967040#32
  let v238 : BitVec 32 := Scalar.andi v138 c_m256_i32_63
  let v239 : BitVec 32 := Scalar.addi v68 v238
  let c128_i32_95 : BitVec 32 := 128#32
  let v286 : BitVec 32 := Scalar.muli v239 c128_i32_95
  ![v286.toNat]
def k0_cond146 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off192 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m128_i32_67 : BitVec 32 := 4294967168#32
  let v244 : BitVec 32 := Scalar.andi v138 c_m128_i32_67
  let v245 : BitVec 32 := Scalar.addi v68 v244
  let c128_i32_95 : BitVec 32 := 128#32
  let v286 : BitVec 32 := Scalar.muli v245 c128_i32_95
  ![v286.toNat]
def k0_cond147 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off193 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m64_i32_71 : BitVec 32 := 4294967232#32
  let v250 : BitVec 32 := Scalar.andi v138 c_m64_i32_71
  let v251 : BitVec 32 := Scalar.addi v68 v250
  let c128_i32_95 : BitVec 32 := 128#32
  let v286 : BitVec 32 := Scalar.muli v251 c128_i32_95
  ![v286.toNat]
def k0_cond148 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off194 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m32_i32_75 : BitVec 32 := 4294967264#32
  let v256 : BitVec 32 := Scalar.andi v138 c_m32_i32_75
  let v257 : BitVec 32 := Scalar.addi v68 v256
  let c128_i32_95 : BitVec 32 := 128#32
  let v286 : BitVec 32 := Scalar.muli v257 c128_i32_95
  ![v286.toNat]
def k0_cond149 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off195 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m16_i32_79 : BitVec 32 := 4294967280#32
  let v262 : BitVec 32 := Scalar.andi v138 c_m16_i32_79
  let v263 : BitVec 32 := Scalar.addi v68 v262
  let c128_i32_95 : BitVec 32 := 128#32
  let v286 : BitVec 32 := Scalar.muli v263 c128_i32_95
  ![v286.toNat]
def k0_cond150 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off196 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m8_i32_83 : BitVec 32 := 4294967288#32
  let v268 : BitVec 32 := Scalar.andi v138 c_m8_i32_83
  let v269 : BitVec 32 := Scalar.addi v68 v268
  let c128_i32_95 : BitVec 32 := 128#32
  let v286 : BitVec 32 := Scalar.muli v269 c128_i32_95
  ![v286.toNat]
def k0_cond151 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off197 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m4_i32_87 : BitVec 32 := 4294967292#32
  let v274 : BitVec 32 := Scalar.andi v138 c_m4_i32_87
  let v275 : BitVec 32 := Scalar.addi v68 v274
  let c128_i32_95 : BitVec 32 := 128#32
  let v286 : BitVec 32 := Scalar.muli v275 c128_i32_95
  ![v286.toNat]
def k0_cond152 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off198 (i : grid0.Coords) (v60 : BitVec 32) (v67 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v68 : BitVec 32 := Scalar.maxsi v60 v2
  let c1024_i32_0 : BitVec 32 := 1024#32
  let v3 : BitVec 32 := Scalar.addi v2 c1024_i32_0
  let v69 : BitVec 32 := Scalar.minsi v67 v3
  let v138 : BitVec 32 := Scalar.subi v69 v68
  let c_m2_i32_91 : BitVec 32 := 4294967294#32
  let v280 : BitVec 32 := Scalar.andi v138 c_m2_i32_91
  let v281 : BitVec 32 := Scalar.addi v68 v280
  let c128_i32_95 : BitVec 32 := 128#32
  let v286 : BitVec 32 := Scalar.muli v281 c128_i32_95
  ![v286.toNat]
def k0_cond153 (i : grid0.Coords) (v60 : BitVec 32) (v67 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v69 : BitVec 32 := Scalar.minsi v67 v3
  let v68 : BitVec 32 := Scalar.maxsi v60 v2
  let v138 : BitVec 32 := Scalar.subi v69 v68
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk9 (i : grid0.Coords) (v60 : BitVec 32) (v67 : BitVec 32) : Prop :=
  (∀ (k0_h137 : k0_cond137 i v60 v67 = 1#1), (k0_t49_loop i v60 v67).OK) ∧
  (∀ k0_t49 : Fin (k0_t49_loop i v60 v67).trips, ∀ (k0_h137 : k0_cond137 i v60 v67 = 1#1), ∀ (r : Fin 16), ∀ a, (k0_off177 i v60 v67 k0_t49 (BitVec.ofNat 32 (16 * r.val))) a + S16.size a ≤ S32768.size a) ∧
  (∀ (k0_h137 : k0_cond137 i v60 v67 = 1#1), (k0_t50_loop i v60 v67).OK) ∧
  (∀ k0_t50 : Fin (k0_t50_loop i v60 v67).trips, ∀ (k0_h137 : k0_cond137 i v60 v67 = 1#1), ∀ (r : Fin 16), ∀ a, (k0_off178 i v60 v67 k0_t50 (BitVec.ofNat 32 (16 * r.val))) a + S16.size a ≤ S32768.size a) ∧
  (∀ (k0_h137 : k0_cond137 i v60 v67 = 1#1), (k0_t51_loop i v60 v67).OK) ∧
  (∀ k0_t51 : Fin (k0_t51_loop i v60 v67).trips, ∀ (k0_h137 : k0_cond137 i v60 v67 = 1#1), ∀ a, (k0_off179 i v60 v67 k0_t51) a + S32768.size a ≤ S4194304.size a) ∧
  (∀ (k0_h137 : k0_cond137 i v60 v67 = 1#1), (k0_t52_loop i v60 v67).OK) ∧
  (∀ k0_t52 : Fin (k0_t52_loop i v60 v67).trips, ∀ (k0_h137 : k0_cond137 i v60 v67 = 1#1), ∀ a, (k0_off180 i v60 v67 k0_t52) a + S32768.size a ≤ S4194304.size a) ∧
  (∀ (k0_h137 : k0_cond137 i v60 v67 = 1#1), ∀ (k0_h138 : k0_cond138 i v60 v67 = 1#1), ∀ a, (k0_off181 i v60 v67) a + S16384.size a ≤ S4194304.size a) ∧
  (∀ (k0_h137 : k0_cond137 i v60 v67 = 1#1), ∀ (k0_h139 : k0_cond139 i v60 v67 = 1#1), ∀ a, (k0_off182 i v60 v67) a + S8192.size a ≤ S4194304.size a) ∧
  (∀ (k0_h137 : k0_cond137 i v60 v67 = 1#1), ∀ (k0_h140 : k0_cond140 i v60 v67 = 1#1), ∀ a, (k0_off183 i v60 v67) a + S4096.size a ≤ S4194304.size a) ∧
  (∀ (k0_h137 : k0_cond137 i v60 v67 = 1#1), ∀ (k0_h141 : k0_cond141 i v60 v67 = 1#1), ∀ a, (k0_off184 i v60 v67) a + S2048.size a ≤ S4194304.size a) ∧
  (∀ (k0_h137 : k0_cond137 i v60 v67 = 1#1), ∀ (k0_h142 : k0_cond142 i v60 v67 = 1#1), ∀ a, (k0_off185 i v60 v67) a + S1024.size a ≤ S4194304.size a) ∧
  (∀ (k0_h137 : k0_cond137 i v60 v67 = 1#1), ∀ (k0_h143 : k0_cond143 i v60 v67 = 1#1), ∀ a, (k0_off186 i v60 v67) a + S512.size a ≤ S4194304.size a) ∧
  (∀ (k0_h137 : k0_cond137 i v60 v67 = 1#1), ∀ (k0_h144 : k0_cond144 i v60 v67 = 1#1), ∀ a, (k0_off187 i v60 v67) a + S256.size a ≤ S4194304.size a) ∧
  (∀ (k0_h137 : k0_cond137 i v60 v67 = 1#1), ∀ (k0_h145 : k0_cond145 i v60 v67 = 1#1), ∀ a, (k0_off188 i v60 v67) a + S128.size a ≤ S4194304.size a) ∧
  (∀ (k0_h137 : k0_cond137 i v60 v67 = 1#1), (k0_t53_loop i v60 v67).OK) ∧
  (∀ k0_t53 : Fin (k0_t53_loop i v60 v67).trips, ∀ (k0_h137 : k0_cond137 i v60 v67 = 1#1), ∀ a, (k0_off189 i v60 v67 k0_t53) a + S32768.size a ≤ S4194304.size a) ∧
  (∀ (k0_h137 : k0_cond137 i v60 v67 = 1#1), (k0_t54_loop i v60 v67).OK) ∧
  (∀ k0_t54 : Fin (k0_t54_loop i v60 v67).trips, ∀ (k0_h137 : k0_cond137 i v60 v67 = 1#1), ∀ a, (k0_off190 i v60 v67 k0_t54) a + S32768.size a ≤ S4194304.size a) ∧
  (∀ (k0_h137 : k0_cond137 i v60 v67 = 1#1), ∀ (k0_h146 : k0_cond146 i v60 v67 = 1#1), ∀ a, (k0_off191 i v60 v67) a + S16384.size a ≤ S4194304.size a) ∧
  (∀ (k0_h137 : k0_cond137 i v60 v67 = 1#1), ∀ (k0_h147 : k0_cond147 i v60 v67 = 1#1), ∀ a, (k0_off192 i v60 v67) a + S8192.size a ≤ S4194304.size a) ∧
  (∀ (k0_h137 : k0_cond137 i v60 v67 = 1#1), ∀ (k0_h148 : k0_cond148 i v60 v67 = 1#1), ∀ a, (k0_off193 i v60 v67) a + S4096.size a ≤ S4194304.size a) ∧
  (∀ (k0_h137 : k0_cond137 i v60 v67 = 1#1), ∀ (k0_h149 : k0_cond149 i v60 v67 = 1#1), ∀ a, (k0_off194 i v60 v67) a + S2048.size a ≤ S4194304.size a) ∧
  (∀ (k0_h137 : k0_cond137 i v60 v67 = 1#1), ∀ (k0_h150 : k0_cond150 i v60 v67 = 1#1), ∀ a, (k0_off195 i v60 v67) a + S1024.size a ≤ S4194304.size a) ∧
  (∀ (k0_h137 : k0_cond137 i v60 v67 = 1#1), ∀ (k0_h151 : k0_cond151 i v60 v67 = 1#1), ∀ a, (k0_off196 i v60 v67) a + S512.size a ≤ S4194304.size a) ∧
  (∀ (k0_h137 : k0_cond137 i v60 v67 = 1#1), ∀ (k0_h152 : k0_cond152 i v60 v67 = 1#1), ∀ a, (k0_off197 i v60 v67) a + S256.size a ≤ S4194304.size a) ∧
  (∀ (k0_h137 : k0_cond137 i v60 v67 = 1#1), ∀ (k0_h153 : k0_cond153 i v60 v67 = 1#1), ∀ a, (k0_off198 i v60 v67) a + S128.size a ≤ S4194304.size a)
theorem k0_t49_ok : ∀ (i : grid0.Coords) (v60 : BitVec 32) (v67 : BitVec 32) (k0_hw9 : k0_chk9 i v60 v67), ∀ (k0_h137 : k0_cond137 i v60 v67 = 1#1), (k0_t49_loop i v60 v67).OK := fun i v60 v67 k0_hw9 k0_h137 => k0_hw9.1 k0_h137
theorem k0_off177_inb : ∀ (i : grid0.Coords) (v60 : BitVec 32) (v67 : BitVec 32) (k0_hw9 : k0_chk9 i v60 v67) (k0_t49 : Fin (k0_t49_loop i v60 v67).trips), ∀ (k0_h137 : k0_cond137 i v60 v67 = 1#1), ∀ (r : Fin 16), ∀ a, (k0_off177 i v60 v67 k0_t49 (BitVec.ofNat 32 (16 * r.val))) a + S16.size a ≤ S32768.size a := fun i v60 v67 k0_hw9 k0_t49 k0_h137 r => k0_hw9.2.1 k0_t49 k0_h137 r
theorem k0_t50_ok : ∀ (i : grid0.Coords) (v60 : BitVec 32) (v67 : BitVec 32) (k0_hw9 : k0_chk9 i v60 v67), ∀ (k0_h137 : k0_cond137 i v60 v67 = 1#1), (k0_t50_loop i v60 v67).OK := fun i v60 v67 k0_hw9 k0_h137 => k0_hw9.2.2.1 k0_h137
theorem k0_off178_inb : ∀ (i : grid0.Coords) (v60 : BitVec 32) (v67 : BitVec 32) (k0_hw9 : k0_chk9 i v60 v67) (k0_t50 : Fin (k0_t50_loop i v60 v67).trips), ∀ (k0_h137 : k0_cond137 i v60 v67 = 1#1), ∀ (r : Fin 16), ∀ a, (k0_off178 i v60 v67 k0_t50 (BitVec.ofNat 32 (16 * r.val))) a + S16.size a ≤ S32768.size a := fun i v60 v67 k0_hw9 k0_t50 k0_h137 r => k0_hw9.2.2.2.1 k0_t50 k0_h137 r
theorem k0_t51_ok : ∀ (i : grid0.Coords) (v60 : BitVec 32) (v67 : BitVec 32) (k0_hw9 : k0_chk9 i v60 v67), ∀ (k0_h137 : k0_cond137 i v60 v67 = 1#1), (k0_t51_loop i v60 v67).OK := fun i v60 v67 k0_hw9 k0_h137 => k0_hw9.2.2.2.2.1 k0_h137
theorem k0_off179_inb : ∀ (i : grid0.Coords) (v60 : BitVec 32) (v67 : BitVec 32) (k0_hw9 : k0_chk9 i v60 v67) (k0_t51 : Fin (k0_t51_loop i v60 v67).trips), ∀ (k0_h137 : k0_cond137 i v60 v67 = 1#1), ∀ a, (k0_off179 i v60 v67 k0_t51) a + S32768.size a ≤ S4194304.size a := fun i v60 v67 k0_hw9 k0_t51 k0_h137 => k0_hw9.2.2.2.2.2.1 k0_t51 k0_h137
theorem k0_t52_ok : ∀ (i : grid0.Coords) (v60 : BitVec 32) (v67 : BitVec 32) (k0_hw9 : k0_chk9 i v60 v67), ∀ (k0_h137 : k0_cond137 i v60 v67 = 1#1), (k0_t52_loop i v60 v67).OK := fun i v60 v67 k0_hw9 k0_h137 => k0_hw9.2.2.2.2.2.2.1 k0_h137
theorem k0_off180_inb : ∀ (i : grid0.Coords) (v60 : BitVec 32) (v67 : BitVec 32) (k0_hw9 : k0_chk9 i v60 v67) (k0_t52 : Fin (k0_t52_loop i v60 v67).trips), ∀ (k0_h137 : k0_cond137 i v60 v67 = 1#1), ∀ a, (k0_off180 i v60 v67 k0_t52) a + S32768.size a ≤ S4194304.size a := fun i v60 v67 k0_hw9 k0_t52 k0_h137 => k0_hw9.2.2.2.2.2.2.2.1 k0_t52 k0_h137
theorem k0_off181_inb : ∀ (i : grid0.Coords) (v60 : BitVec 32) (v67 : BitVec 32) (k0_hw9 : k0_chk9 i v60 v67), ∀ (k0_h137 : k0_cond137 i v60 v67 = 1#1), ∀ (k0_h138 : k0_cond138 i v60 v67 = 1#1), ∀ a, (k0_off181 i v60 v67) a + S16384.size a ≤ S4194304.size a := fun i v60 v67 k0_hw9 k0_h137 k0_h138 => k0_hw9.2.2.2.2.2.2.2.2.1 k0_h137 k0_h138
theorem k0_off182_inb : ∀ (i : grid0.Coords) (v60 : BitVec 32) (v67 : BitVec 32) (k0_hw9 : k0_chk9 i v60 v67), ∀ (k0_h137 : k0_cond137 i v60 v67 = 1#1), ∀ (k0_h139 : k0_cond139 i v60 v67 = 1#1), ∀ a, (k0_off182 i v60 v67) a + S8192.size a ≤ S4194304.size a := fun i v60 v67 k0_hw9 k0_h137 k0_h139 => k0_hw9.2.2.2.2.2.2.2.2.2.1 k0_h137 k0_h139
theorem k0_off183_inb : ∀ (i : grid0.Coords) (v60 : BitVec 32) (v67 : BitVec 32) (k0_hw9 : k0_chk9 i v60 v67), ∀ (k0_h137 : k0_cond137 i v60 v67 = 1#1), ∀ (k0_h140 : k0_cond140 i v60 v67 = 1#1), ∀ a, (k0_off183 i v60 v67) a + S4096.size a ≤ S4194304.size a := fun i v60 v67 k0_hw9 k0_h137 k0_h140 => k0_hw9.2.2.2.2.2.2.2.2.2.2.1 k0_h137 k0_h140
theorem k0_off184_inb : ∀ (i : grid0.Coords) (v60 : BitVec 32) (v67 : BitVec 32) (k0_hw9 : k0_chk9 i v60 v67), ∀ (k0_h137 : k0_cond137 i v60 v67 = 1#1), ∀ (k0_h141 : k0_cond141 i v60 v67 = 1#1), ∀ a, (k0_off184 i v60 v67) a + S2048.size a ≤ S4194304.size a := fun i v60 v67 k0_hw9 k0_h137 k0_h141 => k0_hw9.2.2.2.2.2.2.2.2.2.2.2.1 k0_h137 k0_h141
theorem k0_off185_inb : ∀ (i : grid0.Coords) (v60 : BitVec 32) (v67 : BitVec 32) (k0_hw9 : k0_chk9 i v60 v67), ∀ (k0_h137 : k0_cond137 i v60 v67 = 1#1), ∀ (k0_h142 : k0_cond142 i v60 v67 = 1#1), ∀ a, (k0_off185 i v60 v67) a + S1024.size a ≤ S4194304.size a := fun i v60 v67 k0_hw9 k0_h137 k0_h142 => k0_hw9.2.2.2.2.2.2.2.2.2.2.2.2.1 k0_h137 k0_h142
theorem k0_off186_inb : ∀ (i : grid0.Coords) (v60 : BitVec 32) (v67 : BitVec 32) (k0_hw9 : k0_chk9 i v60 v67), ∀ (k0_h137 : k0_cond137 i v60 v67 = 1#1), ∀ (k0_h143 : k0_cond143 i v60 v67 = 1#1), ∀ a, (k0_off186 i v60 v67) a + S512.size a ≤ S4194304.size a := fun i v60 v67 k0_hw9 k0_h137 k0_h143 => k0_hw9.2.2.2.2.2.2.2.2.2.2.2.2.2.1 k0_h137 k0_h143
theorem k0_off187_inb : ∀ (i : grid0.Coords) (v60 : BitVec 32) (v67 : BitVec 32) (k0_hw9 : k0_chk9 i v60 v67), ∀ (k0_h137 : k0_cond137 i v60 v67 = 1#1), ∀ (k0_h144 : k0_cond144 i v60 v67 = 1#1), ∀ a, (k0_off187 i v60 v67) a + S256.size a ≤ S4194304.size a := fun i v60 v67 k0_hw9 k0_h137 k0_h144 => k0_hw9.2.2.2.2.2.2.2.2.2.2.2.2.2.2.1 k0_h137 k0_h144
theorem k0_off188_inb : ∀ (i : grid0.Coords) (v60 : BitVec 32) (v67 : BitVec 32) (k0_hw9 : k0_chk9 i v60 v67), ∀ (k0_h137 : k0_cond137 i v60 v67 = 1#1), ∀ (k0_h145 : k0_cond145 i v60 v67 = 1#1), ∀ a, (k0_off188 i v60 v67) a + S128.size a ≤ S4194304.size a := fun i v60 v67 k0_hw9 k0_h137 k0_h145 => k0_hw9.2.2.2.2.2.2.2.2.2.2.2.2.2.2.2.1 k0_h137 k0_h145
theorem k0_t53_ok : ∀ (i : grid0.Coords) (v60 : BitVec 32) (v67 : BitVec 32) (k0_hw9 : k0_chk9 i v60 v67), ∀ (k0_h137 : k0_cond137 i v60 v67 = 1#1), (k0_t53_loop i v60 v67).OK := fun i v60 v67 k0_hw9 k0_h137 => k0_hw9.2.2.2.2.2.2.2.2.2.2.2.2.2.2.2.2.1 k0_h137
theorem k0_off189_inb : ∀ (i : grid0.Coords) (v60 : BitVec 32) (v67 : BitVec 32) (k0_hw9 : k0_chk9 i v60 v67) (k0_t53 : Fin (k0_t53_loop i v60 v67).trips), ∀ (k0_h137 : k0_cond137 i v60 v67 = 1#1), ∀ a, (k0_off189 i v60 v67 k0_t53) a + S32768.size a ≤ S4194304.size a := fun i v60 v67 k0_hw9 k0_t53 k0_h137 => k0_hw9.2.2.2.2.2.2.2.2.2.2.2.2.2.2.2.2.2.1 k0_t53 k0_h137
theorem k0_t54_ok : ∀ (i : grid0.Coords) (v60 : BitVec 32) (v67 : BitVec 32) (k0_hw9 : k0_chk9 i v60 v67), ∀ (k0_h137 : k0_cond137 i v60 v67 = 1#1), (k0_t54_loop i v60 v67).OK := fun i v60 v67 k0_hw9 k0_h137 => k0_hw9.2.2.2.2.2.2.2.2.2.2.2.2.2.2.2.2.2.2.1 k0_h137
theorem k0_off190_inb : ∀ (i : grid0.Coords) (v60 : BitVec 32) (v67 : BitVec 32) (k0_hw9 : k0_chk9 i v60 v67) (k0_t54 : Fin (k0_t54_loop i v60 v67).trips), ∀ (k0_h137 : k0_cond137 i v60 v67 = 1#1), ∀ a, (k0_off190 i v60 v67 k0_t54) a + S32768.size a ≤ S4194304.size a := fun i v60 v67 k0_hw9 k0_t54 k0_h137 => k0_hw9.2.2.2.2.2.2.2.2.2.2.2.2.2.2.2.2.2.2.2.1 k0_t54 k0_h137
theorem k0_off191_inb : ∀ (i : grid0.Coords) (v60 : BitVec 32) (v67 : BitVec 32) (k0_hw9 : k0_chk9 i v60 v67), ∀ (k0_h137 : k0_cond137 i v60 v67 = 1#1), ∀ (k0_h146 : k0_cond146 i v60 v67 = 1#1), ∀ a, (k0_off191 i v60 v67) a + S16384.size a ≤ S4194304.size a := fun i v60 v67 k0_hw9 k0_h137 k0_h146 => k0_hw9.2.2.2.2.2.2.2.2.2.2.2.2.2.2.2.2.2.2.2.2.1 k0_h137 k0_h146
theorem k0_off192_inb : ∀ (i : grid0.Coords) (v60 : BitVec 32) (v67 : BitVec 32) (k0_hw9 : k0_chk9 i v60 v67), ∀ (k0_h137 : k0_cond137 i v60 v67 = 1#1), ∀ (k0_h147 : k0_cond147 i v60 v67 = 1#1), ∀ a, (k0_off192 i v60 v67) a + S8192.size a ≤ S4194304.size a := fun i v60 v67 k0_hw9 k0_h137 k0_h147 => k0_hw9.2.2.2.2.2.2.2.2.2.2.2.2.2.2.2.2.2.2.2.2.2.1 k0_h137 k0_h147
theorem k0_off193_inb : ∀ (i : grid0.Coords) (v60 : BitVec 32) (v67 : BitVec 32) (k0_hw9 : k0_chk9 i v60 v67), ∀ (k0_h137 : k0_cond137 i v60 v67 = 1#1), ∀ (k0_h148 : k0_cond148 i v60 v67 = 1#1), ∀ a, (k0_off193 i v60 v67) a + S4096.size a ≤ S4194304.size a := fun i v60 v67 k0_hw9 k0_h137 k0_h148 => k0_hw9.2.2.2.2.2.2.2.2.2.2.2.2.2.2.2.2.2.2.2.2.2.2.1 k0_h137 k0_h148
theorem k0_off194_inb : ∀ (i : grid0.Coords) (v60 : BitVec 32) (v67 : BitVec 32) (k0_hw9 : k0_chk9 i v60 v67), ∀ (k0_h137 : k0_cond137 i v60 v67 = 1#1), ∀ (k0_h149 : k0_cond149 i v60 v67 = 1#1), ∀ a, (k0_off194 i v60 v67) a + S2048.size a ≤ S4194304.size a := fun i v60 v67 k0_hw9 k0_h137 k0_h149 => k0_hw9.2.2.2.2.2.2.2.2.2.2.2.2.2.2.2.2.2.2.2.2.2.2.2.1 k0_h137 k0_h149
theorem k0_off195_inb : ∀ (i : grid0.Coords) (v60 : BitVec 32) (v67 : BitVec 32) (k0_hw9 : k0_chk9 i v60 v67), ∀ (k0_h137 : k0_cond137 i v60 v67 = 1#1), ∀ (k0_h150 : k0_cond150 i v60 v67 = 1#1), ∀ a, (k0_off195 i v60 v67) a + S1024.size a ≤ S4194304.size a := fun i v60 v67 k0_hw9 k0_h137 k0_h150 => k0_hw9.2.2.2.2.2.2.2.2.2.2.2.2.2.2.2.2.2.2.2.2.2.2.2.2.1 k0_h137 k0_h150
theorem k0_off196_inb : ∀ (i : grid0.Coords) (v60 : BitVec 32) (v67 : BitVec 32) (k0_hw9 : k0_chk9 i v60 v67), ∀ (k0_h137 : k0_cond137 i v60 v67 = 1#1), ∀ (k0_h151 : k0_cond151 i v60 v67 = 1#1), ∀ a, (k0_off196 i v60 v67) a + S512.size a ≤ S4194304.size a := fun i v60 v67 k0_hw9 k0_h137 k0_h151 => k0_hw9.2.2.2.2.2.2.2.2.2.2.2.2.2.2.2.2.2.2.2.2.2.2.2.2.2.1 k0_h137 k0_h151
theorem k0_off197_inb : ∀ (i : grid0.Coords) (v60 : BitVec 32) (v67 : BitVec 32) (k0_hw9 : k0_chk9 i v60 v67), ∀ (k0_h137 : k0_cond137 i v60 v67 = 1#1), ∀ (k0_h152 : k0_cond152 i v60 v67 = 1#1), ∀ a, (k0_off197 i v60 v67) a + S256.size a ≤ S4194304.size a := fun i v60 v67 k0_hw9 k0_h137 k0_h152 => k0_hw9.2.2.2.2.2.2.2.2.2.2.2.2.2.2.2.2.2.2.2.2.2.2.2.2.2.2.1 k0_h137 k0_h152
theorem k0_off198_inb : ∀ (i : grid0.Coords) (v60 : BitVec 32) (v67 : BitVec 32) (k0_hw9 : k0_chk9 i v60 v67), ∀ (k0_h137 : k0_cond137 i v60 v67 = 1#1), ∀ (k0_h153 : k0_cond153 i v60 v67 = 1#1), ∀ a, (k0_off198 i v60 v67) a + S128.size a ≤ S4194304.size a := fun i v60 v67 k0_hw9 k0_h137 k0_h153 => k0_hw9.2.2.2.2.2.2.2.2.2.2.2.2.2.2.2.2.2.2.2.2.2.2.2.2.2.2.2 k0_h137 k0_h153

@[reducible] def k0_t55_loop (i : grid0.Coords) (v67 : BitVec 32) (v74 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond154 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v77 : BitVec 1 := Scalar.cmpi .sgt v76 v75
  let v78 : BitVec 32 := Scalar.extui v77
  let c0_i32_9 : BitVec 32 := 0#32
  let v79 : BitVec 1 := Scalar.cmpi .ne v78 c0_i32_9
  v79

def k0_off199 (i : grid0.Coords) (v67 : BitVec 32) (v74 : BitVec 32) (k0_t55 : Fin (k0_t55_loop i v67 v74).trips) (c0_i32_97 : BitVec 32) : Fin 1 → Nat :=
  let c0_i32_24 : BitVec 32 := 0#32
  let c1_i32_26 : BitVec 32 := 1#32
  let arg17 : BitVec 32 := Scf.iv c0_i32_24 c1_i32_26 k0_t55
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t56_loop (i : grid0.Coords) (v67 : BitVec 32) (v74 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off200 (i : grid0.Coords) (v67 : BitVec 32) (v74 : BitVec 32) (k0_t56 : Fin (k0_t56_loop i v67 v74).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t56
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t57_loop (i : grid0.Coords) (v67 : BitVec 32) (v74 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off201 (i : grid0.Coords) (v67 : BitVec 32) (v74 : BitVec 32) (k0_t57 : Fin (k0_t57_loop i v67 v74).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c0_i32_35 : BitVec 32 := 0#32
  let c1_i32_37 : BitVec 32 := 1#32
  let arg17 : BitVec 32 := Scf.iv c0_i32_35 c1_i32_37 k0_t57
  let c256_i32_95 : BitVec 32 := 256#32
  let v286 : BitVec 32 := Scalar.muli arg17 c256_i32_95
  let v287 : BitVec 32 := Scalar.addi v75 v286
  let c128_i32_96 : BitVec 32 := 128#32
  let v288 : BitVec 32 := Scalar.muli v287 c128_i32_96
  ![v288.toNat]
@[reducible] def k0_t58_loop (i : grid0.Coords) (v67 : BitVec 32) (v74 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off202 (i : grid0.Coords) (v67 : BitVec 32) (v74 : BitVec 32) (k0_t58 : Fin (k0_t58_loop i v67 v74).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c0_i32_35 : BitVec 32 := 0#32
  let c1024_i32_0 : BitVec 32 := 1024#32
  let v3 : BitVec 32 := Scalar.addi v2 c1024_i32_0
  let v76 : BitVec 32 := Scalar.minsi v74 v3
  let v138 : BitVec 32 := Scalar.subi v76 v75
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t58
  let c256_i32_95 : BitVec 32 := 256#32
  let v286 : BitVec 32 := Scalar.muli arg17 c256_i32_95
  let v287 : BitVec 32 := Scalar.addi v75 v286
  let c128_i32_96 : BitVec 32 := 128#32
  let v288 : BitVec 32 := Scalar.muli v287 c128_i32_96
  ![v288.toNat]
def k0_off203 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m256_i32 : BitVec 32 := 4294967040#32
  let v185 : BitVec 32 := Scalar.andi v138 c_m256_i32
  let v186 : BitVec 32 := Scalar.addi v75 v185
  let c128_i32_95 : BitVec 32 := 128#32
  let v286 : BitVec 32 := Scalar.muli v186 c128_i32_95
  ![v286.toNat]
def k0_cond155 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off204 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m128_i32 : BitVec 32 := 4294967168#32
  let v191 : BitVec 32 := Scalar.andi v138 c_m128_i32
  let v192 : BitVec 32 := Scalar.addi v75 v191
  let c128_i32_95 : BitVec 32 := 128#32
  let v286 : BitVec 32 := Scalar.muli v192 c128_i32_95
  ![v286.toNat]
def k0_cond156 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off205 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m64_i32 : BitVec 32 := 4294967232#32
  let v197 : BitVec 32 := Scalar.andi v138 c_m64_i32
  let v198 : BitVec 32 := Scalar.addi v75 v197
  let c128_i32_95 : BitVec 32 := 128#32
  let v286 : BitVec 32 := Scalar.muli v198 c128_i32_95
  ![v286.toNat]
def k0_cond157 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off206 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m32_i32 : BitVec 32 := 4294967264#32
  let v203 : BitVec 32 := Scalar.andi v138 c_m32_i32
  let v204 : BitVec 32 := Scalar.addi v75 v203
  let c128_i32_95 : BitVec 32 := 128#32
  let v286 : BitVec 32 := Scalar.muli v204 c128_i32_95
  ![v286.toNat]
def k0_cond158 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off207 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m16_i32 : BitVec 32 := 4294967280#32
  let v209 : BitVec 32 := Scalar.andi v138 c_m16_i32
  let v210 : BitVec 32 := Scalar.addi v75 v209
  let c128_i32_95 : BitVec 32 := 128#32
  let v286 : BitVec 32 := Scalar.muli v210 c128_i32_95
  ![v286.toNat]
def k0_cond159 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off208 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m8_i32 : BitVec 32 := 4294967288#32
  let v215 : BitVec 32 := Scalar.andi v138 c_m8_i32
  let v216 : BitVec 32 := Scalar.addi v75 v215
  let c128_i32_95 : BitVec 32 := 128#32
  let v286 : BitVec 32 := Scalar.muli v216 c128_i32_95
  ![v286.toNat]
def k0_cond160 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off209 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m4_i32 : BitVec 32 := 4294967292#32
  let v221 : BitVec 32 := Scalar.andi v138 c_m4_i32
  let v222 : BitVec 32 := Scalar.addi v75 v221
  let c128_i32_95 : BitVec 32 := 128#32
  let v286 : BitVec 32 := Scalar.muli v222 c128_i32_95
  ![v286.toNat]
def k0_cond161 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off210 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m2_i32 : BitVec 32 := 4294967294#32
  let v227 : BitVec 32 := Scalar.andi v138 c_m2_i32
  let v228 : BitVec 32 := Scalar.addi v75 v227
  let c128_i32_95 : BitVec 32 := 128#32
  let v286 : BitVec 32 := Scalar.muli v228 c128_i32_95
  ![v286.toNat]
def k0_cond162 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t59_loop (i : grid0.Coords) (v67 : BitVec 32) (v74 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off211 (i : grid0.Coords) (v67 : BitVec 32) (v74 : BitVec 32) (k0_t59 : Fin (k0_t59_loop i v67 v74).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c0_i32_59 : BitVec 32 := 0#32
  let c1_i32_61 : BitVec 32 := 1#32
  let arg17 : BitVec 32 := Scf.iv c0_i32_59 c1_i32_61 k0_t59
  let c256_i32_95 : BitVec 32 := 256#32
  let v286 : BitVec 32 := Scalar.muli arg17 c256_i32_95
  let v287 : BitVec 32 := Scalar.addi v75 v286
  let c128_i32_96 : BitVec 32 := 128#32
  let v288 : BitVec 32 := Scalar.muli v287 c128_i32_96
  ![v288.toNat]
@[reducible] def k0_t60_loop (i : grid0.Coords) (v67 : BitVec 32) (v74 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off212 (i : grid0.Coords) (v67 : BitVec 32) (v74 : BitVec 32) (k0_t60 : Fin (k0_t60_loop i v67 v74).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c0_i32_59 : BitVec 32 := 0#32
  let c1024_i32_0 : BitVec 32 := 1024#32
  let v3 : BitVec 32 := Scalar.addi v2 c1024_i32_0
  let v76 : BitVec 32 := Scalar.minsi v74 v3
  let v138 : BitVec 32 := Scalar.subi v76 v75
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t60
  let c256_i32_95 : BitVec 32 := 256#32
  let v286 : BitVec 32 := Scalar.muli arg17 c256_i32_95
  let v287 : BitVec 32 := Scalar.addi v75 v286
  let c128_i32_96 : BitVec 32 := 128#32
  let v288 : BitVec 32 := Scalar.muli v287 c128_i32_96
  ![v288.toNat]
def k0_off213 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m256_i32_63 : BitVec 32 := 4294967040#32
  let v238 : BitVec 32 := Scalar.andi v138 c_m256_i32_63
  let v239 : BitVec 32 := Scalar.addi v75 v238
  let c128_i32_95 : BitVec 32 := 128#32
  let v286 : BitVec 32 := Scalar.muli v239 c128_i32_95
  ![v286.toNat]
def k0_cond163 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off214 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m128_i32_67 : BitVec 32 := 4294967168#32
  let v244 : BitVec 32 := Scalar.andi v138 c_m128_i32_67
  let v245 : BitVec 32 := Scalar.addi v75 v244
  let c128_i32_95 : BitVec 32 := 128#32
  let v286 : BitVec 32 := Scalar.muli v245 c128_i32_95
  ![v286.toNat]
def k0_cond164 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off215 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m64_i32_71 : BitVec 32 := 4294967232#32
  let v250 : BitVec 32 := Scalar.andi v138 c_m64_i32_71
  let v251 : BitVec 32 := Scalar.addi v75 v250
  let c128_i32_95 : BitVec 32 := 128#32
  let v286 : BitVec 32 := Scalar.muli v251 c128_i32_95
  ![v286.toNat]
def k0_cond165 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off216 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m32_i32_75 : BitVec 32 := 4294967264#32
  let v256 : BitVec 32 := Scalar.andi v138 c_m32_i32_75
  let v257 : BitVec 32 := Scalar.addi v75 v256
  let c128_i32_95 : BitVec 32 := 128#32
  let v286 : BitVec 32 := Scalar.muli v257 c128_i32_95
  ![v286.toNat]
def k0_cond166 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off217 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m16_i32_79 : BitVec 32 := 4294967280#32
  let v262 : BitVec 32 := Scalar.andi v138 c_m16_i32_79
  let v263 : BitVec 32 := Scalar.addi v75 v262
  let c128_i32_95 : BitVec 32 := 128#32
  let v286 : BitVec 32 := Scalar.muli v263 c128_i32_95
  ![v286.toNat]
def k0_cond167 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off218 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m8_i32_83 : BitVec 32 := 4294967288#32
  let v268 : BitVec 32 := Scalar.andi v138 c_m8_i32_83
  let v269 : BitVec 32 := Scalar.addi v75 v268
  let c128_i32_95 : BitVec 32 := 128#32
  let v286 : BitVec 32 := Scalar.muli v269 c128_i32_95
  ![v286.toNat]
def k0_cond168 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off219 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m4_i32_87 : BitVec 32 := 4294967292#32
  let v274 : BitVec 32 := Scalar.andi v138 c_m4_i32_87
  let v275 : BitVec 32 := Scalar.addi v75 v274
  let c128_i32_95 : BitVec 32 := 128#32
  let v286 : BitVec 32 := Scalar.muli v275 c128_i32_95
  ![v286.toNat]
def k0_cond169 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off220 (i : grid0.Coords) (v67 : BitVec 32) (v74 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.maxsi v67 v2
  let c1024_i32_0 : BitVec 32 := 1024#32
  let v3 : BitVec 32 := Scalar.addi v2 c1024_i32_0
  let v76 : BitVec 32 := Scalar.minsi v74 v3
  let v138 : BitVec 32 := Scalar.subi v76 v75
  let c_m2_i32_91 : BitVec 32 := 4294967294#32
  let v280 : BitVec 32 := Scalar.andi v138 c_m2_i32_91
  let v281 : BitVec 32 := Scalar.addi v75 v280
  let c128_i32_95 : BitVec 32 := 128#32
  let v286 : BitVec 32 := Scalar.muli v281 c128_i32_95
  ![v286.toNat]
def k0_cond170 (i : grid0.Coords) (v67 : BitVec 32) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v76 : BitVec 32 := Scalar.minsi v74 v3
  let v75 : BitVec 32 := Scalar.maxsi v67 v2
  let v138 : BitVec 32 := Scalar.subi v76 v75
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk10 (i : grid0.Coords) (v67 : BitVec 32) (v74 : BitVec 32) : Prop :=
  (∀ (k0_h154 : k0_cond154 i v67 v74 = 1#1), (k0_t55_loop i v67 v74).OK) ∧
  (∀ k0_t55 : Fin (k0_t55_loop i v67 v74).trips, ∀ (k0_h154 : k0_cond154 i v67 v74 = 1#1), ∀ (r : Fin 16), ∀ a, (k0_off199 i v67 v74 k0_t55 (BitVec.ofNat 32 (16 * r.val))) a + S16.size a ≤ S32768.size a) ∧
  (∀ (k0_h154 : k0_cond154 i v67 v74 = 1#1), (k0_t56_loop i v67 v74).OK) ∧
  (∀ k0_t56 : Fin (k0_t56_loop i v67 v74).trips, ∀ (k0_h154 : k0_cond154 i v67 v74 = 1#1), ∀ (r : Fin 16), ∀ a, (k0_off200 i v67 v74 k0_t56 (BitVec.ofNat 32 (16 * r.val))) a + S16.size a ≤ S32768.size a) ∧
  (∀ (k0_h154 : k0_cond154 i v67 v74 = 1#1), (k0_t57_loop i v67 v74).OK) ∧
  (∀ k0_t57 : Fin (k0_t57_loop i v67 v74).trips, ∀ (k0_h154 : k0_cond154 i v67 v74 = 1#1), ∀ a, (k0_off201 i v67 v74 k0_t57) a + S32768.size a ≤ S4194304.size a) ∧
  (∀ (k0_h154 : k0_cond154 i v67 v74 = 1#1), (k0_t58_loop i v67 v74).OK) ∧
  (∀ k0_t58 : Fin (k0_t58_loop i v67 v74).trips, ∀ (k0_h154 : k0_cond154 i v67 v74 = 1#1), ∀ a, (k0_off202 i v67 v74 k0_t58) a + S32768.size a ≤ S4194304.size a) ∧
  (∀ (k0_h154 : k0_cond154 i v67 v74 = 1#1), ∀ (k0_h155 : k0_cond155 i v67 v74 = 1#1), ∀ a, (k0_off203 i v67 v74) a + S16384.size a ≤ S4194304.size a) ∧
  (∀ (k0_h154 : k0_cond154 i v67 v74 = 1#1), ∀ (k0_h156 : k0_cond156 i v67 v74 = 1#1), ∀ a, (k0_off204 i v67 v74) a + S8192.size a ≤ S4194304.size a) ∧
  (∀ (k0_h154 : k0_cond154 i v67 v74 = 1#1), ∀ (k0_h157 : k0_cond157 i v67 v74 = 1#1), ∀ a, (k0_off205 i v67 v74) a + S4096.size a ≤ S4194304.size a) ∧
  (∀ (k0_h154 : k0_cond154 i v67 v74 = 1#1), ∀ (k0_h158 : k0_cond158 i v67 v74 = 1#1), ∀ a, (k0_off206 i v67 v74) a + S2048.size a ≤ S4194304.size a) ∧
  (∀ (k0_h154 : k0_cond154 i v67 v74 = 1#1), ∀ (k0_h159 : k0_cond159 i v67 v74 = 1#1), ∀ a, (k0_off207 i v67 v74) a + S1024.size a ≤ S4194304.size a) ∧
  (∀ (k0_h154 : k0_cond154 i v67 v74 = 1#1), ∀ (k0_h160 : k0_cond160 i v67 v74 = 1#1), ∀ a, (k0_off208 i v67 v74) a + S512.size a ≤ S4194304.size a) ∧
  (∀ (k0_h154 : k0_cond154 i v67 v74 = 1#1), ∀ (k0_h161 : k0_cond161 i v67 v74 = 1#1), ∀ a, (k0_off209 i v67 v74) a + S256.size a ≤ S4194304.size a) ∧
  (∀ (k0_h154 : k0_cond154 i v67 v74 = 1#1), ∀ (k0_h162 : k0_cond162 i v67 v74 = 1#1), ∀ a, (k0_off210 i v67 v74) a + S128.size a ≤ S4194304.size a) ∧
  (∀ (k0_h154 : k0_cond154 i v67 v74 = 1#1), (k0_t59_loop i v67 v74).OK) ∧
  (∀ k0_t59 : Fin (k0_t59_loop i v67 v74).trips, ∀ (k0_h154 : k0_cond154 i v67 v74 = 1#1), ∀ a, (k0_off211 i v67 v74 k0_t59) a + S32768.size a ≤ S4194304.size a) ∧
  (∀ (k0_h154 : k0_cond154 i v67 v74 = 1#1), (k0_t60_loop i v67 v74).OK) ∧
  (∀ k0_t60 : Fin (k0_t60_loop i v67 v74).trips, ∀ (k0_h154 : k0_cond154 i v67 v74 = 1#1), ∀ a, (k0_off212 i v67 v74 k0_t60) a + S32768.size a ≤ S4194304.size a) ∧
  (∀ (k0_h154 : k0_cond154 i v67 v74 = 1#1), ∀ (k0_h163 : k0_cond163 i v67 v74 = 1#1), ∀ a, (k0_off213 i v67 v74) a + S16384.size a ≤ S4194304.size a) ∧
  (∀ (k0_h154 : k0_cond154 i v67 v74 = 1#1), ∀ (k0_h164 : k0_cond164 i v67 v74 = 1#1), ∀ a, (k0_off214 i v67 v74) a + S8192.size a ≤ S4194304.size a) ∧
  (∀ (k0_h154 : k0_cond154 i v67 v74 = 1#1), ∀ (k0_h165 : k0_cond165 i v67 v74 = 1#1), ∀ a, (k0_off215 i v67 v74) a + S4096.size a ≤ S4194304.size a) ∧
  (∀ (k0_h154 : k0_cond154 i v67 v74 = 1#1), ∀ (k0_h166 : k0_cond166 i v67 v74 = 1#1), ∀ a, (k0_off216 i v67 v74) a + S2048.size a ≤ S4194304.size a) ∧
  (∀ (k0_h154 : k0_cond154 i v67 v74 = 1#1), ∀ (k0_h167 : k0_cond167 i v67 v74 = 1#1), ∀ a, (k0_off217 i v67 v74) a + S1024.size a ≤ S4194304.size a) ∧
  (∀ (k0_h154 : k0_cond154 i v67 v74 = 1#1), ∀ (k0_h168 : k0_cond168 i v67 v74 = 1#1), ∀ a, (k0_off218 i v67 v74) a + S512.size a ≤ S4194304.size a) ∧
  (∀ (k0_h154 : k0_cond154 i v67 v74 = 1#1), ∀ (k0_h169 : k0_cond169 i v67 v74 = 1#1), ∀ a, (k0_off219 i v67 v74) a + S256.size a ≤ S4194304.size a) ∧
  (∀ (k0_h154 : k0_cond154 i v67 v74 = 1#1), ∀ (k0_h170 : k0_cond170 i v67 v74 = 1#1), ∀ a, (k0_off220 i v67 v74) a + S128.size a ≤ S4194304.size a)
theorem k0_t55_ok : ∀ (i : grid0.Coords) (v67 : BitVec 32) (v74 : BitVec 32) (k0_hw10 : k0_chk10 i v67 v74), ∀ (k0_h154 : k0_cond154 i v67 v74 = 1#1), (k0_t55_loop i v67 v74).OK := fun i v67 v74 k0_hw10 k0_h154 => k0_hw10.1 k0_h154
theorem k0_off199_inb : ∀ (i : grid0.Coords) (v67 : BitVec 32) (v74 : BitVec 32) (k0_hw10 : k0_chk10 i v67 v74) (k0_t55 : Fin (k0_t55_loop i v67 v74).trips), ∀ (k0_h154 : k0_cond154 i v67 v74 = 1#1), ∀ (r : Fin 16), ∀ a, (k0_off199 i v67 v74 k0_t55 (BitVec.ofNat 32 (16 * r.val))) a + S16.size a ≤ S32768.size a := fun i v67 v74 k0_hw10 k0_t55 k0_h154 r => k0_hw10.2.1 k0_t55 k0_h154 r
theorem k0_t56_ok : ∀ (i : grid0.Coords) (v67 : BitVec 32) (v74 : BitVec 32) (k0_hw10 : k0_chk10 i v67 v74), ∀ (k0_h154 : k0_cond154 i v67 v74 = 1#1), (k0_t56_loop i v67 v74).OK := fun i v67 v74 k0_hw10 k0_h154 => k0_hw10.2.2.1 k0_h154
theorem k0_off200_inb : ∀ (i : grid0.Coords) (v67 : BitVec 32) (v74 : BitVec 32) (k0_hw10 : k0_chk10 i v67 v74) (k0_t56 : Fin (k0_t56_loop i v67 v74).trips), ∀ (k0_h154 : k0_cond154 i v67 v74 = 1#1), ∀ (r : Fin 16), ∀ a, (k0_off200 i v67 v74 k0_t56 (BitVec.ofNat 32 (16 * r.val))) a + S16.size a ≤ S32768.size a := fun i v67 v74 k0_hw10 k0_t56 k0_h154 r => k0_hw10.2.2.2.1 k0_t56 k0_h154 r
theorem k0_t57_ok : ∀ (i : grid0.Coords) (v67 : BitVec 32) (v74 : BitVec 32) (k0_hw10 : k0_chk10 i v67 v74), ∀ (k0_h154 : k0_cond154 i v67 v74 = 1#1), (k0_t57_loop i v67 v74).OK := fun i v67 v74 k0_hw10 k0_h154 => k0_hw10.2.2.2.2.1 k0_h154
theorem k0_off201_inb : ∀ (i : grid0.Coords) (v67 : BitVec 32) (v74 : BitVec 32) (k0_hw10 : k0_chk10 i v67 v74) (k0_t57 : Fin (k0_t57_loop i v67 v74).trips), ∀ (k0_h154 : k0_cond154 i v67 v74 = 1#1), ∀ a, (k0_off201 i v67 v74 k0_t57) a + S32768.size a ≤ S4194304.size a := fun i v67 v74 k0_hw10 k0_t57 k0_h154 => k0_hw10.2.2.2.2.2.1 k0_t57 k0_h154
theorem k0_t58_ok : ∀ (i : grid0.Coords) (v67 : BitVec 32) (v74 : BitVec 32) (k0_hw10 : k0_chk10 i v67 v74), ∀ (k0_h154 : k0_cond154 i v67 v74 = 1#1), (k0_t58_loop i v67 v74).OK := fun i v67 v74 k0_hw10 k0_h154 => k0_hw10.2.2.2.2.2.2.1 k0_h154
theorem k0_off202_inb : ∀ (i : grid0.Coords) (v67 : BitVec 32) (v74 : BitVec 32) (k0_hw10 : k0_chk10 i v67 v74) (k0_t58 : Fin (k0_t58_loop i v67 v74).trips), ∀ (k0_h154 : k0_cond154 i v67 v74 = 1#1), ∀ a, (k0_off202 i v67 v74 k0_t58) a + S32768.size a ≤ S4194304.size a := fun i v67 v74 k0_hw10 k0_t58 k0_h154 => k0_hw10.2.2.2.2.2.2.2.1 k0_t58 k0_h154
theorem k0_off203_inb : ∀ (i : grid0.Coords) (v67 : BitVec 32) (v74 : BitVec 32) (k0_hw10 : k0_chk10 i v67 v74), ∀ (k0_h154 : k0_cond154 i v67 v74 = 1#1), ∀ (k0_h155 : k0_cond155 i v67 v74 = 1#1), ∀ a, (k0_off203 i v67 v74) a + S16384.size a ≤ S4194304.size a := fun i v67 v74 k0_hw10 k0_h154 k0_h155 => k0_hw10.2.2.2.2.2.2.2.2.1 k0_h154 k0_h155
theorem k0_off204_inb : ∀ (i : grid0.Coords) (v67 : BitVec 32) (v74 : BitVec 32) (k0_hw10 : k0_chk10 i v67 v74), ∀ (k0_h154 : k0_cond154 i v67 v74 = 1#1), ∀ (k0_h156 : k0_cond156 i v67 v74 = 1#1), ∀ a, (k0_off204 i v67 v74) a + S8192.size a ≤ S4194304.size a := fun i v67 v74 k0_hw10 k0_h154 k0_h156 => k0_hw10.2.2.2.2.2.2.2.2.2.1 k0_h154 k0_h156
theorem k0_off205_inb : ∀ (i : grid0.Coords) (v67 : BitVec 32) (v74 : BitVec 32) (k0_hw10 : k0_chk10 i v67 v74), ∀ (k0_h154 : k0_cond154 i v67 v74 = 1#1), ∀ (k0_h157 : k0_cond157 i v67 v74 = 1#1), ∀ a, (k0_off205 i v67 v74) a + S4096.size a ≤ S4194304.size a := fun i v67 v74 k0_hw10 k0_h154 k0_h157 => k0_hw10.2.2.2.2.2.2.2.2.2.2.1 k0_h154 k0_h157
theorem k0_off206_inb : ∀ (i : grid0.Coords) (v67 : BitVec 32) (v74 : BitVec 32) (k0_hw10 : k0_chk10 i v67 v74), ∀ (k0_h154 : k0_cond154 i v67 v74 = 1#1), ∀ (k0_h158 : k0_cond158 i v67 v74 = 1#1), ∀ a, (k0_off206 i v67 v74) a + S2048.size a ≤ S4194304.size a := fun i v67 v74 k0_hw10 k0_h154 k0_h158 => k0_hw10.2.2.2.2.2.2.2.2.2.2.2.1 k0_h154 k0_h158
theorem k0_off207_inb : ∀ (i : grid0.Coords) (v67 : BitVec 32) (v74 : BitVec 32) (k0_hw10 : k0_chk10 i v67 v74), ∀ (k0_h154 : k0_cond154 i v67 v74 = 1#1), ∀ (k0_h159 : k0_cond159 i v67 v74 = 1#1), ∀ a, (k0_off207 i v67 v74) a + S1024.size a ≤ S4194304.size a := fun i v67 v74 k0_hw10 k0_h154 k0_h159 => k0_hw10.2.2.2.2.2.2.2.2.2.2.2.2.1 k0_h154 k0_h159
theorem k0_off208_inb : ∀ (i : grid0.Coords) (v67 : BitVec 32) (v74 : BitVec 32) (k0_hw10 : k0_chk10 i v67 v74), ∀ (k0_h154 : k0_cond154 i v67 v74 = 1#1), ∀ (k0_h160 : k0_cond160 i v67 v74 = 1#1), ∀ a, (k0_off208 i v67 v74) a + S512.size a ≤ S4194304.size a := fun i v67 v74 k0_hw10 k0_h154 k0_h160 => k0_hw10.2.2.2.2.2.2.2.2.2.2.2.2.2.1 k0_h154 k0_h160
theorem k0_off209_inb : ∀ (i : grid0.Coords) (v67 : BitVec 32) (v74 : BitVec 32) (k0_hw10 : k0_chk10 i v67 v74), ∀ (k0_h154 : k0_cond154 i v67 v74 = 1#1), ∀ (k0_h161 : k0_cond161 i v67 v74 = 1#1), ∀ a, (k0_off209 i v67 v74) a + S256.size a ≤ S4194304.size a := fun i v67 v74 k0_hw10 k0_h154 k0_h161 => k0_hw10.2.2.2.2.2.2.2.2.2.2.2.2.2.2.1 k0_h154 k0_h161
theorem k0_off210_inb : ∀ (i : grid0.Coords) (v67 : BitVec 32) (v74 : BitVec 32) (k0_hw10 : k0_chk10 i v67 v74), ∀ (k0_h154 : k0_cond154 i v67 v74 = 1#1), ∀ (k0_h162 : k0_cond162 i v67 v74 = 1#1), ∀ a, (k0_off210 i v67 v74) a + S128.size a ≤ S4194304.size a := fun i v67 v74 k0_hw10 k0_h154 k0_h162 => k0_hw10.2.2.2.2.2.2.2.2.2.2.2.2.2.2.2.1 k0_h154 k0_h162
theorem k0_t59_ok : ∀ (i : grid0.Coords) (v67 : BitVec 32) (v74 : BitVec 32) (k0_hw10 : k0_chk10 i v67 v74), ∀ (k0_h154 : k0_cond154 i v67 v74 = 1#1), (k0_t59_loop i v67 v74).OK := fun i v67 v74 k0_hw10 k0_h154 => k0_hw10.2.2.2.2.2.2.2.2.2.2.2.2.2.2.2.2.1 k0_h154
theorem k0_off211_inb : ∀ (i : grid0.Coords) (v67 : BitVec 32) (v74 : BitVec 32) (k0_hw10 : k0_chk10 i v67 v74) (k0_t59 : Fin (k0_t59_loop i v67 v74).trips), ∀ (k0_h154 : k0_cond154 i v67 v74 = 1#1), ∀ a, (k0_off211 i v67 v74 k0_t59) a + S32768.size a ≤ S4194304.size a := fun i v67 v74 k0_hw10 k0_t59 k0_h154 => k0_hw10.2.2.2.2.2.2.2.2.2.2.2.2.2.2.2.2.2.1 k0_t59 k0_h154
theorem k0_t60_ok : ∀ (i : grid0.Coords) (v67 : BitVec 32) (v74 : BitVec 32) (k0_hw10 : k0_chk10 i v67 v74), ∀ (k0_h154 : k0_cond154 i v67 v74 = 1#1), (k0_t60_loop i v67 v74).OK := fun i v67 v74 k0_hw10 k0_h154 => k0_hw10.2.2.2.2.2.2.2.2.2.2.2.2.2.2.2.2.2.2.1 k0_h154
theorem k0_off212_inb : ∀ (i : grid0.Coords) (v67 : BitVec 32) (v74 : BitVec 32) (k0_hw10 : k0_chk10 i v67 v74) (k0_t60 : Fin (k0_t60_loop i v67 v74).trips), ∀ (k0_h154 : k0_cond154 i v67 v74 = 1#1), ∀ a, (k0_off212 i v67 v74 k0_t60) a + S32768.size a ≤ S4194304.size a := fun i v67 v74 k0_hw10 k0_t60 k0_h154 => k0_hw10.2.2.2.2.2.2.2.2.2.2.2.2.2.2.2.2.2.2.2.1 k0_t60 k0_h154
theorem k0_off213_inb : ∀ (i : grid0.Coords) (v67 : BitVec 32) (v74 : BitVec 32) (k0_hw10 : k0_chk10 i v67 v74), ∀ (k0_h154 : k0_cond154 i v67 v74 = 1#1), ∀ (k0_h163 : k0_cond163 i v67 v74 = 1#1), ∀ a, (k0_off213 i v67 v74) a + S16384.size a ≤ S4194304.size a := fun i v67 v74 k0_hw10 k0_h154 k0_h163 => k0_hw10.2.2.2.2.2.2.2.2.2.2.2.2.2.2.2.2.2.2.2.2.1 k0_h154 k0_h163
theorem k0_off214_inb : ∀ (i : grid0.Coords) (v67 : BitVec 32) (v74 : BitVec 32) (k0_hw10 : k0_chk10 i v67 v74), ∀ (k0_h154 : k0_cond154 i v67 v74 = 1#1), ∀ (k0_h164 : k0_cond164 i v67 v74 = 1#1), ∀ a, (k0_off214 i v67 v74) a + S8192.size a ≤ S4194304.size a := fun i v67 v74 k0_hw10 k0_h154 k0_h164 => k0_hw10.2.2.2.2.2.2.2.2.2.2.2.2.2.2.2.2.2.2.2.2.2.1 k0_h154 k0_h164
theorem k0_off215_inb : ∀ (i : grid0.Coords) (v67 : BitVec 32) (v74 : BitVec 32) (k0_hw10 : k0_chk10 i v67 v74), ∀ (k0_h154 : k0_cond154 i v67 v74 = 1#1), ∀ (k0_h165 : k0_cond165 i v67 v74 = 1#1), ∀ a, (k0_off215 i v67 v74) a + S4096.size a ≤ S4194304.size a := fun i v67 v74 k0_hw10 k0_h154 k0_h165 => k0_hw10.2.2.2.2.2.2.2.2.2.2.2.2.2.2.2.2.2.2.2.2.2.2.1 k0_h154 k0_h165
theorem k0_off216_inb : ∀ (i : grid0.Coords) (v67 : BitVec 32) (v74 : BitVec 32) (k0_hw10 : k0_chk10 i v67 v74), ∀ (k0_h154 : k0_cond154 i v67 v74 = 1#1), ∀ (k0_h166 : k0_cond166 i v67 v74 = 1#1), ∀ a, (k0_off216 i v67 v74) a + S2048.size a ≤ S4194304.size a := fun i v67 v74 k0_hw10 k0_h154 k0_h166 => k0_hw10.2.2.2.2.2.2.2.2.2.2.2.2.2.2.2.2.2.2.2.2.2.2.2.1 k0_h154 k0_h166
theorem k0_off217_inb : ∀ (i : grid0.Coords) (v67 : BitVec 32) (v74 : BitVec 32) (k0_hw10 : k0_chk10 i v67 v74), ∀ (k0_h154 : k0_cond154 i v67 v74 = 1#1), ∀ (k0_h167 : k0_cond167 i v67 v74 = 1#1), ∀ a, (k0_off217 i v67 v74) a + S1024.size a ≤ S4194304.size a := fun i v67 v74 k0_hw10 k0_h154 k0_h167 => k0_hw10.2.2.2.2.2.2.2.2.2.2.2.2.2.2.2.2.2.2.2.2.2.2.2.2.1 k0_h154 k0_h167
theorem k0_off218_inb : ∀ (i : grid0.Coords) (v67 : BitVec 32) (v74 : BitVec 32) (k0_hw10 : k0_chk10 i v67 v74), ∀ (k0_h154 : k0_cond154 i v67 v74 = 1#1), ∀ (k0_h168 : k0_cond168 i v67 v74 = 1#1), ∀ a, (k0_off218 i v67 v74) a + S512.size a ≤ S4194304.size a := fun i v67 v74 k0_hw10 k0_h154 k0_h168 => k0_hw10.2.2.2.2.2.2.2.2.2.2.2.2.2.2.2.2.2.2.2.2.2.2.2.2.2.1 k0_h154 k0_h168
theorem k0_off219_inb : ∀ (i : grid0.Coords) (v67 : BitVec 32) (v74 : BitVec 32) (k0_hw10 : k0_chk10 i v67 v74), ∀ (k0_h154 : k0_cond154 i v67 v74 = 1#1), ∀ (k0_h169 : k0_cond169 i v67 v74 = 1#1), ∀ a, (k0_off219 i v67 v74) a + S256.size a ≤ S4194304.size a := fun i v67 v74 k0_hw10 k0_h154 k0_h169 => k0_hw10.2.2.2.2.2.2.2.2.2.2.2.2.2.2.2.2.2.2.2.2.2.2.2.2.2.2.1 k0_h154 k0_h169
theorem k0_off220_inb : ∀ (i : grid0.Coords) (v67 : BitVec 32) (v74 : BitVec 32) (k0_hw10 : k0_chk10 i v67 v74), ∀ (k0_h154 : k0_cond154 i v67 v74 = 1#1), ∀ (k0_h170 : k0_cond170 i v67 v74 = 1#1), ∀ a, (k0_off220 i v67 v74) a + S128.size a ≤ S4194304.size a := fun i v67 v74 k0_hw10 k0_h154 k0_h170 => k0_hw10.2.2.2.2.2.2.2.2.2.2.2.2.2.2.2.2.2.2.2.2.2.2.2.2.2.2.2 k0_h154 k0_h170

@[reducible] def k0_t61_loop (i : grid0.Coords) (v74 : BitVec 32) (v81 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond171 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v84 : BitVec 1 := Scalar.cmpi .sgt v83 v82
  let v85 : BitVec 32 := Scalar.extui v84
  let c0_i32_10 : BitVec 32 := 0#32
  let v86 : BitVec 1 := Scalar.cmpi .ne v85 c0_i32_10
  v86

def k0_off221 (i : grid0.Coords) (v74 : BitVec 32) (v81 : BitVec 32) (k0_t61 : Fin (k0_t61_loop i v74 v81).trips) (c0_i32_97 : BitVec 32) : Fin 1 → Nat :=
  let c0_i32_24 : BitVec 32 := 0#32
  let c1_i32_26 : BitVec 32 := 1#32
  let arg17 : BitVec 32 := Scf.iv c0_i32_24 c1_i32_26 k0_t61
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t62_loop (i : grid0.Coords) (v74 : BitVec 32) (v81 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off222 (i : grid0.Coords) (v74 : BitVec 32) (v81 : BitVec 32) (k0_t62 : Fin (k0_t62_loop i v74 v81).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t62
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t63_loop (i : grid0.Coords) (v74 : BitVec 32) (v81 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off223 (i : grid0.Coords) (v74 : BitVec 32) (v81 : BitVec 32) (k0_t63 : Fin (k0_t63_loop i v74 v81).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c0_i32_35 : BitVec 32 := 0#32
  let c1_i32_37 : BitVec 32 := 1#32
  let arg17 : BitVec 32 := Scf.iv c0_i32_35 c1_i32_37 k0_t63
  let c256_i32_95 : BitVec 32 := 256#32
  let v286 : BitVec 32 := Scalar.muli arg17 c256_i32_95
  let v287 : BitVec 32 := Scalar.addi v82 v286
  let c128_i32_96 : BitVec 32 := 128#32
  let v288 : BitVec 32 := Scalar.muli v287 c128_i32_96
  ![v288.toNat]
@[reducible] def k0_t64_loop (i : grid0.Coords) (v74 : BitVec 32) (v81 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off224 (i : grid0.Coords) (v74 : BitVec 32) (v81 : BitVec 32) (k0_t64 : Fin (k0_t64_loop i v74 v81).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c0_i32_35 : BitVec 32 := 0#32
  let c1024_i32_0 : BitVec 32 := 1024#32
  let v3 : BitVec 32 := Scalar.addi v2 c1024_i32_0
  let v83 : BitVec 32 := Scalar.minsi v81 v3
  let v138 : BitVec 32 := Scalar.subi v83 v82
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t64
  let c256_i32_95 : BitVec 32 := 256#32
  let v286 : BitVec 32 := Scalar.muli arg17 c256_i32_95
  let v287 : BitVec 32 := Scalar.addi v82 v286
  let c128_i32_96 : BitVec 32 := 128#32
  let v288 : BitVec 32 := Scalar.muli v287 c128_i32_96
  ![v288.toNat]
def k0_off225 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m256_i32 : BitVec 32 := 4294967040#32
  let v185 : BitVec 32 := Scalar.andi v138 c_m256_i32
  let v186 : BitVec 32 := Scalar.addi v82 v185
  let c128_i32_95 : BitVec 32 := 128#32
  let v286 : BitVec 32 := Scalar.muli v186 c128_i32_95
  ![v286.toNat]
def k0_cond172 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off226 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m128_i32 : BitVec 32 := 4294967168#32
  let v191 : BitVec 32 := Scalar.andi v138 c_m128_i32
  let v192 : BitVec 32 := Scalar.addi v82 v191
  let c128_i32_95 : BitVec 32 := 128#32
  let v286 : BitVec 32 := Scalar.muli v192 c128_i32_95
  ![v286.toNat]
def k0_cond173 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off227 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m64_i32 : BitVec 32 := 4294967232#32
  let v197 : BitVec 32 := Scalar.andi v138 c_m64_i32
  let v198 : BitVec 32 := Scalar.addi v82 v197
  let c128_i32_95 : BitVec 32 := 128#32
  let v286 : BitVec 32 := Scalar.muli v198 c128_i32_95
  ![v286.toNat]
def k0_cond174 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off228 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m32_i32 : BitVec 32 := 4294967264#32
  let v203 : BitVec 32 := Scalar.andi v138 c_m32_i32
  let v204 : BitVec 32 := Scalar.addi v82 v203
  let c128_i32_95 : BitVec 32 := 128#32
  let v286 : BitVec 32 := Scalar.muli v204 c128_i32_95
  ![v286.toNat]
def k0_cond175 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off229 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m16_i32 : BitVec 32 := 4294967280#32
  let v209 : BitVec 32 := Scalar.andi v138 c_m16_i32
  let v210 : BitVec 32 := Scalar.addi v82 v209
  let c128_i32_95 : BitVec 32 := 128#32
  let v286 : BitVec 32 := Scalar.muli v210 c128_i32_95
  ![v286.toNat]
def k0_cond176 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off230 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m8_i32 : BitVec 32 := 4294967288#32
  let v215 : BitVec 32 := Scalar.andi v138 c_m8_i32
  let v216 : BitVec 32 := Scalar.addi v82 v215
  let c128_i32_95 : BitVec 32 := 128#32
  let v286 : BitVec 32 := Scalar.muli v216 c128_i32_95
  ![v286.toNat]
def k0_cond177 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off231 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m4_i32 : BitVec 32 := 4294967292#32
  let v221 : BitVec 32 := Scalar.andi v138 c_m4_i32
  let v222 : BitVec 32 := Scalar.addi v82 v221
  let c128_i32_95 : BitVec 32 := 128#32
  let v286 : BitVec 32 := Scalar.muli v222 c128_i32_95
  ![v286.toNat]
def k0_cond178 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off232 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m2_i32 : BitVec 32 := 4294967294#32
  let v227 : BitVec 32 := Scalar.andi v138 c_m2_i32
  let v228 : BitVec 32 := Scalar.addi v82 v227
  let c128_i32_95 : BitVec 32 := 128#32
  let v286 : BitVec 32 := Scalar.muli v228 c128_i32_95
  ![v286.toNat]
def k0_cond179 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t65_loop (i : grid0.Coords) (v74 : BitVec 32) (v81 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off233 (i : grid0.Coords) (v74 : BitVec 32) (v81 : BitVec 32) (k0_t65 : Fin (k0_t65_loop i v74 v81).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c0_i32_59 : BitVec 32 := 0#32
  let c1_i32_61 : BitVec 32 := 1#32
  let arg17 : BitVec 32 := Scf.iv c0_i32_59 c1_i32_61 k0_t65
  let c256_i32_95 : BitVec 32 := 256#32
  let v286 : BitVec 32 := Scalar.muli arg17 c256_i32_95
  let v287 : BitVec 32 := Scalar.addi v82 v286
  let c128_i32_96 : BitVec 32 := 128#32
  let v288 : BitVec 32 := Scalar.muli v287 c128_i32_96
  ![v288.toNat]
@[reducible] def k0_t66_loop (i : grid0.Coords) (v74 : BitVec 32) (v81 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off234 (i : grid0.Coords) (v74 : BitVec 32) (v81 : BitVec 32) (k0_t66 : Fin (k0_t66_loop i v74 v81).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c0_i32_59 : BitVec 32 := 0#32
  let c1024_i32_0 : BitVec 32 := 1024#32
  let v3 : BitVec 32 := Scalar.addi v2 c1024_i32_0
  let v83 : BitVec 32 := Scalar.minsi v81 v3
  let v138 : BitVec 32 := Scalar.subi v83 v82
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t66
  let c256_i32_95 : BitVec 32 := 256#32
  let v286 : BitVec 32 := Scalar.muli arg17 c256_i32_95
  let v287 : BitVec 32 := Scalar.addi v82 v286
  let c128_i32_96 : BitVec 32 := 128#32
  let v288 : BitVec 32 := Scalar.muli v287 c128_i32_96
  ![v288.toNat]
def k0_off235 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m256_i32_63 : BitVec 32 := 4294967040#32
  let v238 : BitVec 32 := Scalar.andi v138 c_m256_i32_63
  let v239 : BitVec 32 := Scalar.addi v82 v238
  let c128_i32_95 : BitVec 32 := 128#32
  let v286 : BitVec 32 := Scalar.muli v239 c128_i32_95
  ![v286.toNat]
def k0_cond180 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off236 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m128_i32_67 : BitVec 32 := 4294967168#32
  let v244 : BitVec 32 := Scalar.andi v138 c_m128_i32_67
  let v245 : BitVec 32 := Scalar.addi v82 v244
  let c128_i32_95 : BitVec 32 := 128#32
  let v286 : BitVec 32 := Scalar.muli v245 c128_i32_95
  ![v286.toNat]
def k0_cond181 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off237 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m64_i32_71 : BitVec 32 := 4294967232#32
  let v250 : BitVec 32 := Scalar.andi v138 c_m64_i32_71
  let v251 : BitVec 32 := Scalar.addi v82 v250
  let c128_i32_95 : BitVec 32 := 128#32
  let v286 : BitVec 32 := Scalar.muli v251 c128_i32_95
  ![v286.toNat]
def k0_cond182 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off238 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m32_i32_75 : BitVec 32 := 4294967264#32
  let v256 : BitVec 32 := Scalar.andi v138 c_m32_i32_75
  let v257 : BitVec 32 := Scalar.addi v82 v256
  let c128_i32_95 : BitVec 32 := 128#32
  let v286 : BitVec 32 := Scalar.muli v257 c128_i32_95
  ![v286.toNat]
def k0_cond183 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off239 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m16_i32_79 : BitVec 32 := 4294967280#32
  let v262 : BitVec 32 := Scalar.andi v138 c_m16_i32_79
  let v263 : BitVec 32 := Scalar.addi v82 v262
  let c128_i32_95 : BitVec 32 := 128#32
  let v286 : BitVec 32 := Scalar.muli v263 c128_i32_95
  ![v286.toNat]
def k0_cond184 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off240 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m8_i32_83 : BitVec 32 := 4294967288#32
  let v268 : BitVec 32 := Scalar.andi v138 c_m8_i32_83
  let v269 : BitVec 32 := Scalar.addi v82 v268
  let c128_i32_95 : BitVec 32 := 128#32
  let v286 : BitVec 32 := Scalar.muli v269 c128_i32_95
  ![v286.toNat]
def k0_cond185 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off241 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m4_i32_87 : BitVec 32 := 4294967292#32
  let v274 : BitVec 32 := Scalar.andi v138 c_m4_i32_87
  let v275 : BitVec 32 := Scalar.addi v82 v274
  let c128_i32_95 : BitVec 32 := 128#32
  let v286 : BitVec 32 := Scalar.muli v275 c128_i32_95
  ![v286.toNat]
def k0_cond186 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off242 (i : grid0.Coords) (v74 : BitVec 32) (v81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v82 : BitVec 32 := Scalar.maxsi v74 v2
  let c1024_i32_0 : BitVec 32 := 1024#32
  let v3 : BitVec 32 := Scalar.addi v2 c1024_i32_0
  let v83 : BitVec 32 := Scalar.minsi v81 v3
  let v138 : BitVec 32 := Scalar.subi v83 v82
  let c_m2_i32_91 : BitVec 32 := 4294967294#32
  let v280 : BitVec 32 := Scalar.andi v138 c_m2_i32_91
  let v281 : BitVec 32 := Scalar.addi v82 v280
  let c128_i32_95 : BitVec 32 := 128#32
  let v286 : BitVec 32 := Scalar.muli v281 c128_i32_95
  ![v286.toNat]
def k0_cond187 (i : grid0.Coords) (v74 : BitVec 32) (v81 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v83 : BitVec 32 := Scalar.minsi v81 v3
  let v82 : BitVec 32 := Scalar.maxsi v74 v2
  let v138 : BitVec 32 := Scalar.subi v83 v82
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk11 (i : grid0.Coords) (v74 : BitVec 32) (v81 : BitVec 32) : Prop :=
  (∀ (k0_h171 : k0_cond171 i v74 v81 = 1#1), (k0_t61_loop i v74 v81).OK) ∧
  (∀ k0_t61 : Fin (k0_t61_loop i v74 v81).trips, ∀ (k0_h171 : k0_cond171 i v74 v81 = 1#1), ∀ (r : Fin 16), ∀ a, (k0_off221 i v74 v81 k0_t61 (BitVec.ofNat 32 (16 * r.val))) a + S16.size a ≤ S32768.size a) ∧
  (∀ (k0_h171 : k0_cond171 i v74 v81 = 1#1), (k0_t62_loop i v74 v81).OK) ∧
  (∀ k0_t62 : Fin (k0_t62_loop i v74 v81).trips, ∀ (k0_h171 : k0_cond171 i v74 v81 = 1#1), ∀ (r : Fin 16), ∀ a, (k0_off222 i v74 v81 k0_t62 (BitVec.ofNat 32 (16 * r.val))) a + S16.size a ≤ S32768.size a) ∧
  (∀ (k0_h171 : k0_cond171 i v74 v81 = 1#1), (k0_t63_loop i v74 v81).OK) ∧
  (∀ k0_t63 : Fin (k0_t63_loop i v74 v81).trips, ∀ (k0_h171 : k0_cond171 i v74 v81 = 1#1), ∀ a, (k0_off223 i v74 v81 k0_t63) a + S32768.size a ≤ S4194304.size a) ∧
  (∀ (k0_h171 : k0_cond171 i v74 v81 = 1#1), (k0_t64_loop i v74 v81).OK) ∧
  (∀ k0_t64 : Fin (k0_t64_loop i v74 v81).trips, ∀ (k0_h171 : k0_cond171 i v74 v81 = 1#1), ∀ a, (k0_off224 i v74 v81 k0_t64) a + S32768.size a ≤ S4194304.size a) ∧
  (∀ (k0_h171 : k0_cond171 i v74 v81 = 1#1), ∀ (k0_h172 : k0_cond172 i v74 v81 = 1#1), ∀ a, (k0_off225 i v74 v81) a + S16384.size a ≤ S4194304.size a) ∧
  (∀ (k0_h171 : k0_cond171 i v74 v81 = 1#1), ∀ (k0_h173 : k0_cond173 i v74 v81 = 1#1), ∀ a, (k0_off226 i v74 v81) a + S8192.size a ≤ S4194304.size a) ∧
  (∀ (k0_h171 : k0_cond171 i v74 v81 = 1#1), ∀ (k0_h174 : k0_cond174 i v74 v81 = 1#1), ∀ a, (k0_off227 i v74 v81) a + S4096.size a ≤ S4194304.size a) ∧
  (∀ (k0_h171 : k0_cond171 i v74 v81 = 1#1), ∀ (k0_h175 : k0_cond175 i v74 v81 = 1#1), ∀ a, (k0_off228 i v74 v81) a + S2048.size a ≤ S4194304.size a) ∧
  (∀ (k0_h171 : k0_cond171 i v74 v81 = 1#1), ∀ (k0_h176 : k0_cond176 i v74 v81 = 1#1), ∀ a, (k0_off229 i v74 v81) a + S1024.size a ≤ S4194304.size a) ∧
  (∀ (k0_h171 : k0_cond171 i v74 v81 = 1#1), ∀ (k0_h177 : k0_cond177 i v74 v81 = 1#1), ∀ a, (k0_off230 i v74 v81) a + S512.size a ≤ S4194304.size a) ∧
  (∀ (k0_h171 : k0_cond171 i v74 v81 = 1#1), ∀ (k0_h178 : k0_cond178 i v74 v81 = 1#1), ∀ a, (k0_off231 i v74 v81) a + S256.size a ≤ S4194304.size a) ∧
  (∀ (k0_h171 : k0_cond171 i v74 v81 = 1#1), ∀ (k0_h179 : k0_cond179 i v74 v81 = 1#1), ∀ a, (k0_off232 i v74 v81) a + S128.size a ≤ S4194304.size a) ∧
  (∀ (k0_h171 : k0_cond171 i v74 v81 = 1#1), (k0_t65_loop i v74 v81).OK) ∧
  (∀ k0_t65 : Fin (k0_t65_loop i v74 v81).trips, ∀ (k0_h171 : k0_cond171 i v74 v81 = 1#1), ∀ a, (k0_off233 i v74 v81 k0_t65) a + S32768.size a ≤ S4194304.size a) ∧
  (∀ (k0_h171 : k0_cond171 i v74 v81 = 1#1), (k0_t66_loop i v74 v81).OK) ∧
  (∀ k0_t66 : Fin (k0_t66_loop i v74 v81).trips, ∀ (k0_h171 : k0_cond171 i v74 v81 = 1#1), ∀ a, (k0_off234 i v74 v81 k0_t66) a + S32768.size a ≤ S4194304.size a) ∧
  (∀ (k0_h171 : k0_cond171 i v74 v81 = 1#1), ∀ (k0_h180 : k0_cond180 i v74 v81 = 1#1), ∀ a, (k0_off235 i v74 v81) a + S16384.size a ≤ S4194304.size a) ∧
  (∀ (k0_h171 : k0_cond171 i v74 v81 = 1#1), ∀ (k0_h181 : k0_cond181 i v74 v81 = 1#1), ∀ a, (k0_off236 i v74 v81) a + S8192.size a ≤ S4194304.size a) ∧
  (∀ (k0_h171 : k0_cond171 i v74 v81 = 1#1), ∀ (k0_h182 : k0_cond182 i v74 v81 = 1#1), ∀ a, (k0_off237 i v74 v81) a + S4096.size a ≤ S4194304.size a) ∧
  (∀ (k0_h171 : k0_cond171 i v74 v81 = 1#1), ∀ (k0_h183 : k0_cond183 i v74 v81 = 1#1), ∀ a, (k0_off238 i v74 v81) a + S2048.size a ≤ S4194304.size a) ∧
  (∀ (k0_h171 : k0_cond171 i v74 v81 = 1#1), ∀ (k0_h184 : k0_cond184 i v74 v81 = 1#1), ∀ a, (k0_off239 i v74 v81) a + S1024.size a ≤ S4194304.size a) ∧
  (∀ (k0_h171 : k0_cond171 i v74 v81 = 1#1), ∀ (k0_h185 : k0_cond185 i v74 v81 = 1#1), ∀ a, (k0_off240 i v74 v81) a + S512.size a ≤ S4194304.size a) ∧
  (∀ (k0_h171 : k0_cond171 i v74 v81 = 1#1), ∀ (k0_h186 : k0_cond186 i v74 v81 = 1#1), ∀ a, (k0_off241 i v74 v81) a + S256.size a ≤ S4194304.size a) ∧
  (∀ (k0_h171 : k0_cond171 i v74 v81 = 1#1), ∀ (k0_h187 : k0_cond187 i v74 v81 = 1#1), ∀ a, (k0_off242 i v74 v81) a + S128.size a ≤ S4194304.size a)
theorem k0_t61_ok : ∀ (i : grid0.Coords) (v74 : BitVec 32) (v81 : BitVec 32) (k0_hw11 : k0_chk11 i v74 v81), ∀ (k0_h171 : k0_cond171 i v74 v81 = 1#1), (k0_t61_loop i v74 v81).OK := fun i v74 v81 k0_hw11 k0_h171 => k0_hw11.1 k0_h171
theorem k0_off221_inb : ∀ (i : grid0.Coords) (v74 : BitVec 32) (v81 : BitVec 32) (k0_hw11 : k0_chk11 i v74 v81) (k0_t61 : Fin (k0_t61_loop i v74 v81).trips), ∀ (k0_h171 : k0_cond171 i v74 v81 = 1#1), ∀ (r : Fin 16), ∀ a, (k0_off221 i v74 v81 k0_t61 (BitVec.ofNat 32 (16 * r.val))) a + S16.size a ≤ S32768.size a := fun i v74 v81 k0_hw11 k0_t61 k0_h171 r => k0_hw11.2.1 k0_t61 k0_h171 r
theorem k0_t62_ok : ∀ (i : grid0.Coords) (v74 : BitVec 32) (v81 : BitVec 32) (k0_hw11 : k0_chk11 i v74 v81), ∀ (k0_h171 : k0_cond171 i v74 v81 = 1#1), (k0_t62_loop i v74 v81).OK := fun i v74 v81 k0_hw11 k0_h171 => k0_hw11.2.2.1 k0_h171
theorem k0_off222_inb : ∀ (i : grid0.Coords) (v74 : BitVec 32) (v81 : BitVec 32) (k0_hw11 : k0_chk11 i v74 v81) (k0_t62 : Fin (k0_t62_loop i v74 v81).trips), ∀ (k0_h171 : k0_cond171 i v74 v81 = 1#1), ∀ (r : Fin 16), ∀ a, (k0_off222 i v74 v81 k0_t62 (BitVec.ofNat 32 (16 * r.val))) a + S16.size a ≤ S32768.size a := fun i v74 v81 k0_hw11 k0_t62 k0_h171 r => k0_hw11.2.2.2.1 k0_t62 k0_h171 r
theorem k0_t63_ok : ∀ (i : grid0.Coords) (v74 : BitVec 32) (v81 : BitVec 32) (k0_hw11 : k0_chk11 i v74 v81), ∀ (k0_h171 : k0_cond171 i v74 v81 = 1#1), (k0_t63_loop i v74 v81).OK := fun i v74 v81 k0_hw11 k0_h171 => k0_hw11.2.2.2.2.1 k0_h171
theorem k0_off223_inb : ∀ (i : grid0.Coords) (v74 : BitVec 32) (v81 : BitVec 32) (k0_hw11 : k0_chk11 i v74 v81) (k0_t63 : Fin (k0_t63_loop i v74 v81).trips), ∀ (k0_h171 : k0_cond171 i v74 v81 = 1#1), ∀ a, (k0_off223 i v74 v81 k0_t63) a + S32768.size a ≤ S4194304.size a := fun i v74 v81 k0_hw11 k0_t63 k0_h171 => k0_hw11.2.2.2.2.2.1 k0_t63 k0_h171
theorem k0_t64_ok : ∀ (i : grid0.Coords) (v74 : BitVec 32) (v81 : BitVec 32) (k0_hw11 : k0_chk11 i v74 v81), ∀ (k0_h171 : k0_cond171 i v74 v81 = 1#1), (k0_t64_loop i v74 v81).OK := fun i v74 v81 k0_hw11 k0_h171 => k0_hw11.2.2.2.2.2.2.1 k0_h171
theorem k0_off224_inb : ∀ (i : grid0.Coords) (v74 : BitVec 32) (v81 : BitVec 32) (k0_hw11 : k0_chk11 i v74 v81) (k0_t64 : Fin (k0_t64_loop i v74 v81).trips), ∀ (k0_h171 : k0_cond171 i v74 v81 = 1#1), ∀ a, (k0_off224 i v74 v81 k0_t64) a + S32768.size a ≤ S4194304.size a := fun i v74 v81 k0_hw11 k0_t64 k0_h171 => k0_hw11.2.2.2.2.2.2.2.1 k0_t64 k0_h171
theorem k0_off225_inb : ∀ (i : grid0.Coords) (v74 : BitVec 32) (v81 : BitVec 32) (k0_hw11 : k0_chk11 i v74 v81), ∀ (k0_h171 : k0_cond171 i v74 v81 = 1#1), ∀ (k0_h172 : k0_cond172 i v74 v81 = 1#1), ∀ a, (k0_off225 i v74 v81) a + S16384.size a ≤ S4194304.size a := fun i v74 v81 k0_hw11 k0_h171 k0_h172 => k0_hw11.2.2.2.2.2.2.2.2.1 k0_h171 k0_h172
theorem k0_off226_inb : ∀ (i : grid0.Coords) (v74 : BitVec 32) (v81 : BitVec 32) (k0_hw11 : k0_chk11 i v74 v81), ∀ (k0_h171 : k0_cond171 i v74 v81 = 1#1), ∀ (k0_h173 : k0_cond173 i v74 v81 = 1#1), ∀ a, (k0_off226 i v74 v81) a + S8192.size a ≤ S4194304.size a := fun i v74 v81 k0_hw11 k0_h171 k0_h173 => k0_hw11.2.2.2.2.2.2.2.2.2.1 k0_h171 k0_h173
theorem k0_off227_inb : ∀ (i : grid0.Coords) (v74 : BitVec 32) (v81 : BitVec 32) (k0_hw11 : k0_chk11 i v74 v81), ∀ (k0_h171 : k0_cond171 i v74 v81 = 1#1), ∀ (k0_h174 : k0_cond174 i v74 v81 = 1#1), ∀ a, (k0_off227 i v74 v81) a + S4096.size a ≤ S4194304.size a := fun i v74 v81 k0_hw11 k0_h171 k0_h174 => k0_hw11.2.2.2.2.2.2.2.2.2.2.1 k0_h171 k0_h174
theorem k0_off228_inb : ∀ (i : grid0.Coords) (v74 : BitVec 32) (v81 : BitVec 32) (k0_hw11 : k0_chk11 i v74 v81), ∀ (k0_h171 : k0_cond171 i v74 v81 = 1#1), ∀ (k0_h175 : k0_cond175 i v74 v81 = 1#1), ∀ a, (k0_off228 i v74 v81) a + S2048.size a ≤ S4194304.size a := fun i v74 v81 k0_hw11 k0_h171 k0_h175 => k0_hw11.2.2.2.2.2.2.2.2.2.2.2.1 k0_h171 k0_h175
theorem k0_off229_inb : ∀ (i : grid0.Coords) (v74 : BitVec 32) (v81 : BitVec 32) (k0_hw11 : k0_chk11 i v74 v81), ∀ (k0_h171 : k0_cond171 i v74 v81 = 1#1), ∀ (k0_h176 : k0_cond176 i v74 v81 = 1#1), ∀ a, (k0_off229 i v74 v81) a + S1024.size a ≤ S4194304.size a := fun i v74 v81 k0_hw11 k0_h171 k0_h176 => k0_hw11.2.2.2.2.2.2.2.2.2.2.2.2.1 k0_h171 k0_h176
theorem k0_off230_inb : ∀ (i : grid0.Coords) (v74 : BitVec 32) (v81 : BitVec 32) (k0_hw11 : k0_chk11 i v74 v81), ∀ (k0_h171 : k0_cond171 i v74 v81 = 1#1), ∀ (k0_h177 : k0_cond177 i v74 v81 = 1#1), ∀ a, (k0_off230 i v74 v81) a + S512.size a ≤ S4194304.size a := fun i v74 v81 k0_hw11 k0_h171 k0_h177 => k0_hw11.2.2.2.2.2.2.2.2.2.2.2.2.2.1 k0_h171 k0_h177
theorem k0_off231_inb : ∀ (i : grid0.Coords) (v74 : BitVec 32) (v81 : BitVec 32) (k0_hw11 : k0_chk11 i v74 v81), ∀ (k0_h171 : k0_cond171 i v74 v81 = 1#1), ∀ (k0_h178 : k0_cond178 i v74 v81 = 1#1), ∀ a, (k0_off231 i v74 v81) a + S256.size a ≤ S4194304.size a := fun i v74 v81 k0_hw11 k0_h171 k0_h178 => k0_hw11.2.2.2.2.2.2.2.2.2.2.2.2.2.2.1 k0_h171 k0_h178
theorem k0_off232_inb : ∀ (i : grid0.Coords) (v74 : BitVec 32) (v81 : BitVec 32) (k0_hw11 : k0_chk11 i v74 v81), ∀ (k0_h171 : k0_cond171 i v74 v81 = 1#1), ∀ (k0_h179 : k0_cond179 i v74 v81 = 1#1), ∀ a, (k0_off232 i v74 v81) a + S128.size a ≤ S4194304.size a := fun i v74 v81 k0_hw11 k0_h171 k0_h179 => k0_hw11.2.2.2.2.2.2.2.2.2.2.2.2.2.2.2.1 k0_h171 k0_h179
theorem k0_t65_ok : ∀ (i : grid0.Coords) (v74 : BitVec 32) (v81 : BitVec 32) (k0_hw11 : k0_chk11 i v74 v81), ∀ (k0_h171 : k0_cond171 i v74 v81 = 1#1), (k0_t65_loop i v74 v81).OK := fun i v74 v81 k0_hw11 k0_h171 => k0_hw11.2.2.2.2.2.2.2.2.2.2.2.2.2.2.2.2.1 k0_h171
theorem k0_off233_inb : ∀ (i : grid0.Coords) (v74 : BitVec 32) (v81 : BitVec 32) (k0_hw11 : k0_chk11 i v74 v81) (k0_t65 : Fin (k0_t65_loop i v74 v81).trips), ∀ (k0_h171 : k0_cond171 i v74 v81 = 1#1), ∀ a, (k0_off233 i v74 v81 k0_t65) a + S32768.size a ≤ S4194304.size a := fun i v74 v81 k0_hw11 k0_t65 k0_h171 => k0_hw11.2.2.2.2.2.2.2.2.2.2.2.2.2.2.2.2.2.1 k0_t65 k0_h171
theorem k0_t66_ok : ∀ (i : grid0.Coords) (v74 : BitVec 32) (v81 : BitVec 32) (k0_hw11 : k0_chk11 i v74 v81), ∀ (k0_h171 : k0_cond171 i v74 v81 = 1#1), (k0_t66_loop i v74 v81).OK := fun i v74 v81 k0_hw11 k0_h171 => k0_hw11.2.2.2.2.2.2.2.2.2.2.2.2.2.2.2.2.2.2.1 k0_h171
theorem k0_off234_inb : ∀ (i : grid0.Coords) (v74 : BitVec 32) (v81 : BitVec 32) (k0_hw11 : k0_chk11 i v74 v81) (k0_t66 : Fin (k0_t66_loop i v74 v81).trips), ∀ (k0_h171 : k0_cond171 i v74 v81 = 1#1), ∀ a, (k0_off234 i v74 v81 k0_t66) a + S32768.size a ≤ S4194304.size a := fun i v74 v81 k0_hw11 k0_t66 k0_h171 => k0_hw11.2.2.2.2.2.2.2.2.2.2.2.2.2.2.2.2.2.2.2.1 k0_t66 k0_h171
theorem k0_off235_inb : ∀ (i : grid0.Coords) (v74 : BitVec 32) (v81 : BitVec 32) (k0_hw11 : k0_chk11 i v74 v81), ∀ (k0_h171 : k0_cond171 i v74 v81 = 1#1), ∀ (k0_h180 : k0_cond180 i v74 v81 = 1#1), ∀ a, (k0_off235 i v74 v81) a + S16384.size a ≤ S4194304.size a := fun i v74 v81 k0_hw11 k0_h171 k0_h180 => k0_hw11.2.2.2.2.2.2.2.2.2.2.2.2.2.2.2.2.2.2.2.2.1 k0_h171 k0_h180
theorem k0_off236_inb : ∀ (i : grid0.Coords) (v74 : BitVec 32) (v81 : BitVec 32) (k0_hw11 : k0_chk11 i v74 v81), ∀ (k0_h171 : k0_cond171 i v74 v81 = 1#1), ∀ (k0_h181 : k0_cond181 i v74 v81 = 1#1), ∀ a, (k0_off236 i v74 v81) a + S8192.size a ≤ S4194304.size a := fun i v74 v81 k0_hw11 k0_h171 k0_h181 => k0_hw11.2.2.2.2.2.2.2.2.2.2.2.2.2.2.2.2.2.2.2.2.2.1 k0_h171 k0_h181
theorem k0_off237_inb : ∀ (i : grid0.Coords) (v74 : BitVec 32) (v81 : BitVec 32) (k0_hw11 : k0_chk11 i v74 v81), ∀ (k0_h171 : k0_cond171 i v74 v81 = 1#1), ∀ (k0_h182 : k0_cond182 i v74 v81 = 1#1), ∀ a, (k0_off237 i v74 v81) a + S4096.size a ≤ S4194304.size a := fun i v74 v81 k0_hw11 k0_h171 k0_h182 => k0_hw11.2.2.2.2.2.2.2.2.2.2.2.2.2.2.2.2.2.2.2.2.2.2.1 k0_h171 k0_h182
theorem k0_off238_inb : ∀ (i : grid0.Coords) (v74 : BitVec 32) (v81 : BitVec 32) (k0_hw11 : k0_chk11 i v74 v81), ∀ (k0_h171 : k0_cond171 i v74 v81 = 1#1), ∀ (k0_h183 : k0_cond183 i v74 v81 = 1#1), ∀ a, (k0_off238 i v74 v81) a + S2048.size a ≤ S4194304.size a := fun i v74 v81 k0_hw11 k0_h171 k0_h183 => k0_hw11.2.2.2.2.2.2.2.2.2.2.2.2.2.2.2.2.2.2.2.2.2.2.2.1 k0_h171 k0_h183
theorem k0_off239_inb : ∀ (i : grid0.Coords) (v74 : BitVec 32) (v81 : BitVec 32) (k0_hw11 : k0_chk11 i v74 v81), ∀ (k0_h171 : k0_cond171 i v74 v81 = 1#1), ∀ (k0_h184 : k0_cond184 i v74 v81 = 1#1), ∀ a, (k0_off239 i v74 v81) a + S1024.size a ≤ S4194304.size a := fun i v74 v81 k0_hw11 k0_h171 k0_h184 => k0_hw11.2.2.2.2.2.2.2.2.2.2.2.2.2.2.2.2.2.2.2.2.2.2.2.2.1 k0_h171 k0_h184
theorem k0_off240_inb : ∀ (i : grid0.Coords) (v74 : BitVec 32) (v81 : BitVec 32) (k0_hw11 : k0_chk11 i v74 v81), ∀ (k0_h171 : k0_cond171 i v74 v81 = 1#1), ∀ (k0_h185 : k0_cond185 i v74 v81 = 1#1), ∀ a, (k0_off240 i v74 v81) a + S512.size a ≤ S4194304.size a := fun i v74 v81 k0_hw11 k0_h171 k0_h185 => k0_hw11.2.2.2.2.2.2.2.2.2.2.2.2.2.2.2.2.2.2.2.2.2.2.2.2.2.1 k0_h171 k0_h185
theorem k0_off241_inb : ∀ (i : grid0.Coords) (v74 : BitVec 32) (v81 : BitVec 32) (k0_hw11 : k0_chk11 i v74 v81), ∀ (k0_h171 : k0_cond171 i v74 v81 = 1#1), ∀ (k0_h186 : k0_cond186 i v74 v81 = 1#1), ∀ a, (k0_off241 i v74 v81) a + S256.size a ≤ S4194304.size a := fun i v74 v81 k0_hw11 k0_h171 k0_h186 => k0_hw11.2.2.2.2.2.2.2.2.2.2.2.2.2.2.2.2.2.2.2.2.2.2.2.2.2.2.1 k0_h171 k0_h186
theorem k0_off242_inb : ∀ (i : grid0.Coords) (v74 : BitVec 32) (v81 : BitVec 32) (k0_hw11 : k0_chk11 i v74 v81), ∀ (k0_h171 : k0_cond171 i v74 v81 = 1#1), ∀ (k0_h187 : k0_cond187 i v74 v81 = 1#1), ∀ a, (k0_off242 i v74 v81) a + S128.size a ≤ S4194304.size a := fun i v74 v81 k0_hw11 k0_h171 k0_h187 => k0_hw11.2.2.2.2.2.2.2.2.2.2.2.2.2.2.2.2.2.2.2.2.2.2.2.2.2.2.2 k0_h171 k0_h187

@[reducible] def k0_t67_loop (i : grid0.Coords) (v81 : BitVec 32) (v88 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond188 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v91 : BitVec 1 := Scalar.cmpi .sgt v90 v89
  let v92 : BitVec 32 := Scalar.extui v91
  let c0_i32_11 : BitVec 32 := 0#32
  let v93 : BitVec 1 := Scalar.cmpi .ne v92 c0_i32_11
  v93

def k0_off243 (i : grid0.Coords) (v81 : BitVec 32) (v88 : BitVec 32) (k0_t67 : Fin (k0_t67_loop i v81 v88).trips) (c0_i32_97 : BitVec 32) : Fin 1 → Nat :=
  let c0_i32_24 : BitVec 32 := 0#32
  let c1_i32_26 : BitVec 32 := 1#32
  let arg17 : BitVec 32 := Scf.iv c0_i32_24 c1_i32_26 k0_t67
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t68_loop (i : grid0.Coords) (v81 : BitVec 32) (v88 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off244 (i : grid0.Coords) (v81 : BitVec 32) (v88 : BitVec 32) (k0_t68 : Fin (k0_t68_loop i v81 v88).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t68
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t69_loop (i : grid0.Coords) (v81 : BitVec 32) (v88 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off245 (i : grid0.Coords) (v81 : BitVec 32) (v88 : BitVec 32) (k0_t69 : Fin (k0_t69_loop i v81 v88).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c0_i32_35 : BitVec 32 := 0#32
  let c1_i32_37 : BitVec 32 := 1#32
  let arg17 : BitVec 32 := Scf.iv c0_i32_35 c1_i32_37 k0_t69
  let c256_i32_95 : BitVec 32 := 256#32
  let v286 : BitVec 32 := Scalar.muli arg17 c256_i32_95
  let v287 : BitVec 32 := Scalar.addi v89 v286
  let c128_i32_96 : BitVec 32 := 128#32
  let v288 : BitVec 32 := Scalar.muli v287 c128_i32_96
  ![v288.toNat]
@[reducible] def k0_t70_loop (i : grid0.Coords) (v81 : BitVec 32) (v88 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off246 (i : grid0.Coords) (v81 : BitVec 32) (v88 : BitVec 32) (k0_t70 : Fin (k0_t70_loop i v81 v88).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c0_i32_35 : BitVec 32 := 0#32
  let c1024_i32_0 : BitVec 32 := 1024#32
  let v3 : BitVec 32 := Scalar.addi v2 c1024_i32_0
  let v90 : BitVec 32 := Scalar.minsi v88 v3
  let v138 : BitVec 32 := Scalar.subi v90 v89
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t70
  let c256_i32_95 : BitVec 32 := 256#32
  let v286 : BitVec 32 := Scalar.muli arg17 c256_i32_95
  let v287 : BitVec 32 := Scalar.addi v89 v286
  let c128_i32_96 : BitVec 32 := 128#32
  let v288 : BitVec 32 := Scalar.muli v287 c128_i32_96
  ![v288.toNat]
def k0_off247 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m256_i32 : BitVec 32 := 4294967040#32
  let v185 : BitVec 32 := Scalar.andi v138 c_m256_i32
  let v186 : BitVec 32 := Scalar.addi v89 v185
  let c128_i32_95 : BitVec 32 := 128#32
  let v286 : BitVec 32 := Scalar.muli v186 c128_i32_95
  ![v286.toNat]
def k0_cond189 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off248 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m128_i32 : BitVec 32 := 4294967168#32
  let v191 : BitVec 32 := Scalar.andi v138 c_m128_i32
  let v192 : BitVec 32 := Scalar.addi v89 v191
  let c128_i32_95 : BitVec 32 := 128#32
  let v286 : BitVec 32 := Scalar.muli v192 c128_i32_95
  ![v286.toNat]
def k0_cond190 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off249 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m64_i32 : BitVec 32 := 4294967232#32
  let v197 : BitVec 32 := Scalar.andi v138 c_m64_i32
  let v198 : BitVec 32 := Scalar.addi v89 v197
  let c128_i32_95 : BitVec 32 := 128#32
  let v286 : BitVec 32 := Scalar.muli v198 c128_i32_95
  ![v286.toNat]
def k0_cond191 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off250 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m32_i32 : BitVec 32 := 4294967264#32
  let v203 : BitVec 32 := Scalar.andi v138 c_m32_i32
  let v204 : BitVec 32 := Scalar.addi v89 v203
  let c128_i32_95 : BitVec 32 := 128#32
  let v286 : BitVec 32 := Scalar.muli v204 c128_i32_95
  ![v286.toNat]
def k0_cond192 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off251 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m16_i32 : BitVec 32 := 4294967280#32
  let v209 : BitVec 32 := Scalar.andi v138 c_m16_i32
  let v210 : BitVec 32 := Scalar.addi v89 v209
  let c128_i32_95 : BitVec 32 := 128#32
  let v286 : BitVec 32 := Scalar.muli v210 c128_i32_95
  ![v286.toNat]
def k0_cond193 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off252 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m8_i32 : BitVec 32 := 4294967288#32
  let v215 : BitVec 32 := Scalar.andi v138 c_m8_i32
  let v216 : BitVec 32 := Scalar.addi v89 v215
  let c128_i32_95 : BitVec 32 := 128#32
  let v286 : BitVec 32 := Scalar.muli v216 c128_i32_95
  ![v286.toNat]
def k0_cond194 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off253 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m4_i32 : BitVec 32 := 4294967292#32
  let v221 : BitVec 32 := Scalar.andi v138 c_m4_i32
  let v222 : BitVec 32 := Scalar.addi v89 v221
  let c128_i32_95 : BitVec 32 := 128#32
  let v286 : BitVec 32 := Scalar.muli v222 c128_i32_95
  ![v286.toNat]
def k0_cond195 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off254 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m2_i32 : BitVec 32 := 4294967294#32
  let v227 : BitVec 32 := Scalar.andi v138 c_m2_i32
  let v228 : BitVec 32 := Scalar.addi v89 v227
  let c128_i32_95 : BitVec 32 := 128#32
  let v286 : BitVec 32 := Scalar.muli v228 c128_i32_95
  ![v286.toNat]
def k0_cond196 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t71_loop (i : grid0.Coords) (v81 : BitVec 32) (v88 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off255 (i : grid0.Coords) (v81 : BitVec 32) (v88 : BitVec 32) (k0_t71 : Fin (k0_t71_loop i v81 v88).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c0_i32_59 : BitVec 32 := 0#32
  let c1_i32_61 : BitVec 32 := 1#32
  let arg17 : BitVec 32 := Scf.iv c0_i32_59 c1_i32_61 k0_t71
  let c256_i32_95 : BitVec 32 := 256#32
  let v286 : BitVec 32 := Scalar.muli arg17 c256_i32_95
  let v287 : BitVec 32 := Scalar.addi v89 v286
  let c128_i32_96 : BitVec 32 := 128#32
  let v288 : BitVec 32 := Scalar.muli v287 c128_i32_96
  ![v288.toNat]
@[reducible] def k0_t72_loop (i : grid0.Coords) (v81 : BitVec 32) (v88 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off256 (i : grid0.Coords) (v81 : BitVec 32) (v88 : BitVec 32) (k0_t72 : Fin (k0_t72_loop i v81 v88).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c0_i32_59 : BitVec 32 := 0#32
  let c1024_i32_0 : BitVec 32 := 1024#32
  let v3 : BitVec 32 := Scalar.addi v2 c1024_i32_0
  let v90 : BitVec 32 := Scalar.minsi v88 v3
  let v138 : BitVec 32 := Scalar.subi v90 v89
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t72
  let c256_i32_95 : BitVec 32 := 256#32
  let v286 : BitVec 32 := Scalar.muli arg17 c256_i32_95
  let v287 : BitVec 32 := Scalar.addi v89 v286
  let c128_i32_96 : BitVec 32 := 128#32
  let v288 : BitVec 32 := Scalar.muli v287 c128_i32_96
  ![v288.toNat]
def k0_off257 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m256_i32_63 : BitVec 32 := 4294967040#32
  let v238 : BitVec 32 := Scalar.andi v138 c_m256_i32_63
  let v239 : BitVec 32 := Scalar.addi v89 v238
  let c128_i32_95 : BitVec 32 := 128#32
  let v286 : BitVec 32 := Scalar.muli v239 c128_i32_95
  ![v286.toNat]
def k0_cond197 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off258 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m128_i32_67 : BitVec 32 := 4294967168#32
  let v244 : BitVec 32 := Scalar.andi v138 c_m128_i32_67
  let v245 : BitVec 32 := Scalar.addi v89 v244
  let c128_i32_95 : BitVec 32 := 128#32
  let v286 : BitVec 32 := Scalar.muli v245 c128_i32_95
  ![v286.toNat]
def k0_cond198 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off259 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m64_i32_71 : BitVec 32 := 4294967232#32
  let v250 : BitVec 32 := Scalar.andi v138 c_m64_i32_71
  let v251 : BitVec 32 := Scalar.addi v89 v250
  let c128_i32_95 : BitVec 32 := 128#32
  let v286 : BitVec 32 := Scalar.muli v251 c128_i32_95
  ![v286.toNat]
def k0_cond199 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off260 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m32_i32_75 : BitVec 32 := 4294967264#32
  let v256 : BitVec 32 := Scalar.andi v138 c_m32_i32_75
  let v257 : BitVec 32 := Scalar.addi v89 v256
  let c128_i32_95 : BitVec 32 := 128#32
  let v286 : BitVec 32 := Scalar.muli v257 c128_i32_95
  ![v286.toNat]
def k0_cond200 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off261 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m16_i32_79 : BitVec 32 := 4294967280#32
  let v262 : BitVec 32 := Scalar.andi v138 c_m16_i32_79
  let v263 : BitVec 32 := Scalar.addi v89 v262
  let c128_i32_95 : BitVec 32 := 128#32
  let v286 : BitVec 32 := Scalar.muli v263 c128_i32_95
  ![v286.toNat]
def k0_cond201 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off262 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m8_i32_83 : BitVec 32 := 4294967288#32
  let v268 : BitVec 32 := Scalar.andi v138 c_m8_i32_83
  let v269 : BitVec 32 := Scalar.addi v89 v268
  let c128_i32_95 : BitVec 32 := 128#32
  let v286 : BitVec 32 := Scalar.muli v269 c128_i32_95
  ![v286.toNat]
def k0_cond202 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off263 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m4_i32_87 : BitVec 32 := 4294967292#32
  let v274 : BitVec 32 := Scalar.andi v138 c_m4_i32_87
  let v275 : BitVec 32 := Scalar.addi v89 v274
  let c128_i32_95 : BitVec 32 := 128#32
  let v286 : BitVec 32 := Scalar.muli v275 c128_i32_95
  ![v286.toNat]
def k0_cond203 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off264 (i : grid0.Coords) (v81 : BitVec 32) (v88 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v89 : BitVec 32 := Scalar.maxsi v81 v2
  let c1024_i32_0 : BitVec 32 := 1024#32
  let v3 : BitVec 32 := Scalar.addi v2 c1024_i32_0
  let v90 : BitVec 32 := Scalar.minsi v88 v3
  let v138 : BitVec 32 := Scalar.subi v90 v89
  let c_m2_i32_91 : BitVec 32 := 4294967294#32
  let v280 : BitVec 32 := Scalar.andi v138 c_m2_i32_91
  let v281 : BitVec 32 := Scalar.addi v89 v280
  let c128_i32_95 : BitVec 32 := 128#32
  let v286 : BitVec 32 := Scalar.muli v281 c128_i32_95
  ![v286.toNat]
def k0_cond204 (i : grid0.Coords) (v81 : BitVec 32) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v90 : BitVec 32 := Scalar.minsi v88 v3
  let v89 : BitVec 32 := Scalar.maxsi v81 v2
  let v138 : BitVec 32 := Scalar.subi v90 v89
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk12 (i : grid0.Coords) (v81 : BitVec 32) (v88 : BitVec 32) : Prop :=
  (∀ (k0_h188 : k0_cond188 i v81 v88 = 1#1), (k0_t67_loop i v81 v88).OK) ∧
  (∀ k0_t67 : Fin (k0_t67_loop i v81 v88).trips, ∀ (k0_h188 : k0_cond188 i v81 v88 = 1#1), ∀ (r : Fin 16), ∀ a, (k0_off243 i v81 v88 k0_t67 (BitVec.ofNat 32 (16 * r.val))) a + S16.size a ≤ S32768.size a) ∧
  (∀ (k0_h188 : k0_cond188 i v81 v88 = 1#1), (k0_t68_loop i v81 v88).OK) ∧
  (∀ k0_t68 : Fin (k0_t68_loop i v81 v88).trips, ∀ (k0_h188 : k0_cond188 i v81 v88 = 1#1), ∀ (r : Fin 16), ∀ a, (k0_off244 i v81 v88 k0_t68 (BitVec.ofNat 32 (16 * r.val))) a + S16.size a ≤ S32768.size a) ∧
  (∀ (k0_h188 : k0_cond188 i v81 v88 = 1#1), (k0_t69_loop i v81 v88).OK) ∧
  (∀ k0_t69 : Fin (k0_t69_loop i v81 v88).trips, ∀ (k0_h188 : k0_cond188 i v81 v88 = 1#1), ∀ a, (k0_off245 i v81 v88 k0_t69) a + S32768.size a ≤ S4194304.size a) ∧
  (∀ (k0_h188 : k0_cond188 i v81 v88 = 1#1), (k0_t70_loop i v81 v88).OK) ∧
  (∀ k0_t70 : Fin (k0_t70_loop i v81 v88).trips, ∀ (k0_h188 : k0_cond188 i v81 v88 = 1#1), ∀ a, (k0_off246 i v81 v88 k0_t70) a + S32768.size a ≤ S4194304.size a) ∧
  (∀ (k0_h188 : k0_cond188 i v81 v88 = 1#1), ∀ (k0_h189 : k0_cond189 i v81 v88 = 1#1), ∀ a, (k0_off247 i v81 v88) a + S16384.size a ≤ S4194304.size a) ∧
  (∀ (k0_h188 : k0_cond188 i v81 v88 = 1#1), ∀ (k0_h190 : k0_cond190 i v81 v88 = 1#1), ∀ a, (k0_off248 i v81 v88) a + S8192.size a ≤ S4194304.size a) ∧
  (∀ (k0_h188 : k0_cond188 i v81 v88 = 1#1), ∀ (k0_h191 : k0_cond191 i v81 v88 = 1#1), ∀ a, (k0_off249 i v81 v88) a + S4096.size a ≤ S4194304.size a) ∧
  (∀ (k0_h188 : k0_cond188 i v81 v88 = 1#1), ∀ (k0_h192 : k0_cond192 i v81 v88 = 1#1), ∀ a, (k0_off250 i v81 v88) a + S2048.size a ≤ S4194304.size a) ∧
  (∀ (k0_h188 : k0_cond188 i v81 v88 = 1#1), ∀ (k0_h193 : k0_cond193 i v81 v88 = 1#1), ∀ a, (k0_off251 i v81 v88) a + S1024.size a ≤ S4194304.size a) ∧
  (∀ (k0_h188 : k0_cond188 i v81 v88 = 1#1), ∀ (k0_h194 : k0_cond194 i v81 v88 = 1#1), ∀ a, (k0_off252 i v81 v88) a + S512.size a ≤ S4194304.size a) ∧
  (∀ (k0_h188 : k0_cond188 i v81 v88 = 1#1), ∀ (k0_h195 : k0_cond195 i v81 v88 = 1#1), ∀ a, (k0_off253 i v81 v88) a + S256.size a ≤ S4194304.size a) ∧
  (∀ (k0_h188 : k0_cond188 i v81 v88 = 1#1), ∀ (k0_h196 : k0_cond196 i v81 v88 = 1#1), ∀ a, (k0_off254 i v81 v88) a + S128.size a ≤ S4194304.size a) ∧
  (∀ (k0_h188 : k0_cond188 i v81 v88 = 1#1), (k0_t71_loop i v81 v88).OK) ∧
  (∀ k0_t71 : Fin (k0_t71_loop i v81 v88).trips, ∀ (k0_h188 : k0_cond188 i v81 v88 = 1#1), ∀ a, (k0_off255 i v81 v88 k0_t71) a + S32768.size a ≤ S4194304.size a) ∧
  (∀ (k0_h188 : k0_cond188 i v81 v88 = 1#1), (k0_t72_loop i v81 v88).OK) ∧
  (∀ k0_t72 : Fin (k0_t72_loop i v81 v88).trips, ∀ (k0_h188 : k0_cond188 i v81 v88 = 1#1), ∀ a, (k0_off256 i v81 v88 k0_t72) a + S32768.size a ≤ S4194304.size a) ∧
  (∀ (k0_h188 : k0_cond188 i v81 v88 = 1#1), ∀ (k0_h197 : k0_cond197 i v81 v88 = 1#1), ∀ a, (k0_off257 i v81 v88) a + S16384.size a ≤ S4194304.size a) ∧
  (∀ (k0_h188 : k0_cond188 i v81 v88 = 1#1), ∀ (k0_h198 : k0_cond198 i v81 v88 = 1#1), ∀ a, (k0_off258 i v81 v88) a + S8192.size a ≤ S4194304.size a) ∧
  (∀ (k0_h188 : k0_cond188 i v81 v88 = 1#1), ∀ (k0_h199 : k0_cond199 i v81 v88 = 1#1), ∀ a, (k0_off259 i v81 v88) a + S4096.size a ≤ S4194304.size a) ∧
  (∀ (k0_h188 : k0_cond188 i v81 v88 = 1#1), ∀ (k0_h200 : k0_cond200 i v81 v88 = 1#1), ∀ a, (k0_off260 i v81 v88) a + S2048.size a ≤ S4194304.size a) ∧
  (∀ (k0_h188 : k0_cond188 i v81 v88 = 1#1), ∀ (k0_h201 : k0_cond201 i v81 v88 = 1#1), ∀ a, (k0_off261 i v81 v88) a + S1024.size a ≤ S4194304.size a) ∧
  (∀ (k0_h188 : k0_cond188 i v81 v88 = 1#1), ∀ (k0_h202 : k0_cond202 i v81 v88 = 1#1), ∀ a, (k0_off262 i v81 v88) a + S512.size a ≤ S4194304.size a) ∧
  (∀ (k0_h188 : k0_cond188 i v81 v88 = 1#1), ∀ (k0_h203 : k0_cond203 i v81 v88 = 1#1), ∀ a, (k0_off263 i v81 v88) a + S256.size a ≤ S4194304.size a) ∧
  (∀ (k0_h188 : k0_cond188 i v81 v88 = 1#1), ∀ (k0_h204 : k0_cond204 i v81 v88 = 1#1), ∀ a, (k0_off264 i v81 v88) a + S128.size a ≤ S4194304.size a)
theorem k0_t67_ok : ∀ (i : grid0.Coords) (v81 : BitVec 32) (v88 : BitVec 32) (k0_hw12 : k0_chk12 i v81 v88), ∀ (k0_h188 : k0_cond188 i v81 v88 = 1#1), (k0_t67_loop i v81 v88).OK := fun i v81 v88 k0_hw12 k0_h188 => k0_hw12.1 k0_h188
theorem k0_off243_inb : ∀ (i : grid0.Coords) (v81 : BitVec 32) (v88 : BitVec 32) (k0_hw12 : k0_chk12 i v81 v88) (k0_t67 : Fin (k0_t67_loop i v81 v88).trips), ∀ (k0_h188 : k0_cond188 i v81 v88 = 1#1), ∀ (r : Fin 16), ∀ a, (k0_off243 i v81 v88 k0_t67 (BitVec.ofNat 32 (16 * r.val))) a + S16.size a ≤ S32768.size a := fun i v81 v88 k0_hw12 k0_t67 k0_h188 r => k0_hw12.2.1 k0_t67 k0_h188 r
theorem k0_t68_ok : ∀ (i : grid0.Coords) (v81 : BitVec 32) (v88 : BitVec 32) (k0_hw12 : k0_chk12 i v81 v88), ∀ (k0_h188 : k0_cond188 i v81 v88 = 1#1), (k0_t68_loop i v81 v88).OK := fun i v81 v88 k0_hw12 k0_h188 => k0_hw12.2.2.1 k0_h188
theorem k0_off244_inb : ∀ (i : grid0.Coords) (v81 : BitVec 32) (v88 : BitVec 32) (k0_hw12 : k0_chk12 i v81 v88) (k0_t68 : Fin (k0_t68_loop i v81 v88).trips), ∀ (k0_h188 : k0_cond188 i v81 v88 = 1#1), ∀ (r : Fin 16), ∀ a, (k0_off244 i v81 v88 k0_t68 (BitVec.ofNat 32 (16 * r.val))) a + S16.size a ≤ S32768.size a := fun i v81 v88 k0_hw12 k0_t68 k0_h188 r => k0_hw12.2.2.2.1 k0_t68 k0_h188 r
theorem k0_t69_ok : ∀ (i : grid0.Coords) (v81 : BitVec 32) (v88 : BitVec 32) (k0_hw12 : k0_chk12 i v81 v88), ∀ (k0_h188 : k0_cond188 i v81 v88 = 1#1), (k0_t69_loop i v81 v88).OK := fun i v81 v88 k0_hw12 k0_h188 => k0_hw12.2.2.2.2.1 k0_h188
theorem k0_off245_inb : ∀ (i : grid0.Coords) (v81 : BitVec 32) (v88 : BitVec 32) (k0_hw12 : k0_chk12 i v81 v88) (k0_t69 : Fin (k0_t69_loop i v81 v88).trips), ∀ (k0_h188 : k0_cond188 i v81 v88 = 1#1), ∀ a, (k0_off245 i v81 v88 k0_t69) a + S32768.size a ≤ S4194304.size a := fun i v81 v88 k0_hw12 k0_t69 k0_h188 => k0_hw12.2.2.2.2.2.1 k0_t69 k0_h188
theorem k0_t70_ok : ∀ (i : grid0.Coords) (v81 : BitVec 32) (v88 : BitVec 32) (k0_hw12 : k0_chk12 i v81 v88), ∀ (k0_h188 : k0_cond188 i v81 v88 = 1#1), (k0_t70_loop i v81 v88).OK := fun i v81 v88 k0_hw12 k0_h188 => k0_hw12.2.2.2.2.2.2.1 k0_h188
theorem k0_off246_inb : ∀ (i : grid0.Coords) (v81 : BitVec 32) (v88 : BitVec 32) (k0_hw12 : k0_chk12 i v81 v88) (k0_t70 : Fin (k0_t70_loop i v81 v88).trips), ∀ (k0_h188 : k0_cond188 i v81 v88 = 1#1), ∀ a, (k0_off246 i v81 v88 k0_t70) a + S32768.size a ≤ S4194304.size a := fun i v81 v88 k0_hw12 k0_t70 k0_h188 => k0_hw12.2.2.2.2.2.2.2.1 k0_t70 k0_h188
theorem k0_off247_inb : ∀ (i : grid0.Coords) (v81 : BitVec 32) (v88 : BitVec 32) (k0_hw12 : k0_chk12 i v81 v88), ∀ (k0_h188 : k0_cond188 i v81 v88 = 1#1), ∀ (k0_h189 : k0_cond189 i v81 v88 = 1#1), ∀ a, (k0_off247 i v81 v88) a + S16384.size a ≤ S4194304.size a := fun i v81 v88 k0_hw12 k0_h188 k0_h189 => k0_hw12.2.2.2.2.2.2.2.2.1 k0_h188 k0_h189
theorem k0_off248_inb : ∀ (i : grid0.Coords) (v81 : BitVec 32) (v88 : BitVec 32) (k0_hw12 : k0_chk12 i v81 v88), ∀ (k0_h188 : k0_cond188 i v81 v88 = 1#1), ∀ (k0_h190 : k0_cond190 i v81 v88 = 1#1), ∀ a, (k0_off248 i v81 v88) a + S8192.size a ≤ S4194304.size a := fun i v81 v88 k0_hw12 k0_h188 k0_h190 => k0_hw12.2.2.2.2.2.2.2.2.2.1 k0_h188 k0_h190
theorem k0_off249_inb : ∀ (i : grid0.Coords) (v81 : BitVec 32) (v88 : BitVec 32) (k0_hw12 : k0_chk12 i v81 v88), ∀ (k0_h188 : k0_cond188 i v81 v88 = 1#1), ∀ (k0_h191 : k0_cond191 i v81 v88 = 1#1), ∀ a, (k0_off249 i v81 v88) a + S4096.size a ≤ S4194304.size a := fun i v81 v88 k0_hw12 k0_h188 k0_h191 => k0_hw12.2.2.2.2.2.2.2.2.2.2.1 k0_h188 k0_h191
theorem k0_off250_inb : ∀ (i : grid0.Coords) (v81 : BitVec 32) (v88 : BitVec 32) (k0_hw12 : k0_chk12 i v81 v88), ∀ (k0_h188 : k0_cond188 i v81 v88 = 1#1), ∀ (k0_h192 : k0_cond192 i v81 v88 = 1#1), ∀ a, (k0_off250 i v81 v88) a + S2048.size a ≤ S4194304.size a := fun i v81 v88 k0_hw12 k0_h188 k0_h192 => k0_hw12.2.2.2.2.2.2.2.2.2.2.2.1 k0_h188 k0_h192
theorem k0_off251_inb : ∀ (i : grid0.Coords) (v81 : BitVec 32) (v88 : BitVec 32) (k0_hw12 : k0_chk12 i v81 v88), ∀ (k0_h188 : k0_cond188 i v81 v88 = 1#1), ∀ (k0_h193 : k0_cond193 i v81 v88 = 1#1), ∀ a, (k0_off251 i v81 v88) a + S1024.size a ≤ S4194304.size a := fun i v81 v88 k0_hw12 k0_h188 k0_h193 => k0_hw12.2.2.2.2.2.2.2.2.2.2.2.2.1 k0_h188 k0_h193
theorem k0_off252_inb : ∀ (i : grid0.Coords) (v81 : BitVec 32) (v88 : BitVec 32) (k0_hw12 : k0_chk12 i v81 v88), ∀ (k0_h188 : k0_cond188 i v81 v88 = 1#1), ∀ (k0_h194 : k0_cond194 i v81 v88 = 1#1), ∀ a, (k0_off252 i v81 v88) a + S512.size a ≤ S4194304.size a := fun i v81 v88 k0_hw12 k0_h188 k0_h194 => k0_hw12.2.2.2.2.2.2.2.2.2.2.2.2.2.1 k0_h188 k0_h194
theorem k0_off253_inb : ∀ (i : grid0.Coords) (v81 : BitVec 32) (v88 : BitVec 32) (k0_hw12 : k0_chk12 i v81 v88), ∀ (k0_h188 : k0_cond188 i v81 v88 = 1#1), ∀ (k0_h195 : k0_cond195 i v81 v88 = 1#1), ∀ a, (k0_off253 i v81 v88) a + S256.size a ≤ S4194304.size a := fun i v81 v88 k0_hw12 k0_h188 k0_h195 => k0_hw12.2.2.2.2.2.2.2.2.2.2.2.2.2.2.1 k0_h188 k0_h195
theorem k0_off254_inb : ∀ (i : grid0.Coords) (v81 : BitVec 32) (v88 : BitVec 32) (k0_hw12 : k0_chk12 i v81 v88), ∀ (k0_h188 : k0_cond188 i v81 v88 = 1#1), ∀ (k0_h196 : k0_cond196 i v81 v88 = 1#1), ∀ a, (k0_off254 i v81 v88) a + S128.size a ≤ S4194304.size a := fun i v81 v88 k0_hw12 k0_h188 k0_h196 => k0_hw12.2.2.2.2.2.2.2.2.2.2.2.2.2.2.2.1 k0_h188 k0_h196
theorem k0_t71_ok : ∀ (i : grid0.Coords) (v81 : BitVec 32) (v88 : BitVec 32) (k0_hw12 : k0_chk12 i v81 v88), ∀ (k0_h188 : k0_cond188 i v81 v88 = 1#1), (k0_t71_loop i v81 v88).OK := fun i v81 v88 k0_hw12 k0_h188 => k0_hw12.2.2.2.2.2.2.2.2.2.2.2.2.2.2.2.2.1 k0_h188
theorem k0_off255_inb : ∀ (i : grid0.Coords) (v81 : BitVec 32) (v88 : BitVec 32) (k0_hw12 : k0_chk12 i v81 v88) (k0_t71 : Fin (k0_t71_loop i v81 v88).trips), ∀ (k0_h188 : k0_cond188 i v81 v88 = 1#1), ∀ a, (k0_off255 i v81 v88 k0_t71) a + S32768.size a ≤ S4194304.size a := fun i v81 v88 k0_hw12 k0_t71 k0_h188 => k0_hw12.2.2.2.2.2.2.2.2.2.2.2.2.2.2.2.2.2.1 k0_t71 k0_h188
theorem k0_t72_ok : ∀ (i : grid0.Coords) (v81 : BitVec 32) (v88 : BitVec 32) (k0_hw12 : k0_chk12 i v81 v88), ∀ (k0_h188 : k0_cond188 i v81 v88 = 1#1), (k0_t72_loop i v81 v88).OK := fun i v81 v88 k0_hw12 k0_h188 => k0_hw12.2.2.2.2.2.2.2.2.2.2.2.2.2.2.2.2.2.2.1 k0_h188
theorem k0_off256_inb : ∀ (i : grid0.Coords) (v81 : BitVec 32) (v88 : BitVec 32) (k0_hw12 : k0_chk12 i v81 v88) (k0_t72 : Fin (k0_t72_loop i v81 v88).trips), ∀ (k0_h188 : k0_cond188 i v81 v88 = 1#1), ∀ a, (k0_off256 i v81 v88 k0_t72) a + S32768.size a ≤ S4194304.size a := fun i v81 v88 k0_hw12 k0_t72 k0_h188 => k0_hw12.2.2.2.2.2.2.2.2.2.2.2.2.2.2.2.2.2.2.2.1 k0_t72 k0_h188
theorem k0_off257_inb : ∀ (i : grid0.Coords) (v81 : BitVec 32) (v88 : BitVec 32) (k0_hw12 : k0_chk12 i v81 v88), ∀ (k0_h188 : k0_cond188 i v81 v88 = 1#1), ∀ (k0_h197 : k0_cond197 i v81 v88 = 1#1), ∀ a, (k0_off257 i v81 v88) a + S16384.size a ≤ S4194304.size a := fun i v81 v88 k0_hw12 k0_h188 k0_h197 => k0_hw12.2.2.2.2.2.2.2.2.2.2.2.2.2.2.2.2.2.2.2.2.1 k0_h188 k0_h197
theorem k0_off258_inb : ∀ (i : grid0.Coords) (v81 : BitVec 32) (v88 : BitVec 32) (k0_hw12 : k0_chk12 i v81 v88), ∀ (k0_h188 : k0_cond188 i v81 v88 = 1#1), ∀ (k0_h198 : k0_cond198 i v81 v88 = 1#1), ∀ a, (k0_off258 i v81 v88) a + S8192.size a ≤ S4194304.size a := fun i v81 v88 k0_hw12 k0_h188 k0_h198 => k0_hw12.2.2.2.2.2.2.2.2.2.2.2.2.2.2.2.2.2.2.2.2.2.1 k0_h188 k0_h198
theorem k0_off259_inb : ∀ (i : grid0.Coords) (v81 : BitVec 32) (v88 : BitVec 32) (k0_hw12 : k0_chk12 i v81 v88), ∀ (k0_h188 : k0_cond188 i v81 v88 = 1#1), ∀ (k0_h199 : k0_cond199 i v81 v88 = 1#1), ∀ a, (k0_off259 i v81 v88) a + S4096.size a ≤ S4194304.size a := fun i v81 v88 k0_hw12 k0_h188 k0_h199 => k0_hw12.2.2.2.2.2.2.2.2.2.2.2.2.2.2.2.2.2.2.2.2.2.2.1 k0_h188 k0_h199
theorem k0_off260_inb : ∀ (i : grid0.Coords) (v81 : BitVec 32) (v88 : BitVec 32) (k0_hw12 : k0_chk12 i v81 v88), ∀ (k0_h188 : k0_cond188 i v81 v88 = 1#1), ∀ (k0_h200 : k0_cond200 i v81 v88 = 1#1), ∀ a, (k0_off260 i v81 v88) a + S2048.size a ≤ S4194304.size a := fun i v81 v88 k0_hw12 k0_h188 k0_h200 => k0_hw12.2.2.2.2.2.2.2.2.2.2.2.2.2.2.2.2.2.2.2.2.2.2.2.1 k0_h188 k0_h200
theorem k0_off261_inb : ∀ (i : grid0.Coords) (v81 : BitVec 32) (v88 : BitVec 32) (k0_hw12 : k0_chk12 i v81 v88), ∀ (k0_h188 : k0_cond188 i v81 v88 = 1#1), ∀ (k0_h201 : k0_cond201 i v81 v88 = 1#1), ∀ a, (k0_off261 i v81 v88) a + S1024.size a ≤ S4194304.size a := fun i v81 v88 k0_hw12 k0_h188 k0_h201 => k0_hw12.2.2.2.2.2.2.2.2.2.2.2.2.2.2.2.2.2.2.2.2.2.2.2.2.1 k0_h188 k0_h201
theorem k0_off262_inb : ∀ (i : grid0.Coords) (v81 : BitVec 32) (v88 : BitVec 32) (k0_hw12 : k0_chk12 i v81 v88), ∀ (k0_h188 : k0_cond188 i v81 v88 = 1#1), ∀ (k0_h202 : k0_cond202 i v81 v88 = 1#1), ∀ a, (k0_off262 i v81 v88) a + S512.size a ≤ S4194304.size a := fun i v81 v88 k0_hw12 k0_h188 k0_h202 => k0_hw12.2.2.2.2.2.2.2.2.2.2.2.2.2.2.2.2.2.2.2.2.2.2.2.2.2.1 k0_h188 k0_h202
theorem k0_off263_inb : ∀ (i : grid0.Coords) (v81 : BitVec 32) (v88 : BitVec 32) (k0_hw12 : k0_chk12 i v81 v88), ∀ (k0_h188 : k0_cond188 i v81 v88 = 1#1), ∀ (k0_h203 : k0_cond203 i v81 v88 = 1#1), ∀ a, (k0_off263 i v81 v88) a + S256.size a ≤ S4194304.size a := fun i v81 v88 k0_hw12 k0_h188 k0_h203 => k0_hw12.2.2.2.2.2.2.2.2.2.2.2.2.2.2.2.2.2.2.2.2.2.2.2.2.2.2.1 k0_h188 k0_h203
theorem k0_off264_inb : ∀ (i : grid0.Coords) (v81 : BitVec 32) (v88 : BitVec 32) (k0_hw12 : k0_chk12 i v81 v88), ∀ (k0_h188 : k0_cond188 i v81 v88 = 1#1), ∀ (k0_h204 : k0_cond204 i v81 v88 = 1#1), ∀ a, (k0_off264 i v81 v88) a + S128.size a ≤ S4194304.size a := fun i v81 v88 k0_hw12 k0_h188 k0_h204 => k0_hw12.2.2.2.2.2.2.2.2.2.2.2.2.2.2.2.2.2.2.2.2.2.2.2.2.2.2.2 k0_h188 k0_h204

@[reducible] def k0_t73_loop (i : grid0.Coords) (v88 : BitVec 32) (v95 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond205 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v98 : BitVec 1 := Scalar.cmpi .sgt v97 v96
  let v99 : BitVec 32 := Scalar.extui v98
  let c0_i32_12 : BitVec 32 := 0#32
  let v100 : BitVec 1 := Scalar.cmpi .ne v99 c0_i32_12
  v100

def k0_off265 (i : grid0.Coords) (v88 : BitVec 32) (v95 : BitVec 32) (k0_t73 : Fin (k0_t73_loop i v88 v95).trips) (c0_i32_97 : BitVec 32) : Fin 1 → Nat :=
  let c0_i32_24 : BitVec 32 := 0#32
  let c1_i32_26 : BitVec 32 := 1#32
  let arg17 : BitVec 32 := Scf.iv c0_i32_24 c1_i32_26 k0_t73
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t74_loop (i : grid0.Coords) (v88 : BitVec 32) (v95 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off266 (i : grid0.Coords) (v88 : BitVec 32) (v95 : BitVec 32) (k0_t74 : Fin (k0_t74_loop i v88 v95).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t74
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t75_loop (i : grid0.Coords) (v88 : BitVec 32) (v95 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off267 (i : grid0.Coords) (v88 : BitVec 32) (v95 : BitVec 32) (k0_t75 : Fin (k0_t75_loop i v88 v95).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c0_i32_35 : BitVec 32 := 0#32
  let c1_i32_37 : BitVec 32 := 1#32
  let arg17 : BitVec 32 := Scf.iv c0_i32_35 c1_i32_37 k0_t75
  let c256_i32_95 : BitVec 32 := 256#32
  let v286 : BitVec 32 := Scalar.muli arg17 c256_i32_95
  let v287 : BitVec 32 := Scalar.addi v96 v286
  let c128_i32_96 : BitVec 32 := 128#32
  let v288 : BitVec 32 := Scalar.muli v287 c128_i32_96
  ![v288.toNat]
@[reducible] def k0_t76_loop (i : grid0.Coords) (v88 : BitVec 32) (v95 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off268 (i : grid0.Coords) (v88 : BitVec 32) (v95 : BitVec 32) (k0_t76 : Fin (k0_t76_loop i v88 v95).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c0_i32_35 : BitVec 32 := 0#32
  let c1024_i32_0 : BitVec 32 := 1024#32
  let v3 : BitVec 32 := Scalar.addi v2 c1024_i32_0
  let v97 : BitVec 32 := Scalar.minsi v95 v3
  let v138 : BitVec 32 := Scalar.subi v97 v96
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t76
  let c256_i32_95 : BitVec 32 := 256#32
  let v286 : BitVec 32 := Scalar.muli arg17 c256_i32_95
  let v287 : BitVec 32 := Scalar.addi v96 v286
  let c128_i32_96 : BitVec 32 := 128#32
  let v288 : BitVec 32 := Scalar.muli v287 c128_i32_96
  ![v288.toNat]
def k0_off269 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m256_i32 : BitVec 32 := 4294967040#32
  let v185 : BitVec 32 := Scalar.andi v138 c_m256_i32
  let v186 : BitVec 32 := Scalar.addi v96 v185
  let c128_i32_95 : BitVec 32 := 128#32
  let v286 : BitVec 32 := Scalar.muli v186 c128_i32_95
  ![v286.toNat]
def k0_cond206 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off270 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m128_i32 : BitVec 32 := 4294967168#32
  let v191 : BitVec 32 := Scalar.andi v138 c_m128_i32
  let v192 : BitVec 32 := Scalar.addi v96 v191
  let c128_i32_95 : BitVec 32 := 128#32
  let v286 : BitVec 32 := Scalar.muli v192 c128_i32_95
  ![v286.toNat]
def k0_cond207 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off271 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m64_i32 : BitVec 32 := 4294967232#32
  let v197 : BitVec 32 := Scalar.andi v138 c_m64_i32
  let v198 : BitVec 32 := Scalar.addi v96 v197
  let c128_i32_95 : BitVec 32 := 128#32
  let v286 : BitVec 32 := Scalar.muli v198 c128_i32_95
  ![v286.toNat]
def k0_cond208 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off272 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m32_i32 : BitVec 32 := 4294967264#32
  let v203 : BitVec 32 := Scalar.andi v138 c_m32_i32
  let v204 : BitVec 32 := Scalar.addi v96 v203
  let c128_i32_95 : BitVec 32 := 128#32
  let v286 : BitVec 32 := Scalar.muli v204 c128_i32_95
  ![v286.toNat]
def k0_cond209 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off273 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m16_i32 : BitVec 32 := 4294967280#32
  let v209 : BitVec 32 := Scalar.andi v138 c_m16_i32
  let v210 : BitVec 32 := Scalar.addi v96 v209
  let c128_i32_95 : BitVec 32 := 128#32
  let v286 : BitVec 32 := Scalar.muli v210 c128_i32_95
  ![v286.toNat]
def k0_cond210 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off274 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m8_i32 : BitVec 32 := 4294967288#32
  let v215 : BitVec 32 := Scalar.andi v138 c_m8_i32
  let v216 : BitVec 32 := Scalar.addi v96 v215
  let c128_i32_95 : BitVec 32 := 128#32
  let v286 : BitVec 32 := Scalar.muli v216 c128_i32_95
  ![v286.toNat]
def k0_cond211 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off275 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m4_i32 : BitVec 32 := 4294967292#32
  let v221 : BitVec 32 := Scalar.andi v138 c_m4_i32
  let v222 : BitVec 32 := Scalar.addi v96 v221
  let c128_i32_95 : BitVec 32 := 128#32
  let v286 : BitVec 32 := Scalar.muli v222 c128_i32_95
  ![v286.toNat]
def k0_cond212 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off276 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m2_i32 : BitVec 32 := 4294967294#32
  let v227 : BitVec 32 := Scalar.andi v138 c_m2_i32
  let v228 : BitVec 32 := Scalar.addi v96 v227
  let c128_i32_95 : BitVec 32 := 128#32
  let v286 : BitVec 32 := Scalar.muli v228 c128_i32_95
  ![v286.toNat]
def k0_cond213 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t77_loop (i : grid0.Coords) (v88 : BitVec 32) (v95 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off277 (i : grid0.Coords) (v88 : BitVec 32) (v95 : BitVec 32) (k0_t77 : Fin (k0_t77_loop i v88 v95).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c0_i32_59 : BitVec 32 := 0#32
  let c1_i32_61 : BitVec 32 := 1#32
  let arg17 : BitVec 32 := Scf.iv c0_i32_59 c1_i32_61 k0_t77
  let c256_i32_95 : BitVec 32 := 256#32
  let v286 : BitVec 32 := Scalar.muli arg17 c256_i32_95
  let v287 : BitVec 32 := Scalar.addi v96 v286
  let c128_i32_96 : BitVec 32 := 128#32
  let v288 : BitVec 32 := Scalar.muli v287 c128_i32_96
  ![v288.toNat]
@[reducible] def k0_t78_loop (i : grid0.Coords) (v88 : BitVec 32) (v95 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off278 (i : grid0.Coords) (v88 : BitVec 32) (v95 : BitVec 32) (k0_t78 : Fin (k0_t78_loop i v88 v95).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c0_i32_59 : BitVec 32 := 0#32
  let c1024_i32_0 : BitVec 32 := 1024#32
  let v3 : BitVec 32 := Scalar.addi v2 c1024_i32_0
  let v97 : BitVec 32 := Scalar.minsi v95 v3
  let v138 : BitVec 32 := Scalar.subi v97 v96
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t78
  let c256_i32_95 : BitVec 32 := 256#32
  let v286 : BitVec 32 := Scalar.muli arg17 c256_i32_95
  let v287 : BitVec 32 := Scalar.addi v96 v286
  let c128_i32_96 : BitVec 32 := 128#32
  let v288 : BitVec 32 := Scalar.muli v287 c128_i32_96
  ![v288.toNat]
def k0_off279 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m256_i32_63 : BitVec 32 := 4294967040#32
  let v238 : BitVec 32 := Scalar.andi v138 c_m256_i32_63
  let v239 : BitVec 32 := Scalar.addi v96 v238
  let c128_i32_95 : BitVec 32 := 128#32
  let v286 : BitVec 32 := Scalar.muli v239 c128_i32_95
  ![v286.toNat]
def k0_cond214 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off280 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m128_i32_67 : BitVec 32 := 4294967168#32
  let v244 : BitVec 32 := Scalar.andi v138 c_m128_i32_67
  let v245 : BitVec 32 := Scalar.addi v96 v244
  let c128_i32_95 : BitVec 32 := 128#32
  let v286 : BitVec 32 := Scalar.muli v245 c128_i32_95
  ![v286.toNat]
def k0_cond215 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off281 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m64_i32_71 : BitVec 32 := 4294967232#32
  let v250 : BitVec 32 := Scalar.andi v138 c_m64_i32_71
  let v251 : BitVec 32 := Scalar.addi v96 v250
  let c128_i32_95 : BitVec 32 := 128#32
  let v286 : BitVec 32 := Scalar.muli v251 c128_i32_95
  ![v286.toNat]
def k0_cond216 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off282 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m32_i32_75 : BitVec 32 := 4294967264#32
  let v256 : BitVec 32 := Scalar.andi v138 c_m32_i32_75
  let v257 : BitVec 32 := Scalar.addi v96 v256
  let c128_i32_95 : BitVec 32 := 128#32
  let v286 : BitVec 32 := Scalar.muli v257 c128_i32_95
  ![v286.toNat]
def k0_cond217 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off283 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m16_i32_79 : BitVec 32 := 4294967280#32
  let v262 : BitVec 32 := Scalar.andi v138 c_m16_i32_79
  let v263 : BitVec 32 := Scalar.addi v96 v262
  let c128_i32_95 : BitVec 32 := 128#32
  let v286 : BitVec 32 := Scalar.muli v263 c128_i32_95
  ![v286.toNat]
def k0_cond218 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off284 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m8_i32_83 : BitVec 32 := 4294967288#32
  let v268 : BitVec 32 := Scalar.andi v138 c_m8_i32_83
  let v269 : BitVec 32 := Scalar.addi v96 v268
  let c128_i32_95 : BitVec 32 := 128#32
  let v286 : BitVec 32 := Scalar.muli v269 c128_i32_95
  ![v286.toNat]
def k0_cond219 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off285 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m4_i32_87 : BitVec 32 := 4294967292#32
  let v274 : BitVec 32 := Scalar.andi v138 c_m4_i32_87
  let v275 : BitVec 32 := Scalar.addi v96 v274
  let c128_i32_95 : BitVec 32 := 128#32
  let v286 : BitVec 32 := Scalar.muli v275 c128_i32_95
  ![v286.toNat]
def k0_cond220 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off286 (i : grid0.Coords) (v88 : BitVec 32) (v95 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v96 : BitVec 32 := Scalar.maxsi v88 v2
  let c1024_i32_0 : BitVec 32 := 1024#32
  let v3 : BitVec 32 := Scalar.addi v2 c1024_i32_0
  let v97 : BitVec 32 := Scalar.minsi v95 v3
  let v138 : BitVec 32 := Scalar.subi v97 v96
  let c_m2_i32_91 : BitVec 32 := 4294967294#32
  let v280 : BitVec 32 := Scalar.andi v138 c_m2_i32_91
  let v281 : BitVec 32 := Scalar.addi v96 v280
  let c128_i32_95 : BitVec 32 := 128#32
  let v286 : BitVec 32 := Scalar.muli v281 c128_i32_95
  ![v286.toNat]
def k0_cond221 (i : grid0.Coords) (v88 : BitVec 32) (v95 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v97 : BitVec 32 := Scalar.minsi v95 v3
  let v96 : BitVec 32 := Scalar.maxsi v88 v2
  let v138 : BitVec 32 := Scalar.subi v97 v96
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk13 (i : grid0.Coords) (v88 : BitVec 32) (v95 : BitVec 32) : Prop :=
  (∀ (k0_h205 : k0_cond205 i v88 v95 = 1#1), (k0_t73_loop i v88 v95).OK) ∧
  (∀ k0_t73 : Fin (k0_t73_loop i v88 v95).trips, ∀ (k0_h205 : k0_cond205 i v88 v95 = 1#1), ∀ (r : Fin 16), ∀ a, (k0_off265 i v88 v95 k0_t73 (BitVec.ofNat 32 (16 * r.val))) a + S16.size a ≤ S32768.size a) ∧
  (∀ (k0_h205 : k0_cond205 i v88 v95 = 1#1), (k0_t74_loop i v88 v95).OK) ∧
  (∀ k0_t74 : Fin (k0_t74_loop i v88 v95).trips, ∀ (k0_h205 : k0_cond205 i v88 v95 = 1#1), ∀ (r : Fin 16), ∀ a, (k0_off266 i v88 v95 k0_t74 (BitVec.ofNat 32 (16 * r.val))) a + S16.size a ≤ S32768.size a) ∧
  (∀ (k0_h205 : k0_cond205 i v88 v95 = 1#1), (k0_t75_loop i v88 v95).OK) ∧
  (∀ k0_t75 : Fin (k0_t75_loop i v88 v95).trips, ∀ (k0_h205 : k0_cond205 i v88 v95 = 1#1), ∀ a, (k0_off267 i v88 v95 k0_t75) a + S32768.size a ≤ S4194304.size a) ∧
  (∀ (k0_h205 : k0_cond205 i v88 v95 = 1#1), (k0_t76_loop i v88 v95).OK) ∧
  (∀ k0_t76 : Fin (k0_t76_loop i v88 v95).trips, ∀ (k0_h205 : k0_cond205 i v88 v95 = 1#1), ∀ a, (k0_off268 i v88 v95 k0_t76) a + S32768.size a ≤ S4194304.size a) ∧
  (∀ (k0_h205 : k0_cond205 i v88 v95 = 1#1), ∀ (k0_h206 : k0_cond206 i v88 v95 = 1#1), ∀ a, (k0_off269 i v88 v95) a + S16384.size a ≤ S4194304.size a) ∧
  (∀ (k0_h205 : k0_cond205 i v88 v95 = 1#1), ∀ (k0_h207 : k0_cond207 i v88 v95 = 1#1), ∀ a, (k0_off270 i v88 v95) a + S8192.size a ≤ S4194304.size a) ∧
  (∀ (k0_h205 : k0_cond205 i v88 v95 = 1#1), ∀ (k0_h208 : k0_cond208 i v88 v95 = 1#1), ∀ a, (k0_off271 i v88 v95) a + S4096.size a ≤ S4194304.size a) ∧
  (∀ (k0_h205 : k0_cond205 i v88 v95 = 1#1), ∀ (k0_h209 : k0_cond209 i v88 v95 = 1#1), ∀ a, (k0_off272 i v88 v95) a + S2048.size a ≤ S4194304.size a) ∧
  (∀ (k0_h205 : k0_cond205 i v88 v95 = 1#1), ∀ (k0_h210 : k0_cond210 i v88 v95 = 1#1), ∀ a, (k0_off273 i v88 v95) a + S1024.size a ≤ S4194304.size a) ∧
  (∀ (k0_h205 : k0_cond205 i v88 v95 = 1#1), ∀ (k0_h211 : k0_cond211 i v88 v95 = 1#1), ∀ a, (k0_off274 i v88 v95) a + S512.size a ≤ S4194304.size a) ∧
  (∀ (k0_h205 : k0_cond205 i v88 v95 = 1#1), ∀ (k0_h212 : k0_cond212 i v88 v95 = 1#1), ∀ a, (k0_off275 i v88 v95) a + S256.size a ≤ S4194304.size a) ∧
  (∀ (k0_h205 : k0_cond205 i v88 v95 = 1#1), ∀ (k0_h213 : k0_cond213 i v88 v95 = 1#1), ∀ a, (k0_off276 i v88 v95) a + S128.size a ≤ S4194304.size a) ∧
  (∀ (k0_h205 : k0_cond205 i v88 v95 = 1#1), (k0_t77_loop i v88 v95).OK) ∧
  (∀ k0_t77 : Fin (k0_t77_loop i v88 v95).trips, ∀ (k0_h205 : k0_cond205 i v88 v95 = 1#1), ∀ a, (k0_off277 i v88 v95 k0_t77) a + S32768.size a ≤ S4194304.size a) ∧
  (∀ (k0_h205 : k0_cond205 i v88 v95 = 1#1), (k0_t78_loop i v88 v95).OK) ∧
  (∀ k0_t78 : Fin (k0_t78_loop i v88 v95).trips, ∀ (k0_h205 : k0_cond205 i v88 v95 = 1#1), ∀ a, (k0_off278 i v88 v95 k0_t78) a + S32768.size a ≤ S4194304.size a) ∧
  (∀ (k0_h205 : k0_cond205 i v88 v95 = 1#1), ∀ (k0_h214 : k0_cond214 i v88 v95 = 1#1), ∀ a, (k0_off279 i v88 v95) a + S16384.size a ≤ S4194304.size a) ∧
  (∀ (k0_h205 : k0_cond205 i v88 v95 = 1#1), ∀ (k0_h215 : k0_cond215 i v88 v95 = 1#1), ∀ a, (k0_off280 i v88 v95) a + S8192.size a ≤ S4194304.size a) ∧
  (∀ (k0_h205 : k0_cond205 i v88 v95 = 1#1), ∀ (k0_h216 : k0_cond216 i v88 v95 = 1#1), ∀ a, (k0_off281 i v88 v95) a + S4096.size a ≤ S4194304.size a) ∧
  (∀ (k0_h205 : k0_cond205 i v88 v95 = 1#1), ∀ (k0_h217 : k0_cond217 i v88 v95 = 1#1), ∀ a, (k0_off282 i v88 v95) a + S2048.size a ≤ S4194304.size a) ∧
  (∀ (k0_h205 : k0_cond205 i v88 v95 = 1#1), ∀ (k0_h218 : k0_cond218 i v88 v95 = 1#1), ∀ a, (k0_off283 i v88 v95) a + S1024.size a ≤ S4194304.size a) ∧
  (∀ (k0_h205 : k0_cond205 i v88 v95 = 1#1), ∀ (k0_h219 : k0_cond219 i v88 v95 = 1#1), ∀ a, (k0_off284 i v88 v95) a + S512.size a ≤ S4194304.size a) ∧
  (∀ (k0_h205 : k0_cond205 i v88 v95 = 1#1), ∀ (k0_h220 : k0_cond220 i v88 v95 = 1#1), ∀ a, (k0_off285 i v88 v95) a + S256.size a ≤ S4194304.size a) ∧
  (∀ (k0_h205 : k0_cond205 i v88 v95 = 1#1), ∀ (k0_h221 : k0_cond221 i v88 v95 = 1#1), ∀ a, (k0_off286 i v88 v95) a + S128.size a ≤ S4194304.size a)
theorem k0_t73_ok : ∀ (i : grid0.Coords) (v88 : BitVec 32) (v95 : BitVec 32) (k0_hw13 : k0_chk13 i v88 v95), ∀ (k0_h205 : k0_cond205 i v88 v95 = 1#1), (k0_t73_loop i v88 v95).OK := fun i v88 v95 k0_hw13 k0_h205 => k0_hw13.1 k0_h205
theorem k0_off265_inb : ∀ (i : grid0.Coords) (v88 : BitVec 32) (v95 : BitVec 32) (k0_hw13 : k0_chk13 i v88 v95) (k0_t73 : Fin (k0_t73_loop i v88 v95).trips), ∀ (k0_h205 : k0_cond205 i v88 v95 = 1#1), ∀ (r : Fin 16), ∀ a, (k0_off265 i v88 v95 k0_t73 (BitVec.ofNat 32 (16 * r.val))) a + S16.size a ≤ S32768.size a := fun i v88 v95 k0_hw13 k0_t73 k0_h205 r => k0_hw13.2.1 k0_t73 k0_h205 r
theorem k0_t74_ok : ∀ (i : grid0.Coords) (v88 : BitVec 32) (v95 : BitVec 32) (k0_hw13 : k0_chk13 i v88 v95), ∀ (k0_h205 : k0_cond205 i v88 v95 = 1#1), (k0_t74_loop i v88 v95).OK := fun i v88 v95 k0_hw13 k0_h205 => k0_hw13.2.2.1 k0_h205
theorem k0_off266_inb : ∀ (i : grid0.Coords) (v88 : BitVec 32) (v95 : BitVec 32) (k0_hw13 : k0_chk13 i v88 v95) (k0_t74 : Fin (k0_t74_loop i v88 v95).trips), ∀ (k0_h205 : k0_cond205 i v88 v95 = 1#1), ∀ (r : Fin 16), ∀ a, (k0_off266 i v88 v95 k0_t74 (BitVec.ofNat 32 (16 * r.val))) a + S16.size a ≤ S32768.size a := fun i v88 v95 k0_hw13 k0_t74 k0_h205 r => k0_hw13.2.2.2.1 k0_t74 k0_h205 r
theorem k0_t75_ok : ∀ (i : grid0.Coords) (v88 : BitVec 32) (v95 : BitVec 32) (k0_hw13 : k0_chk13 i v88 v95), ∀ (k0_h205 : k0_cond205 i v88 v95 = 1#1), (k0_t75_loop i v88 v95).OK := fun i v88 v95 k0_hw13 k0_h205 => k0_hw13.2.2.2.2.1 k0_h205
theorem k0_off267_inb : ∀ (i : grid0.Coords) (v88 : BitVec 32) (v95 : BitVec 32) (k0_hw13 : k0_chk13 i v88 v95) (k0_t75 : Fin (k0_t75_loop i v88 v95).trips), ∀ (k0_h205 : k0_cond205 i v88 v95 = 1#1), ∀ a, (k0_off267 i v88 v95 k0_t75) a + S32768.size a ≤ S4194304.size a := fun i v88 v95 k0_hw13 k0_t75 k0_h205 => k0_hw13.2.2.2.2.2.1 k0_t75 k0_h205
theorem k0_t76_ok : ∀ (i : grid0.Coords) (v88 : BitVec 32) (v95 : BitVec 32) (k0_hw13 : k0_chk13 i v88 v95), ∀ (k0_h205 : k0_cond205 i v88 v95 = 1#1), (k0_t76_loop i v88 v95).OK := fun i v88 v95 k0_hw13 k0_h205 => k0_hw13.2.2.2.2.2.2.1 k0_h205
theorem k0_off268_inb : ∀ (i : grid0.Coords) (v88 : BitVec 32) (v95 : BitVec 32) (k0_hw13 : k0_chk13 i v88 v95) (k0_t76 : Fin (k0_t76_loop i v88 v95).trips), ∀ (k0_h205 : k0_cond205 i v88 v95 = 1#1), ∀ a, (k0_off268 i v88 v95 k0_t76) a + S32768.size a ≤ S4194304.size a := fun i v88 v95 k0_hw13 k0_t76 k0_h205 => k0_hw13.2.2.2.2.2.2.2.1 k0_t76 k0_h205
theorem k0_off269_inb : ∀ (i : grid0.Coords) (v88 : BitVec 32) (v95 : BitVec 32) (k0_hw13 : k0_chk13 i v88 v95), ∀ (k0_h205 : k0_cond205 i v88 v95 = 1#1), ∀ (k0_h206 : k0_cond206 i v88 v95 = 1#1), ∀ a, (k0_off269 i v88 v95) a + S16384.size a ≤ S4194304.size a := fun i v88 v95 k0_hw13 k0_h205 k0_h206 => k0_hw13.2.2.2.2.2.2.2.2.1 k0_h205 k0_h206
theorem k0_off270_inb : ∀ (i : grid0.Coords) (v88 : BitVec 32) (v95 : BitVec 32) (k0_hw13 : k0_chk13 i v88 v95), ∀ (k0_h205 : k0_cond205 i v88 v95 = 1#1), ∀ (k0_h207 : k0_cond207 i v88 v95 = 1#1), ∀ a, (k0_off270 i v88 v95) a + S8192.size a ≤ S4194304.size a := fun i v88 v95 k0_hw13 k0_h205 k0_h207 => k0_hw13.2.2.2.2.2.2.2.2.2.1 k0_h205 k0_h207
theorem k0_off271_inb : ∀ (i : grid0.Coords) (v88 : BitVec 32) (v95 : BitVec 32) (k0_hw13 : k0_chk13 i v88 v95), ∀ (k0_h205 : k0_cond205 i v88 v95 = 1#1), ∀ (k0_h208 : k0_cond208 i v88 v95 = 1#1), ∀ a, (k0_off271 i v88 v95) a + S4096.size a ≤ S4194304.size a := fun i v88 v95 k0_hw13 k0_h205 k0_h208 => k0_hw13.2.2.2.2.2.2.2.2.2.2.1 k0_h205 k0_h208
theorem k0_off272_inb : ∀ (i : grid0.Coords) (v88 : BitVec 32) (v95 : BitVec 32) (k0_hw13 : k0_chk13 i v88 v95), ∀ (k0_h205 : k0_cond205 i v88 v95 = 1#1), ∀ (k0_h209 : k0_cond209 i v88 v95 = 1#1), ∀ a, (k0_off272 i v88 v95) a + S2048.size a ≤ S4194304.size a := fun i v88 v95 k0_hw13 k0_h205 k0_h209 => k0_hw13.2.2.2.2.2.2.2.2.2.2.2.1 k0_h205 k0_h209
theorem k0_off273_inb : ∀ (i : grid0.Coords) (v88 : BitVec 32) (v95 : BitVec 32) (k0_hw13 : k0_chk13 i v88 v95), ∀ (k0_h205 : k0_cond205 i v88 v95 = 1#1), ∀ (k0_h210 : k0_cond210 i v88 v95 = 1#1), ∀ a, (k0_off273 i v88 v95) a + S1024.size a ≤ S4194304.size a := fun i v88 v95 k0_hw13 k0_h205 k0_h210 => k0_hw13.2.2.2.2.2.2.2.2.2.2.2.2.1 k0_h205 k0_h210
theorem k0_off274_inb : ∀ (i : grid0.Coords) (v88 : BitVec 32) (v95 : BitVec 32) (k0_hw13 : k0_chk13 i v88 v95), ∀ (k0_h205 : k0_cond205 i v88 v95 = 1#1), ∀ (k0_h211 : k0_cond211 i v88 v95 = 1#1), ∀ a, (k0_off274 i v88 v95) a + S512.size a ≤ S4194304.size a := fun i v88 v95 k0_hw13 k0_h205 k0_h211 => k0_hw13.2.2.2.2.2.2.2.2.2.2.2.2.2.1 k0_h205 k0_h211
theorem k0_off275_inb : ∀ (i : grid0.Coords) (v88 : BitVec 32) (v95 : BitVec 32) (k0_hw13 : k0_chk13 i v88 v95), ∀ (k0_h205 : k0_cond205 i v88 v95 = 1#1), ∀ (k0_h212 : k0_cond212 i v88 v95 = 1#1), ∀ a, (k0_off275 i v88 v95) a + S256.size a ≤ S4194304.size a := fun i v88 v95 k0_hw13 k0_h205 k0_h212 => k0_hw13.2.2.2.2.2.2.2.2.2.2.2.2.2.2.1 k0_h205 k0_h212
theorem k0_off276_inb : ∀ (i : grid0.Coords) (v88 : BitVec 32) (v95 : BitVec 32) (k0_hw13 : k0_chk13 i v88 v95), ∀ (k0_h205 : k0_cond205 i v88 v95 = 1#1), ∀ (k0_h213 : k0_cond213 i v88 v95 = 1#1), ∀ a, (k0_off276 i v88 v95) a + S128.size a ≤ S4194304.size a := fun i v88 v95 k0_hw13 k0_h205 k0_h213 => k0_hw13.2.2.2.2.2.2.2.2.2.2.2.2.2.2.2.1 k0_h205 k0_h213
theorem k0_t77_ok : ∀ (i : grid0.Coords) (v88 : BitVec 32) (v95 : BitVec 32) (k0_hw13 : k0_chk13 i v88 v95), ∀ (k0_h205 : k0_cond205 i v88 v95 = 1#1), (k0_t77_loop i v88 v95).OK := fun i v88 v95 k0_hw13 k0_h205 => k0_hw13.2.2.2.2.2.2.2.2.2.2.2.2.2.2.2.2.1 k0_h205
theorem k0_off277_inb : ∀ (i : grid0.Coords) (v88 : BitVec 32) (v95 : BitVec 32) (k0_hw13 : k0_chk13 i v88 v95) (k0_t77 : Fin (k0_t77_loop i v88 v95).trips), ∀ (k0_h205 : k0_cond205 i v88 v95 = 1#1), ∀ a, (k0_off277 i v88 v95 k0_t77) a + S32768.size a ≤ S4194304.size a := fun i v88 v95 k0_hw13 k0_t77 k0_h205 => k0_hw13.2.2.2.2.2.2.2.2.2.2.2.2.2.2.2.2.2.1 k0_t77 k0_h205
theorem k0_t78_ok : ∀ (i : grid0.Coords) (v88 : BitVec 32) (v95 : BitVec 32) (k0_hw13 : k0_chk13 i v88 v95), ∀ (k0_h205 : k0_cond205 i v88 v95 = 1#1), (k0_t78_loop i v88 v95).OK := fun i v88 v95 k0_hw13 k0_h205 => k0_hw13.2.2.2.2.2.2.2.2.2.2.2.2.2.2.2.2.2.2.1 k0_h205
theorem k0_off278_inb : ∀ (i : grid0.Coords) (v88 : BitVec 32) (v95 : BitVec 32) (k0_hw13 : k0_chk13 i v88 v95) (k0_t78 : Fin (k0_t78_loop i v88 v95).trips), ∀ (k0_h205 : k0_cond205 i v88 v95 = 1#1), ∀ a, (k0_off278 i v88 v95 k0_t78) a + S32768.size a ≤ S4194304.size a := fun i v88 v95 k0_hw13 k0_t78 k0_h205 => k0_hw13.2.2.2.2.2.2.2.2.2.2.2.2.2.2.2.2.2.2.2.1 k0_t78 k0_h205
theorem k0_off279_inb : ∀ (i : grid0.Coords) (v88 : BitVec 32) (v95 : BitVec 32) (k0_hw13 : k0_chk13 i v88 v95), ∀ (k0_h205 : k0_cond205 i v88 v95 = 1#1), ∀ (k0_h214 : k0_cond214 i v88 v95 = 1#1), ∀ a, (k0_off279 i v88 v95) a + S16384.size a ≤ S4194304.size a := fun i v88 v95 k0_hw13 k0_h205 k0_h214 => k0_hw13.2.2.2.2.2.2.2.2.2.2.2.2.2.2.2.2.2.2.2.2.1 k0_h205 k0_h214
theorem k0_off280_inb : ∀ (i : grid0.Coords) (v88 : BitVec 32) (v95 : BitVec 32) (k0_hw13 : k0_chk13 i v88 v95), ∀ (k0_h205 : k0_cond205 i v88 v95 = 1#1), ∀ (k0_h215 : k0_cond215 i v88 v95 = 1#1), ∀ a, (k0_off280 i v88 v95) a + S8192.size a ≤ S4194304.size a := fun i v88 v95 k0_hw13 k0_h205 k0_h215 => k0_hw13.2.2.2.2.2.2.2.2.2.2.2.2.2.2.2.2.2.2.2.2.2.1 k0_h205 k0_h215
theorem k0_off281_inb : ∀ (i : grid0.Coords) (v88 : BitVec 32) (v95 : BitVec 32) (k0_hw13 : k0_chk13 i v88 v95), ∀ (k0_h205 : k0_cond205 i v88 v95 = 1#1), ∀ (k0_h216 : k0_cond216 i v88 v95 = 1#1), ∀ a, (k0_off281 i v88 v95) a + S4096.size a ≤ S4194304.size a := fun i v88 v95 k0_hw13 k0_h205 k0_h216 => k0_hw13.2.2.2.2.2.2.2.2.2.2.2.2.2.2.2.2.2.2.2.2.2.2.1 k0_h205 k0_h216
theorem k0_off282_inb : ∀ (i : grid0.Coords) (v88 : BitVec 32) (v95 : BitVec 32) (k0_hw13 : k0_chk13 i v88 v95), ∀ (k0_h205 : k0_cond205 i v88 v95 = 1#1), ∀ (k0_h217 : k0_cond217 i v88 v95 = 1#1), ∀ a, (k0_off282 i v88 v95) a + S2048.size a ≤ S4194304.size a := fun i v88 v95 k0_hw13 k0_h205 k0_h217 => k0_hw13.2.2.2.2.2.2.2.2.2.2.2.2.2.2.2.2.2.2.2.2.2.2.2.1 k0_h205 k0_h217
theorem k0_off283_inb : ∀ (i : grid0.Coords) (v88 : BitVec 32) (v95 : BitVec 32) (k0_hw13 : k0_chk13 i v88 v95), ∀ (k0_h205 : k0_cond205 i v88 v95 = 1#1), ∀ (k0_h218 : k0_cond218 i v88 v95 = 1#1), ∀ a, (k0_off283 i v88 v95) a + S1024.size a ≤ S4194304.size a := fun i v88 v95 k0_hw13 k0_h205 k0_h218 => k0_hw13.2.2.2.2.2.2.2.2.2.2.2.2.2.2.2.2.2.2.2.2.2.2.2.2.1 k0_h205 k0_h218
theorem k0_off284_inb : ∀ (i : grid0.Coords) (v88 : BitVec 32) (v95 : BitVec 32) (k0_hw13 : k0_chk13 i v88 v95), ∀ (k0_h205 : k0_cond205 i v88 v95 = 1#1), ∀ (k0_h219 : k0_cond219 i v88 v95 = 1#1), ∀ a, (k0_off284 i v88 v95) a + S512.size a ≤ S4194304.size a := fun i v88 v95 k0_hw13 k0_h205 k0_h219 => k0_hw13.2.2.2.2.2.2.2.2.2.2.2.2.2.2.2.2.2.2.2.2.2.2.2.2.2.1 k0_h205 k0_h219
theorem k0_off285_inb : ∀ (i : grid0.Coords) (v88 : BitVec 32) (v95 : BitVec 32) (k0_hw13 : k0_chk13 i v88 v95), ∀ (k0_h205 : k0_cond205 i v88 v95 = 1#1), ∀ (k0_h220 : k0_cond220 i v88 v95 = 1#1), ∀ a, (k0_off285 i v88 v95) a + S256.size a ≤ S4194304.size a := fun i v88 v95 k0_hw13 k0_h205 k0_h220 => k0_hw13.2.2.2.2.2.2.2.2.2.2.2.2.2.2.2.2.2.2.2.2.2.2.2.2.2.2.1 k0_h205 k0_h220
theorem k0_off286_inb : ∀ (i : grid0.Coords) (v88 : BitVec 32) (v95 : BitVec 32) (k0_hw13 : k0_chk13 i v88 v95), ∀ (k0_h205 : k0_cond205 i v88 v95 = 1#1), ∀ (k0_h221 : k0_cond221 i v88 v95 = 1#1), ∀ a, (k0_off286 i v88 v95) a + S128.size a ≤ S4194304.size a := fun i v88 v95 k0_hw13 k0_h205 k0_h221 => k0_hw13.2.2.2.2.2.2.2.2.2.2.2.2.2.2.2.2.2.2.2.2.2.2.2.2.2.2.2 k0_h205 k0_h221

@[reducible] def k0_t79_loop (i : grid0.Coords) (v95 : BitVec 32) (v102 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond222 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v105 : BitVec 1 := Scalar.cmpi .sgt v104 v103
  let v106 : BitVec 32 := Scalar.extui v105
  let c0_i32_13 : BitVec 32 := 0#32
  let v107 : BitVec 1 := Scalar.cmpi .ne v106 c0_i32_13
  v107

def k0_off287 (i : grid0.Coords) (v95 : BitVec 32) (v102 : BitVec 32) (k0_t79 : Fin (k0_t79_loop i v95 v102).trips) (c0_i32_97 : BitVec 32) : Fin 1 → Nat :=
  let c0_i32_24 : BitVec 32 := 0#32
  let c1_i32_26 : BitVec 32 := 1#32
  let arg17 : BitVec 32 := Scf.iv c0_i32_24 c1_i32_26 k0_t79
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t80_loop (i : grid0.Coords) (v95 : BitVec 32) (v102 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off288 (i : grid0.Coords) (v95 : BitVec 32) (v102 : BitVec 32) (k0_t80 : Fin (k0_t80_loop i v95 v102).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t80
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t81_loop (i : grid0.Coords) (v95 : BitVec 32) (v102 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off289 (i : grid0.Coords) (v95 : BitVec 32) (v102 : BitVec 32) (k0_t81 : Fin (k0_t81_loop i v95 v102).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c0_i32_35 : BitVec 32 := 0#32
  let c1_i32_37 : BitVec 32 := 1#32
  let arg17 : BitVec 32 := Scf.iv c0_i32_35 c1_i32_37 k0_t81
  let c256_i32_95 : BitVec 32 := 256#32
  let v286 : BitVec 32 := Scalar.muli arg17 c256_i32_95
  let v287 : BitVec 32 := Scalar.addi v103 v286
  let c128_i32_96 : BitVec 32 := 128#32
  let v288 : BitVec 32 := Scalar.muli v287 c128_i32_96
  ![v288.toNat]
@[reducible] def k0_t82_loop (i : grid0.Coords) (v95 : BitVec 32) (v102 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off290 (i : grid0.Coords) (v95 : BitVec 32) (v102 : BitVec 32) (k0_t82 : Fin (k0_t82_loop i v95 v102).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c0_i32_35 : BitVec 32 := 0#32
  let c1024_i32_0 : BitVec 32 := 1024#32
  let v3 : BitVec 32 := Scalar.addi v2 c1024_i32_0
  let v104 : BitVec 32 := Scalar.minsi v102 v3
  let v138 : BitVec 32 := Scalar.subi v104 v103
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t82
  let c256_i32_95 : BitVec 32 := 256#32
  let v286 : BitVec 32 := Scalar.muli arg17 c256_i32_95
  let v287 : BitVec 32 := Scalar.addi v103 v286
  let c128_i32_96 : BitVec 32 := 128#32
  let v288 : BitVec 32 := Scalar.muli v287 c128_i32_96
  ![v288.toNat]
def k0_off291 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m256_i32 : BitVec 32 := 4294967040#32
  let v185 : BitVec 32 := Scalar.andi v138 c_m256_i32
  let v186 : BitVec 32 := Scalar.addi v103 v185
  let c128_i32_95 : BitVec 32 := 128#32
  let v286 : BitVec 32 := Scalar.muli v186 c128_i32_95
  ![v286.toNat]
def k0_cond223 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off292 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m128_i32 : BitVec 32 := 4294967168#32
  let v191 : BitVec 32 := Scalar.andi v138 c_m128_i32
  let v192 : BitVec 32 := Scalar.addi v103 v191
  let c128_i32_95 : BitVec 32 := 128#32
  let v286 : BitVec 32 := Scalar.muli v192 c128_i32_95
  ![v286.toNat]
def k0_cond224 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off293 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m64_i32 : BitVec 32 := 4294967232#32
  let v197 : BitVec 32 := Scalar.andi v138 c_m64_i32
  let v198 : BitVec 32 := Scalar.addi v103 v197
  let c128_i32_95 : BitVec 32 := 128#32
  let v286 : BitVec 32 := Scalar.muli v198 c128_i32_95
  ![v286.toNat]
def k0_cond225 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off294 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m32_i32 : BitVec 32 := 4294967264#32
  let v203 : BitVec 32 := Scalar.andi v138 c_m32_i32
  let v204 : BitVec 32 := Scalar.addi v103 v203
  let c128_i32_95 : BitVec 32 := 128#32
  let v286 : BitVec 32 := Scalar.muli v204 c128_i32_95
  ![v286.toNat]
def k0_cond226 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off295 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m16_i32 : BitVec 32 := 4294967280#32
  let v209 : BitVec 32 := Scalar.andi v138 c_m16_i32
  let v210 : BitVec 32 := Scalar.addi v103 v209
  let c128_i32_95 : BitVec 32 := 128#32
  let v286 : BitVec 32 := Scalar.muli v210 c128_i32_95
  ![v286.toNat]
def k0_cond227 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off296 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m8_i32 : BitVec 32 := 4294967288#32
  let v215 : BitVec 32 := Scalar.andi v138 c_m8_i32
  let v216 : BitVec 32 := Scalar.addi v103 v215
  let c128_i32_95 : BitVec 32 := 128#32
  let v286 : BitVec 32 := Scalar.muli v216 c128_i32_95
  ![v286.toNat]
def k0_cond228 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off297 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m4_i32 : BitVec 32 := 4294967292#32
  let v221 : BitVec 32 := Scalar.andi v138 c_m4_i32
  let v222 : BitVec 32 := Scalar.addi v103 v221
  let c128_i32_95 : BitVec 32 := 128#32
  let v286 : BitVec 32 := Scalar.muli v222 c128_i32_95
  ![v286.toNat]
def k0_cond229 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off298 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m2_i32 : BitVec 32 := 4294967294#32
  let v227 : BitVec 32 := Scalar.andi v138 c_m2_i32
  let v228 : BitVec 32 := Scalar.addi v103 v227
  let c128_i32_95 : BitVec 32 := 128#32
  let v286 : BitVec 32 := Scalar.muli v228 c128_i32_95
  ![v286.toNat]
def k0_cond230 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t83_loop (i : grid0.Coords) (v95 : BitVec 32) (v102 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off299 (i : grid0.Coords) (v95 : BitVec 32) (v102 : BitVec 32) (k0_t83 : Fin (k0_t83_loop i v95 v102).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c0_i32_59 : BitVec 32 := 0#32
  let c1_i32_61 : BitVec 32 := 1#32
  let arg17 : BitVec 32 := Scf.iv c0_i32_59 c1_i32_61 k0_t83
  let c256_i32_95 : BitVec 32 := 256#32
  let v286 : BitVec 32 := Scalar.muli arg17 c256_i32_95
  let v287 : BitVec 32 := Scalar.addi v103 v286
  let c128_i32_96 : BitVec 32 := 128#32
  let v288 : BitVec 32 := Scalar.muli v287 c128_i32_96
  ![v288.toNat]
@[reducible] def k0_t84_loop (i : grid0.Coords) (v95 : BitVec 32) (v102 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off300 (i : grid0.Coords) (v95 : BitVec 32) (v102 : BitVec 32) (k0_t84 : Fin (k0_t84_loop i v95 v102).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c0_i32_59 : BitVec 32 := 0#32
  let c1024_i32_0 : BitVec 32 := 1024#32
  let v3 : BitVec 32 := Scalar.addi v2 c1024_i32_0
  let v104 : BitVec 32 := Scalar.minsi v102 v3
  let v138 : BitVec 32 := Scalar.subi v104 v103
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t84
  let c256_i32_95 : BitVec 32 := 256#32
  let v286 : BitVec 32 := Scalar.muli arg17 c256_i32_95
  let v287 : BitVec 32 := Scalar.addi v103 v286
  let c128_i32_96 : BitVec 32 := 128#32
  let v288 : BitVec 32 := Scalar.muli v287 c128_i32_96
  ![v288.toNat]
def k0_off301 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m256_i32_63 : BitVec 32 := 4294967040#32
  let v238 : BitVec 32 := Scalar.andi v138 c_m256_i32_63
  let v239 : BitVec 32 := Scalar.addi v103 v238
  let c128_i32_95 : BitVec 32 := 128#32
  let v286 : BitVec 32 := Scalar.muli v239 c128_i32_95
  ![v286.toNat]
def k0_cond231 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off302 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m128_i32_67 : BitVec 32 := 4294967168#32
  let v244 : BitVec 32 := Scalar.andi v138 c_m128_i32_67
  let v245 : BitVec 32 := Scalar.addi v103 v244
  let c128_i32_95 : BitVec 32 := 128#32
  let v286 : BitVec 32 := Scalar.muli v245 c128_i32_95
  ![v286.toNat]
def k0_cond232 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off303 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m64_i32_71 : BitVec 32 := 4294967232#32
  let v250 : BitVec 32 := Scalar.andi v138 c_m64_i32_71
  let v251 : BitVec 32 := Scalar.addi v103 v250
  let c128_i32_95 : BitVec 32 := 128#32
  let v286 : BitVec 32 := Scalar.muli v251 c128_i32_95
  ![v286.toNat]
def k0_cond233 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off304 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m32_i32_75 : BitVec 32 := 4294967264#32
  let v256 : BitVec 32 := Scalar.andi v138 c_m32_i32_75
  let v257 : BitVec 32 := Scalar.addi v103 v256
  let c128_i32_95 : BitVec 32 := 128#32
  let v286 : BitVec 32 := Scalar.muli v257 c128_i32_95
  ![v286.toNat]
def k0_cond234 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off305 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m16_i32_79 : BitVec 32 := 4294967280#32
  let v262 : BitVec 32 := Scalar.andi v138 c_m16_i32_79
  let v263 : BitVec 32 := Scalar.addi v103 v262
  let c128_i32_95 : BitVec 32 := 128#32
  let v286 : BitVec 32 := Scalar.muli v263 c128_i32_95
  ![v286.toNat]
def k0_cond235 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off306 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m8_i32_83 : BitVec 32 := 4294967288#32
  let v268 : BitVec 32 := Scalar.andi v138 c_m8_i32_83
  let v269 : BitVec 32 := Scalar.addi v103 v268
  let c128_i32_95 : BitVec 32 := 128#32
  let v286 : BitVec 32 := Scalar.muli v269 c128_i32_95
  ![v286.toNat]
def k0_cond236 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off307 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m4_i32_87 : BitVec 32 := 4294967292#32
  let v274 : BitVec 32 := Scalar.andi v138 c_m4_i32_87
  let v275 : BitVec 32 := Scalar.addi v103 v274
  let c128_i32_95 : BitVec 32 := 128#32
  let v286 : BitVec 32 := Scalar.muli v275 c128_i32_95
  ![v286.toNat]
def k0_cond237 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off308 (i : grid0.Coords) (v95 : BitVec 32) (v102 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v103 : BitVec 32 := Scalar.maxsi v95 v2
  let c1024_i32_0 : BitVec 32 := 1024#32
  let v3 : BitVec 32 := Scalar.addi v2 c1024_i32_0
  let v104 : BitVec 32 := Scalar.minsi v102 v3
  let v138 : BitVec 32 := Scalar.subi v104 v103
  let c_m2_i32_91 : BitVec 32 := 4294967294#32
  let v280 : BitVec 32 := Scalar.andi v138 c_m2_i32_91
  let v281 : BitVec 32 := Scalar.addi v103 v280
  let c128_i32_95 : BitVec 32 := 128#32
  let v286 : BitVec 32 := Scalar.muli v281 c128_i32_95
  ![v286.toNat]
def k0_cond238 (i : grid0.Coords) (v95 : BitVec 32) (v102 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v104 : BitVec 32 := Scalar.minsi v102 v3
  let v103 : BitVec 32 := Scalar.maxsi v95 v2
  let v138 : BitVec 32 := Scalar.subi v104 v103
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk14 (i : grid0.Coords) (v95 : BitVec 32) (v102 : BitVec 32) : Prop :=
  (∀ (k0_h222 : k0_cond222 i v95 v102 = 1#1), (k0_t79_loop i v95 v102).OK) ∧
  (∀ k0_t79 : Fin (k0_t79_loop i v95 v102).trips, ∀ (k0_h222 : k0_cond222 i v95 v102 = 1#1), ∀ (r : Fin 16), ∀ a, (k0_off287 i v95 v102 k0_t79 (BitVec.ofNat 32 (16 * r.val))) a + S16.size a ≤ S32768.size a) ∧
  (∀ (k0_h222 : k0_cond222 i v95 v102 = 1#1), (k0_t80_loop i v95 v102).OK) ∧
  (∀ k0_t80 : Fin (k0_t80_loop i v95 v102).trips, ∀ (k0_h222 : k0_cond222 i v95 v102 = 1#1), ∀ (r : Fin 16), ∀ a, (k0_off288 i v95 v102 k0_t80 (BitVec.ofNat 32 (16 * r.val))) a + S16.size a ≤ S32768.size a) ∧
  (∀ (k0_h222 : k0_cond222 i v95 v102 = 1#1), (k0_t81_loop i v95 v102).OK) ∧
  (∀ k0_t81 : Fin (k0_t81_loop i v95 v102).trips, ∀ (k0_h222 : k0_cond222 i v95 v102 = 1#1), ∀ a, (k0_off289 i v95 v102 k0_t81) a + S32768.size a ≤ S4194304.size a) ∧
  (∀ (k0_h222 : k0_cond222 i v95 v102 = 1#1), (k0_t82_loop i v95 v102).OK) ∧
  (∀ k0_t82 : Fin (k0_t82_loop i v95 v102).trips, ∀ (k0_h222 : k0_cond222 i v95 v102 = 1#1), ∀ a, (k0_off290 i v95 v102 k0_t82) a + S32768.size a ≤ S4194304.size a) ∧
  (∀ (k0_h222 : k0_cond222 i v95 v102 = 1#1), ∀ (k0_h223 : k0_cond223 i v95 v102 = 1#1), ∀ a, (k0_off291 i v95 v102) a + S16384.size a ≤ S4194304.size a) ∧
  (∀ (k0_h222 : k0_cond222 i v95 v102 = 1#1), ∀ (k0_h224 : k0_cond224 i v95 v102 = 1#1), ∀ a, (k0_off292 i v95 v102) a + S8192.size a ≤ S4194304.size a) ∧
  (∀ (k0_h222 : k0_cond222 i v95 v102 = 1#1), ∀ (k0_h225 : k0_cond225 i v95 v102 = 1#1), ∀ a, (k0_off293 i v95 v102) a + S4096.size a ≤ S4194304.size a) ∧
  (∀ (k0_h222 : k0_cond222 i v95 v102 = 1#1), ∀ (k0_h226 : k0_cond226 i v95 v102 = 1#1), ∀ a, (k0_off294 i v95 v102) a + S2048.size a ≤ S4194304.size a) ∧
  (∀ (k0_h222 : k0_cond222 i v95 v102 = 1#1), ∀ (k0_h227 : k0_cond227 i v95 v102 = 1#1), ∀ a, (k0_off295 i v95 v102) a + S1024.size a ≤ S4194304.size a) ∧
  (∀ (k0_h222 : k0_cond222 i v95 v102 = 1#1), ∀ (k0_h228 : k0_cond228 i v95 v102 = 1#1), ∀ a, (k0_off296 i v95 v102) a + S512.size a ≤ S4194304.size a) ∧
  (∀ (k0_h222 : k0_cond222 i v95 v102 = 1#1), ∀ (k0_h229 : k0_cond229 i v95 v102 = 1#1), ∀ a, (k0_off297 i v95 v102) a + S256.size a ≤ S4194304.size a) ∧
  (∀ (k0_h222 : k0_cond222 i v95 v102 = 1#1), ∀ (k0_h230 : k0_cond230 i v95 v102 = 1#1), ∀ a, (k0_off298 i v95 v102) a + S128.size a ≤ S4194304.size a) ∧
  (∀ (k0_h222 : k0_cond222 i v95 v102 = 1#1), (k0_t83_loop i v95 v102).OK) ∧
  (∀ k0_t83 : Fin (k0_t83_loop i v95 v102).trips, ∀ (k0_h222 : k0_cond222 i v95 v102 = 1#1), ∀ a, (k0_off299 i v95 v102 k0_t83) a + S32768.size a ≤ S4194304.size a) ∧
  (∀ (k0_h222 : k0_cond222 i v95 v102 = 1#1), (k0_t84_loop i v95 v102).OK) ∧
  (∀ k0_t84 : Fin (k0_t84_loop i v95 v102).trips, ∀ (k0_h222 : k0_cond222 i v95 v102 = 1#1), ∀ a, (k0_off300 i v95 v102 k0_t84) a + S32768.size a ≤ S4194304.size a) ∧
  (∀ (k0_h222 : k0_cond222 i v95 v102 = 1#1), ∀ (k0_h231 : k0_cond231 i v95 v102 = 1#1), ∀ a, (k0_off301 i v95 v102) a + S16384.size a ≤ S4194304.size a) ∧
  (∀ (k0_h222 : k0_cond222 i v95 v102 = 1#1), ∀ (k0_h232 : k0_cond232 i v95 v102 = 1#1), ∀ a, (k0_off302 i v95 v102) a + S8192.size a ≤ S4194304.size a) ∧
  (∀ (k0_h222 : k0_cond222 i v95 v102 = 1#1), ∀ (k0_h233 : k0_cond233 i v95 v102 = 1#1), ∀ a, (k0_off303 i v95 v102) a + S4096.size a ≤ S4194304.size a) ∧
  (∀ (k0_h222 : k0_cond222 i v95 v102 = 1#1), ∀ (k0_h234 : k0_cond234 i v95 v102 = 1#1), ∀ a, (k0_off304 i v95 v102) a + S2048.size a ≤ S4194304.size a) ∧
  (∀ (k0_h222 : k0_cond222 i v95 v102 = 1#1), ∀ (k0_h235 : k0_cond235 i v95 v102 = 1#1), ∀ a, (k0_off305 i v95 v102) a + S1024.size a ≤ S4194304.size a) ∧
  (∀ (k0_h222 : k0_cond222 i v95 v102 = 1#1), ∀ (k0_h236 : k0_cond236 i v95 v102 = 1#1), ∀ a, (k0_off306 i v95 v102) a + S512.size a ≤ S4194304.size a) ∧
  (∀ (k0_h222 : k0_cond222 i v95 v102 = 1#1), ∀ (k0_h237 : k0_cond237 i v95 v102 = 1#1), ∀ a, (k0_off307 i v95 v102) a + S256.size a ≤ S4194304.size a) ∧
  (∀ (k0_h222 : k0_cond222 i v95 v102 = 1#1), ∀ (k0_h238 : k0_cond238 i v95 v102 = 1#1), ∀ a, (k0_off308 i v95 v102) a + S128.size a ≤ S4194304.size a)
theorem k0_t79_ok : ∀ (i : grid0.Coords) (v95 : BitVec 32) (v102 : BitVec 32) (k0_hw14 : k0_chk14 i v95 v102), ∀ (k0_h222 : k0_cond222 i v95 v102 = 1#1), (k0_t79_loop i v95 v102).OK := fun i v95 v102 k0_hw14 k0_h222 => k0_hw14.1 k0_h222
theorem k0_off287_inb : ∀ (i : grid0.Coords) (v95 : BitVec 32) (v102 : BitVec 32) (k0_hw14 : k0_chk14 i v95 v102) (k0_t79 : Fin (k0_t79_loop i v95 v102).trips), ∀ (k0_h222 : k0_cond222 i v95 v102 = 1#1), ∀ (r : Fin 16), ∀ a, (k0_off287 i v95 v102 k0_t79 (BitVec.ofNat 32 (16 * r.val))) a + S16.size a ≤ S32768.size a := fun i v95 v102 k0_hw14 k0_t79 k0_h222 r => k0_hw14.2.1 k0_t79 k0_h222 r
theorem k0_t80_ok : ∀ (i : grid0.Coords) (v95 : BitVec 32) (v102 : BitVec 32) (k0_hw14 : k0_chk14 i v95 v102), ∀ (k0_h222 : k0_cond222 i v95 v102 = 1#1), (k0_t80_loop i v95 v102).OK := fun i v95 v102 k0_hw14 k0_h222 => k0_hw14.2.2.1 k0_h222
theorem k0_off288_inb : ∀ (i : grid0.Coords) (v95 : BitVec 32) (v102 : BitVec 32) (k0_hw14 : k0_chk14 i v95 v102) (k0_t80 : Fin (k0_t80_loop i v95 v102).trips), ∀ (k0_h222 : k0_cond222 i v95 v102 = 1#1), ∀ (r : Fin 16), ∀ a, (k0_off288 i v95 v102 k0_t80 (BitVec.ofNat 32 (16 * r.val))) a + S16.size a ≤ S32768.size a := fun i v95 v102 k0_hw14 k0_t80 k0_h222 r => k0_hw14.2.2.2.1 k0_t80 k0_h222 r
theorem k0_t81_ok : ∀ (i : grid0.Coords) (v95 : BitVec 32) (v102 : BitVec 32) (k0_hw14 : k0_chk14 i v95 v102), ∀ (k0_h222 : k0_cond222 i v95 v102 = 1#1), (k0_t81_loop i v95 v102).OK := fun i v95 v102 k0_hw14 k0_h222 => k0_hw14.2.2.2.2.1 k0_h222
theorem k0_off289_inb : ∀ (i : grid0.Coords) (v95 : BitVec 32) (v102 : BitVec 32) (k0_hw14 : k0_chk14 i v95 v102) (k0_t81 : Fin (k0_t81_loop i v95 v102).trips), ∀ (k0_h222 : k0_cond222 i v95 v102 = 1#1), ∀ a, (k0_off289 i v95 v102 k0_t81) a + S32768.size a ≤ S4194304.size a := fun i v95 v102 k0_hw14 k0_t81 k0_h222 => k0_hw14.2.2.2.2.2.1 k0_t81 k0_h222
theorem k0_t82_ok : ∀ (i : grid0.Coords) (v95 : BitVec 32) (v102 : BitVec 32) (k0_hw14 : k0_chk14 i v95 v102), ∀ (k0_h222 : k0_cond222 i v95 v102 = 1#1), (k0_t82_loop i v95 v102).OK := fun i v95 v102 k0_hw14 k0_h222 => k0_hw14.2.2.2.2.2.2.1 k0_h222
theorem k0_off290_inb : ∀ (i : grid0.Coords) (v95 : BitVec 32) (v102 : BitVec 32) (k0_hw14 : k0_chk14 i v95 v102) (k0_t82 : Fin (k0_t82_loop i v95 v102).trips), ∀ (k0_h222 : k0_cond222 i v95 v102 = 1#1), ∀ a, (k0_off290 i v95 v102 k0_t82) a + S32768.size a ≤ S4194304.size a := fun i v95 v102 k0_hw14 k0_t82 k0_h222 => k0_hw14.2.2.2.2.2.2.2.1 k0_t82 k0_h222
theorem k0_off291_inb : ∀ (i : grid0.Coords) (v95 : BitVec 32) (v102 : BitVec 32) (k0_hw14 : k0_chk14 i v95 v102), ∀ (k0_h222 : k0_cond222 i v95 v102 = 1#1), ∀ (k0_h223 : k0_cond223 i v95 v102 = 1#1), ∀ a, (k0_off291 i v95 v102) a + S16384.size a ≤ S4194304.size a := fun i v95 v102 k0_hw14 k0_h222 k0_h223 => k0_hw14.2.2.2.2.2.2.2.2.1 k0_h222 k0_h223
theorem k0_off292_inb : ∀ (i : grid0.Coords) (v95 : BitVec 32) (v102 : BitVec 32) (k0_hw14 : k0_chk14 i v95 v102), ∀ (k0_h222 : k0_cond222 i v95 v102 = 1#1), ∀ (k0_h224 : k0_cond224 i v95 v102 = 1#1), ∀ a, (k0_off292 i v95 v102) a + S8192.size a ≤ S4194304.size a := fun i v95 v102 k0_hw14 k0_h222 k0_h224 => k0_hw14.2.2.2.2.2.2.2.2.2.1 k0_h222 k0_h224
theorem k0_off293_inb : ∀ (i : grid0.Coords) (v95 : BitVec 32) (v102 : BitVec 32) (k0_hw14 : k0_chk14 i v95 v102), ∀ (k0_h222 : k0_cond222 i v95 v102 = 1#1), ∀ (k0_h225 : k0_cond225 i v95 v102 = 1#1), ∀ a, (k0_off293 i v95 v102) a + S4096.size a ≤ S4194304.size a := fun i v95 v102 k0_hw14 k0_h222 k0_h225 => k0_hw14.2.2.2.2.2.2.2.2.2.2.1 k0_h222 k0_h225
theorem k0_off294_inb : ∀ (i : grid0.Coords) (v95 : BitVec 32) (v102 : BitVec 32) (k0_hw14 : k0_chk14 i v95 v102), ∀ (k0_h222 : k0_cond222 i v95 v102 = 1#1), ∀ (k0_h226 : k0_cond226 i v95 v102 = 1#1), ∀ a, (k0_off294 i v95 v102) a + S2048.size a ≤ S4194304.size a := fun i v95 v102 k0_hw14 k0_h222 k0_h226 => k0_hw14.2.2.2.2.2.2.2.2.2.2.2.1 k0_h222 k0_h226
theorem k0_off295_inb : ∀ (i : grid0.Coords) (v95 : BitVec 32) (v102 : BitVec 32) (k0_hw14 : k0_chk14 i v95 v102), ∀ (k0_h222 : k0_cond222 i v95 v102 = 1#1), ∀ (k0_h227 : k0_cond227 i v95 v102 = 1#1), ∀ a, (k0_off295 i v95 v102) a + S1024.size a ≤ S4194304.size a := fun i v95 v102 k0_hw14 k0_h222 k0_h227 => k0_hw14.2.2.2.2.2.2.2.2.2.2.2.2.1 k0_h222 k0_h227
theorem k0_off296_inb : ∀ (i : grid0.Coords) (v95 : BitVec 32) (v102 : BitVec 32) (k0_hw14 : k0_chk14 i v95 v102), ∀ (k0_h222 : k0_cond222 i v95 v102 = 1#1), ∀ (k0_h228 : k0_cond228 i v95 v102 = 1#1), ∀ a, (k0_off296 i v95 v102) a + S512.size a ≤ S4194304.size a := fun i v95 v102 k0_hw14 k0_h222 k0_h228 => k0_hw14.2.2.2.2.2.2.2.2.2.2.2.2.2.1 k0_h222 k0_h228
theorem k0_off297_inb : ∀ (i : grid0.Coords) (v95 : BitVec 32) (v102 : BitVec 32) (k0_hw14 : k0_chk14 i v95 v102), ∀ (k0_h222 : k0_cond222 i v95 v102 = 1#1), ∀ (k0_h229 : k0_cond229 i v95 v102 = 1#1), ∀ a, (k0_off297 i v95 v102) a + S256.size a ≤ S4194304.size a := fun i v95 v102 k0_hw14 k0_h222 k0_h229 => k0_hw14.2.2.2.2.2.2.2.2.2.2.2.2.2.2.1 k0_h222 k0_h229
theorem k0_off298_inb : ∀ (i : grid0.Coords) (v95 : BitVec 32) (v102 : BitVec 32) (k0_hw14 : k0_chk14 i v95 v102), ∀ (k0_h222 : k0_cond222 i v95 v102 = 1#1), ∀ (k0_h230 : k0_cond230 i v95 v102 = 1#1), ∀ a, (k0_off298 i v95 v102) a + S128.size a ≤ S4194304.size a := fun i v95 v102 k0_hw14 k0_h222 k0_h230 => k0_hw14.2.2.2.2.2.2.2.2.2.2.2.2.2.2.2.1 k0_h222 k0_h230
theorem k0_t83_ok : ∀ (i : grid0.Coords) (v95 : BitVec 32) (v102 : BitVec 32) (k0_hw14 : k0_chk14 i v95 v102), ∀ (k0_h222 : k0_cond222 i v95 v102 = 1#1), (k0_t83_loop i v95 v102).OK := fun i v95 v102 k0_hw14 k0_h222 => k0_hw14.2.2.2.2.2.2.2.2.2.2.2.2.2.2.2.2.1 k0_h222
theorem k0_off299_inb : ∀ (i : grid0.Coords) (v95 : BitVec 32) (v102 : BitVec 32) (k0_hw14 : k0_chk14 i v95 v102) (k0_t83 : Fin (k0_t83_loop i v95 v102).trips), ∀ (k0_h222 : k0_cond222 i v95 v102 = 1#1), ∀ a, (k0_off299 i v95 v102 k0_t83) a + S32768.size a ≤ S4194304.size a := fun i v95 v102 k0_hw14 k0_t83 k0_h222 => k0_hw14.2.2.2.2.2.2.2.2.2.2.2.2.2.2.2.2.2.1 k0_t83 k0_h222
theorem k0_t84_ok : ∀ (i : grid0.Coords) (v95 : BitVec 32) (v102 : BitVec 32) (k0_hw14 : k0_chk14 i v95 v102), ∀ (k0_h222 : k0_cond222 i v95 v102 = 1#1), (k0_t84_loop i v95 v102).OK := fun i v95 v102 k0_hw14 k0_h222 => k0_hw14.2.2.2.2.2.2.2.2.2.2.2.2.2.2.2.2.2.2.1 k0_h222
theorem k0_off300_inb : ∀ (i : grid0.Coords) (v95 : BitVec 32) (v102 : BitVec 32) (k0_hw14 : k0_chk14 i v95 v102) (k0_t84 : Fin (k0_t84_loop i v95 v102).trips), ∀ (k0_h222 : k0_cond222 i v95 v102 = 1#1), ∀ a, (k0_off300 i v95 v102 k0_t84) a + S32768.size a ≤ S4194304.size a := fun i v95 v102 k0_hw14 k0_t84 k0_h222 => k0_hw14.2.2.2.2.2.2.2.2.2.2.2.2.2.2.2.2.2.2.2.1 k0_t84 k0_h222
theorem k0_off301_inb : ∀ (i : grid0.Coords) (v95 : BitVec 32) (v102 : BitVec 32) (k0_hw14 : k0_chk14 i v95 v102), ∀ (k0_h222 : k0_cond222 i v95 v102 = 1#1), ∀ (k0_h231 : k0_cond231 i v95 v102 = 1#1), ∀ a, (k0_off301 i v95 v102) a + S16384.size a ≤ S4194304.size a := fun i v95 v102 k0_hw14 k0_h222 k0_h231 => k0_hw14.2.2.2.2.2.2.2.2.2.2.2.2.2.2.2.2.2.2.2.2.1 k0_h222 k0_h231
theorem k0_off302_inb : ∀ (i : grid0.Coords) (v95 : BitVec 32) (v102 : BitVec 32) (k0_hw14 : k0_chk14 i v95 v102), ∀ (k0_h222 : k0_cond222 i v95 v102 = 1#1), ∀ (k0_h232 : k0_cond232 i v95 v102 = 1#1), ∀ a, (k0_off302 i v95 v102) a + S8192.size a ≤ S4194304.size a := fun i v95 v102 k0_hw14 k0_h222 k0_h232 => k0_hw14.2.2.2.2.2.2.2.2.2.2.2.2.2.2.2.2.2.2.2.2.2.1 k0_h222 k0_h232
theorem k0_off303_inb : ∀ (i : grid0.Coords) (v95 : BitVec 32) (v102 : BitVec 32) (k0_hw14 : k0_chk14 i v95 v102), ∀ (k0_h222 : k0_cond222 i v95 v102 = 1#1), ∀ (k0_h233 : k0_cond233 i v95 v102 = 1#1), ∀ a, (k0_off303 i v95 v102) a + S4096.size a ≤ S4194304.size a := fun i v95 v102 k0_hw14 k0_h222 k0_h233 => k0_hw14.2.2.2.2.2.2.2.2.2.2.2.2.2.2.2.2.2.2.2.2.2.2.1 k0_h222 k0_h233
theorem k0_off304_inb : ∀ (i : grid0.Coords) (v95 : BitVec 32) (v102 : BitVec 32) (k0_hw14 : k0_chk14 i v95 v102), ∀ (k0_h222 : k0_cond222 i v95 v102 = 1#1), ∀ (k0_h234 : k0_cond234 i v95 v102 = 1#1), ∀ a, (k0_off304 i v95 v102) a + S2048.size a ≤ S4194304.size a := fun i v95 v102 k0_hw14 k0_h222 k0_h234 => k0_hw14.2.2.2.2.2.2.2.2.2.2.2.2.2.2.2.2.2.2.2.2.2.2.2.1 k0_h222 k0_h234
theorem k0_off305_inb : ∀ (i : grid0.Coords) (v95 : BitVec 32) (v102 : BitVec 32) (k0_hw14 : k0_chk14 i v95 v102), ∀ (k0_h222 : k0_cond222 i v95 v102 = 1#1), ∀ (k0_h235 : k0_cond235 i v95 v102 = 1#1), ∀ a, (k0_off305 i v95 v102) a + S1024.size a ≤ S4194304.size a := fun i v95 v102 k0_hw14 k0_h222 k0_h235 => k0_hw14.2.2.2.2.2.2.2.2.2.2.2.2.2.2.2.2.2.2.2.2.2.2.2.2.1 k0_h222 k0_h235
theorem k0_off306_inb : ∀ (i : grid0.Coords) (v95 : BitVec 32) (v102 : BitVec 32) (k0_hw14 : k0_chk14 i v95 v102), ∀ (k0_h222 : k0_cond222 i v95 v102 = 1#1), ∀ (k0_h236 : k0_cond236 i v95 v102 = 1#1), ∀ a, (k0_off306 i v95 v102) a + S512.size a ≤ S4194304.size a := fun i v95 v102 k0_hw14 k0_h222 k0_h236 => k0_hw14.2.2.2.2.2.2.2.2.2.2.2.2.2.2.2.2.2.2.2.2.2.2.2.2.2.1 k0_h222 k0_h236
theorem k0_off307_inb : ∀ (i : grid0.Coords) (v95 : BitVec 32) (v102 : BitVec 32) (k0_hw14 : k0_chk14 i v95 v102), ∀ (k0_h222 : k0_cond222 i v95 v102 = 1#1), ∀ (k0_h237 : k0_cond237 i v95 v102 = 1#1), ∀ a, (k0_off307 i v95 v102) a + S256.size a ≤ S4194304.size a := fun i v95 v102 k0_hw14 k0_h222 k0_h237 => k0_hw14.2.2.2.2.2.2.2.2.2.2.2.2.2.2.2.2.2.2.2.2.2.2.2.2.2.2.1 k0_h222 k0_h237
theorem k0_off308_inb : ∀ (i : grid0.Coords) (v95 : BitVec 32) (v102 : BitVec 32) (k0_hw14 : k0_chk14 i v95 v102), ∀ (k0_h222 : k0_cond222 i v95 v102 = 1#1), ∀ (k0_h238 : k0_cond238 i v95 v102 = 1#1), ∀ a, (k0_off308 i v95 v102) a + S128.size a ≤ S4194304.size a := fun i v95 v102 k0_hw14 k0_h222 k0_h238 => k0_hw14.2.2.2.2.2.2.2.2.2.2.2.2.2.2.2.2.2.2.2.2.2.2.2.2.2.2.2 k0_h222 k0_h238

@[reducible] def k0_t85_loop (i : grid0.Coords) (v102 : BitVec 32) (v109 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond239 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v112 : BitVec 1 := Scalar.cmpi .sgt v111 v110
  let v113 : BitVec 32 := Scalar.extui v112
  let c0_i32_14 : BitVec 32 := 0#32
  let v114 : BitVec 1 := Scalar.cmpi .ne v113 c0_i32_14
  v114

def k0_off309 (i : grid0.Coords) (v102 : BitVec 32) (v109 : BitVec 32) (k0_t85 : Fin (k0_t85_loop i v102 v109).trips) (c0_i32_97 : BitVec 32) : Fin 1 → Nat :=
  let c0_i32_24 : BitVec 32 := 0#32
  let c1_i32_26 : BitVec 32 := 1#32
  let arg17 : BitVec 32 := Scf.iv c0_i32_24 c1_i32_26 k0_t85
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t86_loop (i : grid0.Coords) (v102 : BitVec 32) (v109 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off310 (i : grid0.Coords) (v102 : BitVec 32) (v109 : BitVec 32) (k0_t86 : Fin (k0_t86_loop i v102 v109).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t86
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t87_loop (i : grid0.Coords) (v102 : BitVec 32) (v109 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off311 (i : grid0.Coords) (v102 : BitVec 32) (v109 : BitVec 32) (k0_t87 : Fin (k0_t87_loop i v102 v109).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c0_i32_35 : BitVec 32 := 0#32
  let c1_i32_37 : BitVec 32 := 1#32
  let arg17 : BitVec 32 := Scf.iv c0_i32_35 c1_i32_37 k0_t87
  let c256_i32_95 : BitVec 32 := 256#32
  let v286 : BitVec 32 := Scalar.muli arg17 c256_i32_95
  let v287 : BitVec 32 := Scalar.addi v110 v286
  let c128_i32_96 : BitVec 32 := 128#32
  let v288 : BitVec 32 := Scalar.muli v287 c128_i32_96
  ![v288.toNat]
@[reducible] def k0_t88_loop (i : grid0.Coords) (v102 : BitVec 32) (v109 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off312 (i : grid0.Coords) (v102 : BitVec 32) (v109 : BitVec 32) (k0_t88 : Fin (k0_t88_loop i v102 v109).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c0_i32_35 : BitVec 32 := 0#32
  let c1024_i32_0 : BitVec 32 := 1024#32
  let v3 : BitVec 32 := Scalar.addi v2 c1024_i32_0
  let v111 : BitVec 32 := Scalar.minsi v109 v3
  let v138 : BitVec 32 := Scalar.subi v111 v110
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t88
  let c256_i32_95 : BitVec 32 := 256#32
  let v286 : BitVec 32 := Scalar.muli arg17 c256_i32_95
  let v287 : BitVec 32 := Scalar.addi v110 v286
  let c128_i32_96 : BitVec 32 := 128#32
  let v288 : BitVec 32 := Scalar.muli v287 c128_i32_96
  ![v288.toNat]
def k0_off313 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m256_i32 : BitVec 32 := 4294967040#32
  let v185 : BitVec 32 := Scalar.andi v138 c_m256_i32
  let v186 : BitVec 32 := Scalar.addi v110 v185
  let c128_i32_95 : BitVec 32 := 128#32
  let v286 : BitVec 32 := Scalar.muli v186 c128_i32_95
  ![v286.toNat]
def k0_cond240 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off314 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m128_i32 : BitVec 32 := 4294967168#32
  let v191 : BitVec 32 := Scalar.andi v138 c_m128_i32
  let v192 : BitVec 32 := Scalar.addi v110 v191
  let c128_i32_95 : BitVec 32 := 128#32
  let v286 : BitVec 32 := Scalar.muli v192 c128_i32_95
  ![v286.toNat]
def k0_cond241 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off315 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m64_i32 : BitVec 32 := 4294967232#32
  let v197 : BitVec 32 := Scalar.andi v138 c_m64_i32
  let v198 : BitVec 32 := Scalar.addi v110 v197
  let c128_i32_95 : BitVec 32 := 128#32
  let v286 : BitVec 32 := Scalar.muli v198 c128_i32_95
  ![v286.toNat]
def k0_cond242 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off316 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m32_i32 : BitVec 32 := 4294967264#32
  let v203 : BitVec 32 := Scalar.andi v138 c_m32_i32
  let v204 : BitVec 32 := Scalar.addi v110 v203
  let c128_i32_95 : BitVec 32 := 128#32
  let v286 : BitVec 32 := Scalar.muli v204 c128_i32_95
  ![v286.toNat]
def k0_cond243 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off317 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m16_i32 : BitVec 32 := 4294967280#32
  let v209 : BitVec 32 := Scalar.andi v138 c_m16_i32
  let v210 : BitVec 32 := Scalar.addi v110 v209
  let c128_i32_95 : BitVec 32 := 128#32
  let v286 : BitVec 32 := Scalar.muli v210 c128_i32_95
  ![v286.toNat]
def k0_cond244 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off318 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m8_i32 : BitVec 32 := 4294967288#32
  let v215 : BitVec 32 := Scalar.andi v138 c_m8_i32
  let v216 : BitVec 32 := Scalar.addi v110 v215
  let c128_i32_95 : BitVec 32 := 128#32
  let v286 : BitVec 32 := Scalar.muli v216 c128_i32_95
  ![v286.toNat]
def k0_cond245 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off319 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m4_i32 : BitVec 32 := 4294967292#32
  let v221 : BitVec 32 := Scalar.andi v138 c_m4_i32
  let v222 : BitVec 32 := Scalar.addi v110 v221
  let c128_i32_95 : BitVec 32 := 128#32
  let v286 : BitVec 32 := Scalar.muli v222 c128_i32_95
  ![v286.toNat]
def k0_cond246 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off320 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m2_i32 : BitVec 32 := 4294967294#32
  let v227 : BitVec 32 := Scalar.andi v138 c_m2_i32
  let v228 : BitVec 32 := Scalar.addi v110 v227
  let c128_i32_95 : BitVec 32 := 128#32
  let v286 : BitVec 32 := Scalar.muli v228 c128_i32_95
  ![v286.toNat]
def k0_cond247 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t89_loop (i : grid0.Coords) (v102 : BitVec 32) (v109 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off321 (i : grid0.Coords) (v102 : BitVec 32) (v109 : BitVec 32) (k0_t89 : Fin (k0_t89_loop i v102 v109).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c0_i32_59 : BitVec 32 := 0#32
  let c1_i32_61 : BitVec 32 := 1#32
  let arg17 : BitVec 32 := Scf.iv c0_i32_59 c1_i32_61 k0_t89
  let c256_i32_95 : BitVec 32 := 256#32
  let v286 : BitVec 32 := Scalar.muli arg17 c256_i32_95
  let v287 : BitVec 32 := Scalar.addi v110 v286
  let c128_i32_96 : BitVec 32 := 128#32
  let v288 : BitVec 32 := Scalar.muli v287 c128_i32_96
  ![v288.toNat]
@[reducible] def k0_t90_loop (i : grid0.Coords) (v102 : BitVec 32) (v109 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off322 (i : grid0.Coords) (v102 : BitVec 32) (v109 : BitVec 32) (k0_t90 : Fin (k0_t90_loop i v102 v109).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c0_i32_59 : BitVec 32 := 0#32
  let c1024_i32_0 : BitVec 32 := 1024#32
  let v3 : BitVec 32 := Scalar.addi v2 c1024_i32_0
  let v111 : BitVec 32 := Scalar.minsi v109 v3
  let v138 : BitVec 32 := Scalar.subi v111 v110
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t90
  let c256_i32_95 : BitVec 32 := 256#32
  let v286 : BitVec 32 := Scalar.muli arg17 c256_i32_95
  let v287 : BitVec 32 := Scalar.addi v110 v286
  let c128_i32_96 : BitVec 32 := 128#32
  let v288 : BitVec 32 := Scalar.muli v287 c128_i32_96
  ![v288.toNat]
def k0_off323 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m256_i32_63 : BitVec 32 := 4294967040#32
  let v238 : BitVec 32 := Scalar.andi v138 c_m256_i32_63
  let v239 : BitVec 32 := Scalar.addi v110 v238
  let c128_i32_95 : BitVec 32 := 128#32
  let v286 : BitVec 32 := Scalar.muli v239 c128_i32_95
  ![v286.toNat]
def k0_cond248 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off324 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m128_i32_67 : BitVec 32 := 4294967168#32
  let v244 : BitVec 32 := Scalar.andi v138 c_m128_i32_67
  let v245 : BitVec 32 := Scalar.addi v110 v244
  let c128_i32_95 : BitVec 32 := 128#32
  let v286 : BitVec 32 := Scalar.muli v245 c128_i32_95
  ![v286.toNat]
def k0_cond249 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off325 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m64_i32_71 : BitVec 32 := 4294967232#32
  let v250 : BitVec 32 := Scalar.andi v138 c_m64_i32_71
  let v251 : BitVec 32 := Scalar.addi v110 v250
  let c128_i32_95 : BitVec 32 := 128#32
  let v286 : BitVec 32 := Scalar.muli v251 c128_i32_95
  ![v286.toNat]
def k0_cond250 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off326 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m32_i32_75 : BitVec 32 := 4294967264#32
  let v256 : BitVec 32 := Scalar.andi v138 c_m32_i32_75
  let v257 : BitVec 32 := Scalar.addi v110 v256
  let c128_i32_95 : BitVec 32 := 128#32
  let v286 : BitVec 32 := Scalar.muli v257 c128_i32_95
  ![v286.toNat]
def k0_cond251 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off327 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m16_i32_79 : BitVec 32 := 4294967280#32
  let v262 : BitVec 32 := Scalar.andi v138 c_m16_i32_79
  let v263 : BitVec 32 := Scalar.addi v110 v262
  let c128_i32_95 : BitVec 32 := 128#32
  let v286 : BitVec 32 := Scalar.muli v263 c128_i32_95
  ![v286.toNat]
def k0_cond252 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off328 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m8_i32_83 : BitVec 32 := 4294967288#32
  let v268 : BitVec 32 := Scalar.andi v138 c_m8_i32_83
  let v269 : BitVec 32 := Scalar.addi v110 v268
  let c128_i32_95 : BitVec 32 := 128#32
  let v286 : BitVec 32 := Scalar.muli v269 c128_i32_95
  ![v286.toNat]
def k0_cond253 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off329 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m4_i32_87 : BitVec 32 := 4294967292#32
  let v274 : BitVec 32 := Scalar.andi v138 c_m4_i32_87
  let v275 : BitVec 32 := Scalar.addi v110 v274
  let c128_i32_95 : BitVec 32 := 128#32
  let v286 : BitVec 32 := Scalar.muli v275 c128_i32_95
  ![v286.toNat]
def k0_cond254 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off330 (i : grid0.Coords) (v102 : BitVec 32) (v109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v110 : BitVec 32 := Scalar.maxsi v102 v2
  let c1024_i32_0 : BitVec 32 := 1024#32
  let v3 : BitVec 32 := Scalar.addi v2 c1024_i32_0
  let v111 : BitVec 32 := Scalar.minsi v109 v3
  let v138 : BitVec 32 := Scalar.subi v111 v110
  let c_m2_i32_91 : BitVec 32 := 4294967294#32
  let v280 : BitVec 32 := Scalar.andi v138 c_m2_i32_91
  let v281 : BitVec 32 := Scalar.addi v110 v280
  let c128_i32_95 : BitVec 32 := 128#32
  let v286 : BitVec 32 := Scalar.muli v281 c128_i32_95
  ![v286.toNat]
def k0_cond255 (i : grid0.Coords) (v102 : BitVec 32) (v109 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v111 : BitVec 32 := Scalar.minsi v109 v3
  let v110 : BitVec 32 := Scalar.maxsi v102 v2
  let v138 : BitVec 32 := Scalar.subi v111 v110
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk15 (i : grid0.Coords) (v102 : BitVec 32) (v109 : BitVec 32) : Prop :=
  (∀ (k0_h239 : k0_cond239 i v102 v109 = 1#1), (k0_t85_loop i v102 v109).OK) ∧
  (∀ k0_t85 : Fin (k0_t85_loop i v102 v109).trips, ∀ (k0_h239 : k0_cond239 i v102 v109 = 1#1), ∀ (r : Fin 16), ∀ a, (k0_off309 i v102 v109 k0_t85 (BitVec.ofNat 32 (16 * r.val))) a + S16.size a ≤ S32768.size a) ∧
  (∀ (k0_h239 : k0_cond239 i v102 v109 = 1#1), (k0_t86_loop i v102 v109).OK) ∧
  (∀ k0_t86 : Fin (k0_t86_loop i v102 v109).trips, ∀ (k0_h239 : k0_cond239 i v102 v109 = 1#1), ∀ (r : Fin 16), ∀ a, (k0_off310 i v102 v109 k0_t86 (BitVec.ofNat 32 (16 * r.val))) a + S16.size a ≤ S32768.size a) ∧
  (∀ (k0_h239 : k0_cond239 i v102 v109 = 1#1), (k0_t87_loop i v102 v109).OK) ∧
  (∀ k0_t87 : Fin (k0_t87_loop i v102 v109).trips, ∀ (k0_h239 : k0_cond239 i v102 v109 = 1#1), ∀ a, (k0_off311 i v102 v109 k0_t87) a + S32768.size a ≤ S4194304.size a) ∧
  (∀ (k0_h239 : k0_cond239 i v102 v109 = 1#1), (k0_t88_loop i v102 v109).OK) ∧
  (∀ k0_t88 : Fin (k0_t88_loop i v102 v109).trips, ∀ (k0_h239 : k0_cond239 i v102 v109 = 1#1), ∀ a, (k0_off312 i v102 v109 k0_t88) a + S32768.size a ≤ S4194304.size a) ∧
  (∀ (k0_h239 : k0_cond239 i v102 v109 = 1#1), ∀ (k0_h240 : k0_cond240 i v102 v109 = 1#1), ∀ a, (k0_off313 i v102 v109) a + S16384.size a ≤ S4194304.size a) ∧
  (∀ (k0_h239 : k0_cond239 i v102 v109 = 1#1), ∀ (k0_h241 : k0_cond241 i v102 v109 = 1#1), ∀ a, (k0_off314 i v102 v109) a + S8192.size a ≤ S4194304.size a) ∧
  (∀ (k0_h239 : k0_cond239 i v102 v109 = 1#1), ∀ (k0_h242 : k0_cond242 i v102 v109 = 1#1), ∀ a, (k0_off315 i v102 v109) a + S4096.size a ≤ S4194304.size a) ∧
  (∀ (k0_h239 : k0_cond239 i v102 v109 = 1#1), ∀ (k0_h243 : k0_cond243 i v102 v109 = 1#1), ∀ a, (k0_off316 i v102 v109) a + S2048.size a ≤ S4194304.size a) ∧
  (∀ (k0_h239 : k0_cond239 i v102 v109 = 1#1), ∀ (k0_h244 : k0_cond244 i v102 v109 = 1#1), ∀ a, (k0_off317 i v102 v109) a + S1024.size a ≤ S4194304.size a) ∧
  (∀ (k0_h239 : k0_cond239 i v102 v109 = 1#1), ∀ (k0_h245 : k0_cond245 i v102 v109 = 1#1), ∀ a, (k0_off318 i v102 v109) a + S512.size a ≤ S4194304.size a) ∧
  (∀ (k0_h239 : k0_cond239 i v102 v109 = 1#1), ∀ (k0_h246 : k0_cond246 i v102 v109 = 1#1), ∀ a, (k0_off319 i v102 v109) a + S256.size a ≤ S4194304.size a) ∧
  (∀ (k0_h239 : k0_cond239 i v102 v109 = 1#1), ∀ (k0_h247 : k0_cond247 i v102 v109 = 1#1), ∀ a, (k0_off320 i v102 v109) a + S128.size a ≤ S4194304.size a) ∧
  (∀ (k0_h239 : k0_cond239 i v102 v109 = 1#1), (k0_t89_loop i v102 v109).OK) ∧
  (∀ k0_t89 : Fin (k0_t89_loop i v102 v109).trips, ∀ (k0_h239 : k0_cond239 i v102 v109 = 1#1), ∀ a, (k0_off321 i v102 v109 k0_t89) a + S32768.size a ≤ S4194304.size a) ∧
  (∀ (k0_h239 : k0_cond239 i v102 v109 = 1#1), (k0_t90_loop i v102 v109).OK) ∧
  (∀ k0_t90 : Fin (k0_t90_loop i v102 v109).trips, ∀ (k0_h239 : k0_cond239 i v102 v109 = 1#1), ∀ a, (k0_off322 i v102 v109 k0_t90) a + S32768.size a ≤ S4194304.size a) ∧
  (∀ (k0_h239 : k0_cond239 i v102 v109 = 1#1), ∀ (k0_h248 : k0_cond248 i v102 v109 = 1#1), ∀ a, (k0_off323 i v102 v109) a + S16384.size a ≤ S4194304.size a) ∧
  (∀ (k0_h239 : k0_cond239 i v102 v109 = 1#1), ∀ (k0_h249 : k0_cond249 i v102 v109 = 1#1), ∀ a, (k0_off324 i v102 v109) a + S8192.size a ≤ S4194304.size a) ∧
  (∀ (k0_h239 : k0_cond239 i v102 v109 = 1#1), ∀ (k0_h250 : k0_cond250 i v102 v109 = 1#1), ∀ a, (k0_off325 i v102 v109) a + S4096.size a ≤ S4194304.size a) ∧
  (∀ (k0_h239 : k0_cond239 i v102 v109 = 1#1), ∀ (k0_h251 : k0_cond251 i v102 v109 = 1#1), ∀ a, (k0_off326 i v102 v109) a + S2048.size a ≤ S4194304.size a) ∧
  (∀ (k0_h239 : k0_cond239 i v102 v109 = 1#1), ∀ (k0_h252 : k0_cond252 i v102 v109 = 1#1), ∀ a, (k0_off327 i v102 v109) a + S1024.size a ≤ S4194304.size a) ∧
  (∀ (k0_h239 : k0_cond239 i v102 v109 = 1#1), ∀ (k0_h253 : k0_cond253 i v102 v109 = 1#1), ∀ a, (k0_off328 i v102 v109) a + S512.size a ≤ S4194304.size a) ∧
  (∀ (k0_h239 : k0_cond239 i v102 v109 = 1#1), ∀ (k0_h254 : k0_cond254 i v102 v109 = 1#1), ∀ a, (k0_off329 i v102 v109) a + S256.size a ≤ S4194304.size a) ∧
  (∀ (k0_h239 : k0_cond239 i v102 v109 = 1#1), ∀ (k0_h255 : k0_cond255 i v102 v109 = 1#1), ∀ a, (k0_off330 i v102 v109) a + S128.size a ≤ S4194304.size a)
theorem k0_t85_ok : ∀ (i : grid0.Coords) (v102 : BitVec 32) (v109 : BitVec 32) (k0_hw15 : k0_chk15 i v102 v109), ∀ (k0_h239 : k0_cond239 i v102 v109 = 1#1), (k0_t85_loop i v102 v109).OK := fun i v102 v109 k0_hw15 k0_h239 => k0_hw15.1 k0_h239
theorem k0_off309_inb : ∀ (i : grid0.Coords) (v102 : BitVec 32) (v109 : BitVec 32) (k0_hw15 : k0_chk15 i v102 v109) (k0_t85 : Fin (k0_t85_loop i v102 v109).trips), ∀ (k0_h239 : k0_cond239 i v102 v109 = 1#1), ∀ (r : Fin 16), ∀ a, (k0_off309 i v102 v109 k0_t85 (BitVec.ofNat 32 (16 * r.val))) a + S16.size a ≤ S32768.size a := fun i v102 v109 k0_hw15 k0_t85 k0_h239 r => k0_hw15.2.1 k0_t85 k0_h239 r
theorem k0_t86_ok : ∀ (i : grid0.Coords) (v102 : BitVec 32) (v109 : BitVec 32) (k0_hw15 : k0_chk15 i v102 v109), ∀ (k0_h239 : k0_cond239 i v102 v109 = 1#1), (k0_t86_loop i v102 v109).OK := fun i v102 v109 k0_hw15 k0_h239 => k0_hw15.2.2.1 k0_h239
theorem k0_off310_inb : ∀ (i : grid0.Coords) (v102 : BitVec 32) (v109 : BitVec 32) (k0_hw15 : k0_chk15 i v102 v109) (k0_t86 : Fin (k0_t86_loop i v102 v109).trips), ∀ (k0_h239 : k0_cond239 i v102 v109 = 1#1), ∀ (r : Fin 16), ∀ a, (k0_off310 i v102 v109 k0_t86 (BitVec.ofNat 32 (16 * r.val))) a + S16.size a ≤ S32768.size a := fun i v102 v109 k0_hw15 k0_t86 k0_h239 r => k0_hw15.2.2.2.1 k0_t86 k0_h239 r
theorem k0_t87_ok : ∀ (i : grid0.Coords) (v102 : BitVec 32) (v109 : BitVec 32) (k0_hw15 : k0_chk15 i v102 v109), ∀ (k0_h239 : k0_cond239 i v102 v109 = 1#1), (k0_t87_loop i v102 v109).OK := fun i v102 v109 k0_hw15 k0_h239 => k0_hw15.2.2.2.2.1 k0_h239
theorem k0_off311_inb : ∀ (i : grid0.Coords) (v102 : BitVec 32) (v109 : BitVec 32) (k0_hw15 : k0_chk15 i v102 v109) (k0_t87 : Fin (k0_t87_loop i v102 v109).trips), ∀ (k0_h239 : k0_cond239 i v102 v109 = 1#1), ∀ a, (k0_off311 i v102 v109 k0_t87) a + S32768.size a ≤ S4194304.size a := fun i v102 v109 k0_hw15 k0_t87 k0_h239 => k0_hw15.2.2.2.2.2.1 k0_t87 k0_h239
theorem k0_t88_ok : ∀ (i : grid0.Coords) (v102 : BitVec 32) (v109 : BitVec 32) (k0_hw15 : k0_chk15 i v102 v109), ∀ (k0_h239 : k0_cond239 i v102 v109 = 1#1), (k0_t88_loop i v102 v109).OK := fun i v102 v109 k0_hw15 k0_h239 => k0_hw15.2.2.2.2.2.2.1 k0_h239
theorem k0_off312_inb : ∀ (i : grid0.Coords) (v102 : BitVec 32) (v109 : BitVec 32) (k0_hw15 : k0_chk15 i v102 v109) (k0_t88 : Fin (k0_t88_loop i v102 v109).trips), ∀ (k0_h239 : k0_cond239 i v102 v109 = 1#1), ∀ a, (k0_off312 i v102 v109 k0_t88) a + S32768.size a ≤ S4194304.size a := fun i v102 v109 k0_hw15 k0_t88 k0_h239 => k0_hw15.2.2.2.2.2.2.2.1 k0_t88 k0_h239
theorem k0_off313_inb : ∀ (i : grid0.Coords) (v102 : BitVec 32) (v109 : BitVec 32) (k0_hw15 : k0_chk15 i v102 v109), ∀ (k0_h239 : k0_cond239 i v102 v109 = 1#1), ∀ (k0_h240 : k0_cond240 i v102 v109 = 1#1), ∀ a, (k0_off313 i v102 v109) a + S16384.size a ≤ S4194304.size a := fun i v102 v109 k0_hw15 k0_h239 k0_h240 => k0_hw15.2.2.2.2.2.2.2.2.1 k0_h239 k0_h240
theorem k0_off314_inb : ∀ (i : grid0.Coords) (v102 : BitVec 32) (v109 : BitVec 32) (k0_hw15 : k0_chk15 i v102 v109), ∀ (k0_h239 : k0_cond239 i v102 v109 = 1#1), ∀ (k0_h241 : k0_cond241 i v102 v109 = 1#1), ∀ a, (k0_off314 i v102 v109) a + S8192.size a ≤ S4194304.size a := fun i v102 v109 k0_hw15 k0_h239 k0_h241 => k0_hw15.2.2.2.2.2.2.2.2.2.1 k0_h239 k0_h241
theorem k0_off315_inb : ∀ (i : grid0.Coords) (v102 : BitVec 32) (v109 : BitVec 32) (k0_hw15 : k0_chk15 i v102 v109), ∀ (k0_h239 : k0_cond239 i v102 v109 = 1#1), ∀ (k0_h242 : k0_cond242 i v102 v109 = 1#1), ∀ a, (k0_off315 i v102 v109) a + S4096.size a ≤ S4194304.size a := fun i v102 v109 k0_hw15 k0_h239 k0_h242 => k0_hw15.2.2.2.2.2.2.2.2.2.2.1 k0_h239 k0_h242
theorem k0_off316_inb : ∀ (i : grid0.Coords) (v102 : BitVec 32) (v109 : BitVec 32) (k0_hw15 : k0_chk15 i v102 v109), ∀ (k0_h239 : k0_cond239 i v102 v109 = 1#1), ∀ (k0_h243 : k0_cond243 i v102 v109 = 1#1), ∀ a, (k0_off316 i v102 v109) a + S2048.size a ≤ S4194304.size a := fun i v102 v109 k0_hw15 k0_h239 k0_h243 => k0_hw15.2.2.2.2.2.2.2.2.2.2.2.1 k0_h239 k0_h243
theorem k0_off317_inb : ∀ (i : grid0.Coords) (v102 : BitVec 32) (v109 : BitVec 32) (k0_hw15 : k0_chk15 i v102 v109), ∀ (k0_h239 : k0_cond239 i v102 v109 = 1#1), ∀ (k0_h244 : k0_cond244 i v102 v109 = 1#1), ∀ a, (k0_off317 i v102 v109) a + S1024.size a ≤ S4194304.size a := fun i v102 v109 k0_hw15 k0_h239 k0_h244 => k0_hw15.2.2.2.2.2.2.2.2.2.2.2.2.1 k0_h239 k0_h244
theorem k0_off318_inb : ∀ (i : grid0.Coords) (v102 : BitVec 32) (v109 : BitVec 32) (k0_hw15 : k0_chk15 i v102 v109), ∀ (k0_h239 : k0_cond239 i v102 v109 = 1#1), ∀ (k0_h245 : k0_cond245 i v102 v109 = 1#1), ∀ a, (k0_off318 i v102 v109) a + S512.size a ≤ S4194304.size a := fun i v102 v109 k0_hw15 k0_h239 k0_h245 => k0_hw15.2.2.2.2.2.2.2.2.2.2.2.2.2.1 k0_h239 k0_h245
theorem k0_off319_inb : ∀ (i : grid0.Coords) (v102 : BitVec 32) (v109 : BitVec 32) (k0_hw15 : k0_chk15 i v102 v109), ∀ (k0_h239 : k0_cond239 i v102 v109 = 1#1), ∀ (k0_h246 : k0_cond246 i v102 v109 = 1#1), ∀ a, (k0_off319 i v102 v109) a + S256.size a ≤ S4194304.size a := fun i v102 v109 k0_hw15 k0_h239 k0_h246 => k0_hw15.2.2.2.2.2.2.2.2.2.2.2.2.2.2.1 k0_h239 k0_h246
theorem k0_off320_inb : ∀ (i : grid0.Coords) (v102 : BitVec 32) (v109 : BitVec 32) (k0_hw15 : k0_chk15 i v102 v109), ∀ (k0_h239 : k0_cond239 i v102 v109 = 1#1), ∀ (k0_h247 : k0_cond247 i v102 v109 = 1#1), ∀ a, (k0_off320 i v102 v109) a + S128.size a ≤ S4194304.size a := fun i v102 v109 k0_hw15 k0_h239 k0_h247 => k0_hw15.2.2.2.2.2.2.2.2.2.2.2.2.2.2.2.1 k0_h239 k0_h247
theorem k0_t89_ok : ∀ (i : grid0.Coords) (v102 : BitVec 32) (v109 : BitVec 32) (k0_hw15 : k0_chk15 i v102 v109), ∀ (k0_h239 : k0_cond239 i v102 v109 = 1#1), (k0_t89_loop i v102 v109).OK := fun i v102 v109 k0_hw15 k0_h239 => k0_hw15.2.2.2.2.2.2.2.2.2.2.2.2.2.2.2.2.1 k0_h239
theorem k0_off321_inb : ∀ (i : grid0.Coords) (v102 : BitVec 32) (v109 : BitVec 32) (k0_hw15 : k0_chk15 i v102 v109) (k0_t89 : Fin (k0_t89_loop i v102 v109).trips), ∀ (k0_h239 : k0_cond239 i v102 v109 = 1#1), ∀ a, (k0_off321 i v102 v109 k0_t89) a + S32768.size a ≤ S4194304.size a := fun i v102 v109 k0_hw15 k0_t89 k0_h239 => k0_hw15.2.2.2.2.2.2.2.2.2.2.2.2.2.2.2.2.2.1 k0_t89 k0_h239
theorem k0_t90_ok : ∀ (i : grid0.Coords) (v102 : BitVec 32) (v109 : BitVec 32) (k0_hw15 : k0_chk15 i v102 v109), ∀ (k0_h239 : k0_cond239 i v102 v109 = 1#1), (k0_t90_loop i v102 v109).OK := fun i v102 v109 k0_hw15 k0_h239 => k0_hw15.2.2.2.2.2.2.2.2.2.2.2.2.2.2.2.2.2.2.1 k0_h239
theorem k0_off322_inb : ∀ (i : grid0.Coords) (v102 : BitVec 32) (v109 : BitVec 32) (k0_hw15 : k0_chk15 i v102 v109) (k0_t90 : Fin (k0_t90_loop i v102 v109).trips), ∀ (k0_h239 : k0_cond239 i v102 v109 = 1#1), ∀ a, (k0_off322 i v102 v109 k0_t90) a + S32768.size a ≤ S4194304.size a := fun i v102 v109 k0_hw15 k0_t90 k0_h239 => k0_hw15.2.2.2.2.2.2.2.2.2.2.2.2.2.2.2.2.2.2.2.1 k0_t90 k0_h239
theorem k0_off323_inb : ∀ (i : grid0.Coords) (v102 : BitVec 32) (v109 : BitVec 32) (k0_hw15 : k0_chk15 i v102 v109), ∀ (k0_h239 : k0_cond239 i v102 v109 = 1#1), ∀ (k0_h248 : k0_cond248 i v102 v109 = 1#1), ∀ a, (k0_off323 i v102 v109) a + S16384.size a ≤ S4194304.size a := fun i v102 v109 k0_hw15 k0_h239 k0_h248 => k0_hw15.2.2.2.2.2.2.2.2.2.2.2.2.2.2.2.2.2.2.2.2.1 k0_h239 k0_h248
theorem k0_off324_inb : ∀ (i : grid0.Coords) (v102 : BitVec 32) (v109 : BitVec 32) (k0_hw15 : k0_chk15 i v102 v109), ∀ (k0_h239 : k0_cond239 i v102 v109 = 1#1), ∀ (k0_h249 : k0_cond249 i v102 v109 = 1#1), ∀ a, (k0_off324 i v102 v109) a + S8192.size a ≤ S4194304.size a := fun i v102 v109 k0_hw15 k0_h239 k0_h249 => k0_hw15.2.2.2.2.2.2.2.2.2.2.2.2.2.2.2.2.2.2.2.2.2.1 k0_h239 k0_h249
theorem k0_off325_inb : ∀ (i : grid0.Coords) (v102 : BitVec 32) (v109 : BitVec 32) (k0_hw15 : k0_chk15 i v102 v109), ∀ (k0_h239 : k0_cond239 i v102 v109 = 1#1), ∀ (k0_h250 : k0_cond250 i v102 v109 = 1#1), ∀ a, (k0_off325 i v102 v109) a + S4096.size a ≤ S4194304.size a := fun i v102 v109 k0_hw15 k0_h239 k0_h250 => k0_hw15.2.2.2.2.2.2.2.2.2.2.2.2.2.2.2.2.2.2.2.2.2.2.1 k0_h239 k0_h250
theorem k0_off326_inb : ∀ (i : grid0.Coords) (v102 : BitVec 32) (v109 : BitVec 32) (k0_hw15 : k0_chk15 i v102 v109), ∀ (k0_h239 : k0_cond239 i v102 v109 = 1#1), ∀ (k0_h251 : k0_cond251 i v102 v109 = 1#1), ∀ a, (k0_off326 i v102 v109) a + S2048.size a ≤ S4194304.size a := fun i v102 v109 k0_hw15 k0_h239 k0_h251 => k0_hw15.2.2.2.2.2.2.2.2.2.2.2.2.2.2.2.2.2.2.2.2.2.2.2.1 k0_h239 k0_h251
theorem k0_off327_inb : ∀ (i : grid0.Coords) (v102 : BitVec 32) (v109 : BitVec 32) (k0_hw15 : k0_chk15 i v102 v109), ∀ (k0_h239 : k0_cond239 i v102 v109 = 1#1), ∀ (k0_h252 : k0_cond252 i v102 v109 = 1#1), ∀ a, (k0_off327 i v102 v109) a + S1024.size a ≤ S4194304.size a := fun i v102 v109 k0_hw15 k0_h239 k0_h252 => k0_hw15.2.2.2.2.2.2.2.2.2.2.2.2.2.2.2.2.2.2.2.2.2.2.2.2.1 k0_h239 k0_h252
theorem k0_off328_inb : ∀ (i : grid0.Coords) (v102 : BitVec 32) (v109 : BitVec 32) (k0_hw15 : k0_chk15 i v102 v109), ∀ (k0_h239 : k0_cond239 i v102 v109 = 1#1), ∀ (k0_h253 : k0_cond253 i v102 v109 = 1#1), ∀ a, (k0_off328 i v102 v109) a + S512.size a ≤ S4194304.size a := fun i v102 v109 k0_hw15 k0_h239 k0_h253 => k0_hw15.2.2.2.2.2.2.2.2.2.2.2.2.2.2.2.2.2.2.2.2.2.2.2.2.2.1 k0_h239 k0_h253
theorem k0_off329_inb : ∀ (i : grid0.Coords) (v102 : BitVec 32) (v109 : BitVec 32) (k0_hw15 : k0_chk15 i v102 v109), ∀ (k0_h239 : k0_cond239 i v102 v109 = 1#1), ∀ (k0_h254 : k0_cond254 i v102 v109 = 1#1), ∀ a, (k0_off329 i v102 v109) a + S256.size a ≤ S4194304.size a := fun i v102 v109 k0_hw15 k0_h239 k0_h254 => k0_hw15.2.2.2.2.2.2.2.2.2.2.2.2.2.2.2.2.2.2.2.2.2.2.2.2.2.2.1 k0_h239 k0_h254
theorem k0_off330_inb : ∀ (i : grid0.Coords) (v102 : BitVec 32) (v109 : BitVec 32) (k0_hw15 : k0_chk15 i v102 v109), ∀ (k0_h239 : k0_cond239 i v102 v109 = 1#1), ∀ (k0_h255 : k0_cond255 i v102 v109 = 1#1), ∀ a, (k0_off330 i v102 v109) a + S128.size a ≤ S4194304.size a := fun i v102 v109 k0_hw15 k0_h239 k0_h255 => k0_hw15.2.2.2.2.2.2.2.2.2.2.2.2.2.2.2.2.2.2.2.2.2.2.2.2.2.2.2 k0_h239 k0_h255

@[reducible] def k0_t91_loop (i : grid0.Coords) (v109 : BitVec 32) (v116 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_26 : BitVec 32 := 1#32
  ⟨c0_i32_24, v162, c1_i32_26⟩
def k0_cond256 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v119 : BitVec 1 := Scalar.cmpi .sgt v118 v117
  let v120 : BitVec 32 := Scalar.extui v119
  let c0_i32_15 : BitVec 32 := 0#32
  let v121 : BitVec 1 := Scalar.cmpi .ne v120 c0_i32_15
  v121

def k0_off331 (i : grid0.Coords) (v109 : BitVec 32) (v116 : BitVec 32) (k0_t91 : Fin (k0_t91_loop i v109 v116).trips) (c0_i32_97 : BitVec 32) : Fin 1 → Nat :=
  let c0_i32_24 : BitVec 32 := 0#32
  let c1_i32_26 : BitVec 32 := 1#32
  let arg17 : BitVec 32 := Scf.iv c0_i32_24 c1_i32_26 k0_t91
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t92_loop (i : grid0.Coords) (v109 : BitVec 32) (v116 : BitVec 32) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let v159 : BitVec 32 := Scalar.addi c0_i32_24 v158
  let c1_i32_27 : BitVec 32 := 1#32
  ⟨v162, v159, c1_i32_27⟩
def k0_off332 (i : grid0.Coords) (v109 : BitVec 32) (v116 : BitVec 32) (k0_t92 : Fin (k0_t92_loop i v109 v116).trips) (c0_i32_97 : BitVec 32) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c1_i32 : BitVec 32 := 1#32
  let v139 : BitVec 32 := Scalar.addi v138 c1_i32
  let c0_i32_17 : BitVec 32 := 0#32
  let v141 : BitVec 1 := Scalar.cmpi .sgt v139 c0_i32_17
  let v142 : BitVec 32 := Scalar.extui v141
  let c0_i32_18 : BitVec 32 := 0#32
  let v143 : BitVec 1 := Scalar.cmpi .slt v139 c0_i32_18
  let v144 : BitVec 32 := Scalar.extui v143
  let v145 : BitVec 32 := Scalar.subi v142 v144
  let c2_i32_16 : BitVec 32 := 2#32
  let c0_i32_19 : BitVec 32 := 0#32
  let v146 : BitVec 1 := Scalar.cmpi .sgt c2_i32_16 c0_i32_19
  let v147 : BitVec 32 := Scalar.extui v146
  let c0_i32_20 : BitVec 32 := 0#32
  let v148 : BitVec 1 := Scalar.cmpi .slt c2_i32_16 c0_i32_20
  let v149 : BitVec 32 := Scalar.extui v148
  let v150 : BitVec 32 := Scalar.subi v147 v149
  let v151 : BitVec 1 := Scalar.cmpi .ne v145 v150
  let v152 : BitVec 32 := Scalar.remsi v139 c2_i32_16
  let c0_i32_21 : BitVec 32 := 0#32
  let v153 : BitVec 1 := Scalar.cmpi .ne v152 c0_i32_21
  let v154 : BitVec 1 := Scalar.andi v151 v153
  let v140 : BitVec 32 := Scalar.divsi v139 c2_i32_16
  let c1_i32_22 : BitVec 32 := 1#32
  let v155 : BitVec 32 := Scalar.subi v140 c1_i32_22
  let v156 : BitVec 32 := Scalar.select v154 v155 v140
  let c128_i32 : BitVec 32 := 128#32
  let v157 : BitVec 32 := Scalar.minsi v156 c128_i32
  let v158 : BitVec 32 := Scalar.subi v157 c0_i32_24
  let c1_i32_25 : BitVec 32 := 1#32
  let v160 : BitVec 32 := Scalar.divsi v158 c1_i32_25
  let v161 : BitVec 32 := Scalar.muli v160 c1_i32_25
  let v162 : BitVec 32 := Scalar.addi c0_i32_24 v161
  let c1_i32_27 : BitVec 32 := 1#32
  let arg17 : BitVec 32 := Scf.iv v162 c1_i32_27 k0_t92
  let c2_i32_95 : BitVec 32 := 2#32
  let v286 : BitVec 32 := Scalar.muli arg17 c2_i32_95
  let c128_i32_96 : BitVec 32 := 128#32
  let v287 : BitVec 32 := Scalar.muli v286 c128_i32_96
  let v288 : BitVec 32 := Scalar.addi v287 c0_i32_97
  let v289 : Index := Scalar.indexCast v288
  ![v289.toNat]
@[reducible] def k0_t93_loop (i : grid0.Coords) (v109 : BitVec 32) (v116 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_37 : BitVec 32 := 1#32
  ⟨c0_i32_35, v184, c1_i32_37⟩
def k0_off333 (i : grid0.Coords) (v109 : BitVec 32) (v116 : BitVec 32) (k0_t93 : Fin (k0_t93_loop i v109 v116).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c0_i32_35 : BitVec 32 := 0#32
  let c1_i32_37 : BitVec 32 := 1#32
  let arg17 : BitVec 32 := Scf.iv c0_i32_35 c1_i32_37 k0_t93
  let c256_i32_95 : BitVec 32 := 256#32
  let v286 : BitVec 32 := Scalar.muli arg17 c256_i32_95
  let v287 : BitVec 32 := Scalar.addi v117 v286
  let c128_i32_96 : BitVec 32 := 128#32
  let v288 : BitVec 32 := Scalar.muli v287 c128_i32_96
  ![v288.toNat]
@[reducible] def k0_t94_loop (i : grid0.Coords) (v109 : BitVec 32) (v116 : BitVec 32) : Scf.Loop 32 :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let v181 : BitVec 32 := Scalar.addi c0_i32_35 v180
  let c1_i32_38 : BitVec 32 := 1#32
  ⟨v184, v181, c1_i32_38⟩
def k0_off334 (i : grid0.Coords) (v109 : BitVec 32) (v116 : BitVec 32) (k0_t94 : Fin (k0_t94_loop i v109 v116).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c0_i32_35 : BitVec 32 := 0#32
  let c1024_i32_0 : BitVec 32 := 1024#32
  let v3 : BitVec 32 := Scalar.addi v2 c1024_i32_0
  let v118 : BitVec 32 := Scalar.minsi v116 v3
  let v138 : BitVec 32 := Scalar.subi v118 v117
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v180 : BitVec 32 := Scalar.subi v179 c0_i32_35
  let c1_i32_36 : BitVec 32 := 1#32
  let v182 : BitVec 32 := Scalar.divsi v180 c1_i32_36
  let v183 : BitVec 32 := Scalar.muli v182 c1_i32_36
  let v184 : BitVec 32 := Scalar.addi c0_i32_35 v183
  let c1_i32_38 : BitVec 32 := 1#32
  let arg17 : BitVec 32 := Scf.iv v184 c1_i32_38 k0_t94
  let c256_i32_95 : BitVec 32 := 256#32
  let v286 : BitVec 32 := Scalar.muli arg17 c256_i32_95
  let v287 : BitVec 32 := Scalar.addi v117 v286
  let c128_i32_96 : BitVec 32 := 128#32
  let v288 : BitVec 32 := Scalar.muli v287 c128_i32_96
  ![v288.toNat]
def k0_off335 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m256_i32 : BitVec 32 := 4294967040#32
  let v185 : BitVec 32 := Scalar.andi v138 c_m256_i32
  let v186 : BitVec 32 := Scalar.addi v117 v185
  let c128_i32_95 : BitVec 32 := 128#32
  let v286 : BitVec 32 := Scalar.muli v186 c128_i32_95
  ![v286.toNat]
def k0_cond257 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c128_i32_39 : BitVec 32 := 128#32
  let v187 : BitVec 32 := Scalar.andi v138 c128_i32_39
  let c0_i32_40 : BitVec 32 := 0#32
  let v188 : BitVec 1 := Scalar.cmpi .ne v187 c0_i32_40
  let v189 : BitVec 32 := Scalar.extui v188
  let c0_i32_41 : BitVec 32 := 0#32
  let v190 : BitVec 1 := Scalar.cmpi .ne v189 c0_i32_41
  v190

def k0_off336 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m128_i32 : BitVec 32 := 4294967168#32
  let v191 : BitVec 32 := Scalar.andi v138 c_m128_i32
  let v192 : BitVec 32 := Scalar.addi v117 v191
  let c128_i32_95 : BitVec 32 := 128#32
  let v286 : BitVec 32 := Scalar.muli v192 c128_i32_95
  ![v286.toNat]
def k0_cond258 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c64_i32 : BitVec 32 := 64#32
  let v193 : BitVec 32 := Scalar.andi v138 c64_i32
  let c0_i32_42 : BitVec 32 := 0#32
  let v194 : BitVec 1 := Scalar.cmpi .ne v193 c0_i32_42
  let v195 : BitVec 32 := Scalar.extui v194
  let c0_i32_43 : BitVec 32 := 0#32
  let v196 : BitVec 1 := Scalar.cmpi .ne v195 c0_i32_43
  v196

def k0_off337 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m64_i32 : BitVec 32 := 4294967232#32
  let v197 : BitVec 32 := Scalar.andi v138 c_m64_i32
  let v198 : BitVec 32 := Scalar.addi v117 v197
  let c128_i32_95 : BitVec 32 := 128#32
  let v286 : BitVec 32 := Scalar.muli v198 c128_i32_95
  ![v286.toNat]
def k0_cond259 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c32_i32 : BitVec 32 := 32#32
  let v199 : BitVec 32 := Scalar.andi v138 c32_i32
  let c0_i32_44 : BitVec 32 := 0#32
  let v200 : BitVec 1 := Scalar.cmpi .ne v199 c0_i32_44
  let v201 : BitVec 32 := Scalar.extui v200
  let c0_i32_45 : BitVec 32 := 0#32
  let v202 : BitVec 1 := Scalar.cmpi .ne v201 c0_i32_45
  v202

def k0_off338 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m32_i32 : BitVec 32 := 4294967264#32
  let v203 : BitVec 32 := Scalar.andi v138 c_m32_i32
  let v204 : BitVec 32 := Scalar.addi v117 v203
  let c128_i32_95 : BitVec 32 := 128#32
  let v286 : BitVec 32 := Scalar.muli v204 c128_i32_95
  ![v286.toNat]
def k0_cond260 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c16_i32 : BitVec 32 := 16#32
  let v205 : BitVec 32 := Scalar.andi v138 c16_i32
  let c0_i32_46 : BitVec 32 := 0#32
  let v206 : BitVec 1 := Scalar.cmpi .ne v205 c0_i32_46
  let v207 : BitVec 32 := Scalar.extui v206
  let c0_i32_47 : BitVec 32 := 0#32
  let v208 : BitVec 1 := Scalar.cmpi .ne v207 c0_i32_47
  v208

def k0_off339 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m16_i32 : BitVec 32 := 4294967280#32
  let v209 : BitVec 32 := Scalar.andi v138 c_m16_i32
  let v210 : BitVec 32 := Scalar.addi v117 v209
  let c128_i32_95 : BitVec 32 := 128#32
  let v286 : BitVec 32 := Scalar.muli v210 c128_i32_95
  ![v286.toNat]
def k0_cond261 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c8_i32 : BitVec 32 := 8#32
  let v211 : BitVec 32 := Scalar.andi v138 c8_i32
  let c0_i32_48 : BitVec 32 := 0#32
  let v212 : BitVec 1 := Scalar.cmpi .ne v211 c0_i32_48
  let v213 : BitVec 32 := Scalar.extui v212
  let c0_i32_49 : BitVec 32 := 0#32
  let v214 : BitVec 1 := Scalar.cmpi .ne v213 c0_i32_49
  v214

def k0_off340 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m8_i32 : BitVec 32 := 4294967288#32
  let v215 : BitVec 32 := Scalar.andi v138 c_m8_i32
  let v216 : BitVec 32 := Scalar.addi v117 v215
  let c128_i32_95 : BitVec 32 := 128#32
  let v286 : BitVec 32 := Scalar.muli v216 c128_i32_95
  ![v286.toNat]
def k0_cond262 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c4_i32 : BitVec 32 := 4#32
  let v217 : BitVec 32 := Scalar.andi v138 c4_i32
  let c0_i32_50 : BitVec 32 := 0#32
  let v218 : BitVec 1 := Scalar.cmpi .ne v217 c0_i32_50
  let v219 : BitVec 32 := Scalar.extui v218
  let c0_i32_51 : BitVec 32 := 0#32
  let v220 : BitVec 1 := Scalar.cmpi .ne v219 c0_i32_51
  v220

def k0_off341 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m4_i32 : BitVec 32 := 4294967292#32
  let v221 : BitVec 32 := Scalar.andi v138 c_m4_i32
  let v222 : BitVec 32 := Scalar.addi v117 v221
  let c128_i32_95 : BitVec 32 := 128#32
  let v286 : BitVec 32 := Scalar.muli v222 c128_i32_95
  ![v286.toNat]
def k0_cond263 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c2_i32_52 : BitVec 32 := 2#32
  let v223 : BitVec 32 := Scalar.andi v138 c2_i32_52
  let c0_i32_53 : BitVec 32 := 0#32
  let v224 : BitVec 1 := Scalar.cmpi .ne v223 c0_i32_53
  let v225 : BitVec 32 := Scalar.extui v224
  let c0_i32_54 : BitVec 32 := 0#32
  let v226 : BitVec 1 := Scalar.cmpi .ne v225 c0_i32_54
  v226

def k0_off342 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m2_i32 : BitVec 32 := 4294967294#32
  let v227 : BitVec 32 := Scalar.andi v138 c_m2_i32
  let v228 : BitVec 32 := Scalar.addi v117 v227
  let c128_i32_95 : BitVec 32 := 128#32
  let v286 : BitVec 32 := Scalar.muli v228 c128_i32_95
  ![v286.toNat]
def k0_cond264 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c1_i32_55 : BitVec 32 := 1#32
  let v229 : BitVec 32 := Scalar.andi v138 c1_i32_55
  let c0_i32_56 : BitVec 32 := 0#32
  let v230 : BitVec 1 := Scalar.cmpi .ne v229 c0_i32_56
  let v231 : BitVec 32 := Scalar.extui v230
  let c0_i32_57 : BitVec 32 := 0#32
  let v232 : BitVec 1 := Scalar.cmpi .ne v231 c0_i32_57
  v232

@[reducible] def k0_t95_loop (i : grid0.Coords) (v109 : BitVec 32) (v116 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_61 : BitVec 32 := 1#32
  ⟨c0_i32_59, v237, c1_i32_61⟩
def k0_off343 (i : grid0.Coords) (v109 : BitVec 32) (v116 : BitVec 32) (k0_t95 : Fin (k0_t95_loop i v109 v116).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c0_i32_59 : BitVec 32 := 0#32
  let c1_i32_61 : BitVec 32 := 1#32
  let arg17 : BitVec 32 := Scf.iv c0_i32_59 c1_i32_61 k0_t95
  let c256_i32_95 : BitVec 32 := 256#32
  let v286 : BitVec 32 := Scalar.muli arg17 c256_i32_95
  let v287 : BitVec 32 := Scalar.addi v117 v286
  let c128_i32_96 : BitVec 32 := 128#32
  let v288 : BitVec 32 := Scalar.muli v287 c128_i32_96
  ![v288.toNat]
@[reducible] def k0_t96_loop (i : grid0.Coords) (v109 : BitVec 32) (v116 : BitVec 32) : Scf.Loop 32 :=
  let c0_i32_59 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let v234 : BitVec 32 := Scalar.addi c0_i32_59 v233
  let c1_i32_62 : BitVec 32 := 1#32
  ⟨v237, v234, c1_i32_62⟩
def k0_off344 (i : grid0.Coords) (v109 : BitVec 32) (v116 : BitVec 32) (k0_t96 : Fin (k0_t96_loop i v109 v116).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c0_i32_59 : BitVec 32 := 0#32
  let c1024_i32_0 : BitVec 32 := 1024#32
  let v3 : BitVec 32 := Scalar.addi v2 c1024_i32_0
  let v118 : BitVec 32 := Scalar.minsi v116 v3
  let v138 : BitVec 32 := Scalar.subi v118 v117
  let c0_i32_28 : BitVec 32 := 0#32
  let v164 : BitVec 1 := Scalar.cmpi .sgt v138 c0_i32_28
  let v165 : BitVec 32 := Scalar.extui v164
  let c0_i32_29 : BitVec 32 := 0#32
  let v166 : BitVec 1 := Scalar.cmpi .slt v138 c0_i32_29
  let v167 : BitVec 32 := Scalar.extui v166
  let v168 : BitVec 32 := Scalar.subi v165 v167
  let c256_i32 : BitVec 32 := 256#32
  let c0_i32_30 : BitVec 32 := 0#32
  let v169 : BitVec 1 := Scalar.cmpi .sgt c256_i32 c0_i32_30
  let v170 : BitVec 32 := Scalar.extui v169
  let c0_i32_31 : BitVec 32 := 0#32
  let v171 : BitVec 1 := Scalar.cmpi .slt c256_i32 c0_i32_31
  let v172 : BitVec 32 := Scalar.extui v171
  let v173 : BitVec 32 := Scalar.subi v170 v172
  let v174 : BitVec 1 := Scalar.cmpi .ne v168 v173
  let v175 : BitVec 32 := Scalar.remsi v138 c256_i32
  let c0_i32_32 : BitVec 32 := 0#32
  let v176 : BitVec 1 := Scalar.cmpi .ne v175 c0_i32_32
  let v177 : BitVec 1 := Scalar.andi v174 v176
  let v163 : BitVec 32 := Scalar.divsi v138 c256_i32
  let c1_i32_33 : BitVec 32 := 1#32
  let v178 : BitVec 32 := Scalar.subi v163 c1_i32_33
  let v179 : BitVec 32 := Scalar.select v177 v178 v163
  let v233 : BitVec 32 := Scalar.subi v179 c0_i32_59
  let c1_i32_60 : BitVec 32 := 1#32
  let v235 : BitVec 32 := Scalar.divsi v233 c1_i32_60
  let v236 : BitVec 32 := Scalar.muli v235 c1_i32_60
  let v237 : BitVec 32 := Scalar.addi c0_i32_59 v236
  let c1_i32_62 : BitVec 32 := 1#32
  let arg17 : BitVec 32 := Scf.iv v237 c1_i32_62 k0_t96
  let c256_i32_95 : BitVec 32 := 256#32
  let v286 : BitVec 32 := Scalar.muli arg17 c256_i32_95
  let v287 : BitVec 32 := Scalar.addi v117 v286
  let c128_i32_96 : BitVec 32 := 128#32
  let v288 : BitVec 32 := Scalar.muli v287 c128_i32_96
  ![v288.toNat]
def k0_off345 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m256_i32_63 : BitVec 32 := 4294967040#32
  let v238 : BitVec 32 := Scalar.andi v138 c_m256_i32_63
  let v239 : BitVec 32 := Scalar.addi v117 v238
  let c128_i32_95 : BitVec 32 := 128#32
  let v286 : BitVec 32 := Scalar.muli v239 c128_i32_95
  ![v286.toNat]
def k0_cond265 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c128_i32_64 : BitVec 32 := 128#32
  let v240 : BitVec 32 := Scalar.andi v138 c128_i32_64
  let c0_i32_65 : BitVec 32 := 0#32
  let v241 : BitVec 1 := Scalar.cmpi .ne v240 c0_i32_65
  let v242 : BitVec 32 := Scalar.extui v241
  let c0_i32_66 : BitVec 32 := 0#32
  let v243 : BitVec 1 := Scalar.cmpi .ne v242 c0_i32_66
  v243

def k0_off346 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m128_i32_67 : BitVec 32 := 4294967168#32
  let v244 : BitVec 32 := Scalar.andi v138 c_m128_i32_67
  let v245 : BitVec 32 := Scalar.addi v117 v244
  let c128_i32_95 : BitVec 32 := 128#32
  let v286 : BitVec 32 := Scalar.muli v245 c128_i32_95
  ![v286.toNat]
def k0_cond266 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c64_i32_68 : BitVec 32 := 64#32
  let v246 : BitVec 32 := Scalar.andi v138 c64_i32_68
  let c0_i32_69 : BitVec 32 := 0#32
  let v247 : BitVec 1 := Scalar.cmpi .ne v246 c0_i32_69
  let v248 : BitVec 32 := Scalar.extui v247
  let c0_i32_70 : BitVec 32 := 0#32
  let v249 : BitVec 1 := Scalar.cmpi .ne v248 c0_i32_70
  v249

def k0_off347 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m64_i32_71 : BitVec 32 := 4294967232#32
  let v250 : BitVec 32 := Scalar.andi v138 c_m64_i32_71
  let v251 : BitVec 32 := Scalar.addi v117 v250
  let c128_i32_95 : BitVec 32 := 128#32
  let v286 : BitVec 32 := Scalar.muli v251 c128_i32_95
  ![v286.toNat]
def k0_cond267 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c32_i32_72 : BitVec 32 := 32#32
  let v252 : BitVec 32 := Scalar.andi v138 c32_i32_72
  let c0_i32_73 : BitVec 32 := 0#32
  let v253 : BitVec 1 := Scalar.cmpi .ne v252 c0_i32_73
  let v254 : BitVec 32 := Scalar.extui v253
  let c0_i32_74 : BitVec 32 := 0#32
  let v255 : BitVec 1 := Scalar.cmpi .ne v254 c0_i32_74
  v255

def k0_off348 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m32_i32_75 : BitVec 32 := 4294967264#32
  let v256 : BitVec 32 := Scalar.andi v138 c_m32_i32_75
  let v257 : BitVec 32 := Scalar.addi v117 v256
  let c128_i32_95 : BitVec 32 := 128#32
  let v286 : BitVec 32 := Scalar.muli v257 c128_i32_95
  ![v286.toNat]
def k0_cond268 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c16_i32_76 : BitVec 32 := 16#32
  let v258 : BitVec 32 := Scalar.andi v138 c16_i32_76
  let c0_i32_77 : BitVec 32 := 0#32
  let v259 : BitVec 1 := Scalar.cmpi .ne v258 c0_i32_77
  let v260 : BitVec 32 := Scalar.extui v259
  let c0_i32_78 : BitVec 32 := 0#32
  let v261 : BitVec 1 := Scalar.cmpi .ne v260 c0_i32_78
  v261

def k0_off349 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m16_i32_79 : BitVec 32 := 4294967280#32
  let v262 : BitVec 32 := Scalar.andi v138 c_m16_i32_79
  let v263 : BitVec 32 := Scalar.addi v117 v262
  let c128_i32_95 : BitVec 32 := 128#32
  let v286 : BitVec 32 := Scalar.muli v263 c128_i32_95
  ![v286.toNat]
def k0_cond269 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c8_i32_80 : BitVec 32 := 8#32
  let v264 : BitVec 32 := Scalar.andi v138 c8_i32_80
  let c0_i32_81 : BitVec 32 := 0#32
  let v265 : BitVec 1 := Scalar.cmpi .ne v264 c0_i32_81
  let v266 : BitVec 32 := Scalar.extui v265
  let c0_i32_82 : BitVec 32 := 0#32
  let v267 : BitVec 1 := Scalar.cmpi .ne v266 c0_i32_82
  v267

def k0_off350 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m8_i32_83 : BitVec 32 := 4294967288#32
  let v268 : BitVec 32 := Scalar.andi v138 c_m8_i32_83
  let v269 : BitVec 32 := Scalar.addi v117 v268
  let c128_i32_95 : BitVec 32 := 128#32
  let v286 : BitVec 32 := Scalar.muli v269 c128_i32_95
  ![v286.toNat]
def k0_cond270 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c4_i32_84 : BitVec 32 := 4#32
  let v270 : BitVec 32 := Scalar.andi v138 c4_i32_84
  let c0_i32_85 : BitVec 32 := 0#32
  let v271 : BitVec 1 := Scalar.cmpi .ne v270 c0_i32_85
  let v272 : BitVec 32 := Scalar.extui v271
  let c0_i32_86 : BitVec 32 := 0#32
  let v273 : BitVec 1 := Scalar.cmpi .ne v272 c0_i32_86
  v273

def k0_off351 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m4_i32_87 : BitVec 32 := 4294967292#32
  let v274 : BitVec 32 := Scalar.andi v138 c_m4_i32_87
  let v275 : BitVec 32 := Scalar.addi v117 v274
  let c128_i32_95 : BitVec 32 := 128#32
  let v286 : BitVec 32 := Scalar.muli v275 c128_i32_95
  ![v286.toNat]
def k0_cond271 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c2_i32_88 : BitVec 32 := 2#32
  let v276 : BitVec 32 := Scalar.andi v138 c2_i32_88
  let c0_i32_89 : BitVec 32 := 0#32
  let v277 : BitVec 1 := Scalar.cmpi .ne v276 c0_i32_89
  let v278 : BitVec 32 := Scalar.extui v277
  let c0_i32_90 : BitVec 32 := 0#32
  let v279 : BitVec 1 := Scalar.cmpi .ne v278 c0_i32_90
  v279

def k0_off352 (i : grid0.Coords) (v109 : BitVec 32) (v116 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v117 : BitVec 32 := Scalar.maxsi v109 v2
  let c1024_i32_0 : BitVec 32 := 1024#32
  let v3 : BitVec 32 := Scalar.addi v2 c1024_i32_0
  let v118 : BitVec 32 := Scalar.minsi v116 v3
  let v138 : BitVec 32 := Scalar.subi v118 v117
  let c_m2_i32_91 : BitVec 32 := 4294967294#32
  let v280 : BitVec 32 := Scalar.andi v138 c_m2_i32_91
  let v281 : BitVec 32 := Scalar.addi v117 v280
  let c128_i32_95 : BitVec 32 := 128#32
  let v286 : BitVec 32 := Scalar.muli v281 c128_i32_95
  ![v286.toNat]
def k0_cond272 (i : grid0.Coords) (v109 : BitVec 32) (v116 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_0 : BitVec 32 := 1024#32
  let v3 : BitVec 32 := Scalar.addi v2 c1024_i32_0
  let v118 : BitVec 32 := Scalar.minsi v116 v3
  let v117 : BitVec 32 := Scalar.maxsi v109 v2
  let v138 : BitVec 32 := Scalar.subi v118 v117
  let c1_i32_92 : BitVec 32 := 1#32
  let v282 : BitVec 32 := Scalar.andi v138 c1_i32_92
  let c0_i32_93 : BitVec 32 := 0#32
  let v283 : BitVec 1 := Scalar.cmpi .ne v282 c0_i32_93
  let v284 : BitVec 32 := Scalar.extui v283
  let c0_i32_94 : BitVec 32 := 0#32
  let v285 : BitVec 1 := Scalar.cmpi .ne v284 c0_i32_94
  v285

def k0_chk16 (i : grid0.Coords) (v109 : BitVec 32) (v116 : BitVec 32) : Prop :=
  (∀ (k0_h256 : k0_cond256 i v109 v116 = 1#1), (k0_t91_loop i v109 v116).OK) ∧
  (∀ k0_t91 : Fin (k0_t91_loop i v109 v116).trips, ∀ (k0_h256 : k0_cond256 i v109 v116 = 1#1), ∀ (r : Fin 16), ∀ a, (k0_off331 i v109 v116 k0_t91 (BitVec.ofNat 32 (16 * r.val))) a + S16.size a ≤ S32768.size a) ∧
  (∀ (k0_h256 : k0_cond256 i v109 v116 = 1#1), (k0_t92_loop i v109 v116).OK) ∧
  (∀ k0_t92 : Fin (k0_t92_loop i v109 v116).trips, ∀ (k0_h256 : k0_cond256 i v109 v116 = 1#1), ∀ (r : Fin 16), ∀ a, (k0_off332 i v109 v116 k0_t92 (BitVec.ofNat 32 (16 * r.val))) a + S16.size a ≤ S32768.size a) ∧
  (∀ (k0_h256 : k0_cond256 i v109 v116 = 1#1), (k0_t93_loop i v109 v116).OK) ∧
  (∀ k0_t93 : Fin (k0_t93_loop i v109 v116).trips, ∀ (k0_h256 : k0_cond256 i v109 v116 = 1#1), ∀ a, (k0_off333 i v109 v116 k0_t93) a + S32768.size a ≤ S4194304.size a) ∧
  (∀ (k0_h256 : k0_cond256 i v109 v116 = 1#1), (k0_t94_loop i v109 v116).OK) ∧
  (∀ k0_t94 : Fin (k0_t94_loop i v109 v116).trips, ∀ (k0_h256 : k0_cond256 i v109 v116 = 1#1), ∀ a, (k0_off334 i v109 v116 k0_t94) a + S32768.size a ≤ S4194304.size a) ∧
  (∀ (k0_h256 : k0_cond256 i v109 v116 = 1#1), ∀ (k0_h257 : k0_cond257 i v109 v116 = 1#1), ∀ a, (k0_off335 i v109 v116) a + S16384.size a ≤ S4194304.size a) ∧
  (∀ (k0_h256 : k0_cond256 i v109 v116 = 1#1), ∀ (k0_h258 : k0_cond258 i v109 v116 = 1#1), ∀ a, (k0_off336 i v109 v116) a + S8192.size a ≤ S4194304.size a) ∧
  (∀ (k0_h256 : k0_cond256 i v109 v116 = 1#1), ∀ (k0_h259 : k0_cond259 i v109 v116 = 1#1), ∀ a, (k0_off337 i v109 v116) a + S4096.size a ≤ S4194304.size a) ∧
  (∀ (k0_h256 : k0_cond256 i v109 v116 = 1#1), ∀ (k0_h260 : k0_cond260 i v109 v116 = 1#1), ∀ a, (k0_off338 i v109 v116) a + S2048.size a ≤ S4194304.size a) ∧
  (∀ (k0_h256 : k0_cond256 i v109 v116 = 1#1), ∀ (k0_h261 : k0_cond261 i v109 v116 = 1#1), ∀ a, (k0_off339 i v109 v116) a + S1024.size a ≤ S4194304.size a) ∧
  (∀ (k0_h256 : k0_cond256 i v109 v116 = 1#1), ∀ (k0_h262 : k0_cond262 i v109 v116 = 1#1), ∀ a, (k0_off340 i v109 v116) a + S512.size a ≤ S4194304.size a) ∧
  (∀ (k0_h256 : k0_cond256 i v109 v116 = 1#1), ∀ (k0_h263 : k0_cond263 i v109 v116 = 1#1), ∀ a, (k0_off341 i v109 v116) a + S256.size a ≤ S4194304.size a) ∧
  (∀ (k0_h256 : k0_cond256 i v109 v116 = 1#1), ∀ (k0_h264 : k0_cond264 i v109 v116 = 1#1), ∀ a, (k0_off342 i v109 v116) a + S128.size a ≤ S4194304.size a) ∧
  (∀ (k0_h256 : k0_cond256 i v109 v116 = 1#1), (k0_t95_loop i v109 v116).OK) ∧
  (∀ k0_t95 : Fin (k0_t95_loop i v109 v116).trips, ∀ (k0_h256 : k0_cond256 i v109 v116 = 1#1), ∀ a, (k0_off343 i v109 v116 k0_t95) a + S32768.size a ≤ S4194304.size a) ∧
  (∀ (k0_h256 : k0_cond256 i v109 v116 = 1#1), (k0_t96_loop i v109 v116).OK) ∧
  (∀ k0_t96 : Fin (k0_t96_loop i v109 v116).trips, ∀ (k0_h256 : k0_cond256 i v109 v116 = 1#1), ∀ a, (k0_off344 i v109 v116 k0_t96) a + S32768.size a ≤ S4194304.size a) ∧
  (∀ (k0_h256 : k0_cond256 i v109 v116 = 1#1), ∀ (k0_h265 : k0_cond265 i v109 v116 = 1#1), ∀ a, (k0_off345 i v109 v116) a + S16384.size a ≤ S4194304.size a) ∧
  (∀ (k0_h256 : k0_cond256 i v109 v116 = 1#1), ∀ (k0_h266 : k0_cond266 i v109 v116 = 1#1), ∀ a, (k0_off346 i v109 v116) a + S8192.size a ≤ S4194304.size a) ∧
  (∀ (k0_h256 : k0_cond256 i v109 v116 = 1#1), ∀ (k0_h267 : k0_cond267 i v109 v116 = 1#1), ∀ a, (k0_off347 i v109 v116) a + S4096.size a ≤ S4194304.size a) ∧
  (∀ (k0_h256 : k0_cond256 i v109 v116 = 1#1), ∀ (k0_h268 : k0_cond268 i v109 v116 = 1#1), ∀ a, (k0_off348 i v109 v116) a + S2048.size a ≤ S4194304.size a) ∧
  (∀ (k0_h256 : k0_cond256 i v109 v116 = 1#1), ∀ (k0_h269 : k0_cond269 i v109 v116 = 1#1), ∀ a, (k0_off349 i v109 v116) a + S1024.size a ≤ S4194304.size a) ∧
  (∀ (k0_h256 : k0_cond256 i v109 v116 = 1#1), ∀ (k0_h270 : k0_cond270 i v109 v116 = 1#1), ∀ a, (k0_off350 i v109 v116) a + S512.size a ≤ S4194304.size a) ∧
  (∀ (k0_h256 : k0_cond256 i v109 v116 = 1#1), ∀ (k0_h271 : k0_cond271 i v109 v116 = 1#1), ∀ a, (k0_off351 i v109 v116) a + S256.size a ≤ S4194304.size a) ∧
  (∀ (k0_h256 : k0_cond256 i v109 v116 = 1#1), ∀ (k0_h272 : k0_cond272 i v109 v116 = 1#1), ∀ a, (k0_off352 i v109 v116) a + S128.size a ≤ S4194304.size a)
theorem k0_t91_ok : ∀ (i : grid0.Coords) (v109 : BitVec 32) (v116 : BitVec 32) (k0_hw16 : k0_chk16 i v109 v116), ∀ (k0_h256 : k0_cond256 i v109 v116 = 1#1), (k0_t91_loop i v109 v116).OK := fun i v109 v116 k0_hw16 k0_h256 => k0_hw16.1 k0_h256
theorem k0_off331_inb : ∀ (i : grid0.Coords) (v109 : BitVec 32) (v116 : BitVec 32) (k0_hw16 : k0_chk16 i v109 v116) (k0_t91 : Fin (k0_t91_loop i v109 v116).trips), ∀ (k0_h256 : k0_cond256 i v109 v116 = 1#1), ∀ (r : Fin 16), ∀ a, (k0_off331 i v109 v116 k0_t91 (BitVec.ofNat 32 (16 * r.val))) a + S16.size a ≤ S32768.size a := fun i v109 v116 k0_hw16 k0_t91 k0_h256 r => k0_hw16.2.1 k0_t91 k0_h256 r
theorem k0_t92_ok : ∀ (i : grid0.Coords) (v109 : BitVec 32) (v116 : BitVec 32) (k0_hw16 : k0_chk16 i v109 v116), ∀ (k0_h256 : k0_cond256 i v109 v116 = 1#1), (k0_t92_loop i v109 v116).OK := fun i v109 v116 k0_hw16 k0_h256 => k0_hw16.2.2.1 k0_h256
theorem k0_off332_inb : ∀ (i : grid0.Coords) (v109 : BitVec 32) (v116 : BitVec 32) (k0_hw16 : k0_chk16 i v109 v116) (k0_t92 : Fin (k0_t92_loop i v109 v116).trips), ∀ (k0_h256 : k0_cond256 i v109 v116 = 1#1), ∀ (r : Fin 16), ∀ a, (k0_off332 i v109 v116 k0_t92 (BitVec.ofNat 32 (16 * r.val))) a + S16.size a ≤ S32768.size a := fun i v109 v116 k0_hw16 k0_t92 k0_h256 r => k0_hw16.2.2.2.1 k0_t92 k0_h256 r
theorem k0_t93_ok : ∀ (i : grid0.Coords) (v109 : BitVec 32) (v116 : BitVec 32) (k0_hw16 : k0_chk16 i v109 v116), ∀ (k0_h256 : k0_cond256 i v109 v116 = 1#1), (k0_t93_loop i v109 v116).OK := fun i v109 v116 k0_hw16 k0_h256 => k0_hw16.2.2.2.2.1 k0_h256
theorem k0_off333_inb : ∀ (i : grid0.Coords) (v109 : BitVec 32) (v116 : BitVec 32) (k0_hw16 : k0_chk16 i v109 v116) (k0_t93 : Fin (k0_t93_loop i v109 v116).trips), ∀ (k0_h256 : k0_cond256 i v109 v116 = 1#1), ∀ a, (k0_off333 i v109 v116 k0_t93) a + S32768.size a ≤ S4194304.size a := fun i v109 v116 k0_hw16 k0_t93 k0_h256 => k0_hw16.2.2.2.2.2.1 k0_t93 k0_h256
theorem k0_t94_ok : ∀ (i : grid0.Coords) (v109 : BitVec 32) (v116 : BitVec 32) (k0_hw16 : k0_chk16 i v109 v116), ∀ (k0_h256 : k0_cond256 i v109 v116 = 1#1), (k0_t94_loop i v109 v116).OK := fun i v109 v116 k0_hw16 k0_h256 => k0_hw16.2.2.2.2.2.2.1 k0_h256
theorem k0_off334_inb : ∀ (i : grid0.Coords) (v109 : BitVec 32) (v116 : BitVec 32) (k0_hw16 : k0_chk16 i v109 v116) (k0_t94 : Fin (k0_t94_loop i v109 v116).trips), ∀ (k0_h256 : k0_cond256 i v109 v116 = 1#1), ∀ a, (k0_off334 i v109 v116 k0_t94) a + S32768.size a ≤ S4194304.size a := fun i v109 v116 k0_hw16 k0_t94 k0_h256 => k0_hw16.2.2.2.2.2.2.2.1 k0_t94 k0_h256
theorem k0_off335_inb : ∀ (i : grid0.Coords) (v109 : BitVec 32) (v116 : BitVec 32) (k0_hw16 : k0_chk16 i v109 v116), ∀ (k0_h256 : k0_cond256 i v109 v116 = 1#1), ∀ (k0_h257 : k0_cond257 i v109 v116 = 1#1), ∀ a, (k0_off335 i v109 v116) a + S16384.size a ≤ S4194304.size a := fun i v109 v116 k0_hw16 k0_h256 k0_h257 => k0_hw16.2.2.2.2.2.2.2.2.1 k0_h256 k0_h257
theorem k0_off336_inb : ∀ (i : grid0.Coords) (v109 : BitVec 32) (v116 : BitVec 32) (k0_hw16 : k0_chk16 i v109 v116), ∀ (k0_h256 : k0_cond256 i v109 v116 = 1#1), ∀ (k0_h258 : k0_cond258 i v109 v116 = 1#1), ∀ a, (k0_off336 i v109 v116) a + S8192.size a ≤ S4194304.size a := fun i v109 v116 k0_hw16 k0_h256 k0_h258 => k0_hw16.2.2.2.2.2.2.2.2.2.1 k0_h256 k0_h258
theorem k0_off337_inb : ∀ (i : grid0.Coords) (v109 : BitVec 32) (v116 : BitVec 32) (k0_hw16 : k0_chk16 i v109 v116), ∀ (k0_h256 : k0_cond256 i v109 v116 = 1#1), ∀ (k0_h259 : k0_cond259 i v109 v116 = 1#1), ∀ a, (k0_off337 i v109 v116) a + S4096.size a ≤ S4194304.size a := fun i v109 v116 k0_hw16 k0_h256 k0_h259 => k0_hw16.2.2.2.2.2.2.2.2.2.2.1 k0_h256 k0_h259
theorem k0_off338_inb : ∀ (i : grid0.Coords) (v109 : BitVec 32) (v116 : BitVec 32) (k0_hw16 : k0_chk16 i v109 v116), ∀ (k0_h256 : k0_cond256 i v109 v116 = 1#1), ∀ (k0_h260 : k0_cond260 i v109 v116 = 1#1), ∀ a, (k0_off338 i v109 v116) a + S2048.size a ≤ S4194304.size a := fun i v109 v116 k0_hw16 k0_h256 k0_h260 => k0_hw16.2.2.2.2.2.2.2.2.2.2.2.1 k0_h256 k0_h260
theorem k0_off339_inb : ∀ (i : grid0.Coords) (v109 : BitVec 32) (v116 : BitVec 32) (k0_hw16 : k0_chk16 i v109 v116), ∀ (k0_h256 : k0_cond256 i v109 v116 = 1#1), ∀ (k0_h261 : k0_cond261 i v109 v116 = 1#1), ∀ a, (k0_off339 i v109 v116) a + S1024.size a ≤ S4194304.size a := fun i v109 v116 k0_hw16 k0_h256 k0_h261 => k0_hw16.2.2.2.2.2.2.2.2.2.2.2.2.1 k0_h256 k0_h261
theorem k0_off340_inb : ∀ (i : grid0.Coords) (v109 : BitVec 32) (v116 : BitVec 32) (k0_hw16 : k0_chk16 i v109 v116), ∀ (k0_h256 : k0_cond256 i v109 v116 = 1#1), ∀ (k0_h262 : k0_cond262 i v109 v116 = 1#1), ∀ a, (k0_off340 i v109 v116) a + S512.size a ≤ S4194304.size a := fun i v109 v116 k0_hw16 k0_h256 k0_h262 => k0_hw16.2.2.2.2.2.2.2.2.2.2.2.2.2.1 k0_h256 k0_h262
theorem k0_off341_inb : ∀ (i : grid0.Coords) (v109 : BitVec 32) (v116 : BitVec 32) (k0_hw16 : k0_chk16 i v109 v116), ∀ (k0_h256 : k0_cond256 i v109 v116 = 1#1), ∀ (k0_h263 : k0_cond263 i v109 v116 = 1#1), ∀ a, (k0_off341 i v109 v116) a + S256.size a ≤ S4194304.size a := fun i v109 v116 k0_hw16 k0_h256 k0_h263 => k0_hw16.2.2.2.2.2.2.2.2.2.2.2.2.2.2.1 k0_h256 k0_h263
theorem k0_off342_inb : ∀ (i : grid0.Coords) (v109 : BitVec 32) (v116 : BitVec 32) (k0_hw16 : k0_chk16 i v109 v116), ∀ (k0_h256 : k0_cond256 i v109 v116 = 1#1), ∀ (k0_h264 : k0_cond264 i v109 v116 = 1#1), ∀ a, (k0_off342 i v109 v116) a + S128.size a ≤ S4194304.size a := fun i v109 v116 k0_hw16 k0_h256 k0_h264 => k0_hw16.2.2.2.2.2.2.2.2.2.2.2.2.2.2.2.1 k0_h256 k0_h264
theorem k0_t95_ok : ∀ (i : grid0.Coords) (v109 : BitVec 32) (v116 : BitVec 32) (k0_hw16 : k0_chk16 i v109 v116), ∀ (k0_h256 : k0_cond256 i v109 v116 = 1#1), (k0_t95_loop i v109 v116).OK := fun i v109 v116 k0_hw16 k0_h256 => k0_hw16.2.2.2.2.2.2.2.2.2.2.2.2.2.2.2.2.1 k0_h256
theorem k0_off343_inb : ∀ (i : grid0.Coords) (v109 : BitVec 32) (v116 : BitVec 32) (k0_hw16 : k0_chk16 i v109 v116) (k0_t95 : Fin (k0_t95_loop i v109 v116).trips), ∀ (k0_h256 : k0_cond256 i v109 v116 = 1#1), ∀ a, (k0_off343 i v109 v116 k0_t95) a + S32768.size a ≤ S4194304.size a := fun i v109 v116 k0_hw16 k0_t95 k0_h256 => k0_hw16.2.2.2.2.2.2.2.2.2.2.2.2.2.2.2.2.2.1 k0_t95 k0_h256
theorem k0_t96_ok : ∀ (i : grid0.Coords) (v109 : BitVec 32) (v116 : BitVec 32) (k0_hw16 : k0_chk16 i v109 v116), ∀ (k0_h256 : k0_cond256 i v109 v116 = 1#1), (k0_t96_loop i v109 v116).OK := fun i v109 v116 k0_hw16 k0_h256 => k0_hw16.2.2.2.2.2.2.2.2.2.2.2.2.2.2.2.2.2.2.1 k0_h256
theorem k0_off344_inb : ∀ (i : grid0.Coords) (v109 : BitVec 32) (v116 : BitVec 32) (k0_hw16 : k0_chk16 i v109 v116) (k0_t96 : Fin (k0_t96_loop i v109 v116).trips), ∀ (k0_h256 : k0_cond256 i v109 v116 = 1#1), ∀ a, (k0_off344 i v109 v116 k0_t96) a + S32768.size a ≤ S4194304.size a := fun i v109 v116 k0_hw16 k0_t96 k0_h256 => k0_hw16.2.2.2.2.2.2.2.2.2.2.2.2.2.2.2.2.2.2.2.1 k0_t96 k0_h256
theorem k0_off345_inb : ∀ (i : grid0.Coords) (v109 : BitVec 32) (v116 : BitVec 32) (k0_hw16 : k0_chk16 i v109 v116), ∀ (k0_h256 : k0_cond256 i v109 v116 = 1#1), ∀ (k0_h265 : k0_cond265 i v109 v116 = 1#1), ∀ a, (k0_off345 i v109 v116) a + S16384.size a ≤ S4194304.size a := fun i v109 v116 k0_hw16 k0_h256 k0_h265 => k0_hw16.2.2.2.2.2.2.2.2.2.2.2.2.2.2.2.2.2.2.2.2.1 k0_h256 k0_h265
theorem k0_off346_inb : ∀ (i : grid0.Coords) (v109 : BitVec 32) (v116 : BitVec 32) (k0_hw16 : k0_chk16 i v109 v116), ∀ (k0_h256 : k0_cond256 i v109 v116 = 1#1), ∀ (k0_h266 : k0_cond266 i v109 v116 = 1#1), ∀ a, (k0_off346 i v109 v116) a + S8192.size a ≤ S4194304.size a := fun i v109 v116 k0_hw16 k0_h256 k0_h266 => k0_hw16.2.2.2.2.2.2.2.2.2.2.2.2.2.2.2.2.2.2.2.2.2.1 k0_h256 k0_h266
theorem k0_off347_inb : ∀ (i : grid0.Coords) (v109 : BitVec 32) (v116 : BitVec 32) (k0_hw16 : k0_chk16 i v109 v116), ∀ (k0_h256 : k0_cond256 i v109 v116 = 1#1), ∀ (k0_h267 : k0_cond267 i v109 v116 = 1#1), ∀ a, (k0_off347 i v109 v116) a + S4096.size a ≤ S4194304.size a := fun i v109 v116 k0_hw16 k0_h256 k0_h267 => k0_hw16.2.2.2.2.2.2.2.2.2.2.2.2.2.2.2.2.2.2.2.2.2.2.1 k0_h256 k0_h267
theorem k0_off348_inb : ∀ (i : grid0.Coords) (v109 : BitVec 32) (v116 : BitVec 32) (k0_hw16 : k0_chk16 i v109 v116), ∀ (k0_h256 : k0_cond256 i v109 v116 = 1#1), ∀ (k0_h268 : k0_cond268 i v109 v116 = 1#1), ∀ a, (k0_off348 i v109 v116) a + S2048.size a ≤ S4194304.size a := fun i v109 v116 k0_hw16 k0_h256 k0_h268 => k0_hw16.2.2.2.2.2.2.2.2.2.2.2.2.2.2.2.2.2.2.2.2.2.2.2.1 k0_h256 k0_h268
theorem k0_off349_inb : ∀ (i : grid0.Coords) (v109 : BitVec 32) (v116 : BitVec 32) (k0_hw16 : k0_chk16 i v109 v116), ∀ (k0_h256 : k0_cond256 i v109 v116 = 1#1), ∀ (k0_h269 : k0_cond269 i v109 v116 = 1#1), ∀ a, (k0_off349 i v109 v116) a + S1024.size a ≤ S4194304.size a := fun i v109 v116 k0_hw16 k0_h256 k0_h269 => k0_hw16.2.2.2.2.2.2.2.2.2.2.2.2.2.2.2.2.2.2.2.2.2.2.2.2.1 k0_h256 k0_h269
theorem k0_off350_inb : ∀ (i : grid0.Coords) (v109 : BitVec 32) (v116 : BitVec 32) (k0_hw16 : k0_chk16 i v109 v116), ∀ (k0_h256 : k0_cond256 i v109 v116 = 1#1), ∀ (k0_h270 : k0_cond270 i v109 v116 = 1#1), ∀ a, (k0_off350 i v109 v116) a + S512.size a ≤ S4194304.size a := fun i v109 v116 k0_hw16 k0_h256 k0_h270 => k0_hw16.2.2.2.2.2.2.2.2.2.2.2.2.2.2.2.2.2.2.2.2.2.2.2.2.2.1 k0_h256 k0_h270
theorem k0_off351_inb : ∀ (i : grid0.Coords) (v109 : BitVec 32) (v116 : BitVec 32) (k0_hw16 : k0_chk16 i v109 v116), ∀ (k0_h256 : k0_cond256 i v109 v116 = 1#1), ∀ (k0_h271 : k0_cond271 i v109 v116 = 1#1), ∀ a, (k0_off351 i v109 v116) a + S256.size a ≤ S4194304.size a := fun i v109 v116 k0_hw16 k0_h256 k0_h271 => k0_hw16.2.2.2.2.2.2.2.2.2.2.2.2.2.2.2.2.2.2.2.2.2.2.2.2.2.2.1 k0_h256 k0_h271
theorem k0_off352_inb : ∀ (i : grid0.Coords) (v109 : BitVec 32) (v116 : BitVec 32) (k0_hw16 : k0_chk16 i v109 v116), ∀ (k0_h256 : k0_cond256 i v109 v116 = 1#1), ∀ (k0_h272 : k0_cond272 i v109 v116 = 1#1), ∀ a, (k0_off352 i v109 v116) a + S128.size a ≤ S4194304.size a := fun i v109 v116 k0_hw16 k0_h256 k0_h272 => k0_hw16.2.2.2.2.2.2.2.2.2.2.2.2.2.2.2.2.2.2.2.2.2.2.2.2.2.2.2 k0_h256 k0_h272

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128 : Shape := ⟨2, ![16, 128]⟩
abbrev S32768 : Shape := ⟨1, ![32768]⟩
abbrev S17 : Shape := ⟨1, ![17]⟩
abbrev S_ : Shape := ⟨0, ![]⟩
abbrev S32768x1 : Shape := ⟨2, ![32768, 1]⟩
abbrev S32768x128 : Shape := ⟨2, ![32768, 128]⟩

abbrev nBuf : Space → Nat
  | .hbm => 12
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S32768, .i32⟩
  | .hbm, ⟨2, _⟩ => ⟨S17, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Pool.lean ====
abbrev S32768x128 : Shape := ⟨2, ![32768, 128]⟩
abbrev S32768 : Shape := ⟨1, ![32768]⟩
abbrev S17 : Shape := ⟨1, ![17]⟩
abbrev S128x128 : Shape := ⟨2, ![128, 128]⟩
abbrev S128 : Shape := ⟨1, ![128]⟩
abbrev S128x256 : Shape := ⟨2, ![128, 256]⟩
abbrev S_ : Shape := ⟨0, ![]⟩
abbrev S15 : Shape := ⟨1, ![15]⟩
abbrev S32 : Shape := ⟨1, ![32]⟩
abbrev S16x1x2048 : Shape := ⟨3, ![16, 1, 2048]⟩
abbrev S1x128 : Shape := ⟨2, ![1, 128]⟩
abbrev S1x32 : Shape := ⟨2, ![1, 32]⟩
abbrev S16x128 : Shape := ⟨2, ![16, 128]⟩
abbrev S2048x128 : Shape := ⟨2, ![2048, 128]⟩
abbrev S1x1x2048 : Shape := ⟨3, ![1, 1, 2048]⟩
abbrev S2048 : Shape := ⟨1, ![2048]⟩
abbrev S16x2048 : Shape := ⟨2, ![16, 2048]⟩
abbrev S1x2048 : Shape := ⟨2, ![1, 2048]⟩
abbrev S1 : Shape := ⟨1, ![1]⟩
abbrev S1x1 : Shape := ⟨2, ![1, 1]⟩
abbrev S2048x1 : Shape := ⟨2, ![2048, 1]⟩
abbrev S16x1 : Shape := ⟨2, ![16, 1]⟩
abbrev S1x16 : Shape := ⟨2, ![1, 16]⟩
abbrev S16 : Shape := ⟨1, ![16]⟩
abbrev S16x16 : Shape := ⟨2, ![16, 16]⟩
abbrev S16x256 : Shape := ⟨2, ![16, 256]⟩

abbrev nBuf : Space → Nat
  | .hbm => 15
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S17, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S_, .i32⟩
  | .hbm, ⟨8, _⟩ => ⟨S15, .i32⟩
  | .hbm, ⟨9, _⟩ => ⟨S32, .i32⟩
  | .hbm, ⟨10, _⟩ => ⟨S16x1x2048, .i32⟩
  | .hbm, ⟨11, _⟩ => ⟨S1x128, .f32⟩
  | .hbm, ⟨12, _⟩ => ⟨S1x128, .f32⟩
  | .hbm, ⟨13, _⟩ => ⟨S1x32, .i32⟩
  | .hbm, ⟨14, _⟩ => ⟨S16x128, .f32⟩
  | .local _ .vmem, ⟨0, _⟩ => ⟨S2048x128, .f32⟩
  | .local _ .vmem, ⟨1, _⟩ => ⟨S2048x128, .f32⟩
  | .local _ .vmem, ⟨2, _⟩ => ⟨S1x1x2048, .i32⟩
  | .local _ .vmem, ⟨3, _⟩ => ⟨S1x1x2048, .i32⟩
  | .local _ .vmem, ⟨4, _⟩ => ⟨S128x128, .f32⟩
  | .local _ .vmem, ⟨5, _⟩ => ⟨S1x128, .f32⟩
  | .local _ .vmem, ⟨6, _⟩ => ⟨S128x256, .f32⟩
  | .local _ .vmem, ⟨7, _⟩ => ⟨S1x128, .f32⟩
  | .local _ .vmem, ⟨8, _⟩ => ⟨S1x32, .i32⟩
  | .local _ .vmem, ⟨9, _⟩ => ⟨S16x128, .f32⟩
  | .local _ .vmem, ⟨10, _⟩ => ⟨S16x128, .f32⟩
  | .local _ .vmem, ⟨11, _⟩ => ⟨S16x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def k0_cond18 (i : grid0.Coords) : BitVec 1 :=
  let arg0 : BitVec 32 := BitVec.ofNat 32 (i 0).val
  let c15_i32_49 : BitVec 32 := 15#32
  let v116 : BitVec 1 := Scalar.cmpi .eq arg0 c15_i32_49
  let v117 : BitVec 32 := Scalar.extui v116
  let c0_i32_50 : BitVec 32 := 0#32
  let v118 : BitVec 1 := Scalar.cmpi .ne v117 c0_i32_50
  v118

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolIdeal.lean ====
variable {F : FTy → Type} [FloatOps F] [Named F]
def κ : String → Option EReal := fun
  | "low" => some ⊥
  | _ => none
-- ==== PoolReferenceIdeal.lean ====
abbrev S32768x128 : Shape := ⟨2, ![32768, 128]⟩
abbrev S32768 : Shape := ⟨1, ![32768]⟩
abbrev S17 : Shape := ⟨1, ![17]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S16x128 : Shape := ⟨2, ![16, 128]⟩
abbrev S32768x1 : Shape := ⟨2, ![32768, 1]⟩
abbrev S16x1 : Shape := ⟨2, ![16, 1]⟩
abbrev S16 : Shape := ⟨1, ![16]⟩
abbrev S1x32768 : Shape := ⟨2, ![1, 32768]⟩
abbrev S16x32768 : Shape := ⟨2, ![16, 32768]⟩
abbrev S16x32768x1 : Shape := ⟨3, ![16, 32768, 1]⟩
abbrev S1x32768x128 : Shape := ⟨3, ![1, 32768, 128]⟩
abbrev S16x32768x128 : Shape := ⟨3, ![16, 32768, 128]⟩
abbrev S16x256 : Shape := ⟨2, ![16, 256]⟩
abbrev S256x128 : Shape := ⟨2, ![256, 128]⟩

abbrev nBuf : Space → Nat
  | .hbm => 49
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S17, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S32768x128, .f32⟩
  | .hbm, ⟨9, _⟩ => ⟨S1x128, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S16x128, .f32⟩
  | .hbm, ⟨14, _⟩ => ⟨S32768x1, .i32⟩
  | .hbm, ⟨15, _⟩ => ⟨S16x128, .f32⟩
  | .hbm, ⟨16, _⟩ => ⟨S_, .f32⟩
  | .hbm, ⟨17, _⟩ => ⟨S32768x1, .f32⟩
  | .hbm, ⟨18, _⟩ => ⟨S_, .f32⟩
  | .hbm, ⟨19, _⟩ => ⟨S16x1, .f32⟩
  | .hbm, ⟨20, _⟩ => ⟨S32768x1, .i32⟩
  | .hbm, ⟨21, _⟩ => ⟨S16x1, .f32⟩
  | .hbm, ⟨22, _⟩ => ⟨S_, .f32⟩
  | .hbm, ⟨23, _⟩ => ⟨S16x1, .f32⟩
  | .hbm, ⟨24, _⟩ => ⟨S16x1, .f32⟩
  | .hbm, ⟨25, _⟩ => ⟨S16x128, .f32⟩
  | .hbm, ⟨26, _⟩ => ⟨S16x128, .f32⟩
  | .hbm, ⟨27, _⟩ => ⟨S16, .i32⟩
  | .hbm, ⟨28, _⟩ => ⟨S1x32768, .i32⟩
  | .hbm, ⟨29, _⟩ => ⟨S16x1, .i32⟩
  | .hbm, ⟨30, _⟩ => ⟨S16x32768, .i32⟩
  | .hbm, ⟨31, _⟩ => ⟨S16x32768, .i32⟩
  | .hbm, ⟨32, _⟩ => ⟨S16x32768, .i1⟩
  | .hbm, ⟨33, _⟩ => ⟨S16x32768x1, .i1⟩
  | .hbm, ⟨34, _⟩ => ⟨S1x32768x128, .f32⟩
  | .hbm, ⟨35, _⟩ => ⟨S_, .f32⟩
  | .hbm, ⟨36, _⟩ => ⟨S_, .f32⟩
  | .hbm, ⟨37, _⟩ => ⟨S16x32768x128, .i1⟩
  | .hbm, ⟨38, _⟩ => ⟨S16x32768x128, .f32⟩
  | .hbm, ⟨39, _⟩ => ⟨S16x32768x128, .f32⟩
  | .hbm, ⟨40, _⟩ => ⟨S16x32768x128, .f32⟩
  | .hbm, ⟨41, _⟩ => ⟨S_, .f32⟩
  | .hbm, ⟨42, _⟩ => ⟨S16x128, .f32⟩
  | .hbm, ⟨43, _⟩ => ⟨S16x256, .f32⟩
  | .hbm, ⟨44, _⟩ => ⟨S256x128, .f32⟩
  | .hbm, ⟨45, _⟩ => ⟨S16x128, .f32⟩
  | .hbm, ⟨46, _⟩ => ⟨S1x128, .f32⟩
  | .hbm, ⟨47, _⟩ => ⟨S16x128, .f32⟩
  | .hbm, ⟨48, _⟩ => ⟨S16x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Words.lean ====
module
public import proofs.«01_k».proof.KernelIdeal.P01
@[expose] public section
noncomputable section
/-! The 32-bit words the gather kernel computes for one segment, as natural numbers. -/
namespace Cert.Proof.Words
open Cert.KernelIdeal
open Idealize.ShloMosaic

/-- The number of the vector subcore at grid point `i`. -/
def wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

/-- The first row of the subcore's tile, as a word. -/
def baseW (i : grid0.Coords) : BitVec 32 :=
  Scalar.muli (Scalar.addi (Scalar.muli (BitVec.ofNat 32 (i 1).val) 2#32) (BitVec.ofNat 32 (i 0).val)) 1024#32
/-- The first row of segment `[a, b)` in the tile. -/
def loW (i : grid0.Coords) (a : BitVec 32) : BitVec 32 := Scalar.maxsi a (baseW i)
/-- The row after the last of segment `[a, b)` in the tile. -/
def hiW (i : grid0.Coords) (b : BitVec 32) : BitVec 32 := Scalar.minsi b (Scalar.addi (baseW i) 1024#32)
/-- How many rows segment `[a, b)` has in the tile. -/
def spW (i : grid0.Coords) (a b : BitVec 32) : BitVec 32 := Scalar.subi (hiW i b) (loW i a)

theorem baseW_eq (i : grid0.Coords) : baseW i = BitVec.ofNat 32 (1024 * wid i) := by
  have h0 : (i 0).val < 2 := (i 0).isLt
  have h1 : (i 1).val < 16 := (i 1).isLt
  unfold baseW wid
  show (BitVec.ofNat 32 (i 1).val * 2#32 + BitVec.ofNat 32 (i 0).val) * 1024#32 = _
  rw [← BitVec.ofNat_mul, ← BitVec.ofNat_add, ← BitVec.ofNat_mul, Nat.mul_comm]

theorem toInt_ofNat_small {n : ℕ} (h : n < 2 ^ 31) : (BitVec.ofNat 32 n).toInt = n := by
  rw [BitVec.toInt_ofNat', Int.bmod_eq_of_le] <;> omega

theorem toNat_ofNat_small {n : ℕ} (h : n < 2 ^ 32) : (BitVec.ofNat 32 n).toNat = n := by
  rw [BitVec.toNat_ofNat]; omega

theorem toInt_maxsi (x y : BitVec 32) : (Scalar.maxsi x y).toInt = max x.toInt y.toInt := by
  show (if y.slt x then x else y).toInt = _
  rw [BitVec.slt_eq_decide]; split <;> simp_all <;> omega
theorem toInt_minsi (x y : BitVec 32) : (Scalar.minsi x y).toInt = min x.toInt y.toInt := by
  show (if x.slt y then x else y).toInt = _
  rw [BitVec.slt_eq_decide]; split <;> simp_all <;> omega

/-- The printed floor division's trip count word of the fill loop, of the segment's row count. -/
def fillLoop (v138 : BitVec 32) : Scf.Loop 32 :=
  let v139 : BitVec 32 := Scalar.addi v138 1#32
  let v145 : BitVec 32 := Scalar.subi (Scalar.extui (Scalar.cmpi .sgt v139 0#32)) (Scalar.extui (Scalar.cmpi .slt v139 0#32))
  let v150 : BitVec 32 := Scalar.subi (Scalar.extui (Scalar.cmpi .sgt 2#32 0#32)) (Scalar.extui (Scalar.cmpi .slt 2#32 0#32))
  let v154 : BitVec 1 := Scalar.andi (Scalar.cmpi .ne v145 v150) (Scalar.cmpi .ne (Scalar.remsi v139 2#32) 0#32)
  let v140 : BitVec 32 := Scalar.divsi v139 2#32
  let v156 : BitVec 32 := Scalar.select v154 (Scalar.subi v140 1#32) v140
  let v157 : BitVec 32 := Scalar.minsi v156 128#32
  ⟨0#32, Scalar.addi 0#32 (Scalar.muli (Scalar.divsi (Scalar.subi v157 0#32) 1#32) 1#32), 1#32⟩

/-- What the fill loop's remainder loop runs over (nothing). -/
def fillRest (v138 : BitVec 32) : Scf.Loop 32 :=
  let v139 : BitVec 32 := Scalar.addi v138 1#32
  let v145 : BitVec 32 := Scalar.subi (Scalar.extui (Scalar.cmpi .sgt v139 0#32)) (Scalar.extui (Scalar.cmpi .slt v139 0#32))
  let v150 : BitVec 32 := Scalar.subi (Scalar.extui (Scalar.cmpi .sgt 2#32 0#32)) (Scalar.extui (Scalar.cmpi .slt 2#32 0#32))
  let v154 : BitVec 1 := Scalar.andi (Scalar.cmpi .ne v145 v150) (Scalar.cmpi .ne (Scalar.remsi v139 2#32) 0#32)
  let v140 : BitVec 32 := Scalar.divsi v139 2#32
  let v156 : BitVec 32 := Scalar.select v154 (Scalar.subi v140 1#32) v140
  let v157 : BitVec 32 := Scalar.minsi v156 128#32
  ⟨Scalar.addi 0#32 (Scalar.muli (Scalar.divsi (Scalar.subi v157 0#32) 1#32) 1#32), Scalar.addi 0#32 (Scalar.subi v157 0#32), 1#32⟩

/-- How many whole blocks of 256 rows there are, as the kernel's floor division computes it. -/
def blocksW (v138 : BitVec 32) : BitVec 32 :=
  let v168 : BitVec 32 := Scalar.subi (Scalar.extui (Scalar.cmpi .sgt v138 0#32)) (Scalar.extui (Scalar.cmpi .slt v138 0#32))
  let v173 : BitVec 32 := Scalar.subi (Scalar.extui (Scalar.cmpi .sgt 256#32 0#32)) (Scalar.extui (Scalar.cmpi .slt 256#32 0#32))
  let v177 : BitVec 1 := Scalar.andi (Scalar.cmpi .ne v168 v173) (Scalar.cmpi .ne (Scalar.remsi v138 256#32) 0#32)
  Scalar.select v177 (Scalar.subi (Scalar.divsi v138 256#32) 1#32) (Scalar.divsi v138 256#32)

/-- The loop over the whole blocks. -/
def blockLoop (v138 : BitVec 32) : Scf.Loop 32 :=
  ⟨0#32, Scalar.addi 0#32 (Scalar.muli (Scalar.divsi (Scalar.subi (blocksW v138) 0#32) 1#32) 1#32), 1#32⟩
/-- Its remainder loop (over nothing). -/
def blockRest (v138 : BitVec 32) : Scf.Loop 32 :=
  ⟨Scalar.addi 0#32 (Scalar.muli (Scalar.divsi (Scalar.subi (blocksW v138) 0#32) 1#32) 1#32), Scalar.addi 0#32 (Scalar.subi (blocksW v138) 0#32), 1#32⟩

/-- Whether the row count has the bit `b`, as the kernel computes it. -/
def bitC (v138 b : BitVec 32) : BitVec 1 := Scalar.cmpi .ne (Scalar.extui (Scalar.cmpi .ne (Scalar.andi v138 b) 0#32)) 0#32
/-- The element a tail copy begins at: the segment's first row plus the higher bits of the row count, times the row's length. -/
def tailOff (lo v138 mask : BitVec 32) : ℕ := (Scalar.muli (Scalar.addi lo (Scalar.andi v138 mask)) 128#32).toNat
/-- The element a whole block's copy begins at. -/
def blockOff (lo : BitVec 32) (t : ℕ) : ℕ := (Scalar.muli (Scalar.addi lo (Scalar.muli (Scf.iv 0#32 1#32 t) 256#32)) 128#32).toNat

variable (i : grid0.Coords) (a b : BitVec 32)
theorem cond1_def : k0_cond1 i a b = Scalar.cmpi .ne (Scalar.extui (Scalar.cmpi .sgt (hiW i b) (loW i a))) 0#32 := rfl
theorem t1_def : k0_t1_loop i a b = fillLoop (spW i a b) := rfl
theorem t2_def : k0_t2_loop i a b = fillRest (spW i a b) := rfl
theorem t3_def : k0_t3_loop i a b = blockLoop (spW i a b) := rfl
theorem t4_def : k0_t4_loop i a b = blockRest (spW i a b) := rfl
theorem t5_def : k0_t5_loop i a b = blockLoop (spW i a b) := rfl
theorem t6_def : k0_t6_loop i a b = blockRest (spW i a b) := rfl
theorem off3_def (t) : k0_off3 i a b t = ![blockOff (loW i a) t.val] := rfl
theorem off13_def (t) : k0_off13 i a b t = ![blockOff (loW i a) t.val] := rfl
theorem cond2_def : k0_cond2 i a b = bitC (spW i a b) (BitVec.ofNat 32 (2 ^ 7)) := rfl
theorem off5_def : k0_off5 i a b = ![tailOff (loW i a) (spW i a b) (BitVec.ofNat 32 (2 ^ 32 - 2 ^ (7 + 1)))] := rfl
theorem cond10_def : k0_cond10 i a b = bitC (spW i a b) (BitVec.ofNat 32 (2 ^ 7)) := rfl
theorem off15_def : k0_off15 i a b = ![tailOff (loW i a) (spW i a b) (BitVec.ofNat 32 (2 ^ 32 - 2 ^ (7 + 1)))] := rfl
theorem cond3_def : k0_cond3 i a b = bitC (spW i a b) (BitVec.ofNat 32 (2 ^ 6)) := rfl
theorem off6_def : k0_off6 i a b = ![tailOff (loW i a) (spW i a b) (BitVec.ofNat 32 (2 ^ 32 - 2 ^ (6 + 1)))] := rfl
theorem cond11_def : k0_cond11 i a b = bitC (spW i a b) (BitVec.ofNat 32 (2 ^ 6)) := rfl
theorem off16_def : k0_off16 i a b = ![tailOff (loW i a) (spW i a b) (BitVec.ofNat 32 (2 ^ 32 - 2 ^ (6 + 1)))] := rfl
theorem cond4_def : k0_cond4 i a b = bitC (spW i a b) (BitVec.ofNat 32 (2 ^ 5)) := rfl
theorem off7_def : k0_off7 i a b = ![tailOff (loW i a) (spW i a b) (BitVec.ofNat 32 (2 ^ 32 - 2 ^ (5 + 1)))] := rfl
theorem cond12_def : k0_cond12 i a b = bitC (spW i a b) (BitVec.ofNat 32 (2 ^ 5)) := rfl
theorem off17_def : k0_off17 i a b = ![tailOff (loW i a) (spW i a b) (BitVec.ofNat 32 (2 ^ 32 - 2 ^ (5 + 1)))] := rfl
theorem cond5_def : k0_cond5 i a b = bitC (spW i a b) (BitVec.ofNat 32 (2 ^ 4)) := rfl
theorem off8_def : k0_off8 i a b = ![tailOff (loW i a) (spW i a b) (BitVec.ofNat 32 (2 ^ 32 - 2 ^ (4 + 1)))] := rfl
theorem cond13_def : k0_cond13 i a b = bitC (spW i a b) (BitVec.ofNat 32 (2 ^ 4)) := rfl
theorem off18_def : k0_off18 i a b = ![tailOff (loW i a) (spW i a b) (BitVec.ofNat 32 (2 ^ 32 - 2 ^ (4 + 1)))] := rfl
theorem cond6_def : k0_cond6 i a b = bitC (spW i a b) (BitVec.ofNat 32 (2 ^ 3)) := rfl
theorem off9_def : k0_off9 i a b = ![tailOff (loW i a) (spW i a b) (BitVec.ofNat 32 (2 ^ 32 - 2 ^ (3 + 1)))] := rfl
theorem cond14_def : k0_cond14 i a b = bitC (spW i a b) (BitVec.ofNat 32 (2 ^ 3)) := rfl
theorem off19_def : k0_off19 i a b = ![tailOff (loW i a) (spW i a b) (BitVec.ofNat 32 (2 ^ 32 - 2 ^ (3 + 1)))] := rfl
theorem cond7_def : k0_cond7 i a b = bitC (spW i a b) (BitVec.ofNat 32 (2 ^ 2)) := rfl
theorem off10_def : k0_off10 i a b = ![tailOff (loW i a) (spW i a b) (BitVec.ofNat 32 (2 ^ 32 - 2 ^ (2 + 1)))] := rfl
theorem cond15_def : k0_cond15 i a b = bitC (spW i a b) (BitVec.ofNat 32 (2 ^ 2)) := rfl
theorem off20_def : k0_off20 i a b = ![tailOff (loW i a) (spW i a b) (BitVec.ofNat 32 (2 ^ 32 - 2 ^ (2 + 1)))] := rfl
theorem cond8_def : k0_cond8 i a b = bitC (spW i a b) (BitVec.ofNat 32 (2 ^ 1)) := rfl
theorem off11_def : k0_off11 i a b = ![tailOff (loW i a) (spW i a b) (BitVec.ofNat 32 (2 ^ 32 - 2 ^ (1 + 1)))] := rfl
theorem cond16_def : k0_cond16 i a b = bitC (spW i a b) (BitVec.ofNat 32 (2 ^ 1)) := rfl
theorem off21_def : k0_off21 i a b = ![tailOff (loW i a) (spW i a b) (BitVec.ofNat 32 (2 ^ 32 - 2 ^ (1 + 1)))] := rfl
theorem cond9_def : k0_cond9 i a b = bitC (spW i a b) (BitVec.ofNat 32 (2 ^ 0)) := rfl
theorem off12_def : k0_off12 i a b = ![tailOff (loW i a) (spW i a b) (BitVec.ofNat 32 (2 ^ 32 - 2 ^ (0 + 1)))] := rfl
theorem cond17_def : k0_cond17 i a b = bitC (spW i a b) (BitVec.ofNat 32 (2 ^ 0)) := rfl
theorem off22_def : k0_off22 i a b = ![tailOff (loW i a) (spW i a b) (BitVec.ofNat 32 (2 ^ 32 - 2 ^ (0 + 1)))] := rfl

section Span
set_option maxRecDepth 100000

/-- The words of the row count, for every count a tile can have: the loops' trips and that each loop has a meaning. -/
theorem span_loops : ∀ n : Fin 1025,
    ((fillLoop (BitVec.ofNat 32 n.val)).trips = min ((n.val + 1) / 2) 128 ∧ (fillLoop (BitVec.ofNat 32 n.val)).OK)
    ∧ ((fillRest (BitVec.ofNat 32 n.val)).trips = 0 ∧ (fillRest (BitVec.ofNat 32 n.val)).OK)
    ∧ ((blockLoop (BitVec.ofNat 32 n.val)).trips = n.val / 256 ∧ (blockLoop (BitVec.ofNat 32 n.val)).OK)
    ∧ ((blockRest (BitVec.ofNat 32 n.val)).trips = 0 ∧ (blockRest (BitVec.ofNat 32 n.val)).OK) := by
  decide +kernel

/-- The row count's bits and what the masks leave of it. -/
theorem span_bits : ∀ n : Fin 1025, ∀ k : Fin 8,
    (bitC (BitVec.ofNat 32 n.val) (BitVec.ofNat 32 (2 ^ k.val)) = 1#1 ↔ n.val / 2 ^ k.val % 2 = 1)
    ∧ (Scalar.andi (BitVec.ofNat 32 n.val) (BitVec.ofNat 32 (2 ^ 32 - 2 ^ (k.val + 1)))).toNat = 2 ^ (k.val + 1) * (n.val / 2 ^ (k.val + 1)) := by
  decide +kernel

end Span
end Cert.Proof.Words
-- ==== Proof.Segs.lean ====
module
public import proofs.«01_k».proof.Proof.Words
@[expose] public section
noncomputable section
/-! One segment's rows in one tile as natural numbers, and the side conditions the kernel's text assumes. -/
namespace Cert.Proof.Words
open Cert.KernelIdeal
open Idealize.ShloMosaic

variable (i : grid0.Coords) (a b : BitVec 32)

theorem lo_toInt : (loW i a).toInt = max a.toInt (1024 * wid i : ℕ) := by
  have := wid_lt i
  rw [loW, toInt_maxsi, baseW_eq, toInt_ofNat_small (by omega)]

theorem hi_toInt : (hiW i b).toInt = min b.toInt (1024 * wid i + 1024 : ℕ) := by
  have := wid_lt i
  rw [hiW, toInt_minsi, baseW_eq]
  show min _ (BitVec.ofNat 32 (1024 * wid i) + BitVec.ofNat 32 1024).toInt = _
  rw [← BitVec.ofNat_add, toInt_ofNat_small (by omega)]

theorem cond1_iff : k0_cond1 i a b = 1#1 ↔ max a.toInt (1024 * wid i : ℕ) < min b.toInt (1024 * wid i + 1024 : ℕ) := by
  rw [← lo_toInt, ← hi_toInt, cond1_def]
  have key : ∀ c : Bool, Scalar.cmpi .ne (Scalar.extui (BitVec.ofBool c)) 0#32 = 1#1 ↔ c = true := by decide
  show Scalar.cmpi .ne (Scalar.extui (BitVec.ofBool ((loW i a).slt (hiW i b)))) 0#32 = 1#1 ↔ _
  rw [key, BitVec.slt_eq_decide, decide_eq_true_iff]

/-- A segment that meets the tile: its first row in the tile `L` and its row count `n` there, as the words say them. -/
structure Span (L n : ℕ) : Prop where
  lo : loW i a = BitVec.ofNat 32 L
  sp : spW i a b = BitVec.ofNat 32 n
  pos : 1 ≤ n
  le : n ≤ 1024
  base : 1024 * wid i ≤ L
  lim : L + n ≤ 1024 * wid i + 1024
  loI : (L : ℤ) = max a.toInt (1024 * wid i : ℕ)
  hiI : ((L + n : ℕ) : ℤ) = min b.toInt (1024 * wid i + 1024 : ℕ)

theorem eq_ofNat_of_toInt {w : BitVec 32} {n : ℕ} (h : w.toInt = n) : w = BitVec.ofNat 32 n := by
  apply BitVec.eq_of_toInt_eq
  have := BitVec.toInt_lt (x := w)
  rw [toInt_ofNat_small (by omega), h]

theorem span_of (h : k0_cond1 i a b = 1#1) : ∃ L n, Span i a b L n := by
  rw [cond1_iff] at h
  have hw := wid_lt i
  obtain ⟨L, hL⟩ : ∃ L : ℕ, (L : ℤ) = max a.toInt (1024 * wid i : ℕ) := ⟨(max a.toInt (1024 * wid i : ℕ)).toNat, by omega⟩
  obtain ⟨H, hH⟩ : ∃ H : ℕ, (H : ℤ) = min b.toInt (1024 * wid i + 1024 : ℕ) := ⟨(min b.toInt (1024 * wid i + 1024 : ℕ)).toNat, by omega⟩
  have hlo : loW i a = BitVec.ofNat 32 L := eq_ofNat_of_toInt (by rw [lo_toInt, hL])
  have hhi : hiW i b = BitVec.ofNat 32 H := eq_ofNat_of_toInt (by rw [hi_toInt, hH])
  refine ⟨L, H - L, hlo, ?_, by omega, by omega, by omega, by omega, hL, ?_⟩
  · rw [spW, hhi, hlo]
    show BitVec.ofNat 32 H - BitVec.ofNat 32 L = _
    rw [show H = (H - L) + L by omega, BitVec.ofNat_add, BitVec.add_sub_cancel, Nat.add_sub_cancel]
  · rw [← hH]; omega

/-- The position of a tail copy: the segment's first row plus its row count rounded down to a multiple of `2 ^ k`. -/
def tpos (L n k : ℕ) : ℕ := L + 2 ^ k * (n / 2 ^ k)

theorem tpos_zero (L n : ℕ) : tpos L n 0 = L + n := by simp [tpos]
theorem tpos_step (L n k : ℕ) : tpos L n k = tpos L n (k + 1) + if n / 2 ^ k % 2 = 1 then 2 ^ k else 0 := by
  unfold tpos
  have h : n / 2 ^ (k + 1) = n / 2 ^ k / 2 := by rw [Nat.pow_succ, Nat.div_div_eq_div_mul]
  rw [h, Nat.pow_succ]
  generalize n / 2 ^ k = m
  have h2 : m = 2 * (m / 2) + m % 2 := by omega
  generalize m / 2 = q at *
  generalize 2 ^ k = p
  split
  · rename_i h1; rw [h1] at h2; subst h2; rw [Nat.mul_add, Nat.mul_one, Nat.mul_assoc, Nat.add_assoc]
  · have : m % 2 = 0 := by omega
    rw [this] at h2; subst h2; rw [Nat.add_zero, Nat.add_zero, Nat.mul_assoc]
theorem tpos_le (L n k : ℕ) : tpos L n k ≤ L + n := by unfold tpos; have := Nat.mul_div_le n (2 ^ k); omega
theorem le_tpos (L n k : ℕ) : L ≤ tpos L n k := by unfold tpos; omega
theorem tpos_end (L n k : ℕ) (h : n / 2 ^ k % 2 = 1) : tpos L n (k + 1) + 2 ^ k ≤ L + n := by
  have := tpos_step L n k; rw [if_pos h] at this; rw [← this]; exact tpos_le L n k

section
variable {i a b} {L n : ℕ} (h : Span i a b L n)
include h

theorem Span.L_lt : L + n ≤ 32768 := by have := wid_lt i; have := h.lim; omega

theorem Span.fill_trips : (k0_t1_loop i a b).trips = min ((n + 1) / 2) 128 := by
  rw [t1_def, h.sp]; exact (span_loops ⟨n, by have := h.le; omega⟩).1.1
theorem Span.fillRest_trips : (k0_t2_loop i a b).trips = 0 := by
  rw [t2_def, h.sp]; exact (span_loops ⟨n, by have := h.le; omega⟩).2.1.1
theorem Span.block_trips : (blockLoop (spW i a b)).trips = n / 256 := by
  rw [h.sp]; exact (span_loops ⟨n, by have := h.le; omega⟩).2.2.1.1
theorem Span.blockRest_trips : (blockRest (spW i a b)).trips = 0 := by
  rw [h.sp]; exact (span_loops ⟨n, by have := h.le; omega⟩).2.2.2.1

theorem Span.fill_ok : (fillLoop (spW i a b)).OK := by
  rw [h.sp]; exact (span_loops ⟨n, by have := h.le; omega⟩).1.2
theorem Span.fillRest_ok : (fillRest (spW i a b)).OK := by
  rw [h.sp]; exact (span_loops ⟨n, by have := h.le; omega⟩).2.1.2
theorem Span.block_ok : (blockLoop (spW i a b)).OK := by
  rw [h.sp]; exact (span_loops ⟨n, by have := h.le; omega⟩).2.2.1.2
theorem Span.blockRest_ok : (blockRest (spW i a b)).OK := by
  rw [h.sp]; exact (span_loops ⟨n, by have := h.le; omega⟩).2.2.2.2

theorem Span.bit_iff (k : Fin 8) : bitC (spW i a b) (BitVec.ofNat 32 (2 ^ k.val)) = 1#1 ↔ n / 2 ^ k.val % 2 = 1 := by
  rw [h.sp]; exact (span_bits ⟨n, by have := h.le; omega⟩ k).1

theorem Span.tailOff_eq (k : Fin 8) :
    tailOff (loW i a) (spW i a b) (BitVec.ofNat 32 (2 ^ 32 - 2 ^ (k.val + 1))) = tpos L n (k.val + 1) * 128 := by
  have h1 := (span_bits ⟨n, by have := h.le; omega⟩ k).2
  dsimp only at h1
  rw [← h.sp] at h1
  have h3 := tpos_le L n (k.val + 1)
  have h4 := h.L_lt
  have h2 : Scalar.andi (spW i a b) (BitVec.ofNat 32 (2 ^ 32 - 2 ^ (k.val + 1))) = BitVec.ofNat 32 (2 ^ (k.val + 1) * (n / 2 ^ (k.val + 1))) := by

    apply BitVec.eq_of_toNat_eq
    rw [h1, toNat_ofNat_small]
    have := Nat.mul_div_le n (2 ^ (k.val + 1)); omega
  unfold tailOff
  rw [h2, h.lo]
  show ((BitVec.ofNat 32 L + BitVec.ofNat 32 _) * BitVec.ofNat 32 128).toNat = _
  rw [← BitVec.ofNat_add, ← BitVec.ofNat_mul, toNat_ofNat_small]
  · rfl
  · have : L + 2 ^ (k.val + 1) * (n / 2 ^ (k.val + 1)) ≤ L + n := h3
    generalize 2 ^ (k.val + 1) * (n / 2 ^ (k.val + 1)) = q at *; omega

theorem Span.blockOff_eq (t : ℕ) (ht : t < n / 256) : blockOff (loW i a) t = (L + 256 * t) * 128 := by
  have h4 := h.L_lt
  unfold blockOff Scf.iv
  rw [h.lo]
  show ((BitVec.ofNat 32 L + (0#32 + BitVec.ofNat 32 t * 1#32) * BitVec.ofNat 32 256) * BitVec.ofNat 32 128).toNat = _
  rw [BitVec.mul_one, BitVec.zero_add, ← BitVec.ofNat_mul, ← BitVec.ofNat_add, ← BitVec.ofNat_mul, toNat_ofNat_small (by omega), Nat.mul_comm t]

theorem Span.block_in (t : ℕ) (ht : t < (blockLoop (spW i a b)).trips) : blockOff (loW i a) t + 32768 ≤ 4194304 := by
  have := h.L_lt
  rw [h.block_trips] at ht; rw [h.blockOff_eq t ht]; omega
theorem Span.tail_in (k : Fin 8) (hk : bitC (spW i a b) (BitVec.ofNat 32 (2 ^ k.val)) = 1#1) :
    tailOff (loW i a) (spW i a b) (BitVec.ofNat 32 (2 ^ 32 - 2 ^ (k.val + 1))) + 2 ^ k.val * 128 ≤ 4194304 := by
  have h1 := h.L_lt
  have h2 := tpos_end L n k.val ((h.bit_iff k).mp hk)
  rw [h.tailOff_eq k]
  generalize tpos L n (k.val + 1) = p at *
  generalize 2 ^ k.val = q at *
  omega
end

/-- Where a fill store of trip `t` goes. -/
theorem fillOff_eq {t : ℕ} (ht : t < 128) (r : ℕ) (hr : r < 16) :
    (Scalar.indexCast (Scalar.addi (Scalar.muli (Scalar.muli (Scf.iv 0#32 1#32 t) 2#32) 128#32) (BitVec.ofNat 32 (16 * r)))).toNat = 256 * t + 16 * r := by
  unfold Scf.iv
  show (((0#32 + BitVec.ofNat 32 t * 1#32) * BitVec.ofNat 32 2) * BitVec.ofNat 32 128 + BitVec.ofNat 32 (16 * r)).toNat = _
  rw [BitVec.mul_one, BitVec.zero_add, ← BitVec.ofNat_mul, ← BitVec.ofNat_mul, ← BitVec.ofNat_add, toNat_ofNat_small (by omega)]
  omega

theorem off1_def (t : Fin (k0_t1_loop i a b).trips) (c : BitVec 32) :
    k0_off1 i a b t c = ![(Scalar.indexCast (Scalar.addi (Scalar.muli (Scalar.muli (Scf.iv 0#32 1#32 t.val) 2#32) 128#32) c)).toNat] := rfl

/-- The side condition of a segment holds whatever the two words say. -/
theorem chk (i : grid0.Coords) (a b : BitVec 32) : k0_chk1 i a b := by
  by_cases hc : k0_cond1 i a b = 1#1
  swap
  · unfold k0_chk1
    exact ⟨fun h => absurd h hc, fun _ h => absurd h hc, fun h => absurd h hc, fun _ h => absurd h hc, fun h => absurd h hc, fun _ h => absurd h hc, fun h => absurd h hc, fun _ h => absurd h hc, fun h => absurd h hc, fun h => absurd h hc, fun h => absurd h hc, fun h => absurd h hc, fun h => absurd h hc, fun h => absurd h hc, fun h => absurd h hc, fun h => absurd h hc, fun h => absurd h hc, fun _ h => absurd h hc, fun h => absurd h hc, fun _ h => absurd h hc, fun h => absurd h hc, fun h => absurd h hc, fun h => absurd h hc, fun h => absurd h hc, fun h => absurd h hc, fun h => absurd h hc, fun h => absurd h hc, fun h => absurd h hc⟩
  obtain ⟨L, n, h⟩ := span_of i a b hc
  have hn := h.le
  have hL := h.L_lt
  have hb := h.block_in
  have ht := h.tail_in
  unfold k0_chk1
  refine ⟨fun _ => h.fill_ok, ?_, fun _ => h.fillRest_ok, ?_, fun _ => h.block_ok, ?_, fun _ => h.blockRest_ok, ?_, ?_, ?_, ?_, ?_, ?_, ?_, ?_, ?_, fun _ => h.block_ok, ?_, fun _ => h.blockRest_ok, ?_, ?_, ?_, ?_, ?_, ?_, ?_, ?_, ?_⟩
  · intro t _ r c
    have := Nat.lt_of_lt_of_eq t.isLt h.fill_trips
    match c with
    | ⟨0, _⟩ =>
      rw [off1_def]
      show (Scalar.indexCast _).toNat + 16 ≤ 32768
      rw [fillOff_eq (by omega) _ r.isLt]; omega
  · intro t; exact absurd (Nat.lt_of_lt_of_eq t.isLt h.fillRest_trips) (Nat.not_lt_zero _)
  · intro t _ c; match c with | ⟨0, _⟩ => exact hb t.val t.isLt
  · intro t; exact absurd (Nat.lt_of_lt_of_eq t.isLt h.blockRest_trips) (Nat.not_lt_zero _)
  · intro _ hk c; match c with | ⟨0, _⟩ => exact ht 7 hk
  · intro _ hk c; match c with | ⟨0, _⟩ => exact ht 6 hk
  · intro _ hk c; match c with | ⟨0, _⟩ => exact ht 5 hk
  · intro _ hk c; match c with | ⟨0, _⟩ => exact ht 4 hk
  · intro _ hk c; match c with | ⟨0, _⟩ => exact ht 3 hk
  · intro _ hk c; match c with | ⟨0, _⟩ => exact ht 2 hk
  · intro _ hk c; match c with | ⟨0, _⟩ => exact ht 1 hk
  · intro _ hk c; match c with | ⟨0, _⟩ => exact ht 0 hk
  · intro t _ c; match c with | ⟨0, _⟩ => exact hb t.val t.isLt
  · intro t; exact absurd (Nat.lt_of_lt_of_eq t.isLt h.blockRest_trips) (Nat.not_lt_zero _)
  · intro _ hk c; match c with | ⟨0, _⟩ => exact ht 7 hk
  · intro _ hk c; match c with | ⟨0, _⟩ => exact ht 6 hk
  · intro _ hk c; match c with | ⟨0, _⟩ => exact ht 5 hk
  · intro _ hk c; match c with | ⟨0, _⟩ => exact ht 4 hk
  · intro _ hk c; match c with | ⟨0, _⟩ => exact ht 3 hk
  · intro _ hk c; match c with | ⟨0, _⟩ => exact ht 2 hk
  · intro _ hk c; match c with | ⟨0, _⟩ => exact ht 1 hk
  · intro _ hk c; match c with | ⟨0, _⟩ => exact ht 0 hk

end Cert.Proof.Words
-- ==== Proof.Text.lean ====
module
public import proofs.«01_k».proof.KernelIdeal
public import proofs.«01_k».proof.Proof.Segs
@[expose] public section
set_option maxRecDepth 65536
set_option maxHeartbeats 400000
noncomputable section
/-! The tile's text in short form: one segment's fill, its copies out and its waits, each named once. -/
namespace Cert.Proof.Text
open Cert.KernelIdeal Cert.KernelIdeal.Facts₀ Cert.KernelIdeal.Facts Cert.Proof.Words
open Idealize.ShloMosaic Idealize.SL Idealize.SL.Sem

variable {F : FTy → Type} [FloatOps F] [Facts]

/-- A tile's programs. -/
abbrev TP (F : FTy → Type) (i : grid0.Coords) (α : Type) : Type 1 := Prog (TpuEff nD τ sig (Elt F) Λ₀ (.scVector ((i 0).castLE hcore0) ((i 1).castLE hsub0))) α

section
variable (i : grid0.Coords) (out : Memref sig .scVector .hbm S4194304 .f32) (rep : Memref sig .scVector .vmem S32768 .f32)

/-- A load of sixteen words that is not used, then a store of sixteen words there. -/
def put16 (off : Fin 1 → ℕ) (hin : ∀ x, off x + S16.size x ≤ S32768.size x) (v : FVec F S16 .f32) : TP F i PUnit := do
  let _ ← Prog.lift (.load rep (Rect.unit (s := S32768) off S16.size hin).toLoadRect (View.loadsAt_vmem h_S16))
  Prog.lift (.store rep (Rect.unit (s := S32768) off S16.size hin) (shapeCast S16 v shapeCasts_S16_S16) Finset.univ (View.stores_vmem_bits_univ h_S16 rfl) (.inl rfl))

/-- A copy of the first `sz` words of the replicated rows to the output at `off`, started if `p`. -/
def issue (sem : DmaSem sig) (sz : Fin 1 → ℕ) (h0 : ∀ x, (![0] : Fin 1 → ℕ) x + sz x ≤ S32768.size x) (off : Fin 1 → ℕ)
    (p : Prop) [Decidable p] (hin : p → ∀ x, off x + sz x ≤ S4194304.size x) {α : Type} (k : TP F i α) : TP F i α :=
  if h : p then do
    Prog.lift (.enqueueDma (rep.slice (Rect.unit (s := S32768) ![0] sz h0) (fun _ => rfl)) (.here (out.slice (Rect.unit (s := S4194304) off sz (hin h)) (fun _ => rfl))) (.dma sem) (View.wordExact_bits rfl) (View.wordExact_bits rfl) ⟨Or.inl rfl, trivial⟩)
    k
  else k

/-- The wait for such a copy. -/
def await (sem : DmaSem sig) (sz : Fin 1 → ℕ) (h0 : ∀ x, (![0] : Fin 1 → ℕ) x + sz x ≤ S32768.size x) (off : Fin 1 → ℕ)
    (p : Prop) [Decidable p] (hin : p → ∀ x, off x + sz x ≤ S4194304.size x) {α : Type} (k : TP F i α) : TP F i α :=
  if h : p then do
    Prog.lift (.waitDma2 sem (rep.slice (Rect.unit (s := S32768) ![0] sz h0) (fun _ => rfl)) (out.slice (Rect.unit (s := S4194304) off sz (hin h)) (fun _ => rfl)) (View.wordExact_bits rfl) (View.wordExact_bits rfl))
    k
  else k

/-- A copy of all the replicated rows to the output at `off`. -/
def blast (hrep : rep.IsWhole) (sem : DmaSem sig) (off : Fin 1 → ℕ) (hin : ∀ x, off x + S32768.size x ≤ S4194304.size x) : TP F i PUnit := do
  Prog.lift (.enqueueDma rep (.here (out.slice (Rect.unit (s := S4194304) off S32768.size hin) (fun _ => rfl))) (.dma sem) hrep.wordExact (View.wordExact_bits rfl) ⟨Or.inl rfl, trivial⟩)
  pure ⟨⟩

/-- The wait for such a copy. -/
def drain (hrep : rep.IsWhole) (sem : DmaSem sig) (off : Fin 1 → ℕ) (hin : ∀ x, off x + S32768.size x ≤ S4194304.size x) : TP F i PUnit := do
  Prog.lift (.waitDma2 sem rep (out.slice (Rect.unit (s := S4194304) off S32768.size hin) (fun _ => rfl)) hrep.wordExact (View.wordExact_bits rfl))
  pure ⟨⟩
end

/-- The table row that starts at word `o`, read as eight vectors. -/
def rows (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (o : ℕ) (ho : ∀ k, k < 8 → ∀ x, (![o + 16 * k] : Fin 1 → ℕ) x + S16.size x ≤ S2048.size x) (v12 v13 : BitVec 32) :
    TP F i (Σ' (v123 : FVec F S16 .f32) (v125 : FVec F S16 .f32) (v127 : FVec F S16 .f32) (v129 : FVec F S16 .f32) (v131 : FVec F S16 .f32) (v133 : FVec F S16 .f32) (v135 : FVec F S16 .f32) (v137 : FVec F S16 .f32) (v138 : BitVec 32) (c0_i32_26 : BitVec 32), BitVec 32) := do
  let c0_16 : Index := 0#32
  let v122 : Vec F S16 .f32 ← Prog.lift (.load arg5 (Rect.unit (s := S2048) ![o + 0] S16.size (ho 0 (by decide))).toLoadRect (View.loadsAt_vmem h_S16))
  have v123 : FVec F S16 .f32 := shapeCast S16 v122 shapeCasts_S16_S16
  let c16_17 : Index := 16#32
  let v124 : Vec F S16 .f32 ← Prog.lift (.load arg5 (Rect.unit (s := S2048) ![o + 16] S16.size (ho 1 (by decide))).toLoadRect (View.loadsAt_vmem h_S16))
  have v125 : FVec F S16 .f32 := shapeCast S16 v124 shapeCasts_S16_S16
  let c32 : Index := 32#32
  let v126 : Vec F S16 .f32 ← Prog.lift (.load arg5 (Rect.unit (s := S2048) ![o + 32] S16.size (ho 2 (by decide))).toLoadRect (View.loadsAt_vmem h_S16))
  have v127 : FVec F S16 .f32 := shapeCast S16 v126 shapeCasts_S16_S16
  let c48 : Index := 48#32
  let v128 : Vec F S16 .f32 ← Prog.lift (.load arg5 (Rect.unit (s := S2048) ![o + 48] S16.size (ho 3 (by decide))).toLoadRect (View.loadsAt_vmem h_S16))
  have v129 : FVec F S16 .f32 := shapeCast S16 v128 shapeCasts_S16_S16
  let c64 : Index := 64#32
  let v130 : Vec F S16 .f32 ← Prog.lift (.load arg5 (Rect.unit (s := S2048) ![o + 64] S16.size (ho 4 (by decide))).toLoadRect (View.loadsAt_vmem h_S16))
  have v131 : FVec F S16 .f32 := shapeCast S16 v130 shapeCasts_S16_S16
  let c80 : Index := 80#32
  let v132 : Vec F S16 .f32 ← Prog.lift (.load arg5 (Rect.unit (s := S2048) ![o + 80] S16.size (ho 5 (by decide))).toLoadRect (View.loadsAt_vmem h_S16))
  have v133 : FVec F S16 .f32 := shapeCast S16 v132 shapeCasts_S16_S16
  let c96 : Index := 96#32
  let v134 : Vec F S16 .f32 ← Prog.lift (.load arg5 (Rect.unit (s := S2048) ![o + 96] S16.size (ho 6 (by decide))).toLoadRect (View.loadsAt_vmem h_S16))
  have v135 : FVec F S16 .f32 := shapeCast S16 v134 shapeCasts_S16_S16
  let c112 : Index := 112#32
  let v136 : Vec F S16 .f32 ← Prog.lift (.load arg5 (Rect.unit (s := S2048) ![o + 112] S16.size (ho 7 (by decide))).toLoadRect (View.loadsAt_vmem h_S16))
  have v137 : FVec F S16 .f32 := shapeCast S16 v136 shapeCasts_S16_S16
  let v138 : BitVec 32 := Scalar.subi v13 v12
  let c1_i32 : BitVec 32 := 1#32
  let v139 : BitVec 32 := Scalar.addi v138 c1_i32
  let c2_i32_18 : BitVec 32 := 2#32
  let v140 : BitVec 32 := Scalar.divsi v139 c2_i32_18
  let c0_i32_19 : BitVec 32 := 0#32
  let v141 : BitVec 1 := Scalar.cmpi .sgt v139 c0_i32_19
  let v142 : BitVec 32 := Scalar.extui v141
  let c0_i32_20 : BitVec 32 := 0#32
  let v143 : BitVec 1 := Scalar.cmpi .slt v139 c0_i32_20
  let v144 : BitVec 32 := Scalar.extui v143
  let v145 : BitVec 32 := Scalar.subi v142 v144
  let c0_i32_21 : BitVec 32 := 0#32
  let v146 : BitVec 1 := Scalar.cmpi .sgt c2_i32_18 c0_i32_21
  let v147 : BitVec 32 := Scalar.extui v146
  let c0_i32_22 : BitVec 32 := 0#32
  let v148 : BitVec 1 := Scalar.cmpi .slt c2_i32_18 c0_i32_22
  let v149 : BitVec 32 := Scalar.extui v148
  let v150 : BitVec 32 := Scalar.subi v147 v149
  let v151 : BitVec 1 := Scalar.cmpi .ne v145 v150
  let v152 : BitVec 32 := Scalar.remsi v139 c2_i32_18
  let c0_i32_23 : BitVec 32 := 0#32
  let v153 : BitVec 1 := Scalar.cmpi .ne v152 c0_i32_23
  let v154 : BitVec 1 := Scalar.andi v151 v153
  let c1_i32_24 : BitVec 32 := 1#32
  let v155 : BitVec 32 := Scalar.subi v140 c1_i32_24
  let v156 : BitVec 32 := Scalar.select v154 v155 v140
  let c128_i32 : BitVec 32 := 128#32
  let v157 : BitVec 32 := Scalar.minsi v156 c128_i32
  let c0_i32_25 : BitVec 32 := 0#32
  let c0_i32_26 : BitVec 32 := 0#32
  let v158 : BitVec 32 := Scalar.subi v157 c0_i32_26
  let v159 : BitVec 32 := Scalar.addi c0_i32_26 v158
  let c1_i32_27 : BitVec 32 := 1#32
  let v160 : BitVec 32 := Scalar.divsi v158 c1_i32_27
  let v161 : BitVec 32 := Scalar.muli v160 c1_i32_27
  pure ⟨v123, v125, v127, v129, v131, v133, v135, v137, v138, c0_i32_26, v161⟩

theorem z_in (sz : Fin 1 → ℕ) (h : sz 0 ≤ 32768) : ∀ x, (![0] : Fin 1 → ℕ) x + sz x ≤ S32768.size x := by
  intro x
  obtain rfl : x = 0 := Subsingleton.elim _ _
  show 0 + sz 0 ≤ 32768
  omega

theorem row0_in (o : ℕ) (h : o + 128 ≤ 2048) : ∀ k, k < 8 → ∀ x, (![o + 16 * k] : Fin 1 → ℕ) x + S16.size x ≤ S2048.size x := by
  intro k hk x
  obtain rfl : x = 0 := Subsingleton.elim _ _
  show o + 16 * k + 16 ≤ 2048
  omega

/-- The fill of the replicated rows, one trip of two rows. -/
def fillTrip (i : grid0.Coords) (arg7 : Memref sig .scVector .vmem S32768 .f32) (v9 v11 : BitVec 32) (k0_hw1 : k0_chk1 i v9 v11) (k0_h1 : k0_cond1 i v9 v11 = 1#1)
    (t : Fin (k0_t1_loop i v9 v11).trips) (w0 w1 w2 w3 w4 w5 w6 w7 : FVec F S16 .f32) : TP F i PUnit := do
  put16 i arg7 (k0_off1 i v9 v11 t 0#32) (k0_off1_inb i v9 v11 k0_hw1 t k0_h1 0) w0
  put16 i arg7 (k0_off1 i v9 v11 t 16#32) (k0_off1_inb i v9 v11 k0_hw1 t k0_h1 1) w1
  put16 i arg7 (k0_off1 i v9 v11 t 32#32) (k0_off1_inb i v9 v11 k0_hw1 t k0_h1 2) w2
  put16 i arg7 (k0_off1 i v9 v11 t 48#32) (k0_off1_inb i v9 v11 k0_hw1 t k0_h1 3) w3
  put16 i arg7 (k0_off1 i v9 v11 t 64#32) (k0_off1_inb i v9 v11 k0_hw1 t k0_h1 4) w4
  put16 i arg7 (k0_off1 i v9 v11 t 80#32) (k0_off1_inb i v9 v11 k0_hw1 t k0_h1 5) w5
  put16 i arg7 (k0_off1 i v9 v11 t 96#32) (k0_off1_inb i v9 v11 k0_hw1 t k0_h1 6) w6
  put16 i arg7 (k0_off1 i v9 v11 t 112#32) (k0_off1_inb i v9 v11 k0_hw1 t k0_h1 7) w7
  put16 i arg7 (k0_off1 i v9 v11 t 128#32) (k0_off1_inb i v9 v11 k0_hw1 t k0_h1 8) w0
  put16 i arg7 (k0_off1 i v9 v11 t 144#32) (k0_off1_inb i v9 v11 k0_hw1 t k0_h1 9) w1
  put16 i arg7 (k0_off1 i v9 v11 t 160#32) (k0_off1_inb i v9 v11 k0_hw1 t k0_h1 10) w2
  put16 i arg7 (k0_off1 i v9 v11 t 176#32) (k0_off1_inb i v9 v11 k0_hw1 t k0_h1 11) w3
  put16 i arg7 (k0_off1 i v9 v11 t 192#32) (k0_off1_inb i v9 v11 k0_hw1 t k0_h1 12) w4
  put16 i arg7 (k0_off1 i v9 v11 t 208#32) (k0_off1_inb i v9 v11 k0_hw1 t k0_h1 13) w5
  put16 i arg7 (k0_off1 i v9 v11 t 224#32) (k0_off1_inb i v9 v11 k0_hw1 t k0_h1 14) w6
  put16 i arg7 (k0_off1 i v9 v11 t 240#32) (k0_off1_inb i v9 v11 k0_hw1 t k0_h1 15) w7
  pure ⟨⟩

end Cert.Proof.Text
-- ==== Proof.TextEq.lean ====
module
public import proofs.«01_k».proof.KernelIdeal.P01
public import proofs.«01_k».proof.Proof.Text
@[expose] public section
set_option maxRecDepth 65536
set_option maxHeartbeats 400000
noncomputable section
/-! The printed windows of one segment are the short text. -/
namespace Cert.Proof.Text
open Cert.KernelIdeal Cert.KernelIdeal.Facts₀ Cert.KernelIdeal.Facts Cert.Proof.Words
open Idealize.ShloMosaic Idealize.SL Idealize.SL.Sem

variable {F : FTy → Type} [FloatOps F] [Facts]

theorem part5_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v12 v13 : BitVec 32) :
    k0_part5 (F := F) i arg2 harg2 arg3 harg3 arg4 harg4 arg5 harg5 arg6 harg6 arg7 harg7 arg8 arg9 arg10 arg11 arg12 arg13 arg14 arg15 arg16 v122_r0 v122_r1 v12 v13 = rows i arg2 harg2 arg3 harg3 arg4 harg4 arg5 harg5 arg6 harg6 arg7 harg7 arg8 arg9 arg10 arg11 arg12 arg13 arg14 arg15 arg16 v122_r0 v122_r1 0 (row0_in 0 (by decide)) v12 v13 := rfl

theorem part6_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (v12 : BitVec 32) (k0_h1 : k0_cond1 i v9 v11 = 1#1)
    (w0 w1 w2 w3 w4 w5 w6 w7 : FVec F S16 .f32) (v138 c v161 : BitVec 32) :
    ∃ r body2, k0_part6 (F := F) i arg2 harg2 arg3 harg3 arg4 harg4 arg5 harg5 arg6 harg6 arg7 harg7 arg8 arg9 arg10 arg11 arg12 arg13 arg14 arg15 arg16 v122_r0 v122_r1 v9 v11 k0_hw1 v12 k0_h1 w0 w1 w2 w3 w4 w5 w6 w7 v138 c v161 = (do
      Prog.bind (Scf.Loop.for (k0_t1_loop i v9 v11) (k0_t1_ok i v9 v11 k0_hw1 k0_h1) PUnit.unit (fun t _ => fillTrip i arg7 v9 v11 k0_hw1 k0_h1 t w0 w1 w2 w3 w4 w5 w6 w7)) fun _ =>
      Prog.bind (Scf.Loop.for (k0_t2_loop i v9 v11) (k0_t2_ok i v9 v11 k0_hw1 k0_h1) PUnit.unit (body2)) fun _ =>
      Prog.bind (Scf.Loop.for (k0_t3_loop i v9 v11) (k0_t3_ok i v9 v11 k0_hw1 k0_h1) PUnit.unit (fun t _ => blast i arg4 arg7 harg7 arg8.sem (k0_off3 i v9 v11 t) (k0_off3_inb i v9 v11 k0_hw1 t k0_h1))) fun _ =>
      Prog.bind (Scf.Loop.for (k0_t4_loop i v9 v11) (k0_t4_ok i v9 v11 k0_hw1 k0_h1) PUnit.unit (fun t _ => blast i arg4 arg7 harg7 arg8.sem (k0_off4 i v9 v11 t) (k0_off4_inb i v9 v11 k0_hw1 t k0_h1))) fun _ =>
      issue i arg4 arg7 arg9.sem S16384.size (z_in S16384.size (Nat.le_of_ble_eq_true rfl)) (k0_off5 i v9 v11) (k0_cond2 i v9 v11 = 1#1) (fun h => k0_off5_inb i v9 v11 k0_hw1 k0_h1 h) <|
      pure r) := ⟨_, _, rfl⟩

theorem part7_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (v12 : BitVec 32) (k0_h1 : k0_cond1 i v9 v11 = 1#1) (v138 v192 v195 : BitVec 32) :
    ∃ r, k0_part7 (F := F) i arg2 harg2 arg3 harg3 arg4 harg4 arg5 harg5 arg6 harg6 arg7 harg7 arg8 arg9 arg10 arg11 arg12 arg13 arg14 arg15 arg16 v122_r0 v122_r1 v9 v11 k0_hw1 v12 k0_h1 v138 v192 v195 = (do
      issue i arg4 arg7 arg10.sem S8192.size (z_in S8192.size (Nat.le_of_ble_eq_true rfl)) (k0_off6 i v9 v11) (k0_cond3 i v9 v11 = 1#1) (fun h => k0_off6_inb i v9 v11 k0_hw1 k0_h1 h) <|
      issue i arg4 arg7 arg11.sem S4096.size (z_in S4096.size (Nat.le_of_ble_eq_true rfl)) (k0_off7 i v9 v11) (k0_cond4 i v9 v11 = 1#1) (fun h => k0_off7_inb i v9 v11 k0_hw1 k0_h1 h) <|
      issue i arg4 arg7 arg12.sem S2048.size (z_in S2048.size (Nat.le_of_ble_eq_true rfl)) (k0_off8 i v9 v11) (k0_cond5 i v9 v11 = 1#1) (fun h => k0_off8_inb i v9 v11 k0_hw1 k0_h1 h) <|
      issue i arg4 arg7 arg13.sem S1024.size (z_in S1024.size (Nat.le_of_ble_eq_true rfl)) (k0_off9 i v9 v11) (k0_cond6 i v9 v11 = 1#1) (fun h => k0_off9_inb i v9 v11 k0_hw1 k0_h1 h) <|
      issue i arg4 arg7 arg14.sem S512.size (z_in S512.size (Nat.le_of_ble_eq_true rfl)) (k0_off10 i v9 v11) (k0_cond7 i v9 v11 = 1#1) (fun h => k0_off10_inb i v9 v11 k0_hw1 k0_h1 h) <|
      issue i arg4 arg7 arg15.sem S256.size (z_in S256.size (Nat.le_of_ble_eq_true rfl)) (k0_off11 i v9 v11) (k0_cond8 i v9 v11 = 1#1) (fun h => k0_off11_inb i v9 v11 k0_hw1 k0_h1 h) <|
      pure r) := ⟨_, rfl⟩

theorem part8_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (v12 : BitVec 32) (k0_h1 : k0_cond1 i v9 v11 = 1#1) (v138 v179 v227 : BitVec 32) :
    ∃ r, k0_part8 (F := F) i arg2 harg2 arg3 harg3 arg4 harg4 arg5 harg5 arg6 harg6 arg7 harg7 arg8 arg9 arg10 arg11 arg12 arg13 arg14 arg15 arg16 v122_r0 v122_r1 v9 v11 k0_hw1 v12 k0_h1 v138 v179 v227 = (do
      issue i arg4 arg7 arg16.sem S128.size (z_in S128.size (Nat.le_of_ble_eq_true rfl)) (k0_off12 i v9 v11) (k0_cond9 i v9 v11 = 1#1) (fun h => k0_off12_inb i v9 v11 k0_hw1 k0_h1 h) <|
      Prog.bind (Scf.Loop.for (k0_t5_loop i v9 v11) (k0_t5_ok i v9 v11 k0_hw1 k0_h1) PUnit.unit (fun t _ => drain i arg4 arg7 harg7 arg8.sem (k0_off13 i v9 v11 t) (k0_off13_inb i v9 v11 k0_hw1 t k0_h1))) fun _ =>
      Prog.bind (Scf.Loop.for (k0_t6_loop i v9 v11) (k0_t6_ok i v9 v11 k0_hw1 k0_h1) PUnit.unit (fun t _ => drain i arg4 arg7 harg7 arg8.sem (k0_off14 i v9 v11 t) (k0_off14_inb i v9 v11 k0_hw1 t k0_h1))) fun _ =>
      await i arg4 arg7 arg9.sem S16384.size (z_in S16384.size (Nat.le_of_ble_eq_true rfl)) (k0_off15 i v9 v11) (k0_cond10 i v9 v11 = 1#1) (fun h => k0_off15_inb i v9 v11 k0_hw1 k0_h1 h) <|
      await i arg4 arg7 arg10.sem S8192.size (z_in S8192.size (Nat.le_of_ble_eq_true rfl)) (k0_off16 i v9 v11) (k0_cond11 i v9 v11 = 1#1) (fun h => k0_off16_inb i v9 v11 k0_hw1 k0_h1 h) <|
      await i arg4 arg7 arg11.sem S4096.size (z_in S4096.size (Nat.le_of_ble_eq_true rfl)) (k0_off17 i v9 v11) (k0_cond12 i v9 v11 = 1#1) (fun h => k0_off17_inb i v9 v11 k0_hw1 k0_h1 h) <|
      pure r) := ⟨_, rfl⟩

end Cert.Proof.Text
-- ==== Proof.Mem.lean ====
module
public import proofs.«01_k».proof.Proof.TextEq
public import Idealize.ShloMosaic.Lib.SparseCore.Quiescent
public import Idealize.ShloMosaic.Lib.SparseCore.Ops
public import Idealize.ShloMosaic.Lib.Batch
public import Idealize.ShloMosaic.Lib.Scf
public import Idealize.ShloMosaic.Lib.Transfers
public import Idealize.ShloMosaic.Lib.Tactic
@[expose] public section
set_option maxRecDepth 16384
noncomputable section
/-! What one tile's copies do to memory: the copies out of the replicated rows, started and waited for. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Intervals of the output's words -/

/-- The words of the output from `a` to `b`. -/
def iv (a b : ℕ) : Finset S4194304.Idx := Finset.univ.filter fun x => a ≤ (x 0).val ∧ (x 0).val < b

theorem mem_iv {a b : ℕ} {x : S4194304.Idx} : x ∈ iv a b ↔ a ≤ (x 0).val ∧ (x 0).val < b := by
  simp only [iv, Finset.mem_filter, Finset.mem_univ, true_and]

theorem iv_self (a : ℕ) : iv a a = ∅ := by
  apply Finset.eq_empty_of_forall_notMem
  intro x hx
  rw [mem_iv] at hx; omega

theorem iv_union {a b c : ℕ} (h : a ≤ b) (h' : b ≤ c) : iv a c = iv a b ∪ iv b c := by
  ext x
  rw [Finset.mem_union, mem_iv, mem_iv, mem_iv]; omega

theorem iv_disjoint (a b c : ℕ) : Disjoint (iv a b) (iv b c) := by
  rw [Finset.disjoint_left]; intro x h h'
  rw [mem_iv] at h h'; omega

/-- The share left after `n` halves are handed out. -/
def rt (q : PosShare TreeShare) : ℕ → PosShare TreeShare
  | 0 => q
  | n + 1 => (rt q n).right

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)
abbrev oLoc : Loc nD τ sig := (OV).view.loc (thr d L)
abbrev rLoc : Loc nD τ sig := (RV).view.loc (thr d L)
abbrev tLoc : Loc nD τ sig := (TV).view.loc (thr d L)
abbrev bLoc : Loc nD τ sig := (BV).view.loc (thr d L)

/-- The run of a tile's program to a postcondition. -/
abbrev Wp {α : Type} (p : TP F L α) (Q : α → sProp 𝕄) : sProp 𝕄 := wp frame (wpE (defs₀ (F := F)) Variants.none (thr d L) none) Set.univ p Q

theorem pts_split (q : PosShare TreeShare) (f : Buf (Elt F) (oLoc d L)) {a b c : ℕ} (h : a ≤ b) (h' : b ≤ c) :
    (oLoc d L ↦[iv a c]{q} f : sProp 𝕄) = iprop((oLoc d L ↦[iv a b]{q} f) ∗ oLoc d L ↦[iv b c]{q} f) := by
  rw [iv_union h h']
  exact Entails.antisymm (pointsTo_union (ℓ := oLoc d L) (q := q) (f := f) (iv_disjoint a b c)).1 (pointsTo_union (ℓ := oLoc d L) (q := q) (f := f) (iv_disjoint a b c)).2

theorem pts_self (q : PosShare TreeShare) (f : Buf (Elt F) (oLoc d L)) (a : ℕ) : (oLoc d L ↦[iv a a]{q} f : sProp 𝕄) = iprop(emp) := by
  rw [iv_self]; exact pointsTo_empty

/-- The first `sz` words of the replicated rows, as a copy's source. -/
abbrev srcM (sz : Fin 1 → ℕ) (h0 : ∀ x, (![0] : Fin 1 → ℕ) x + sz x ≤ S32768.size x) :=
  (RV).slice (Rect.unit (s := S32768) ![0] sz h0) (fun _ => rfl)
/-- `sz` words of the output at `off`, as a copy's destination. -/
abbrev dstM (sz off : Fin 1 → ℕ) (hin : ∀ x, off x + sz x ≤ S4194304.size x) :=
  (OV).slice (Rect.unit (s := S4194304) off sz hin) (fun _ => rfl)

theorem dstM_set (sz off : Fin 1 → ℕ) (hin : ∀ x, off x + sz x ≤ S4194304.size x) : (dstM sz off hin).view.set = iv (off 0) (off 0 + sz 0) := by
  show ((View.whole main_v3_scv).slice (Rect.unit (s := S4194304) off sz hin)).set = _
  rw [View.set_slice_whole]
  ext x
  rw [mem_iv, Rect.mem_set_unit]
  exact ⟨fun h => h 0, fun h a => match a with | ⟨0, _⟩ => h⟩

/-- What a copy lands: the destination's word is the source's at the same place from the start. -/
theorem landed (sz off : Fin 1 → ℕ) (h0 : ∀ x, (![0] : Fin 1 → ℕ) x + sz x ≤ S32768.size x) (hin : ∀ x, off x + sz x ≤ S4194304.size x)
    (f : Buf (Elt F) (oLoc d L)) (fs : Buf (Elt F) (rLoc d L)) (x : S4194304.Idx) (hx : x ∈ iv (off 0) (off 0 + sz 0))
    (z : S32768.Idx) (hz : (z 0).val = (x 0).val - off 0) :
    (dstM sz off hin).view.write (Elt F) f ((srcM sz h0).view.read (Elt F) fs) Finset.univ x = fs z := by
  rw [← dstM_set sz off hin] at hx
  obtain ⟨y, -, rfl⟩ := Finset.mem_map.mp hx
  rw [View.write_emb_of_mem _ _ (Finset.mem_univ y)]
  show fs ((srcM sz h0).view.emb y) = fs z
  congr 1
  funext a
  match a with
  | ⟨0, _⟩ =>
  apply Fin.ext
  show ((srcM sz h0).view.emb y (0 : Fin 1)).val = (z 0).val
  have e1 : ((dstM sz off hin).view.emb y (0 : Fin 1)).val = off 0 + 1 * (y (0 : Fin 1)).val := rfl
  have e2 : ((srcM sz h0).view.emb y (0 : Fin 1)).val = 0 + 1 * (y (0 : Fin 1)).val := rfl
  rw [e2]
  change (z 0).val = ((dstM sz off hin).view.emb y (0 : Fin 1)).val - off 0 at hz
  rw [hz, e1]; omega

/-- What a copy of `sz` words counts on its semaphore. -/
abbrev credit (sz : Fin 1 → ℕ) : ℕ := sig.dmaCredit .scVector (Kind.table .scVector .hbm) (View.whole main_v3_scv).buf ⟨1, sz⟩ .f32

theorem credit_pos (sz : Fin 1 → ℕ) (h : 0 < sz 0) : 0 < credit sz :=
  sig.dmaCredit_pos _ _ _ _ _ (Shape.numel_pos fun a => match a with | ⟨0, _⟩ => h)

end
end Cert.Proof.Mem
-- ==== Proof.Ops.lean ====
module
public import proofs.«01_k».proof.Proof.Mem
public import Idealize.ShloMosaic.Lib.SparseCore.Quiescent
public import Idealize.ShloMosaic.Lib.SparseCore.Ops
public import Idealize.ShloMosaic.Lib.Batch
public import Idealize.ShloMosaic.Lib.Scf
public import Idealize.ShloMosaic.Lib.Transfers
public import Idealize.ShloMosaic.Lib.Tactic
@[expose] public section
set_option maxRecDepth 16384
noncomputable section
/-! The copies out of the replicated rows: each kind of start and of wait, as what it takes from memory and gives back. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

variable (d : Dev nD) (L : grid0.Coords)

variable (EC : UEmb Counters (MT nD τ sig (HIx 1) (Elt F) ℕ U ℕ)) [EC.LandsIn (upEmb : UEmb _ (MT nD τ sig (HIx 1) (Elt F) ℕ U ℕ))]

/-- A cell of the tile's. -/
abbrev cell (s : DmaSem sig) : GSem nD τ sig := (thr d L, .dma s)

/-- What the tile owes, with only waits for nobody's sake added to `W`. -/
def OW (O : CellTallies nD τ sig (HIx 1)) (W : Waits sig (HIx 1)) : sProp 𝕄 :=
  iprop(∃ W', ⌜∀ p ∈ W', p ∈ W ∨ p.2 = none⌝ ∗ owes (thr d L) O W')

/-- What a copy of `sz` words to the words from `a` to `b` brings back. -/
abbrev back (sz : Fin 1 → ℕ) (h0 : ∀ x, (![0] : Fin 1 → ℕ) x + sz x ≤ S32768.size x) (a b : ℕ) (f' : Buf (Elt F) (oLoc d L)) (q : PosShare TreeShare)
    (fs : Buf (Elt F) (rLoc d L)) : sProp 𝕄 :=
  iprop((oLoc d L ↦[iv a b]{fullShare} f') ∗ rLoc d L ↦[(srcM sz h0).view.set]{q} fs)

/-- A copy under way if `p`; its semaphore and the source's share if not. -/
def Fly (sem : DmaSem sig) (sz : Fin 1 → ℕ) (h0 : ∀ x, (![0] : Fin 1 → ℕ) x + sz x ≤ S32768.size x) (p : Prop) (a b : ℕ)
    (f' : Buf (Elt F) (oLoc d L)) (q : PosShare TreeShare) (fs : Buf (Elt F) (rLoc d L)) : sProp 𝕄 :=
  iprop((⌜p⌝ ∗ Transfers.Batch EC (thr d L) (.dma sem) (none : HIx 1) (credit sz) (fun _ : Fin 1 => back d L sz h0 a b f' q fs) 1 0
      ∗ rLoc d L ↦[Finset.univ \ (srcM sz h0).view.set]{q} fs)
    ∨ (⌜¬p⌝ ∗ (rLoc d L ↦{q} fs) ∗ semVal (cell d L sem) 0))

theorem OW_insert {W W' : Waits sig (HIx 1)} {s : SemLoc sig} (hW : ∀ p ∈ W', p ∈ W ∨ p.2 = none) :
    ∀ p ∈ insert (s, (none : HIx 1)) W', p ∈ W ∨ p.2 = none := fun p hp =>
  (Finset.mem_insert.mp hp).elim (fun e => .inr (e ▸ rfl)) (hW p)

/-- What a copy leaves is what it brings back. -/
theorem deliver {sz off : Fin 1 → ℕ} {h0 : ∀ x, (![0] : Fin 1 → ℕ) x + sz x ≤ S32768.size x} {hin : ∀ x, off x + sz x ≤ S4194304.size x} {a b : ℕ}
    (ha : off 0 = a) (hb : b = a + sz 0) {fs : Buf (Elt F) (rLoc d L)} {f f' : Buf (Elt F) (oLoc d L)} {q : PosShare TreeShare}
    (hf : ∀ (x : S4194304.Idx) (z : S32768.Idx), a ≤ (x 0).val → (x 0).val < b → (z 0).val = (x 0).val - a → f' x = fs z) :
    iprop(((dstM sz off hin).view.loc (thr d L) ↦[iv a b]{fullShare} (dstM sz off hin).view.write (Elt F) f (ReadAs.same.apply ((srcM sz h0).view.read (Elt F) fs)) Finset.univ)
        ∗ ((srcM sz h0).view.loc (thr d L) ↦[(srcM sz h0).view.set]{q} fs))
      ⊢ (back d L sz h0 a b f' q fs : sProp 𝕄) := by
  subst ha hb
  refine sep_mono_l (Entails.of_eq (pointsTo_congr ?_))
  intro x hx
  have hx' := mem_iv.mp hx
  have hs := h0 0
  have hz : (x 0).val - off 0 < S32768.size 0 := by
    change 0 + sz 0 ≤ S32768.size 0 at hs; omega
  rw [hf x (fun a => match a with | ⟨0, _⟩ => ⟨(x 0).val - off 0, hz⟩) hx'.1 hx'.2 rfl]
  exact landed d L sz off h0 hin f fs x hx _ rfl

/-- The start of a copy, where it is started: the words it writes leave the tile's hands, and half the share it reads. -/
theorem issue_wp {sem : DmaSem sig} {sz off : Fin 1 → ℕ} {h0 : ∀ x, (![0] : Fin 1 → ℕ) x + sz x ≤ S32768.size x} {p : Prop} [Decidable p]
    {hin : p → ∀ x, off x + sz x ≤ S4194304.size x} {α : Type} {k : TP F L α} {Q : α → sProp 𝕄} {a b e : ℕ}
    (ha : p → off 0 = a) (hb : p → b = a + sz 0) (hb' : ¬p → b = a) (he : b ≤ e)
    {fs : Buf (Elt F) (rLoc d L)} {f f' : Buf (Elt F) (oLoc d L)} {q : PosShare TreeShare}
    (hf : p → ∀ (x : S4194304.Idx) (z : S32768.Idx), a ≤ (x 0).val → (x 0).val < b → (z 0).val = (x 0).val - a → f' x = fs z) :
    iprop((rLoc d L ↦{q} fs) ∗ (oLoc d L ↦[iv a e]{fullShare} f) ∗ semVal (cell d L sem) 0)
      ⊢ iprop(((rLoc d L ↦{q.right} fs) ∗ (oLoc d L ↦[iv b e]{fullShare} f) ∗ Fly d L EC sem sz h0 p a b f' q.left fs -∗ Wp d L k Q)
          -∗ Wp d L (issue L OV RV sem sz h0 off p hin k) Q) := by
  by_cases hp : p
  · have ha := ha hp
    have hb := hb hp
    have hf := hf hp
    iintro ⟨HR, HO, Hs⟩ HK
    ihave HR' := (pointsTo_share (PosShare.mem_left_op_right q)).1 $$ HR
    icases HR' with ⟨HL, HR⟩
    ihave HL' := (pointsTo_split_subset (Finset.subset_univ (srcM sz h0).view.set)).1 $$ HL
    icases HL' with ⟨HS, HL⟩
    ihave HO' := (Entails.of_eq (pts_split d L fullShare f (by omega : a ≤ b) he)) $$ HO
    icases HO' with ⟨HD, HO⟩
    imod (Transfers.batch_alloc' EC (thr d L) (none : HIx 1) (credit sz) (fun _ : Fin 1 => back d L sz h0 a b f' q.left fs)
      (sm := .dma sem) (E := Set.univ)) $$ Hs with HB
    rw [show (issue L OV RV sem sz h0 off p hin k : TP F L α) = Prog.op (.enqueueDmaAs (srcM sz h0) (.here (dstM sz off (hin hp))) _ (.dma sem)
      (View.wordExact_bits rfl) (View.wordExact_bits rfl) ⟨Or.inl rfl, trivial⟩) (fun _ => k) from dif_pos hp]
    iapply (Transfers.wp_dmaBatch EC Variants.none (thr d L) none (src := srcM sz h0) (dst := dstM sz off (hin hp)) (none : HIx 1) (credit sz) rfl (Sd := iv a b)
      (by rw [dstM_set, ha, hb]) (D := fun _ : Fin 1 => back d L sz h0 a b f' q.left fs) (q := q.left) (fs := fs) (fd := f) (j := 0) (u := 0)
      (by decide) (Nat.zero_le _) (deliver d L ha hb hf)) $$ [HS HD HB]
    · isplitl [HS]; · iexact HS
      isplitl [HD]; · iexact HD
      iexact HB
    iintro HB
    iapply HK $$ [HR HO HL HB]
    isplitl [HR]; · iexact HR
    isplitl [HO]; · iexact HO
    unfold Fly
    ileft
    isplitr; · ipureintro; exact hp
    isplitl [HB]; · iexact HB
    iexact HL
  · rw [show (issue L OV RV sem sz h0 off p hin k : TP F L α) = k from dif_neg hp, hb' hp]
    iintro ⟨HR, HO, Hs⟩ HK
    ihave HR' := (pointsTo_share (PosShare.mem_left_op_right q)).1 $$ HR
    icases HR' with ⟨HL, HR⟩
    iapply HK $$ [HR HO HL Hs]
    isplitl [HR]; · iexact HR
    isplitl [HO]; · iexact HO
    unfold Fly
    iright
    isplitr; · ipureintro; exact hp
    isplitl [HL]; · iexact HL
    iexact Hs

/-- The wait for a copy, where it was started: the words written and the share read come back. -/
theorem await_wp {sem : DmaSem sig} {sz off : Fin 1 → ℕ} {h0 : ∀ x, (![0] : Fin 1 → ℕ) x + sz x ≤ S32768.size x} {p : Prop} [Decidable p]
    {hin : p → ∀ x, off x + sz x ≤ S4194304.size x} {α : Type} {k : TP F L α} {Q : α → sProp 𝕄} {a b : ℕ} (hsz : 0 < sz 0) (hb' : ¬p → b = a)
    {fs : Buf (Elt F) (rLoc d L)} {f' : Buf (Elt F) (oLoc d L)} {q : PosShare TreeShare} {O : CellTallies nD τ sig (HIx 1)} {W : Waits sig (HIx 1)} :
    iprop(Transfers.MayWaits (thr d L) (none : HIx 1) O ∗ Fly d L EC sem sz h0 p a b f' q fs ∗ OW d L O W)
      ⊢ iprop(((rLoc d L ↦{q} fs) ∗ (oLoc d L ↦[iv a b]{fullShare} f') ∗ semVal (cell d L sem) 0 ∗ OW d L O W -∗ Wp d L k Q)
          -∗ Wp d L (await L OV RV sem sz h0 off p hin k) Q) := by
  unfold Fly OW
  iintro ⟨#Hmw, HF, ⟨%W', %hW, HO⟩⟩ HK
  icases HF with ⟨⟨%hp, HB, HR⟩ | ⟨%hp, HR, Hs⟩⟩
  · rw [show (await L OV RV sem sz h0 off p hin k : TP F L α) = Prog.op (.waitDma2 sem (srcM sz h0) (dstM sz off (hin hp))
      (View.wordExact_bits rfl) (View.wordExact_bits rfl)) (fun _ => k) from dif_pos hp]
    iapply (Transfers.wp_waitBatchMulO EC Variants.none (thr d L) none (srcw := srcM sz h0) (dstw := dstM sz off (hin hp)) (none : HIx 1) (N := credit sz) 1
      (Nat.one_mul _).symm (D := fun _ : Fin 1 => back d L sz h0 a b f' q fs) (j := 1) (u := 0) (by simp)) $$ [HB HO Hmw]
    · isplitl [HB]; · iexact HB
      isplitl [HO]; · iexact HO
      ihave Hm := Transfers.MayWaits.elim (SemLoc.dma sem) $$ Hmw
      iexact Hm
    iintro ⟨HB, HO⟩
    imod (Transfers.batch_collect' EC (c := thr d L) (sm := .dma sem) (ι := (none : HIx 1)) (N := credit sz) (n := 1) (D := fun _ : Fin 1 => back d L sz h0 a b f' q fs) (credit_pos sz hsz)) $$ [HB] with ⟨HD, Hs⟩
    · rw [show credit sz * 1 = 0 + 1 * credit sz by omega]; iexact HB
    ihave HD' := (Entails.of_eq (bigSep_univ_of_subsingleton (0 : Fin 1))) $$ HD
    icases HD' with ⟨HD, HS⟩
    iapply HK $$ [HR HS HD Hs HO]
    isplitl [HR HS]
    · iapply (pointsTo_split_subset (Finset.subset_univ (srcM sz h0).view.set)).2
      isplitl [HS]; · iexact HS
      iexact HR
    isplitl [HD]; · iexact HD
    isplitl [Hs]; · iexact Hs
    iexists (insert (SemLoc.dma sem, (none : HIx 1)) W')
    isplitr; · ipureintro; exact OW_insert hW
    iexact HO
  · rw [show (await L OV RV sem sz h0 off p hin k : TP F L α) = k from dif_neg hp, hb' hp]
    iapply HK $$ [HR Hs HO]
    isplitl [HR]; · iexact HR
    isplitl []; · rw [pts_self]; iempintro
    isplitl [Hs]; · iexact Hs
    iexists W'
    isplitr; · ipureintro; exact hW
    iexact HO
end
end Cert.Proof.Mem
-- ==== Proof.Loops.lean ====
module
public import proofs.«01_k».proof.Proof.Ops
public import Idealize.ShloMosaic.Lib.SparseCore.Quiescent
public import Idealize.ShloMosaic.Lib.SparseCore.Ops
public import Idealize.ShloMosaic.Lib.Batch
public import Idealize.ShloMosaic.Lib.Scf
public import Idealize.ShloMosaic.Lib.Transfers
public import Idealize.ShloMosaic.Lib.Tactic
@[expose] public section
set_option maxRecDepth 16384
noncomputable section
/-! The two loops that start and await the copies of all the replicated rows, the loop that fills them, and one segment whole. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

variable (d : Dev nD) (L : grid0.Coords)

variable (EC : UEmb Counters (MT nD τ sig (HIx 1) (Elt F) ℕ U ℕ)) [EC.LandsIn (upEmb : UEmb _ (MT nD τ sig (HIx 1) (Elt F) ℕ U ℕ))]

/-- What the `t`-th copy of all the replicated rows brings back, the first going to word `A`. -/
abbrev bk (A : ℕ) (f' : Buf (Elt F) (oLoc d L)) (q : PosShare TreeShare) (fs : Buf (Elt F) (rLoc d L)) (t : ℕ) : sProp 𝕄 :=
  iprop((oLoc d L ↦[iv (A + 32768 * t) (A + 32768 * (t + 1))]{fullShare} f') ∗ rLoc d L ↦{(rt q t).left} fs)

theorem bk_join (A : ℕ) (f' : Buf (Elt F) (oLoc d L)) (q : PosShare TreeShare) (fs : Buf (Elt F) (rLoc d L)) (T : ℕ) :
    iprop(bigSep Finset.univ (fun t : Fin T => bk d L A f' q fs t.val) ∗ rLoc d L ↦{rt q T} fs)
      ⊢ (iprop((oLoc d L ↦[iv A (A + 32768 * T)]{fullShare} f') ∗ rLoc d L ↦{q} fs) : sProp 𝕄) := by
  induction T with
  | zero =>
    iintro ⟨-, H⟩
    isplitl []; · rw [Nat.mul_zero, Nat.add_zero, pts_self]; iempintro
    iexact H
  | succ T ih =>
    have key : (bigSep Finset.univ (fun t : Fin (T + 1) => bk d L A f' q fs t.val) : sProp 𝕄)
        = iprop(bk d L A f' q fs T ∗ bigSep Finset.univ (fun t : Fin T => bk d L A f' q fs t.val)) := by
      rw [show (Finset.univ : Finset (Fin (T + 1))) = insert (Fin.last T) (Finset.univ.map Fin.castSuccEmb) by
        rw [Fin.univ_castSuccEmb, Finset.cons_eq_insert], bigSep_insert (by simp), bigSep_map]
      rfl
    rw [key]
    iintro ⟨⟨⟨HO, HL⟩, HB⟩, HR⟩
    ihave HR' := (pointsTo_share (PosShare.mem_left_op_right (rt q T))).2 $$ [HL HR]
    · isplitl [HL]; · iexact HL
      iexact HR
    ihave H := ih $$ [HB HR']
    · isplitl [HB]; · iexact HB
      iexact HR'
    icases H with ⟨H, HR⟩
    isplitl [H HO]
    · rw [pts_split d L fullShare f' (show A ≤ A + 32768 * T by omega) (show A + 32768 * T ≤ A + 32768 * (T + 1) by omega)]
      isplitl [H]; · iexact H
      iexact HO
    iexact HR

theorem set_RV : (RV).view.set = Finset.univ := View.set_whole _

theorem landedAll (off : Fin 1 → ℕ) (hin : ∀ x, off x + S32768.size x ≤ S4194304.size x)
    (f : Buf (Elt F) (oLoc d L)) (fs : Buf (Elt F) (rLoc d L)) (x : S4194304.Idx) (hx : x ∈ iv (off 0) (off 0 + 32768))
    (z : S32768.Idx) (hz : (z 0).val = (x 0).val - off 0) :
    (dstM S32768.size off hin).view.write (Elt F) f fs Finset.univ x = fs z := by
  have hx2 : x ∈ (dstM S32768.size off hin).view.set := by rw [dstM_set]; exact hx
  obtain ⟨y, -, rfl⟩ := Finset.mem_map.mp hx2
  rw [View.write_emb_of_mem _ _ (Finset.mem_univ y)]
  show fs y = fs z
  congr 1
  funext a
  match a with
  | ⟨0, _⟩ =>
  apply Fin.ext
  show (y (0 : Fin 1)).val = (z 0).val
  have e1 : ((dstM S32768.size off hin).view.emb y (0 : Fin 1)).val = off 0 + 1 * (y (0 : Fin 1)).val := rfl
  change (z 0).val = ((dstM S32768.size off hin).view.emb y (0 : Fin 1)).val - off 0 at hz
  rw [hz, e1]; omega

theorem deliverAll {off : Fin 1 → ℕ} {hin : ∀ x, off x + S32768.size x ≤ S4194304.size x} {a b : ℕ}
    (ha : off 0 = a) (hb : b = a + 32768) {fs : Buf (Elt F) (rLoc d L)} {f f' : Buf (Elt F) (oLoc d L)} {q : PosShare TreeShare}
    (hf : ∀ (x : S4194304.Idx) (z : S32768.Idx), a ≤ (x 0).val → (x 0).val < b → (z 0).val = (x 0).val - a → f' x = fs z) :
    iprop(((dstM S32768.size off hin).view.loc (thr d L) ↦[iv a b]{fullShare} (dstM S32768.size off hin).view.write (Elt F) f (ReadAs.same.apply ((RV).view.read (Elt F) fs)) Finset.univ)
        ∗ ((RV).view.loc (thr d L) ↦[(RV).view.set]{q} fs))
      ⊢ (iprop((oLoc d L ↦[iv a b]{fullShare} f') ∗ rLoc d L ↦{q} fs) : sProp 𝕄) := by
  subst ha hb
  rw [set_RV]
  refine sep_mono_l (Entails.of_eq (pointsTo_congr ?_))
  intro x hx
  have hx' := mem_iv.mp hx
  have hz : (x 0).val - off 0 < S32768.size 0 := by show _ < 32768; omega
  rw [hf x (fun a => match a with | ⟨0, _⟩ => ⟨(x 0).val - off 0, hz⟩) hx'.1 hx'.2 rfl, View.read_whole]
  exact landedAll d L off hin f fs x hx _ rfl

/-- The loop that starts the copies of all the replicated rows. -/
theorem blasts_wp {sem : DmaSem sig} {lb ub st : BitVec 32} {ok : Scf.OK lb ub st} {offs : Fin (Scf.trips lb ub st) → Fin 1 → ℕ}
    {hin : ∀ t x, offs t x + S32768.size x ≤ S4194304.size x} {hrep : (RV).IsWhole} {β : Type} {kk : PUnit → TP F L β} {Q : β → sProp 𝕄} {A e T : ℕ}
    (hT : Scf.trips lb ub st = T) (hoff : ∀ t, offs t 0 = A + 32768 * t.val) (he : A + 32768 * T ≤ e)
    {fs : Buf (Elt F) (rLoc d L)} {f f' : Buf (Elt F) (oLoc d L)} {q : PosShare TreeShare}
    (hf : ∀ (t : ℕ) (x : S4194304.Idx) (z : S32768.Idx), t < T → A + 32768 * t ≤ (x 0).val → (x 0).val < A + 32768 * (t + 1) → (z 0).val = (x 0).val - (A + 32768 * t) → f' x = fs z) :
    iprop((rLoc d L ↦{q} fs) ∗ (oLoc d L ↦[iv A e]{fullShare} f) ∗ semVal (cell d L sem) 0)
      ⊢ iprop(((rLoc d L ↦{rt q T} fs) ∗ (oLoc d L ↦[iv (A + 32768 * T) e]{fullShare} f)
            ∗ Transfers.Batch EC (thr d L) (.dma sem) (none : HIx 1) (credit S32768.size) (fun t : Fin T => bk d L A f' q fs t.val) T 0 -∗ Wp d L (kk ⟨⟩) Q)
          -∗ Wp d L (Prog.bind (Scf.for lb ub st ok PUnit.unit fun t _ => blast L OV RV hrep sem (offs t) (hin t)) kk) Q) := by
  have hb : ∀ (t : Fin (Scf.trips lb ub st)) (acc : PUnit), (iprop((rLoc d L ↦{rt q t.val} fs) ∗ (oLoc d L ↦[iv (A + 32768 * t.val) e]{fullShare} f)
            ∗ Transfers.Batch EC (thr d L) (.dma sem) (none : HIx 1) (credit S32768.size) (fun t : Fin T => bk d L A f' q fs t.val) t.val 0) : sProp 𝕄)
          ⊢ Wp d L (blast L OV RV hrep sem (offs t) (hin t)) (fun _ => iprop((rLoc d L ↦{rt q (t.val + 1)} fs) ∗ (oLoc d L ↦[iv (A + 32768 * (t.val + 1)) e]{fullShare} f)
            ∗ Transfers.Batch EC (thr d L) (.dma sem) (none : HIx 1) (credit S32768.size) (fun t : Fin T => bk d L A f' q fs t.val) (t.val + 1) 0)) := by
    intro t acc
    have htT : t.val < T := hT ▸ t.isLt
    iintro ⟨HR, HO, HB⟩
    ihave HR' := (pointsTo_share (PosShare.mem_left_op_right (rt q t.val))).1 $$ HR
    icases HR' with ⟨HL, HR⟩
    ihave HO' := (Entails.of_eq (pts_split d L fullShare f (show A + 32768 * t.val ≤ A + 32768 * (t.val + 1) by omega) (show _ ≤ e by omega))) $$ HO
    icases HO' with ⟨HD, HO⟩
    rw [show (blast L OV RV hrep sem (offs t) (hin t) : TP F L PUnit) = Prog.op (.enqueueDmaAs (RV) (.here (dstM S32768.size (offs t) (hin t))) _ (.dma sem)
      hrep.wordExact (View.wordExact_bits rfl) ⟨Or.inl rfl, trivial⟩) (fun _ => pure ⟨⟩) from rfl]
    iapply (Transfers.wp_dmaBatch EC Variants.none (thr d L) none (src := RV) (dst := dstM S32768.size (offs t) (hin t)) (none : HIx 1) (credit S32768.size) rfl
      (Sd := iv (A + 32768 * t.val) (A + 32768 * (t.val + 1)))
      (by rw [dstM_set, hoff t]; exact (congrArg (iv (A + 32768 * t.val)) (show A + 32768 * t.val + 32768 = A + 32768 * (t.val + 1) by omega)).subset) (D := fun t : Fin T => bk d L A f' q fs t.val) (q := (rt q t.val).left) (fs := fs) (fd := f) (j := t.val) (u := 0)
      htT (Nat.zero_le _) (deliverAll d L (hoff t) (by omega) (hf t.val · · htT))) $$ [HL HD HB]
    · isplitl [HL]; · rw [set_RV]; iexact HL
      isplitl [HD]; · iexact HD
      iexact HB
    iintro HB
    rw [wp_pure]
    imodintro
    isplitl [HR]; · iexact HR
    isplitl [HO]; · iexact HO
    iexact HB
  iintro ⟨HR, HO, Hs⟩ HK
  imod (Transfers.batch_alloc' EC (thr d L) (none : HIx 1) (credit S32768.size) (fun t : Fin T => bk d L A f' q fs t.val)
      (sm := .dma sem) (E := Set.univ)) $$ Hs with HB
  iapply (Scf.wp_for_bind frame (wpE (defs₀ (F := F)) Variants.none (thr d L) none) Set.univ lb ub st ok PUnit.unit
    (fun t _ => blast L OV RV hrep sem (offs t) (hin t))
    (fun t _ => iprop((rLoc d L ↦{rt q t} fs) ∗ (oLoc d L ↦[iv (A + 32768 * t) e]{fullShare} f)
            ∗ Transfers.Batch EC (thr d L) (.dma sem) (none : HIx 1) (credit S32768.size) (fun t : Fin T => bk d L A f' q fs t.val) t 0)) hb (kk := kk)) $$ [HR HO HB]
  · isplitl [HR]; · iexact HR
    isplitl [HO]; · rw [Nat.mul_zero, Nat.add_zero]; iexact HO
    iexact HB
  · iintro %acc H
    rw [hT]
    iapply HK $$ H

/-- The loop that awaits them. -/
theorem drains_wp {sem : DmaSem sig} {lb ub st : BitVec 32} {ok : Scf.OK lb ub st} {offs : Fin (Scf.trips lb ub st) → Fin 1 → ℕ}
    {hin : ∀ t x, offs t x + S32768.size x ≤ S4194304.size x} {hrep : (RV).IsWhole} {β : Type} {kk : PUnit → TP F L β} {Q : β → sProp 𝕄} {T : ℕ}
    (hT : Scf.trips lb ub st = T) {D : Fin T → sProp 𝕄} {O : CellTallies nD τ sig (HIx 1)} {W : Waits sig (HIx 1)} :
    iprop(Transfers.MayWaits (thr d L) (none : HIx 1) O ∗ Transfers.Batch EC (thr d L) (.dma sem) (none : HIx 1) (credit S32768.size) D T 0 ∗ OW d L O W)
      ⊢ iprop((bigSep Finset.univ D ∗ semVal (cell d L sem) 0 ∗ OW d L O W -∗ Wp d L (kk ⟨⟩) Q)
          -∗ Wp d L (Prog.bind (Scf.for lb ub st ok PUnit.unit fun t _ => drain L OV RV hrep sem (offs t) (hin t)) kk) Q) := by
  unfold OW
  have hb : ∀ (t : Fin (Scf.trips lb ub st)) (acc : PUnit), (iprop(□ Transfers.MayWaits (thr d L) (none : HIx 1) O ∗ Transfers.Batch EC (thr d L) (.dma sem) (none : HIx 1) (credit S32768.size) D T (t.val * credit S32768.size)
      ∗ (∃ W', ⌜∀ p ∈ W', p ∈ W ∨ p.2 = none⌝ ∗ owes (thr d L) O W')) : sProp 𝕄)
          ⊢ Wp d L (drain L OV RV hrep sem (offs t) (hin t)) (fun _ => iprop(□ Transfers.MayWaits (thr d L) (none : HIx 1) O ∗ Transfers.Batch EC (thr d L) (.dma sem) (none : HIx 1) (credit S32768.size) D T ((t.val + 1) * credit S32768.size)
      ∗ (∃ W', ⌜∀ p ∈ W', p ∈ W ∨ p.2 = none⌝ ∗ owes (thr d L) O W'))) := by
    intro t acc
    have htT : t.val < T := hT ▸ t.isLt
    iintro ⟨#Hmw, HB, ⟨%W', %hW, HO⟩⟩
    rw [show (drain L OV RV hrep sem (offs t) (hin t) : TP F L PUnit) = Prog.op (.waitDma2 sem (RV) (dstM S32768.size (offs t) (hin t))
      hrep.wordExact (View.wordExact_bits rfl)) (fun _ => pure ⟨⟩) from rfl]
    iapply (Transfers.wp_waitBatchMulO EC Variants.none (thr d L) none (srcw := RV) (dstw := dstM S32768.size (offs t) (hin t)) (none : HIx 1) (N := credit S32768.size) 1
      (Nat.one_mul _).symm (D := D) (j := T) (u := t.val * credit S32768.size) (by rw [Nat.mul_comm _ T, ← Nat.add_mul]; exact Nat.mul_le_mul_right _ htT)) $$ [HB HO]
    · isplitl [HB]; · iexact HB
      isplitl [HO]; · iexact HO
      ihave Hm := Transfers.MayWaits.elim (SemLoc.dma sem) $$ Hmw
      iexact Hm
    iintro ⟨HB, HO⟩
    rw [wp_pure]
    imodintro
    isplitr; · imodintro; iexact Hmw
    isplitl [HB]; · rw [Nat.add_mul]; iexact HB
    iexists (insert (SemLoc.dma sem, (none : HIx 1)) W')
    isplitr; · ipureintro; exact OW_insert hW
    iexact HO
  iintro ⟨#Hmw, HB, ⟨%W', %hW, HO⟩⟩ HK
  iapply (Scf.wp_for_bind frame (wpE (defs₀ (F := F)) Variants.none (thr d L) none) Set.univ lb ub st ok PUnit.unit
    (fun t _ => drain L OV RV hrep sem (offs t) (hin t))
    (fun t _ => iprop(□ Transfers.MayWaits (thr d L) (none : HIx 1) O ∗ Transfers.Batch EC (thr d L) (.dma sem) (none : HIx 1) (credit S32768.size) D T (t * credit S32768.size)
      ∗ (∃ W', ⌜∀ p ∈ W', p ∈ W ∨ p.2 = none⌝ ∗ owes (thr d L) O W'))) hb (kk := kk)) $$ [HB HO]
  · isplitr; · imodintro; iexact Hmw
    isplitl [HB]; · rw [Nat.zero_mul]; iexact HB
    iexists W'
    isplitr; · ipureintro; exact hW
    iexact HO
  · iintro %acc ⟨-, HB, HO⟩
    rw [hT, Nat.mul_comm]
    imod (Transfers.batch_collect' EC (c := thr d L) (sm := .dma sem) (ι := (none : HIx 1)) (N := credit S32768.size) (n := T) (D := D) (credit_pos S32768.size (by decide))) $$ [HB] with ⟨HD, Hs⟩
    · iexact HB
    iapply HK $$ [HD Hs HO]
    isplitl [HD]; · iexact HD
    isplitl [Hs]; · iexact Hs
    iexact HO

/-- A loop that makes no trips. -/
theorem none_wp {lb ub st : BitVec 32} {ok : Scf.OK lb ub st} {body : Fin (Scf.trips lb ub st) → PUnit → TP F L PUnit}
    {β : Type} {kk : PUnit → TP F L β} {Q : β → sProp 𝕄} (hT : Scf.trips lb ub st = 0) :
    Wp d L (kk ⟨⟩) Q ⊢ Wp d L (Prog.bind (Scf.for lb ub st ok PUnit.unit body) kk) Q := by
  iintro H
  iapply (Scf.wp_for_bind frame (wpE (defs₀ (F := F)) Variants.none (thr d L) none) Set.univ lb ub st ok PUnit.unit
    body (fun _ _ => iprop(emp)) (fun t _ => absurd (Nat.lt_of_lt_of_eq t.isLt hT) (Nat.not_lt_zero _)) (kk := kk)) $$ []
  · iempintro
  iintro %acc -
  iexact H
end
end Cert.Proof.Mem
-- ==== Proof.Fill.lean ====
module
public import proofs.«01_k».proof.Proof.Loops
public import Idealize.ShloMosaic.Lib.SparseCore.Quiescent
public import Idealize.ShloMosaic.Lib.SparseCore.Ops
public import Idealize.ShloMosaic.Lib.Batch
public import Idealize.ShloMosaic.Lib.Pipeline.Value
public import Idealize.ShloMosaic.Lib.Scf
public import Idealize.ShloMosaic.Lib.Transfers
public import Idealize.ShloMosaic.Lib.Tactic
@[expose] public section
set_option maxRecDepth 16384
noncomputable section
/-! Reading one row of the table and filling the scratch with copies of it. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

variable (d : Dev nD) (L : grid0.Coords)

/-- The `n`-th word of the table. -/
def ix (n : ℕ) : S2048.Idx := fun a => match a with | ⟨0, _⟩ => ⟨n % 2048, Nat.mod_lt _ (by decide)⟩

/-- Sixteen words of the table from the `o`-th. -/
def vec (tab : Buf (Elt F) (tLoc d L)) (o : ℕ) : FVec F S16 .f32 := fun y => tab (ix (o + (y (0 : Fin 1)).val))

theorem loadT_wp {o : ℕ} {hin : ∀ x, (![o] : Fin 1 → ℕ) x + S16.size x ≤ S2048.size x} {hl} {β : Type} {k : (S16.Idx → Elt F .f32) → TP F L β} {Q : β → sProp 𝕄}
    {q : PosShare TreeShare} {tab : Buf (Elt F) (tLoc d L)} :
    (tLoc d L ↦{q} tab)
      ⊢ iprop(((tLoc d L ↦{q} tab) -∗ Wp d L (k (vec d L tab o)) Q)
          -∗ Wp d L (Prog.lift (.load (TV) (Rect.unit (s := S2048) ![o] S16.size hin).toLoadRect hl) >>= k) Q) := by
  have hv : (TV).view.readAt (Elt F) (Rect.unit (s := S2048) ![o] S16.size hin).toLoadRect tab = vec d L tab o := by
    funext y
    have h0 := hin 0
    show tab _ = tab _
    congr 1
    funext a
    match a with
    | ⟨0, _⟩ =>
    apply Fin.ext
    show o + 1 * (y (0 : Fin 1)).val = (o + (y (0 : Fin 1)).val) % 2048
    have hy : (y (0 : Fin 1)).val < 16 := (y (0 : Fin 1)).isLt
    change o + 16 ≤ 2048 at h0
    omega
  rw [Prog.bind_lift]
  iintro H HK
  iapply (wp_load Variants.none (thr d L) none Set.univ (S := Finset.univ) (Finset.subset_univ _)) $$ H
  rw [hv]
  iexact HK

theorem rows_wp (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) {o : ℕ} {ho : ∀ k, k < 8 → ∀ x, (![o + 16 * k] : Fin 1 → ℕ) x + S16.size x ≤ S2048.size x} {v12 v13 : BitVec 32} {β : Type}
    {k : (Σ' (v123 : FVec F S16 .f32) (v125 : FVec F S16 .f32) (v127 : FVec F S16 .f32) (v129 : FVec F S16 .f32) (v131 : FVec F S16 .f32) (v133 : FVec F S16 .f32) (v135 : FVec F S16 .f32) (v137 : FVec F S16 .f32) (v138 : BitVec 32) (c0_i32_26 : BitVec 32), BitVec 32) → TP F L β} {Q : β → sProp 𝕄}
    {q : PosShare TreeShare} {tab : Buf (Elt F) (tLoc d L)} :
    (tLoc d L ↦{q} tab)
      ⊢ iprop(((tLoc d L ↦{q} tab) -∗ ∀ a b c, Wp d L (k ⟨vec d L tab (o + 0), vec d L tab (o + 16), vec d L tab (o + 32), vec d L tab (o + 48), vec d L tab (o + 64), vec d L tab (o + 80), vec d L tab (o + 96), vec d L tab (o + 112), a, b, c⟩) Q)
          -∗ Wp d L (rows L arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1 o ho v12 v13 >>= k) Q) := by
  unfold rows
  simp only [Prog.bind_assoc, Prog.bind_pure, shapeCast_self]
  iintro H HK
  iapply (loadT_wp d L) $$ H
  iintro H
  iapply (loadT_wp d L) $$ H
  iintro H
  iapply (loadT_wp d L) $$ H
  iintro H
  iapply (loadT_wp d L) $$ H
  iintro H
  iapply (loadT_wp d L) $$ H
  iintro H
  iapply (loadT_wp d L) $$ H
  iintro H
  iapply (loadT_wp d L) $$ H
  iintro H
  iapply (loadT_wp d L) $$ H
  iintro H
  rw [Prog.pure_eq_ret, Prog.bind_ret]
  ispecialize HK $$ H
  iapply HK

/-- The first `n` words of the scratch repeat the row that starts at word `o`. -/
def Filled (tab : Buf (Elt F) (tLoc d L)) (o n : ℕ) : sProp 𝕄 :=
  iprop(∃ g : Buf (Elt F) (rLoc d L), ⌜∀ z : S32768.Idx, (z 0).val < n → g z = tab (ix (o + (z 0).val % 128))⌝ ∗ rLoc d L ↦{fullShare} g)

theorem put16_wp {off : Fin 1 → ℕ} {hin : ∀ x, off x + S16.size x ≤ S32768.size x} {tab : Buf (Elt F) (tLoc d L)} {o n c : ℕ} (hn : off 0 = n) (hc : n % 128 = c)
    (h16 : n % 16 = 0) {β : Type} {k : PUnit → TP F L β} {Q : β → sProp 𝕄} :
    Filled d L tab o n ⊢ iprop((Filled d L tab o (n + 16) -∗ Wp d L (k ⟨⟩) Q) -∗ Wp d L (put16 L RV off hin (vec d L tab (o + c)) >>= k) Q) := by
  unfold Filled put16
  simp only [Prog.bind_assoc, Prog.bind_lift, shapeCast_self]
  iintro ⟨%g, %hg, H⟩ HK
  iapply (wp_load Variants.none (thr d L) none Set.univ (S := Finset.univ) (Finset.subset_univ _)) $$ H
  iintro H
  iapply (wp_store Variants.none (thr d L) none Set.univ (m := RV) (r := Rect.unit (s := S32768) off S16.size hin) (f := g) (S := Finset.univ) (Finset.subset_univ _)) $$ H
  iintro H
  iapply HK
  iexists (((RV).access (Rect.unit (s := S32768) off S16.size hin)).write (Elt F) g (vec d L tab (o + c)) Finset.univ)
  isplitr
  swap; · iexact H
  ipureintro
  intro z hz
  by_cases hm : z ∈ ((RV).access (Rect.unit (s := S32768) off S16.size hin)).set
  · obtain ⟨y, -, rfl⟩ := Finset.mem_map.mp hm
    rw [View.write_emb_of_mem _ _ (Finset.mem_univ y)]
    have hy : (y (0 : Fin 1)).val < 16 := (y (0 : Fin 1)).isLt
    have e1 : (((RV).access (Rect.unit (s := S32768) off S16.size hin)).emb y (0 : Fin 1)).val = off 0 + 1 * (y (0 : Fin 1)).val := rfl
    show tab (ix (o + c + (y (0 : Fin 1)).val)) = tab (ix (o + (((RV).access (Rect.unit (s := S32768) off S16.size hin)).emb y (0 : Fin 1)).val % 128))
    rw [e1, hn]
    congr 2
    omega
  · rw [View.write_of_not_mem _ _ _ (fun h => hm h)]
    apply hg
    have : ¬ (n ≤ (z (0 : Fin 1)).val ∧ (z (0 : Fin 1)).val < n + 16) := by
      intro h
      apply hm
      show z ∈ ((View.whole cc0_scratch2).slice (Rect.unit (s := S32768) off S16.size hin)).set
      rw [View.set_slice_whole, Rect.mem_set_unit]
      intro a
      match a with
      | ⟨0, _⟩ => rw [← hn] at h; exact h
    change (z (0 : Fin 1)).val < n + 16 at hz
    show (z (0 : Fin 1)).val < n
    omega
end
end Cert.Proof.Mem
-- ==== Proof.Tails.lean ====
module
public import proofs.«01_k».proof.Proof.Fill
public import Idealize.ShloMosaic.Lib.SparseCore.Quiescent
public import Idealize.ShloMosaic.Lib.SparseCore.Ops
public import Idealize.ShloMosaic.Lib.Batch
public import Idealize.ShloMosaic.Lib.Scf
public import Idealize.ShloMosaic.Lib.Transfers
public import Idealize.ShloMosaic.Lib.Tactic
@[expose] public section
set_option maxRecDepth 16384
noncomputable section
/-! The loop that fills the scratch, and the tail copies at their positions. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

variable (d : Dev nD) (L : grid0.Coords)

variable (EC : UEmb Counters (MT nD τ sig (HIx 1) (Elt F) ℕ U ℕ)) [EC.LandsIn (upEmb : UEmb _ (MT nD τ sig (HIx 1) (Elt F) ℕ U ℕ))]
variable {a b : BitVec 32} {sL n : ℕ} (h : Span L a b sL n)
include h

/-- One trip of the filling loop writes two more rows. -/
theorem fill_step {hw1 : k0_chk1 L a b} {h1 : k0_cond1 L a b = 1#1} {tab : Buf (Elt F) (tLoc d L)} {o : ℕ} (t : Fin (k0_t1_loop L a b).trips) :
    (Filled d L tab o (256 * t.val) : sProp 𝕄)
      ⊢ Wp d L (fillTrip L RV a b hw1 h1 t (vec d L tab (o + 0)) (vec d L tab (o + 16)) (vec d L tab (o + 32)) (vec d L tab (o + 48)) (vec d L tab (o + 64))
          (vec d L tab (o + 80)) (vec d L tab (o + 96)) (vec d L tab (o + 112))) (fun _ => Filled d L tab o (256 * (t.val + 1))) := by
  have ht : t.val < 128 := by have := Nat.lt_of_lt_of_eq t.isLt h.fill_trips; omega
  have off : ∀ r : ℕ, r < 16 → k0_off1 L a b t (BitVec.ofNat 32 (16 * r)) 0 = 256 * t.val + 16 * r := fun r hr => by
    rw [off1_def]; exact fillOff_eq ht r hr
  unfold fillTrip
  iintro H
  iapply (put16_wp d L (off 0 (by decide)) (c := 0) (by omega) (by omega)) $$ H
  iintro H
  iapply (put16_wp d L (n := 256 * t.val + 16 * 1) (off 1 (by decide)) (c := 16) (by omega) (by omega)) $$ [H]
  · iexact H
  iintro H
  iapply (put16_wp d L (n := 256 * t.val + 16 * 2) (off 2 (by decide)) (c := 32) (by omega) (by omega)) $$ [H]
  · iexact H
  iintro H
  iapply (put16_wp d L (n := 256 * t.val + 16 * 3) (off 3 (by decide)) (c := 48) (by omega) (by omega)) $$ [H]
  · iexact H
  iintro H
  iapply (put16_wp d L (n := 256 * t.val + 16 * 4) (off 4 (by decide)) (c := 64) (by omega) (by omega)) $$ [H]
  · iexact H
  iintro H
  iapply (put16_wp d L (n := 256 * t.val + 16 * 5) (off 5 (by decide)) (c := 80) (by omega) (by omega)) $$ [H]
  · iexact H
  iintro H
  iapply (put16_wp d L (n := 256 * t.val + 16 * 6) (off 6 (by decide)) (c := 96) (by omega) (by omega)) $$ [H]
  · iexact H
  iintro H
  iapply (put16_wp d L (n := 256 * t.val + 16 * 7) (off 7 (by decide)) (c := 112) (by omega) (by omega)) $$ [H]
  · iexact H
  iintro H
  iapply (put16_wp d L (n := 256 * t.val + 16 * 8) (off 8 (by decide)) (c := 0) (by omega) (by omega)) $$ [H]
  · iexact H
  iintro H
  iapply (put16_wp d L (n := 256 * t.val + 16 * 9) (off 9 (by decide)) (c := 16) (by omega) (by omega)) $$ [H]
  · iexact H
  iintro H
  iapply (put16_wp d L (n := 256 * t.val + 16 * 10) (off 10 (by decide)) (c := 32) (by omega) (by omega)) $$ [H]
  · iexact H
  iintro H
  iapply (put16_wp d L (n := 256 * t.val + 16 * 11) (off 11 (by decide)) (c := 48) (by omega) (by omega)) $$ [H]
  · iexact H
  iintro H
  iapply (put16_wp d L (n := 256 * t.val + 16 * 12) (off 12 (by decide)) (c := 64) (by omega) (by omega)) $$ [H]
  · iexact H
  iintro H
  iapply (put16_wp d L (n := 256 * t.val + 16 * 13) (off 13 (by decide)) (c := 80) (by omega) (by omega)) $$ [H]
  · iexact H
  iintro H
  iapply (put16_wp d L (n := 256 * t.val + 16 * 14) (off 14 (by decide)) (c := 96) (by omega) (by omega)) $$ [H]
  · iexact H
  iintro H
  iapply (put16_wp d L (n := 256 * t.val + 16 * 15) (off 15 (by decide)) (c := 112) (by omega) (by omega)) $$ [H]
  · iexact H
  iintro H
  unfold Wp
  rw [wp_pure]
  imodintro
  rw [show 256 * (t.val + 1) = 256 * t.val + 16 * 15 + 16 by omega]
  iexact H

/-- The loop that fills the scratch with copies of the row. -/
theorem fills_wp {hw1 : k0_chk1 L a b} {h1 : k0_cond1 L a b = 1#1} {ok} {tab : Buf (Elt F) (tLoc d L)} {o : ℕ} {g : Buf (Elt F) (rLoc d L)} {β : Type} {kk : PUnit → TP F L β} {Q : β → sProp 𝕄} :
    (rLoc d L ↦{fullShare} g)
      ⊢ iprop((Filled d L tab o (256 * min ((n + 1) / 2) 128) -∗ Wp d L (kk ⟨⟩) Q)
        -∗ Wp d L (Prog.bind (Scf.Loop.for (k0_t1_loop L a b) ok PUnit.unit fun t _ =>
            fillTrip L RV a b hw1 h1 t (vec d L tab (o + 0)) (vec d L tab (o + 16)) (vec d L tab (o + 32)) (vec d L tab (o + 48)) (vec d L tab (o + 64))
              (vec d L tab (o + 80)) (vec d L tab (o + 96)) (vec d L tab (o + 112))) kk) Q) := by
  iintro H HK
  iapply (Scf.wp_for_bind frame (wpE (defs₀ (F := F)) Variants.none (thr d L) none) Set.univ _ _ _ ok PUnit.unit
    _ (fun t _ => Filled d L tab o (256 * t)) (fun t _ => fill_step d L h t) (kk := kk)) $$ [H]
  · unfold Filled
    iexists g
    isplitr; · ipureintro; exact fun z hz => absurd hz (Nat.not_lt_zero _)
    iexact H
  · iintro %acc H
    iapply HK
    rw [← h.fill_trips]
    iexact H

/-- A tail copy of `2 ^ k` rows, under way where the row count has that bit. -/
abbrev Tail (sem : DmaSem sig) (sz : Fin 1 → ℕ) (h0 : ∀ x, (![0] : Fin 1 → ℕ) x + sz x ≤ S32768.size x) (sL n k : ℕ) (f' : Buf (Elt F) (oLoc d L)) (q : PosShare TreeShare) (fs : Buf (Elt F) (rLoc d L)) : sProp 𝕄 :=
  Fly d L EC sem sz h0 (n / 2 ^ k % 2 = 1) (128 * tpos sL n (k + 1)) (128 * tpos sL n k) f' q fs

theorem tailIssue {sem : DmaSem sig} {sz off : Fin 1 → ℕ} {h0 : ∀ x, (![0] : Fin 1 → ℕ) x + sz x ≤ S32768.size x} {w : BitVec 1}
    {hin : w = 1#1 → ∀ x, off x + sz x ≤ S4194304.size x} {α : Type} {k : TP F L α} {Q : α → sProp 𝕄} {e : ℕ} (j : Fin 8)
    (hw : w = bitC (spW L a b) (BitVec.ofNat 32 (2 ^ j.val)))
    (hoff : off = ![tailOff (loW L a) (spW L a b) (BitVec.ofNat 32 (2 ^ 32 - 2 ^ (j.val + 1)))]) (hsz : sz 0 = 2 ^ j.val * 128)
    (he : e = 128 * (sL + n))
    {fs : Buf (Elt F) (rLoc d L)} {f f' : Buf (Elt F) (oLoc d L)} {q : PosShare TreeShare}
    (hf : ∀ (x : S4194304.Idx) (z : S32768.Idx), (z 0).val < 128 * n → (z 0).val < 32768 → 128 * sL ≤ (x 0).val → (x 0).val < 128 * (sL + n) → (z 0).val % 128 = (x 0).val % 128 → f' x = fs z) :
    iprop((rLoc d L ↦{q} fs) ∗ (oLoc d L ↦[iv (128 * tpos sL n (j.val + 1)) e]{fullShare} f) ∗ semVal (cell d L sem) 0)
      ⊢ iprop(((rLoc d L ↦{q.right} fs) ∗ (oLoc d L ↦[iv (128 * tpos sL n j.val) e]{fullShare} f) ∗ Tail d L EC sem sz h0 sL n j.val f' q.left fs -∗ Wp d L k Q)
          -∗ Wp d L (issue L OV RV sem sz h0 off (w = 1#1) hin k) Q) := by
  have hbit : w = 1#1 ↔ n / 2 ^ j.val % 2 = 1 := by rw [hw]; exact h.bit_iff j
  have hstep := tpos_step sL n j.val
  have hle := tpos_le sL n j.val
  have hge := le_tpos sL n (j.val + 1)
  have := issue_wp d L EC (sem := sem) (sz := sz) (off := off) (h0 := h0) (p := w = 1#1) (hin := hin) (k := k) (Q := Q)
    (a := 128 * tpos sL n (j.val + 1)) (b := 128 * tpos sL n j.val) (e := e)
    (fun hp => by rw [hoff]; show tailOff _ _ _ = _; rw [h.tailOff_eq j, Nat.mul_comm])
    (fun hp => by rw [hstep, if_pos (hbit.mp hp), hsz]; omega)
    (fun hp => by rw [hstep, if_neg (fun hh => hp (hbit.mpr hh))]; omega)
    (by omega) (fs := fs) (f := f) (f' := f') (q := q)
    (fun hp x z hx hx' hz => by
      have h2 : 2 ^ j.val * 128 ≤ 32768 := by have := Nat.pow_le_pow_right (show 0 < 2 by decide) (show j.val ≤ 7 by have := j.isLt; omega); omega
      rw [if_pos (hbit.mp hp)] at hstep
      refine hf x z ?_ ?_ ?_ ?_ ?_ <;> omega)
  have hFly : Fly d L EC sem sz h0 (w = 1#1) (128 * tpos sL n (j.val + 1)) (128 * tpos sL n j.val) f' q.left fs = Tail d L EC sem sz h0 sL n j.val f' q.left fs := by
    unfold Tail; rw [propext hbit]
  rw [hFly] at this
  exact this

theorem tailAwait {sem : DmaSem sig} {sz off : Fin 1 → ℕ} {h0 : ∀ x, (![0] : Fin 1 → ℕ) x + sz x ≤ S32768.size x} {w : BitVec 1}
    {hin : w = 1#1 → ∀ x, off x + sz x ≤ S4194304.size x} {α : Type} {k : TP F L α} {Q : α → sProp 𝕄} (j : Fin 8)
    (hw : w = bitC (spW L a b) (BitVec.ofNat 32 (2 ^ j.val))) (hsz : sz 0 = 2 ^ j.val * 128)
    {fs : Buf (Elt F) (rLoc d L)} {f' : Buf (Elt F) (oLoc d L)} {q : PosShare TreeShare} {O : CellTallies nD τ sig (HIx 1)} {W : Waits sig (HIx 1)} :
    iprop(Transfers.MayWaits (thr d L) (none : HIx 1) O ∗ Tail d L EC sem sz h0 sL n j.val f' q fs ∗ OW d L O W)
      ⊢ iprop(((rLoc d L ↦{q} fs) ∗ (oLoc d L ↦[iv (128 * tpos sL n (j.val + 1)) (128 * tpos sL n j.val)]{fullShare} f') ∗ semVal (cell d L sem) 0 ∗ OW d L O W -∗ Wp d L k Q)
          -∗ Wp d L (await L OV RV sem sz h0 off (w = 1#1) hin k) Q) := by
  have hbit : w = 1#1 ↔ n / 2 ^ j.val % 2 = 1 := by rw [hw]; exact h.bit_iff j
  have hFly : Fly d L EC sem sz h0 (w = 1#1) (128 * tpos sL n (j.val + 1)) (128 * tpos sL n j.val) f' q fs = Tail d L EC sem sz h0 sL n j.val f' q fs := by
    unfold Tail; rw [propext hbit]
  rw [← hFly]
  have hstep := tpos_step sL n j.val
  exact await_wp d L EC (by have := Nat.two_pow_pos j.val; omega) (fun hp => by rw [hstep, if_neg (fun hh => hp (hbit.mpr hh))]; omega)
end
end Cert.Proof.Mem
-- ==== Proof.Body.lean ====
module
public import proofs.«01_k».proof.KernelIdeal
public import proofs.«01_k».proof.Proof.Text
@[expose] public section
set_option maxRecDepth 65536
set_option maxHeartbeats 400000
noncomputable section
/-! The tile's text is its sixteen segments, one after another. -/
namespace Cert.Proof.Text
open Cert.KernelIdeal Cert.KernelIdeal.Facts₀ Cert.KernelIdeal.Facts Cert.Proof.Words
open Idealize.ShloMosaic Idealize.SL Idealize.SL.Sem

variable {F : FTy → Type} [FloatOps F] [Facts]

/-- One segment of the tile's text, over its table row. -/
def seg (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (o : ℕ) (ho : o + 128 ≤ 2048) (v2 v3 v9 v11 : BitVec 32) (k0_hw1 : k0_chk1 i v9 v11) {α : Type} (k : TP F i α) : TP F i α :=
  if k0_h1 : k0_cond1 i v9 v11 = 1#1 then do
    let ⟨v123, v125, v127, v129, v131, v133, v135, v137, v138, c0_i32_26, v161⟩ : Σ' (v123 : FVec F S16 .f32) (v125 : FVec F S16 .f32) (v127 : FVec F S16 .f32) (v129 : FVec F S16 .f32) (v131 : FVec F S16 .f32) (v133 : FVec F S16 .f32) (v135 : FVec F S16 .f32) (v137 : FVec F S16 .f32) (v138 : BitVec 32) (c0_i32_26 : BitVec 32), BitVec 32 ← rows i arg2 harg2 arg3 harg3 arg4 harg4 arg5 harg5 arg6 harg6 arg7 harg7 arg8 arg9 arg10 arg11 arg12 arg13 arg14 arg15 arg16 v122_r0 v122_r1 o (row0_in o ho) (Scalar.maxsi v9 v2) (Scalar.minsi v11 v3)
    let ⟨v179, v192, v195⟩ : Σ' (v179 : BitVec 32) (v192 : BitVec 32), BitVec 32 ← k0_part6 i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 v123 v125 v127 v129 v131 v133 v135 v137 v138 c0_i32_26 v161
    let v227 : BitVec 32 ← k0_part7 i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 v138 v192 v195
    let ⟨v257, v258, c0_i32_79⟩ : Σ' (v257 : BitVec 32) (v258 : BitVec 32), BitVec 32 ← k0_part8 i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 v138 v179 v227
    await i arg4 arg7 arg12.sem S2048.size (z_in S2048.size (Nat.le_of_ble_eq_true rfl)) (k0_off18 i v9 v11) (k0_cond13 i v9 v11 = 1#1) (fun h => k0_off18_inb i v9 v11 k0_hw1 k0_h1 h) <|
    await i arg4 arg7 arg13.sem S1024.size (z_in S1024.size (Nat.le_of_ble_eq_true rfl)) (k0_off19 i v9 v11) (k0_cond14 i v9 v11 = 1#1) (fun h => k0_off19_inb i v9 v11 k0_hw1 k0_h1 h) <|
    await i arg4 arg7 arg14.sem S512.size (z_in S512.size (Nat.le_of_ble_eq_true rfl)) (k0_off20 i v9 v11) (k0_cond15 i v9 v11 = 1#1) (fun h => k0_off20_inb i v9 v11 k0_hw1 k0_h1 h) <|
    await i arg4 arg7 arg15.sem S256.size (z_in S256.size (Nat.le_of_ble_eq_true rfl)) (k0_off21 i v9 v11) (k0_cond16 i v9 v11 = 1#1) (fun h => k0_off21_inb i v9 v11 k0_hw1 k0_h1 h) <|
    await i arg4 arg7 arg16.sem S128.size (z_in S128.size (Nat.le_of_ble_eq_true rfl)) (k0_off22 i v9 v11) (k0_cond17 i v9 v11 = 1#1) (fun h => k0_off22_inb i v9 v11 k0_hw1 k0_h1 h) <|
    k
  else k

/-- A side condition the text assumes, for what follows to use. -/
def need (i : grid0.Coords) (P : Prop) (d : Decidable P) {α : Type} (k : P → TP F i α) : TP F i α := Prog.lift (TpuEff.assume P d) >>= fun h => k h.down

/-- The words read from the row-end table: sixteen from the first vector, the seventeenth from the second. -/
def ends (v5 v7 : IVec S16 32) : ℕ → BitVec 32
  | 0 => (extractAt ![0] (extractStridedSlice S1 ![0] v5 slices_S16_o0_S1) inpos_S1_p0)
  | 1 => (extractAt ![0] (extractStridedSlice S1 ![1] v5 slices_S16_o1_S1) inpos_S1_p0)
  | 2 => (extractAt ![0] (extractStridedSlice S1 ![2] v5 slices_S16_o2_S1) inpos_S1_p0)
  | 3 => (extractAt ![0] (extractStridedSlice S1 ![3] v5 slices_S16_o3_S1) inpos_S1_p0)
  | 4 => (extractAt ![0] (extractStridedSlice S1 ![4] v5 slices_S16_o4_S1) inpos_S1_p0)
  | 5 => (extractAt ![0] (extractStridedSlice S1 ![5] v5 slices_S16_o5_S1) inpos_S1_p0)
  | 6 => (extractAt ![0] (extractStridedSlice S1 ![6] v5 slices_S16_o6_S1) inpos_S1_p0)
  | 7 => (extractAt ![0] (extractStridedSlice S1 ![7] v5 slices_S16_o7_S1) inpos_S1_p0)
  | 8 => (extractAt ![0] (extractStridedSlice S1 ![8] v5 slices_S16_o8_S1) inpos_S1_p0)
  | 9 => (extractAt ![0] (extractStridedSlice S1 ![9] v5 slices_S16_o9_S1) inpos_S1_p0)
  | 10 => (extractAt ![0] (extractStridedSlice S1 ![10] v5 slices_S16_o10_S1) inpos_S1_p0)
  | 11 => (extractAt ![0] (extractStridedSlice S1 ![11] v5 slices_S16_o11_S1) inpos_S1_p0)
  | 12 => (extractAt ![0] (extractStridedSlice S1 ![12] v5 slices_S16_o12_S1) inpos_S1_p0)
  | 13 => (extractAt ![0] (extractStridedSlice S1 ![13] v5 slices_S16_o13_S1) inpos_S1_p0)
  | 14 => (extractAt ![0] (extractStridedSlice S1 ![14] v5 slices_S16_o14_S1) inpos_S1_p0)
  | 15 => (extractAt ![0] (extractStridedSlice S1 ![15] v5 slices_S16_o15_S1) inpos_S1_p0)
  | _ => (extractAt ![0] (extractStridedSlice S1 ![0] v7 slices_S16_o0_S1) inpos_S1_p0)

theorem part129_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) :
    k0_part129 (F := F) i arg2 harg2 arg3 harg3 arg4 harg4 arg5 harg5 arg6 harg6 arg7 harg7 arg8 arg9 arg10 arg11 arg12 arg13 arg14 arg15 arg16 v122_r0 v122_r1 = (do
      Prog.lift (.enqueueDma arg2 (.here arg5) (.dma v122_r0.sem) harg2.wordExact harg5.wordExact ⟨Or.inl rfl, trivial⟩)
      Prog.lift (.waitDma2 v122_r0.sem arg2 arg5 harg2.wordExact harg5.wordExact)
      Prog.lift (.enqueueDma arg3 (.here arg6) (.dma v122_r1.sem) harg3.wordExact harg6.wordExact ⟨Or.inl rfl, trivial⟩)
      Prog.lift (.waitDma2 v122_r1.sem arg3 arg6 harg3.wordExact harg6.wordExact)
      let v4 : Vec F S16 .i32 ← Prog.lift (.load arg6 (Rect.unit (s := S32) ![0] S16.size inb_S32_S16_0).toLoadRect (View.loadsAt_vmem h_S16))
      let v6 : Vec F S16 .i32 ← Prog.lift (.load arg6 (Rect.unit (s := S32) ![16] S16.size inb_S32_S16_16).toLoadRect (View.loadsAt_vmem h_S16))
      let v5 : IVec S16 32 := shapeCast S16 v4 shapeCasts_S16_S16
      let v7 : IVec S16 32 := shapeCast S16 v6 shapeCasts_S16_S16
      let v2 : BitVec 32 := baseW i
      let v3 : BitVec 32 := Scalar.addi (baseW i) 1024#32
      need i (k0_chk1 i (ends v5 v7 0) (ends v5 v7 1)) (k0_chk1.dec i (ends v5 v7 0) (ends v5 v7 1)) fun h0 =>
      (seg i arg2 harg2 arg3 harg3 arg4 harg4 arg5 harg5 arg6 harg6 arg7 harg7 arg8 arg9 arg10 arg11 arg12 arg13 arg14 arg15 arg16 v122_r0 v122_r1 0 (by decide) v2 v3 (ends v5 v7 0) (ends v5 v7 1) h0 <| need i (k0_chk2 i (ends v5 v7 1) (ends v5 v7 2)) (k0_chk2.dec i (ends v5 v7 1) (ends v5 v7 2)) fun h1 =>
      (seg i arg2 harg2 arg3 harg3 arg4 harg4 arg5 harg5 arg6 harg6 arg7 harg7 arg8 arg9 arg10 arg11 arg12 arg13 arg14 arg15 arg16 v122_r0 v122_r1 128 (by decide) v2 v3 (ends v5 v7 1) (ends v5 v7 2) h1 <| need i (k0_chk3 i (ends v5 v7 2) (ends v5 v7 3)) (k0_chk3.dec i (ends v5 v7 2) (ends v5 v7 3)) fun h2 =>
      (seg i arg2 harg2 arg3 harg3 arg4 harg4 arg5 harg5 arg6 harg6 arg7 harg7 arg8 arg9 arg10 arg11 arg12 arg13 arg14 arg15 arg16 v122_r0 v122_r1 256 (by decide) v2 v3 (ends v5 v7 2) (ends v5 v7 3) h2 <| need i (k0_chk4 i (ends v5 v7 3) (ends v5 v7 4)) (k0_chk4.dec i (ends v5 v7 3) (ends v5 v7 4)) fun h3 =>
      pure ⟨v2, v3, v5, v7, (ends v5 v7 3), (ends v5 v7 4), h3, Scalar.maxsi (ends v5 v7 3) v2, Scalar.minsi (ends v5 v7 4) v3⟩)))) := rfl

theorem part130_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v2 v3 : BitVec 32) (v5 v7 : IVec S16 32) (h3 : k0_chk4 i (ends v5 v7 3) (ends v5 v7 4)) :
    k0_part130 (F := F) i arg2 harg2 arg3 harg3 arg4 harg4 arg5 harg5 arg6 harg6 arg7 harg7 arg8 arg9 arg10 arg11 arg12 arg13 arg14 arg15 arg16 v122_r0 v122_r1 v2 v3 v5 (ends v5 v7 3) (ends v5 v7 4) h3 (Scalar.maxsi (ends v5 v7 3) v2) (Scalar.minsi (ends v5 v7 4) v3) =
      (seg i arg2 harg2 arg3 harg3 arg4 harg4 arg5 harg5 arg6 harg6 arg7 harg7 arg8 arg9 arg10 arg11 arg12 arg13 arg14 arg15 arg16 v122_r0 v122_r1 384 (by decide) v2 v3 (ends v5 v7 3) (ends v5 v7 4) h3 <| need i (k0_chk5 i (ends v5 v7 4) (ends v5 v7 5)) (k0_chk5.dec i (ends v5 v7 4) (ends v5 v7 5)) fun h4 =>
      (seg i arg2 harg2 arg3 harg3 arg4 harg4 arg5 harg5 arg6 harg6 arg7 harg7 arg8 arg9 arg10 arg11 arg12 arg13 arg14 arg15 arg16 v122_r0 v122_r1 512 (by decide) v2 v3 (ends v5 v7 4) (ends v5 v7 5) h4 <| need i (k0_chk6 i (ends v5 v7 5) (ends v5 v7 6)) (k0_chk6.dec i (ends v5 v7 5) (ends v5 v7 6)) fun h5 =>
      (seg i arg2 harg2 arg3 harg3 arg4 harg4 arg5 harg5 arg6 harg6 arg7 harg7 arg8 arg9 arg10 arg11 arg12 arg13 arg14 arg15 arg16 v122_r0 v122_r1 640 (by decide) v2 v3 (ends v5 v7 5) (ends v5 v7 6) h5 <| need i (k0_chk7 i (ends v5 v7 6) (ends v5 v7 7)) (k0_chk7.dec i (ends v5 v7 6) (ends v5 v7 7)) fun h6 =>
      (seg i arg2 harg2 arg3 harg3 arg4 harg4 arg5 harg5 arg6 harg6 arg7 harg7 arg8 arg9 arg10 arg11 arg12 arg13 arg14 arg15 arg16 v122_r0 v122_r1 768 (by decide) v2 v3 (ends v5 v7 6) (ends v5 v7 7) h6 <| need i (k0_chk8 i (ends v5 v7 7) (ends v5 v7 8)) (k0_chk8.dec i (ends v5 v7 7) (ends v5 v7 8)) fun h7 =>
      (seg i arg2 harg2 arg3 harg3 arg4 harg4 arg5 harg5 arg6 harg6 arg7 harg7 arg8 arg9 arg10 arg11 arg12 arg13 arg14 arg15 arg16 v122_r0 v122_r1 896 (by decide) v2 v3 (ends v5 v7 7) (ends v5 v7 8) h7 <| need i (k0_chk9 i (ends v5 v7 8) (ends v5 v7 9)) (k0_chk9.dec i (ends v5 v7 8) (ends v5 v7 9)) fun h8 =>
      (seg i arg2 harg2 arg3 harg3 arg4 harg4 arg5 harg5 arg6 harg6 arg7 harg7 arg8 arg9 arg10 arg11 arg12 arg13 arg14 arg15 arg16 v122_r0 v122_r1 1024 (by decide) v2 v3 (ends v5 v7 8) (ends v5 v7 9) h8 <| need i (k0_chk10 i (ends v5 v7 9) (ends v5 v7 10)) (k0_chk10.dec i (ends v5 v7 9) (ends v5 v7 10)) fun h9 =>
      pure ⟨(ends v5 v7 9), (ends v5 v7 10), h9, Scalar.maxsi (ends v5 v7 9) v2, Scalar.minsi (ends v5 v7 10) v3⟩)))))) := rfl

theorem part131_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v2 v3 : BitVec 32) (v5 v7 : IVec S16 32) (h9 : k0_chk10 i (ends v5 v7 9) (ends v5 v7 10)) :
    k0_part131 (F := F) i arg2 harg2 arg3 harg3 arg4 harg4 arg5 harg5 arg6 harg6 arg7 harg7 arg8 arg9 arg10 arg11 arg12 arg13 arg14 arg15 arg16 v122_r0 v122_r1 v2 v3 v5 v7 (ends v5 v7 9) (ends v5 v7 10) h9 (Scalar.maxsi (ends v5 v7 9) v2) (Scalar.minsi (ends v5 v7 10) v3) =
      (seg i arg2 harg2 arg3 harg3 arg4 harg4 arg5 harg5 arg6 harg6 arg7 harg7 arg8 arg9 arg10 arg11 arg12 arg13 arg14 arg15 arg16 v122_r0 v122_r1 1152 (by decide) v2 v3 (ends v5 v7 9) (ends v5 v7 10) h9 <| need i (k0_chk11 i (ends v5 v7 10) (ends v5 v7 11)) (k0_chk11.dec i (ends v5 v7 10) (ends v5 v7 11)) fun h10 =>
      (seg i arg2 harg2 arg3 harg3 arg4 harg4 arg5 harg5 arg6 harg6 arg7 harg7 arg8 arg9 arg10 arg11 arg12 arg13 arg14 arg15 arg16 v122_r0 v122_r1 1280 (by decide) v2 v3 (ends v5 v7 10) (ends v5 v7 11) h10 <| need i (k0_chk12 i (ends v5 v7 11) (ends v5 v7 12)) (k0_chk12.dec i (ends v5 v7 11) (ends v5 v7 12)) fun h11 =>
      (seg i arg2 harg2 arg3 harg3 arg4 harg4 arg5 harg5 arg6 harg6 arg7 harg7 arg8 arg9 arg10 arg11 arg12 arg13 arg14 arg15 arg16 v122_r0 v122_r1 1408 (by decide) v2 v3 (ends v5 v7 11) (ends v5 v7 12) h11 <| need i (k0_chk13 i (ends v5 v7 12) (ends v5 v7 13)) (k0_chk13.dec i (ends v5 v7 12) (ends v5 v7 13)) fun h12 =>
      (seg i arg2 harg2 arg3 harg3 arg4 harg4 arg5 harg5 arg6 harg6 arg7 harg7 arg8 arg9 arg10 arg11 arg12 arg13 arg14 arg15 arg16 v122_r0 v122_r1 1536 (by decide) v2 v3 (ends v5 v7 12) (ends v5 v7 13) h12 <| need i (k0_chk14 i (ends v5 v7 13) (ends v5 v7 14)) (k0_chk14.dec i (ends v5 v7 13) (ends v5 v7 14)) fun h13 =>
      (seg i arg2 harg2 arg3 harg3 arg4 harg4 arg5 harg5 arg6 harg6 arg7 harg7 arg8 arg9 arg10 arg11 arg12 arg13 arg14 arg15 arg16 v122_r0 v122_r1 1664 (by decide) v2 v3 (ends v5 v7 13) (ends v5 v7 14) h13 <| need i (k0_chk15 i (ends v5 v7 14) (ends v5 v7 15)) (k0_chk15.dec i (ends v5 v7 14) (ends v5 v7 15)) fun h14 =>
      (seg i arg2 harg2 arg3 harg3 arg4 harg4 arg5 harg5 arg6 harg6 arg7 harg7 arg8 arg9 arg10 arg11 arg12 arg13 arg14 arg15 arg16 v122_r0 v122_r1 1792 (by decide) v2 v3 (ends v5 v7 14) (ends v5 v7 15) h14 <| need i (k0_chk16 i (ends v5 v7 15) (ends v5 v7 16)) (k0_chk16.dec i (ends v5 v7 15) (ends v5 v7 16)) fun h15 =>
      pure ⟨(ends v5 v7 15), (ends v5 v7 16), h15, Scalar.maxsi (ends v5 v7 15) v2, Scalar.minsi (ends v5 v7 16) v3⟩)))))) := rfl

end Cert.Proof.Text
-- ==== Proof.SegText.lean ====
module
public import proofs.«01_k».proof.Proof.TextEq
public import proofs.«01_k».proof.Proof.Body
@[expose] public section
set_option maxRecDepth 16384
noncomputable section
/-! One segment's text in one piece. -/
namespace Cert.Proof.Text
open Cert.KernelIdeal Cert.KernelIdeal.Facts₀ Cert.KernelIdeal.Facts Cert.Proof.Words
open Idealize.ShloMosaic Idealize.SL.Sem
variable {F : FTy → Type} [FloatOps F] [Facts]

theorem issue_bind (i : grid0.Coords) (out : Memref sig .scVector .hbm S4194304 .f32) (rep : Memref sig .scVector .vmem S32768 .f32) (sem : DmaSem sig) (sz : Fin 1 → ℕ) (h0 : ∀ x, (![0] : Fin 1 → ℕ) x + sz x ≤ S32768.size x) (off : Fin 1 → ℕ)
    (p : Prop) [Decidable p] (hin : p → ∀ x, off x + sz x ≤ S4194304.size x) {α β : Type} (k : TP F i α) (kk : α → TP F i β) :
    issue i out rep sem sz h0 off p hin k >>= kk = issue i out rep sem sz h0 off p hin (k >>= kk) := by
  unfold issue; split <;> rfl
theorem await_bind (i : grid0.Coords) (out : Memref sig .scVector .hbm S4194304 .f32) (rep : Memref sig .scVector .vmem S32768 .f32) (sem : DmaSem sig) (sz : Fin 1 → ℕ) (h0 : ∀ x, (![0] : Fin 1 → ℕ) x + sz x ≤ S32768.size x) (off : Fin 1 → ℕ)
    (p : Prop) [Decidable p] (hin : p → ∀ x, off x + sz x ≤ S4194304.size x) {α β : Type} (k : TP F i α) (kk : α → TP F i β) :
    await i out rep sem sz h0 off p hin k >>= kk = await i out rep sem sz h0 off p hin (k >>= kk) := by
  unfold await; split <;> rfl
theorem bind_bind (i : grid0.Coords) {α β γ : Type} (p : TP F i α) (f : α → TP F i β) (g : β → TP F i γ) :
    (Prog.bind p f) >>= g = Prog.bind p (fun x => f x >>= g) := Prog.bind_assoc p f g

/-- A segment's row, as eight vectors, with three words its text computes on the way. -/
abbrev RowT (F : FTy → Type) : Type := Σ' (v123 : FVec F S16 .f32) (v125 : FVec F S16 .f32) (v127 : FVec F S16 .f32) (v129 : FVec F S16 .f32) (v131 : FVec F S16 .f32) (v133 : FVec F S16 .f32) (v135 : FVec F S16 .f32) (v137 : FVec F S16 .f32) (v138 : BitVec 32) (c0_i32_26 : BitVec 32), BitVec 32

/-- What a segment does once its row is read: fill the scratch, start the copies, await them. -/
def segCore (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (k0_h1 : k0_cond1 i v9 v11 = 1#1)
    (body2 : Fin (k0_t2_loop i v9 v11).trips → PUnit → TP F i PUnit) (w0 w1 w2 w3 w4 w5 w6 w7 : FVec F S16 .f32) {α : Type} (k : TP F i α) : TP F i α :=
  Prog.bind (Scf.Loop.for (k0_t1_loop i v9 v11) (k0_t1_ok i v9 v11 k0_hw1 k0_h1) PUnit.unit (fun t _ => fillTrip i arg7 v9 v11 k0_hw1 k0_h1 t w0 w1 w2 w3 w4 w5 w6 w7)) fun _ =>
  Prog.bind (Scf.Loop.for (k0_t2_loop i v9 v11) (k0_t2_ok i v9 v11 k0_hw1 k0_h1) PUnit.unit body2) fun _ =>
  Prog.bind (Scf.Loop.for (k0_t3_loop i v9 v11) (k0_t3_ok i v9 v11 k0_hw1 k0_h1) PUnit.unit (fun t _ => blast i arg4 arg7 harg7 arg8.sem (k0_off3 i v9 v11 t) (k0_off3_inb i v9 v11 k0_hw1 t k0_h1))) fun _ =>
  Prog.bind (Scf.Loop.for (k0_t4_loop i v9 v11) (k0_t4_ok i v9 v11 k0_hw1 k0_h1) PUnit.unit (fun t _ => blast i arg4 arg7 harg7 arg8.sem (k0_off4 i v9 v11 t) (k0_off4_inb i v9 v11 k0_hw1 t k0_h1))) fun _ =>
  issue i arg4 arg7 arg9.sem S16384.size (z_in S16384.size (Nat.le_of_ble_eq_true rfl)) (k0_off5 i v9 v11) (k0_cond2 i v9 v11 = 1#1) (fun h => k0_off5_inb i v9 v11 k0_hw1 k0_h1 h) <|
  issue i arg4 arg7 arg10.sem S8192.size (z_in S8192.size (Nat.le_of_ble_eq_true rfl)) (k0_off6 i v9 v11) (k0_cond3 i v9 v11 = 1#1) (fun h => k0_off6_inb i v9 v11 k0_hw1 k0_h1 h) <|
  issue i arg4 arg7 arg11.sem S4096.size (z_in S4096.size (Nat.le_of_ble_eq_true rfl)) (k0_off7 i v9 v11) (k0_cond4 i v9 v11 = 1#1) (fun h => k0_off7_inb i v9 v11 k0_hw1 k0_h1 h) <|
  issue i arg4 arg7 arg12.sem S2048.size (z_in S2048.size (Nat.le_of_ble_eq_true rfl)) (k0_off8 i v9 v11) (k0_cond5 i v9 v11 = 1#1) (fun h => k0_off8_inb i v9 v11 k0_hw1 k0_h1 h) <|
  issue i arg4 arg7 arg13.sem S1024.size (z_in S1024.size (Nat.le_of_ble_eq_true rfl)) (k0_off9 i v9 v11) (k0_cond6 i v9 v11 = 1#1) (fun h => k0_off9_inb i v9 v11 k0_hw1 k0_h1 h) <|
  issue i arg4 arg7 arg14.sem S512.size (z_in S512.size (Nat.le_of_ble_eq_true rfl)) (k0_off10 i v9 v11) (k0_cond7 i v9 v11 = 1#1) (fun h => k0_off10_inb i v9 v11 k0_hw1 k0_h1 h) <|
  issue i arg4 arg7 arg15.sem S256.size (z_in S256.size (Nat.le_of_ble_eq_true rfl)) (k0_off11 i v9 v11) (k0_cond8 i v9 v11 = 1#1) (fun h => k0_off11_inb i v9 v11 k0_hw1 k0_h1 h) <|
  issue i arg4 arg7 arg16.sem S128.size (z_in S128.size (Nat.le_of_ble_eq_true rfl)) (k0_off12 i v9 v11) (k0_cond9 i v9 v11 = 1#1) (fun h => k0_off12_inb i v9 v11 k0_hw1 k0_h1 h) <|
  Prog.bind (Scf.Loop.for (k0_t5_loop i v9 v11) (k0_t5_ok i v9 v11 k0_hw1 k0_h1) PUnit.unit (fun t _ => drain i arg4 arg7 harg7 arg8.sem (k0_off13 i v9 v11 t) (k0_off13_inb i v9 v11 k0_hw1 t k0_h1))) fun _ =>
  Prog.bind (Scf.Loop.for (k0_t6_loop i v9 v11) (k0_t6_ok i v9 v11 k0_hw1 k0_h1) PUnit.unit (fun t _ => drain i arg4 arg7 harg7 arg8.sem (k0_off14 i v9 v11 t) (k0_off14_inb i v9 v11 k0_hw1 t k0_h1))) fun _ =>
  await i arg4 arg7 arg9.sem S16384.size (z_in S16384.size (Nat.le_of_ble_eq_true rfl)) (k0_off15 i v9 v11) (k0_cond10 i v9 v11 = 1#1) (fun h => k0_off15_inb i v9 v11 k0_hw1 k0_h1 h) <|
  await i arg4 arg7 arg10.sem S8192.size (z_in S8192.size (Nat.le_of_ble_eq_true rfl)) (k0_off16 i v9 v11) (k0_cond11 i v9 v11 = 1#1) (fun h => k0_off16_inb i v9 v11 k0_hw1 k0_h1 h) <|
  await i arg4 arg7 arg11.sem S4096.size (z_in S4096.size (Nat.le_of_ble_eq_true rfl)) (k0_off17 i v9 v11) (k0_cond12 i v9 v11 = 1#1) (fun h => k0_off17_inb i v9 v11 k0_hw1 k0_h1 h) <|
  await i arg4 arg7 arg12.sem S2048.size (z_in S2048.size (Nat.le_of_ble_eq_true rfl)) (k0_off18 i v9 v11) (k0_cond13 i v9 v11 = 1#1) (fun h => k0_off18_inb i v9 v11 k0_hw1 k0_h1 h) <|
  await i arg4 arg7 arg13.sem S1024.size (z_in S1024.size (Nat.le_of_ble_eq_true rfl)) (k0_off19 i v9 v11) (k0_cond14 i v9 v11 = 1#1) (fun h => k0_off19_inb i v9 v11 k0_hw1 k0_h1 h) <|
  await i arg4 arg7 arg14.sem S512.size (z_in S512.size (Nat.le_of_ble_eq_true rfl)) (k0_off20 i v9 v11) (k0_cond15 i v9 v11 = 1#1) (fun h => k0_off20_inb i v9 v11 k0_hw1 k0_h1 h) <|
  await i arg4 arg7 arg15.sem S256.size (z_in S256.size (Nat.le_of_ble_eq_true rfl)) (k0_off21 i v9 v11) (k0_cond16 i v9 v11 = 1#1) (fun h => k0_off21_inb i v9 v11 k0_hw1 k0_h1 h) <|
  await i arg4 arg7 arg16.sem S128.size (z_in S128.size (Nat.le_of_ble_eq_true rfl)) (k0_off22 i v9 v11) (k0_cond17 i v9 v11 = 1#1) (fun h => k0_off22_inb i v9 v11 k0_hw1 k0_h1 h) <|
  k
theorem seg_pos (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (o : ℕ) (ho : o + 128 ≤ 2048) (v2 v3 v9 v11 : BitVec 32) (k0_hw1 : k0_chk1 i v9 v11) {α : Type} (k : TP F i α) (k0_h1 : k0_cond1 i v9 v11 = 1#1) :
    ∃ body2 : RowT F → Fin (k0_t2_loop i v9 v11).trips → PUnit → TP F i PUnit, seg i arg2 harg2 arg3 harg3 arg4 harg4 arg5 harg5 arg6 harg6 arg7 harg7 arg8 arg9 arg10 arg11 arg12 arg13 arg14 arg15 arg16 v122_r0 v122_r1 o ho v2 v3 v9 v11 k0_hw1 k = (rows i arg2 harg2 arg3 harg3 arg4 harg4 arg5 harg5 arg6 harg6 arg7 harg7 arg8 arg9 arg10 arg11 arg12 arg13 arg14 arg15 arg16 v122_r0 v122_r1 o (row0_in o ho) (Scalar.maxsi v9 v2) (Scalar.minsi v11 v3)) >>= fun r : RowT F =>
      segCore i arg2 harg2 arg3 harg3 arg4 harg4 arg5 harg5 arg6 harg6 arg7 harg7 arg8 arg9 arg10 arg11 arg12 arg13 arg14 arg15 arg16 v122_r0 v122_r1 v9 v11 k0_hw1 k0_h1 (body2 r) r.1 r.2.1 r.2.2.1 r.2.2.2.1 r.2.2.2.2.1 r.2.2.2.2.2.1 r.2.2.2.2.2.2.1 r.2.2.2.2.2.2.2.1 k := by
  have key : ∀ r : RowT F, ∃ body2, (do
      let ⟨v179, v192, v195⟩ : Σ' (v179 : BitVec 32) (v192 : BitVec 32), BitVec 32 ← k0_part6 (F := F) i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2
      let v227 : BitVec 32 ← k0_part7 i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 r.2.2.2.2.2.2.2.2.1 v192 v195
      let ⟨v257, v258, c0_i32_79⟩ : Σ' (v257 : BitVec 32) (v258 : BitVec 32), BitVec 32 ← k0_part8 i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 r.2.2.2.2.2.2.2.2.1 v179 v227
      await i arg4 arg7 arg12.sem S2048.size (z_in S2048.size (Nat.le_of_ble_eq_true rfl)) (k0_off18 i v9 v11) (k0_cond13 i v9 v11 = 1#1) (fun h => k0_off18_inb i v9 v11 k0_hw1 k0_h1 h) <|
      await i arg4 arg7 arg13.sem S1024.size (z_in S1024.size (Nat.le_of_ble_eq_true rfl)) (k0_off19 i v9 v11) (k0_cond14 i v9 v11 = 1#1) (fun h => k0_off19_inb i v9 v11 k0_hw1 k0_h1 h) <|
      await i arg4 arg7 arg14.sem S512.size (z_in S512.size (Nat.le_of_ble_eq_true rfl)) (k0_off20 i v9 v11) (k0_cond15 i v9 v11 = 1#1) (fun h => k0_off20_inb i v9 v11 k0_hw1 k0_h1 h) <|
      await i arg4 arg7 arg15.sem S256.size (z_in S256.size (Nat.le_of_ble_eq_true rfl)) (k0_off21 i v9 v11) (k0_cond16 i v9 v11 = 1#1) (fun h => k0_off21_inb i v9 v11 k0_hw1 k0_h1 h) <|
      await i arg4 arg7 arg16.sem S128.size (z_in S128.size (Nat.le_of_ble_eq_true rfl)) (k0_off22 i v9 v11) (k0_cond17 i v9 v11 = 1#1) (fun h => k0_off22_inb i v9 v11 k0_hw1 k0_h1 h) <|
      k) = segCore i arg2 harg2 arg3 harg3 arg4 harg4 arg5 harg5 arg6 harg6 arg7 harg7 arg8 arg9 arg10 arg11 arg12 arg13 arg14 arg15 arg16 v122_r0 v122_r1 v9 v11 k0_hw1 k0_h1 body2 r.1 r.2.1 r.2.2.1 r.2.2.2.1 r.2.2.2.2.1 r.2.2.2.2.2.1 r.2.2.2.2.2.2.1 r.2.2.2.2.2.2.2.1 k := by
    intro r
    obtain ⟨r6, body2, e6⟩ := part6_eq (F := F) i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2
    obtain ⟨r7, e7⟩ := part7_eq (F := F) i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 r.2.2.2.2.2.2.2.2.1 r6.2.1 r6.2.2
    obtain ⟨r8, e8⟩ := part8_eq (F := F) i arg2 harg2 arg3 harg3 arg4 harg4 arg5 harg5 arg6 harg6 arg7 harg7 arg8 arg9 arg10 arg11 arg12 arg13 arg14 arg15 arg16 v122_r0 v122_r1 v9 v11 k0_hw1 (Scalar.maxsi v9 v2) k0_h1 r.2.2.2.2.2.2.2.2.1 r6.1 r7
    refine ⟨body2, ?_⟩
    rw [e6]
    simp only [bind_bind, issue_bind, await_bind, Prog.pure_eq_ret, Prog.bind_ret, e7, e8]
    rfl
  choose body2 hb using key
  refine ⟨body2, ?_⟩
  unfold seg
  rw [dif_pos k0_h1]
  exact congrArg _ (funext hb)

theorem seg_neg (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (o : ℕ) (ho : o + 128 ≤ 2048) (v2 v3 v9 v11 : BitVec 32) (k0_hw1 : k0_chk1 i v9 v11) {α : Type} (k : TP F i α) (k0_h1 : ¬ k0_cond1 i v9 v11 = 1#1) :
    seg i arg2 harg2 arg3 harg3 arg4 harg4 arg5 harg5 arg6 harg6 arg7 harg7 arg8 arg9 arg10 arg11 arg12 arg13 arg14 arg15 arg16 v122_r0 v122_r1 o ho v2 v3 v9 v11 k0_hw1 k = k := by
  unfold seg
  rw [dif_neg k0_h1]
end Cert.Proof.Text
-- ==== Proof.SegRun.lean ====
module
public import proofs.«01_k».proof.Proof.Tails
public import proofs.«01_k».proof.Proof.SegText
public import Idealize.ShloMosaic.Lib.SparseCore.Quiescent
public import Idealize.ShloMosaic.Lib.SparseCore.Ops
public import Idealize.ShloMosaic.Lib.Batch
public import Idealize.ShloMosaic.Lib.Scf
public import Idealize.ShloMosaic.Lib.Transfers
public import Idealize.ShloMosaic.Lib.Tactic
@[expose] public section
set_option maxRecDepth 16384
noncomputable section
/-! One segment of a tile's rows: what it writes, and that it gives everything else back. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

variable (d : Dev nD) (L : grid0.Coords)
variable (EC : UEmb Counters (MT nD τ sig (HIx 1) (Elt F) ℕ U ℕ)) [EC.LandsIn (upEmb : UEmb _ (MT nD τ sig (HIx 1) (Elt F) ℕ U ℕ))]

/-- The nine semaphores of the copies out, at rest. -/
def Cells (arg8 arg9 arg10 arg11 arg12 arg13 arg14 arg15 arg16 : DmaSems sig S_) : sProp 𝕄 :=
  iprop(semVal (cell d L arg8.sem) 0 ∗ semVal (cell d L arg9.sem) 0 ∗ semVal (cell d L arg10.sem) 0 ∗ semVal (cell d L arg11.sem) 0 ∗ semVal (cell d L arg12.sem) 0 ∗ semVal (cell d L arg13.sem) 0 ∗ semVal (cell d L arg14.sem) 0 ∗ semVal (cell d L arg15.sem) 0 ∗ semVal (cell d L arg16.sem) 0)

/-- What a tile holds between segments: the words it writes, the scratch, the semaphores at rest, what it owes. -/
def St (arg8 arg9 arg10 arg11 arg12 arg13 arg14 arg15 arg16 : DmaSems sig S_) (O : CellTallies nD τ sig (HIx 1)) (W : Waits sig (HIx 1)) (T0 T1 : ℕ)
    (f : Buf (Elt F) (oLoc d L)) : sProp 𝕄 :=
  iprop((oLoc d L ↦[iv T0 T1]{fullShare} f) ∗ (∃ g : Buf (Elt F) (rLoc d L), rLoc d L ↦{fullShare} g)
    ∗ Cells d L arg8 arg9 arg10 arg11 arg12 arg13 arg14 arg15 arg16 ∗ OW d L O W)

/-- The output after one segment: the rows the segment has in the tile are the table's row, the rest as before. -/
def step (w : ℕ) (a b : BitVec 32) (tab : Buf (Elt F) (tLoc d L)) (o : ℕ) (f : Buf (Elt F) (oLoc d L)) : Buf (Elt F) (oLoc d L) := fun x =>
  if max a.toInt ((1024 * w : ℕ) : ℤ) ≤ (((x 0).val / 128 : ℕ) : ℤ) ∧ (((x 0).val / 128 : ℕ) : ℤ) < min b.toInt ((1024 * w + 1024 : ℕ) : ℤ) then tab (ix (o + (x 0).val % 128)) else f x

theorem tpos_mono128 (L n k : ℕ) : 128 * tpos L n (k + 1) ≤ 128 * tpos L n k := by
  rw [tpos_step L n k]; omega

include EC in
theorem segCore_wp (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) {a b : BitVec 32} {sL n : ℕ} (h : Span L a b sL n) {hw1 : k0_chk1 L a b} {h1 : k0_cond1 L a b = 1#1} {body2}
    {tab : Buf (Elt F) (tLoc d L)} {o : ℕ} {O : CellTallies nD τ sig (HIx 1)} {W : Waits sig (HIx 1)} {T0 T1 : ℕ} {f f' : Buf (Elt F) (oLoc d L)}
    (hT0 : T0 ≤ 128 * sL) (hT1 : 128 * (sL + n) ≤ T1)
    (hin : ∀ x : S4194304.Idx, 128 * sL ≤ (x 0).val → (x 0).val < 128 * (sL + n) → f' x = tab (ix (o + (x 0).val % 128)))
    (hout : ∀ x : S4194304.Idx, ¬ (128 * sL ≤ (x 0).val ∧ (x 0).val < 128 * (sL + n)) → f' x = f x)
    {α : Type} {k : TP F L α} {Q : α → sProp 𝕄} :
    iprop(Transfers.MayWaits (thr d L) (none : HIx 1) O ∗ St d L arg8 arg9 arg10 arg11 arg12 arg13 arg14 arg15 arg16 O W T0 T1 f)
      ⊢ iprop((St d L arg8 arg9 arg10 arg11 arg12 arg13 arg14 arg15 arg16 O W T0 T1 f' -∗ Wp d L k Q)
        -∗ Wp d L (segCore L arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1 a b hw1 h1 body2 (vec d L tab (o + 0)) (vec d L tab (o + 16)) (vec d L tab (o + 32)) (vec d L tab (o + 48)) (vec d L tab (o + 64))
          (vec d L tab (o + 80)) (vec d L tab (o + 96)) (vec d L tab (o + 112)) k) Q) := by
  have hn := h.le
  have h8 : 128 * tpos sL n (7 + 1) = 128 * sL + 32768 * (n / 256) := by
    show 128 * (sL + 256 * (n / 256)) = _
    omega
  have h0' : 128 * tpos sL n 0 = 128 * (sL + n) := by rw [tpos_zero]
  unfold St Cells segCore
  iintro ⟨#Hmw, HO, ⟨%r, HR⟩, ⟨H8, H9, H10, H11, H12, H13, H14, H15, H16⟩, HW⟩ HK
  ihave HO' := (Entails.of_eq (pts_split d L fullShare f hT0 (by omega : 128 * sL ≤ T1))) $$ HO
  icases HO' with ⟨HA, HO⟩
  ihave HO' := (Entails.of_eq (pts_split d L fullShare f (by omega : 128 * sL ≤ 128 * (sL + n)) hT1)) $$ HO
  icases HO' with ⟨HO, HZ⟩
  iapply (fills_wp d L h) $$ HR
  unfold Filled
  iintro ⟨%g, %hg, HR⟩
  have hf : ∀ (x : S4194304.Idx) (z : S32768.Idx), (z 0).val < 128 * n → (z 0).val < 32768 → 128 * sL ≤ (x 0).val → (x 0).val < 128 * (sL + n) → (z 0).val % 128 = (x 0).val % 128 → f' x = g z := by
    intro x z hz hz' hx hx' e
    rw [hin x hx hx', hg z (by omega), e]
  iapply (none_wp d L h.fillRest_trips)
  iapply (blasts_wp d L EC (A := 128 * sL) (e := 128 * (sL + n)) (T := n / 256) (f' := f') h.block_trips ?_ (by omega) ?_) $$ [HR HO H8]
  · intro t
    show blockOff (loW L a) t.val = _
    rw [h.blockOff_eq t.val (Nat.lt_of_lt_of_eq t.isLt h.block_trips)]
    omega
  · intro t x z ht hx hx' hz
    have := (z 0).isLt
    change (z 0).val < 32768 at this
    exact hf x z (by omega) this (by omega) (by omega) (by omega)
  · isplitl [HR]; · iexact HR
    isplitl [HO]; · iexact HO
    iexact H8
  iintro ⟨HR, HO, HB⟩
  iapply (none_wp d L h.blockRest_trips)
  rw [← h8]
  iapply (tailIssue d L EC h (e := 128 * (sL + n)) (f' := f') 7 (cond2_def _ _ _) (off5_def _ _ _) rfl rfl hf) $$ [HR HO H9]
  · isplitl [HR]; · iexact HR
    isplitl [HO]; · iexact HO
    iexact H9
  iintro ⟨HR, HO, F9⟩
  iapply (tailIssue d L EC h (e := 128 * (sL + n)) (f' := f') 6 (cond3_def _ _ _) (off6_def _ _ _) rfl rfl hf) $$ [HR HO H10]
  · isplitl [HR]; · iexact HR
    isplitl [HO]; · iexact HO
    iexact H10
  iintro ⟨HR, HO, F10⟩
  iapply (tailIssue d L EC h (e := 128 * (sL + n)) (f' := f') 5 (cond4_def _ _ _) (off7_def _ _ _) rfl rfl hf) $$ [HR HO H11]
  · isplitl [HR]; · iexact HR
    isplitl [HO]; · iexact HO
    iexact H11
  iintro ⟨HR, HO, F11⟩
  iapply (tailIssue d L EC h (e := 128 * (sL + n)) (f' := f') 4 (cond5_def _ _ _) (off8_def _ _ _) rfl rfl hf) $$ [HR HO H12]
  · isplitl [HR]; · iexact HR
    isplitl [HO]; · iexact HO
    iexact H12
  iintro ⟨HR, HO, F12⟩
  iapply (tailIssue d L EC h (e := 128 * (sL + n)) (f' := f') 3 (cond6_def _ _ _) (off9_def _ _ _) rfl rfl hf) $$ [HR HO H13]
  · isplitl [HR]; · iexact HR
    isplitl [HO]; · iexact HO
    iexact H13
  iintro ⟨HR, HO, F13⟩
  iapply (tailIssue d L EC h (e := 128 * (sL + n)) (f' := f') 2 (cond7_def _ _ _) (off10_def _ _ _) rfl rfl hf) $$ [HR HO H14]
  · isplitl [HR]; · iexact HR
    isplitl [HO]; · iexact HO
    iexact H14
  iintro ⟨HR, HO, F14⟩
  iapply (tailIssue d L EC h (e := 128 * (sL + n)) (f' := f') 1 (cond8_def _ _ _) (off11_def _ _ _) rfl rfl hf) $$ [HR HO H15]
  · isplitl [HR]; · iexact HR
    isplitl [HO]; · iexact HO
    iexact H15
  iintro ⟨HR, HO, F15⟩
  iapply (tailIssue d L EC h (e := 128 * (sL + n)) (f' := f') 0 (cond9_def _ _ _) (off12_def _ _ _) rfl rfl hf) $$ [HR HO H16]
  · isplitl [HR]; · iexact HR
    isplitl [HO]; · iexact HO
    iexact H16
  iintro ⟨HR, HO, F16⟩
  iapply (drains_wp d L EC h.block_trips) $$ [HB HW]
  · isplitr; · iexact Hmw
    isplitl [HB]; · iexact HB
    iexact HW
  iintro ⟨HB, H8, HW⟩
  iapply (none_wp d L h.blockRest_trips)
  iapply (tailAwait d L EC h 7 (cond10_def _ _ _) rfl) $$ [F9 HW]
  · isplitr; · iexact Hmw
    isplitl [F9]; · iexact F9
    iexact HW
  iintro ⟨R9, O9, H9, HW⟩
  iapply (tailAwait d L EC h 6 (cond11_def _ _ _) rfl) $$ [F10 HW]
  · isplitr; · iexact Hmw
    isplitl [F10]; · iexact F10
    iexact HW
  iintro ⟨R10, O10, H10, HW⟩
  iapply (tailAwait d L EC h 5 (cond12_def _ _ _) rfl) $$ [F11 HW]
  · isplitr; · iexact Hmw
    isplitl [F11]; · iexact F11
    iexact HW
  iintro ⟨R11, O11, H11, HW⟩
  iapply (tailAwait d L EC h 4 (cond13_def _ _ _) rfl) $$ [F12 HW]
  · isplitr; · iexact Hmw
    isplitl [F12]; · iexact F12
    iexact HW
  iintro ⟨R12, O12, H12, HW⟩
  iapply (tailAwait d L EC h 3 (cond14_def _ _ _) rfl) $$ [F13 HW]
  · isplitr; · iexact Hmw
    isplitl [F13]; · iexact F13
    iexact HW
  iintro ⟨R13, O13, H13, HW⟩
  iapply (tailAwait d L EC h 2 (cond15_def _ _ _) rfl) $$ [F14 HW]
  · isplitr; · iexact Hmw
    isplitl [F14]; · iexact F14
    iexact HW
  iintro ⟨R14, O14, H14, HW⟩
  iapply (tailAwait d L EC h 1 (cond16_def _ _ _) rfl) $$ [F15 HW]
  · isplitr; · iexact Hmw
    isplitl [F15]; · iexact F15
    iexact HW
  iintro ⟨R15, O15, H15, HW⟩
  iapply (tailAwait d L EC h 0 (cond17_def _ _ _) rfl) $$ [F16 HW]
  · isplitr; · iexact Hmw
    isplitl [F16]; · iexact F16
    iexact HW
  iintro ⟨R16, O16, H16, HW⟩
  ihave HR := (pointsTo_share (PosShare.mem_left_op_right _)).2 $$ [R16 HR]
  · isplitl [R16]; · iexact R16
    iexact HR
  ihave HR := (pointsTo_share (PosShare.mem_left_op_right _)).2 $$ [R15 HR]
  · isplitl [R15]; · iexact R15
    iexact HR
  ihave HR := (pointsTo_share (PosShare.mem_left_op_right _)).2 $$ [R14 HR]
  · isplitl [R14]; · iexact R14
    iexact HR
  ihave HR := (pointsTo_share (PosShare.mem_left_op_right _)).2 $$ [R13 HR]
  · isplitl [R13]; · iexact R13
    iexact HR
  ihave HR := (pointsTo_share (PosShare.mem_left_op_right _)).2 $$ [R12 HR]
  · isplitl [R12]; · iexact R12
    iexact HR
  ihave HR := (pointsTo_share (PosShare.mem_left_op_right _)).2 $$ [R11 HR]
  · isplitl [R11]; · iexact R11
    iexact HR
  ihave HR := (pointsTo_share (PosShare.mem_left_op_right _)).2 $$ [R10 HR]
  · isplitl [R10]; · iexact R10
    iexact HR
  ihave HR := (pointsTo_share (PosShare.mem_left_op_right _)).2 $$ [R9 HR]
  · isplitl [R9]; · iexact R9
    iexact HR
  ihave HB' := (bk_join d L (128 * sL) f' fullShare g (n / 256)) $$ [HB HR]
  · isplitl [HB]; · iexact HB
    iexact HR
  icases HB' with ⟨HB, HR⟩
  rw [← h8]
  ihave HB := (Entails.of_eq (pts_split d L fullShare f' (Nat.mul_le_mul_left 128 (le_tpos sL n 8)) (tpos_mono128 sL n 7)).symm) $$ [HB O9]
  · isplitl [HB]; · iexact HB
    iexact O9
  ihave HB := (Entails.of_eq (pts_split d L fullShare f' (Nat.mul_le_mul_left 128 (le_tpos sL n 7)) (tpos_mono128 sL n 6)).symm) $$ [HB O10]
  · isplitl [HB]; · iexact HB
    iexact O10
  ihave HB := (Entails.of_eq (pts_split d L fullShare f' (Nat.mul_le_mul_left 128 (le_tpos sL n 6)) (tpos_mono128 sL n 5)).symm) $$ [HB O11]
  · isplitl [HB]; · iexact HB
    iexact O11
  ihave HB := (Entails.of_eq (pts_split d L fullShare f' (Nat.mul_le_mul_left 128 (le_tpos sL n 5)) (tpos_mono128 sL n 4)).symm) $$ [HB O12]
  · isplitl [HB]; · iexact HB
    iexact O12
  ihave HB := (Entails.of_eq (pts_split d L fullShare f' (Nat.mul_le_mul_left 128 (le_tpos sL n 4)) (tpos_mono128 sL n 3)).symm) $$ [HB O13]
  · isplitl [HB]; · iexact HB
    iexact O13
  ihave HB := (Entails.of_eq (pts_split d L fullShare f' (Nat.mul_le_mul_left 128 (le_tpos sL n 3)) (tpos_mono128 sL n 2)).symm) $$ [HB O14]
  · isplitl [HB]; · iexact HB
    iexact O14
  ihave HB := (Entails.of_eq (pts_split d L fullShare f' (Nat.mul_le_mul_left 128 (le_tpos sL n 2)) (tpos_mono128 sL n 1)).symm) $$ [HB O15]
  · isplitl [HB]; · iexact HB
    iexact O15
  ihave HB := (Entails.of_eq (pts_split d L fullShare f' (Nat.mul_le_mul_left 128 (le_tpos sL n 1)) (tpos_mono128 sL n 0)).symm) $$ [HB O16]
  · isplitl [HB]; · iexact HB
    iexact O16
  ihave HA := (Entails.of_eq (pointsTo_congr (g := f') (by
    intro x hx
    have := mem_iv.mp hx
    exact (hout x (by omega)).symm))) $$ HA
  ihave HZ := (Entails.of_eq (pointsTo_congr (g := f') (by
    intro x hx
    have := mem_iv.mp hx
    exact (hout x (by omega)).symm))) $$ HZ
  iapply HK
  isplitl [HA HB HZ]
  · rw [pts_split d L fullShare f' hT0 (by omega : 128 * sL ≤ T1), pts_split d L fullShare f' (by omega : 128 * sL ≤ 128 * (sL + n)) hT1]
    isplitl [HA]; · iexact HA
    isplitl [HB]; · rw [← h0']; iexact HB
    iexact HZ
  isplitl [HR]
  · iexists g; iexact HR
  isplitr [HW]; swap; · iexact HW
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

include EC in
/-- One segment, whether or not it meets the tile. -/
theorem seg_wp (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) {a b : BitVec 32} {hw1 : k0_chk1 L a b} {v2 v3 : BitVec 32} {o : ℕ} {ho : o + 128 ≤ 2048}
    {tab : Buf (Elt F) (tLoc d L)} {q : PosShare TreeShare} {O : CellTallies nD τ sig (HIx 1)} {W : Waits sig (HIx 1)} {w T0 T1 : ℕ} {f : Buf (Elt F) (oLoc d L)}
    (hw : w = wid L) (hT0 : T0 = 128 * (1024 * w)) (hT1 : T1 = 128 * (1024 * w + 1024))
    {α : Type} {k : TP F L α} {Q : α → sProp 𝕄} :
    iprop(Transfers.MayWaits (thr d L) (none : HIx 1) O ∗ St d L arg8 arg9 arg10 arg11 arg12 arg13 arg14 arg15 arg16 O W T0 T1 f ∗ tLoc d L ↦{q} tab)
      ⊢ iprop((St d L arg8 arg9 arg10 arg11 arg12 arg13 arg14 arg15 arg16 O W T0 T1 (step d L w a b tab o f) ∗ (tLoc d L ↦{q} tab) -∗ Wp d L k Q)
        -∗ Wp d L (seg L arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1 o ho v2 v3 a b hw1 k) Q) := by
  rcases Classical.em (k0_cond1 L a b = 1#1) with h1 | h1
  · obtain ⟨sL, n, h⟩ := span_of L a b h1
    obtain ⟨body2, e⟩ := seg_pos (F := F) L arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1 o ho v2 v3 a b hw1 k h1
    rw [e]
    have hb := h.base
    have hl := h.lim
    have i1 := h.loI
    have i2 := h.hiI
    rw [← hw] at hb hl i1 i2
    have hA : T0 ≤ 128 * sL := by omega
    have hB : 128 * (sL + n) ≤ T1 := by omega
    have hI : ∀ x : S4194304.Idx, 128 * sL ≤ (x 0).val → (x 0).val < 128 * (sL + n) → step d L w a b tab o f x = tab (ix (o + (x 0).val % 128)) := by
      intro x hx hx'
      unfold step
      rw [if_pos]
      rw [← i1, ← i2]
      omega
    have hO : ∀ x : S4194304.Idx, ¬ (128 * sL ≤ (x 0).val ∧ (x 0).val < 128 * (sL + n)) → step d L w a b tab o f x = f x := by
      intro x hx
      unfold step
      rw [if_neg]
      rw [← i1, ← i2]
      omega
    iintro ⟨#Hmw, HS, HT⟩ HK
    iapply (rows_wp d L arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1) $$ HT
    iintro HT
    iintro %c1 %c2 %c3
    iapply (segCore_wp d L EC arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1
      h (T0 := T0) (T1 := T1) (tab := tab) (o := o) (f := f) (f' := step d L w a b tab o f) hA hB hI hO) $$ [HS]
    · isplitr; · iexact Hmw
      iexact HS
    iintro HS
    iapply HK $$ [HS HT]
    isplitl [HS]; · iexact HS
    iexact HT
  · rw [seg_neg (F := F) L arg2 harg2 arg3 harg3 OV (Memref.isWhole_whole _) TV (Memref.isWhole_whole _) BV (Memref.isWhole_whole _) RV (Memref.isWhole_whole _) arg8 arg9 arg10 arg11 arg12 arg13 arg14 arg15 arg16 v122_r0 v122_r1 o ho v2 v3 a b hw1 k h1]
    have e : step d L w a b tab o f = f := by
      funext x
      unfold step
      rw [cond1_iff, ← hw] at h1
      rw [if_neg]
      omega
    rw [e]
    iintro ⟨-, HS, HT⟩ HK
    iapply HK $$ [HS HT]
    isplitl [HS]; · iexact HS
    iexact HT
end
end Cert.Proof.Mem
-- ==== Proof.TileText.lean ====
module
public import proofs.«01_k».proof.Proof.SegText
@[expose] public section
set_option maxRecDepth 16384
noncomputable section
/-! The last piece of the tile's text. -/
namespace Cert.Proof.Text
open Cert.KernelIdeal Cert.KernelIdeal.Facts₀ Cert.KernelIdeal.Facts Cert.Proof.Words
open Idealize.ShloMosaic Idealize.SL.Sem
variable {F : FTy → Type} [FloatOps F] [Facts]

/-- What the pieces of a tile's text hand on. -/
abbrev Res (P : BitVec 32 → BitVec 32 → Prop) : Type := Σ' (a : BitVec 32) (b : BitVec 32) (h : P a b) (lo : BitVec 32), BitVec 32

/-- The tile's text ends with the sixteenth segment. -/
theorem body_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) :
    ∃ last : Res (k0_chk16 i) → TP F i PUnit,
      (cc0__bcast_body (F := F) i arg2 harg2 arg3 harg3 arg4 harg4 arg5 harg5 arg6 harg6 arg7 harg7 arg8 arg9 arg10 arg11 arg12 arg13 arg14 arg15 arg16 v122_r0 v122_r1 = k0_part129 i arg2 harg2 arg3 harg3 arg4 harg4 arg5 harg5 arg6 harg6 arg7 harg7 arg8 arg9 arg10 arg11 arg12 arg13 arg14 arg15 arg16 v122_r0 v122_r1 >>= fun r =>
        k0_part130 i arg2 harg2 arg3 harg3 arg4 harg4 arg5 harg5 arg6 harg6 arg7 harg7 arg8 arg9 arg10 arg11 arg12 arg13 arg14 arg15 arg16 v122_r0 v122_r1 r.1 r.2.1 r.2.2.1 r.2.2.2.2.1 r.2.2.2.2.2.1 r.2.2.2.2.2.2.1 r.2.2.2.2.2.2.2.1 r.2.2.2.2.2.2.2.2 >>= fun r' =>
        k0_part131 i arg2 harg2 arg3 harg3 arg4 harg4 arg5 harg5 arg6 harg6 arg7 harg7 arg8 arg9 arg10 arg11 arg12 arg13 arg14 arg15 arg16 v122_r0 v122_r1 r.1 r.2.1 r.2.2.1 r.2.2.2.1 r'.1 r'.2.1 r'.2.2.1 r'.2.2.2.1 r'.2.2.2.2 >>= last)
      ∧ ∀ (v2 v3 a b : BitVec 32) (h : k0_chk16 i a b),
          last ⟨a, b, h, Scalar.maxsi a v2, Scalar.minsi b v3⟩ = seg i arg2 harg2 arg3 harg3 arg4 harg4 arg5 harg5 arg6 harg6 arg7 harg7 arg8 arg9 arg10 arg11 arg12 arg13 arg14 arg15 arg16 v122_r0 v122_r1 1920 (by decide) v2 v3 a b h (pure ⟨⟩) :=
  ⟨_, rfl, fun _ _ _ _ _ => rfl⟩
end Cert.Proof.Text
-- ==== Proof.Tile.lean ====
module
public import proofs.«01_k».proof.Proof.SegRun
public import proofs.«01_k».proof.Proof.TileText
public import Idealize.ShloMosaic.Lib.SparseCore.Quiescent
public import Idealize.ShloMosaic.Lib.SparseCore.Ops
public import Idealize.ShloMosaic.Lib.Batch
public import Idealize.ShloMosaic.Lib.Scf
public import Idealize.ShloMosaic.Lib.Transfers
public import Idealize.ShloMosaic.Lib.Tactic
@[expose] public section
set_option maxRecDepth 16384
noncomputable section
/-! A tile's whole run: the table and the row ends fetched, then the sixteen segments. -/
namespace Cert.Proof.Mem
open Cert.KernelIdeal Cert.KernelIdeal.Facts₀ Cert.KernelIdeal.Facts Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {F : FTy → Type} [FloatOps F] [Facts]
variable {U : Type} [URA U]
local notation "𝕄" => MT nD τ sig (HIx 1) (Elt F) ℕ U ℕ
local notation "OV" => (Memref.whole Cert.KernelIdeal.main_v3_scv : Memref Cert.KernelIdeal.sig Kind.scVector Space.hbm Cert.KernelIdeal.S4194304 EltTy.f32)
local notation "TV" => (Memref.whole Cert.KernelIdeal.cc0_scratch0 : Memref Cert.KernelIdeal.sig Kind.scVector Space.vmem Cert.KernelIdeal.S2048 EltTy.f32)
local notation "BV" => (Memref.whole Cert.KernelIdeal.cc0_scratch1 : Memref Cert.KernelIdeal.sig Kind.scVector Space.vmem Cert.KernelIdeal.S32 EltTy.i32)
local notation "RV" => (Memref.whole Cert.KernelIdeal.cc0_scratch2 : Memref Cert.KernelIdeal.sig Kind.scVector Space.vmem Cert.KernelIdeal.S32768 EltTy.f32)

local notation "AV" => (Memref.whole Cert.KernelIdeal.main_v2_scv : Memref Cert.KernelIdeal.sig Kind.scVector Space.hbm Cert.KernelIdeal.S2048 EltTy.f32)
local notation "EV" => (Memref.whole Cert.KernelIdeal.main_v1_scv : Memref Cert.KernelIdeal.sig Kind.scVector Space.hbm Cert.KernelIdeal.S32 EltTy.i32)

/-- The output of tile `w` after its first `k` segments. -/
def steps (w : ℕ) (tab : S2048.Idx → Elt F .f32) (e : ℕ → BitVec 32) (f : S4194304.Idx → Elt F .f32) : ℕ → S4194304.Idx → Elt F .f32
  | 0 => f
  | k + 1 => fun x => if max (e k).toInt ((1024 * w : ℕ) : ℤ) ≤ (((x 0).val / 128 : ℕ) : ℤ) ∧ (((x 0).val / 128 : ℕ) : ℤ) < min (e (k + 1)).toInt ((1024 * w + 1024 : ℕ) : ℤ)
      then tab (ix (128 * k + (x 0).val % 128)) else steps w tab e f k x

attribute [local irreducible] seg

variable (d : Dev nD) (L : grid0.Coords)
variable (EC : UEmb Counters (MT nD τ sig (HIx 1) (Elt F) ℕ U ℕ)) [EC.LandsIn (upEmb : UEmb _ (MT nD τ sig (HIx 1) (Elt F) ℕ U ℕ))]

abbrev aLoc : Loc nD τ sig := (AV).view.loc (thr d L)
abbrev eLoc : Loc nD τ sig := (EV).view.loc (thr d L)

/-- The row ends as the tile reads them from its copy. -/
def endsOf (rb : S32.Idx → Elt F .i32) : ℕ → BitVec 32 :=
  ends (shapeCast S16 ((BV).view.readAt (Elt F) (Rect.unit (s := S32) ![0] S16.size inb_S32_S16_0).toLoadRect rb) shapeCasts_S16_S16)
    (shapeCast S16 ((BV).view.readAt (Elt F) (Rect.unit (s := S32) ![16] S16.size inb_S32_S16_16).toLoadRect rb) shapeCasts_S16_S16)

/-- The test before segment 3 holds of any row ends. -/
theorem chk4 (L : grid0.Coords) (a b : BitVec 32) : k0_chk4 L a b := chk L a b

/-- The test before segment 9 holds of any row ends. -/
theorem chk10 (L : grid0.Coords) (a b : BitVec 32) : k0_chk10 L a b := chk L a b

/-- The test before segment 15 holds of any row ends. -/
theorem chk16 (L : grid0.Coords) (a b : BitVec 32) : k0_chk16 L a b := chk L a b

theorem need_wp {P : Prop} {dP : Decidable P} {α : Type} {k : P → TP F L α} {Q : α → sProp 𝕄} (h : P) :
    (Wp d L (k h) Q : sProp 𝕄) ⊢ Wp d L (need L P dP k) Q :=
  Entails.of_eq (wp_assume_of Variants.none (thr d L) none Set.univ (k := fun h' : PLift P => k h'.down) h).symm

theorem pure_wp {α : Type} {a : α} {Q : α → sProp 𝕄} : Q a ⊢ Wp d L (pure a : TP F L α) Q := by
  unfold Wp
  rw [wp_pure]
  iintro H
  imodintro
  iexact H

theorem bind_wp {α β : Type} {p : TP F L α} {k : α → TP F L β} {Q : β → sProp 𝕄} :
    (Wp d L p (fun x => Wp d L (k x) Q) : sProp 𝕄) ⊢ Wp d L (p >>= k) Q := Entails.of_eq (wp_bind ..).symm

include EC in
/-- A whole buffer fetched into the tile's memory, started and awaited. -/
theorem fetch_wp {s : Shape} {e : EltTy} {src : Memref sig .scVector .hbm s e} {dst : Memref sig .scVector .vmem s e} {sem : DmaSem sig}
    {h1 : src.view.WordExact} {h2 : dst.view.WordExact} {h3} {h4 : src.view.WordExact} {h5 : dst.view.WordExact} (hN : 0 < dst.view.dmaCredit)
    {fs : Buf (Elt F) (src.view.loc (thr d L))} {fd : Buf (Elt F) (dst.view.loc (thr d L))} {q : PosShare TreeShare}
    {O : CellTallies nD τ sig (HIx 1)} {W : Waits sig (HIx 1)} {α : Type} {k : PUnit → TP F L α} {Q : α → sProp 𝕄} :
    iprop(Transfers.MayWaits (thr d L) (none : HIx 1) O ∗ (src.view.loc (thr d L) ↦[src.view.set]{q} fs) ∗ (dst.view.loc (thr d L) ↦{fullShare} fd) ∗ semVal (cell d L sem) 0 ∗ OW d L O W)
      ⊢ iprop(((src.view.loc (thr d L) ↦[src.view.set]{q} fs) ∗ (dst.view.loc (thr d L) ↦{fullShare} dst.view.write (Elt F) fd (src.view.read (Elt F) fs) Finset.univ)
            ∗ semVal (cell d L sem) 0 ∗ OW d L O W -∗ Wp d L (k ⟨⟩) Q)
          -∗ Wp d L (Prog.lift (.enqueueDma src (.here dst) (.dma sem) h1 h2 h3) >>= fun _ => Prog.lift (.waitDma2 sem src dst h4 h5) >>= k) Q) := by
  simp only [Prog.bind_lift]
  unfold OW
  iintro ⟨#Hmw, HS, HD, Hs, ⟨%W', %hW, HO⟩⟩ HK
  iapply (Transfers.wp_dmaLocal EC Variants.none (thr d L) none (src := src) (dst := dst) (sm := .dma sem) (none : HIx 1) dst.view.dmaCredit rfl hN (Finset.subset_univ _)
    (q := q) (fs := fs) (fd := fd)) $$ [HS HD Hs]
  · isplitl [HS]; · iexact HS
    isplitl [HD]; · iexact HD
    iexact Hs
  iintro HF
  iapply (Transfers.wp_waitLocalO EC Variants.none (thr d L) none (none : HIx 1) rfl) $$ [HF HO]
  · isplitl [HF]; · iexact HF
    isplitl [HO]; · iexact HO
    ihave Hm := Transfers.MayWaits.elim (SemLoc.dma sem) $$ Hmw
    iexact Hm
  iintro ⟨⟨HD, HS⟩, Hs, HO⟩
  iapply HK $$ [HS HD Hs HO]
  isplitl [HS]; · iexact HS
  isplitl [HD]; · iexact HD
  isplitl [Hs]; · iexact Hs
  iexists (insert (SemLoc.dma sem, (none : HIx 1)) W')
  isplitr; · ipureintro; exact OW_insert hW
  iexact HO

include EC in
/-- Segment `k` of a tile takes its output from after `k` segments to after `k + 1`. -/
theorem seg_at {O : CellTallies nD τ sig (HIx 1)} {W : Waits sig (HIx 1)} {w T0 T1 : ℕ} (hw : w = wid L) (hT0 : T0 = 128 * (1024 * w)) (hT1 : T1 = 128 * (1024 * w + 1024))
    {f : S4194304.Idx → Elt F .f32} {tab : S2048.Idx → Elt F .f32} (e : ℕ → BitVec 32) (k : ℕ) {o : ℕ} (ho' : o = 128 * k) {a b : BitVec 32} (ha : a = e k) (hb : b = e (k + 1))
    {ho : o + 128 ≤ 2048} {v2 v3 : BitVec 32} {hc : k0_chk1 L a b} {α : Type} {kk : TP F L α} {Q : α → sProp 𝕄} :
    (iprop(Transfers.MayWaits (thr d L) (none : HIx 1) O ∗ St d L cc0_scratch3 cc0_scratch4 cc0_scratch5 cc0_scratch6 cc0_scratch7 cc0_scratch8 cc0_scratch9 cc0_scratch10 cc0_scratch11 O W T0 T1 (steps w tab e f k) ∗ tLoc d L ↦{fullShare} tab) : sProp 𝕄)
      ⊢ iprop((St d L cc0_scratch3 cc0_scratch4 cc0_scratch5 cc0_scratch6 cc0_scratch7 cc0_scratch8 cc0_scratch9 cc0_scratch10 cc0_scratch11 O W T0 T1 (steps w tab e f (k + 1)) ∗ (tLoc d L ↦{fullShare} tab) -∗ Wp d L kk Q)
        -∗ Wp d L (seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 o ho v2 v3 a b hc kk) Q) := by
  have h := seg_wp (U := U) d L EC AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 (a := a) (b := b) (hw1 := hc) (v2 := v2) (v3 := v3) (o := o) (ho := ho) (tab := tab) (q := fullShare) (O := O) (W := W) (w := w) (T0 := T0) (T1 := T1)
    (f := steps w tab e f k) hw hT0 hT1 (k := kk) (Q := Q)
  have hs : step d L w a b tab o (steps w tab e f k) = steps w tab e f (k + 1) := by
    subst ho' ha hb
    rfl
  rw [hs] at h
  exact h

include EC in
/-- The first three segments. -/
theorem segsA {O : CellTallies nD τ sig (HIx 1)} {W : Waits sig (HIx 1)} {w T0 T1 : ℕ} (hw : w = wid L) (hT0 : T0 = 128 * (1024 * w)) (hT1 : T1 = 128 * (1024 * w + 1024))
    {f : S4194304.Idx → Elt F .f32} {tab : S2048.Idx → Elt F .f32} (e : ℕ → BitVec 32) {v2 v3 : BitVec 32} {h0 : k0_chk1 L (e 0) (e 1)} {α : Type} {kk : k0_chk4 L (e 3) (e 4) → TP F L α} {Q : α → sProp 𝕄} :
    (iprop(Transfers.MayWaits (thr d L) (none : HIx 1) O ∗ St d L cc0_scratch3 cc0_scratch4 cc0_scratch5 cc0_scratch6 cc0_scratch7 cc0_scratch8 cc0_scratch9 cc0_scratch10 cc0_scratch11 O W T0 T1 (steps w tab e f 0) ∗ tLoc d L ↦{fullShare} tab) : sProp 𝕄)
      ⊢ iprop((St d L cc0_scratch3 cc0_scratch4 cc0_scratch5 cc0_scratch6 cc0_scratch7 cc0_scratch8 cc0_scratch9 cc0_scratch10 cc0_scratch11 O W T0 T1 (steps w tab e f 3) ∗ (tLoc d L ↦{fullShare} tab) -∗ Wp d L (kk (chk4 L (e 3) (e 4))) Q)
        -∗ Wp d L (seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 0 (by decide) v2 v3 (e 0) (e 1) h0 <| need L (k0_chk2 L (e 1) (e 2)) (k0_chk2.dec L (e 1) (e 2)) fun h1 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 128 (by decide) v2 v3 (e 1) (e 2) h1 <| need L (k0_chk3 L (e 2) (e 3)) (k0_chk3.dec L (e 2) (e 3)) fun h2 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 256 (by decide) v2 v3 (e 2) (e 3) h2 <| need L (k0_chk4 L (e 3) (e 4)) (k0_chk4.dec L (e 3) (e 4)) fun h3 =>
      kk h3) Q) := by
  iintro ⟨#Hmw, HS, HT⟩ HK
  iapply (seg_at d L EC hw hT0 hT1 (f := f) (tab := tab) (O := O) (W := W) e 0 rfl rfl rfl) $$ [HS HT]
  · isplitr; · iexact Hmw
    isplitl [HS]; · iexact HS
    iexact HT
  iintro ⟨HS, HT⟩
  iapply (need_wp d L (chk L (e 1) (e 2)))
  iapply (seg_at d L EC hw hT0 hT1 (f := f) (tab := tab) (O := O) (W := W) e 1 rfl rfl rfl) $$ [HS HT]
  · isplitr; · iexact Hmw
    isplitl [HS]; · iexact HS
    iexact HT
  iintro ⟨HS, HT⟩
  iapply (need_wp d L (chk L (e 2) (e 3)))
  iapply (seg_at d L EC hw hT0 hT1 (f := f) (tab := tab) (O := O) (W := W) e 2 rfl rfl rfl) $$ [HS HT]
  · isplitr; · iexact Hmw
    isplitl [HS]; · iexact HS
    iexact HT
  iintro ⟨HS, HT⟩
  iapply (need_wp d L (chk L (e 3) (e 4)))
  ispecialize HK $$ [HS HT]
  · isplitl [HS]; · iexact HS
    iexact HT
  iapply HK

include EC in
/-- The next six. -/
theorem segsB {O : CellTallies nD τ sig (HIx 1)} {W : Waits sig (HIx 1)} {w T0 T1 : ℕ} (hw : w = wid L) (hT0 : T0 = 128 * (1024 * w)) (hT1 : T1 = 128 * (1024 * w + 1024))
    {f : S4194304.Idx → Elt F .f32} {tab : S2048.Idx → Elt F .f32} (e : ℕ → BitVec 32) {v2 v3 : BitVec 32} {h3 : k0_chk4 L (e 3) (e 4)} {α : Type} {kk : k0_chk10 L (e 9) (e 10) → TP F L α} {Q : α → sProp 𝕄} :
    (iprop(Transfers.MayWaits (thr d L) (none : HIx 1) O ∗ St d L cc0_scratch3 cc0_scratch4 cc0_scratch5 cc0_scratch6 cc0_scratch7 cc0_scratch8 cc0_scratch9 cc0_scratch10 cc0_scratch11 O W T0 T1 (steps w tab e f 3) ∗ tLoc d L ↦{fullShare} tab) : sProp 𝕄)
      ⊢ iprop((St d L cc0_scratch3 cc0_scratch4 cc0_scratch5 cc0_scratch6 cc0_scratch7 cc0_scratch8 cc0_scratch9 cc0_scratch10 cc0_scratch11 O W T0 T1 (steps w tab e f 9) ∗ (tLoc d L ↦{fullShare} tab) -∗ Wp d L (kk (chk10 L (e 9) (e 10))) Q)
        -∗ Wp d L (seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 384 (by decide) v2 v3 (e 3) (e 4) h3 <| need L (k0_chk5 L (e 4) (e 5)) (k0_chk5.dec L (e 4) (e 5)) fun h4 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 512 (by decide) v2 v3 (e 4) (e 5) h4 <| need L (k0_chk6 L (e 5) (e 6)) (k0_chk6.dec L (e 5) (e 6)) fun h5 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 640 (by decide) v2 v3 (e 5) (e 6) h5 <| need L (k0_chk7 L (e 6) (e 7)) (k0_chk7.dec L (e 6) (e 7)) fun h6 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 768 (by decide) v2 v3 (e 6) (e 7) h6 <| need L (k0_chk8 L (e 7) (e 8)) (k0_chk8.dec L (e 7) (e 8)) fun h7 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 896 (by decide) v2 v3 (e 7) (e 8) h7 <| need L (k0_chk9 L (e 8) (e 9)) (k0_chk9.dec L (e 8) (e 9)) fun h8 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1024 (by decide) v2 v3 (e 8) (e 9) h8 <| need L (k0_chk10 L (e 9) (e 10)) (k0_chk10.dec L (e 9) (e 10)) fun h9 =>
      kk h9) Q) := by
  iintro ⟨#Hmw, HS, HT⟩ HK
  iapply (seg_at d L EC hw hT0 hT1 (f := f) (tab := tab) (O := O) (W := W) e 3 rfl rfl rfl) $$ [HS HT]
  · isplitr; · iexact Hmw
    isplitl [HS]; · iexact HS
    iexact HT
  iintro ⟨HS, HT⟩
  iapply (need_wp d L (chk L (e 4) (e 5)))
  iapply (seg_at d L EC hw hT0 hT1 (f := f) (tab := tab) (O := O) (W := W) e 4 rfl rfl rfl) $$ [HS HT]
  · isplitr; · iexact Hmw
    isplitl [HS]; · iexact HS
    iexact HT
  iintro ⟨HS, HT⟩
  iapply (need_wp d L (chk L (e 5) (e 6)))
  iapply (seg_at d L EC hw hT0 hT1 (f := f) (tab := tab) (O := O) (W := W) e 5 rfl rfl rfl) $$ [HS HT]
  · isplitr; · iexact Hmw
    isplitl [HS]; · iexact HS
    iexact HT
  iintro ⟨HS, HT⟩
  iapply (need_wp d L (chk L (e 6) (e 7)))
  iapply (seg_at d L EC hw hT0 hT1 (f := f) (tab := tab) (O := O) (W := W) e 6 rfl rfl rfl) $$ [HS HT]
  · isplitr; · iexact Hmw
    isplitl [HS]; · iexact HS
    iexact HT
  iintro ⟨HS, HT⟩
  iapply (need_wp d L (chk L (e 7) (e 8)))
  iapply (seg_at d L EC hw hT0 hT1 (f := f) (tab := tab) (O := O) (W := W) e 7 rfl rfl rfl) $$ [HS HT]
  · isplitr; · iexact Hmw
    isplitl [HS]; · iexact HS
    iexact HT
  iintro ⟨HS, HT⟩
  iapply (need_wp d L (chk L (e 8) (e 9)))
  iapply (seg_at d L EC hw hT0 hT1 (f := f) (tab := tab) (O := O) (W := W) e 8 rfl rfl rfl) $$ [HS HT]
  · isplitr; · iexact Hmw
    isplitl [HS]; · iexact HS
    iexact HT
  iintro ⟨HS, HT⟩
  iapply (need_wp d L (chk L (e 9) (e 10)))
  ispecialize HK $$ [HS HT]
  · isplitl [HS]; · iexact HS
    iexact HT
  iapply HK

include EC in
/-- The next six. -/
theorem segsC {O : CellTallies nD τ sig (HIx 1)} {W : Waits sig (HIx 1)} {w T0 T1 : ℕ} (hw : w = wid L) (hT0 : T0 = 128 * (1024 * w)) (hT1 : T1 = 128 * (1024 * w + 1024))
    {f : S4194304.Idx → Elt F .f32} {tab : S2048.Idx → Elt F .f32} (e : ℕ → BitVec 32) {v2 v3 : BitVec 32} {h9 : k0_chk10 L (e 9) (e 10)} {α : Type} {kk : k0_chk16 L (e 15) (e 16) → TP F L α} {Q : α → sProp 𝕄} :
    (iprop(Transfers.MayWaits (thr d L) (none : HIx 1) O ∗ St d L cc0_scratch3 cc0_scratch4 cc0_scratch5 cc0_scratch6 cc0_scratch7 cc0_scratch8 cc0_scratch9 cc0_scratch10 cc0_scratch11 O W T0 T1 (steps w tab e f 9) ∗ tLoc d L ↦{fullShare} tab) : sProp 𝕄)
      ⊢ iprop((St d L cc0_scratch3 cc0_scratch4 cc0_scratch5 cc0_scratch6 cc0_scratch7 cc0_scratch8 cc0_scratch9 cc0_scratch10 cc0_scratch11 O W T0 T1 (steps w tab e f 15) ∗ (tLoc d L ↦{fullShare} tab) -∗ Wp d L (kk (chk16 L (e 15) (e 16))) Q)
        -∗ Wp d L (seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1152 (by decide) v2 v3 (e 9) (e 10) h9 <| need L (k0_chk11 L (e 10) (e 11)) (k0_chk11.dec L (e 10) (e 11)) fun h10 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1280 (by decide) v2 v3 (e 10) (e 11) h10 <| need L (k0_chk12 L (e 11) (e 12)) (k0_chk12.dec L (e 11) (e 12)) fun h11 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1408 (by decide) v2 v3 (e 11) (e 12) h11 <| need L (k0_chk13 L (e 12) (e 13)) (k0_chk13.dec L (e 12) (e 13)) fun h12 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1536 (by decide) v2 v3 (e 12) (e 13) h12 <| need L (k0_chk14 L (e 13) (e 14)) (k0_chk14.dec L (e 13) (e 14)) fun h13 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1664 (by decide) v2 v3 (e 13) (e 14) h13 <| need L (k0_chk15 L (e 14) (e 15)) (k0_chk15.dec L (e 14) (e 15)) fun h14 =>
      seg L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1 1792 (by decide) v2 v3 (e 14) (e 15) h14 <| need L (k0_chk16 L (e 15) (e 16)) (k0_chk16.dec L (e 15) (e 16)) fun h15 =>
      kk h15) Q) := by
  iintro ⟨#Hmw, HS, HT⟩ HK
  iapply (seg_at d L EC hw hT0 hT1 (f := f) (tab := tab) (O := O) (W := W) e 9 rfl rfl rfl) $$ [HS HT]
  · isplitr; · iexact Hmw
    isplitl [HS]; · iexact HS
    iexact HT
  iintro ⟨HS, HT⟩
  iapply (need_wp d L (chk L (e 10) (e 11)))
  iapply (seg_at d L EC hw hT0 hT1 (f := f) (tab := tab) (O := O) (W := W) e 10 rfl rfl rfl) $$ [HS HT]
  · isplitr; · iexact Hmw
    isplitl [HS]; · iexact HS
    iexact HT
  iintro ⟨HS, HT⟩
  iapply (need_wp d L (chk L (e 11) (e 12)))
  iapply (seg_at d L EC hw hT0 hT1 (f := f) (tab := tab) (O := O) (W := W) e 11 rfl rfl rfl) $$ [HS HT]
  · isplitr; · iexact Hmw
    isplitl [HS]; · iexact HS
    iexact HT
  iintro ⟨HS, HT⟩
  iapply (need_wp d L (chk L (e 12) (e 13)))
  iapply (seg_at d L EC hw hT0 hT1 (f := f) (tab := tab) (O := O) (W := W) e 12 rfl rfl rfl) $$ [HS HT]
  · isplitr; · iexact Hmw
    isplitl [HS]; · iexact HS
    iexact HT
  iintro ⟨HS, HT⟩
  iapply (need_wp d L (chk L (e 13) (e 14)))
  iapply (seg_at d L EC hw hT0 hT1 (f := f) (tab := tab) (O := O) (W := W) e 13 rfl rfl rfl) $$ [HS HT]
  · isplitr; · iexact Hmw
    isplitl [HS]; · iexact HS
    iexact HT
  iintro ⟨HS, HT⟩
  iapply (need_wp d L (chk L (e 14) (e 15)))
  iapply (seg_at d L EC hw hT0 hT1 (f := f) (tab := tab) (O := O) (W := W) e 14 rfl rfl rfl) $$ [HS HT]
  · isplitr; · iexact Hmw
    isplitl [HS]; · iexact HS
    iexact HT
  iintro ⟨HS, HT⟩
  iapply (need_wp d L (chk L (e 15) (e 16)))
  ispecialize HK $$ [HS HT]
  · isplitl [HS]; · iexact HS
    iexact HT
  iapply HK

set_option maxHeartbeats 1000000 in
include EC in
/-- The tile's run: the words it owns end as its sixteen segments leave them. -/
theorem tile_run {O : CellTallies nD τ sig (HIx 1)} {W : Waits sig (HIx 1)} {w T0 T1 : ℕ} (hw : w = wid L) (hT0 : T0 = 128 * (1024 * w)) (hT1 : T1 = 128 * (1024 * w + 1024))
    {f : S4194304.Idx → Elt F .f32} {tab : S2048.Idx → Elt F .f32} {rb : S32.Idx → Elt F .i32} {t0 : Buf (Elt F) (tLoc d L)} {b0 : Buf (Elt F) (bLoc d L)} {qa qe : PosShare TreeShare} :
    (iprop(Transfers.MayWaits (thr d L) (none : HIx 1) O ∗ (aLoc d L ↦{qa} tab) ∗ (eLoc d L ↦{qe} rb) ∗ (tLoc d L ↦{fullShare} t0) ∗ (bLoc d L ↦{fullShare} b0)
        ∗ semVal (cell d L cc0_scoped0.sem) 0 ∗ semVal (cell d L cc0_scoped1.sem) 0
        ∗ St d L cc0_scratch3 cc0_scratch4 cc0_scratch5 cc0_scratch6 cc0_scratch7 cc0_scratch8 cc0_scratch9 cc0_scratch10 cc0_scratch11 O W T0 T1 f) : sProp 𝕄)
      ⊢ Wp d L (cc0__bcast_body L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1) fun _ => iprop((aLoc d L ↦{qa} tab) ∗ (eLoc d L ↦{qe} rb)
          ∗ (∃ t : Buf (Elt F) (tLoc d L), tLoc d L ↦{fullShare} t) ∗ (∃ b : Buf (Elt F) (bLoc d L), bLoc d L ↦{fullShare} b)
          ∗ semVal (cell d L cc0_scoped0.sem) 0 ∗ semVal (cell d L cc0_scoped1.sem) 0
          ∗ St d L cc0_scratch3 cc0_scratch4 cc0_scratch5 cc0_scratch6 cc0_scratch7 cc0_scratch8 cc0_scratch9 cc0_scratch10 cc0_scratch11 O W T0 T1 (steps w tab (endsOf rb) f 16)) := by
  obtain ⟨last, e, el⟩ := body_eq (F := F) L AV (Memref.isWhole_whole _) EV (Memref.isWhole_whole _) OV (Memref.isWhole_whole _) TV (Memref.isWhole_whole _) BV (Memref.isWhole_whole _) RV (Memref.isWhole_whole _) cc0_scratch3 cc0_scratch4 cc0_scratch5 cc0_scratch6 cc0_scratch7 cc0_scratch8 cc0_scratch9 cc0_scratch10 cc0_scratch11 cc0_scoped0 cc0_scoped1
  rw [e]
  iintro ⟨#Hmw, HA, HE, HT, HB, H0, H1, HS⟩
  ihave HS := (show St d L cc0_scratch3 cc0_scratch4 cc0_scratch5 cc0_scratch6 cc0_scratch7 cc0_scratch8 cc0_scratch9 cc0_scratch10 cc0_scratch11 O W T0 T1 f ⊢ (iprop((oLoc d L ↦[iv T0 T1]{fullShare} f) ∗ (∃ g : Buf (Elt F) (rLoc d L), rLoc d L ↦{fullShare} g) ∗ Cells d L cc0_scratch3 cc0_scratch4 cc0_scratch5 cc0_scratch6 cc0_scratch7 cc0_scratch8 cc0_scratch9 cc0_scratch10 cc0_scratch11 ∗ OW d L O W) : sProp 𝕄) from .rfl) $$ HS
  icases HS with ⟨HO, HR, HC, HW⟩
  iapply (bind_wp d L)
  rw [part129_eq]
  ihave HA' := (Entails.of_eq (show (aLoc d L ↦{qa} tab : sProp 𝕄) = (aLoc d L ↦[(AV).view.set]{qa} tab) by rw [show (AV).view.set = Finset.univ from View.set_whole _])) $$ HA
  ihave HE' := (Entails.of_eq (show (eLoc d L ↦{qe} rb : sProp 𝕄) = (eLoc d L ↦[(EV).view.set]{qe} rb) by rw [show (EV).view.set = Finset.univ from View.set_whole _])) $$ HE
  iapply (fetch_wp d L EC (src := AV) (dst := TV) (fs := tab) (fd := t0) (q := qa) (O := O) (W := W) (sig.dmaCredit_pos _ _ _ _ _ (by decide))) $$ [HA' HT H0 HW]
  · isplitr; · iexact Hmw
    isplitl [HA']; · iexact HA'
    isplitl [HT]; · iexact HT
    isplitl [H0]; · iexact H0
    iexact HW
  iintro ⟨HA', HT, H0, HW⟩
  iapply (fetch_wp d L EC (src := EV) (dst := BV) (fs := rb) (fd := b0) (q := qe) (O := O) (W := W) (sig.dmaCredit_pos _ _ _ _ _ (by decide))) $$ [HE' HB H1 HW]
  · isplitr; · iexact Hmw
    isplitl [HE']; · iexact HE'
    isplitl [HB]; · iexact HB
    isplitl [H1]; · iexact H1
    iexact HW
  iintro ⟨HE', HB, H1, HW⟩
  ihave HT := (Entails.of_eq (show (tLoc d L ↦{fullShare} (TV).view.write (Elt F) t0 ((AV).view.read (Elt F) tab) Finset.univ : sProp 𝕄) = (tLoc d L ↦{fullShare} tab) by
    rw [View.write_whole_univ]; rfl)) $$ HT
  ihave HB := (Entails.of_eq (show (bLoc d L ↦{fullShare} (BV).view.write (Elt F) b0 ((EV).view.read (Elt F) rb) Finset.univ : sProp 𝕄) = (bLoc d L ↦{fullShare} rb) by
    rw [View.write_whole_univ]; rfl)) $$ HB
  simp only [Prog.bind_lift]
  iapply (wp_load Variants.none (thr d L) none Set.univ (m := BV) (f := rb) (S := Finset.univ) (Finset.subset_univ _)) $$ HB
  iintro HB
  iapply (wp_load Variants.none (thr d L) none Set.univ (m := BV) (f := rb) (S := Finset.univ) (Finset.subset_univ _)) $$ HB
  iintro HB
  ihave HS := (show (iprop((oLoc d L ↦[iv T0 T1]{fullShare} f) ∗ (∃ g : Buf (Elt F) (rLoc d L), rLoc d L ↦{fullShare} g) ∗ Cells d L cc0_scratch3 cc0_scratch4 cc0_scratch5 cc0_scratch6 cc0_scratch7 cc0_scratch8 cc0_scratch9 cc0_scratch10 cc0_scratch11 ∗ OW d L O W) : sProp 𝕄)
      ⊢ St d L cc0_scratch3 cc0_scratch4 cc0_scratch5 cc0_scratch6 cc0_scratch7 cc0_scratch8 cc0_scratch9 cc0_scratch10 cc0_scratch11 O W T0 T1 (steps w tab (endsOf rb) f 0) from .rfl) $$ [HO HR HC HW]
  · isplitl [HO]; · iexact HO
    isplitl [HR]; · iexact HR
    isplitl [HC]; · iexact HC
    iexact HW
  have he : ∀ n, ends (shapeCast S16 ((BV).view.readAt (Elt F) (Rect.unit (s := S32) ![0] S16.size inb_S32_S16_0).toLoadRect rb) shapeCasts_S16_S16)
    (shapeCast S16 ((BV).view.readAt (Elt F) (Rect.unit (s := S32) ![16] S16.size inb_S32_S16_16).toLoadRect rb) shapeCasts_S16_S16) n = endsOf rb n := fun _ => rfl
  revert he
  generalize endsOf rb = e
  generalize shapeCast S16 ((BV).view.readAt (Elt F) (Rect.unit (s := S32) ![0] S16.size inb_S32_S16_0).toLoadRect rb) shapeCasts_S16_S16 = v5
  generalize shapeCast S16 ((BV).view.readAt (Elt F) (Rect.unit (s := S32) ![16] S16.size inb_S32_S16_16).toLoadRect rb) shapeCasts_S16_S16 = v7
  intro he
  obtain rfl : ends v5 v7 = e := funext he
  iapply (need_wp d L (chk L (ends v5 v7 0) (ends v5 v7 1)))
  iapply (segsA d L EC hw hT0 hT1 (f := f) (tab := tab) (O := O) (W := W) (ends v5 v7)) $$ [HS HT]
  · isplitr; · iexact Hmw
    isplitl [HS]; · iexact HS
    iexact HT
  iintro ⟨HS, HT⟩
  iapply (pure_wp d L)
  iapply (bind_wp d L)
  dsimp only
  rw [part130_eq]
  iapply (segsB d L EC hw hT0 hT1 (f := f) (tab := tab) (O := O) (W := W) (ends v5 v7)) $$ [HS HT]
  · isplitr; · iexact Hmw
    isplitl [HS]; · iexact HS
    iexact HT
  iintro ⟨HS, HT⟩
  iapply (pure_wp d L)
  iapply (bind_wp d L)
  dsimp only
  rw [part131_eq]
  iapply (segsC d L EC hw hT0 hT1 (f := f) (tab := tab) (O := O) (W := W) (ends v5 v7)) $$ [HS HT]
  · isplitr; · iexact Hmw
    isplitl [HS]; · iexact HS
    iexact HT
  iintro ⟨HS, HT⟩
  iapply (pure_wp d L)
  rw [el]
  iapply (seg_at d L EC hw hT0 hT1 (f := f) (tab := tab) (O := O) (W := W) (ends v5 v7) 15 rfl rfl rfl) $$ [HS HT]
  · isplitr; · iexact Hmw
    isplitl [HS]; · iexact HS
    iexact HT
  iintro ⟨HS, HT⟩
  iapply (pure_wp d L)
  isplitl [HA']; · iapply (Entails.of_eq (show (aLoc d L ↦{qa} tab : sProp 𝕄) = (aLoc d L ↦[(AV).view.set]{qa} tab) by rw [show (AV).view.set = Finset.univ from View.set_whole _]).symm); iexact HA'
  isplitl [HE']; · iapply (Entails.of_eq (show (eLoc d L ↦{qe} rb : sProp 𝕄) = (eLoc d L ↦[(EV).view.set]{qe} rb) by rw [show (EV).view.set = Finset.univ from View.set_whole _]).symm); iexact HE'
  isplitl [HT]; · iexists tab; iexact HT
  isplitl [HB]; · iexists rb; iexact HB
  isplitl [H0]; · iexact H0
  isplitl [H1]; · iexact H1
  iexact HS
end
end Cert.Proof.Mem
-- ==== Proof.Launch.lean ====
module
public import proofs.«01_k».proof.Proof.Tile
public import Idealize.ShloMosaic.Lib.StableHlo.Run
public import Idealize.ShloMosaic.Lib.Pipeline.Kit
public import proofs.«01_k».proof.Proof.Gen.KernelIdeal
@[expose] public section
set_option maxRecDepth 16384
noncomputable section
/-! The call: what the sequencer hands each tile and gets back, and a tile's whole task. -/
namespace Cert.Proof.Launch
open Cert.KernelIdeal Cert.KernelIdeal.Gen Cert.Proof.Words Cert.Proof.Text Cert.Proof.Mem
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays the call works on -/

abbrev aL (d : Dev nD) : Loc nD τ sig := (SparseCore.T d).loc main_v2
abbrev eL (d : Dev nD) : Loc nD τ sig := (SparseCore.T d).loc main_v1
abbrev oL (d : Dev nD) : Loc nD τ sig := (SparseCore.T d).loc main_v3

/-- The words tile `i` of core `c` writes. -/
def piece (c i : ℕ) : Finset S4194304.Idx := iv (128 * (1024 * (i * 2 + c))) (128 * (1024 * (i * 2 + c) + 1024))
/-- The words the tiles of core `c` write. -/
def half (c : ℕ) : Finset S4194304.Idx := (Finset.univ : Finset (Fin 16)).biUnion fun i => piece c i.val

theorem mem_half {c : ℕ} {x : S4194304.Idx} : x ∈ half c ↔ ∃ i : Fin 16, x ∈ piece c i.val := by
  simp only [half, Finset.mem_biUnion, Finset.mem_univ, true_and]

theorem piece_disjoint (c : ℕ) : ∀ i ∈ (Finset.univ : Finset (Fin 16)), ∀ j ∈ (Finset.univ : Finset (Fin 16)), i ≠ j → Disjoint (piece c i.val) (piece c j.val) := by
  intro i _ j _ h
  rw [Finset.disjoint_left]; intro x h1 h2
  unfold piece at h1 h2
  rw [mem_iv] at h1 h2
  exact h (Fin.ext (by omega))

theorem half_disjoint : ∀ c ∈ (Finset.univ : Finset (Fin 2)), ∀ c' ∈ (Finset.univ : Finset (Fin 2)), c ≠ c' → Disjoint (half c.val) (half c'.val) := by
  intro c _ c' _ h
  rw [Finset.disjoint_left]; intro x h1 h2
  rw [mem_half] at h1 h2
  obtain ⟨i, h1⟩ := h1
  obtain ⟨j, h2⟩ := h2
  unfold piece at h1 h2
  rw [mem_iv] at h1 h2
  have := c.isLt
  have := c'.isLt
  exact h (Fin.ext (by omega))

theorem half_cover : (Finset.univ : Finset (Fin 2)).biUnion (fun c => half c.val) = Finset.univ := by
  apply Finset.eq_univ_of_forall
  intro x
  have hx : (x 0).val < 4194304 := (x 0).isLt
  simp only [Finset.mem_biUnion, Finset.mem_univ, true_and]
  refine ⟨⟨(x 0).val / 131072 % 2, by omega⟩, mem_half.mpr ⟨⟨(x 0).val / 131072 / 2, by omega⟩, ?_⟩⟩
  unfold piece
  rw [mem_iv]
  dsimp only
  omega

/-- What is held at a share is held at the first `n` of its halves' halves and at what is left. -/
theorem pts_shares {ℓ : Loc nD τ sig} (f : Buf (Elt F) ℓ) (q : PosShare TreeShare) (n : ℕ) :
    (ℓ ↦{q} f : sProp 𝕄) = iprop((bigSep Finset.univ fun i : Fin n => ℓ ↦{(rt q i.val).left} f) ∗ ℓ ↦{rt q n} f) := by
  induction n with
  | zero =>
    rw [show (Finset.univ : Finset (Fin 0)) = ∅ from rfl, BI.bigSep_empty]
    exact (BI.equiv_iff.mp BI.emp_sep).symm
  | succ n ih =>
    have hk : (bigSep (Finset.univ : Finset (Fin (n + 1))) (fun i => ℓ ↦{(rt q i.val).left} f) : sProp 𝕄)
        = iprop((ℓ ↦{(rt q n).left} f) ∗ bigSep (Finset.univ : Finset (Fin n)) fun i => ℓ ↦{(rt q i.val).left} f) := by
      rw [show (Finset.univ : Finset (Fin (n + 1))) = insert (Fin.last n) (Finset.univ.map Fin.castSuccEmb) by
        rw [Fin.univ_castSuccEmb, Finset.cons_eq_insert], bigSep_insert (by simp), bigSep_map]
      rfl
    rw [ih, hk]
    apply BI.Entails.antisymm
    · show (_ : sProp 𝕄) ⊢ (_ : sProp 𝕄)
      iintro ⟨HB, HR⟩
      ihave HR' := (pointsTo_share (PosShare.mem_left_op_right (rt q n))).1 $$ HR
      icases HR' with ⟨H1, H2⟩
      isplitl [HB H1]
      · isplitl [H1]; · iexact H1
        iexact HB
      iexact H2
    · show (_ : sProp 𝕄) ⊢ (_ : sProp 𝕄)
      iintro ⟨⟨H1, HB⟩, H2⟩
      isplitl [HB]; · iexact HB
      iapply (pointsTo_share (PosShare.mem_left_op_right (rt q n))).2
      isplitl [H1]; · iexact H1
      iexact H2

variable [FloatOps F]
variable (tb : Dev nD → S2048.Idx → Elt F .f32) (rb : Dev nD → S32.Idx → Elt F .i32) (o0 : Dev nD → S4194304.Idx → Elt F .f32)

/-- The output when every tile is done: tile `w` writes the words from `131072 w` on. -/
def out (d : Dev nD) : S4194304.Idx → Elt F .f32 := fun x => steps ((x 0).val / 131072) (tb d) (endsOf (rb d)) (o0 d) 16 x

theorem steps_congr (w : ℕ) (tab : S2048.Idx → Elt F .f32) (e : ℕ → BitVec 32) (f : S4194304.Idx → Elt F .f32) (c i : ℕ) (hw : w = i * 2 + c) {x : S4194304.Idx} (hx : x ∈ piece c i) :
    steps w tab e f 16 x = steps ((x 0).val / 131072) tab e f 16 x := by
  unfold piece at hx
  rw [mem_iv] at hx
  rw [show (x 0).val / 131072 = w by omega]

/-- What core `c` is handed: a share of the table and of the row ends, and its words of the output at `g`. -/
abbrev coreP (d : Dev nD) (c : ℕ) (g : S4194304.Idx → Elt F .f32) : sProp 𝕄 :=
  iprop((aL d ↦{(rt fullShare c).left} tb d) ∗ (eL d ↦{(rt fullShare c).left} rb d) ∗ oL d ↦[half c]{fullShare} g)
/-- What tile `i` of core `c` is handed. -/
abbrev tileP (d : Dev nD) (c i : ℕ) (g : S4194304.Idx → Elt F .f32) : sProp 𝕄 :=
  iprop((aL d ↦{(rt (rt fullShare c).left i).left} tb d) ∗ (eL d ↦{(rt (rt fullShare c).left i).left} rb d) ∗ oL d ↦[piece c i]{fullShare} g)

/-- What the call's handshakes carry. -/
def P : (K (F := F)).Pay (nD := nD) (Val := Elt F) (Name := ℕ) (U := UU) where
  st := fun q d c => match q with | 0 => coreP tb rb d c.val (o0 d)
  dn := fun q d c => match q with | 0 => coreP tb rb d c.val (out tb rb o0 d)
  go := fun q d c i => match q with | 0 => tileP tb rb d c.val i.val (o0 d)
  td := fun q d c i => match q with | 0 => tileP tb rb d c.val i.val (out tb rb o0 d)
  x := fun _ _ => iprop(emp)

instance P_storable : (P (F := F) tb rb o0).IsStorable where
  st q d c := match q with | 0 => (inferInstance : BI.Storable (upEmb : UEmb _ 𝕄) (coreP tb rb d c.val (o0 d)))
  dn q d c := match q with | 0 => (inferInstance : BI.Storable (upEmb : UEmb _ 𝕄) (coreP tb rb d c.val (out tb rb o0 d)))
  go q d c i := match q with | 0 => (inferInstance : BI.Storable (upEmb : UEmb _ 𝕄) (tileP tb rb d c.val i.val (o0 d)))
  td q d c i := match q with | 0 => (inferInstance : BI.Storable (upEmb : UEmb _ 𝕄) (tileP tb rb d c.val i.val (out tb rb o0 d)))

omit [FloatOps F] in
theorem coreP_eq (d : Dev nD) (c : ℕ) (g : S4194304.Idx → Elt F .f32) :
    (coreP tb rb d c g : sProp 𝕄)
      = iprop((bigSep Finset.univ fun i : Fin 16 => tileP tb rb d c i.val g) ∗ (aL d ↦{rt (rt fullShare c).left 16} tb d) ∗ eL d ↦{rt (rt fullShare c).left 16} rb d) := by
  unfold coreP tileP
  rw [pts_shares (ℓ := aL d) (tb d) (rt fullShare c).left 16, pts_shares (ℓ := eL d) (rb d) (rt fullShare c).left 16, half,
    pointsTo_biUnion (ℓ := oL d) Finset.univ _ (piece_disjoint c), bigSep_sep', bigSep_sep']
  apply BI.Entails.antisymm
  · show (_ : sProp 𝕄) ⊢ (_ : sProp 𝕄)
    iintro ⟨⟨H1, H2⟩, ⟨H3, H4⟩, H5⟩
    isplitl [H1 H3 H5]
    · isplitl [H1]; · iexact H1
      isplitl [H3]; · iexact H3
      iexact H5
    isplitl [H2]; · iexact H2
    iexact H4
  · show (_ : sProp 𝕄) ⊢ (_ : sProp 𝕄)
    iintro ⟨⟨H1, H3, H5⟩, H2, H4⟩
    isplitl [H1 H2]
    · isplitl [H1]; · iexact H1
      iexact H2
    isplitl [H3 H4]
    · isplitl [H3]; · iexact H3
      iexact H4
    iexact H5

theorem vecSplit : (K (F := F)).VecSplit' (P tb rb o0) 0 := by
  intro d c
  show (coreP tb rb d c.val (o0 d) : sProp 𝕄) ⊢ |={Set.univ}=> iprop(
      (bigSep Finset.univ fun i : Fin 16 => tileP tb rb d c.val i.val (o0 d))
      ∗ ((bigSep Finset.univ fun i : Fin 16 => tileP tb rb d c.val i.val (out tb rb o0 d)) -∗ coreP tb rb d c.val (out tb rb o0 d)))
  rw [coreP_eq, coreP_eq]
  iintro ⟨H, H1, H2⟩; imodintro
  isplitl [H]; · iexact H
  iintro H
  isplitl [H]; · iexact H
  isplitl [H1]; · iexact H1
  iexact H2

/-! ## A tile's task -/

section Tile
variable (d : Dev nD) (L : grid0.Coords)

/-- The cells of the eleven copies' semaphores, in the tile's own. -/
abbrev cells : Finset (GSem nD τ sig) := (Finset.univ : Finset (DmaSem sig)).map ⟨fun s => Mem.cell d L s, fun a b h => by
  injection h with _ h; injection h⟩

omit [FloatOps F] in
theorem cells_sub : cells d L ⊆ ownCells (thr d L) := by
  intro g hg
  obtain ⟨s, -, rfl⟩ := Finset.mem_map.mp hg
  refine mem_ownCells.mpr ⟨rfl, ?_⟩
  show (SemLoc.dma s : SemLoc sig).isScoped .scVector = true
  clear hg; revert s; decide

omit [FloatOps F] in
theorem ownSems0_tile :
    (ownSems0 (thr d L) : sProp 𝕄)
      = iprop((semVal (Mem.cell d L cc0_scoped0.sem) 0 ∗ semVal (Mem.cell d L cc0_scoped1.sem) 0
          ∗ Cells d L cc0_scratch3 cc0_scratch4 cc0_scratch5 cc0_scratch6 cc0_scratch7 cc0_scratch8 cc0_scratch9 cc0_scratch10 cc0_scratch11)
        ∗ bigSep (ownCells (thr d L) \ cells d L) fun g => semVal g 0) := by
  unfold SparseCore.Cfg.ownSems0
  rw [SparseCore.bigSep_sdiff_split' (cells_sub d L), bigSep_map]
  congr 1
  rw [show (Finset.univ : Finset (DmaSem sig)) = {cc0_scoped0.sem, cc0_scoped1.sem, cc0_scratch3.sem, cc0_scratch4.sem, cc0_scratch5.sem, cc0_scratch6.sem, cc0_scratch7.sem, cc0_scratch8.sem, cc0_scratch9.sem, cc0_scratch10.sem, cc0_scratch11.sem} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem ownBufs_tile :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]
end Tile
end Cert.Proof.Launch
-- ==== Proof.Task.lean ====
module
public import proofs.«01_k».proof.Proof.Launch
@[expose] public section
set_option maxRecDepth 16384
noncomputable section
/-! A tile's task, and the whole run of the program. -/
namespace Cert.Proof.Task
open Cert.KernelIdeal Cert.KernelIdeal.Gen Cert.Proof.Words Cert.Proof.Text Cert.Proof.Mem Cert.Proof.Launch
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

abbrev ΛP : Labels := Pipeline.Sig Λ₀ (Fin 0) fun p => (pcfgs (F := F) p).Adm
local notation "𝕄" => MT nD τ sig (HIx 1) (Elt F) ℕ UU ℕ
variable [FloatOps F]
variable (tb : Dev nD → S2048.Idx → Elt F .f32) (rb : Dev nD → S32.Idx → Elt F .i32) (o0 : Dev nD → S4194304.Idx → Elt F .f32)

section Tile
attribute [local irreducible] cc0__bcast_body
variable (d : Dev nD) (L : grid0.Coords)

/-- A tile's task: it is handed its shares and its words, and brings them back, its words as `out` says. -/
theorem tile_body (hF : (K (F := F)).Facts) (O : CellTallies nD τ sig (HIx 1)) (W : Waits sig (HIx 1)) (hO : ∀ g, O g none = 0) :
    (iprop(levAts (K (F := F)).L (K (F := F)).lev ∗ emp
        ∗ tileP tb rb d (L 0).val (L 1).val (o0 d)
        ∗ scopedBufs (thr d L) ∗ scopedSems0 (thr d L) ∗ owes (thr d L) O W) : sProp 𝕄)
      ⊢ Wp d L (cc0__bcast_body (F := F) L (Memref.whole main_v2_scv) (Memref.isWhole_whole _) (Memref.whole main_v1_scv) (Memref.isWhole_whole _) (Memref.whole main_v3_scv) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scoped0 cc0_scoped1)
          fun _ => iprop(tileP tb rb d (L 0).val (L 1).val (out tb rb o0 d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  have hrun := fun (t0 : Buf (Elt F) (tLoc d L)) (b0 : Buf (Elt F) (bLoc d L)) => tile_run (F := F) (U := UU) d L countersEmb (O := O) (W := W) (w := wid L) (T0 := 128 * (1024 * wid L)) (T1 := 128 * (1024 * wid L + 1024)) rfl rfl rfl
    (f := o0 d) (tab := tb d) (rb := rb d) (t0 := t0) (b0 := b0) (qa := (rt (rt fullShare (L 0).val).left (L 1).val).left) (qe := (rt (rt fullShare (L 0).val).left (L 1).val).left)
  iintro ⟨#Hlv, -, ⟨HA, HE, HO⟩, ⟨⟨%t0, HT⟩, ⟨%b0, HB⟩, HR, Hbufs⟩, ⟨⟨H0, H1, HC⟩, Hsems⟩, HW⟩
  ihave Hmw := (show levAts (K (F := F)).L (K (F := F)).lev ⊢ Transfers.MayWaits (thr d L) (none : HIx 1) O from
    (K (F := F)).mayWaits_none (thr := thr d L) hO) $$ Hlv
  ihave HS := (show (iprop((oL d ↦[piece (L 0).val (L 1).val]{fullShare} o0 d) ∗ (∃ g : Buf (Elt F) (rLoc d L), rLoc d L ↦{fullShare} g)
      ∗ Cells d L cc0_scratch3 cc0_scratch4 cc0_scratch5 cc0_scratch6 cc0_scratch7 cc0_scratch8 cc0_scratch9 cc0_scratch10 cc0_scratch11 ∗ OW d L O W) : sProp 𝕄)
      ⊢ St d L cc0_scratch3 cc0_scratch4 cc0_scratch5 cc0_scratch6 cc0_scratch7 cc0_scratch8 cc0_scratch9 cc0_scratch10 cc0_scratch11 O W (128 * (1024 * wid L)) (128 * (1024 * wid L + 1024)) (o0 d) from .rfl) $$ [HO HR HC HW]
  · isplitl [HO]; · iexact HO
    isplitl [HR]; · iexact HR
    isplitl [HC]; · iexact HC
    unfold OW
    iexists W
    isplitr; · ipureintro; exact fun p hp => .inl hp
    iexact HW
  ihave Hwp := (hrun t0 b0) $$ [HA HE HT HB H0 H1 HS]
  · isplitr; · iexact Hmw
    isplitl [HA]; · iexact HA
    isplitl [HE]; · iexact HE
    isplitl [HT]; · iexact HT
    isplitl [HB]; · iexact HB
    isplitl [H0]; · iexact H0
    isplitl [H1]; · iexact H1
    iexact HS
  iapply (wp_wand) $$ Hwp
  iintro %_ ⟨HA, HE, HT, HB, H0, H1, HS⟩
  ihave HS := (show St d L cc0_scratch3 cc0_scratch4 cc0_scratch5 cc0_scratch6 cc0_scratch7 cc0_scratch8 cc0_scratch9 cc0_scratch10 cc0_scratch11 O W (128 * (1024 * wid L)) (128 * (1024 * wid L + 1024)) (steps (wid L) (tb d) (endsOf (rb d)) (o0 d) 16)
    ⊢ (iprop((oL d ↦[piece (L 0).val (L 1).val]{fullShare} steps (wid L) (tb d) (endsOf (rb d)) (o0 d) 16) ∗ (∃ g : Buf (Elt F) (rLoc d L), rLoc d L ↦{fullShare} g)
      ∗ Cells d L cc0_scratch3 cc0_scratch4 cc0_scratch5 cc0_scratch6 cc0_scratch7 cc0_scratch8 cc0_scratch9 cc0_scratch10 cc0_scratch11 ∗ OW d L O W) : sProp 𝕄) from .rfl) $$ HS
  icases HS with ⟨HO, HR, HC, HW⟩
  ihave HO := (Entails.of_eq (pointsTo_congr (ℓ := oL d) (q := fullShare) (I := piece (L 0).val (L 1).val) (f := steps (wid L) (tb d) (endsOf (rb d)) (o0 d) 16) (g := out tb rb o0 d)
    fun x hx => steps_congr (wid L) (tb d) (endsOf (rb d)) (o0 d) (L 0).val (L 1).val rfl hx)) $$ HO
  isplitl [HA HE HO]
  · isplitl [HA]; · iexact HA
    isplitl [HE]; · iexact HE
    iexact HO
  isplitl [HT HB HR Hbufs]
  · isplitl [HT]; · iexact HT
    isplitl [HB]; · iexact HB
    isplitl [HR]; · iexact HR
    iexact Hbufs
  isplitl [H0 H1 HC Hsems]
  · isplitl [H0 H1 HC]
    · isplitl [H0]; · iexact H0
      isplitl [H1]; · iexact H1
      iexact HC
    iexact Hsems
  unfold OW
  iexact HW

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__bcast_body (coordsV c s) (Memref.whole main_v2_scv) (Memref.isWhole_whole _) (Memref.whole main_v1_scv) (Memref.isWhole_whole _) (Memref.whole main_v3_scv) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P tb rb o0) v₀ 0 := by
  intro d c i O W hO _ _
  simp only [show (P tb rb o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact (tile_body tb rb o0 d (coordsV ⟨_, hci.1⟩ ⟨_, hci.2⟩) hF O W hO).trans (wp_mono frame _ _ fun _ => obl_post)
end Tile
end Cert.Proof.Task
-- ==== Proof.Main.lean ====
module
public import proofs.«01_k».proof.Proof.Task
public import Idealize.ShloMosaic.Lib.StableHlo.Run
public import Idealize.ShloMosaic.Lib.Pipeline.FrameTail
@[expose] public section
set_option maxRecDepth 16384
noncomputable section
/-! The whole run of the program: what every buffer of the host holds at the end. -/
namespace Cert.Proof.Main
open Cert.KernelIdeal Cert.KernelIdeal.Gen Cert.Proof.Words Cert.Proof.Text Cert.Proof.Mem Cert.Proof.Launch Cert.Proof.Task
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ
variable [FloatOps F]

/-! ## What the host's buffers hold -/

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rC : DevRef τ sig := Proc.devRef .tc (main_c : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)
abbrev op1 : HloOp τ sig (Elt F) := StableHlo.nullary main_c (constantI S_ 32 32768#32)
abbrev op2 : HloOp τ sig (Elt F) := StableHlo.unary main_c main_v0 (broadcastInDim S15 ![] bcast_S_S15 : (⟨S_, .i32⟩ : BufTy).Contents (Elt F) → (⟨S15, .i32⟩ : BufTy).Contents (Elt F))
abbrev op3 : HloOp τ sig (Elt F) := StableHlo.binary main_arg2 main_v0 main_v1 ((fun a b => concatenate S32 0 [⟨S17, a⟩, ⟨S15, b⟩] concatenates_S17_S15_S32_d0) : (⟨S17, .i32⟩ : BufTy).Contents (Elt F) → (⟨S15, .i32⟩ : BufTy).Contents (Elt F) → (⟨S32, .i32⟩ : BufTy).Contents (Elt F))
abbrev op4 : HloOp τ sig (Elt F) := StableHlo.reshape main_arg0 main_v2 (rfl : (.f32 : EltTy) = .f32) shapeCasts_S16x128_S2048
abbrev op5 : HloOp τ sig (Elt F) := StableHlo.reshape main_v3 main_v4 (rfl : (.f32 : EltTy) = .f32) shapeCasts_S4194304_S32768x128

abbrev SU : Finset (DevRef τ sig) := Pipeline.ucRefs τ sig
abbrev SC : Finset (DevRef τ sig) := {r2, r1, r3}

variable (m : (ℓ : Loc nD τ sig) → Buf (Elt F) ℓ) (ρ : Dev nD → PrngReg)

/-- The buffers at the launch, before the call, after it, and at the end. -/
def V0 (d : Dev nD) : Valuation τ sig (Elt F) := fun b => m (d, b)
def Vb (d : Dev nD) : Valuation τ sig (Elt F) := (op4 (F := F)).result ((op3 (F := F)).result ((op2 (F := F)).result ((op1 (F := F)).result (V0 m d))))
/-- The table and the row ends the call reads, and what the output held before it. -/
def tb (d : Dev nD) : S2048.Idx → Elt F .f32 := Vb m d r2
def rb (d : Dev nD) : S32.Idx → Elt F .i32 := Vb m d r1
def o0 (d : Dev nD) : S4194304.Idx → Elt F .f32 := Vb m d r3
abbrev res (d : Dev nD) : S4194304.Idx → Elt F .f32 := out (tb m) (rb m) (o0 m) d
def Va (d : Dev nD) : Valuation τ sig (Elt F) := Function.update (Vb m d) r3 (res m d)
def Ve (d : Dev nD) : Valuation τ sig (Elt F) := (op5 (F := F)).result (Va m d)

abbrev PP := P (F := F) (tb m) (rb m) (o0 m)

omit [FloatOps F] in
theorem mem_SU {b : Ref sig .tc} (hb : b.isScoped = false) : (Proc.devRef .tc b : DevRef τ sig) ∈ SU := Pipeline.devRef_mem_ucRefs hb

theorem h1 : (op1 (F := F)).bufs ⊆ SU := by
  intro b hb
  have hb : b ∈ ({rC} : Finset (DevRef τ sig)) := hb
  simp only [Finset.mem_singleton] at hb
  subst hb; exact mem_SU rfl
theorem h2 : (op2 (F := F)).bufs ⊆ SU := by
  intro b hb
  have hb : b ∈ ({rC, r0} : Finset (DevRef τ sig)) := hb
  simp only [Finset.mem_insert, Finset.mem_singleton] at hb
  rcases hb with hb | hb <;> subst hb <;> exact mem_SU rfl
theorem h3 : (op3 (F := F)).bufs ⊆ SU := by
  intro b hb
  have hb : b ∈ ({rA2, r0, r1} : Finset (DevRef τ sig)) := hb
  simp only [Finset.mem_insert, Finset.mem_singleton] at hb
  rcases hb with hb | hb | hb <;> subst hb <;> exact mem_SU rfl
theorem h4 : (op4 (F := F)).bufs ⊆ SU := by
  intro b hb
  have hb : b ∈ ({rA0, r2} : Finset (DevRef τ sig)) := hb
  simp only [Finset.mem_insert, Finset.mem_singleton] at hb
  rcases hb with hb | hb <;> subst hb <;> exact mem_SU rfl
theorem h5 : (op5 (F := F)).bufs ⊆ SU := by
  intro b hb
  have hb : b ∈ ({r3, r4} : Finset (DevRef τ sig)) := hb
  simp only [Finset.mem_insert, Finset.mem_singleton] at hb
  rcases hb with hb | hb <;> subst hb <;> exact mem_SU rfl
omit [FloatOps F] in
theorem hSC : SC ⊆ SU := by
  intro b hb
  simp only [SC, Finset.mem_insert, Finset.mem_singleton] at hb
  rcases hb with hb | hb | hb <;> subst hb <;> exact mem_SU rfl

omit [FloatOps F] in
theorem held_SC (d : Dev nD) (W : Valuation τ sig (Elt F)) :
    (held (T d) SC W : sProp 𝕄) = iprop((aL d ↦{fullShare} W r2) ∗ (eL d ↦{fullShare} W r1) ∗ oL d ↦{fullShare} W r3) := by
  unfold held
  rw [SparseCore.bigSep_insert' (by decide), SparseCore.bigSep_insert' (by decide), bigSep_singleton]

omit [FloatOps F] in
theorem call_eq (t : Dev nD → S2048.Idx → Elt F .f32) (e : Dev nD → S32.Idx → Elt F .i32) (d : Dev nD) (g : S4194304.Idx → Elt F .f32) :
    (iprop((aL d ↦{fullShare} t d) ∗ (eL d ↦{fullShare} e d) ∗ oL d ↦{fullShare} g) : sProp 𝕄)
      = iprop((bigSep Finset.univ fun c : Fin 2 => coreP t e d c.val g) ∗ (aL d ↦{rt fullShare 2} t d) ∗ eL d ↦{rt fullShare 2} e d) := by
  unfold coreP
  rw [pts_shares (ℓ := aL d) (t d) fullShare 2, pts_shares (ℓ := eL d) (e d) fullShare 2,
    show (oL d ↦{fullShare} g : sProp 𝕄) = (oL d ↦[(Finset.univ : Finset (Fin 2)).biUnion (fun c => half c.val)]{fullShare} g) by rw [half_cover],
    pointsTo_biUnion (ℓ := oL d) Finset.univ _ half_disjoint, bigSep_sep', bigSep_sep']
  apply BI.Entails.antisymm
  · show (_ : sProp 𝕄) ⊢ (_ : sProp 𝕄)
    iintro ⟨⟨H1, H2⟩, ⟨H3, H4⟩, H5⟩
    isplitl [H1 H3 H5]
    · isplitl [H1]; · iexact H1
      isplitl [H3]; · iexact H3
      iexact H5
    isplitl [H2]; · iexact H2
    iexact H4
  · show (_ : sProp 𝕄) ⊢ (_ : sProp 𝕄)
    iintro ⟨⟨H1, H3, H5⟩, H2, H4⟩
    isplitl [H1 H2]
    · isplitl [H1]; · iexact H1
      iexact H2
    isplitl [H3 H4]
    · isplitl [H3]; · iexact H3
      iexact H4
    iexact H5

theorem held_before (d : Dev nD) :
    (held (T d) SU (Vb m d) : sProp 𝕄) = iprop(((bigSep Finset.univ fun c : Fin 2 => coreP (tb m) (rb m) d c.val (o0 m d)) ∗ (aL d ↦{rt fullShare 2} tb m d) ∗ eL d ↦{rt fullShare 2} rb m d)
      ∗ held (T d) (SU \ SC) (Vb m d)) := by
  rw [StableHlo.held_sub_split (T d) hSC, held_SC, ← call_eq]; rfl

theorem held_after (d : Dev nD) :
    (held (T d) SU (Va m d) : sProp 𝕄) = iprop(((bigSep Finset.univ fun c : Fin 2 => coreP (tb m) (rb m) d c.val (res m d)) ∗ (aL d ↦{rt fullShare 2} tb m d) ∗ eL d ↦{rt fullShare 2} rb m d)
      ∗ held (T d) (SU \ SC) (Vb m d)) := by
  rw [StableHlo.held_sub_split (T d) hSC, held_SC, ← call_eq]
  rw [StableHlo.held_congr (T d) (S := SU \ SC) (V := Va m d) (V' := Vb m d) fun b hb => Function.update_of_ne (fun e => (Finset.mem_sdiff.mp hb).2 (by rw [e]; decide)) _ _]
  rw [show Va m d r2 = tb m d from Function.update_of_ne (show r2 ≠ r3 by decide) _ _, show Va m d r1 = rb m d from Function.update_of_ne (show r1 ≠ r3 by decide) _ _,
    show Va m d r3 = res m d from Function.update_self _ _ _]

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), emps]
  iempintro

/-! ## The host's program -/

theorem unscoped_held (d : Dev nD) : (unscopedBufs d (fun b => m ((SparseCore.T d).loc b)) : sProp 𝕄) = held (T d) SU (V0 m d) :=
  Pipeline.unscopedBufs_held d (V0 m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) SU (Ve m d) ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := SU) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := SU) h2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := SU) h3 (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := SU) h4 (V := (op3 (F := F)).result ((op2 (F := F)).result ((op1 (F := F)).result (V0 m d))))) $$ [Hb Hheld]
  · isplitl [Hb] <;> iassumption
  iintro ⟨Hb, Hheld⟩
  rw [wp_ret]; imodintro
  ihave Hh := (Entails.of_eq (show (held (T d) SU ((op4 (F := F)).result ((op3 (F := F)).result ((op2 (F := F)).result ((op1 (F := F)).result (V0 m d))))) : sProp 𝕄) = _ from held_before (F := F) m d)) $$ Hheld
  icases Hh with ⟨⟨HC, Ha, He⟩, Hrest⟩
  iapply ((K (F := F)).wp_run (D (F := F)) 𝒱 (EH := EH) (P := PP m) κ d 0) $$ [Hst HC Hb Ha He Hrest Hts]
  isplitr; · iexact Hctx
  isplitl [Hst]; · iexact Hst
  isplitl [HC]; · iexact HC
  iintro ⟨Hst, HC⟩
  iapply (wp_hlo_within 𝒱 (SparseCore.T d) none Set.univ (op := op5) (S := SU) h5 (V := Va m d)) $$ [Hb HC Ha He Hrest]
  · isplitl [Hb]; · iexact Hb
    iapply (Entails.of_eq (held_after (F := F) m d).symm)
    isplitl [HC Ha He]
    · isplitl [HC]; · iexact HC
      isplitl [Ha]; · iexact Ha
      iexact He
    iexact Hrest
  iintro ⟨Hb, Hheld⟩
  rw [wp_ret]; imodintro; imodintro
  isplitl [Hst]; · iexact Hst
  isplitl [Hheld]; · iexact Hheld
  isplitl [Hb] <;> iassumption

/-! ## The end -/

omit [FloatOps F] in
/-- A buffer held is what the machine has there. -/
theorem held_agree (d : Dev nD) (V : Valuation τ sig (Elt F)) {b : Ref sig .tc} (hb : b.isScoped = false) (s' : Phys nD τ sig (Elt F)) :
    (iprop(held (T d) SU V ∗ SI s') : sProp 𝕄) ⊢ (⌜s'.mem.mem ((SparseCore.T d).loc b) = V (Proc.devRef .tc b)⌝ : sProp 𝕄) := by
  iintro ⟨HV, HSI⟩
  ihave H := (show (held (T d) SU V : sProp 𝕄) ⊢ ((SparseCore.T d).loc b ↦{fullShare} V (Proc.devRef .tc b)) from bigSep_elim (mem_SU hb)) $$ HV
  ihave H := (SI_pointsTo_agree (st := s') (ℓ := (SparseCore.T d).loc b) (I := Finset.univ) (q := fullShare) (f := V (Proc.devRef .tc b))) $$ [HSI H]
  · isplitl [HSI] <;> iassumption
  icases H with %h
  ipureintro; exact funext fun i => h i (Finset.mem_univ i)

def fq (d : Dev nD) (s' : Phys nD τ sig (Elt F)) : Prop :=
  s'.mem.mem ((SparseCore.T d).loc main_v4) = Ve m d r4 ∧ s'.mem.mem ((SparseCore.T d).loc main_arg0) = Ve m d rA0
    ∧ s'.mem.mem ((SparseCore.T d).loc main_arg1) = Ve m d rA1 ∧ s'.mem.mem ((SparseCore.T d).loc main_arg2) = Ve m d rA2

theorem hfin (d : Dev nD) (s' : Phys nD τ sig (Elt F)) : iprop(held (T d) SU (Ve m d) ∗ SI s') ⊢ (⌜fq m d s'⌝ : sProp 𝕄) := by
  iintro H
  ihave H := (persistent_entails_right (held_agree d (Ve m d) (b := main_v4) rfl s')) $$ H
  icases H with ⟨%e4, H⟩
  ihave H := (persistent_entails_right (held_agree d (Ve m d) (b := main_arg0) rfl s')) $$ H
  icases H with ⟨%e0, H⟩
  ihave H := (persistent_entails_right (held_agree d (Ve m d) (b := main_arg1) rfl s')) $$ H
  icases H with ⟨%e1, H⟩
  ihave H := (held_agree d (Ve m d) (b := main_arg2) rfl s') $$ H
  icases H with %e2
  ipureintro; exact ⟨e4, e0, e1, e2⟩

theorem Ve_of (d : Dev nD) {b : DevRef τ sig} (h : b ∉ ({rC, r0, r1, r2, r3, r4} : Finset (DevRef τ sig))) : Ve m d b = m (d, b) := by
  simp only [Finset.mem_insert, Finset.mem_singleton, not_or] at h
  obtain ⟨hC, h0, h1, h2, h3, h4⟩ := h
  unfold Ve
  rw [(op5 (F := F)).result_of_not_mem _ (show b ∉ ({r4} : Finset (DevRef τ sig)) by simpa using h4)]
  unfold Va
  rw [Function.update_of_ne h3]
  unfold Vb
  rw [(op4 (F := F)).result_of_not_mem _ (show b ∉ ({r2} : Finset (DevRef τ sig)) by simpa using h2),
    (op3 (F := F)).result_of_not_mem _ (show b ∉ ({r1} : Finset (DevRef τ sig)) by simpa using h1),
    (op2 (F := F)).result_of_not_mem _ (show b ∉ ({r0} : Finset (DevRef τ sig)) by simpa using h0),
    (op1 (F := F)).result_of_not_mem _ (show b ∉ ({rC} : Finset (DevRef τ sig)) by simpa using hC)]
  rfl

/-- What the run leaves: the result, the arguments as they were, every counter at zero. -/
def QC : PUnit × MemSt nD τ sig (Elt F) → Prop := fun r => (∀ d : Dev nD,
    r.2.mem ((SparseCore.T d).loc main_v4) = Ve m d r4 ∧ r.2.mem ((SparseCore.T d).loc main_arg0) = m ((SparseCore.T d).loc main_arg0)
    ∧ r.2.mem ((SparseCore.T d).loc main_arg1) = m ((SparseCore.T d).loc main_arg1) ∧ r.2.mem ((SparseCore.T d).loc main_arg2) = m ((SparseCore.T d).loc main_arg2))
  ∧ r.2.sem = fun _ => 0

/-- Every run of the program ends so, whatever the arguments. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tb m) (rb m) (o0 m) facts)
    (fun q _ => match q with | 0 => SparseCore.Cfg.VecSplit.of_plain (vecSplit (tb m) (rb m) (o0 m)))
    m ρ main (fun _ => iprop(emp)) (fun d => held (T d) SU (Ve m d)) (u₀ (F := F)) (sep_elim_left.trans (hu₀ m)) (hmain m ρ) (fq m) (hfin m) (QC m)
    (fun _ h hz => ⟨fun d => ⟨(h d).1, (h d).2.1.trans (Ve_of m d (b := rA0) (by decide)), (h d).2.2.1.trans (Ve_of m d (b := rA1) (by decide)), (h d).2.2.2.trans (Ve_of m d (b := rA2) (by decide))⟩, hz⟩)
end Cert.Proof.Main
-- ==== Proof.Printed.TextEq.lean ====
module
public import proofs.«01_k».proof.Kernel.P01
public import proofs.«01_k».proof.Proof.Printed.Text
@[expose] public section
set_option maxRecDepth 65536
set_option maxHeartbeats 400000
noncomputable section
/-! For the program as printed (its word-level reading): The printed windows of one segment are the short text. -/
namespace Cert.Proof.Printed.Text
open Cert.Kernel Cert.Kernel.Facts₀ Cert.Kernel.Facts Cert.Proof.Printed.Words
open Idealize.ShloMosaic Idealize.SL Idealize.SL.Sem

variable {F : FTy → Type} [FloatOps F] [Facts]

theorem part5_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v12 v13 : BitVec 32) :
    k0_part5 (F := F) i arg2 harg2 arg3 harg3 arg4 harg4 arg5 harg5 arg6 harg6 arg7 harg7 arg8 arg9 arg10 arg11 arg12 arg13 arg14 arg15 arg16 v122_r0 v122_r1 v12 v13 = rows i arg2 harg2 arg3 harg3 arg4 harg4 arg5 harg5 arg6 harg6 arg7 harg7 arg8 arg9 arg10 arg11 arg12 arg13 arg14 arg15 arg16 v122_r0 v122_r1 0 (row0_in 0 (by decide)) v12 v13 := rfl

theorem part6_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (v12 : BitVec 32) (k0_h1 : k0_cond1 i v9 v11 = 1#1)
    (w0 w1 w2 w3 w4 w5 w6 w7 : FVec F S16 .f32) (v138 c v161 : BitVec 32) :
    ∃ r body2, k0_part6 (F := F) i arg2 harg2 arg3 harg3 arg4 harg4 arg5 harg5 arg6 harg6 arg7 harg7 arg8 arg9 arg10 arg11 arg12 arg13 arg14 arg15 arg16 v122_r0 v122_r1 v9 v11 k0_hw1 v12 k0_h1 w0 w1 w2 w3 w4 w5 w6 w7 v138 c v161 = (do
      Prog.bind (Scf.Loop.for (k0_t1_loop i v9 v11) (k0_t1_ok i v9 v11 k0_hw1 k0_h1) PUnit.unit (fun t _ => fillTrip i arg7 v9 v11 k0_hw1 k0_h1 t w0 w1 w2 w3 w4 w5 w6 w7)) fun _ =>
      Prog.bind (Scf.Loop.for (k0_t2_loop i v9 v11) (k0_t2_ok i v9 v11 k0_hw1 k0_h1) PUnit.unit (body2)) fun _ =>
      Prog.bind (Scf.Loop.for (k0_t3_loop i v9 v11) (k0_t3_ok i v9 v11 k0_hw1 k0_h1) PUnit.unit (fun t _ => blast i arg4 arg7 harg7 arg8.sem (k0_off3 i v9 v11 t) (k0_off3_inb i v9 v11 k0_hw1 t k0_h1))) fun _ =>
      Prog.bind (Scf.Loop.for (k0_t4_loop i v9 v11) (k0_t4_ok i v9 v11 k0_hw1 k0_h1) PUnit.unit (fun t _ => blast i arg4 arg7 harg7 arg8.sem (k0_off4 i v9 v11 t) (k0_off4_inb i v9 v11 k0_hw1 t k0_h1))) fun _ =>
      issue i arg4 arg7 arg9.sem S16384.size (z_in S16384.size (Nat.le_of_ble_eq_true rfl)) (k0_off5 i v9 v11) (k0_cond2 i v9 v11 = 1#1) (fun h => k0_off5_inb i v9 v11 k0_hw1 k0_h1 h) <|
      pure r) := ⟨_, _, rfl⟩

theorem part7_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (v12 : BitVec 32) (k0_h1 : k0_cond1 i v9 v11 = 1#1) (v138 v192 v195 : BitVec 32) :
    ∃ r, k0_part7 (F := F) i arg2 harg2 arg3 harg3 arg4 harg4 arg5 harg5 arg6 harg6 arg7 harg7 arg8 arg9 arg10 arg11 arg12 arg13 arg14 arg15 arg16 v122_r0 v122_r1 v9 v11 k0_hw1 v12 k0_h1 v138 v192 v195 = (do
      issue i arg4 arg7 arg10.sem S8192.size (z_in S8192.size (Nat.le_of_ble_eq_true rfl)) (k0_off6 i v9 v11) (k0_cond3 i v9 v11 = 1#1) (fun h => k0_off6_inb i v9 v11 k0_hw1 k0_h1 h) <|
      issue i arg4 arg7 arg11.sem S4096.size (z_in S4096.size (Nat.le_of_ble_eq_true rfl)) (k0_off7 i v9 v11) (k0_cond4 i v9 v11 = 1#1) (fun h => k0_off7_inb i v9 v11 k0_hw1 k0_h1 h) <|
      issue i arg4 arg7 arg12.sem S2048.size (z_in S2048.size (Nat.le_of_ble_eq_true rfl)) (k0_off8 i v9 v11) (k0_cond5 i v9 v11 = 1#1) (fun h => k0_off8_inb i v9 v11 k0_hw1 k0_h1 h) <|
      issue i arg4 arg7 arg13.sem S1024.size (z_in S1024.size (Nat.le_of_ble_eq_true rfl)) (k0_off9 i v9 v11) (k0_cond6 i v9 v11 = 1#1) (fun h => k0_off9_inb i v9 v11 k0_hw1 k0_h1 h) <|
      issue i arg4 arg7 arg14.sem S512.size (z_in S512.size (Nat.le_of_ble_eq_true rfl)) (k0_off10 i v9 v11) (k0_cond7 i v9 v11 = 1#1) (fun h => k0_off10_inb i v9 v11 k0_hw1 k0_h1 h) <|
      issue i arg4 arg7 arg15.sem S256.size (z_in S256.size (Nat.le_of_ble_eq_true rfl)) (k0_off11 i v9 v11) (k0_cond8 i v9 v11 = 1#1) (fun h => k0_off11_inb i v9 v11 k0_hw1 k0_h1 h) <|
      pure r) := ⟨_, rfl⟩

theorem part8_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) (v9 v11 : BitVec 32) (k0_hw1 : k0_chk1 i v9 v11) (v12 : BitVec 32) (k0_h1 : k0_cond1 i v9 v11 = 1#1) (v138 v179 v227 : BitVec 32) :
    ∃ r, k0_part8 (F := F) i arg2 harg2 arg3 harg3 arg4 harg4 arg5 harg5 arg6 harg6 arg7 harg7 arg8 arg9 arg10 arg11 arg12 arg13 arg14 arg15 arg16 v122_r0 v122_r1 v9 v11 k0_hw1 v12 k0_h1 v138 v179 v227 = (do
      issue i arg4 arg7 arg16.sem S128.size (z_in S128.size (Nat.le_of_ble_eq_true rfl)) (k0_off12 i v9 v11) (k0_cond9 i v9 v11 = 1#1) (fun h => k0_off12_inb i v9 v11 k0_hw1 k0_h1 h) <|
      Prog.bind (Scf.Loop.for (k0_t5_loop i v9 v11) (k0_t5_ok i v9 v11 k0_hw1 k0_h1) PUnit.unit (fun t _ => drain i arg4 arg7 harg7 arg8.sem (k0_off13 i v9 v11 t) (k0_off13_inb i v9 v11 k0_hw1 t k0_h1))) fun _ =>
      Prog.bind (Scf.Loop.for (k0_t6_loop i v9 v11) (k0_t6_ok i v9 v11 k0_hw1 k0_h1) PUnit.unit (fun t _ => drain i arg4 arg7 harg7 arg8.sem (k0_off14 i v9 v11 t) (k0_off14_inb i v9 v11 k0_hw1 t k0_h1))) fun _ =>
      await i arg4 arg7 arg9.sem S16384.size (z_in S16384.size (Nat.le_of_ble_eq_true rfl)) (k0_off15 i v9 v11) (k0_cond10 i v9 v11 = 1#1) (fun h => k0_off15_inb i v9 v11 k0_hw1 k0_h1 h) <|
      await i arg4 arg7 arg10.sem S8192.size (z_in S8192.size (Nat.le_of_ble_eq_true rfl)) (k0_off16 i v9 v11) (k0_cond11 i v9 v11 = 1#1) (fun h => k0_off16_inb i v9 v11 k0_hw1 k0_h1 h) <|
      await i arg4 arg7 arg11.sem S4096.size (z_in S4096.size (Nat.le_of_ble_eq_true rfl)) (k0_off17 i v9 v11) (k0_cond12 i v9 v11 = 1#1) (fun h => k0_off17_inb i v9 v11 k0_hw1 k0_h1 h) <|
      pure r) := ⟨_, rfl⟩

end Cert.Proof.Printed.Text
-- ==== Proof.Printed.TileText.lean ====
module
public import proofs.«01_k».proof.Proof.Printed.SegText
@[expose] public section
set_option maxRecDepth 16384
noncomputable section
/-! For the program as printed (its word-level reading): The last piece of the tile's text. -/
namespace Cert.Proof.Printed.Text
open Cert.Kernel Cert.Kernel.Facts₀ Cert.Kernel.Facts Cert.Proof.Printed.Words
open Idealize.ShloMosaic Idealize.SL.Sem
variable {F : FTy → Type} [FloatOps F] [Facts]

/-- What the pieces of a tile's text hand on. -/
abbrev Res (P : BitVec 32 → BitVec 32 → Prop) : Type := Σ' (a : BitVec 32) (b : BitVec 32) (h : P a b) (lo : BitVec 32), BitVec 32

/-- The tile's text ends with the sixteenth segment. -/
theorem body_eq (i : grid0.Coords) (arg2 : Memref sig .scVector .hbm S2048 .f32) (harg2 : arg2.IsWhole) (arg3 : Memref sig .scVector .hbm S32 .i32) (harg3 : arg3.IsWhole) (arg4 : Memref sig .scVector .hbm S4194304 .f32) (harg4 : arg4.IsWhole) (arg5 : Memref sig .scVector .vmem S2048 .f32) (harg5 : arg5.IsWhole) (arg6 : Memref sig .scVector .vmem S32 .i32) (harg6 : arg6.IsWhole) (arg7 : Memref sig .scVector .vmem S32768 .f32) (harg7 : arg7.IsWhole) (arg8 arg9 arg10 arg11 arg12 arg13 arg14 arg15 arg16 v122_r0 v122_r1 : DmaSems sig S_) :
    ∃ last : Res (k0_chk16 i) → TP F i PUnit,
      (cc0__bcast_body (F := F) i arg2 harg2 arg3 harg3 arg4 harg4 arg5 harg5 arg6 harg6 arg7 harg7 arg8 arg9 arg10 arg11 arg12 arg13 arg14 arg15 arg16 v122_r0 v122_r1 = k0_part129 i arg2 harg2 arg3 harg3 arg4 harg4 arg5 harg5 arg6 harg6 arg7 harg7 arg8 arg9 arg10 arg11 arg12 arg13 arg14 arg15 arg16 v122_r0 v122_r1 >>= fun r =>
        k0_part130 i arg2 harg2 arg3 harg3 arg4 harg4 arg5 harg5 arg6 harg6 arg7 harg7 arg8 arg9 arg10 arg11 arg12 arg13 arg14 arg15 arg16 v122_r0 v122_r1 r.1 r.2.1 r.2.2.1 r.2.2.2.2.1 r.2.2.2.2.2.1 r.2.2.2.2.2.2.1 r.2.2.2.2.2.2.2.1 r.2.2.2.2.2.2.2.2 >>= fun r' =>
        k0_part131 i arg2 harg2 arg3 harg3 arg4 harg4 arg5 harg5 arg6 harg6 arg7 harg7 arg8 arg9 arg10 arg11 arg12 arg13 arg14 arg15 arg16 v122_r0 v122_r1 r.1 r.2.1 r.2.2.1 r.2.2.2.1 r'.1 r'.2.1 r'.2.2.1 r'.2.2.2.1 r'.2.2.2.2 >>= last)
      ∧ ∀ (v2 v3 a b : BitVec 32) (h : k0_chk16 i a b),
          last ⟨a, b, h, Scalar.maxsi a v2, Scalar.minsi b v3⟩ = seg i arg2 harg2 arg3 harg3 arg4 harg4 arg5 harg5 arg6 harg6 arg7 harg7 arg8 arg9 arg10 arg11 arg12 arg13 arg14 arg15 arg16 v122_r0 v122_r1 1920 (by decide) v2 v3 a b h (pure ⟨⟩) :=
  ⟨_, rfl, fun _ _ _ _ _ => rfl⟩
end Cert.Proof.Printed.Text
-- ==== Proof.Ref.lean ====
module
public import proofs.«01_k».proof.Proof.Gen.ReferenceIdeal
public import Idealize.ShloMosaic.Lib.StableHlo.Run
@[expose] public section
noncomputable section
/-! The reference as a list of operations on whole arrays: its run, its result, its arguments. -/
namespace Cert.Proof.Ref
open Cert.ReferenceIdeal Cert.ReferenceIdeal.Gen
open Idealize.ShloMosaic Idealize.ShloMosaic.TcCoe Idealize.ShloMosaic.StableHlo Idealize.SL.Sem
variable {F : FTy → Type} [FloatOps F]

/-- The reference's operations in order. -/
abbrev steps : List (HloOp τ sig (Elt F)) :=
  [nullary main_c (constantI S_ 32 0#32),
   unary main_c main_v0 (broadcastInDim S32768 ![] bcast_S_S32768 : (⟨S_, .i32⟩ : BufTy).Contents (Elt F) → (⟨S32768, .i32⟩ : BufTy).Contents (Elt F)),
   binary main_arg1 main_v0 main_v1 (cmpi .slt : (⟨S32768, .i32⟩ : BufTy).Contents (Elt F) → (⟨S32768, .i32⟩ : BufTy).Contents (Elt F) → (⟨S32768, .i1⟩ : BufTy).Contents (Elt F)),
   nullary main_c_0 (constantI S_ 32 16#32),
   unary main_c_0 main_v2 (broadcastInDim S32768 ![] bcast_S_S32768 : (⟨S_, .i32⟩ : BufTy).Contents (Elt F) → (⟨S32768, .i32⟩ : BufTy).Contents (Elt F)),
   binary main_arg1 main_v2 main_v3 (addi : (⟨S32768, .i32⟩ : BufTy).Contents (Elt F) → (⟨S32768, .i32⟩ : BufTy).Contents (Elt F) → (⟨S32768, .i32⟩ : BufTy).Contents (Elt F)),
   ternary main_v1 main_v3 main_arg1 main_v4 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
   unary main_v4 main_v5 (broadcastInDim S32768x1 ![0] bcast_S32768_S32768x1_0 : (⟨S32768, .i32⟩ : BufTy).Contents (Elt F) → (⟨S32768x1, .i32⟩ : BufTy).Contents (Elt F)),
   binary main_arg0 main_v5 main_v6 ((fun x i => Host.gather gather_S16x128_S32768x1_S32768x128_1_0_n_n_0_1_1128 x i) : (⟨S16x128, .f32⟩ : BufTy).Contents (Elt F) → (⟨S32768x1, .i32⟩ : BufTy).Contents (Elt F) → (⟨S32768x128, .f32⟩ : BufTy).Contents (Elt F))]

theorem main_steps (c : Dev nD) : main (F := F) c = seq steps := by
  simp only [main, seq]

/-- The row number looked up for each row of the result: the index, or 16 more where it is negative. -/
def rowIds (idx : IVec S32768 32) : IVec S32768 32 :=
  select (cmpi .slt idx (broadcastInDim S32768 ![] bcast_S_S32768 (constantI S_ 32 0#32)))
    (addi idx (broadcastInDim S32768 ![] bcast_S_S32768 (constantI S_ 32 16#32))) idx
/-- The reference's result: those rows of the table. -/
def value (x : S16x128.Idx → Elt F .f32) (idx : IVec S32768 32) : S32768x128.Idx → Elt F .f32 :=
  Host.gather gather_S16x128_S32768x1_S32768x128_1_0_n_n_0_1_1128 x (broadcastInDim S32768x1 ![0] bcast_S32768_S32768x1_0 (rowIds idx))

theorem value_eq (V : Valuation τ sig (Elt F)) :
    after steps V (main_v6 : DevRef τ sig) = value (F := F) (V (main_arg0 : DevRef τ sig)) (V (main_arg1 : DevRef τ sig)) := by
  simp only [after_cons, after_nil]
  rfl
theorem kept0 (V : Valuation τ sig (Elt F)) : after steps V (main_arg0 : DevRef τ sig) = V (main_arg0 : DevRef τ sig) := by
  simp only [after_cons, after_nil]
  rfl
theorem kept1 (V : Valuation τ sig (Elt F)) : after steps V (main_arg1 : DevRef τ sig) = V (main_arg1 : DevRef τ sig) := by
  simp only [after_cons, after_nil]
  rfl
theorem kept2 (V : Valuation τ sig (Elt F)) : after steps V (main_arg2 : DevRef τ sig) = V (main_arg2 : DevRef τ sig) := by
  simp only [after_cons, after_nil]
  rfl

theorem no_refs : (Finset.univ.filter fun b : Ref sig .tc => b.isScoped) = ∅ := by decide
theorem no_sems : (Finset.univ.filter fun sm : SemLoc sig => sm.isScoped .tc) = ∅ := by decide
theorem in_tc : (steps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

/-- Every run of the reference ends with its result and with its arguments as they were. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = value (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := F)) _ _).mono (fun r h c => ⟨(h c main_v6).trans (value_eq _), (h c main_arg0).trans (kept0 _), (h c main_arg1).trans (kept1 _), (h c main_arg2).trans (kept2 _)⟩)
    (run_seq no_refs no_sems defs main (fun _ => steps) main_steps (fun _ => in_tc) m ρ)
end Cert.Proof.Ref
-- ==== Proof.Frames.lean ====
module
public import proofs.«01_k».proof.Defs
public import proofs.«01_k».proof.Proof.Printed.Main
public import proofs.«01_k».proof.Proof.Ref
public import Idealize.ShloMosaic.Lib.Quiescent
@[expose] public section
set_option maxRecDepth 16384
noncomputable section
/-! The programs run, leave their arguments as they were and every counter at zero. -/
namespace Cert.Proof.Frames
open Idealize.ShloMosaic Idealize.SL.Sem

/-- The kernel as printed, over machine words. -/
theorem kernel : Cert.quiescent_Kernel (hKernel := Cert.Kernel.Gen.facts) := fun m g _ =>
  (θ_run Cert.Kernel.defs _ _).mono (fun _ h => ⟨fun c => (h.1 c).2, h.2⟩) (Printed.Main.run_main (F := Bits) m g)

/-- The kernel over exact numbers. -/
theorem kernelIdeal : Cert.quiescent_KernelIdeal (hKernelIdeal := Cert.KernelIdeal.Gen.facts) := fun m g _ =>
  (θ_run Cert.KernelIdeal.defs _ _).mono (fun _ h => ⟨fun c => (h.1 c).2, h.2⟩) (Main.run_main (F := Ideal) m g)

/-- The reference over exact numbers; it has no counter at all. -/
theorem referenceIdeal : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems (by decide) _⟩) (Ref.run_ref (F := Ideal) m g)
end Cert.Proof.Frames
-- ==== Proof.Reads.lean ====
module
public import proofs.«01_k».proof.Proof.Main
public import proofs.«01_k».proof.Proof.Ref
public import Idealize.ShloMosaic.Lib.Pipeline.Value
public import Idealize.ShloMosaic.Lib.ValueIdxCore
public import Idealize.ShloMosaic.Lib.Routing.Ops
public import Idealize.ShloMosaic.Lib.StableHlo.Predicate
@[expose] public section
noncomputable section
/-! What the two programs' results hold at row `r`, column `y`, by the contents of the arguments. -/
namespace Cert.Proof.Reads
open Cert.KernelIdeal Cert.KernelIdeal.Gen Cert.Proof.Words Cert.Proof.Text Cert.Proof.Mem Cert.Proof.Launch Cert.Proof.Task Cert.Proof.Main
open Idealize.ShloMosaic Idealize.ShloMosaic.ValueIdx
variable {F : FTy → Type} [FloatOps F]

/-! ## The kernel's output by the row ends -/

/-- Where the row ends up to `s` are at most `r` and the later ones beyond it, the word at column `y` of row `r` is word `y` of segment `s`'s row, once segment `s` is done. -/
theorem steps_at (tab : S2048.Idx → Elt F .f32) (e : ℕ → BitVec 32) (f : S4194304.Idx → Elt F .f32) (x : S4194304.Idx) (s : ℕ)
    (hlo : ∀ k, k ≤ s → k ≤ 16 → (e k).toInt ≤ (((x 0).val / 128 : ℕ) : ℤ))
    (hhi : ∀ k, s < k → k ≤ 16 → (((x 0).val / 128 : ℕ) : ℤ) < (e k).toInt) (k : ℕ) (hk : k ≤ 16) :
    steps ((x 0).val / 131072) tab e f k x = if s < k then tab (ix (128 * s + (x 0).val % 128)) else f x := by
  induction k with
  | zero => rfl
  | succ k ih =>
    have hx : ((x 0).val / 131072 * 1024 : ℕ) ≤ (x 0).val / 128 := by omega
    have hx' : (x 0).val / 128 < (x 0).val / 131072 * 1024 + 1024 := by omega
    simp only [steps]
    rcases Nat.lt_trichotomy k s with h | h | h
    · have h1 := hlo (k + 1) (by omega) hk
      rw [if_neg (by omega), ih (by omega), if_neg (by omega), if_neg (by omega)]
    · subst h
      have h1 := hlo k (by omega) (by omega)
      have h2 := hhi (k + 1) (by omega) hk
      rw [if_pos (by omega), if_pos (by omega)]
    · have h1 := hhi k h (by omega)
      rw [if_neg (by omega), ih (by omega), if_pos h, if_pos (by omega)]

/-- The row end a tile uses for segment `k` is entry `k` of the padded row ends. -/
theorem endsOf_at (rb : S32.Idx → Elt F .i32) (k : ℕ) (hk : k ≤ 16) : endsOf (F := F) rb k = rb (ix1 (⟨k, by omega⟩ : Fin 32)) := by
  have H0 : ∀ j : Fin 16, (shapeCast S16 ((Memref.whole Cert.KernelIdeal.cc0_scratch1 : Memref Cert.KernelIdeal.sig Kind.scVector Space.vmem Cert.KernelIdeal.S32 EltTy.i32).view.readAt (Elt F) (Rect.unit (s := S32) ![0] S16.size inb_S32_S16_0).toLoadRect rb) shapeCasts_S16_S16) (ix1 j) = rb (ix1 (⟨j.val, by omega⟩ : Fin 32)) := by
    intro j
    rw [shapeCast_apply _ _ (ix1 j) (ix1 j) rfl]
    show rb _ = rb _
    refine congrArg rb (funext fun a => ?_)
    match a with
    | ⟨0, _⟩ => exact Fin.ext (show 0 + 1 * j.val = j.val by omega)
  have H1 : (shapeCast S16 ((Memref.whole Cert.KernelIdeal.cc0_scratch1 : Memref Cert.KernelIdeal.sig Kind.scVector Space.vmem Cert.KernelIdeal.S32 EltTy.i32).view.readAt (Elt F) (Rect.unit (s := S32) ![16] S16.size inb_S32_S16_16).toLoadRect rb) shapeCasts_S16_S16) (ix1 (0 : Fin 16)) = rb (ix1 (⟨16, by omega⟩ : Fin 32)) := by
    rw [shapeCast_apply _ _ (ix1 0) (ix1 0) rfl]
    show rb _ = rb _
    refine congrArg rb (funext fun a => ?_)
    match a with
    | ⟨0, _⟩ => exact Fin.ext rfl
  have E : ∀ (v : IVec S16 32) (o : ℕ) (ho : o < 16) (h : Shape.Slices S16 ![o] S1), extractAt ![0] (extractStridedSlice S1 ![o] v h) inpos_S1_p0 = v (ix1 (⟨o, ho⟩ : Fin 16)) := by
    intro v o ho h
    show v _ = v _
    refine congrArg v (funext fun a => ?_)
    match a with
    | ⟨0, _⟩ => exact Fin.ext rfl
  unfold endsOf
  match k, hk with
  | 0, _ | 1, _ | 2, _ | 3, _ | 4, _ | 5, _ | 6, _ | 7, _ | 8, _ | 9, _ | 10, _ | 11, _ | 12, _ | 13, _ | 14, _ | 15, _ =>
    exact (E _ _ (by omega) _).trans (H0 _)
  | 16, _ => exact (E _ 0 (by omega) _).trans H1
  | n + 17, h => omega

/-! ## The host's buffers by the arguments -/

variable (m : (ℓ : Loc nD τ sig) → Buf (Elt F) ℓ) (d : Dev nD)

/-- Entry `k ≤ 16` of the padded row ends is the argument's. -/
theorem rb_at (k : Fin 17) : rb m d (ix1 (⟨k.val, by omega⟩ : Fin 32)) = (m ((SparseCore.T d : Thread nD τ).loc main_arg2) : S17.Idx → Elt F .i32) (ix1 k) := by
  have h : rb m d = concatenate S32 0 [⟨S17, (m ((SparseCore.T d : Thread nD τ).loc main_arg2) : S17.Idx → Elt F .i32)⟩, ⟨S15, broadcastInDim S15 ![] bcast_S_S15 (constantI S_ 32 32768#32)⟩] concatenates_S17_S15_S32_d0 := rfl
  rw [h]
  exact concatenate_pair_apply_left (t := S32) (s₁ := S17) (s₂ := S15) 0 (m ((SparseCore.T d : Thread nD τ).loc main_arg2)) _ _ _ rfl (ix1 k) fun b => by match b with | ⟨0, _⟩ => rfl

/-- A table of 16 rows of 128 words, flattened, holds row `s`, column `y` at word `128 s + y`. -/
theorem flat_at {α : Type} (x : S16x128.Idx → α) (s : Fin 16) (y : Fin 128) : shapeCast S2048 x shapeCasts_S16x128_S2048 (ix (128 * s.val + y.val)) = x (ix2 s y) := by
  refine shapeCast_apply x _ _ _ ?_
  rw [Shape.rowMajor_val_two, Shape.rowMajor_val_one]
  show s.val * 128 + y.val = (128 * s.val + y.val) % 2048
  omega

/-- The flat words of the output, as 32768 rows of 128, have word `128 r + y` at row `r`, column `y`. -/
theorem rows_at {α : Type} (x : S4194304.Idx → α) (r : Fin 32768) (y : Fin 128) :
    shapeCast S32768x128 x shapeCasts_S4194304_S32768x128 (ix2 r y) = x (ix1 (⟨128 * r.val + y.val, by omega⟩ : Fin 4194304)) := by
  refine shapeCast_apply x _ _ _ ?_
  rw [Shape.rowMajor_val_two, Shape.rowMajor_val_one]
  show 128 * r.val + y.val = r.val * 128 + y.val
  omega

/-- Word `128 s + y` of the flat table is the argument's at row `s`, column `y`. -/
theorem tb_at (s : Fin 16) (y : Fin 128) : tb m d (ix (128 * s.val + y.val)) = (m ((SparseCore.T d : Thread nD τ).loc main_arg0) : S16x128.Idx → Elt F .f32) (ix2 s y) :=
  (congrFun (show tb m d = shapeCast S2048 (m ((SparseCore.T d : Thread nD τ).loc main_arg0) : S16x128.Idx → Elt F .f32) shapeCasts_S16x128_S2048 from rfl) _).trans (flat_at _ s y)

/-- The result at row `r`, column `y` is the call's output at word `128 r + y`. -/
theorem Ve_at (r : Fin 32768) (y : Fin 128) : (Ve m d r4 : S32768x128.Idx → Elt F .f32) (ix2 r y) = res m d (ix1 (⟨128 * r.val + y.val, by omega⟩ : Fin 4194304)) :=
  (congrFun (show (Ve m d r4 : S32768x128.Idx → Elt F .f32) = shapeCast S32768x128 (res m d) shapeCasts_S4194304_S32768x128 from rfl) _).trans (rows_at _ r y)

/-- The kernel's result at row `r` is row `s` of the table, where the row ends up to `s` are at most `r` and the later ones beyond it. -/
theorem kernel_at (r : Fin 32768) (y : Fin 128) (s : Fin 16)
    (hlo : ∀ k : Fin 17, k.val ≤ s.val → ((m ((SparseCore.T d : Thread nD τ).loc main_arg2) : IVec S17 32) (ix1 k)).toInt ≤ (r.val : ℤ))
    (hhi : ∀ k : Fin 17, s.val < k.val → (r.val : ℤ) < ((m ((SparseCore.T d : Thread nD τ).loc main_arg2) : IVec S17 32) (ix1 k)).toInt) :
    (Ve m d r4 : S32768x128.Idx → Elt F .f32) (ix2 r y) = (m ((SparseCore.T d : Thread nD τ).loc main_arg0) : S16x128.Idx → Elt F .f32) (ix2 s y) := by
  have hq : (128 * r.val + y.val) / 128 = r.val := by omega
  have hm : (128 * r.val + y.val) % 128 = y.val := by omega
  rw [Ve_at, ← tb_at m d]
  have e : ∀ k (hk : k ≤ 16), endsOf (F := F) (rb m d) k = (m ((SparseCore.T d : Thread nD τ).loc main_arg2) : IVec S17 32) (ix1 (⟨k, by omega⟩ : Fin 17)) :=
    fun k hk => (endsOf_at _ k hk).trans (rb_at m d ⟨k, by omega⟩)
  refine (steps_at (tb m d) (endsOf (rb m d)) (o0 m d) (ix1 (⟨128 * r.val + y.val, by omega⟩ : Fin 4194304)) s.val
    (fun k h hk => ?_) (fun k h hk => ?_) 16 (le_refl _)).trans ?_
  · rw [e k hk]
    show _ ≤ (((128 * r.val + y.val) / 128 : ℕ) : ℤ)
    rw [hq]; exact hlo _ h
  · rw [e k hk]
    show (((128 * r.val + y.val) / 128 : ℕ) : ℤ) < _
    rw [hq]; exact hhi _ h
  · rw [if_pos s.isLt]
    show tb m d (ix (128 * s.val + (128 * r.val + y.val) % 128)) = _
    rw [hm]

/-! ## The reference's result -/

/-- The reference's result at row `r` is row `s` of the table, where the index at `r` is `s`. -/
theorem reference_at (x : S16x128.Idx → Elt F .f32) (idx : IVec S32768 32) (r : Fin 32768) (y : Fin 128) (s : Fin 16) (hs : (idx (ix1 r)).toNat = s.val) :
    Ref.value x idx (ix2 r y) = x (ix2 s y) := by
  have hi : Ref.rowIds idx (ix1 r) = idx (ix1 r) := by
    show (if IntOp.cmpi .slt (idx (ix1 r)) 0#32 = 1#1 then _ else idx (ix1 r)) = _
    refine if_neg fun h => ?_
    have := (StableHlo.Predicate.slt_iff_toNat (a := idx (ix1 r)) (b := 0#32) (by omega) (by decide)).1 h
    exact absurd this (Nat.not_lt_zero _)
  unfold Ref.value
  refine Routing.gather_row _ rfl rfl rfl rfl rfl x _ r y s ?_ (by decide)
  refine (show _ = Ref.rowIds idx (ix1 r) from congrArg (Ref.rowIds idx) (funext fun a => ?_)).trans (hi.trans (BitVec.eq_of_toNat_eq ?_))
  · match a with | ⟨0, _⟩ => rfl
  · rw [hs, BitVec.toNat_ofNat]; have := s.isLt; omega

end Cert.Proof.Reads
-- ==== Proof.Counts.lean ====
module
public import proofs.«01_k».proof.Proof.Gen.Pre_segments
public import Idealize.ShloMosaic.Lib.ReduceAll
public import Idealize.ShloMosaic.Lib.ValueIdxCore
public import Idealize.ShloMosaic.Lib.StableHlo.Predicate
@[expose] public section
/-! What the precondition says of the row indices and of the row ends. -/
namespace Cert.Proof.Counts
open Cert.Pre_segments Cert.Pre_segments.Gen
open Idealize.ShloMosaic Idealize.ShloMosaic.ValueIdx Idealize.ShloMosaic.StableHlo.Predicate
variable {F : FTy → Type} [FloatOps F]

/-- A word at least 0 and less than 16, signed, has a value less than 16. -/
theorem lt16 (a : BitVec 32) (h1 : IntOp.cmpi .sge a 0#32 = 1#1) (h2 : IntOp.cmpi .slt a 16#32 = 1#1) : a.toNat < 16 := by
  simp only [IntOp.cmpi, ofBool_eq_one_iff, BitVec.sle, BitVec.slt, decide_eq_true_eq] at h1 h2
  have e0 : (0#32 : BitVec 32).toInt = 0 := by decide
  have e1 : (16#32 : BitVec 32).toInt = 16 := by decide
  rw [e0] at h1; rw [e1] at h2
  have := a.isLt
  rw [BitVec.toInt_eq_toNat_cond] at h1 h2
  split at h1 <;> omega

theorem of_ij {n m : Nat} (p : Fin n) (q : Fin m) : (ij p q : (⟨2, ![n, m]⟩ : Shape).Idx) = ix2 p q := by
  funext b; match b with | ⟨0, _⟩ => rfl | ⟨1, _⟩ => rfl
theorem ofFin_ix1 {n : Nat} (p : Fin n) : (Shape.Idx.ofFin p : (⟨1, ![n]⟩ : Shape).Idx) = ix1 p := by
  funext b; match b with | ⟨0, _⟩ => rfl

instance : Subsingleton S_.Idx := ⟨fun a b => funext fun i => i.elim0⟩

/-- The precondition in numbers: the indices are below 16 and never fall, and row end `k` is how many indices are below `k`. -/
theorem of_pre (x : FVec F S16x128 .f32) (idx : IVec S32768 32) (rb : IVec S17 32) (h : fn x idx rb = fun _ => 1#1) :
    (∀ r : Fin 32768, (idx (ix1 r)).toNat < 16)
      ∧ (∀ r r' : Fin 32768, r.val ≤ r'.val → (idx (ix1 r)).toNat ≤ (idx (ix1 r')).toNat)
      ∧ ∀ k : Fin 17, (rb (ix1 k)).toNat = (Finset.univ.filter fun q : Fin 32768 => (idx (ix1 q)).toNat < k.val).card := by
  have h0 := congrFun h (fun i => i.elim0)
  unfold fn fn_part1 at h0
  obtain ⟨h1, h3⟩ := IntOp.andi_eq_one.1 h0
  obtain ⟨h1, h2⟩ := IntOp.andi_eq_one.1 h1
  have A : ∀ r : Fin 32768, (idx (ix1 r)).toNat < 16 := fun r => by
    have a := Host.reduce_andi_all _ _ _ _ _ h1 (ix1 r)
    obtain ⟨a1, a2⟩ := IntOp.andi_eq_one.1 a
    exact lt16 _ a1 a2
  have B : ∀ (r : ℕ) (hr : r + 1 < 32768), (idx (ix1 (⟨r, by omega⟩ : Fin 32768))).toNat ≤ (idx (ix1 (⟨r + 1, hr⟩ : Fin 32768))).toNat := fun r hr => by
    have a := Host.reduce_andi_all _ _ _ _ _ h2 (ix1 (⟨r, by omega⟩ : Fin 32767))
    have a' : IntOp.cmpi .sle (idx (ix1 (⟨r, by omega⟩ : Fin 32768))) (idx (ix1 (⟨r + 1, hr⟩ : Fin 32768))) = 1#1 := by
      refine Eq.trans ?_ a
      refine congrArg₂ (fun u v => IntOp.cmpi .sle (idx u) (idx v)) ?_ ?_ <;> funext b <;> match b with
        | ⟨0, _⟩ => exact Fin.ext (by simp [ix1]; try omega)
    have u := A ⟨r, by omega⟩
    have v := A ⟨r + 1, hr⟩
    exact (sle_iff_toNat (by omega) (by omega)).1 a'
  refine ⟨A, fun r r' hr => ?_, fun k => ?_⟩
  · obtain ⟨r, h1⟩ := r
    obtain ⟨r', h2⟩ := r'
    simp only at hr
    induction r' with
    | zero => obtain rfl : r = 0 := by omega
              exact le_refl _
    | succ n ih =>
      rcases Nat.lt_or_ge n r with c | c
      · obtain rfl : r = n + 1 := by omega
        exact le_refl _
      · exact (ih (by omega) c).trans (B n h2)
  · have a := cmpi_eq_iff.1 (Host.reduce_andi_all _ _ _ _ _ h3 (ix1 k))
    rw [a, toNat_reduce_count_cols (by decide)]
    refine congrArg Finset.card (Finset.filter_congr fun q _ => ?_)
    have hk : BitVec.toNat (BitVec.ofNat 32 k.val) = k.val := by rw [BitVec.toNat_ofNat]; have := k.isLt; omega
    have hq := A q
    have hk' := k.isLt
    refine Iff.trans (Eq.to_iff (congrArg (· = 1#1) ?_)) ((slt_iff_toNat (a := idx (ix1 q)) (b := BitVec.ofNat 32 k.val) (by omega) (by omega)).trans (by rw [hk]))
    refine congrArg₂ (IntOp.cmpi .slt) ?_ ?_
    · refine (bcast_of_row _ _ _ _).trans ((bcast_row1 _ _ _).trans ?_)
      rw [ofFin_ix1]
    · exact (bcast_of_col _ _ _ _).trans ((bcast_col1 _ _ _).trans rfl)

/-- Row end `k` is at most `r` where the index at `r` is at least `k`. -/
theorem card_le (I : Fin 32768 → ℕ) (hs : ∀ r r' : Fin 32768, r.val ≤ r'.val → I r ≤ I r') (r : Fin 32768) (k : ℕ) (h : k ≤ I r) :
    (Finset.univ.filter fun q : Fin 32768 => I q < k).card ≤ r.val := by
  refine (Finset.card_le_card (t := Finset.Iio r) fun q hq => ?_).trans (by rw [Fin.card_Iio])
  have hq := (Finset.mem_filter.1 hq).2
  refine Finset.mem_Iio.2 ?_
  by_contra c
  have := hs r q (by have := not_lt.1 c; exact this)
  omega

/-- Row end `k` is beyond `r` where the index at `r` is below `k`. -/
theorem lt_card (I : Fin 32768 → ℕ) (hs : ∀ r r' : Fin 32768, r.val ≤ r'.val → I r ≤ I r') (r : Fin 32768) (k : ℕ) (h : I r < k) :
    r.val < (Finset.univ.filter fun q : Fin 32768 => I q < k).card := by
  refine lt_of_lt_of_le (Nat.lt_succ_self _) ((by rw [Fin.card_Iic] : r.val + 1 ≤ (Finset.Iic r).card).trans (Finset.card_le_card fun q hq => ?_))
  refine Finset.mem_filter.2 ⟨Finset.mem_univ _, lt_of_le_of_lt (hs q r ?_) h⟩
  have h' : q ≤ r := Finset.mem_Iic.1 hq
  exact h'

end Cert.Proof.Counts
-- ==== Proof.Value.lean ====
module
public import proofs.«01_k».proof.Defs
public import proofs.«01_k».proof.Proof.Reads
public import proofs.«01_k».proof.Proof.Counts
public import Idealize.ShloMosaic.Lib.Quiescent
@[expose] public section
noncomputable section
/-! Under the precondition the kernel and the reference leave the same result. -/
namespace Cert.Proof.Value
open Idealize.ShloMosaic Idealize.ShloMosaic.ValueIdx Idealize.SL.Sem

variable {F : FTy → Type} [FloatOps F]

/-- Where the precondition holds of the arguments, the kernel's result is the reference's on them. -/
theorem result_eq (m : (ℓ : Loc Cert.KernelIdeal.nD Cert.KernelIdeal.τ Cert.KernelIdeal.sig) → Buf (Elt F) ℓ) (d : Dev Cert.KernelIdeal.nD)
    (h : Cert.Pre_segments.fn (F := F) (m ((SparseCore.T d).loc Cert.KernelIdeal.main_arg0)) (m ((SparseCore.T d).loc Cert.KernelIdeal.main_arg1)) (m ((SparseCore.T d).loc Cert.KernelIdeal.main_arg2)) = fun _ => 1#1) :
    (Main.Ve m d Main.r4 : Cert.KernelIdeal.S32768x128.Idx → Elt F .f32)
      = Ref.value (F := F) (m ((SparseCore.T d).loc Cert.KernelIdeal.main_arg0)) (m ((SparseCore.T d).loc Cert.KernelIdeal.main_arg1)) := by
  obtain ⟨hA, hB, hC⟩ := Counts.of_pre (F := F) _ _ _ h
  funext i
  rw [eq_ix2 i]
  have hr := hA (i 0)
  have e : ∀ k : Fin 17, ((m ((SparseCore.T d).loc Cert.KernelIdeal.main_arg2) : IVec Cert.KernelIdeal.S17 32) (ix1 k)).toInt
      = (((Finset.univ.filter fun q : Fin 32768 => ((m ((SparseCore.T d).loc Cert.KernelIdeal.main_arg1) : IVec Cert.KernelIdeal.S32768 32) (ix1 q)).toNat < k.val).card : ℕ) : ℤ) := fun k => by
    have c : (Finset.univ.filter fun q : Fin 32768 => ((m ((SparseCore.T d).loc Cert.KernelIdeal.main_arg1) : IVec Cert.KernelIdeal.S32768 32) (ix1 q)).toNat < k.val).card ≤ 32768 :=
      (Finset.card_le_univ _).trans (by rw [Fintype.card_fin])
    have := hC k
    rw [StableHlo.Predicate.toInt_eq_toNat_of_lt (by omega), this]
  refine (Reads.kernel_at m d (i 0) (i 1) ⟨_, hr⟩ (fun k hk => ?_) fun k hk => ?_).trans (Reads.reference_at _ _ (i 0) (i 1) ⟨_, hr⟩ rfl).symm
  · rw [e k]
    exact Int.ofNat_le.2 (Counts.card_le (fun q => _) hB (i 0) k.val hk)
  · rw [e k]
    exact Int.ofNat_lt.2 (Counts.lt_card (fun q => _) hB (i 0) k.val hk)

/-- Under the precondition too the kernel over exact numbers ends without a fault, its arguments unchanged and every semaphore at zero. -/
theorem kernelIdeal_segments : Cert.quiescent_KernelIdeal_pre_segments (hKernelIdeal := Cert.KernelIdeal.Gen.facts) (hPre_segments := Cert.Pre_segments.Gen.facts) := fun m g _ =>
  (θ_run Cert.KernelIdeal.defs _ _).mono (fun _ h => ⟨fun c => (h.1 c).2, h.2⟩) (Main.run_main (F := Ideal) m g)

/-- Under the precondition too the reference ends without a fault, its arguments unchanged and every semaphore at zero. -/
theorem referenceIdeal_segments : Cert.quiescent_ReferenceIdeal_pre_segments (hReferenceIdeal := Cert.ReferenceIdeal.Gen.facts) (hPre_segments := Cert.Pre_segments.Gen.facts) := fun m g _ =>
  (θ_run Cert.ReferenceIdeal.defs _ _).mono (fun _ h => ⟨fun c => (h c).2, sem_eq_zero_of_no_sems (by decide) _⟩) (Ref.run_ref (F := Ideal) m g)

/-- Over exact numbers, from the same arguments and under the precondition, both programs end with the same result: row `batch_index[r]` of the table at row `r`. -/
theorem algebraic : Cert.algebraic_KernelIdeal_ReferenceIdeal_pre_segments (hKernelIdeal := Cert.KernelIdeal.Gen.facts) (hReferenceIdeal := Cert.ReferenceIdeal.Gen.facts) (hPre_segments := Cert.Pre_segments.Gen.facts) := by
  intro m g m' g' hpre heq
  refine ⟨fun c => Ref.value (F := Ideal) (m ((SparseCore.T c).loc Cert.KernelIdeal.main_arg0)) (m ((SparseCore.T c).loc Cert.KernelIdeal.main_arg1)), ?_, ?_⟩
  · exact (θ_run Cert.KernelIdeal.defs _ _).mono (fun _ h c => ⟨((h.1 c).1).trans (result_eq m c (hpre c)), (h.1 c).2⟩) (Main.run_main (F := Ideal) m g)
  · refine (θ_run Cert.ReferenceIdeal.defs _ _).mono (fun _ h c => ⟨((h c).1).trans ?_, (h c).2⟩) (Ref.run_ref (F := Ideal) m' g')
    exact congrArg₂ (Ref.value (F := Ideal)) (heq c).1 (heq c).2.1

end Cert.Proof.Value
-- ==== Proof.PoolIdealText.lean ====
module
public import proofs.«01_k».proof.PoolIdeal
public import Idealize.ShloMosaic.Lib.Pipeline.FrameBody
@[expose] public section
set_option maxRecDepth 65536
set_option maxHeartbeats 1000000
noncomputable section
/-! The pooling body as a short text: what it stores, and in what order it loads and stores. -/
namespace Cert.Proof.PoolIdeal.Text
open Cert.PoolIdeal Cert.PoolIdeal.Facts₀ Cert.PoolIdeal.Facts
open Idealize.ShloMosaic Idealize.ShloMosaic.TcCoe Idealize.SL Idealize.SL.Sem

variable {F : FTy → Type} [FloatOps F] [Named F] [Facts]

/-- The value the maxima start from. -/
abbrev low : F .f32 := Named.named κ "low" 0xFF61B1E6#32
/-- The table of sums at the start. -/
def zeros : FVec F S16x128 .f32 := shapeCast S16x128 (broadcast S16x128 (Scalar.ofBits .f32 0x00000000#32)) shapeCasts_S16x128_S16x128
/-- The table of maxima at the start. -/
def lows : FVec F S16x128 .f32 := shapeCast S16x128 (broadcast S16x128 low) shapeCasts_S16x128_S16x128
/-- A block's rows after the first linear map. -/
def hOf (x : FVec F S2048x128 .f32) (w : FVec F S128x128 .f32) (b : FVec F S1x128 .f32) : FVec F S2048x128 .f32 :=
  addf (matmul dot_S2048x128_S128x128_S2048x128_1_1_0_0_n_n none x w (constant S2048x128 .f32 0x00000000#32))
    (broadcastTo S2048x128 (shapeCast S1x128 b shapeCasts_S1x128_S1x128) broadcasts_S1x128_S2048x128)
/-- A block's indices, in one row. -/
def flat (v : IVec S1x1x2048 32) : IVec S2048 32 := shapeCast S2048 v shapeCasts_S1x1x2048_S2048
/-- One where a row belongs to a segment, zero elsewhere. -/
def hot (v4 : IVec S2048 32) : FVec F S16x2048 .f32 :=
  sitofp .f32 (extui 32 (cmpi .eq (iota .tc S16x2048 32 [0] iota_S16x2048_d0_w32)
    (broadcastTo S16x2048 (shapeCast S1x2048 v4 shapeCasts_S2048_S1x2048) broadcasts_S1x2048_S16x2048)) natLt_1_32)
/-- The table of sums after a block. -/
def sumOf (v4 : IVec S2048 32) (h : FVec F S2048x128 .f32) (acc : FVec F S16x128 .f32) : FVec F S16x128 .f32 :=
  shapeCast S16x128 (addf acc (matmul dot_S16x2048_S2048x128_S16x128_1_0_0_1_n_n none (hot v4) h (constant S16x128 .f32 0x00000000#32))) shapeCasts_S16x128_S16x128
/-- The least index of a block, -/
def lo (v4 : IVec S2048 32) : BitVec 32 :=
  extractAt ![0, 0] (shapeCast S1x1 (multiReductionI .minsi [1] S1 (shapeCast S1x2048 v4 shapeCasts_S2048_S1x2048) 2147483647#32 reduces_S1x2048_S1 rfl) shapeCasts_S1_S1x1) inpos_S1x1_p0_0
/-- and the greatest. -/
def hi (v4 : IVec S2048 32) : BitVec 32 :=
  extractAt ![0, 0] (shapeCast S1x1 (multiReductionI .maxsi [1] S1 (shapeCast S1x2048 v4 shapeCasts_S2048_S1x2048) 2147483648#32 reduces_S1x2048_S1 rfl) shapeCasts_S1_S1x1) inpos_S1x1_p0_0
/-- A block's indices, one for each entry of its rows. -/
def wide (v4 : IVec S2048 32) : IVec S2048x128 32 :=
  broadcastTo S2048x128 (shapeCast S2048x1 (shapeCast S2048x1 v4 shapeCasts_S2048_S2048x1) shapeCasts_S2048x1_S2048x1) broadcasts_S2048x1_S2048x128
/-- The numbers of the segments. -/
def nums : IVec S16x1 32 := iota .tc S16x1 32 [0] iota_S16x1_d0_w32
/-- Whether the segment `s` can occur in a block. -/
def cond (l h s : BitVec 32) : BitVec 1 :=
  Scalar.cmpi .ne (Scalar.extui (Scalar.andi (Scalar.cmpi .sle l s) (Scalar.cmpi .sge h s)) : BitVec 32) 0#32
/-- The table of maxima after the segment `s` of a block. -/
def maxOf (h : FVec F S2048x128 .f32) (v34 : IVec S2048x128 32) (v35 : IVec S16x1 32) (s : BitVec 32) (acc acc' : FVec F S16x128 .f32) : FVec F S16x128 .f32 :=
  shapeCast S16x128 (select (broadcastTo S16x128 (shapeCast S16x1 (cmpi .eq v35 (broadcast S16x1 s)) shapeCasts_S16x1_S16x1) broadcasts_S16x1_S16x128)
    (maximumf acc (broadcastTo S16x128 (shapeCast S1x128 (multiReduction .maximumf [0] S128 (select (cmpi .eq v34 (broadcast S2048x128 s)) h (broadcast S2048x128 low)) 0xFF800000#32 reduces_S2048x128_S128 (.inl rfl) rfl) shapeCasts_S128_S1x128) broadcasts_S1x128_S16x128))
    acc') shapeCasts_S16x128_S16x128
/-- One over each segment's size, or over one. -/
def invs (v119 v121 : IVec S1x16 32) : FVec F S16 .f32 :=
  divf (broadcast S16 (Scalar.ofBits .f32 0x3F800000#32))
    (maximumf (sitofp .f32 (subi (shapeCast S16 v119 shapeCasts_S1x16_S16) (shapeCast S16 v121 shapeCasts_S1x16_S16))) (broadcast S16 (Scalar.ofBits .f32 0x3F800000#32)))
/-- The same on the diagonal of a square. -/
def diag (v : FVec F S16 .f32) : FVec F S16x16 .f32 :=
  select (cmpi .eq (iota .tc S16x16 32 [0] iota_S16x16_d0_w32) (iota .tc S16x16 32 [1] iota_S16x16_d1_w32))
    (broadcastTo S16x16 (shapeCast S1x16 (shapeCast S1x16 v shapeCasts_S16_S1x16) shapeCasts_S1x16_S1x16) broadcasts_S1x16_S16x16)
    (broadcast S16x16 (Scalar.ofBits .f32 0x00000000#32))
/-- The means beside the maxima. -/
def both (d : FVec F S16x16 .f32) (accS accM : FVec F S16x128 .f32) : FVec F S16x256 .f32 :=
  concatenate S16x256 1 [⟨S16x128, matmul dot_S16x16_S16x128_S16x128_1_0_0_1_n_n none d accS (constant S16x128 .f32 0x00000000#32)⟩, ⟨S16x128, accM⟩] concatenates_S16x128_S16x128_S16x256_d1
/-- The result: the second linear map of the means and the maxima. -/
def outOf (p : FVec F S16x256 .f32) (w : FVec F S128x256 .f32) (b : FVec F S1x128 .f32) : FVec F S16x128 .f32 :=
  addf (matmul dot_S16x256_S128x256_S16x128_1_1_0_0_n_n none p w (constant S16x128 .f32 0x00000000#32))
    (broadcastTo S16x128 (shapeCast S1x128 b shapeCasts_S1x128_S1x128) broadcasts_S1x128_S16x128)

abbrev TP (F : FTy → Type) (α : Type) := Prog (TpuEff nD τ sig (Elt F) Λ₀ .tc) α

/-- Load a table whole, -/
def ldT (r : Memref sig .tc .vmem S16x128 .f32) {α : Type} (k : Vec F S16x128 .f32 → TP F α) : TP F α :=
  Prog.op (.load r (Rect.unit (s := S16x128) ![0, 0] S16x128.size inb_S16x128_S16x128_0_0).toLoadRect (View.loadsAt_vmem h_S16x128)) k
/-- and store one. -/
def stT (r : Memref sig .tc .vmem S16x128 .f32) (w : FVec F S16x128 .f32) {α : Type} (k : PUnit → TP F α) : TP F α :=
  Prog.op (.store r (Rect.unit (s := S16x128) ![0, 0] S16x128.size inb_S16x128_S16x128_0_0) w Finset.univ (View.stores_vmem_bits_univ h_S16x128 rfl) (.inl rfl)) k

/-- One segment's step on the table of maxima. -/
def seg (r : Memref sig .tc .vmem S16x128 .f32) (h : FVec F S2048x128 .f32) (v34 : IVec S2048x128 32) (v35 : IVec S16x1 32) (s : BitVec 32) (c : BitVec 1)
    {α : Type} (k : TP F α) : TP F α :=
  if c = 1#1 then ldT r fun a => ldT r fun b => ldT r fun _ => stT r (maxOf h v34 v35 s a b) fun _ => k else k

variable (i : grid0.Coords) (arg1 : Memref sig .tc .vmem S2048x128 .f32) (harg1 : arg1.IsWhole) (arg2 : Memref sig .tc .vmem S1x1x2048 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S1x32 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole)

/-- The start: clear both tables at the first block. -/
def start {α : Type} (k : TP F α) : TP F α :=
  if _h : (Scalar.cmpi .ne (Scalar.extui (Scalar.cmpi .eq (BitVec.ofNat 32 (i 0).val) 0#32) : BitVec 32) 0#32 : BitVec 1) = 1#1 then
    ldT arg9 fun _ => stT arg9 zeros fun _ => ldT arg10 fun _ => stT arg10 lows fun _ => k
  else k

/-- The end: the result at the last block. -/
def finish : TP F PUnit :=
  if _h : k0_cond18 i = 1#1 then
    Prog.op (.load arg7 (Rect.unit (s := S1x32) ![0, 1] S1x16.size inb_S1x32_S1x16_0_1).toLoadRect (View.loadsAt_vmem h_S1x16)) fun (v119 : Vec F S1x16 .i32) =>
    Prog.op (.load arg7 (Rect.unit (s := S1x32) ![0, 0] S1x16.size inb_S1x32_S1x16_0_0).toLoadRect (View.loadsAt_vmem h_S1x16)) fun (v121 : Vec F S1x16 .i32) =>
    ldT arg9 fun v137 => ldT arg10 fun v139 =>
    Prog.op (.load arg5 (Rect.unit (s := S128x256) ![0, 0] S128x256.size inb_S128x256_S128x256_0_0).toLoadRect (View.loadsAt_vmem h_S128x256)) fun (v141 : Vec F S128x256 .f32) =>
    Prog.op (.load arg6 (Rect.unit (s := S1x128) ![0, 0] S1x128.size inb_S1x128_S1x128_0_0).toLoadRect (View.loadsAt_vmem h_S1x128)) fun (v143 : Vec F S1x128 .f32) =>
    ldT arg8 fun _ => stT arg8 (outOf (both (diag (invs v119 v121)) v137 v139) v141 v143) fun _ => pure ⟨⟩
  else pure ⟨⟩

theorem part1_eq : k0_part1 (F := F) i arg1 harg1 arg2 harg2 arg3 harg3 arg4 harg4 arg5 harg5 arg6 harg6 arg7 harg7 arg8 harg8 arg9 harg9 arg10 harg10 =
    start i arg9 arg10 (
      Prog.op (.load arg2 (Rect.unit (s := S1x1x2048) ![0, 0, 0] S1x1x2048.size inb_S1x1x2048_S1x1x2048_0_0_0).toLoadRect (View.loadsAt_vmem h_S1x1x2048)) fun (v3 : Vec F S1x1x2048 .i32) =>
      Prog.op (.load arg1 (Rect.unit (s := S2048x128) ![0, 0] S2048x128.size inb_S2048x128_S2048x128_0_0).toLoadRect (View.loadsAt_vmem h_S2048x128)) fun (v5 : Vec F S2048x128 .f32) =>
      Prog.op (.load arg3 (Rect.unit (s := S128x128) ![0, 0] S128x128.size inb_S128x128_S128x128_0_0).toLoadRect (View.loadsAt_vmem h_S128x128)) fun (v6 : Vec F S128x128 .f32) =>
      Prog.op (.load arg4 (Rect.unit (s := S1x128) ![0, 0] S1x128.size inb_S1x128_S1x128_0_0).toLoadRect (View.loadsAt_vmem h_S1x128)) fun (v8 : Vec F S1x128 .f32) =>
      ldT arg9 fun v18 => ldT arg9 fun _ => stT arg9 (sumOf (flat v3) (hOf v5 v6 v8) v18) fun _ =>
      pure ⟨BitVec.ofNat 32 (i 0).val, hOf v5 v6 v8, lo (flat v3), hi (flat v3), wide (flat v3), nums, Scalar.cmpi .sle (lo (flat v3)) 0#32⟩) := rfl

variable (h : FVec F S2048x128 .f32) (l hh : BitVec 32) (v34 : IVec S2048x128 32) (v35 : IVec S16x1 32)

theorem part2_eq : k0_part2 (F := F) i arg1 harg1 arg2 harg2 arg3 harg3 arg4 harg4 arg5 harg5 arg6 harg6 arg7 harg7 arg8 harg8 arg9 harg9 arg10 harg10 h l hh v34 v35 (Scalar.cmpi .sle l 0#32) =
    (seg arg10 h v34 v35 0#32 (cond l hh 0#32) <| seg arg10 h v34 v35 1#32 (cond l hh 1#32) <| seg arg10 h v34 v35 2#32 (cond l hh 2#32) <| seg arg10 h v34 v35 3#32 (cond l hh 3#32) <| seg arg10 h v34 v35 4#32 (cond l hh 4#32) <| seg arg10 h v34 v35 5#32 (cond l hh 5#32) <| pure (cond l hh 6#32)) := rfl

theorem part3_eq : k0_part3 (F := F) i arg1 harg1 arg2 harg2 arg3 harg3 arg4 harg4 arg5 harg5 arg6 harg6 arg7 harg7 arg8 harg8 arg9 harg9 arg10 harg10 h l hh v34 v35 (cond l hh 6#32) =
    (seg arg10 h v34 v35 6#32 (cond l hh 6#32) <| seg arg10 h v34 v35 7#32 (cond l hh 7#32) <| seg arg10 h v34 v35 8#32 (cond l hh 8#32) <| seg arg10 h v34 v35 9#32 (cond l hh 9#32) <| seg arg10 h v34 v35 10#32 (cond l hh 10#32) <| seg arg10 h v34 v35 11#32 (cond l hh 11#32) <| seg arg10 h v34 v35 12#32 (cond l hh 12#32) <| pure (Scalar.andi (Scalar.cmpi .sle l 13#32) (Scalar.cmpi .sge hh 13#32))) := rfl

theorem body_eq : cc0__pool_body (F := F) i arg1 harg1 arg2 harg2 arg3 harg3 arg4 harg4 arg5 harg5 arg6 harg6 arg7 harg7 arg8 harg8 arg9 harg9 arg10 harg10 = Prog.bind (k0_part1 i arg1 harg1 arg2 harg2 arg3 harg3 arg4 harg4 arg5 harg5 arg6 harg6 arg7 harg7 arg8 harg8 arg9 harg9 arg10 harg10) (fun y => Prog.bind (k0_part2 i arg1 harg1 arg2 harg2 arg3 harg3 arg4 harg4 arg5 harg5 arg6 harg6 arg7 harg7 arg8 harg8 arg9 harg9 arg10 harg10 y.2.1 y.2.2.1 y.2.2.2.1 y.2.2.2.2.1 y.2.2.2.2.2.1 y.2.2.2.2.2.2)
      (fun v70 => Prog.bind (k0_part3 i arg1 harg1 arg2 harg2 arg3 harg3 arg4 harg4 arg5 harg5 arg6 harg6 arg7 harg7 arg8 harg8 arg9 harg9 arg10 harg10 y.2.1 y.2.2.1 y.2.2.2.1 y.2.2.2.2.1 y.2.2.2.2.2.1 v70) (fun v103 =>
        seg arg10 y.2.1 y.2.2.2.2.1 y.2.2.2.2.2.1 13#32 (Scalar.cmpi .ne (Scalar.extui v103 : BitVec 32) 0#32) <|
        seg arg10 y.2.1 y.2.2.2.2.1 y.2.2.2.2.2.1 14#32 (cond y.2.2.1 y.2.2.2.1 14#32) <|
        seg arg10 y.2.1 y.2.2.2.2.1 y.2.2.2.2.2.1 15#32 (cond y.2.2.1 y.2.2.2.1 15#32) <|
        finish i arg5 arg6 arg7 arg8 arg9 arg10))) := rfl

end Cert.Proof.PoolIdeal.Text
end
-- ==== Proof.PoolIdealRun.lean ====
module
public import proofs.«01_k».proof.Proof.PoolIdealText
public import proofs.«01_k».proof.Proof.Gen.PoolIdeal.Frame
public import Idealize.ShloMosaic.Lib.Pipeline.Value
@[expose] public section
set_option maxRecDepth 16384
noncomputable section
/-! One run of the pooling body: what it leaves in the two tables and in the result. -/
namespace Cert.Proof.PoolIdeal.Run
open Cert.PoolIdeal Cert.PoolIdeal.Facts₀ Cert.PoolIdeal.Facts Cert.Proof.PoolIdeal.Text
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]

local notation "𝕄" => MT nD τ sig Unit (Elt F) ℕ (UR sig nD τ) ℕ

/-- The run of a program on a core. -/
abbrev Wp (c : Dev nD) {α : Type} (p : TP F α) (Q : α → sProp 𝕄) : sProp 𝕄 :=
  wp frame (wpE (defs₀ (F := F)) Variants.none (c : Thread nD τ) none) Set.univ p Q

/-- A buffer of the core's, held whole. -/
abbrev Own (c : Dev nD) {s : Shape} {e : EltTy} (m : Memref sig .tc .vmem s e) (X : s.Idx → Elt F e) : sProp 𝕄 :=
  owns (c : Thread nD τ) m fullShare X

variable (c : Dev nD)

theorem wp_ld {s : Shape} {e : EltTy} (m : Memref sig .tc .vmem s e) (r : Rect s) {hl : m.view.LoadsAt r.toLoadRect} (X : s.Idx → Elt F e) {α : Type}
    (k : (r.shape.Idx → Elt F e) → TP F α) (Q : α → sProp 𝕄) :
    iprop(Own c m X) ⊢ iprop((Own c m X -∗ Wp c (k (View.ld X r)) Q) -∗ Wp c (Prog.op (.load m r.toLoadRect hl) k) Q) := by
  unfold Own owns
  iintro ⟨%f, %hf, H⟩ Hk
  iapply (wp_load Variants.none (c : Thread nD τ) none Set.univ (m := m) (View.setOn_subset_set _ _)) $$ H; iintro H
  rw [show m.view.readAt (Elt F) r.toLoadRect f = View.ld X r from by subst hf; rfl]
  iapply Hk
  iexists f
  isplitr
  · ipureintro; exact hf
  iexact H

theorem wp_ld0 {s : Shape} {e : EltTy} (m : Memref sig .tc .vmem s e) {off : Fin s.rank → ℕ} (h0 : off = fun _ => 0) (inb : ∀ a, off a + s.size a ≤ s.size a)
    {hl : m.view.LoadsAt (Rect.unit off s.size inb).toLoadRect} (X : s.Idx → Elt F e) {α : Type} (k : (s.Idx → Elt F e) → TP F α) (Q : α → sProp 𝕄) :
    iprop(Own c m X) ⊢ iprop((Own c m X -∗ Wp c (k X) Q) -∗ Wp c (Prog.op (.load m (Rect.unit off s.size inb).toLoadRect hl) k) Q) := by
  have h := wp_ld c m (Rect.unit off s.size inb) (hl := hl) X k Q
  rw [View.ld_unit_zero h0 inb X] at h
  exact h

theorem wp_st0 {s : Shape} {e : EltTy} (m : Memref sig .tc .vmem s e) {off : Fin s.rank → ℕ} (h0 : off = fun _ => 0) (inb : ∀ a, off a + s.size a ≤ s.size a)
    {hx} {hm} (X w : s.Idx → Elt F e) {α : Type} (k : PUnit → TP F α) (Q : α → sProp 𝕄) :
    iprop(Own c m X) ⊢ iprop((Own c m w -∗ Wp c (k ⟨⟩) Q) -∗ Wp c (Prog.op (.store m (Rect.unit off s.size inb) w Finset.univ hx hm) k) Q) := by
  unfold Own owns
  iintro ⟨%f, %hf, H⟩ Hk
  iapply (wp_store Variants.none (c : Thread nD τ) none Set.univ (m := m) (r := Rect.unit off s.size inb) (Mk := Finset.univ)
    (show (m.access (Rect.unit off s.size inb)).setOn Finset.univ ⊆ m.view.set from View.set_slice_subset m.view _)) $$ H; iintro H
  iapply Hk
  iexists _
  isplitr; swap
  · iexact H
  ipureintro
  subst h0
  have e := View.read_write_univ (Val := Elt F) (v := m.access (Rect.whole s)) f w
  funext x
  have ex := congrFun e x
  refine Eq.trans ?_ ex
  show m.view.read (Elt F) _ x = m.view.read (Elt F) _ ((Rect.whole s).emb x)
  rw [Rect.emb_whole_apply]
  rfl

theorem wp_bnd {α β : Type} (p : TP F α) (k : α → TP F β) (Q : β → sProp 𝕄) : Wp c (p.bind k) Q = Wp c p fun a => Wp c (k a) Q :=
  wp_bind frame (wpE (defs₀ (F := F)) Variants.none (c : Thread nD τ) none) Set.univ p k Q

theorem wp_done {α : Type} (a : α) (Q : α → sProp 𝕄) : Q a ⊢ Wp c (Pure.pure a) Q := by
  show Q a ⊢ wp frame (wpE (defs₀ (F := F)) Variants.none (c : Thread nD τ) none) Set.univ (Prog.ret a) Q
  rw [wp_ret]
  iintro H; imodintro; iexact H

theorem z2 : (![0, 0] : Fin 2 → ℕ) = fun _ => 0 := by funext a; fin_cases a <;> rfl
theorem z3 : (![0, 0, 0] : Fin 3 → ℕ) = fun _ => 0 := by funext a; fin_cases a <;> rfl

theorem wp_ldT (m : Memref sig .tc .vmem S16x128 .f32) (X : FVec F S16x128 .f32) {α : Type} (k : FVec F S16x128 .f32 → TP F α) (Q : α → sProp 𝕄) :
    iprop(Own c m X) ⊢ iprop((Own c m X -∗ Wp c (k X) Q) -∗ Wp c (ldT m k) Q) :=
  wp_ld0 c m z2 _ X k Q

theorem wp_stT (m : Memref sig .tc .vmem S16x128 .f32) (X w : FVec F S16x128 .f32) {α : Type} (k : PUnit → TP F α) (Q : α → sProp 𝕄) :
    iprop(Own c m X) ⊢ iprop((Own c m w -∗ Wp c (k ⟨⟩) Q) -∗ Wp c (stT m w k) Q) :=
  wp_st0 c m z2 _ X w k Q

/-- The table of maxima after one segment's step. -/
def stepM (h : FVec F S2048x128 .f32) (v34 : IVec S2048x128 32) (v35 : IVec S16x1 32) (s : BitVec 32) (cd : BitVec 1) (acc : FVec F S16x128 .f32) : FVec F S16x128 .f32 :=
  if cd = 1#1 then maxOf h v34 v35 s acc acc else acc

theorem wp_seg (m : Memref sig .tc .vmem S16x128 .f32) (X : FVec F S16x128 .f32) (h : FVec F S2048x128 .f32) (v34 : IVec S2048x128 32) (v35 : IVec S16x1 32)
    (s : BitVec 32) (cd : BitVec 1) {α : Type} (k : TP F α) (Q : α → sProp 𝕄) :
    iprop(Own c m X) ⊢ iprop((Own c m (stepM h v34 v35 s cd X) -∗ Wp c k Q) -∗ Wp c (seg m h v34 v35 s cd k) Q) := by
  unfold seg stepM
  by_cases hc : cd = 1#1
  · rw [if_pos hc, if_pos hc]
    iintro H Hk
    iapply (wp_ldT c m X) $$ H; iintro H
    iapply (wp_ldT c m X) $$ H; iintro H
    iapply (wp_ldT c m X) $$ H; iintro H
    iapply (wp_stT c m X) $$ H; iintro H
    iapply Hk; iexact H
  · rw [if_neg hc, if_neg hc]
    iintro H Hk
    iapply Hk; iexact H

/-- The table of maxima after a block. -/
def maxAll (h : FVec F S2048x128 .f32) (v4 : IVec S2048 32) (acc : FVec F S16x128 .f32) : FVec F S16x128 .f32 :=
  [0#32, 1#32, 2#32, 3#32, 4#32, 5#32, 6#32, 7#32, 8#32, 9#32, 10#32, 11#32, 12#32, 13#32, 14#32, 15#32].foldl
    (fun a s => stepM h (wide v4) nums s (cond (lo v4) (hi v4) s) a) acc

/-- Whether the block is the first, as the body decides it. -/
def first (i : grid0.Coords) : BitVec 1 := Scalar.cmpi .ne (Scalar.extui (Scalar.cmpi .eq (BitVec.ofNat 32 (i 0).val) 0#32) : BitVec 32) 0#32

variable (i : grid0.Coords) (arg1 : Memref sig .tc .vmem S2048x128 .f32) (harg1 : arg1.IsWhole) (arg2 : Memref sig .tc .vmem S1x1x2048 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S1x32 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole)

theorem wp_start (S M : FVec F S16x128 .f32) {α : Type} (k : TP F α) (Q : α → sProp 𝕄) :
    iprop(Own c arg9 S ∗ Own c arg10 M) ⊢ iprop((Own c arg9 (if first i = 1#1 then zeros else S) ∗ Own c arg10 (if first i = 1#1 then lows else M) -∗ Wp c k Q)
      -∗ Wp c (start i arg9 arg10 k) Q) := by
  unfold start
  by_cases hc : first i = 1#1
  · have hc' := hc
    unfold first at hc'
    rw [dif_pos hc', if_pos hc, if_pos hc]
    iintro ⟨HS, HM⟩ Hk
    iapply (wp_ldT c arg9 S) $$ HS; iintro HS
    iapply (wp_stT c arg9 S) $$ HS; iintro HS
    iapply (wp_ldT c arg10 M) $$ HM; iintro HM
    iapply (wp_stT c arg10 M) $$ HM; iintro HM
    iapply Hk
    isplitl [HS]; · iexact HS
    iexact HM
  · have hc' := hc
    unfold first at hc'
    rw [dif_neg hc', if_neg hc, if_neg hc]
    iintro ⟨HS, HM⟩ Hk
    iapply Hk
    isplitl [HS]; · iexact HS
    iexact HM

/-- The result from the two tables. -/
def resOf (X7 : IVec S1x32 32) (X5 : FVec F S128x256 .f32) (X6 : FVec F S1x128 .f32) (S M : FVec F S16x128 .f32) : FVec F S16x128 .f32 :=
  outOf (both (diag (invs (View.ld (Val := Elt F) (e' := .i32) X7 (Rect.unit (s := S1x32) ![0, 1] S1x16.size inb_S1x32_S1x16_0_1))
    (View.ld (Val := Elt F) (e' := .i32) X7 (Rect.unit (s := S1x32) ![0, 0] S1x16.size inb_S1x32_S1x16_0_0)))) S M) X5 X6

theorem wp_finish (X7 : IVec S1x32 32) (X5 : FVec F S128x256 .f32) (X6 : FVec F S1x128 .f32) (Y S M : FVec F S16x128 .f32) (Q : PUnit → sProp 𝕄) :
    iprop(Own c arg5 X5 ∗ Own c arg6 X6 ∗ Own (e := .i32) c arg7 X7 ∗ Own c arg8 Y ∗ Own c arg9 S ∗ Own c arg10 M)
      ⊢ iprop((Own c arg5 X5 ∗ Own c arg6 X6 ∗ Own (e := .i32) c arg7 X7 ∗ Own c arg8 (if k0_cond18 i = 1#1 then resOf X7 X5 X6 S M else Y) ∗ Own c arg9 S ∗ Own c arg10 M -∗ Q ⟨⟩)
        -∗ Wp c (finish i arg5 arg6 arg7 arg8 arg9 arg10) Q) := by
  unfold finish
  by_cases hc : k0_cond18 i = 1#1
  · rw [dif_pos hc, if_pos hc]
    iintro ⟨H5, H6, H7, H8, H9, H10⟩ Hk
    iapply (wp_ld (e := .i32) c arg7 _ X7) $$ H7; iintro H7
    iapply (wp_ld (e := .i32) c arg7 _ X7) $$ H7; iintro H7
    iapply (wp_ldT c arg9 S) $$ H9; iintro H9
    iapply (wp_ldT c arg10 M) $$ H10; iintro H10
    iapply (wp_ld0 c arg5 z2 _ X5) $$ H5; iintro H5
    iapply (wp_ld0 c arg6 z2 _ X6) $$ H6; iintro H6
    iapply (wp_ldT c arg8 Y) $$ H8; iintro H8
    iapply (wp_stT c arg8 Y) $$ H8; iintro H8
    iapply (wp_done c)
    iapply Hk
    isplitl [H5]; · iexact H5
    isplitl [H6]; · iexact H6
    isplitl [H7]; · iexact H7
    isplitl [H8]; · iexact H8
    isplitl [H9]; · iexact H9
    iexact H10
  · rw [dif_neg hc, if_neg hc]
    iintro H Hk
    iapply (wp_done c)
    iapply Hk
    iexact H

theorem wp_body (X1 : FVec F S2048x128 .f32) (X2 : IVec S1x1x2048 32) (X3 : FVec F S128x128 .f32) (X4 : FVec F S1x128 .f32)
    (X7 : IVec S1x32 32) (X5 : FVec F S128x256 .f32) (X6 : FVec F S1x128 .f32) (Y S M S' M' : FVec F S16x128 .f32)
    (hS : S' = sumOf (flat X2) (hOf X1 X3 X4) (if first i = 1#1 then zeros else S)) (hM : M' = maxAll (hOf X1 X3 X4) (flat X2) (if first i = 1#1 then lows else M)) (Q : PUnit → sProp 𝕄) :
    iprop(Own c arg1 X1 ∗ Own (e := .i32) c arg2 X2 ∗ Own c arg3 X3 ∗ Own c arg4 X4 ∗ Own c arg5 X5 ∗ Own c arg6 X6 ∗ Own (e := .i32) c arg7 X7 ∗ Own c arg8 Y ∗ Own c arg9 S ∗ Own c arg10 M)
      ⊢ iprop((Own c arg1 X1 ∗ Own (e := .i32) c arg2 X2 ∗ Own c arg3 X3 ∗ Own c arg4 X4 ∗ Own c arg5 X5 ∗ Own c arg6 X6 ∗ Own (e := .i32) c arg7 X7
          ∗ Own c arg8 (if k0_cond18 i = 1#1 then resOf X7 X5 X6 S' M' else Y) ∗ Own c arg9 S' ∗ Own c arg10 M' -∗ Q ⟨⟩)
        -∗ Wp c (cc0__pool_body i arg1 harg1 arg2 harg2 arg3 harg3 arg4 harg4 arg5 harg5 arg6 harg6 arg7 harg7 arg8 harg8 arg9 harg9 arg10 harg10) Q) := by
  subst hS hM
  rw [body_eq]
  iintro ⟨H1, H2, H3, H4, H5, H6, H7, H8, H9, H10⟩ Hk
  rw [wp_bnd, part1_eq]
  iapply (wp_start c i arg9 arg10 S M) $$ [H9 H10]
  · isplitl [H9]; · iexact H9
    iexact H10
  iintro ⟨H9, H10⟩
  iapply (wp_ld0 (e := .i32) c arg2 z3 _ X2) $$ H2; iintro H2
  iapply (wp_ld0 c arg1 z2 _ X1) $$ H1; iintro H1
  iapply (wp_ld0 c arg3 z2 _ X3) $$ H3; iintro H3
  iapply (wp_ld0 c arg4 z2 _ X4) $$ H4; iintro H4
  iapply (wp_ldT c arg9) $$ H9; iintro H9
  iapply (wp_ldT c arg9) $$ H9; iintro H9
  iapply (wp_stT c arg9) $$ H9; iintro H9
  iapply (wp_done c)
  rw [wp_bnd, part2_eq]
  iapply (wp_seg c arg10) $$ H10; iintro H10
  iapply (wp_seg c arg10) $$ H10; iintro H10
  iapply (wp_seg c arg10) $$ H10; iintro H10
  iapply (wp_seg c arg10) $$ H10; iintro H10
  iapply (wp_seg c arg10) $$ H10; iintro H10
  iapply (wp_seg c arg10) $$ H10; iintro H10
  iapply (wp_done c)
  rw [wp_bnd, part3_eq]
  iapply (wp_seg c arg10) $$ H10; iintro H10
  iapply (wp_seg c arg10) $$ H10; iintro H10
  iapply (wp_seg c arg10) $$ H10; iintro H10
  iapply (wp_seg c arg10) $$ H10; iintro H10
  iapply (wp_seg c arg10) $$ H10; iintro H10
  iapply (wp_seg c arg10) $$ H10; iintro H10
  iapply (wp_seg c arg10) $$ H10; iintro H10
  iapply (wp_done c)
  iapply (wp_seg c arg10) $$ H10; iintro H10
  iapply (wp_seg c arg10) $$ H10; iintro H10
  iapply (wp_seg c arg10) $$ H10; iintro H10
  iapply (wp_finish c i arg5 arg6 arg7 arg8 arg9 arg10 X7 X5 X6 Y) $$ [H5 H6 H7 H8 H9 H10]
  · isplitl [H5]; · iexact H5
    isplitl [H6]; · iexact H6
    isplitl [H7]; · iexact H7
    isplitl [H8]; · iexact H8
    isplitl [H9]; · iexact H9
    iexact H10
  iintro ⟨H5, H6, H7, H8, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.PoolIdeal.Run
end
-- ==== Proof.PoolOps.lean ====
module
public import proofs.«01_k».proof.Proof.PoolIdealRun
public import proofs.«01_k».proof.Proof.Gen.PoolIdeal
public import Idealize.ShloMosaic.Lib.MatmulPlain
public import Idealize.ShloMosaic.Lib.ValueIdx
public import Idealize.ShloMosaic.Lib.ValueIdxRank1
public import Idealize.ShloMosaic.Lib.IdealHost
public import Idealize.ShloMosaic.Lib.KernelVsHost
public import Idealize.ShloMosaic.Lib.ReduceAll
public import Idealize.ShloMosaic.Lib.StableHlo.Predicate
public import Idealize.ShloMosaic.Lib.Pointwise
public import Idealize.ShloMosaic.Lib.WordCmp
public import Idealize.ShloMosaic.PureOps.Reduce
@[expose] public section
noncomputable section
/-! The pooling body's steps, entry by entry, over the exact values. -/
namespace Cert.Proof.PoolOps
open Cert.PoolIdeal Cert.PoolIdeal.Facts₀ Cert.PoolIdeal.Facts Cert.PoolIdeal.Gen Cert.Proof.PoolIdeal.Text Cert.Proof.PoolIdeal.Run
open Idealize.ShloMosaic

/-- The float of all sign bit and exponent bits is the least value. -/
theorem ofBits_least : Ideal.ofBits .f32 0xFF800000#32 = ⊥ := by
  simp [Ideal.ofBits, Ideal.ieee]

/-- The value the maxima start from is the least. -/
theorem low_eq : (Named.named (F := Ideal) Cert.PoolIdeal.κ "low" (φ := .f32) 0xFF61B1E6#32 : EReal) = ⊥ := rfl

/-- A choice by an equality of words, -/
theorem pick {α : Type} (a b : BitVec 32) (x y : α) : Scalar.select (IntOp.cmpi .eq a b) x y = if a = b then x else y := by
  rw [WordCmp.cmpi_eq_eq, WordCmp.select_ofBool]; by_cases h : a = b <;> simp [h]

/-- and a product by an equality's number. -/
theorem hot_mul (a b : BitVec 32) (x : EReal) :
    (FloatOps.sitofp (F := Ideal) .f32 (BitVec.setWidth 32 (IntOp.cmpi .eq a b)) : EReal) * x = if b = a then x else 0 := by
  rw [WordCmp.cmpi_eq_eq]
  by_cases h : a = b
  · have e : (FloatOps.sitofp (F := Ideal) .f32 (BitVec.setWidth 32 (BitVec.ofBool (decide (a = b)))) : EReal) = 1 := by
      rw [decide_eq_true h]; show (((BitVec.setWidth 32 (BitVec.ofBool true)).toInt : ℝ) : EReal) = 1
      rw [show (BitVec.setWidth 32 (BitVec.ofBool true)).toInt = 1 from by decide]; norm_num
    rw [e, one_mul, if_pos h.symm]
  · have e : (FloatOps.sitofp (F := Ideal) .f32 (BitVec.setWidth 32 (BitVec.ofBool (decide (a = b)))) : EReal) = 0 := by
      rw [decide_eq_false h]; show (((BitVec.setWidth 32 (BitVec.ofBool false)).toInt : ℝ) : EReal) = 0
      rw [show (BitVec.setWidth 32 (BitVec.ofBool false)).toInt = 0 from by decide]; norm_num
    rw [e, zero_mul, if_neg fun h' => h h'.symm]

theorem ofNat_inj (s t : Fin 16) : BitVec.ofNat 32 s.val = BitVec.ofNat 32 t.val ↔ s = t := by
  refine ⟨fun h => ?_, fun h => h ▸ rfl⟩
  have := congrArg BitVec.toNat h
  simp only [BitVec.toNat_ofNat] at this
  omega

theorem hOf_apply (x : FVec Ideal S2048x128 .f32) (w : FVec Ideal S128x128 .f32) (b : FVec Ideal S1x128 .f32) (r : Fin 2048) (c : Fin 128) :
    hOf x w b (ix2 r c) = (∑ k : Fin 128, x (ix2 r k) * w (ix2 c k)) + b (ix2 0 c) := by
  unfold hOf
  pointwise

theorem flat_apply (v : IVec S1x1x2048 32) (r : Fin 2048) : flat v (ix1 r) = v (ix3 0 0 r) := by
  unfold flat
  pointwise

theorem zeros_apply (s : Fin 16) (c : Fin 128) : zeros (F := Ideal) (ix2 s c) = 0 := by
  unfold zeros
  pointwise

theorem lows_apply (s : Fin 16) (c : Fin 128) : lows (F := Ideal) (ix2 s c) = ⊥ := by
  unfold lows
  pointwise
  exact low_eq

theorem sumOf_apply (v : IVec S2048 32) (h : FVec Ideal S2048x128 .f32) (acc : FVec Ideal S16x128 .f32) (s : Fin 16) (c : Fin 128) :
    sumOf v h acc (ix2 s c) = acc (ix2 s c) + ∑ r : Fin 2048, if v (ix1 r) = BitVec.ofNat 32 s.val then h (ix2 r c) else 0 := by
  unfold sumOf hot
  pointwise
  exact congrArg _ (Finset.sum_congr rfl fun r _ => hot_mul _ _ _)

/-- The greatest entry of a block's column among the rows of a segment. -/
def blockMax (v : IVec S2048 32) (h : FVec Ideal S2048x128 .f32) (q : BitVec 32) (c : Fin 128) : EReal :=
  Finset.univ.sup fun r : Fin 2048 => if v (ix1 r) = q then (h (ix2 r c) : EReal) else ⊥

theorem maxOf_apply (v : IVec S2048 32) (h : FVec Ideal S2048x128 .f32) (acc acc' : FVec Ideal S16x128 .f32) (q : BitVec 32) (s : Fin 16) (c : Fin 128) :
    maxOf h (wide v) nums q acc acc' (ix2 s c) = if BitVec.ofNat 32 s.val = q then max (acc (ix2 s c) : EReal) (blockMax v h q c) else acc' (ix2 s c) := by
  unfold maxOf wide nums low
  pointwise
  simp only [pick, low_eq, ofBits_least]
  rfl

theorem invs_apply (a b : IVec S1x16 32) (s : Fin 16) : Cert.Proof.PoolIdeal.Text.invs (F := Ideal) a b (ix1 s) = Ideal.div 1 (max (((a (ix2 0 s) - b (ix2 0 s)).toInt : ℝ) : EReal) 1) := by
  unfold Cert.Proof.PoolIdeal.Text.invs
  pointwise
  rfl

theorem diag_apply (v : FVec Ideal S16 .f32) (s t : Fin 16) : diag v (ix2 s t) = if s = t then (v (ix1 t) : EReal) else 0 := by
  unfold diag
  pointwise
  rw [pick]
  exact if_congr (ofNat_inj s t) rfl rfl

theorem both_left (d : FVec Ideal S16x16 .f32) (S M : FVec Ideal S16x128 .f32) (s : Fin 16) (c : Fin 128) :
    both d S M (ix2 s ⟨c.val, by omega⟩) = ∑ t : Fin 16, (d (ix2 s t) : EReal) * S (ix2 t c) := by
  unfold both
  pointwise

theorem both_right (d : FVec Ideal S16x16 .f32) (S M : FVec Ideal S16x128 .f32) (s : Fin 16) (c : Fin 128) :
    both d S M (ix2 s ⟨128 + c.val, by omega⟩) = M (ix2 s c) := by
  unfold both
  pointwise

theorem outOf_apply (p : FVec Ideal S16x256 .f32) (w : FVec Ideal S128x256 .f32) (b : FVec Ideal S1x128 .f32) (s : Fin 16) (c : Fin 128) :
    outOf p w b (ix2 s c) = (∑ k : Fin 256, p (ix2 s k) * w (ix2 c k)) + b (ix2 0 c) := by
  unfold outOf
  pointwise

theorem minsi_toInt (x y : BitVec 32) : (IntOp.minsi x y).toInt = min x.toInt y.toInt := by
  unfold IntOp.minsi
  rw [BitVec.slt_eq_decide]
  by_cases h : x.toInt < y.toInt
  · rw [if_pos (decide_eq_true h), min_eq_left h.le]
  · rw [if_neg (by simp [h]), min_eq_right (not_lt.1 h)]

theorem maxsi_toInt (x y : BitVec 32) : (IntOp.maxsi x y).toInt = max x.toInt y.toInt := by
  unfold IntOp.maxsi
  rw [BitVec.slt_eq_decide]
  by_cases h : y.toInt < x.toInt
  · rw [if_pos (decide_eq_true h), max_eq_left h.le]
  · rw [if_neg (by simp [h]), max_eq_right (not_lt.1 h)]

/-- A block's least index is at most each, -/
theorem lo_le (v : IVec S2048 32) (r : Fin 2048) : (lo v).toInt ≤ (v (ix1 r)).toInt := by
  unfold lo
  pointwise
  have : ∀ S : Finset (Fin 2048), r ∈ S → (Finset.fold IntOp.minsi (2147483647#32) (fun x => v (ix1 x)) S).toInt ≤ (v (ix1 r)).toInt := by
    intro S
    induction S using Finset.induction_on with
    | empty => intro h; exact absurd h (Finset.notMem_empty _)
    | insert a S ha ih =>
      intro h
      rw [Finset.fold_insert ha, minsi_toInt]
      rcases Finset.mem_insert.1 h with h | h
      · subst h; exact min_le_left _ _
      · exact (min_le_right _ _).trans (ih h)
  exact this _ (Finset.mem_univ _)

/-- and its greatest at least each. -/
theorem le_hi (v : IVec S2048 32) (r : Fin 2048) : (v (ix1 r)).toInt ≤ (hi v).toInt := by
  unfold hi
  pointwise
  have : ∀ S : Finset (Fin 2048), r ∈ S → (v (ix1 r)).toInt ≤ (Finset.fold IntOp.maxsi (2147483648#32) (fun x => v (ix1 x)) S).toInt := by
    intro S
    induction S using Finset.induction_on with
    | empty => intro h; exact absurd h (Finset.notMem_empty _)
    | insert a S ha ih =>
      intro h
      rw [Finset.fold_insert ha, maxsi_toInt]
      rcases Finset.mem_insert.1 h with h | h
      · subst h; exact le_max_left _ _
      · exact (ih h).trans (le_max_right _ _)
  exact this _ (Finset.mem_univ _)

/-- A segment with a row in the block is not skipped. -/
theorem cond_of (v : IVec S2048 32) (r : Fin 2048) : Cert.Proof.PoolIdeal.Text.cond (lo v) (hi v) (v (ix1 r)) = 1#1 := by
  unfold Cert.Proof.PoolIdeal.Text.cond
  show IntOp.cmpi .ne (BitVec.setWidth 32 (IntOp.cmpi .sle (lo v) (v (ix1 r)) &&& IntOp.cmpi .sge (hi v) (v (ix1 r)))) 0#32 = 1#1
  rw [WordCmp.cmpi_sle_eq, WordCmp.cmpi_sge_eq, decide_eq_true (lo_le v r), decide_eq_true (le_hi v r)]
  decide

/-- The table of maxima after one segment, skipped or not: -/
theorem stepM_apply (v : IVec S2048 32) (h : FVec Ideal S2048x128 .f32) (acc : FVec Ideal S16x128 .f32) (q : BitVec 32) (s : Fin 16) (c : Fin 128) :
    stepM h (wide v) nums q (Cert.Proof.PoolIdeal.Text.cond (lo v) (hi v) q) acc (ix2 s c) = if BitVec.ofNat 32 s.val = q then max (acc (ix2 s c) : EReal) (blockMax v h q c) else acc (ix2 s c) := by
  unfold stepM
  split
  · exact maxOf_apply v h acc acc q s c
  · next hc =>
    have hb : blockMax v h q c = ⊥ := by
      refine Finset.sup_eq_bot_iff _ _ |>.2 fun r _ => if_neg fun e => hc ?_
      subst e; exact cond_of v r
    rw [hb, max_eq_left bot_le, ite_self]

theorem fold_apply (v : IVec S2048 32) (h : FVec Ideal S2048x128 .f32) (s : Fin 16) (c : Fin 128) :
    ∀ (l : List (BitVec 32)) (acc : FVec Ideal S16x128 .f32), l.Nodup →
      l.foldl (fun a q => stepM h (wide v) nums q (Cert.Proof.PoolIdeal.Text.cond (lo v) (hi v) q) a) acc (ix2 s c)
        = if BitVec.ofNat 32 s.val ∈ l then max (acc (ix2 s c) : EReal) (blockMax v h (BitVec.ofNat 32 s.val) c) else acc (ix2 s c) := by
  intro l
  induction l with
  | nil => intro acc _; rw [if_neg List.not_mem_nil]; rfl
  | cons q l ih =>
    intro acc hl
    rw [List.foldl_cons, ih _ (List.nodup_cons.1 hl).2, stepM_apply]
    by_cases e : BitVec.ofNat 32 s.val = q
    · subst e
      rw [if_neg (List.nodup_cons.1 hl).1, if_pos rfl, if_pos List.mem_cons_self]
    · rw [if_neg e]
      by_cases e' : BitVec.ofNat 32 s.val ∈ l
      · rw [if_pos e', if_pos (List.mem_cons_of_mem _ e')]
      · rw [if_neg e', if_neg fun h => (List.mem_cons.1 h).elim e e']

/-- and after all sixteen. -/
theorem maxAll_apply (v : IVec S2048 32) (h : FVec Ideal S2048x128 .f32) (acc : FVec Ideal S16x128 .f32) (s : Fin 16) (c : Fin 128) :
    maxAll h v acc (ix2 s c) = max (acc (ix2 s c) : EReal) (blockMax v h (BitVec.ofNat 32 s.val) c) := by
  unfold maxAll
  rw [fold_apply v h s c _ _ (by decide), if_pos (by revert s; decide)]

end Cert.Proof.PoolOps
end
-- ==== Proof.PoolIdealLoop.lean ====
module
public import proofs.«01_k».proof.Proof.PoolIdealRun
public import Idealize.ShloMosaic.Lib.Pipeline.Frame
public import Idealize.ShloMosaic.Lib.Pipeline.TableIdle
@[expose] public section
set_option maxRecDepth 16384
noncomputable section
/-! The pooling call: its two tables from block to block, and the run of the whole call. -/
namespace Cert.Proof.PoolIdeal.Loop
open Cert.PoolIdeal Cert.PoolIdeal.Facts₀ Cert.PoolIdeal.Facts Cert.PoolIdeal.Gen Cert.Proof.PoolIdeal.Text Cert.Proof.PoolIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg) (c : Dev nD)

/-! ## The operands at a block -/

def blkX (t : Fin cfg0.N) : FVec F S2048x128 .f32 := iblk m c 0 t
def blkI (t : Fin cfg0.N) : IVec S1x1x2048 32 := iblk m c 1 t
def blkW1 (t : Fin cfg0.N) : FVec F S128x128 .f32 := iblk m c 2 t
def blkB1 (t : Fin cfg0.N) : FVec F S1x128 .f32 := iblk m c 3 t
def blkW2 (t : Fin cfg0.N) : FVec F S128x256 .f32 := iblk m c 4 t
def blkB2 (t : Fin cfg0.N) : FVec F S1x128 .f32 := iblk m c 5 t
def blkR (t : Fin cfg0.N) : IVec S1x32 32 := iblk m c 6 t

/-- The hidden rows of a block. -/
def hid (t : Fin cfg0.N) : FVec F S2048x128 .f32 := hOf (blkX m c t) (blkW1 m c t) (blkB1 m c t)

/-- The table of sums after the first `n` blocks. -/
def accS : ℕ → FVec F S16x128 .f32
  | 0 => zeros
  | n + 1 => if h : n < cfg0.N then sumOf (flat (blkI m c ⟨n, h⟩)) (hid m c ⟨n, h⟩) (accS n) else accS n

/-- The table of maxima after the first `n` blocks. -/
def accM : ℕ → FVec F S16x128 .f32
  | 0 => lows
  | n + 1 => if h : n < cfg0.N then maxAll (hid m c ⟨n, h⟩) (flat (blkI m c ⟨n, h⟩)) (accM n) else accM n

theorem accS_succ (t : Fin cfg0.N) : accS m c (t.val + 1) = sumOf (flat (blkI m c t)) (hid m c t) (accS m c t.val) := by
  rw [accS, dif_pos t.isLt]

theorem accM_succ (t : Fin cfg0.N) : accM m c (t.val + 1) = maxAll (hid m c t) (flat (blkI m c t)) (accM m c t.val) := by
  rw [accM, dif_pos t.isLt]

/-- The result. -/
def res (t : Fin cfg0.N) : FVec F S16x128 .f32 := resOf (blkR m c t) (blkW2 m c t) (blkB2 m c t) (accS m c 16) (accM m c 16)

/-! ## The proof data -/

/-- What the call keeps between two blocks. -/
def inv (n : ℕ) : sProp 𝕄 :=
  iprop((∃ S, ∃ M, ⌜n ≠ 0 → S = accS m c n ∧ M = accM m c n⌝ ∗ Own c (Memref.whole cc0_scratch0) S ∗ Own c (Memref.whole cc0_scratch1) M)
    ∗ ∃ r, prngReg (c : Thread nD τ).1 r)

/-- What the body leaves in each window's buffer. -/
def left : (w : Fin cfg0.W) → (t : Fin cfg0.N) → (cfg0.win w).block.Idx → Elt F (cfg0.win w).elt
  | ⟨0, _⟩, t => blkX m c t
  | ⟨1, _⟩, t => blkI m c t
  | ⟨2, _⟩, t => blkW1 m c t
  | ⟨3, _⟩, t => blkB1 m c t
  | ⟨4, _⟩, t => blkW2 m c t
  | ⟨5, _⟩, t => blkB2 m c t
  | ⟨6, _⟩, t => blkR m c t
  | ⟨7, _⟩, t => res m c t
  | ⟨_ + 8, h⟩, _ => absurd h (Nat.not_lt.2 (Nat.le_add_left 8 _))

def dats (_ : Fin 1) (c : Dev nD) : Dat τ (Elt F) Unit ℕ (UR sig nD τ) ℕ cfg0 c where
  A w := V m c (Pipeline.arrRef spec0 w)
  after w t := left m c w t
  Φ t := inv m c t.val
  q _ := fullShare
  owed _ := 0

theorem first_iff : ∀ t : Fin cfg0.N, first (grid0.coords t) = 1#1 ↔ t.val = 0 := by decide +kernel
theorem last_iff : ∀ t : Fin cfg0.N, k0_cond18 (grid0.coords t) = 1#1 ↔ t.val = 15 := by decide +kernel

theorem out_mid (t : Fin cfg0.N) (h : t.val ≠ 15) :
    (dats m 0 c).leavesExact 7 t = iprop(∃ d, owns (c : Thread nD τ) ((cfg0.win 7).stage (cfg0.slots t 7)) fullShare ((dats m 0 c).before 7 t d)) := by
  refine (dats m 0 c).leavesExact_idle 7 t ?_ ?_
  · show (!(k0_cond18 (grid0.coords t) == 1#1)) = true
    have := mt (last_iff t).1 h
    simpa using this
  · refine Bool.eq_false_iff.2 fun hf => h ?_
    have := (flush0_7 t).1 hf
    have := t.isLt; have : cfg0.N = 16 := N_0
    omega

theorem out_last (t : Fin cfg0.N) (h : t.val = 15) :
    (dats m 0 c).leavesExact 7 t = iprop(owns (c : Thread nD τ) ((cfg0.win 7).stage (cfg0.slots t 7)) fullShare (res m c t)) := by
  have hi : cfg0.idle 7 (cfg0.grid.coords t) = false := by
    show (!(k0_cond18 (grid0.coords t) == 1#1)) = false
    rw [(last_iff t).2 h]; rfl
  unfold Dat.leavesExact
  rw [hi]
  rfl

theorem step (t : Fin cfg0.N) :
    iprop(inv m c t.val ∗ (dats m 0 c).owesAt () t.castSucc
        ∗ (∃ d, Own c (st0_0 t) ((dats m 0 c).before 0 t d)) ∗ (∃ d, Own c (st0_1 t) ((dats m 0 c).before 1 t d))
        ∗ (∃ d, Own c (st0_2 t) ((dats m 0 c).before 2 t d)) ∗ (∃ d, Own c (st0_3 t) ((dats m 0 c).before 3 t d))
        ∗ (∃ d, Own c (st0_4 t) ((dats m 0 c).before 4 t d)) ∗ (∃ d, Own c (st0_5 t) ((dats m 0 c).before 5 t d))
        ∗ (∃ d, Own c (st0_6 t) ((dats m 0 c).before 6 t d)) ∗ (∃ d, Own c (st0_7 t) ((dats m 0 c).before 7 t d)))
      ⊢ Wp c (bodyAt0 t) fun _ => iprop(inv m c (t.val + 1) ∗ (dats m 0 c).owesAt () t.castSucc
        ∗ Own c (st0_0 t) (left m c 0 t) ∗ Own c (st0_1 t) (left m c 1 t) ∗ Own c (st0_2 t) (left m c 2 t) ∗ Own c (st0_3 t) (left m c 3 t)
        ∗ Own c (st0_4 t) (left m c 4 t) ∗ Own c (st0_5 t) (left m c 5 t) ∗ Own c (st0_6 t) (left m c 6 t) ∗ (dats m 0 c).leavesExact 7 t) := by
  simp only [before0_0_of m (dats m 0 c) rfl (fun _ => rfl), before0_1_of m (dats m 0 c) rfl (fun _ => rfl), before0_2_of m (dats m 0 c) rfl (fun _ => rfl),
    before0_3_of m (dats m 0 c) rfl (fun _ => rfl), before0_4_of m (dats m 0 c) rfl (fun _ => rfl), before0_5_of m (dats m 0 c) rfl (fun _ => rfl),
    before0_6_of m (dats m 0 c) rfl (fun _ => rfl)]
  unfold inv bodyAt0
  iintro ⟨⟨⟨%S, %M, %hSM, HS, HM⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  have hS : accS m c (t.val + 1) = sumOf (flat (blkI m c t)) (hOf (blkX m c t) (blkW1 m c t) (blkB1 m c t)) (if first (grid0.coords t) = 1#1 then zeros else S) := by
    rw [accS_succ]
    by_cases h0 : t.val = 0
    · rw [if_pos ((first_iff t).2 h0), h0]; rfl
    · rw [if_neg (mt (first_iff t).1 h0), (hSM h0).1]; rfl
  have hM : accM m c (t.val + 1) = maxAll (hOf (blkX m c t) (blkW1 m c t) (blkB1 m c t)) (flat (blkI m c t)) (if first (grid0.coords t) = 1#1 then lows else M) := by
    rw [accM_succ]
    by_cases h0 : t.val = 0
    · rw [if_pos ((first_iff t).2 h0), h0]; rfl
    · rw [if_neg (mt (first_iff t).1 h0), (hSM h0).2]; rfl
  iapply (wp_body c (grid0.coords t) (st0_0 t) _ (st0_1 t) _ (st0_2 t) _ (st0_3 t) _ (st0_4 t) _ (st0_5 t) _ (st0_6 t) _ (st0_7 t) _
    (Memref.whole cc0_scratch0) _ (Memref.whole cc0_scratch1) _
    (blkX m c t) (blkI m c t) (blkW1 m c t) (blkB1 m c t) (blkR m c t) (blkW2 m c t) (blkB2 m c t) ((dats m 0 c).before 7 t d7) S M _ _ hS hM) $$ [H0 H1 H2 H3 H4 H5 H6 H7 HS HM]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iexact HM
  iintro ⟨H0, H1, H2, H3, H4, H5, H6, H7, HS, HM⟩
  isplitl [HS HM Hg]
  · isplitl [HS HM]
    · iexists _; iexists _
      isplitr; swap
      · isplitl [HS]; · iexact HS
        iexact HM
      ipureintro
      exact fun _ => ⟨rfl, rfl⟩
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h : t.val = 15
  · rw [out_last m c t h, if_pos ((last_iff t).2 h), h]
    iexact H7
  · rw [out_mid m c t h, if_neg (mt (last_iff t).1 h)]
    iexists d7; iexact H7

/-- The table of bodies at a point. -/
theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (step m c t) rfl .rfl fun _ => .rfl

theorem own0 (X : FVec F S16x128 .f32) : (Own c (Memref.whole cc0_scratch0) X : sProp 𝕄) = iprop(((c : Thread nD τ).loc cc0_scratch0) ↦{fullShare} (X : Buf (Elt F) ((c : Thread nD τ).loc cc0_scratch0))) :=
  owns_whole _ _ _ _

theorem own1 (X : FVec F S16x128 .f32) : (Own c (Memref.whole cc0_scratch1) X : sProp 𝕄) = iprop(((c : Thread nD τ).loc cc0_scratch1) ↦{fullShare} (X : Buf (Elt F) ((c : Thread nD τ).loc cc0_scratch1))) :=
  owns_whole _ _ _ _

theorem inv_in : Pipeline.ΦA spec0 c ⊢ (dats m 0 c).Φ 0 := by
  show Pipeline.ΦA spec0 c ⊢ inv m c 0
  unfold Pipeline.ΦA inv
  rw [scopedRest0_eq]
  iintro ⟨⟨⟨%f, HS⟩, ⟨%g, HM⟩⟩, Hg⟩
  isplitl [HS HM]
  · iexists f; iexists g
    isplitr
    · ipureintro; exact fun h => absurd rfl h
    rw [own0, own1]
    isplitl [HS]; · iexact HS
    iexact HM
  iexact Hg

theorem inv_out : (dats m 0 c).Φ (Fin.last cfg0.N) ⊢ Pipeline.ΦA spec0 c := by
  show inv m c (Fin.last cfg0.N).val ⊢ Pipeline.ΦA spec0 c
  unfold Pipeline.ΦA inv
  rw [scopedRest0_eq]
  simp only [own0, own1]
  iintro ⟨⟨%S, %M, %h, HS, HM⟩, Hg⟩
  isplitl [HS HM]
  · isplitl [HS]
    · iexists S; iexact HS
    iexists M; iexact HM
  iexact Hg

set_option backward.isDefEq.respectTransparency.types false in
/-- The run of the call: the arrays as the blocks leave them, everything else as the call finds it, the counters at zero. -/
theorem run_main : θ_run defs (onTc (τ := τ) (main (F := F))) (Idealize.ShloMosaic.s₀ m ρ)
    (fun r => Pipeline.FramePost cfgs (dats m) 0 (V m) r ∧ r.2.sem = fun _ => 0) :=
  Pipeline.θ_run_frame_track (Q' := _) cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := inv_in m) (hout := inv_out m)

/-- The call ends, faults nowhere, and leaves its arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r (h : _ ∧ _) => ⟨fun c => ⟨((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 2).trans (((dats m 0 c).arrAt_in 2 rfl _).trans (V_main_arg3 m c)),
      ((h.1 c).2 main_arg4 (Pipeline.mem_restRefs_of main_arg4 (by decide) (by decide))).trans (V_main_arg4 m c),
      ((h.1 c).1 4).trans (((dats m 0 c).arrAt_in 4 rfl _).trans (V_main_arg5 m c)),
      ((h.1 c).2 main_arg6 (Pipeline.mem_restRefs_of main_arg6 (by decide) (by decide))).trans (V_main_arg6 m c)⟩, h.2⟩) (run_main m ρ)

end Cert.Proof.PoolIdeal.Loop
end
-- ==== Proof.PoolReads.lean ====
module
public import proofs.«01_k».proof.Proof.PoolOps
public import proofs.«01_k».proof.Proof.PoolIdealLoop
public import Idealize.ShloMosaic.Lib.Pipeline.ValueKit
public import Idealize.ShloMosaic.Lib.Claim
@[expose] public section
set_option maxRecDepth 16384
noncomputable section
/-! The pooling call's blocks, read off its arguments. -/
namespace Cert.Proof.PoolReads
open Cert.PoolIdeal Cert.PoolIdeal.Facts₀ Cert.PoolIdeal.Facts Cert.PoolIdeal.Gen Cert.Proof.PoolIdeal.Text Cert.Proof.PoolIdeal.Run Cert.Proof.PoolIdeal.Loop Cert.Proof.PoolOps
open Idealize.ShloMosaic Idealize.ShloMosaic.TcCoe

variable (m : (ℓ : Loc nD τ sig) → Buf (Elt Ideal) ℓ) (c : Dev nD)

theorem idx : ∀ t : Fin cfg0.N, win0_0.index t = ![t.val, 0] ∧ win0_1.index t = ![t.val, 0, 0] ∧ win0_2.index t = ![0, 0] ∧ win0_3.index t = ![0, 0] ∧ win0_4.index t = ![0, 0]
    ∧ win0_5.index t = ![0, 0] ∧ win0_6.index t = ![0, 0] ∧ win0_7.index t = ![0, 0] := by decide +kernel

theorem blkX_apply (t : Fin cfg0.N) (r : Fin 2048) (k : Fin 128) (h : 2048 * t.val + r.val < 32768) :
    blkX m c t (ix2 r k) = m ((c.tc : Thread nD τ).loc main_arg0) (ix2 ⟨2048 * t.val + r.val, h⟩ k) := by
  unfold blkX
  blk_ext [iblk, V, idx t]

theorem blkI_apply (t : Fin cfg0.N) (r : Fin 2048) (h : 2048 * t.val + r.val < 32768) :
    blkI m c t (ix3 0 0 r) = m ((c.tc : Thread nD τ).loc main_arg1) (ix1 ⟨2048 * t.val + r.val, h⟩) := by
  unfold blkI
  blk_ext! [iblk, V, idx t]

theorem blkW1_apply (t : Fin cfg0.N) (a k : Fin 128) : blkW1 m c t (ix2 a k) = m ((c.tc : Thread nD τ).loc main_arg3) (ix2 a k) := by
  unfold blkW1
  blk_ext [iblk, V, idx t]

theorem blkB1_apply (t : Fin cfg0.N) (k : Fin 128) : blkB1 m c t (ix2 0 k) = m ((c.tc : Thread nD τ).loc main_arg4) (ix1 k) := by
  unfold blkB1
  blk_ext! [iblk, V, idx t]

theorem blkW2_apply (t : Fin cfg0.N) (a : Fin 128) (k : Fin 256) : blkW2 m c t (ix2 a k) = m ((c.tc : Thread nD τ).loc main_arg5) (ix2 a k) := by
  unfold blkW2
  blk_ext [iblk, V, idx t]

theorem blkB2_apply (t : Fin cfg0.N) (k : Fin 128) : blkB2 m c t (ix2 0 k) = m ((c.tc : Thread nD τ).loc main_arg6) (ix1 k) := by
  unfold blkB2
  blk_ext! [iblk, V, idx t]

theorem blkR_apply (t : Fin cfg0.N) (k : Fin 17) : blkR m c t (ix2 0 (⟨k.val, by omega⟩ : Fin 32)) = m ((c.tc : Thread nD τ).loc main_arg2) (ix1 k) := by
  unfold blkR
  have e : ((((View.whole main_v5).slice (win0_6.rect t)).emb (ix2 0 (⟨k.val, by omega⟩ : Fin 32)) 1 : Fin 32) : ℕ) = k.val := by
    have e' : (((win0_6.blk t).view.emb (ix2 0 (⟨k.val, by omega⟩ : Fin 32)) 1 : Fin 32) : ℕ) = k.val := by
      blk_simp [idx t]
    exact e'
  blk_simp [iblk, V, idx t]
  entry_read
  pointwise
  rw [dif_pos (by rw [e]; exact k.isLt)]
  exact congrArg (fun i : Fin 17 => m ((c.tc : Thread nD τ).loc main_arg2) (ix1 i)) (Fin.ext e)

end Cert.Proof.PoolReads
end
-- ==== Proof.PoolSpec.lean ====
module
public import Idealize.ShloMosaic.Lib.Pointwise
public import Idealize.ShloMosaic.Lib.IdealHost
@[expose] public section
noncomputable section
/-! The pooled table as a formula: segment sums and maxima of the hidden rows, and the second linear map. -/
namespace Cert.Proof.PoolSpec
open Idealize.ShloMosaic

variable (X : FVec Ideal ⟨2, ![32768, 128]⟩ .f32) (I : IVec ⟨1, ![32768]⟩ 32) (W1 : FVec Ideal ⟨2, ![128, 128]⟩ .f32) (b1 : FVec Ideal ⟨1, ![128]⟩ .f32)
  (W2 : FVec Ideal ⟨2, ![128, 256]⟩ .f32) (b2 : FVec Ideal ⟨1, ![128]⟩ .f32)

/-- The hidden rows. -/
def hidAt (r : Fin 32768) (c : Fin 128) : EReal := (∑ k : Fin 128, (X (ix2 r k) : EReal) * W1 (ix2 c k)) + b1 (ix1 c)

/-- Whether a row belongs to a segment. -/
def In (s : Fin 16) (r : Fin 32768) : Prop := I (ix1 r) = BitVec.ofNat 32 s.val

instance (s : Fin 16) (r : Fin 32768) : Decidable (In I s r) := inferInstanceAs (Decidable (_ = _))

/-- How many rows a segment has. -/
def cntAt (s : Fin 16) : ℕ := (Finset.univ.filter fun r : Fin 32768 => In I s r).card

/-- A segment's sums, -/
def sumAt (s : Fin 16) (c : Fin 128) : EReal := ∑ r : Fin 32768, if In I s r then hidAt X W1 b1 r c else 0

/-- its means, where an empty segment's is zero, -/
def meanAt (s : Fin 16) (c : Fin 128) : EReal := Ideal.div (sumAt X I W1 b1 s c) (max (((cntAt I s : ℕ) : ℝ) : EReal) 1)

/-- and its maxima, where an empty segment's is the least value. -/
def maxAt (s : Fin 16) (c : Fin 128) : EReal := Finset.univ.sup fun r : Fin 32768 => if In I s r then hidAt X W1 b1 r c else ⊥

/-- Means and maxima side by side. -/
def poolAt (s : Fin 16) (k : Fin 256) : EReal := if h : k.val < 128 then meanAt X I W1 b1 s ⟨k.val, h⟩ else maxAt X I W1 b1 s ⟨k.val - 128, by omega⟩

/-- The pooled table. -/
def outAt (s : Fin 16) (c : Fin 128) : EReal := (∑ k : Fin 256, poolAt X I W1 b1 s k * (W2 (ix2 c k) : EReal)) + b2 (ix1 c)

/-! ## Sums and maxima, block by block -/

/-- A function of the rows, continued beyond them. -/
def ext (z : EReal) (f : Fin 32768 → EReal) (j : ℕ) : EReal := if h : j < 32768 then f ⟨j, h⟩ else z

theorem sum_all (f : Fin 32768 → EReal) : ∑ j ∈ Finset.range 32768, ext 0 f j = ∑ r, f r := by
  rw [Finset.sum_range]
  exact Finset.sum_congr rfl fun r _ => dif_pos r.isLt

theorem sum_step (f : Fin 32768 → EReal) (n : ℕ) (hn : n < 16) (g : Fin 2048 → EReal)
    (hg : ∀ r (h : 2048 * n + r.val < 32768), g r = f ⟨2048 * n + r.val, h⟩) :
    (∑ j ∈ Finset.range (2048 * n), ext 0 f j) + ∑ r, g r = ∑ j ∈ Finset.range (2048 * (n + 1)), ext 0 f j := by
  rw [Nat.mul_succ, Finset.sum_range_add, Finset.sum_range (n := 2048)]
  congr 1
  refine Finset.sum_congr rfl fun r _ => ?_
  have h : 2048 * n + r.val < 32768 := by have := r.isLt; omega
  rw [hg r h, ext, dif_pos h]

theorem sup_all (f : Fin 32768 → EReal) : (Finset.range 32768).sup (ext ⊥ f) = Finset.univ.sup f := by
  refine le_antisymm (Finset.sup_le fun j hj => ?_) (Finset.sup_le fun r _ => ?_)
  · have h := Finset.mem_range.1 hj
    rw [ext, dif_pos h]
    exact Finset.le_sup (f := f) (Finset.mem_univ _)
  · have := Finset.le_sup (f := ext ⊥ f) (Finset.mem_range.2 r.isLt)
    rwa [ext, dif_pos r.isLt] at this

theorem sup_step (f : Fin 32768 → EReal) (n : ℕ) (hn : n < 16) (g : Fin 2048 → EReal)
    (hg : ∀ r (h : 2048 * n + r.val < 32768), g r = f ⟨2048 * n + r.val, h⟩) :
    max ((Finset.range (2048 * n)).sup (ext ⊥ f)) (Finset.univ.sup g) = (Finset.range (2048 * (n + 1))).sup (ext ⊥ f) := by
  refine le_antisymm (max_le (Finset.sup_mono (Finset.range_mono (by omega))) (Finset.sup_le fun r _ => ?_)) (Finset.sup_le fun j hj => ?_)
  · have hr := r.isLt
    have h : 2048 * n + r.val < 32768 := by omega
    have := Finset.le_sup (f := ext ⊥ f) (Finset.mem_range.2 (show 2048 * n + r.val < 2048 * (n + 1) by omega))
    rw [ext, dif_pos h] at this
    rwa [hg r h]
  · have hj := Finset.mem_range.1 hj
    rcases Nat.lt_or_ge j (2048 * n) with h | h
    · exact le_max_of_le_left (Finset.le_sup (f := ext ⊥ f) (Finset.mem_range.2 h))
    · refine le_max_of_le_right ?_
      have e : 2048 * n + (j - 2048 * n) = j := by omega
      have h' : 2048 * n + (j - 2048 * n) < 32768 := by omega
      refine le_trans (le_of_eq ?_) (Finset.le_sup (f := g) (Finset.mem_univ (⟨j - 2048 * n, by omega⟩ : Fin 2048)))
      rw [hg _ h', ext, dif_pos (by omega)]
      exact congrArg f (Fin.ext e.symm)

end Cert.Proof.PoolSpec
end
-- ==== Proof.PoolRef.lean ====
module
public import proofs.«01_k».proof.Proof.PoolSpec
public import proofs.«01_k».proof.Proof.PoolOps
public import proofs.«01_k».proof.Proof.Gen.PoolReferenceIdeal.Run
@[expose] public section
set_option maxRecDepth 16384
noncomputable section
/-! The pooling reference, entry by entry. -/
namespace Cert.Proof.PoolRef
open Cert.PoolReferenceIdeal Cert.PoolReferenceIdeal.Gen
open Idealize.ShloMosaic Idealize.ShloMosaic.TcCoe Cert.Proof.PoolSpec

variable (X : FVec Ideal S32768x128 .f32) (I : IVec S32768 32) (W1 : FVec Ideal S128x128 .f32) (b1 : FVec Ideal S128 .f32)
  (W2 : FVec Ideal S128x256 .f32) (b2 : FVec Ideal S128 .f32)

/-- The hidden rows as the reference forms them. -/
def hid : FVec Ideal S32768x128 .f32 :=
  addf (Host.dotGeneral dot_S32768x128_S128x128_S32768x128_1_0_0_1_n_n none X (transpose S128x128 [1, 0] W1 transposes_S128x128_S128x128_1_0)) (broadcastInDim S32768x128 ![0, 1] bcast_S1x128_S32768x128_0_1 (broadcastInDim S1x128 ![1] bcast_S128_S1x128_1 b1))

theorem hid_apply (r : Fin 32768) (c : Fin 128) : hid X W1 b1 (ix2 r c) = hidAt X W1 b1 r c := by
  unfold hid hidAt
  pointwise

/-- The sums, -/
def sums (h : FVec Ideal S32768x128 .f32) : FVec Ideal S16x128 .f32 :=
  Host.scatterAdd scatter_S16x128_S32768x1_S32768x128_1_0_0_1 (broadcastInDim S16x128 ![] bcast_S_S16x128 (constant S_ .f32 0x00000000#32)) (broadcastInDim S32768x1 ![0] bcast_S32768_S32768x1_0 I) h

/-- the counts -/
def cnts : FVec Ideal S16x1 .f32 :=
  Host.scatterAdd scatter_S16x1_S32768x1_S32768x1_1_0_0_1 (broadcastInDim S16x1 ![] bcast_S_S16x1 (constant S_ .f32 0x00000000#32)) (broadcastInDim S32768x1 ![0] bcast_S32768_S32768x1_0 I) (broadcastInDim S32768x1 ![] bcast_S_S32768x1 (constant S_ .f32 0x3F800000#32))

/-- and the maxima. -/
def maxs (h : FVec Ideal S32768x128 .f32) : FVec Ideal S16x128 .f32 :=
  Host.reduce FloatOps.maximumf (select (broadcastInDim S16x32768x128 ![0, 1, 2] bcast_S16x32768x1_S16x32768x128_0_1_2 (broadcastInDim S16x32768x1 ![0, 1] bcast_S16x32768_S16x32768x1_0_1 (cmpi .eq (broadcastInDim S16x32768 ![0, 1] bcast_S1x32768_S16x32768_0_1 (broadcastInDim S1x32768 ![1] bcast_S32768_S1x32768_1 I)) (broadcastInDim S16x32768 ![0, 1] bcast_S16x1_S16x32768_0_1 (broadcastInDim S16x1 ![0] bcast_S16_S16x1_0 (iotaInDim S16 32 0)))))) (broadcastInDim S16x32768x128 ![0, 1, 2] bcast_S1x32768x128_S16x32768x128_0_1_2 (broadcastInDim S1x32768x128 ![1, 2] bcast_S32768x128_S1x32768x128_1_2 h)) (broadcastInDim S16x32768x128 ![] bcast_S_S16x32768x128 (id (constant S_ .f32 0xFF800000#32)))) (constant S_ .f32 0xFF800000#32) reducesTo_S16x32768x128_S16x128_d1 h_S_

/-- The result from them. -/
def out (S M : FVec Ideal S16x128 .f32) (C : FVec Ideal S16x1 .f32) : FVec Ideal S16x128 .f32 :=
  addf (Host.dotGeneral dot_S16x256_S256x128_S16x128_1_0_0_1_n_n none (concatenate S16x256 1 [⟨S16x128, Host.divf S (broadcastInDim S16x128 ![0, 1] bcast_S16x1_S16x128_0_1 (maximumf C (broadcastInDim S16x1 ![] bcast_S_S16x1 (constant S_ .f32 0x3F800000#32))))⟩, ⟨S16x128, M⟩] concatenates_S16x128_S16x128_S16x256_d1) (transpose S256x128 [1, 0] W2 transposes_S128x256_S256x128_1_0)) (broadcastInDim S16x128 ![0, 1] bcast_S1x128_S16x128_0_1 (broadcastInDim S1x128 ![1] bcast_S128_S1x128_1 b2))

/-- A word is a segment's exactly when its signed value is the segment's number. -/
theorem toInt_iff (a : BitVec 32) (s : Fin 16) : a.toInt = (s.val : ℤ) ↔ a = BitVec.ofNat 32 s.val := by
  have e : (BitVec.ofNat 32 s.val).toInt = (s.val : ℤ) := by revert s; decide
  rw [← e]
  exact BitVec.toInt_inj

section
variable (idx : IVec S32768x1 32)

/-- A row of the sums' updates lands in the table's row that its index names, -/
theorem lands_sums (r : Fin 32768) (c' : Fin 128) (s : Fin 16) (c : Fin 128) :
    scatter_S16x128_S32768x1_S32768x128_1_0_0_1.resultIdx? (ix2 r c') idx = some (ix2 s c) ↔ idx (ix2 r 0) = BitVec.ofNat 32 s.val ∧ c' = c := by
  have e0 : scatter_S16x128_S32768x1_S32768x128_1_0_0_1.start (ix2 r c') idx 0 = (idx (ix2 r 0)).toInt := by
    refine congrArg (fun i => (idx i).toInt) (funext fun b => ?_)
    match b with
    | ⟨0, _⟩ => rfl
    | ⟨1, _⟩ => rfl
  have e1 : scatter_S16x128_S32768x1_S32768x128_1_0_0_1.start (ix2 r c') idx 1 = 0 := rfl
  have w0 : scatter_S16x128_S32768x1_S32768x128_1_0_0_1.window (ix2 r c') 0 = 0 := rfl
  have w1 : scatter_S16x128_S32768x1_S32768x128_1_0_0_1.window (ix2 r c') 1 = c'.val := rfl
  rw [← toInt_iff]
  unfold ScatterDims.resultIdx?
  constructor
  · intro h
    split at h
    · next hh =>
      have h := Option.some.inj h
      have h0 := congrArg Fin.val (congrFun h 0)
      have h1 := congrArg Fin.val (congrFun h 1)
      have hh0 := hh 0
      simp only [e0, e1, w0, w1] at h0 h1 hh0
      have h0 : ((idx (ix2 r 0)).toInt + ((0 : ℕ) : ℤ)).toNat = s.val := h0
      have h1 : ((0 : ℤ) + (c'.val : ℤ)).toNat = c.val := h1
      exact ⟨by omega, Fin.ext (by omega)⟩
    · exact absurd h (by simp)
  · rintro ⟨h, rfl⟩
    rw [dif_pos]
    · refine congrArg some (funext fun b => Fin.ext ?_)
      match b with
      | ⟨0, _⟩ => show (_ + _ : ℤ).toNat = s.val; erw [e0, w0]; omega
      | ⟨1, _⟩ => exact Eq.trans (b := ((0 : ℤ) + (c'.val : ℤ)).toNat) rfl (by omega : ((0 : ℤ) + (c'.val : ℤ)).toNat = c'.val)
    · intro b
      match b with
      | ⟨0, _⟩ => have := s.isLt; erw [e0, w0]; show _ ∧ _ < ((16 : ℕ) : ℤ); omega
      | ⟨1, _⟩ => have := c'.isLt; erw [e1, w1]; show _ ∧ _ < ((128 : ℕ) : ℤ); omega

/-- and so does a row of the counts'. -/
theorem lands_cnts (r : Fin 32768) (c' : Fin 1) (s : Fin 16) (c : Fin 1) :
    scatter_S16x1_S32768x1_S32768x1_1_0_0_1.resultIdx? (ix2 r c') idx = some (ix2 s c) ↔ idx (ix2 r 0) = BitVec.ofNat 32 s.val ∧ c' = c := by
  have e0 : scatter_S16x1_S32768x1_S32768x1_1_0_0_1.start (ix2 r c') idx 0 = (idx (ix2 r 0)).toInt := by
    refine congrArg (fun i => (idx i).toInt) (funext fun b => ?_)
    match b with
    | ⟨0, _⟩ => rfl
    | ⟨1, _⟩ => rfl
  have e1 : scatter_S16x1_S32768x1_S32768x1_1_0_0_1.start (ix2 r c') idx 1 = 0 := rfl
  have w0 : scatter_S16x1_S32768x1_S32768x1_1_0_0_1.window (ix2 r c') 0 = 0 := rfl
  have w1 : scatter_S16x1_S32768x1_S32768x1_1_0_0_1.window (ix2 r c') 1 = c'.val := rfl
  rw [← toInt_iff]
  unfold ScatterDims.resultIdx?
  constructor
  · intro h
    split at h
    · next hh =>
      have h := Option.some.inj h
      have h0 := congrArg Fin.val (congrFun h 0)
      have h1 := congrArg Fin.val (congrFun h 1)
      have hh0 := hh 0
      simp only [e0, e1, w0, w1] at h0 h1 hh0
      have h0 : ((idx (ix2 r 0)).toInt + ((0 : ℕ) : ℤ)).toNat = s.val := h0
      exact ⟨by omega, Subsingleton.elim _ _⟩
    · exact absurd h (by simp)
  · rintro ⟨h, rfl⟩
    rw [dif_pos]
    · refine congrArg some (funext fun b => Fin.ext ?_)
      match b with
      | ⟨0, _⟩ => show (_ + _ : ℤ).toNat = s.val; erw [e0, w0]; omega
      | ⟨1, _⟩ => exact Eq.trans (b := ((0 : ℤ) + (c'.val : ℤ)).toNat) rfl (by omega : ((0 : ℤ) + (c'.val : ℤ)).toNat = c'.val)
    · intro b
      match b with
      | ⟨0, _⟩ => have := s.isLt; erw [e0, w0]; show _ ∧ _ < ((16 : ℕ) : ℤ); omega
      | ⟨1, _⟩ => have := c'.isLt; erw [e1, w1]; show _ ∧ _ < ((1 : ℕ) : ℤ); omega
end

/-- A sum over the updates that land at an entry is a sum over the rows. -/
theorem sum_rows {n : ℕ} (P : (⟨2, ![32768, n]⟩ : Shape).Idx → Prop) [DecidablePred P] (Q : Fin 32768 → Prop) [DecidablePred Q] (c : Fin n)
    (hP : ∀ r c', P (ix2 r c') ↔ Q r ∧ c' = c) (u : (⟨2, ![32768, n]⟩ : Shape).Idx → EReal) :
    ∑ j ∈ Finset.univ.filter P, u j = ∑ r : Fin 32768, if Q r then u (ix2 r c) else 0 := by
  rw [Finset.sum_filter, ValueIdx.sum_idx2]
  refine Finset.sum_congr rfl fun r _ => ?_
  rw [Finset.sum_eq_single c]
  · exact if_congr ((hP r c).trans (and_iff_left rfl)) rfl rfl
  · exact fun c' _ hc => if_neg fun h => hc ((hP r c').1 h).2
  · exact fun h => absurd (Finset.mem_univ _) h

theorem idx_apply (r : Fin 32768) : (broadcastInDim S32768x1 ![0] bcast_S32768_S32768x1_0 I : IVec S32768x1 32) (ix2 r 0) = I (ix1 r) := by
  pointwise

theorem sums_apply (h : FVec Ideal S32768x128 .f32) (s : Fin 16) (c : Fin 128) :
    sums I h (ix2 s c) = ∑ r : Fin 32768, if In I s r then (h (ix2 r c) : EReal) else 0 := by
  unfold sums
  show (_ : EReal) + _ = _
  have z : (broadcastInDim S16x128 ![] bcast_S_S16x128 (constant S_ .f32 0x00000000#32) : FVec Ideal S16x128 .f32) (ix2 s c) = 0 := by pointwise
  rw [z, zero_add]
  exact sum_rows _ (In I s) c (fun r c' => (lands_sums _ r c' s c).trans (by rw [idx_apply]; exact Iff.rfl)) h

theorem cnts_apply (s : Fin 16) : cnts I (ix2 s 0) = (((cntAt I s : ℕ) : ℝ) : EReal) := by
  unfold cnts
  show (_ : EReal) + _ = _
  have z : (broadcastInDim S16x1 ![] bcast_S_S16x1 (constant S_ .f32 0x00000000#32) : FVec Ideal S16x1 .f32) (ix2 s 0) = 0 := by pointwise
  rw [z, zero_add]
  refine (sum_rows _ (In I s) 0 (fun r c' => (lands_cnts _ r c' s 0).trans (by rw [idx_apply]; exact Iff.rfl)) _).trans ?_
  have o : ∀ r : Fin 32768, (broadcastInDim S32768x1 ![] bcast_S_S32768x1 (constant S_ .f32 0x3F800000#32) : FVec Ideal S32768x1 .f32) (ix2 r 0) = (1 : EReal) := fun r => by pointwise
  simp only [o]
  rw [Finset.sum_boole]
  rfl

theorem maxs_apply (h : FVec Ideal S32768x128 .f32) (s : Fin 16) (c : Fin 128) :
    maxs I h (ix2 s c) = Finset.univ.sup fun r : Fin 32768 => if In I s r then (h (ix2 r c) : EReal) else ⊥ := by
  unfold maxs
  pointwise
  have e : (id (constant S_ .f32 0xFF800000#32) : FVec Ideal S_ .f32) ix0 = (⊥ : EReal) := Cert.Proof.PoolOps.ofBits_least
  simp only [Cert.Proof.PoolOps.pick, Cert.Proof.PoolOps.ofBits_least, e]
  rfl

theorem out_apply (S M : FVec Ideal S16x128 .f32) (C : FVec Ideal S16x1 .f32) (s : Fin 16) (c : Fin 128) :
    out W2 b2 S M C (ix2 s c) = (∑ k : Fin 256, (if h : k.val < 128 then Ideal.div (S (ix2 s ⟨k.val, h⟩)) (max (C (ix2 s 0) : EReal) 1) else M (ix2 s ⟨k.val - 128, by omega⟩)) * (W2 (ix2 c k) : EReal)) + b2 (ix1 c) := by
  unfold out
  pointwise

end Cert.Proof.PoolRef
end
-- ==== Proof.PoolCounts.lean ====
module
public import proofs.«01_k».proof.Proof.PoolSpec
public import proofs.«01_k».proof.Proof.Gen.Pre_counts
public import Idealize.ShloMosaic.Lib.ReduceAll
public import Idealize.ShloMosaic.Lib.ValueIdxCore
public import Idealize.ShloMosaic.Lib.StableHlo.Predicate
@[expose] public section
/-! What the precondition says of the row ends. -/
namespace Cert.Proof.PoolCounts
open Cert.Pre_counts Cert.Pre_counts.Gen Cert.Proof.PoolSpec
open Idealize.ShloMosaic Idealize.ShloMosaic.StableHlo.Predicate
variable {F : FTy → Type} [FloatOps F]

instance : Subsingleton S_.Idx := ⟨fun a b => funext fun i => i.elim0⟩

theorem ofFin_ix1 {n : Nat} (p : Fin n) : (Shape.Idx.ofFin p : (⟨1, ![n]⟩ : Shape).Idx) = ix1 p := by
  funext b; match b with | ⟨0, _⟩ => rfl

/-- The difference of two neighbouring row ends is how many rows the segment has. -/
theorem of_pre (x : FVec F S32768x128 .f32) (idx : IVec S32768 32) (rb : IVec S17 32) (w1 : FVec F S128x128 .f32) (b1 : FVec F S128 .f32) (w2 : FVec F S128x256 .f32) (b2 : FVec F S128 .f32)
    (h : fn x idx rb w1 b1 w2 b2 = fun _ => 1#1) (s : Fin 16) :
    (rb (ix1 (⟨s.val + 1, by omega⟩ : Fin 17)) - rb (ix1 (⟨s.val, by omega⟩ : Fin 17))).toInt = (cntAt idx s : ℤ) := by
  have h0 := congrFun h (fun i => i.elim0)
  unfold fn at h0
  have a := cmpi_eq_iff.1 (Host.reduce_andi_all _ _ _ _ _ h0 (ix1 s))
  have e : rb (ix1 (⟨s.val + 1, by omega⟩ : Fin 17)) - rb (ix1 (⟨s.val, by omega⟩ : Fin 17))
      = subi (extractStridedSlice S16 ![1] rb slices_S17_S16_1) (extractStridedSlice S16 ![0] rb slices_S17_S16_0) (ix1 s) := by
    refine congrArg₂ (fun u v => rb u - rb v) ?_ ?_ <;> funext b <;> match b with
      | ⟨0, _⟩ => exact Fin.ext (by simp [ix1]; try omega)
  have n : (rb (ix1 (⟨s.val + 1, by omega⟩ : Fin 17)) - rb (ix1 (⟨s.val, by omega⟩ : Fin 17))).toNat = cntAt idx s := by
    rw [e]
    refine (congrArg BitVec.toNat a).trans ((toNat_reduce_count_cols (by decide) _ _ _ _ _).trans ?_)
    refine congrArg Finset.card (Finset.filter_congr fun q _ => ?_)
    refine cmpi_eq_iff.trans (Eq.to_iff (congrArg₂ (fun u v : BitVec 32 => u = v) ?_ ?_))
    · refine (bcast_of_row _ _ _ _).trans ((bcast_row1 _ _ _).trans ?_)
      rw [ofFin_ix1]
    · exact (bcast_of_col _ _ _ _).trans ((bcast_col1 _ _ _).trans rfl)
  have l : cntAt idx s ≤ 32768 := (Finset.card_le_univ _).trans (by rw [Fintype.card_fin])
  rw [BitVec.toInt_eq_toNat_of_lt (by rw [n]; omega), n]

end Cert.Proof.PoolCounts
-- ==== Proof.PoolValue.lean ====
module
public import proofs.«01_k».proof.Proof.PoolReads
public import proofs.«01_k».proof.Proof.PoolRef
public import proofs.«01_k».proof.Proof.PoolCounts
public import proofs.«01_k».proof.Defs
@[expose] public section
set_option maxRecDepth 16384
noncomputable section
/-! The pooled table the call leaves, and that the reference's is the same. -/
namespace Cert.Proof.PoolValue
open Cert.PoolIdeal Cert.PoolIdeal.Gen Cert.Proof.PoolIdeal.Text Cert.Proof.PoolIdeal.Run Cert.Proof.PoolIdeal.Loop Cert.Proof.PoolOps Cert.Proof.PoolReads Cert.Proof.PoolSpec
open Idealize.ShloMosaic Idealize.ShloMosaic.TcCoe Idealize.SL Idealize.SL.Sem

variable (m : (ℓ : Loc nD τ sig) → Buf (Elt Ideal) ℓ) (c : Dev nD)

abbrev aX : FVec Ideal S32768x128 .f32 := m ((c.tc : Thread nD τ).loc main_arg0)
abbrev aI : IVec S32768 32 := m ((c.tc : Thread nD τ).loc main_arg1)
abbrev aR : IVec S17 32 := m ((c.tc : Thread nD τ).loc main_arg2)
abbrev aW1 : FVec Ideal S128x128 .f32 := m ((c.tc : Thread nD τ).loc main_arg3)
abbrev aB1 : FVec Ideal S128 .f32 := m ((c.tc : Thread nD τ).loc main_arg4)
abbrev aW2 : FVec Ideal S128x256 .f32 := m ((c.tc : Thread nD τ).loc main_arg5)
abbrev aB2 : FVec Ideal S128 .f32 := m ((c.tc : Thread nD τ).loc main_arg6)

theorem hid_apply (t : Fin cfg0.N) (r : Fin 2048) (k : Fin 128) (h : 2048 * t.val + r.val < 32768) :
    Cert.Proof.PoolIdeal.Loop.hid m c t (ix2 r k) = hidAt (aX m c) (aW1 m c) (aB1 m c) ⟨2048 * t.val + r.val, h⟩ k := by
  unfold Cert.Proof.PoolIdeal.Loop.hid hidAt
  rw [hOf_apply, blkB1_apply]
  refine congrArg (· + _) (Finset.sum_congr rfl fun j _ => ?_)
  rw [blkX_apply m c t r j h, blkW1_apply]

theorem idx_apply (t : Fin cfg0.N) (r : Fin 2048) (h : 2048 * t.val + r.val < 32768) :
    flat (blkI m c t) (ix1 r) = aI m c (ix1 ⟨2048 * t.val + r.val, h⟩) :=
  (flat_apply _ r).trans (blkI_apply m c t r h)

/-- The table of sums after `n` blocks: the sums over their rows. -/
theorem accS_apply (s : Fin 16) (k : Fin 128) : ∀ n : ℕ, n ≤ 16 →
    (accS m c n (ix2 s k) : EReal) = ∑ j ∈ Finset.range (2048 * n), ext 0 (fun r => if In (aI m c) s r then hidAt (aX m c) (aW1 m c) (aB1 m c) r k else 0) j
  | 0, _ => by rw [Nat.mul_zero, Finset.sum_range_zero]; exact zeros_apply s k
  | n + 1, hn => by
    have ht : n < cfg0.N := hn
    have e := congrFun (accS_succ m c ⟨n, ht⟩) (ix2 s k)
    refine e.trans ((sumOf_apply _ _ _ s k).trans ?_)
    rw [← sum_step _ n hn _ fun r h => ?_, ← accS_apply s k n (by omega)]
    show _ = _
    rw [idx_apply m c ⟨n, ht⟩ r h, hid_apply m c ⟨n, ht⟩ r k h]
    rfl

/-- The table of maxima after `n` blocks: the maxima over their rows. -/
theorem accM_apply (s : Fin 16) (k : Fin 128) : ∀ n : ℕ, n ≤ 16 →
    (accM m c n (ix2 s k) : EReal) = (Finset.range (2048 * n)).sup (ext ⊥ (fun r => if In (aI m c) s r then hidAt (aX m c) (aW1 m c) (aB1 m c) r k else ⊥))
  | 0, _ => by rw [Nat.mul_zero, Finset.range_zero, Finset.sup_empty]; exact lows_apply s k
  | n + 1, hn => by
    have ht : n < cfg0.N := hn
    have e := congrFun (accM_succ m c ⟨n, ht⟩) (ix2 s k)
    refine e.trans ((maxAll_apply _ _ _ s k).trans ?_)
    unfold blockMax
    rw [← sup_step _ n hn _ fun r h => ?_, ← accM_apply s k n (by omega)]
    show _ = _
    rw [idx_apply m c ⟨n, ht⟩ r h, hid_apply m c ⟨n, ht⟩ r k h]
    rfl

theorem accS_all (s : Fin 16) (k : Fin 128) : (accS m c 16 (ix2 s k) : EReal) = sumAt (aX m c) (aI m c) (aW1 m c) (aB1 m c) s k :=
  (accS_apply m c s k 16 le_rfl).trans (sum_all _)

theorem accM_all (s : Fin 16) (k : Fin 128) : (accM m c 16 (ix2 s k) : EReal) = maxAt (aX m c) (aI m c) (aW1 m c) (aB1 m c) s k :=
  (accM_apply m c s k 16 le_rfl).trans (sup_all _)

/-- The reciprocal of a segment's count. -/
theorem inv_apply (t : Fin cfg0.N) (s : Fin 16) (hc : (aR m c (ix1 (⟨s.val + 1, by omega⟩ : Fin 17)) - aR m c (ix1 (⟨s.val, by omega⟩ : Fin 17))).toInt = (cntAt (aI m c) s : ℤ)) :
    Cert.Proof.PoolIdeal.Text.invs (F := Ideal) (View.ld (Val := Elt Ideal) (e' := .i32) (blkR m c t) (Rect.unit (s := S1x32) ![0, 1] S1x16.size Facts₀.inb_S1x32_S1x16_0_1))
      (View.ld (Val := Elt Ideal) (e' := .i32) (blkR m c t) (Rect.unit (s := S1x32) ![0, 0] S1x16.size Facts₀.inb_S1x32_S1x16_0_0)) (ix1 s)
      = Ideal.div 1 (max (((cntAt (aI m c) s : ℕ) : ℝ) : EReal) 1) := by
  rw [invs_apply]
  have e1 : View.ld (Val := Elt Ideal) (e' := .i32) (blkR m c t) (Rect.unit (s := S1x32) ![0, 1] S1x16.size Facts₀.inb_S1x32_S1x16_0_1) (ix2 0 s) = aR m c (ix1 (⟨s.val + 1, by omega⟩ : Fin 17)) :=
    (View.ld_unit_apply_of _ _ _ _ _ (ix2 0 (⟨s.val + 1, by omega⟩ : Fin 32)) (fun b => match b with | ⟨0, _⟩ => rfl | ⟨1, _⟩ => Nat.add_comm _ _)).trans (blkR_apply m c t ⟨s.val + 1, by omega⟩)
  have e0 : View.ld (Val := Elt Ideal) (e' := .i32) (blkR m c t) (Rect.unit (s := S1x32) ![0, 0] S1x16.size Facts₀.inb_S1x32_S1x16_0_0) (ix2 0 s) = aR m c (ix1 (⟨s.val, by omega⟩ : Fin 17)) :=
    (View.ld_unit_apply_of _ _ _ _ _ (ix2 0 (⟨s.val, by omega⟩ : Fin 32)) (fun b => match b with | ⟨0, _⟩ => rfl | ⟨1, _⟩ => (Nat.zero_add _).symm)).trans (blkR_apply m c t ⟨s.val, by omega⟩)
  erw [e1, e0, hc]
  norm_cast

/-- The result. -/
theorem res_apply (t : Fin cfg0.N) (s : Fin 16) (k : Fin 128) (hc : ∀ s : Fin 16, (aR m c (ix1 (⟨s.val + 1, by omega⟩ : Fin 17)) - aR m c (ix1 (⟨s.val, by omega⟩ : Fin 17))).toInt = (cntAt (aI m c) s : ℤ)) :
    res m c t (ix2 s k) = outAt (aX m c) (aI m c) (aW1 m c) (aB1 m c) (aW2 m c) (aB2 m c) s k := by
  unfold res resOf outAt
  rw [outOf_apply, blkB2_apply]
  refine congrArg (· + _) (Finset.sum_congr rfl fun j _ => ?_)
  rw [blkW2_apply]
  refine congrArg (· * _) ?_
  unfold poolAt
  by_cases hj : j.val < 128
  · rw [dif_pos hj]
    refine (both_left _ _ _ s ⟨j.val, hj⟩).trans ?_
    rw [Finset.sum_eq_single s]
    · rw [diag_apply, if_pos rfl, inv_apply m c t s (hc s), accS_all, mul_comm]
      refine Ideal.mul_one_div (ne_of_gt (lt_of_lt_of_le zero_lt_one (le_max_right _ _)))
    · intro u _ hu
      rw [diag_apply, if_neg (Ne.symm hu), zero_mul]
    · exact fun h => absurd (Finset.mem_univ _) h
  · rw [dif_neg hj, ← accM_all]
    have e : j = ⟨128 + (⟨j.val - 128, by omega⟩ : Fin 128).val, by show 128 + (j.val - 128) < 256; omega⟩ := Fin.ext (by show j.val = 128 + (j.val - 128); omega)
    exact (congrArg (fun q => both _ _ _ (ix2 s q)) e).trans (both_right _ _ _ s ⟨j.val - 128, by omega⟩)

/-- The last block. -/
def tLast : Fin cfg0.N := ⟨15, by decide⟩

/-- The pooled table as an array. -/
def table (X : FVec Ideal S32768x128 .f32) (I : IVec S32768 32) (W1 : FVec Ideal S128x128 .f32) (b1 : FVec Ideal S128 .f32) (W2 : FVec Ideal S128x256 .f32) (b2 : FVec Ideal S128 .f32) :
    FVec Ideal S16x128 .f32 := fun i => outAt X I W1 b1 W2 b2 (i 0) (i 1)

/-- An array of the table's shape is the table when its entries are. -/
theorem eq_table {X : FVec Ideal S32768x128 .f32} {I : IVec S32768 32} {W1 : FVec Ideal S128x128 .f32} {b1 : FVec Ideal S128 .f32} {W2 : FVec Ideal S128x256 .f32} {b2 : FVec Ideal S128 .f32}
    {v : FVec Ideal S16x128 .f32} (h : ∀ s k, v (ix2 s k) = outAt X I W1 b1 W2 b2 s k) : v = table X I W1 b1 W2 b2 := by
  funext i
  have e : i = ix2 (i 0) (i 1) := by
    funext b
    match b with
    | ⟨0, _⟩ => rfl
    | ⟨1, _⟩ => rfl
  exact (congrArg v e).trans (h (i 0) (i 1))

theorem arr_eq (hc : ∀ s : Fin 16, (aR m c (ix1 (⟨s.val + 1, by omega⟩ : Fin 17)) - aR m c (ix1 (⟨s.val, by omega⟩ : Fin 17))).toInt = (cntAt (aI m c) s : ℤ)) :
    (dats m 0 c).arrAt 7 cfg0.N = table (aX m c) (aI m c) (aW1 m c) (aB1 m c) (aW2 m c) (aB2 m c) := by
  have h : res m c tLast = table (aX m c) (aI m c) (aW1 m c) (aB1 m c) (aW2 m c) (aB2 m c) := eq_table fun s k => res_apply m c tLast s k hc
  refine (dats m 0 c).arrAt_eq_of_after_last 7 tLast (by decide +kernel) _ fun j => ?_
  exact congrFun h j

/-- The reference's result is the table. -/
theorem ref_eq (X : FVec Ideal S32768x128 .f32) (I : IVec S32768 32) (W1 : FVec Ideal S128x128 .f32) (b1 : FVec Ideal S128 .f32) (W2 : FVec Ideal S128x256 .f32) (b2 : FVec Ideal S128 .f32) :
    PoolRef.out W2 b2 (PoolRef.sums I (PoolRef.hid X W1 b1)) (PoolRef.maxs I (PoolRef.hid X W1 b1)) (PoolRef.cnts I) = table X I W1 b1 W2 b2 := by
  refine eq_table fun s k => ?_
  rw [PoolRef.out_apply]
  unfold outAt poolAt meanAt sumAt maxAt
  simp only [PoolRef.sums_apply, PoolRef.maxs_apply, PoolRef.cnts_apply, PoolRef.hid_apply]

theorem algebraic : Cert.algebraic_PoolIdeal_PoolReferenceIdeal_pre_counts (hPoolIdeal := Cert.PoolIdeal.Gen.facts) (hPoolReferenceIdeal := Cert.PoolReferenceIdeal.Gen.facts) (hPre_counts := Cert.Pre_counts.Gen.facts) := by
  intro m g m' g' hpre hagree
  refine ⟨fun c => table (aX m c) (aI m c) (aW1 m c) (aB1 m c) (aW2 m c) (aB2 m c), ?_, ?_⟩
  · refine (θ_run _ _ _).mono (fun r (h : _ ∧ _) c => ⟨((h.1 c).1 7).trans (arr_eq m c fun s => PoolCounts.of_pre _ _ _ _ _ _ _ (hpre c) s), ?_⟩) (run_main m g)
    exact ⟨((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 2).trans (((dats m 0 c).arrAt_in 2 rfl _).trans (V_main_arg3 m c)),
      ((h.1 c).2 main_arg4 (Pipeline.mem_restRefs_of main_arg4 (by decide) (by decide))).trans (V_main_arg4 m c),
      ((h.1 c).1 4).trans (((dats m 0 c).arrAt_in 4 rfl _).trans (V_main_arg5 m c)),
      ((h.1 c).2 main_arg6 (Pipeline.mem_restRefs_of main_arg6 (by decide) (by decide))).trans (V_main_arg6 m c)⟩
  · refine (θ_run _ _ _).mono (fun r h c => ⟨(h c).1.trans ?_, (h c).2⟩) (Cert.PoolReferenceIdeal.Value.run m' g')
    obtain ⟨e0, e1, -, e3, e4, e5, e6⟩ := hagree c
    rw [e0, e1, e3, e4, e5, e6]
    exact ref_eq (aX m c) (aI m c) (aW1 m c) (aB1 m c) (aW2 m c) (aB2 m c)

end Cert.Proof.PoolValue
end
-- ==== Proof.PoolClaims.lean ====
module
public import proofs.«01_k».proof.Defs
public import proofs.«01_k».proof.Proof.PoolLoop
public import proofs.«01_k».proof.Proof.PoolValue
public import Idealize.ShloMosaic.Lib.Quiescent
@[expose] public section
set_option maxRecDepth 16384
noncomputable section
/-! The pooling call runs, leaves its arguments as they were and every counter at zero; its named constant is the table's. -/
namespace Cert.Proof.PoolClaims
open Idealize.ShloMosaic Idealize.SL.Sem

/-- The pooling as printed, over machine words. -/
theorem pool : Cert.quiescent_Pool (hPool := Cert.Pool.Gen.facts) := fun m g _ => Cert.Proof.Pool.Loop.quiet (F := Bits) m g

/-- The pooling over exact numbers. -/
theorem poolIdeal : Cert.quiescent_PoolIdeal (hPoolIdeal := Cert.PoolIdeal.Gen.facts) := fun m g _ => Cert.Proof.PoolIdeal.Loop.quiet (F := Ideal) m g

theorem poolIdeal_counts : Cert.quiescent_PoolIdeal_pre_counts (hPoolIdeal := Cert.PoolIdeal.Gen.facts) (hPre_counts := Cert.Pre_counts.Gen.facts) :=
  fun m g _ => Cert.Proof.PoolIdeal.Loop.quiet (F := Ideal) m g

/-- The reference of the pooling; it has no counter at all. -/
theorem poolReference : Cert.quiescent_PoolReferenceIdeal (hPoolReferenceIdeal := Cert.PoolReferenceIdeal.Gen.facts) := fun m g _ =>
  (θ_run Cert.PoolReferenceIdeal.defs _ _).mono (fun _ h => ⟨fun c => (h c).2, sem_eq_zero_of_no_sems (by decide) _⟩) (Cert.PoolReferenceIdeal.Value.run (F := Ideal) m g)

theorem poolReference_counts : Cert.quiescent_PoolReferenceIdeal_pre_counts (hPoolReferenceIdeal := Cert.PoolReferenceIdeal.Gen.facts) (hPre_counts := Cert.Pre_counts.Gen.facts) := fun m g _ =>
  (θ_run Cert.PoolReferenceIdeal.defs _ _).mono (fun _ h => ⟨fun c => (h c).2, sem_eq_zero_of_no_sems (by decide) _⟩) (Cert.PoolReferenceIdeal.Value.run (F := Ideal) m g)

/-- The least number of the running maximum is read as the bottom one. -/
theorem preserves : Cert.preserves_Pool_PoolIdeal := IdealRules.named_const.statement _ _ _ _ _ rfl
end Cert.Proof.PoolClaims
end
-- ==== Proof.lean ====
/- The proof of this certificate's claims: each is a theorem of a module below, and the side conditions that the programs
   state come from the generated modules. -/
module
public import proofs.«01_k».proof.Defs
public import proofs.«01_k».proof.Proof.Gen.Pre_segments
public import proofs.«01_k».proof.Proof.Frames
public import proofs.«01_k».proof.Proof.Value
public import proofs.«01_k».proof.Proof.PoolClaims
public import proofs.«01_k».proof.Proof.Gen.Pre_counts
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolReferenceIdeal
public import proofs.«01_k».proof.Proof.Gen.PoolReferenceIdeal.Run
@[expose] public section

noncomputable section

namespace Cert.Proof

/-- The certificate: every run of the six programs ends without a fault with its arguments unchanged, and under its precondition each kernel leaves what its reference leaves. -/
theorem claim : Cert.Claim :=
  ⟨Cert.Kernel.Gen.facts, Cert.KernelIdeal.Gen.facts, Cert.ReferenceIdeal.Gen.facts,
    Cert.Pool.Gen.facts, Cert.PoolIdeal.Gen.facts, Cert.PoolReferenceIdeal.Gen.facts, Cert.Pre_segments.Gen.facts, Cert.Pre_counts.Gen.facts,
    Frames.kernel, Frames.kernelIdeal, Value.kernelIdeal_segments, Frames.referenceIdeal, Value.referenceIdeal_segments,
    PoolClaims.pool, PoolClaims.poolIdeal, PoolClaims.poolIdeal_counts, PoolClaims.poolReference, PoolClaims.poolReference_counts,
    trivial, Value.algebraic, PoolClaims.preserves, PoolValue.algebraic⟩

end Cert.Proof

end
